-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4)
      ∧ r.2.mem ((c.tc : Thread Cert.Kernel37.nD Cert.Kernel37.τ).loc Cert.Kernel37.main_arg5) = m ((c.tc : Thread Cert.Kernel37.nD Cert.Kernel37.τ).loc Cert.Kernel37.main_arg5))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
      ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4)
      ∧ r.2.mem ((c.tc : Thread Cert.Reference37Ideal.nD Cert.Reference37Ideal.τ).loc Cert.Reference37Ideal.main_arg5) = m ((c.tc : Thread Cert.Reference37Ideal.nD Cert.Reference37Ideal.τ).loc Cert.Reference37Ideal.main_arg5))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5)
      ∧ r.2.mem ((c.tc : Thread Cert.Kernel38.nD Cert.Kernel38.τ).loc Cert.Kernel38.main_arg6) = m ((c.tc : Thread Cert.Kernel38.nD Cert.Kernel38.τ).loc Cert.Kernel38.main_arg6)
      ∧ r.2.mem ((c.tc : Thread Cert.Kernel38.nD Cert.Kernel38.τ).loc Cert.Kernel38.main_arg7) = m ((c.tc : Thread Cert.Kernel38.nD Cert.Kernel38.τ).loc Cert.Kernel38.main_arg7)
      ∧ r.2.mem ((c.tc : Thread Cert.Kernel38.nD Cert.Kernel38.τ).loc Cert.Kernel38.main_arg8) = m ((c.tc : Thread Cert.Kernel38.nD Cert.Kernel38.τ).loc Cert.Kernel38.main_arg8))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
      ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
      ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
      ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5)
      ∧ r.2.mem ((c.tc : Thread Cert.Reference38Ideal.nD Cert.Reference38Ideal.τ).loc Cert.Reference38Ideal.main_arg6) = m ((c.tc : Thread Cert.Reference38Ideal.nD Cert.Reference38Ideal.τ).loc Cert.Reference38Ideal.main_arg6)
      ∧ r.2.mem ((c.tc : Thread Cert.Reference38Ideal.nD Cert.Reference38Ideal.τ).loc Cert.Reference38Ideal.main_arg7) = m ((c.tc : Thread Cert.Reference38Ideal.nD Cert.Reference38Ideal.τ).loc Cert.Reference38Ideal.main_arg7)
      ∧ r.2.mem ((c.tc : Thread Cert.Reference38Ideal.nD Cert.Reference38Ideal.τ).loc Cert.Reference38Ideal.main_arg8) = m ((c.tc : Thread Cert.Reference38Ideal.nD Cert.Reference38Ideal.τ).loc Cert.Reference38Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v11) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v10) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v9) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v10) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v35) = v0 c
          ∧ r.2.mem ((c.tc : Thread Cert.Reference21Ideal.nD Cert.Reference21Ideal.τ).loc Cert.Reference21Ideal.main_v18) = v1 c
          ∧ r.2.mem ((c.tc : Thread Cert.Reference21Ideal.nD Cert.Reference21Ideal.τ).loc Cert.Reference21Ideal.main_v71) = v2 c
          ∧ r.2.mem ((c.tc : Thread Cert.Reference21Ideal.nD Cert.Reference21Ideal.τ).loc Cert.Reference21Ideal.main_v54) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v22) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v16) = v0 c
          ∧ r.2.mem ((c.tc : Thread Cert.Reference23Ideal.nD Cert.Reference23Ideal.τ).loc Cert.Reference23Ideal.main_v15) = v1 c
          ∧ r.2.mem ((c.tc : Thread Cert.Reference23Ideal.nD Cert.Reference23Ideal.τ).loc Cert.Reference23Ideal.main_v29) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v15) = v0 c
          ∧ r.2.mem ((c.tc : Thread Cert.Reference24Ideal.nD Cert.Reference24Ideal.τ).loc Cert.Reference24Ideal.main_v14) = v1 c
          ∧ r.2.mem ((c.tc : Thread Cert.Reference24Ideal.nD Cert.Reference24Ideal.τ).loc Cert.Reference24Ideal.main_v28) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v35) = v0 c
          ∧ r.2.mem ((c.tc : Thread Cert.Reference26Ideal.nD Cert.Reference26Ideal.τ).loc Cert.Reference26Ideal.main_v18) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v35) = v0 c
          ∧ r.2.mem ((c.tc : Thread Cert.Reference27Ideal.nD Cert.Reference27Ideal.τ).loc Cert.Reference27Ideal.main_v18) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v71) = v0 c
          ∧ r.2.mem ((c.tc : Thread Cert.Reference28Ideal.nD Cert.Reference28Ideal.τ).loc Cert.Reference28Ideal.main_v18) = v1 c
          ∧ r.2.mem ((c.tc : Thread Cert.Reference28Ideal.nD Cert.Reference28Ideal.τ).loc Cert.Reference28Ideal.main_v53) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v13) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v12) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v12) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v13) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v3) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v28) = v0 c
          ∧ r.2.mem ((c.tc : Thread Cert.Reference33Ideal.nD Cert.Reference33Ideal.τ).loc Cert.Reference33Ideal.main_v22) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_arg3) = v0 c
          ∧ r.2.mem ((c.tc : Thread Cert.Reference34Ideal.nD Cert.Reference34Ideal.τ).loc Cert.Reference34Ideal.main_v23) = v1 c
          ∧ r.2.mem ((c.tc : Thread Cert.Reference34Ideal.nD Cert.Reference34Ideal.τ).loc Cert.Reference34Ideal.main_v4) = v2 c
          ∧ r.2.mem ((c.tc : Thread Cert.Reference34Ideal.nD Cert.Reference34Ideal.τ).loc Cert.Reference34Ideal.main_v10) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v6) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)
      ∧ m' ((c.tc : Thread Cert.Reference37Ideal.nD Cert.Reference37Ideal.τ).loc Cert.Reference37Ideal.main_arg5) = m ((c.tc : Thread Cert.Kernel37Ideal.nD Cert.Kernel37Ideal.τ).loc Cert.Kernel37Ideal.main_arg5)) →
    ∃ (v0 : (c : Dev Cert.Kernel37Ideal.nD) → Buf (Elt Ideal) ((c.tc : Thread Cert.Kernel37Ideal.nD Cert.Kernel37Ideal.τ).loc Cert.Kernel37Ideal.main_v1_0)) (v1 : (c : Dev Cert.Kernel37Ideal.nD) → Buf (Elt Ideal) ((c.tc : Thread Cert.Kernel37Ideal.nD Cert.Kernel37Ideal.τ).loc Cert.Kernel37Ideal.main_v1_1)) (v2 : (c : Dev Cert.Kernel37Ideal.nD) → Buf (Elt Ideal) ((c.tc : Thread Cert.Kernel37Ideal.nD Cert.Kernel37Ideal.τ).loc Cert.Kernel37Ideal.main_v1_2)) (v3 : (c : Dev Cert.Kernel37Ideal.nD) → Buf (Elt Ideal) ((c.tc : Thread Cert.Kernel37Ideal.nD Cert.Kernel37Ideal.τ).loc Cert.Kernel37Ideal.main_v1_3)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1_0) = v0 c
          ∧ r.2.mem ((c.tc : Thread Cert.Kernel37Ideal.nD Cert.Kernel37Ideal.τ).loc Cert.Kernel37Ideal.main_v1_1) = v1 c
          ∧ r.2.mem ((c.tc : Thread Cert.Kernel37Ideal.nD Cert.Kernel37Ideal.τ).loc Cert.Kernel37Ideal.main_v1_2) = v2 c
          ∧ r.2.mem ((c.tc : Thread Cert.Kernel37Ideal.nD Cert.Kernel37Ideal.τ).loc Cert.Kernel37Ideal.main_v1_3) = v3 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4)
          ∧ r.2.mem ((c.tc : Thread Cert.Kernel37Ideal.nD Cert.Kernel37Ideal.τ).loc Cert.Kernel37Ideal.main_arg5) = m ((c.tc : Thread Cert.Kernel37Ideal.nD Cert.Kernel37Ideal.τ).loc Cert.Kernel37Ideal.main_arg5))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v7) = v0 c
          ∧ r.2.mem ((c.tc : Thread Cert.Reference37Ideal.nD Cert.Reference37Ideal.τ).loc Cert.Reference37Ideal.main_v31) = v1 c
          ∧ r.2.mem ((c.tc : Thread Cert.Reference37Ideal.nD Cert.Reference37Ideal.τ).loc Cert.Reference37Ideal.main_v12) = v2 c
          ∧ r.2.mem ((c.tc : Thread Cert.Reference37Ideal.nD Cert.Reference37Ideal.τ).loc Cert.Reference37Ideal.main_v18) = v3 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4)
          ∧ r.2.mem ((c.tc : Thread Cert.Reference37Ideal.nD Cert.Reference37Ideal.τ).loc Cert.Reference37Ideal.main_arg5) = m' ((c.tc : Thread Cert.Reference37Ideal.nD Cert.Reference37Ideal.τ).loc Cert.Reference37Ideal.main_arg5))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)
      ∧ m' ((c.tc : Thread Cert.Reference38Ideal.nD Cert.Reference38Ideal.τ).loc Cert.Reference38Ideal.main_arg6) = m ((c.tc : Thread Cert.Kernel38Ideal.nD Cert.Kernel38Ideal.τ).loc Cert.Kernel38Ideal.main_arg6)
      ∧ m' ((c.tc : Thread Cert.Reference38Ideal.nD Cert.Reference38Ideal.τ).loc Cert.Reference38Ideal.main_arg7) = m ((c.tc : Thread Cert.Kernel38Ideal.nD Cert.Kernel38Ideal.τ).loc Cert.Kernel38Ideal.main_arg7)
      ∧ m' ((c.tc : Thread Cert.Reference38Ideal.nD Cert.Reference38Ideal.τ).loc Cert.Reference38Ideal.main_arg8) = m ((c.tc : Thread Cert.Kernel38Ideal.nD Cert.Kernel38Ideal.τ).loc Cert.Kernel38Ideal.main_arg8)) →
    ∃ (v0 : (c : Dev Cert.Kernel38Ideal.nD) → Buf (Elt Ideal) ((c.tc : Thread Cert.Kernel38Ideal.nD Cert.Kernel38Ideal.τ).loc Cert.Kernel38Ideal.main_v1_0)) (v1 : (c : Dev Cert.Kernel38Ideal.nD) → Buf (Elt Ideal) ((c.tc : Thread Cert.Kernel38Ideal.nD Cert.Kernel38Ideal.τ).loc Cert.Kernel38Ideal.main_v1_1)) (v2 : (c : Dev Cert.Kernel38Ideal.nD) → Buf (Elt Ideal) ((c.tc : Thread Cert.Kernel38Ideal.nD Cert.Kernel38Ideal.τ).loc Cert.Kernel38Ideal.main_v1_2)) (v3 : (c : Dev Cert.Kernel38Ideal.nD) → Buf (Elt Ideal) ((c.tc : Thread Cert.Kernel38Ideal.nD Cert.Kernel38Ideal.τ).loc Cert.Kernel38Ideal.main_v1_3)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1_0) = v0 c
          ∧ r.2.mem ((c.tc : Thread Cert.Kernel38Ideal.nD Cert.Kernel38Ideal.τ).loc Cert.Kernel38Ideal.main_v1_1) = v1 c
          ∧ r.2.mem ((c.tc : Thread Cert.Kernel38Ideal.nD Cert.Kernel38Ideal.τ).loc Cert.Kernel38Ideal.main_v1_2) = v2 c
          ∧ r.2.mem ((c.tc : Thread Cert.Kernel38Ideal.nD Cert.Kernel38Ideal.τ).loc Cert.Kernel38Ideal.main_v1_3) = v3 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5)
          ∧ r.2.mem ((c.tc : Thread Cert.Kernel38Ideal.nD Cert.Kernel38Ideal.τ).loc Cert.Kernel38Ideal.main_arg6) = m ((c.tc : Thread Cert.Kernel38Ideal.nD Cert.Kernel38Ideal.τ).loc Cert.Kernel38Ideal.main_arg6)
          ∧ r.2.mem ((c.tc : Thread Cert.Kernel38Ideal.nD Cert.Kernel38Ideal.τ).loc Cert.Kernel38Ideal.main_arg7) = m ((c.tc : Thread Cert.Kernel38Ideal.nD Cert.Kernel38Ideal.τ).loc Cert.Kernel38Ideal.main_arg7)
          ∧ r.2.mem ((c.tc : Thread Cert.Kernel38Ideal.nD Cert.Kernel38Ideal.τ).loc Cert.Kernel38Ideal.main_arg8) = m ((c.tc : Thread Cert.Kernel38Ideal.nD Cert.Kernel38Ideal.τ).loc Cert.Kernel38Ideal.main_arg8))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v16) = v0 c
          ∧ r.2.mem ((c.tc : Thread Cert.Reference38Ideal.nD Cert.Reference38Ideal.τ).loc Cert.Reference38Ideal.main_v40) = v1 c
          ∧ r.2.mem ((c.tc : Thread Cert.Reference38Ideal.nD Cert.Reference38Ideal.τ).loc Cert.Reference38Ideal.main_v21) = v2 c
          ∧ r.2.mem ((c.tc : Thread Cert.Reference38Ideal.nD Cert.Reference38Ideal.τ).loc Cert.Reference38Ideal.main_v27) = v3 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5)
          ∧ r.2.mem ((c.tc : Thread Cert.Reference38Ideal.nD Cert.Reference38Ideal.τ).loc Cert.Reference38Ideal.main_arg6) = m' ((c.tc : Thread Cert.Reference38Ideal.nD Cert.Reference38Ideal.τ).loc Cert.Reference38Ideal.main_arg6)
          ∧ r.2.mem ((c.tc : Thread Cert.Reference38Ideal.nD Cert.Reference38Ideal.τ).loc Cert.Reference38Ideal.main_arg7) = m' ((c.tc : Thread Cert.Reference38Ideal.nD Cert.Reference38Ideal.τ).loc Cert.Reference38Ideal.main_arg7)
          ∧ r.2.mem ((c.tc : Thread Cert.Reference38Ideal.nD Cert.Reference38Ideal.τ).loc Cert.Reference38Ideal.main_arg8) = m' ((c.tc : Thread Cert.Reference38Ideal.nD Cert.Reference38Ideal.τ).loc Cert.Reference38Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite12.lean ====
abbrev S8192x1024 : Shape := ⟨2, ![8192, 1024]⟩
abbrev S2816x1024 : Shape := ⟨2, ![2816, 1024]⟩
abbrev S2x8192x2816 : Shape := ⟨3, ![2, 8192, 2816]⟩
abbrev S_ : Shape := ⟨0, ![]⟩
abbrev S1x8192x2816 : Shape := ⟨3, ![1, 8192, 2816]⟩
abbrev S8192x2816 : Shape := ⟨2, ![8192, 2816]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x8192x2816_S1x8192x2816_1_0_0 : S2x8192x2816.Slices ![1, 0, 0] S1x8192x2816
  shapeCasts_S1x8192x2816_S8192x2816 : S1x8192x2816.ShapeCasts S8192x2816
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_v10 : IVec S_ 1) (main_v17 : IVec S_ 1) : IVec S_ 1 :=
  let main_v18 : IVec S_ 1 := andi main_v10 main_v17
  main_v18

def fn {F : FTy → Type} [FloatOps F] (main_arg0 : FVec F S8192x1024 .bf16) (main_arg1 : FVec F S2816x1024 .bf16) (main_arg2 : FVec F S2x8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S1x8192x2816 .bf16 := (extractStridedSlice S1x8192x2816 ![1, 0, 0] · slices_S2x8192x2816_S1x8192x2816_1_0_0) main_arg2
  let main_v12 : FVec F S8192x2816 .bf16 := shapeCast S8192x2816 main_v11 shapeCasts_S1x8192x2816_S8192x2816
  let main_v13 : FVec F S8192x2816 .f32 := (extf .f32 · bitsLt_bf16_f32) main_v12
  let main_v14 : FVec F S8192x2816 .f32 := Host.absf main_v13
  let main_cst_2 : FVec F S_ .f32 := constant S_ .f32 0x7F800000#32
  let main_v15 : FVec F S8192x2816 .f32 := broadcastInDim S8192x2816 ![] bcast_S_S8192x2816 main_cst_2
  let main_v16 : IVec S8192x2816 1 := cmpf .olt main_v14 main_v15
  let main_c_3 : IVec S_ 1 := constantI S_ 1 1#1
  let main_v17 : IVec S_ 1 := (fun x v => Host.reduce IntOp.andi x v reducesTo_S8192x2816_S_d0_1 h_S_) main_v16 main_c_3
  fn_part1 (F := F) main_v10 main_v17
-- ==== Kernel.lean ====
abbrev S8192x3072 : Shape := ⟨2, ![8192, 3072]⟩
abbrev S8192x1024 : Shape := ⟨2, ![8192, 1024]⟩
abbrev S3x1024 : Shape := ⟨2, ![3, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S1x1024 : Shape := ⟨2, ![1, 1024]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .bf16⟩
  | .hbm, ⟨4, _⟩ => ⟨S3x1024, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S3x1024, .f32⟩
  | .local _ .vmem, ⟨11, _⟩ => ⟨S256x3072, .bf16⟩
  | .local _ .vmem, ⟨12, _⟩ => ⟨S256x3072, .bf16⟩
  | .local _ .vmem, ⟨13, _⟩ => ⟨S3x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x3072 : Shape := ⟨2, ![8192, 3072]⟩
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3x1024, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S2x1024, .f32⟩
  | .hbm, ⟨10, _⟩ => ⟨S8194x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S_, .f32⟩
  | .hbm, ⟨38, _⟩ => ⟨S8194x1024, .f32⟩
  | .hbm, ⟨39, _⟩ => ⟨S_, .f32⟩
  | .hbm, ⟨40, _⟩ => ⟨S3x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S8194x1024, .f32⟩
  | .hbm, ⟨49, _⟩ => ⟨S8194x1024, .f32⟩
  | .hbm, ⟨50, _⟩ => ⟨S_, .f32⟩
  | .hbm, ⟨51, _⟩ => ⟨S3x1024, .f32⟩
  | .hbm, ⟨52, _⟩ => ⟨S3x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S8194x1024, .f32⟩
  | .hbm, ⟨61, _⟩ => ⟨S8194x1024, .f32⟩
  | .hbm, ⟨62, _⟩ => ⟨S_, .f32⟩
  | .hbm, ⟨63, _⟩ => ⟨S3x1024, .f32⟩
  | .hbm, ⟨64, _⟩ => ⟨S3x1024, .f32⟩
  | .hbm, ⟨65, _⟩ => ⟨S2x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x3072, .f32⟩
  | .hbm, ⟨70, _⟩ => ⟨S8192x3072, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel2.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x8192x2816 : Shape := ⟨3, ![2, 8192, 2816]⟩
abbrev S1024x5632 : Shape := ⟨2, ![1024, 5632]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S_, .f32⟩
  | .hbm, ⟨8, _⟩ => ⟨S8192x1024, .f32⟩
  | .hbm, ⟨9, _⟩ => ⟨S1024x5632, .f32⟩
  | .hbm, ⟨10, _⟩ => ⟨S8192x5632, .f32⟩
  | .hbm, ⟨11, _⟩ => ⟨S8192x5632, .f32⟩
  | .hbm, ⟨12, _⟩ => ⟨S8192x1024, .f32⟩
  | .hbm, ⟨13, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S8192x1024 : Shape := ⟨2, ![8192, 1024]⟩
abbrev S2x8192x2816 : Shape := ⟨3, ![2, 8192, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S_, .f32⟩
  | .hbm, ⟨8, _⟩ => ⟨S1024x5632, .f32⟩
  | .hbm, ⟨9, _⟩ => ⟨S8192x1024, .f32⟩
  | .hbm, ⟨10, _⟩ => ⟨S8192x5632, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .bf16⟩
  | .local _ .vmem, ⟨4, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | .hbm, ⟨5, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x3072 : Shape := ⟨2, ![8192, 3072]⟩
abbrev S1024x3072 : Shape := ⟨2, ![1024, 3072]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S8192x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x3072 : Shape := ⟨2, ![8192, 3072]⟩
abbrev S1024x3072 : Shape := ⟨2, ![1024, 3072]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .bf16⟩
  | .hbm, ⟨2, _⟩ => ⟨S_, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x1024, .f32⟩
  | .hbm, ⟨8, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1024x5632 : Shape := ⟨2, ![1024, 5632]⟩
abbrev S2x8192x2816 : Shape := ⟨3, ![2, 8192, 2816]⟩
abbrev S8192x2816 : Shape := ⟨2, ![8192, 2816]⟩
abbrev S1024x1024 : Shape := ⟨2, ![1024, 1024]⟩
abbrev S1024x1408 : Shape := ⟨2, ![1024, 1408]⟩
abbrev S2x1024x1408 : Shape := ⟨3, ![2, 1024, 1408]⟩
abbrev S256x1024 : Shape := ⟨2, ![256, 1024]⟩
abbrev S256x1408 : Shape := ⟨2, ![256, 1408]⟩
abbrev S1x256x1408 : Shape := ⟨3, ![1, 256, 1408]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .bf16⟩
  | .hbm, ⟨3, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel12.lean ====
abbrev S8192x1024 : Shape := ⟨2, ![8192, 1024]⟩
abbrev S2816x1024 : Shape := ⟨2, ![2816, 1024]⟩
abbrev S2x8192x2816 : Shape := ⟨3, ![2, 8192, 2816]⟩
abbrev S1024x1024 : Shape := ⟨2, ![1024, 1024]⟩
abbrev S1408x1024 : Shape := ⟨2, ![1408, 1024]⟩
abbrev S2x1024x1408 : Shape := ⟨3, ![2, 1024, 1408]⟩
abbrev S256x1024 : Shape := ⟨2, ![256, 1024]⟩
abbrev S256x1408 : Shape := ⟨2, ![256, 1408]⟩
abbrev S1x256x1408 : Shape := ⟨3, ![1, 256, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x1024x1408, .bf16⟩
  | .local _ .vmem, ⟨5, _⟩ => ⟨S2x1024x1408, .bf16⟩
  | .local _ .vmem, ⟨6, _⟩ => ⟨S2x1024x1408, .bf16⟩
  | .local _ .vmem, ⟨7, _⟩ => ⟨S2x1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8192x1024 : Shape := ⟨2, ![8192, 1024]⟩
abbrev S2816x1024 : Shape := ⟨2, ![2816, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2x8192x2816, .bf16⟩
  | .hbm, ⟨3, _⟩ => ⟨S2x8192x2816, .f32⟩
  | .hbm, ⟨4, _⟩ => ⟨S1x8192x2816, .f32⟩
  | .hbm, ⟨5, _⟩ => ⟨S8192x2816, .f32⟩
  | .hbm, ⟨6, _⟩ => ⟨S1x8192x2816, .f32⟩
  | .hbm, ⟨7, _⟩ => ⟨S8192x2816, .f32⟩
  | .hbm, ⟨8, _⟩ => ⟨S2816x1024, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S1x8192x2816, .f32⟩
  | .hbm, ⟨33, _⟩ => ⟨S1x8192x2816, .f32⟩
  | .hbm, ⟨34, _⟩ => ⟨S2x8192x2816, .f32⟩
  | .hbm, ⟨35, _⟩ => ⟨S2x8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2x8192x1024 : Shape := ⟨3, ![2, 8192, 1024]⟩
abbrev S1024x2048 : Shape := ⟨2, ![1024, 2048]⟩
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .bf16⟩
  | .hbm, ⟨2, _⟩ => ⟨S8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2x8192x1024 : Shape := ⟨3, ![2, 8192, 1024]⟩
abbrev S1024x2048 : Shape := ⟨2, ![1024, 2048]⟩
abbrev S1x8192x1024 : Shape := ⟨3, ![1, 8192, 1024]⟩
abbrev S8192x1024 : Shape := ⟨2, ![8192, 1024]⟩
abbrev S8192x2048 : Shape := ⟨2, ![8192, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x2048, .bf16⟩
  | .hbm, ⟨2, _⟩ => ⟨S1x8192x1024, .f32⟩
  | .hbm, ⟨3, _⟩ => ⟨S8192x1024, .f32⟩
  | .hbm, ⟨4, _⟩ => ⟨S1x8192x1024, .f32⟩
  | .hbm, ⟨5, _⟩ => ⟨S8192x1024, .f32⟩
  | .hbm, ⟨6, _⟩ => ⟨S8192x2048, .f32⟩
  | .hbm, ⟨7, _⟩ => ⟨S_, .f32⟩
  | .hbm, ⟨8, _⟩ => ⟨S8192x1024, .f32⟩
  | .hbm, ⟨9, _⟩ => ⟨S1024x2048, .f32⟩
  | .hbm, ⟨10, _⟩ => ⟨S8192x2048, .f32⟩
  | .hbm, ⟨11, _⟩ => ⟨S8192x1024, .f32⟩
  | .hbm, ⟨12, _⟩ => ⟨S8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel20.lean ====
abbrev S8192x1024 : Shape := ⟨2, ![8192, 1024]⟩
abbrev S2x8192x1024 : Shape := ⟨3, ![2, 8192, 1024]⟩
abbrev S1024x2048 : Shape := ⟨2, ![1024, 2048]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .f32⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S2x8192x1024 : Shape := ⟨3, ![2, 8192, 1024]⟩
abbrev S1x8192x1024 : Shape := ⟨3, ![1, 8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x1024, .f32⟩
  | .hbm, ⟨2, _⟩ => ⟨S1x8192x1024, .f32⟩
  | .hbm, ⟨3, _⟩ => ⟨S8192x1024, .f32⟩
  | .hbm, ⟨4, _⟩ => ⟨S1x8192x1024, .f32⟩
  | .hbm, ⟨5, _⟩ => ⟨S8192x1024, .f32⟩
  | .hbm, ⟨6, _⟩ => ⟨S8192x2048, .f32⟩
  | .hbm, ⟨7, _⟩ => ⟨S_, .f32⟩
  | .hbm, ⟨8, _⟩ => ⟨S1024x2048, .f32⟩
  | .hbm, ⟨9, _⟩ => ⟨S8192x1024, .f32⟩
  | .hbm, ⟨10, _⟩ => ⟨S8192x2048, .f32⟩
  | .hbm, ⟨11, _⟩ => ⟨S2048x1024, .f32⟩
  | .hbm, ⟨12, _⟩ => ⟨S1024x2048, .f32⟩
  | .hbm, ⟨13, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S8192x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference21Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel22.lean ====
abbrev S8192x3072 : Shape := ⟨2, ![8192, 3072]⟩
abbrev S3x1024 : Shape := ⟨2, ![3, 1024]⟩
abbrev S8192x1024 : Shape := ⟨2, ![8192, 1024]⟩
abbrev S256x3072 : Shape := ⟨2, ![256, 3072]⟩
abbrev S16x3072 : Shape := ⟨2, ![16, 3072]⟩
abbrev S256x1024 : Shape := ⟨2, ![256, 1024]⟩
abbrev S16x1024 : Shape := ⟨2, ![16, 1024]⟩
abbrev S1x1024 : Shape := ⟨2, ![1, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x1024, .bf16⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S3x1024, .f32⟩
  | .local _ .vmem, ⟨5, _⟩ => ⟨S256x1024, .bf16⟩
  | .local _ .vmem, ⟨6, _⟩ => ⟨S256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S8192x3072 : Shape := ⟨2, ![8192, 3072]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference23Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel24.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v12 : BitVec 1 := Scalar.cmpi .eq arg1 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference24Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel25.lean ====
abbrev S8192x1024 : Shape := ⟨2, ![8192, 1024]⟩
abbrev S8192x2048 : Shape := ⟨2, ![8192, 2048]⟩
abbrev S8x8x128 : Shape := ⟨3, ![8, 8, 128]⟩
abbrev S2x8192x1024 : Shape := ⟨3, ![2, 8192, 1024]⟩
abbrev S1x8x128 : Shape := ⟨3, ![1, 8, 128]⟩
abbrev S2048x128 : Shape := ⟨2, ![2048, 128]⟩
abbrev S2x2048x128 : Shape := ⟨3, ![2, 2048, 128]⟩
abbrev S4096x128 : Shape := ⟨2, ![4096, 128]⟩
abbrev S12x128x256 : Shape := ⟨3, ![12, 128, 256]⟩
abbrev S128x128 : Shape := ⟨2, ![128, 128]⟩
abbrev S128x256 : Shape := ⟨2, ![128, 256]⟩
abbrev S1x1x1 : Shape := ⟨3, ![1, 1, 1]⟩
abbrev S1x1 : Shape := ⟨2, ![1, 1]⟩
abbrev S1x128x256 : Shape := ⟨3, ![1, 128, 256]⟩
abbrev S256x128 : Shape := ⟨2, ![256, 128]⟩
abbrev S8x128 : Shape := ⟨2, ![8, 128]⟩
abbrev S128 : Shape := ⟨1, ![128]⟩
abbrev S128x1 : Shape := ⟨2, ![128, 1]⟩
abbrev S512x128 : Shape := ⟨2, ![512, 128]⟩
abbrev S128x512 : Shape := ⟨2, ![128, 512]⟩
abbrev S32x128 : Shape := ⟨2, ![32, 128]⟩
abbrev S1x128x128 : Shape := ⟨3, ![1, 128, 128]⟩

abbrev nBuf : Space → Nat
  | .hbm => 8
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8x8x128, .f32⟩
  | .hbm, ⟨6, _⟩ => ⟨S8192x1024, .bf16⟩
  | .hbm, ⟨7, _⟩ => ⟨S2x8192x1024, .f32⟩
  | .local _ .vmem, ⟨0, _⟩ => ⟨S1x8x128, .f32⟩
  | .local _ .vmem, ⟨1, _⟩ => ⟨S1x8x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .bf16⟩
  | .local _ .vmem, ⟨19, _⟩ => ⟨S2048x128, .bf16⟩
  | .local _ .vmem, ⟨20, _⟩ => ⟨S2x2048x128, .f32⟩
  | .local _ .vmem, ⟨21, _⟩ => ⟨S2x2048x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S2048x128, .f32⟩
  | .local _ .vmem, ⟨27, _⟩ => ⟨S12x128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_229 : BitVec 32 := 0#32
  let c4_i32 : BitVec 32 := 4#32
  let v272 : BitVec 32 := Scalar.addi c0_i32_229 c4_i32
  let c1_i32 : BitVec 32 := 1#32
  ⟨c0_i32_229, v272, c1_i32⟩
def k0_mult1 (k0_t1 : Fin k0_t1_loop.trips) : BitVec 32 :=
  let c0_i32_409 : BitVec 32 := 0#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32 : BitVec 32 := 8#32
  let v414 : BitVec 32 := Scalar.muli v407 c8_i32
  let v415 : BitVec 32 := Scalar.addi c0_i32_409 v414
  v415
def k0_mult2 (k0_t1 : Fin k0_t1_loop.trips) : BitVec 32 :=
  let c128_i32 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_410 : BitVec 32 := 8#32
  let v417 : BitVec 32 := Scalar.muli v407 c8_i32_410
  let v418 : BitVec 32 := Scalar.addi c128_i32 v417
  v418
def k0_mult3 (k0_t1 : Fin k0_t1_loop.trips) : BitVec 32 :=
  let c256_i32 : BitVec 32 := 256#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_411 : BitVec 32 := 8#32
  let v420 : BitVec 32 := Scalar.muli v407 c8_i32_411
  let v421 : BitVec 32 := Scalar.addi c256_i32 v420
  v421
def k0_mult4 (k0_t1 : Fin k0_t1_loop.trips) : BitVec 32 :=
  let c384_i32 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_412 : BitVec 32 := 8#32
  let v423 : BitVec 32 := Scalar.muli v407 c8_i32_412
  let v424 : BitVec 32 := Scalar.addi c384_i32 v423
  v424
def k0_mult5 (k0_t1 : Fin k0_t1_loop.trips) : BitVec 32 :=
  let c512_i32 : BitVec 32 := 512#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_413 : BitVec 32 := 8#32
  let v426 : BitVec 32 := Scalar.muli v407 c8_i32_413
  let v427 : BitVec 32 := Scalar.addi c512_i32 v426
  v427
def k0_mult6 (k0_t1 : Fin k0_t1_loop.trips) : BitVec 32 :=
  let c640_i32 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_414 : BitVec 32 := 8#32
  let v429 : BitVec 32 := Scalar.muli v407 c8_i32_414
  let v430 : BitVec 32 := Scalar.addi c640_i32 v429
  v430
def k0_mult7 (k0_t1 : Fin k0_t1_loop.trips) : BitVec 32 :=
  let c768_i32 : BitVec 32 := 768#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_415 : BitVec 32 := 8#32
  let v432 : BitVec 32 := Scalar.muli v407 c8_i32_415
  let v433 : BitVec 32 := Scalar.addi c768_i32 v432
  v433
def k0_mult8 (k0_t1 : Fin k0_t1_loop.trips) : BitVec 32 :=
  let c896_i32 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_416 : BitVec 32 := 8#32
  let v435 : BitVec 32 := Scalar.muli v407 c8_i32_416
  let v436 : BitVec 32 := Scalar.addi c896_i32 v435
  v436
def k0_mult9 (k0_t1 : Fin k0_t1_loop.trips) : BitVec 32 :=
  let c1024_i32 : BitVec 32 := 1024#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_417 : BitVec 32 := 8#32
  let v438 : BitVec 32 := Scalar.muli v407 c8_i32_417
  let v439 : BitVec 32 := Scalar.addi c1024_i32 v438
  v439
def k0_mult10 (k0_t1 : Fin k0_t1_loop.trips) : BitVec 32 :=
  let c1152_i32 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_418 : BitVec 32 := 8#32
  let v441 : BitVec 32 := Scalar.muli v407 c8_i32_418
  let v442 : BitVec 32 := Scalar.addi c1152_i32 v441
  v442
def k0_mult11 (k0_t1 : Fin k0_t1_loop.trips) : BitVec 32 :=
  let c1280_i32 : BitVec 32 := 1280#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_419 : BitVec 32 := 8#32
  let v444 : BitVec 32 := Scalar.muli v407 c8_i32_419
  let v445 : BitVec 32 := Scalar.addi c1280_i32 v444
  v445
def k0_mult12 (k0_t1 : Fin k0_t1_loop.trips) : BitVec 32 :=
  let c1408_i32 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_420 : BitVec 32 := 8#32
  let v447 : BitVec 32 := Scalar.muli v407 c8_i32_420
  let v448 : BitVec 32 := Scalar.addi c1408_i32 v447
  v448
def k0_mult13 (k0_t1 : Fin k0_t1_loop.trips) : BitVec 32 :=
  let c1536_i32 : BitVec 32 := 1536#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_421 : BitVec 32 := 8#32
  let v450 : BitVec 32 := Scalar.muli v407 c8_i32_421
  let v451 : BitVec 32 := Scalar.addi c1536_i32 v450
  v451
def k0_mult14 (k0_t1 : Fin k0_t1_loop.trips) : BitVec 32 :=
  let c1664_i32 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_422 : BitVec 32 := 8#32
  let v453 : BitVec 32 := Scalar.muli v407 c8_i32_422
  let v454 : BitVec 32 := Scalar.addi c1664_i32 v453
  v454
def k0_mult15 (k0_t1 : Fin k0_t1_loop.trips) : BitVec 32 :=
  let c1792_i32 : BitVec 32 := 1792#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_423 : BitVec 32 := 8#32
  let v456 : BitVec 32 := Scalar.muli v407 c8_i32_423
  let v457 : BitVec 32 := Scalar.addi c1792_i32 v456
  v457
def k0_mult16 (k0_t1 : Fin k0_t1_loop.trips) : BitVec 32 :=
  let c1920_i32 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_424 : BitVec 32 := 8#32
  let v459 : BitVec 32 := Scalar.muli v407 c8_i32_424
  let v460 : BitVec 32 := Scalar.addi c1920_i32 v459
  v460
def k0_mult17 (k0_t1 : Fin k0_t1_loop.trips) : BitVec 32 :=
  let c128_i32_426 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_425 : BitVec 32 := 8#32
  let v462 : BitVec 32 := Scalar.muli v407 c8_i32_425
  let v463 : BitVec 32 := Scalar.addi c128_i32_426 v462
  v463
def k0_mult18 (k0_t1 : Fin k0_t1_loop.trips) : BitVec 32 :=
  let c384_i32_428 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_427 : BitVec 32 := 8#32
  let v465 : BitVec 32 := Scalar.muli v407 c8_i32_427
  let v466 : BitVec 32 := Scalar.addi c384_i32_428 v465
  v466
def k0_mult19 (k0_t1 : Fin k0_t1_loop.trips) : BitVec 32 :=
  let c640_i32_430 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_429 : BitVec 32 := 8#32
  let v468 : BitVec 32 := Scalar.muli v407 c8_i32_429
  let v469 : BitVec 32 := Scalar.addi c640_i32_430 v468
  v469
def k0_mult20 (k0_t1 : Fin k0_t1_loop.trips) : BitVec 32 :=
  let c896_i32_432 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_431 : BitVec 32 := 8#32
  let v471 : BitVec 32 := Scalar.muli v407 c8_i32_431
  let v472 : BitVec 32 := Scalar.addi c896_i32_432 v471
  v472
def k0_mult21 (k0_t1 : Fin k0_t1_loop.trips) : BitVec 32 :=
  let c1152_i32_434 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_433 : BitVec 32 := 8#32
  let v474 : BitVec 32 := Scalar.muli v407 c8_i32_433
  let v475 : BitVec 32 := Scalar.addi c1152_i32_434 v474
  v475
def k0_mult22 (k0_t1 : Fin k0_t1_loop.trips) : BitVec 32 :=
  let c1408_i32_436 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_435 : BitVec 32 := 8#32
  let v477 : BitVec 32 := Scalar.muli v407 c8_i32_435
  let v478 : BitVec 32 := Scalar.addi c1408_i32_436 v477
  v478
def k0_mult23 (k0_t1 : Fin k0_t1_loop.trips) : BitVec 32 :=
  let c1664_i32_438 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_437 : BitVec 32 := 8#32
  let v480 : BitVec 32 := Scalar.muli v407 c8_i32_437
  let v481 : BitVec 32 := Scalar.addi c1664_i32_438 v480
  v481
def k0_mult24 (k0_t1 : Fin k0_t1_loop.trips) : BitVec 32 :=
  let c1920_i32_440 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_439 : BitVec 32 := 8#32
  let v483 : BitVec 32 := Scalar.muli v407 c8_i32_439
  let v484 : BitVec 32 := Scalar.addi c1920_i32_440 v483
  v484
def k0_mult25 (k0_t1 : Fin k0_t1_loop.trips) : BitVec 32 :=
  let c2176_i32 : BitVec 32 := 2176#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_441 : BitVec 32 := 8#32
  let v486 : BitVec 32 := Scalar.muli v407 c8_i32_441
  let v487 : BitVec 32 := Scalar.addi c2176_i32 v486
  v487
def k0_mult26 (k0_t1 : Fin k0_t1_loop.trips) : BitVec 32 :=
  let c2432_i32 : BitVec 32 := 2432#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_442 : BitVec 32 := 8#32
  let v489 : BitVec 32 := Scalar.muli v407 c8_i32_442
  let v490 : BitVec 32 := Scalar.addi c2432_i32 v489
  v490
def k0_mult27 (k0_t1 : Fin k0_t1_loop.trips) : BitVec 32 :=
  let c2688_i32 : BitVec 32 := 2688#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_443 : BitVec 32 := 8#32
  let v492 : BitVec 32 := Scalar.muli v407 c8_i32_443
  let v493 : BitVec 32 := Scalar.addi c2688_i32 v492
  v493
def k0_mult28 (k0_t1 : Fin k0_t1_loop.trips) : BitVec 32 :=
  let c2944_i32 : BitVec 32 := 2944#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_444 : BitVec 32 := 8#32
  let v495 : BitVec 32 := Scalar.muli v407 c8_i32_444
  let v496 : BitVec 32 := Scalar.addi c2944_i32 v495
  v496
def k0_mult29 (k0_t1 : Fin k0_t1_loop.trips) : BitVec 32 :=
  let c3200_i32 : BitVec 32 := 3200#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_445 : BitVec 32 := 8#32
  let v498 : BitVec 32 := Scalar.muli v407 c8_i32_445
  let v499 : BitVec 32 := Scalar.addi c3200_i32 v498
  v499
def k0_mult30 (k0_t1 : Fin k0_t1_loop.trips) : BitVec 32 :=
  let c3456_i32 : BitVec 32 := 3456#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_446 : BitVec 32 := 8#32
  let v501 : BitVec 32 := Scalar.muli v407 c8_i32_446
  let v502 : BitVec 32 := Scalar.addi c3456_i32 v501
  v502
def k0_mult31 (k0_t1 : Fin k0_t1_loop.trips) : BitVec 32 :=
  let c3712_i32 : BitVec 32 := 3712#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_447 : BitVec 32 := 8#32
  let v504 : BitVec 32 := Scalar.muli v407 c8_i32_447
  let v505 : BitVec 32 := Scalar.addi c3712_i32 v504
  v505
def k0_mult32 (k0_t1 : Fin k0_t1_loop.trips) : BitVec 32 :=
  let c3968_i32 : BitVec 32 := 3968#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_448 : BitVec 32 := 8#32
  let v507 : BitVec 32 := Scalar.muli v407 c8_i32_448
  let v508 : BitVec 32 := Scalar.addi c3968_i32 v507
  v508
def k0_mult33 (k0_t1 : Fin k0_t1_loop.trips) : BitVec 32 :=
  let c128_i32_450 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_449 : BitVec 32 := 8#32
  let v510 : BitVec 32 := Scalar.muli v407 c8_i32_449
  let v511 : BitVec 32 := Scalar.addi c128_i32_450 v510
  let c8_i32_451 : BitVec 32 := 8#32
  let v512 : BitVec 32 := Scalar.subi v511 c8_i32_451
  v512
def k0_mult34 (k0_t1 : Fin k0_t1_loop.trips) : BitVec 32 :=
  let c384_i32_453 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_452 : BitVec 32 := 8#32
  let v514 : BitVec 32 := Scalar.muli v407 c8_i32_452
  let v515 : BitVec 32 := Scalar.addi c384_i32_453 v514
  let c8_i32_454 : BitVec 32 := 8#32
  let v516 : BitVec 32 := Scalar.subi v515 c8_i32_454
  v516
def k0_mult35 (k0_t1 : Fin k0_t1_loop.trips) : BitVec 32 :=
  let c640_i32_456 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_455 : BitVec 32 := 8#32
  let v518 : BitVec 32 := Scalar.muli v407 c8_i32_455
  let v519 : BitVec 32 := Scalar.addi c640_i32_456 v518
  let c8_i32_457 : BitVec 32 := 8#32
  let v520 : BitVec 32 := Scalar.subi v519 c8_i32_457
  v520
def k0_mult36 (k0_t1 : Fin k0_t1_loop.trips) : BitVec 32 :=
  let c896_i32_459 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_458 : BitVec 32 := 8#32
  let v522 : BitVec 32 := Scalar.muli v407 c8_i32_458
  let v523 : BitVec 32 := Scalar.addi c896_i32_459 v522
  let c8_i32_460 : BitVec 32 := 8#32
  let v524 : BitVec 32 := Scalar.subi v523 c8_i32_460
  v524
def k0_mult37 (k0_t1 : Fin k0_t1_loop.trips) : BitVec 32 :=
  let c1152_i32_462 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_461 : BitVec 32 := 8#32
  let v526 : BitVec 32 := Scalar.muli v407 c8_i32_461
  let v527 : BitVec 32 := Scalar.addi c1152_i32_462 v526
  let c8_i32_463 : BitVec 32 := 8#32
  let v528 : BitVec 32 := Scalar.subi v527 c8_i32_463
  v528
def k0_mult38 (k0_t1 : Fin k0_t1_loop.trips) : BitVec 32 :=
  let c1408_i32_465 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_464 : BitVec 32 := 8#32
  let v530 : BitVec 32 := Scalar.muli v407 c8_i32_464
  let v531 : BitVec 32 := Scalar.addi c1408_i32_465 v530
  let c8_i32_466 : BitVec 32 := 8#32
  let v532 : BitVec 32 := Scalar.subi v531 c8_i32_466
  v532
def k0_mult39 (k0_t1 : Fin k0_t1_loop.trips) : BitVec 32 :=
  let c1664_i32_468 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_467 : BitVec 32 := 8#32
  let v534 : BitVec 32 := Scalar.muli v407 c8_i32_467
  let v535 : BitVec 32 := Scalar.addi c1664_i32_468 v534
  let c8_i32_469 : BitVec 32 := 8#32
  let v536 : BitVec 32 := Scalar.subi v535 c8_i32_469
  v536
def k0_mult40 (k0_t1 : Fin k0_t1_loop.trips) : BitVec 32 :=
  let c1920_i32_471 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_470 : BitVec 32 := 8#32
  let v538 : BitVec 32 := Scalar.muli v407 c8_i32_470
  let v539 : BitVec 32 := Scalar.addi c1920_i32_471 v538
  let c8_i32_472 : BitVec 32 := 8#32
  let v540 : BitVec 32 := Scalar.subi v539 c8_i32_472
  v540
def k0_mult41 (k0_t1 : Fin k0_t1_loop.trips) : BitVec 32 :=
  let c2176_i32_474 : BitVec 32 := 2176#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_473 : BitVec 32 := 8#32
  let v542 : BitVec 32 := Scalar.muli v407 c8_i32_473
  let v543 : BitVec 32 := Scalar.addi c2176_i32_474 v542
  let c8_i32_475 : BitVec 32 := 8#32
  let v544 : BitVec 32 := Scalar.subi v543 c8_i32_475
  v544
def k0_mult42 (k0_t1 : Fin k0_t1_loop.trips) : BitVec 32 :=
  let c2432_i32_477 : BitVec 32 := 2432#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_476 : BitVec 32 := 8#32
  let v546 : BitVec 32 := Scalar.muli v407 c8_i32_476
  let v547 : BitVec 32 := Scalar.addi c2432_i32_477 v546
  let c8_i32_478 : BitVec 32 := 8#32
  let v548 : BitVec 32 := Scalar.subi v547 c8_i32_478
  v548
def k0_mult43 (k0_t1 : Fin k0_t1_loop.trips) : BitVec 32 :=
  let c2688_i32_480 : BitVec 32 := 2688#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_479 : BitVec 32 := 8#32
  let v550 : BitVec 32 := Scalar.muli v407 c8_i32_479
  let v551 : BitVec 32 := Scalar.addi c2688_i32_480 v550
  let c8_i32_481 : BitVec 32 := 8#32
  let v552 : BitVec 32 := Scalar.subi v551 c8_i32_481
  v552
def k0_mult44 (k0_t1 : Fin k0_t1_loop.trips) : BitVec 32 :=
  let c2944_i32_483 : BitVec 32 := 2944#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_482 : BitVec 32 := 8#32
  let v554 : BitVec 32 := Scalar.muli v407 c8_i32_482
  let v555 : BitVec 32 := Scalar.addi c2944_i32_483 v554
  let c8_i32_484 : BitVec 32 := 8#32
  let v556 : BitVec 32 := Scalar.subi v555 c8_i32_484
  v556
def k0_mult45 (k0_t1 : Fin k0_t1_loop.trips) : BitVec 32 :=
  let c3200_i32_486 : BitVec 32 := 3200#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_485 : BitVec 32 := 8#32
  let v558 : BitVec 32 := Scalar.muli v407 c8_i32_485
  let v559 : BitVec 32 := Scalar.addi c3200_i32_486 v558
  let c8_i32_487 : BitVec 32 := 8#32
  let v560 : BitVec 32 := Scalar.subi v559 c8_i32_487
  v560
def k0_mult46 (k0_t1 : Fin k0_t1_loop.trips) : BitVec 32 :=
  let c3456_i32_489 : BitVec 32 := 3456#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_488 : BitVec 32 := 8#32
  let v562 : BitVec 32 := Scalar.muli v407 c8_i32_488
  let v563 : BitVec 32 := Scalar.addi c3456_i32_489 v562
  let c8_i32_490 : BitVec 32 := 8#32
  let v564 : BitVec 32 := Scalar.subi v563 c8_i32_490
  v564
def k0_mult47 (k0_t1 : Fin k0_t1_loop.trips) : BitVec 32 :=
  let c3712_i32_492 : BitVec 32 := 3712#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_491 : BitVec 32 := 8#32
  let v566 : BitVec 32 := Scalar.muli v407 c8_i32_491
  let v567 : BitVec 32 := Scalar.addi c3712_i32_492 v566
  let c8_i32_493 : BitVec 32 := 8#32
  let v568 : BitVec 32 := Scalar.subi v567 c8_i32_493
  v568
def k0_mult48 (k0_t1 : Fin k0_t1_loop.trips) : BitVec 32 :=
  let c3968_i32_495 : BitVec 32 := 3968#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_494 : BitVec 32 := 8#32
  let v570 : BitVec 32 := Scalar.muli v407 c8_i32_494
  let v571 : BitVec 32 := Scalar.addi c3968_i32_495 v570
  let c8_i32_496 : BitVec 32 := 8#32
  let v572 : BitVec 32 := Scalar.subi v571 c8_i32_496
  v572
def k0_off1 (k0_t1 : Fin k0_t1_loop.trips) (c0_i32_409 : BitVec 32) (c0_i32_403 : BitVec 32) : Fin 2 → Nat :=
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let v407 : BitVec 32 := Scalar.addi v406 c0_i32_403
  let c8_i32 : BitVec 32 := 8#32
  let v414 : BitVec 32 := Scalar.muli v407 c8_i32
  let v415 : BitVec 32 := Scalar.addi c0_i32_409 v414
  let v416 : BitVec 32 := v415
  let v574 : Index := Scalar.indexCast v416
  let c0_497 : Index := 0#32
  ![v574.toNat, 0]
def k0_off2 (k0_t1 : Fin k0_t1_loop.trips) (c128_i32_450 : BitVec 32) (c0_i32_403 : BitVec 32) : Fin 2 → Nat :=
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let v407 : BitVec 32 := Scalar.addi v406 c0_i32_403
  let c8_i32_449 : BitVec 32 := 8#32
  let v510 : BitVec 32 := Scalar.muli v407 c8_i32_449
  let v511 : BitVec 32 := Scalar.addi c128_i32_450 v510
  let c8_i32_451 : BitVec 32 := 8#32
  let v512 : BitVec 32 := Scalar.subi v511 c8_i32_451
  let v513 : BitVec 32 := v512
  let v716 : Index := Scalar.indexCast v513
  let c0_563 : Index := 0#32
  ![v716.toNat, 0]
def k0_off3 (k0_t1 : Fin k0_t1_loop.trips) (c128_i32_426 : BitVec 32) (c0_i32_403 : BitVec 32) : Fin 2 → Nat :=
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let v407 : BitVec 32 := Scalar.addi v406 c0_i32_403
  let c8_i32_425 : BitVec 32 := 8#32
  let v462 : BitVec 32 := Scalar.muli v407 c8_i32_425
  let v463 : BitVec 32 := Scalar.addi c128_i32_426 v462
  let v464 : BitVec 32 := v463
  let v749 : Index := Scalar.indexCast v464
  let c0_579 : Index := 0#32
  ![v749.toNat, 0]
def k0_mult49 (k0_t1 : Fin k0_t1_loop.trips) : BitVec 32 :=
  let c0_i32_632 : BitVec 32 := 0#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_631 : BitVec 32 := 8#32
  let v862 : BitVec 32 := Scalar.muli v409 c8_i32_631
  let v863 : BitVec 32 := Scalar.addi c0_i32_632 v862
  v863
def k0_mult50 (k0_t1 : Fin k0_t1_loop.trips) : BitVec 32 :=
  let c128_i32_634 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_633 : BitVec 32 := 8#32
  let v865 : BitVec 32 := Scalar.muli v409 c8_i32_633
  let v866 : BitVec 32 := Scalar.addi c128_i32_634 v865
  v866
def k0_mult51 (k0_t1 : Fin k0_t1_loop.trips) : BitVec 32 :=
  let c256_i32_636 : BitVec 32 := 256#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_635 : BitVec 32 := 8#32
  let v868 : BitVec 32 := Scalar.muli v409 c8_i32_635
  let v869 : BitVec 32 := Scalar.addi c256_i32_636 v868
  v869
def k0_mult52 (k0_t1 : Fin k0_t1_loop.trips) : BitVec 32 :=
  let c384_i32_638 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_637 : BitVec 32 := 8#32
  let v871 : BitVec 32 := Scalar.muli v409 c8_i32_637
  let v872 : BitVec 32 := Scalar.addi c384_i32_638 v871
  v872
def k0_mult53 (k0_t1 : Fin k0_t1_loop.trips) : BitVec 32 :=
  let c512_i32_640 : BitVec 32 := 512#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_639 : BitVec 32 := 8#32
  let v874 : BitVec 32 := Scalar.muli v409 c8_i32_639
  let v875 : BitVec 32 := Scalar.addi c512_i32_640 v874
  v875
def k0_mult54 (k0_t1 : Fin k0_t1_loop.trips) : BitVec 32 :=
  let c640_i32_642 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_641 : BitVec 32 := 8#32
  let v877 : BitVec 32 := Scalar.muli v409 c8_i32_641
  let v878 : BitVec 32 := Scalar.addi c640_i32_642 v877
  v878
def k0_mult55 (k0_t1 : Fin k0_t1_loop.trips) : BitVec 32 :=
  let c768_i32_644 : BitVec 32 := 768#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_643 : BitVec 32 := 8#32
  let v880 : BitVec 32 := Scalar.muli v409 c8_i32_643
  let v881 : BitVec 32 := Scalar.addi c768_i32_644 v880
  v881
def k0_mult56 (k0_t1 : Fin k0_t1_loop.trips) : BitVec 32 :=
  let c896_i32_646 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_645 : BitVec 32 := 8#32
  let v883 : BitVec 32 := Scalar.muli v409 c8_i32_645
  let v884 : BitVec 32 := Scalar.addi c896_i32_646 v883
  v884
def k0_mult57 (k0_t1 : Fin k0_t1_loop.trips) : BitVec 32 :=
  let c1024_i32_648 : BitVec 32 := 1024#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_647 : BitVec 32 := 8#32
  let v886 : BitVec 32 := Scalar.muli v409 c8_i32_647
  let v887 : BitVec 32 := Scalar.addi c1024_i32_648 v886
  v887
def k0_mult58 (k0_t1 : Fin k0_t1_loop.trips) : BitVec 32 :=
  let c1152_i32_650 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_649 : BitVec 32 := 8#32
  let v889 : BitVec 32 := Scalar.muli v409 c8_i32_649
  let v890 : BitVec 32 := Scalar.addi c1152_i32_650 v889
  v890
def k0_mult59 (k0_t1 : Fin k0_t1_loop.trips) : BitVec 32 :=
  let c1280_i32_652 : BitVec 32 := 1280#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_651 : BitVec 32 := 8#32
  let v892 : BitVec 32 := Scalar.muli v409 c8_i32_651
  let v893 : BitVec 32 := Scalar.addi c1280_i32_652 v892
  v893
def k0_mult60 (k0_t1 : Fin k0_t1_loop.trips) : BitVec 32 :=
  let c1408_i32_654 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_653 : BitVec 32 := 8#32
  let v895 : BitVec 32 := Scalar.muli v409 c8_i32_653
  let v896 : BitVec 32 := Scalar.addi c1408_i32_654 v895
  v896
def k0_mult61 (k0_t1 : Fin k0_t1_loop.trips) : BitVec 32 :=
  let c1536_i32_656 : BitVec 32 := 1536#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_655 : BitVec 32 := 8#32
  let v898 : BitVec 32 := Scalar.muli v409 c8_i32_655
  let v899 : BitVec 32 := Scalar.addi c1536_i32_656 v898
  v899
def k0_mult62 (k0_t1 : Fin k0_t1_loop.trips) : BitVec 32 :=
  let c1664_i32_658 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_657 : BitVec 32 := 8#32
  let v901 : BitVec 32 := Scalar.muli v409 c8_i32_657
  let v902 : BitVec 32 := Scalar.addi c1664_i32_658 v901
  v902
def k0_mult63 (k0_t1 : Fin k0_t1_loop.trips) : BitVec 32 :=
  let c1792_i32_660 : BitVec 32 := 1792#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_659 : BitVec 32 := 8#32
  let v904 : BitVec 32 := Scalar.muli v409 c8_i32_659
  let v905 : BitVec 32 := Scalar.addi c1792_i32_660 v904
  v905
def k0_mult64 (k0_t1 : Fin k0_t1_loop.trips) : BitVec 32 :=
  let c1920_i32_662 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_661 : BitVec 32 := 8#32
  let v907 : BitVec 32 := Scalar.muli v409 c8_i32_661
  let v908 : BitVec 32 := Scalar.addi c1920_i32_662 v907
  v908
def k0_mult65 (k0_t1 : Fin k0_t1_loop.trips) : BitVec 32 :=
  let c128_i32_664 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_663 : BitVec 32 := 8#32
  let v910 : BitVec 32 := Scalar.muli v409 c8_i32_663
  let v911 : BitVec 32 := Scalar.addi c128_i32_664 v910
  v911
def k0_mult66 (k0_t1 : Fin k0_t1_loop.trips) : BitVec 32 :=
  let c384_i32_666 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_665 : BitVec 32 := 8#32
  let v913 : BitVec 32 := Scalar.muli v409 c8_i32_665
  let v914 : BitVec 32 := Scalar.addi c384_i32_666 v913
  v914
def k0_mult67 (k0_t1 : Fin k0_t1_loop.trips) : BitVec 32 :=
  let c640_i32_668 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_667 : BitVec 32 := 8#32
  let v916 : BitVec 32 := Scalar.muli v409 c8_i32_667
  let v917 : BitVec 32 := Scalar.addi c640_i32_668 v916
  v917
def k0_mult68 (k0_t1 : Fin k0_t1_loop.trips) : BitVec 32 :=
  let c896_i32_670 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_669 : BitVec 32 := 8#32
  let v919 : BitVec 32 := Scalar.muli v409 c8_i32_669
  let v920 : BitVec 32 := Scalar.addi c896_i32_670 v919
  v920
def k0_mult69 (k0_t1 : Fin k0_t1_loop.trips) : BitVec 32 :=
  let c1152_i32_672 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_671 : BitVec 32 := 8#32
  let v922 : BitVec 32 := Scalar.muli v409 c8_i32_671
  let v923 : BitVec 32 := Scalar.addi c1152_i32_672 v922
  v923
def k0_mult70 (k0_t1 : Fin k0_t1_loop.trips) : BitVec 32 :=
  let c1408_i32_674 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_673 : BitVec 32 := 8#32
  let v925 : BitVec 32 := Scalar.muli v409 c8_i32_673
  let v926 : BitVec 32 := Scalar.addi c1408_i32_674 v925
  v926
def k0_mult71 (k0_t1 : Fin k0_t1_loop.trips) : BitVec 32 :=
  let c1664_i32_676 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_675 : BitVec 32 := 8#32
  let v928 : BitVec 32 := Scalar.muli v409 c8_i32_675
  let v929 : BitVec 32 := Scalar.addi c1664_i32_676 v928
  v929
def k0_mult72 (k0_t1 : Fin k0_t1_loop.trips) : BitVec 32 :=
  let c1920_i32_678 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_677 : BitVec 32 := 8#32
  let v931 : BitVec 32 := Scalar.muli v409 c8_i32_677
  let v932 : BitVec 32 := Scalar.addi c1920_i32_678 v931
  v932
def k0_mult73 (k0_t1 : Fin k0_t1_loop.trips) : BitVec 32 :=
  let c2176_i32_680 : BitVec 32 := 2176#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_679 : BitVec 32 := 8#32
  let v934 : BitVec 32 := Scalar.muli v409 c8_i32_679
  let v935 : BitVec 32 := Scalar.addi c2176_i32_680 v934
  v935
def k0_mult74 (k0_t1 : Fin k0_t1_loop.trips) : BitVec 32 :=
  let c2432_i32_682 : BitVec 32 := 2432#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_681 : BitVec 32 := 8#32
  let v937 : BitVec 32 := Scalar.muli v409 c8_i32_681
  let v938 : BitVec 32 := Scalar.addi c2432_i32_682 v937
  v938
def k0_mult75 (k0_t1 : Fin k0_t1_loop.trips) : BitVec 32 :=
  let c2688_i32_684 : BitVec 32 := 2688#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_683 : BitVec 32 := 8#32
  let v940 : BitVec 32 := Scalar.muli v409 c8_i32_683
  let v941 : BitVec 32 := Scalar.addi c2688_i32_684 v940
  v941
def k0_mult76 (k0_t1 : Fin k0_t1_loop.trips) : BitVec 32 :=
  let c2944_i32_686 : BitVec 32 := 2944#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_685 : BitVec 32 := 8#32
  let v943 : BitVec 32 := Scalar.muli v409 c8_i32_685
  let v944 : BitVec 32 := Scalar.addi c2944_i32_686 v943
  v944
def k0_mult77 (k0_t1 : Fin k0_t1_loop.trips) : BitVec 32 :=
  let c3200_i32_688 : BitVec 32 := 3200#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_687 : BitVec 32 := 8#32
  let v946 : BitVec 32 := Scalar.muli v409 c8_i32_687
  let v947 : BitVec 32 := Scalar.addi c3200_i32_688 v946
  v947
def k0_mult78 (k0_t1 : Fin k0_t1_loop.trips) : BitVec 32 :=
  let c3456_i32_690 : BitVec 32 := 3456#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_689 : BitVec 32 := 8#32
  let v949 : BitVec 32 := Scalar.muli v409 c8_i32_689
  let v950 : BitVec 32 := Scalar.addi c3456_i32_690 v949
  v950
def k0_mult79 (k0_t1 : Fin k0_t1_loop.trips) : BitVec 32 :=
  let c3712_i32_692 : BitVec 32 := 3712#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_691 : BitVec 32 := 8#32
  let v952 : BitVec 32 := Scalar.muli v409 c8_i32_691
  let v953 : BitVec 32 := Scalar.addi c3712_i32_692 v952
  v953
def k0_mult80 (k0_t1 : Fin k0_t1_loop.trips) : BitVec 32 :=
  let c3968_i32_694 : BitVec 32 := 3968#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_693 : BitVec 32 := 8#32
  let v955 : BitVec 32 := Scalar.muli v409 c8_i32_693
  let v956 : BitVec 32 := Scalar.addi c3968_i32_694 v955
  v956
def k0_mult81 (k0_t1 : Fin k0_t1_loop.trips) : BitVec 32 :=
  let c128_i32_696 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_695 : BitVec 32 := 8#32
  let v958 : BitVec 32 := Scalar.muli v409 c8_i32_695
  let v959 : BitVec 32 := Scalar.addi c128_i32_696 v958
  let c8_i32_697 : BitVec 32 := 8#32
  let v960 : BitVec 32 := Scalar.subi v959 c8_i32_697
  v960
def k0_mult82 (k0_t1 : Fin k0_t1_loop.trips) : BitVec 32 :=
  let c384_i32_699 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_698 : BitVec 32 := 8#32
  let v962 : BitVec 32 := Scalar.muli v409 c8_i32_698
  let v963 : BitVec 32 := Scalar.addi c384_i32_699 v962
  let c8_i32_700 : BitVec 32 := 8#32
  let v964 : BitVec 32 := Scalar.subi v963 c8_i32_700
  v964
def k0_mult83 (k0_t1 : Fin k0_t1_loop.trips) : BitVec 32 :=
  let c640_i32_702 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_701 : BitVec 32 := 8#32
  let v966 : BitVec 32 := Scalar.muli v409 c8_i32_701
  let v967 : BitVec 32 := Scalar.addi c640_i32_702 v966
  let c8_i32_703 : BitVec 32 := 8#32
  let v968 : BitVec 32 := Scalar.subi v967 c8_i32_703
  v968
def k0_mult84 (k0_t1 : Fin k0_t1_loop.trips) : BitVec 32 :=
  let c896_i32_705 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_704 : BitVec 32 := 8#32
  let v970 : BitVec 32 := Scalar.muli v409 c8_i32_704
  let v971 : BitVec 32 := Scalar.addi c896_i32_705 v970
  let c8_i32_706 : BitVec 32 := 8#32
  let v972 : BitVec 32 := Scalar.subi v971 c8_i32_706
  v972
def k0_mult85 (k0_t1 : Fin k0_t1_loop.trips) : BitVec 32 :=
  let c1152_i32_708 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_707 : BitVec 32 := 8#32
  let v974 : BitVec 32 := Scalar.muli v409 c8_i32_707
  let v975 : BitVec 32 := Scalar.addi c1152_i32_708 v974
  let c8_i32_709 : BitVec 32 := 8#32
  let v976 : BitVec 32 := Scalar.subi v975 c8_i32_709
  v976
def k0_mult86 (k0_t1 : Fin k0_t1_loop.trips) : BitVec 32 :=
  let c1408_i32_711 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_710 : BitVec 32 := 8#32
  let v978 : BitVec 32 := Scalar.muli v409 c8_i32_710
  let v979 : BitVec 32 := Scalar.addi c1408_i32_711 v978
  let c8_i32_712 : BitVec 32 := 8#32
  let v980 : BitVec 32 := Scalar.subi v979 c8_i32_712
  v980
def k0_mult87 (k0_t1 : Fin k0_t1_loop.trips) : BitVec 32 :=
  let c1664_i32_714 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_713 : BitVec 32 := 8#32
  let v982 : BitVec 32 := Scalar.muli v409 c8_i32_713
  let v983 : BitVec 32 := Scalar.addi c1664_i32_714 v982
  let c8_i32_715 : BitVec 32 := 8#32
  let v984 : BitVec 32 := Scalar.subi v983 c8_i32_715
  v984
def k0_mult88 (k0_t1 : Fin k0_t1_loop.trips) : BitVec 32 :=
  let c1920_i32_717 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_716 : BitVec 32 := 8#32
  let v986 : BitVec 32 := Scalar.muli v409 c8_i32_716
  let v987 : BitVec 32 := Scalar.addi c1920_i32_717 v986
  let c8_i32_718 : BitVec 32 := 8#32
  let v988 : BitVec 32 := Scalar.subi v987 c8_i32_718
  v988
def k0_mult89 (k0_t1 : Fin k0_t1_loop.trips) : BitVec 32 :=
  let c2176_i32_720 : BitVec 32 := 2176#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_719 : BitVec 32 := 8#32
  let v990 : BitVec 32 := Scalar.muli v409 c8_i32_719
  let v991 : BitVec 32 := Scalar.addi c2176_i32_720 v990
  let c8_i32_721 : BitVec 32 := 8#32
  let v992 : BitVec 32 := Scalar.subi v991 c8_i32_721
  v992
def k0_mult90 (k0_t1 : Fin k0_t1_loop.trips) : BitVec 32 :=
  let c2432_i32_723 : BitVec 32 := 2432#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_722 : BitVec 32 := 8#32
  let v994 : BitVec 32 := Scalar.muli v409 c8_i32_722
  let v995 : BitVec 32 := Scalar.addi c2432_i32_723 v994
  let c8_i32_724 : BitVec 32 := 8#32
  let v996 : BitVec 32 := Scalar.subi v995 c8_i32_724
  v996
def k0_mult91 (k0_t1 : Fin k0_t1_loop.trips) : BitVec 32 :=
  let c2688_i32_726 : BitVec 32 := 2688#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_725 : BitVec 32 := 8#32
  let v998 : BitVec 32 := Scalar.muli v409 c8_i32_725
  let v999 : BitVec 32 := Scalar.addi c2688_i32_726 v998
  let c8_i32_727 : BitVec 32 := 8#32
  let v1000 : BitVec 32 := Scalar.subi v999 c8_i32_727
  v1000
def k0_mult92 (k0_t1 : Fin k0_t1_loop.trips) : BitVec 32 :=
  let c2944_i32_729 : BitVec 32 := 2944#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_728 : BitVec 32 := 8#32
  let v1002 : BitVec 32 := Scalar.muli v409 c8_i32_728
  let v1003 : BitVec 32 := Scalar.addi c2944_i32_729 v1002
  let c8_i32_730 : BitVec 32 := 8#32
  let v1004 : BitVec 32 := Scalar.subi v1003 c8_i32_730
  v1004
def k0_mult93 (k0_t1 : Fin k0_t1_loop.trips) : BitVec 32 :=
  let c3200_i32_732 : BitVec 32 := 3200#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_731 : BitVec 32 := 8#32
  let v1006 : BitVec 32 := Scalar.muli v409 c8_i32_731
  let v1007 : BitVec 32 := Scalar.addi c3200_i32_732 v1006
  let c8_i32_733 : BitVec 32 := 8#32
  let v1008 : BitVec 32 := Scalar.subi v1007 c8_i32_733
  v1008
def k0_mult94 (k0_t1 : Fin k0_t1_loop.trips) : BitVec 32 :=
  let c3456_i32_735 : BitVec 32 := 3456#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_734 : BitVec 32 := 8#32
  let v1010 : BitVec 32 := Scalar.muli v409 c8_i32_734
  let v1011 : BitVec 32 := Scalar.addi c3456_i32_735 v1010
  let c8_i32_736 : BitVec 32 := 8#32
  let v1012 : BitVec 32 := Scalar.subi v1011 c8_i32_736
  v1012
def k0_mult95 (k0_t1 : Fin k0_t1_loop.trips) : BitVec 32 :=
  let c3712_i32_738 : BitVec 32 := 3712#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_737 : BitVec 32 := 8#32
  let v1014 : BitVec 32 := Scalar.muli v409 c8_i32_737
  let v1015 : BitVec 32 := Scalar.addi c3712_i32_738 v1014
  let c8_i32_739 : BitVec 32 := 8#32
  let v1016 : BitVec 32 := Scalar.subi v1015 c8_i32_739
  v1016
def k0_mult96 (k0_t1 : Fin k0_t1_loop.trips) : BitVec 32 :=
  let c3968_i32_741 : BitVec 32 := 3968#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_740 : BitVec 32 := 8#32
  let v1018 : BitVec 32 := Scalar.muli v409 c8_i32_740
  let v1019 : BitVec 32 := Scalar.addi c3968_i32_741 v1018
  let c8_i32_742 : BitVec 32 := 8#32
  let v1020 : BitVec 32 := Scalar.subi v1019 c8_i32_742
  v1020
def k0_mult97 (k0_t1 : Fin k0_t1_loop.trips) : BitVec 32 :=
  let c0_i32_879 : BitVec 32 := 0#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_878 : BitVec 32 := 8#32
  let v1310 : BitVec 32 := Scalar.muli v411 c8_i32_878
  let v1311 : BitVec 32 := Scalar.addi c0_i32_879 v1310
  v1311
def k0_mult98 (k0_t1 : Fin k0_t1_loop.trips) : BitVec 32 :=
  let c128_i32_881 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_880 : BitVec 32 := 8#32
  let v1313 : BitVec 32 := Scalar.muli v411 c8_i32_880
  let v1314 : BitVec 32 := Scalar.addi c128_i32_881 v1313
  v1314
def k0_mult99 (k0_t1 : Fin k0_t1_loop.trips) : BitVec 32 :=
  let c256_i32_883 : BitVec 32 := 256#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_882 : BitVec 32 := 8#32
  let v1316 : BitVec 32 := Scalar.muli v411 c8_i32_882
  let v1317 : BitVec 32 := Scalar.addi c256_i32_883 v1316
  v1317
def k0_mult100 (k0_t1 : Fin k0_t1_loop.trips) : BitVec 32 :=
  let c384_i32_885 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_884 : BitVec 32 := 8#32
  let v1319 : BitVec 32 := Scalar.muli v411 c8_i32_884
  let v1320 : BitVec 32 := Scalar.addi c384_i32_885 v1319
  v1320
def k0_mult101 (k0_t1 : Fin k0_t1_loop.trips) : BitVec 32 :=
  let c512_i32_887 : BitVec 32 := 512#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_886 : BitVec 32 := 8#32
  let v1322 : BitVec 32 := Scalar.muli v411 c8_i32_886
  let v1323 : BitVec 32 := Scalar.addi c512_i32_887 v1322
  v1323
def k0_mult102 (k0_t1 : Fin k0_t1_loop.trips) : BitVec 32 :=
  let c640_i32_889 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_888 : BitVec 32 := 8#32
  let v1325 : BitVec 32 := Scalar.muli v411 c8_i32_888
  let v1326 : BitVec 32 := Scalar.addi c640_i32_889 v1325
  v1326
def k0_mult103 (k0_t1 : Fin k0_t1_loop.trips) : BitVec 32 :=
  let c768_i32_891 : BitVec 32 := 768#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_890 : BitVec 32 := 8#32
  let v1328 : BitVec 32 := Scalar.muli v411 c8_i32_890
  let v1329 : BitVec 32 := Scalar.addi c768_i32_891 v1328
  v1329
def k0_mult104 (k0_t1 : Fin k0_t1_loop.trips) : BitVec 32 :=
  let c896_i32_893 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_892 : BitVec 32 := 8#32
  let v1331 : BitVec 32 := Scalar.muli v411 c8_i32_892
  let v1332 : BitVec 32 := Scalar.addi c896_i32_893 v1331
  v1332
def k0_mult105 (k0_t1 : Fin k0_t1_loop.trips) : BitVec 32 :=
  let c1024_i32_895 : BitVec 32 := 1024#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_894 : BitVec 32 := 8#32
  let v1334 : BitVec 32 := Scalar.muli v411 c8_i32_894
  let v1335 : BitVec 32 := Scalar.addi c1024_i32_895 v1334
  v1335
def k0_mult106 (k0_t1 : Fin k0_t1_loop.trips) : BitVec 32 :=
  let c1152_i32_897 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_896 : BitVec 32 := 8#32
  let v1337 : BitVec 32 := Scalar.muli v411 c8_i32_896
  let v1338 : BitVec 32 := Scalar.addi c1152_i32_897 v1337
  v1338
def k0_mult107 (k0_t1 : Fin k0_t1_loop.trips) : BitVec 32 :=
  let c1280_i32_899 : BitVec 32 := 1280#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_898 : BitVec 32 := 8#32
  let v1340 : BitVec 32 := Scalar.muli v411 c8_i32_898
  let v1341 : BitVec 32 := Scalar.addi c1280_i32_899 v1340
  v1341
def k0_mult108 (k0_t1 : Fin k0_t1_loop.trips) : BitVec 32 :=
  let c1408_i32_901 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_900 : BitVec 32 := 8#32
  let v1343 : BitVec 32 := Scalar.muli v411 c8_i32_900
  let v1344 : BitVec 32 := Scalar.addi c1408_i32_901 v1343
  v1344
def k0_mult109 (k0_t1 : Fin k0_t1_loop.trips) : BitVec 32 :=
  let c1536_i32_903 : BitVec 32 := 1536#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_902 : BitVec 32 := 8#32
  let v1346 : BitVec 32 := Scalar.muli v411 c8_i32_902
  let v1347 : BitVec 32 := Scalar.addi c1536_i32_903 v1346
  v1347
def k0_mult110 (k0_t1 : Fin k0_t1_loop.trips) : BitVec 32 :=
  let c1664_i32_905 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_904 : BitVec 32 := 8#32
  let v1349 : BitVec 32 := Scalar.muli v411 c8_i32_904
  let v1350 : BitVec 32 := Scalar.addi c1664_i32_905 v1349
  v1350
def k0_mult111 (k0_t1 : Fin k0_t1_loop.trips) : BitVec 32 :=
  let c1792_i32_907 : BitVec 32 := 1792#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_906 : BitVec 32 := 8#32
  let v1352 : BitVec 32 := Scalar.muli v411 c8_i32_906
  let v1353 : BitVec 32 := Scalar.addi c1792_i32_907 v1352
  v1353
def k0_mult112 (k0_t1 : Fin k0_t1_loop.trips) : BitVec 32 :=
  let c1920_i32_909 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_908 : BitVec 32 := 8#32
  let v1355 : BitVec 32 := Scalar.muli v411 c8_i32_908
  let v1356 : BitVec 32 := Scalar.addi c1920_i32_909 v1355
  v1356
def k0_mult113 (k0_t1 : Fin k0_t1_loop.trips) : BitVec 32 :=
  let c128_i32_911 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_910 : BitVec 32 := 8#32
  let v1358 : BitVec 32 := Scalar.muli v411 c8_i32_910
  let v1359 : BitVec 32 := Scalar.addi c128_i32_911 v1358
  v1359
def k0_mult114 (k0_t1 : Fin k0_t1_loop.trips) : BitVec 32 :=
  let c384_i32_913 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_912 : BitVec 32 := 8#32
  let v1361 : BitVec 32 := Scalar.muli v411 c8_i32_912
  let v1362 : BitVec 32 := Scalar.addi c384_i32_913 v1361
  v1362
def k0_mult115 (k0_t1 : Fin k0_t1_loop.trips) : BitVec 32 :=
  let c640_i32_915 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_914 : BitVec 32 := 8#32
  let v1364 : BitVec 32 := Scalar.muli v411 c8_i32_914
  let v1365 : BitVec 32 := Scalar.addi c640_i32_915 v1364
  v1365
def k0_mult116 (k0_t1 : Fin k0_t1_loop.trips) : BitVec 32 :=
  let c896_i32_917 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_916 : BitVec 32 := 8#32
  let v1367 : BitVec 32 := Scalar.muli v411 c8_i32_916
  let v1368 : BitVec 32 := Scalar.addi c896_i32_917 v1367
  v1368
def k0_mult117 (k0_t1 : Fin k0_t1_loop.trips) : BitVec 32 :=
  let c1152_i32_919 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_918 : BitVec 32 := 8#32
  let v1370 : BitVec 32 := Scalar.muli v411 c8_i32_918
  let v1371 : BitVec 32 := Scalar.addi c1152_i32_919 v1370
  v1371
def k0_mult118 (k0_t1 : Fin k0_t1_loop.trips) : BitVec 32 :=
  let c1408_i32_921 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_920 : BitVec 32 := 8#32
  let v1373 : BitVec 32 := Scalar.muli v411 c8_i32_920
  let v1374 : BitVec 32 := Scalar.addi c1408_i32_921 v1373
  v1374
def k0_mult119 (k0_t1 : Fin k0_t1_loop.trips) : BitVec 32 :=
  let c1664_i32_923 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_922 : BitVec 32 := 8#32
  let v1376 : BitVec 32 := Scalar.muli v411 c8_i32_922
  let v1377 : BitVec 32 := Scalar.addi c1664_i32_923 v1376
  v1377
def k0_mult120 (k0_t1 : Fin k0_t1_loop.trips) : BitVec 32 :=
  let c1920_i32_925 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_924 : BitVec 32 := 8#32
  let v1379 : BitVec 32 := Scalar.muli v411 c8_i32_924
  let v1380 : BitVec 32 := Scalar.addi c1920_i32_925 v1379
  v1380
def k0_mult121 (k0_t1 : Fin k0_t1_loop.trips) : BitVec 32 :=
  let c2176_i32_927 : BitVec 32 := 2176#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_926 : BitVec 32 := 8#32
  let v1382 : BitVec 32 := Scalar.muli v411 c8_i32_926
  let v1383 : BitVec 32 := Scalar.addi c2176_i32_927 v1382
  v1383
def k0_mult122 (k0_t1 : Fin k0_t1_loop.trips) : BitVec 32 :=
  let c2432_i32_929 : BitVec 32 := 2432#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_928 : BitVec 32 := 8#32
  let v1385 : BitVec 32 := Scalar.muli v411 c8_i32_928
  let v1386 : BitVec 32 := Scalar.addi c2432_i32_929 v1385
  v1386
def k0_mult123 (k0_t1 : Fin k0_t1_loop.trips) : BitVec 32 :=
  let c2688_i32_931 : BitVec 32 := 2688#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_930 : BitVec 32 := 8#32
  let v1388 : BitVec 32 := Scalar.muli v411 c8_i32_930
  let v1389 : BitVec 32 := Scalar.addi c2688_i32_931 v1388
  v1389
def k0_mult124 (k0_t1 : Fin k0_t1_loop.trips) : BitVec 32 :=
  let c2944_i32_933 : BitVec 32 := 2944#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_932 : BitVec 32 := 8#32
  let v1391 : BitVec 32 := Scalar.muli v411 c8_i32_932
  let v1392 : BitVec 32 := Scalar.addi c2944_i32_933 v1391
  v1392
def k0_mult125 (k0_t1 : Fin k0_t1_loop.trips) : BitVec 32 :=
  let c3200_i32_935 : BitVec 32 := 3200#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_934 : BitVec 32 := 8#32
  let v1394 : BitVec 32 := Scalar.muli v411 c8_i32_934
  let v1395 : BitVec 32 := Scalar.addi c3200_i32_935 v1394
  v1395
def k0_mult126 (k0_t1 : Fin k0_t1_loop.trips) : BitVec 32 :=
  let c3456_i32_937 : BitVec 32 := 3456#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_936 : BitVec 32 := 8#32
  let v1397 : BitVec 32 := Scalar.muli v411 c8_i32_936
  let v1398 : BitVec 32 := Scalar.addi c3456_i32_937 v1397
  v1398
def k0_mult127 (k0_t1 : Fin k0_t1_loop.trips) : BitVec 32 :=
  let c3712_i32_939 : BitVec 32 := 3712#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_938 : BitVec 32 := 8#32
  let v1400 : BitVec 32 := Scalar.muli v411 c8_i32_938
  let v1401 : BitVec 32 := Scalar.addi c3712_i32_939 v1400
  v1401
def k0_mult128 (k0_t1 : Fin k0_t1_loop.trips) : BitVec 32 :=
  let c3968_i32_941 : BitVec 32 := 3968#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_940 : BitVec 32 := 8#32
  let v1403 : BitVec 32 := Scalar.muli v411 c8_i32_940
  let v1404 : BitVec 32 := Scalar.addi c3968_i32_941 v1403
  v1404
def k0_mult129 (k0_t1 : Fin k0_t1_loop.trips) : BitVec 32 :=
  let c128_i32_943 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_942 : BitVec 32 := 8#32
  let v1406 : BitVec 32 := Scalar.muli v411 c8_i32_942
  let v1407 : BitVec 32 := Scalar.addi c128_i32_943 v1406
  let c8_i32_944 : BitVec 32 := 8#32
  let v1408 : BitVec 32 := Scalar.subi v1407 c8_i32_944
  v1408
def k0_mult130 (k0_t1 : Fin k0_t1_loop.trips) : BitVec 32 :=
  let c384_i32_946 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_945 : BitVec 32 := 8#32
  let v1410 : BitVec 32 := Scalar.muli v411 c8_i32_945
  let v1411 : BitVec 32 := Scalar.addi c384_i32_946 v1410
  let c8_i32_947 : BitVec 32 := 8#32
  let v1412 : BitVec 32 := Scalar.subi v1411 c8_i32_947
  v1412
def k0_mult131 (k0_t1 : Fin k0_t1_loop.trips) : BitVec 32 :=
  let c640_i32_949 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_948 : BitVec 32 := 8#32
  let v1414 : BitVec 32 := Scalar.muli v411 c8_i32_948
  let v1415 : BitVec 32 := Scalar.addi c640_i32_949 v1414
  let c8_i32_950 : BitVec 32 := 8#32
  let v1416 : BitVec 32 := Scalar.subi v1415 c8_i32_950
  v1416
def k0_mult132 (k0_t1 : Fin k0_t1_loop.trips) : BitVec 32 :=
  let c896_i32_952 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_951 : BitVec 32 := 8#32
  let v1418 : BitVec 32 := Scalar.muli v411 c8_i32_951
  let v1419 : BitVec 32 := Scalar.addi c896_i32_952 v1418
  let c8_i32_953 : BitVec 32 := 8#32
  let v1420 : BitVec 32 := Scalar.subi v1419 c8_i32_953
  v1420
def k0_mult133 (k0_t1 : Fin k0_t1_loop.trips) : BitVec 32 :=
  let c1152_i32_955 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_954 : BitVec 32 := 8#32
  let v1422 : BitVec 32 := Scalar.muli v411 c8_i32_954
  let v1423 : BitVec 32 := Scalar.addi c1152_i32_955 v1422
  let c8_i32_956 : BitVec 32 := 8#32
  let v1424 : BitVec 32 := Scalar.subi v1423 c8_i32_956
  v1424
def k0_mult134 (k0_t1 : Fin k0_t1_loop.trips) : BitVec 32 :=
  let c1408_i32_958 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_957 : BitVec 32 := 8#32
  let v1426 : BitVec 32 := Scalar.muli v411 c8_i32_957
  let v1427 : BitVec 32 := Scalar.addi c1408_i32_958 v1426
  let c8_i32_959 : BitVec 32 := 8#32
  let v1428 : BitVec 32 := Scalar.subi v1427 c8_i32_959
  v1428
def k0_mult135 (k0_t1 : Fin k0_t1_loop.trips) : BitVec 32 :=
  let c1664_i32_961 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_960 : BitVec 32 := 8#32
  let v1430 : BitVec 32 := Scalar.muli v411 c8_i32_960
  let v1431 : BitVec 32 := Scalar.addi c1664_i32_961 v1430
  let c8_i32_962 : BitVec 32 := 8#32
  let v1432 : BitVec 32 := Scalar.subi v1431 c8_i32_962
  v1432
def k0_mult136 (k0_t1 : Fin k0_t1_loop.trips) : BitVec 32 :=
  let c1920_i32_964 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_963 : BitVec 32 := 8#32
  let v1434 : BitVec 32 := Scalar.muli v411 c8_i32_963
  let v1435 : BitVec 32 := Scalar.addi c1920_i32_964 v1434
  let c8_i32_965 : BitVec 32 := 8#32
  let v1436 : BitVec 32 := Scalar.subi v1435 c8_i32_965
  v1436
def k0_mult137 (k0_t1 : Fin k0_t1_loop.trips) : BitVec 32 :=
  let c2176_i32_967 : BitVec 32 := 2176#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_966 : BitVec 32 := 8#32
  let v1438 : BitVec 32 := Scalar.muli v411 c8_i32_966
  let v1439 : BitVec 32 := Scalar.addi c2176_i32_967 v1438
  let c8_i32_968 : BitVec 32 := 8#32
  let v1440 : BitVec 32 := Scalar.subi v1439 c8_i32_968
  v1440
def k0_mult138 (k0_t1 : Fin k0_t1_loop.trips) : BitVec 32 :=
  let c2432_i32_970 : BitVec 32 := 2432#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_969 : BitVec 32 := 8#32
  let v1442 : BitVec 32 := Scalar.muli v411 c8_i32_969
  let v1443 : BitVec 32 := Scalar.addi c2432_i32_970 v1442
  let c8_i32_971 : BitVec 32 := 8#32
  let v1444 : BitVec 32 := Scalar.subi v1443 c8_i32_971
  v1444
def k0_mult139 (k0_t1 : Fin k0_t1_loop.trips) : BitVec 32 :=
  let c2688_i32_973 : BitVec 32 := 2688#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_972 : BitVec 32 := 8#32
  let v1446 : BitVec 32 := Scalar.muli v411 c8_i32_972
  let v1447 : BitVec 32 := Scalar.addi c2688_i32_973 v1446
  let c8_i32_974 : BitVec 32 := 8#32
  let v1448 : BitVec 32 := Scalar.subi v1447 c8_i32_974
  v1448
def k0_mult140 (k0_t1 : Fin k0_t1_loop.trips) : BitVec 32 :=
  let c2944_i32_976 : BitVec 32 := 2944#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_975 : BitVec 32 := 8#32
  let v1450 : BitVec 32 := Scalar.muli v411 c8_i32_975
  let v1451 : BitVec 32 := Scalar.addi c2944_i32_976 v1450
  let c8_i32_977 : BitVec 32 := 8#32
  let v1452 : BitVec 32 := Scalar.subi v1451 c8_i32_977
  v1452
def k0_mult141 (k0_t1 : Fin k0_t1_loop.trips) : BitVec 32 :=
  let c3200_i32_979 : BitVec 32 := 3200#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_978 : BitVec 32 := 8#32
  let v1454 : BitVec 32 := Scalar.muli v411 c8_i32_978
  let v1455 : BitVec 32 := Scalar.addi c3200_i32_979 v1454
  let c8_i32_980 : BitVec 32 := 8#32
  let v1456 : BitVec 32 := Scalar.subi v1455 c8_i32_980
  v1456
def k0_mult142 (k0_t1 : Fin k0_t1_loop.trips) : BitVec 32 :=
  let c3456_i32_982 : BitVec 32 := 3456#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_981 : BitVec 32 := 8#32
  let v1458 : BitVec 32 := Scalar.muli v411 c8_i32_981
  let v1459 : BitVec 32 := Scalar.addi c3456_i32_982 v1458
  let c8_i32_983 : BitVec 32 := 8#32
  let v1460 : BitVec 32 := Scalar.subi v1459 c8_i32_983
  v1460
def k0_mult143 (k0_t1 : Fin k0_t1_loop.trips) : BitVec 32 :=
  let c3712_i32_985 : BitVec 32 := 3712#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_984 : BitVec 32 := 8#32
  let v1462 : BitVec 32 := Scalar.muli v411 c8_i32_984
  let v1463 : BitVec 32 := Scalar.addi c3712_i32_985 v1462
  let c8_i32_986 : BitVec 32 := 8#32
  let v1464 : BitVec 32 := Scalar.subi v1463 c8_i32_986
  v1464
def k0_mult144 (k0_t1 : Fin k0_t1_loop.trips) : BitVec 32 :=
  let c3968_i32_988 : BitVec 32 := 3968#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_987 : BitVec 32 := 8#32
  let v1466 : BitVec 32 := Scalar.muli v411 c8_i32_987
  let v1467 : BitVec 32 := Scalar.addi c3968_i32_988 v1466
  let c8_i32_989 : BitVec 32 := 8#32
  let v1468 : BitVec 32 := Scalar.subi v1467 c8_i32_989
  v1468
def k0_mult145 (k0_t1 : Fin k0_t1_loop.trips) : BitVec 32 :=
  let c0_i32_1126 : BitVec 32 := 0#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1125 : BitVec 32 := 8#32
  let v1758 : BitVec 32 := Scalar.muli v413 c8_i32_1125
  let v1759 : BitVec 32 := Scalar.addi c0_i32_1126 v1758
  v1759
def k0_mult146 (k0_t1 : Fin k0_t1_loop.trips) : BitVec 32 :=
  let c128_i32_1128 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1127 : BitVec 32 := 8#32
  let v1761 : BitVec 32 := Scalar.muli v413 c8_i32_1127
  let v1762 : BitVec 32 := Scalar.addi c128_i32_1128 v1761
  v1762
def k0_mult147 (k0_t1 : Fin k0_t1_loop.trips) : BitVec 32 :=
  let c256_i32_1130 : BitVec 32 := 256#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1129 : BitVec 32 := 8#32
  let v1764 : BitVec 32 := Scalar.muli v413 c8_i32_1129
  let v1765 : BitVec 32 := Scalar.addi c256_i32_1130 v1764
  v1765
def k0_mult148 (k0_t1 : Fin k0_t1_loop.trips) : BitVec 32 :=
  let c384_i32_1132 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1131 : BitVec 32 := 8#32
  let v1767 : BitVec 32 := Scalar.muli v413 c8_i32_1131
  let v1768 : BitVec 32 := Scalar.addi c384_i32_1132 v1767
  v1768
def k0_mult149 (k0_t1 : Fin k0_t1_loop.trips) : BitVec 32 :=
  let c512_i32_1134 : BitVec 32 := 512#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1133 : BitVec 32 := 8#32
  let v1770 : BitVec 32 := Scalar.muli v413 c8_i32_1133
  let v1771 : BitVec 32 := Scalar.addi c512_i32_1134 v1770
  v1771
def k0_mult150 (k0_t1 : Fin k0_t1_loop.trips) : BitVec 32 :=
  let c640_i32_1136 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1135 : BitVec 32 := 8#32
  let v1773 : BitVec 32 := Scalar.muli v413 c8_i32_1135
  let v1774 : BitVec 32 := Scalar.addi c640_i32_1136 v1773
  v1774
def k0_mult151 (k0_t1 : Fin k0_t1_loop.trips) : BitVec 32 :=
  let c768_i32_1138 : BitVec 32 := 768#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1137 : BitVec 32 := 8#32
  let v1776 : BitVec 32 := Scalar.muli v413 c8_i32_1137
  let v1777 : BitVec 32 := Scalar.addi c768_i32_1138 v1776
  v1777
def k0_mult152 (k0_t1 : Fin k0_t1_loop.trips) : BitVec 32 :=
  let c896_i32_1140 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1139 : BitVec 32 := 8#32
  let v1779 : BitVec 32 := Scalar.muli v413 c8_i32_1139
  let v1780 : BitVec 32 := Scalar.addi c896_i32_1140 v1779
  v1780
def k0_mult153 (k0_t1 : Fin k0_t1_loop.trips) : BitVec 32 :=
  let c1024_i32_1142 : BitVec 32 := 1024#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1141 : BitVec 32 := 8#32
  let v1782 : BitVec 32 := Scalar.muli v413 c8_i32_1141
  let v1783 : BitVec 32 := Scalar.addi c1024_i32_1142 v1782
  v1783
def k0_mult154 (k0_t1 : Fin k0_t1_loop.trips) : BitVec 32 :=
  let c1152_i32_1144 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1143 : BitVec 32 := 8#32
  let v1785 : BitVec 32 := Scalar.muli v413 c8_i32_1143
  let v1786 : BitVec 32 := Scalar.addi c1152_i32_1144 v1785
  v1786
def k0_mult155 (k0_t1 : Fin k0_t1_loop.trips) : BitVec 32 :=
  let c1280_i32_1146 : BitVec 32 := 1280#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1145 : BitVec 32 := 8#32
  let v1788 : BitVec 32 := Scalar.muli v413 c8_i32_1145
  let v1789 : BitVec 32 := Scalar.addi c1280_i32_1146 v1788
  v1789
def k0_mult156 (k0_t1 : Fin k0_t1_loop.trips) : BitVec 32 :=
  let c1408_i32_1148 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1147 : BitVec 32 := 8#32
  let v1791 : BitVec 32 := Scalar.muli v413 c8_i32_1147
  let v1792 : BitVec 32 := Scalar.addi c1408_i32_1148 v1791
  v1792
def k0_mult157 (k0_t1 : Fin k0_t1_loop.trips) : BitVec 32 :=
  let c1536_i32_1150 : BitVec 32 := 1536#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1149 : BitVec 32 := 8#32
  let v1794 : BitVec 32 := Scalar.muli v413 c8_i32_1149
  let v1795 : BitVec 32 := Scalar.addi c1536_i32_1150 v1794
  v1795
def k0_mult158 (k0_t1 : Fin k0_t1_loop.trips) : BitVec 32 :=
  let c1664_i32_1152 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1151 : BitVec 32 := 8#32
  let v1797 : BitVec 32 := Scalar.muli v413 c8_i32_1151
  let v1798 : BitVec 32 := Scalar.addi c1664_i32_1152 v1797
  v1798
def k0_mult159 (k0_t1 : Fin k0_t1_loop.trips) : BitVec 32 :=
  let c1792_i32_1154 : BitVec 32 := 1792#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1153 : BitVec 32 := 8#32
  let v1800 : BitVec 32 := Scalar.muli v413 c8_i32_1153
  let v1801 : BitVec 32 := Scalar.addi c1792_i32_1154 v1800
  v1801
def k0_mult160 (k0_t1 : Fin k0_t1_loop.trips) : BitVec 32 :=
  let c1920_i32_1156 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1155 : BitVec 32 := 8#32
  let v1803 : BitVec 32 := Scalar.muli v413 c8_i32_1155
  let v1804 : BitVec 32 := Scalar.addi c1920_i32_1156 v1803
  v1804
def k0_mult161 (k0_t1 : Fin k0_t1_loop.trips) : BitVec 32 :=
  let c128_i32_1158 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1157 : BitVec 32 := 8#32
  let v1806 : BitVec 32 := Scalar.muli v413 c8_i32_1157
  let v1807 : BitVec 32 := Scalar.addi c128_i32_1158 v1806
  v1807
def k0_mult162 (k0_t1 : Fin k0_t1_loop.trips) : BitVec 32 :=
  let c384_i32_1160 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1159 : BitVec 32 := 8#32
  let v1809 : BitVec 32 := Scalar.muli v413 c8_i32_1159
  let v1810 : BitVec 32 := Scalar.addi c384_i32_1160 v1809
  v1810
def k0_mult163 (k0_t1 : Fin k0_t1_loop.trips) : BitVec 32 :=
  let c640_i32_1162 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1161 : BitVec 32 := 8#32
  let v1812 : BitVec 32 := Scalar.muli v413 c8_i32_1161
  let v1813 : BitVec 32 := Scalar.addi c640_i32_1162 v1812
  v1813
def k0_mult164 (k0_t1 : Fin k0_t1_loop.trips) : BitVec 32 :=
  let c896_i32_1164 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1163 : BitVec 32 := 8#32
  let v1815 : BitVec 32 := Scalar.muli v413 c8_i32_1163
  let v1816 : BitVec 32 := Scalar.addi c896_i32_1164 v1815
  v1816
def k0_mult165 (k0_t1 : Fin k0_t1_loop.trips) : BitVec 32 :=
  let c1152_i32_1166 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1165 : BitVec 32 := 8#32
  let v1818 : BitVec 32 := Scalar.muli v413 c8_i32_1165
  let v1819 : BitVec 32 := Scalar.addi c1152_i32_1166 v1818
  v1819
def k0_mult166 (k0_t1 : Fin k0_t1_loop.trips) : BitVec 32 :=
  let c1408_i32_1168 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1167 : BitVec 32 := 8#32
  let v1821 : BitVec 32 := Scalar.muli v413 c8_i32_1167
  let v1822 : BitVec 32 := Scalar.addi c1408_i32_1168 v1821
  v1822
def k0_mult167 (k0_t1 : Fin k0_t1_loop.trips) : BitVec 32 :=
  let c1664_i32_1170 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1169 : BitVec 32 := 8#32
  let v1824 : BitVec 32 := Scalar.muli v413 c8_i32_1169
  let v1825 : BitVec 32 := Scalar.addi c1664_i32_1170 v1824
  v1825
def k0_mult168 (k0_t1 : Fin k0_t1_loop.trips) : BitVec 32 :=
  let c1920_i32_1172 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1171 : BitVec 32 := 8#32
  let v1827 : BitVec 32 := Scalar.muli v413 c8_i32_1171
  let v1828 : BitVec 32 := Scalar.addi c1920_i32_1172 v1827
  v1828
def k0_mult169 (k0_t1 : Fin k0_t1_loop.trips) : BitVec 32 :=
  let c2176_i32_1174 : BitVec 32 := 2176#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1173 : BitVec 32 := 8#32
  let v1830 : BitVec 32 := Scalar.muli v413 c8_i32_1173
  let v1831 : BitVec 32 := Scalar.addi c2176_i32_1174 v1830
  v1831
def k0_mult170 (k0_t1 : Fin k0_t1_loop.trips) : BitVec 32 :=
  let c2432_i32_1176 : BitVec 32 := 2432#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1175 : BitVec 32 := 8#32
  let v1833 : BitVec 32 := Scalar.muli v413 c8_i32_1175
  let v1834 : BitVec 32 := Scalar.addi c2432_i32_1176 v1833
  v1834
def k0_mult171 (k0_t1 : Fin k0_t1_loop.trips) : BitVec 32 :=
  let c2688_i32_1178 : BitVec 32 := 2688#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1177 : BitVec 32 := 8#32
  let v1836 : BitVec 32 := Scalar.muli v413 c8_i32_1177
  let v1837 : BitVec 32 := Scalar.addi c2688_i32_1178 v1836
  v1837
def k0_mult172 (k0_t1 : Fin k0_t1_loop.trips) : BitVec 32 :=
  let c2944_i32_1180 : BitVec 32 := 2944#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1179 : BitVec 32 := 8#32
  let v1839 : BitVec 32 := Scalar.muli v413 c8_i32_1179
  let v1840 : BitVec 32 := Scalar.addi c2944_i32_1180 v1839
  v1840
def k0_mult173 (k0_t1 : Fin k0_t1_loop.trips) : BitVec 32 :=
  let c3200_i32_1182 : BitVec 32 := 3200#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1181 : BitVec 32 := 8#32
  let v1842 : BitVec 32 := Scalar.muli v413 c8_i32_1181
  let v1843 : BitVec 32 := Scalar.addi c3200_i32_1182 v1842
  v1843
def k0_mult174 (k0_t1 : Fin k0_t1_loop.trips) : BitVec 32 :=
  let c3456_i32_1184 : BitVec 32 := 3456#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1183 : BitVec 32 := 8#32
  let v1845 : BitVec 32 := Scalar.muli v413 c8_i32_1183
  let v1846 : BitVec 32 := Scalar.addi c3456_i32_1184 v1845
  v1846
def k0_mult175 (k0_t1 : Fin k0_t1_loop.trips) : BitVec 32 :=
  let c3712_i32_1186 : BitVec 32 := 3712#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1185 : BitVec 32 := 8#32
  let v1848 : BitVec 32 := Scalar.muli v413 c8_i32_1185
  let v1849 : BitVec 32 := Scalar.addi c3712_i32_1186 v1848
  v1849
def k0_mult176 (k0_t1 : Fin k0_t1_loop.trips) : BitVec 32 :=
  let c3968_i32_1188 : BitVec 32 := 3968#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1187 : BitVec 32 := 8#32
  let v1851 : BitVec 32 := Scalar.muli v413 c8_i32_1187
  let v1852 : BitVec 32 := Scalar.addi c3968_i32_1188 v1851
  v1852
def k0_mult177 (k0_t1 : Fin k0_t1_loop.trips) : BitVec 32 :=
  let c128_i32_1190 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1189 : BitVec 32 := 8#32
  let v1854 : BitVec 32 := Scalar.muli v413 c8_i32_1189
  let v1855 : BitVec 32 := Scalar.addi c128_i32_1190 v1854
  let c8_i32_1191 : BitVec 32 := 8#32
  let v1856 : BitVec 32 := Scalar.subi v1855 c8_i32_1191
  v1856
def k0_mult178 (k0_t1 : Fin k0_t1_loop.trips) : BitVec 32 :=
  let c384_i32_1193 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1192 : BitVec 32 := 8#32
  let v1858 : BitVec 32 := Scalar.muli v413 c8_i32_1192
  let v1859 : BitVec 32 := Scalar.addi c384_i32_1193 v1858
  let c8_i32_1194 : BitVec 32 := 8#32
  let v1860 : BitVec 32 := Scalar.subi v1859 c8_i32_1194
  v1860
def k0_mult179 (k0_t1 : Fin k0_t1_loop.trips) : BitVec 32 :=
  let c640_i32_1196 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1195 : BitVec 32 := 8#32
  let v1862 : BitVec 32 := Scalar.muli v413 c8_i32_1195
  let v1863 : BitVec 32 := Scalar.addi c640_i32_1196 v1862
  let c8_i32_1197 : BitVec 32 := 8#32
  let v1864 : BitVec 32 := Scalar.subi v1863 c8_i32_1197
  v1864
def k0_mult180 (k0_t1 : Fin k0_t1_loop.trips) : BitVec 32 :=
  let c896_i32_1199 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1198 : BitVec 32 := 8#32
  let v1866 : BitVec 32 := Scalar.muli v413 c8_i32_1198
  let v1867 : BitVec 32 := Scalar.addi c896_i32_1199 v1866
  let c8_i32_1200 : BitVec 32 := 8#32
  let v1868 : BitVec 32 := Scalar.subi v1867 c8_i32_1200
  v1868
def k0_mult181 (k0_t1 : Fin k0_t1_loop.trips) : BitVec 32 :=
  let c1152_i32_1202 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1201 : BitVec 32 := 8#32
  let v1870 : BitVec 32 := Scalar.muli v413 c8_i32_1201
  let v1871 : BitVec 32 := Scalar.addi c1152_i32_1202 v1870
  let c8_i32_1203 : BitVec 32 := 8#32
  let v1872 : BitVec 32 := Scalar.subi v1871 c8_i32_1203
  v1872
def k0_mult182 (k0_t1 : Fin k0_t1_loop.trips) : BitVec 32 :=
  let c1408_i32_1205 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1204 : BitVec 32 := 8#32
  let v1874 : BitVec 32 := Scalar.muli v413 c8_i32_1204
  let v1875 : BitVec 32 := Scalar.addi c1408_i32_1205 v1874
  let c8_i32_1206 : BitVec 32 := 8#32
  let v1876 : BitVec 32 := Scalar.subi v1875 c8_i32_1206
  v1876
def k0_mult183 (k0_t1 : Fin k0_t1_loop.trips) : BitVec 32 :=
  let c1664_i32_1208 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1207 : BitVec 32 := 8#32
  let v1878 : BitVec 32 := Scalar.muli v413 c8_i32_1207
  let v1879 : BitVec 32 := Scalar.addi c1664_i32_1208 v1878
  let c8_i32_1209 : BitVec 32 := 8#32
  let v1880 : BitVec 32 := Scalar.subi v1879 c8_i32_1209
  v1880
def k0_mult184 (k0_t1 : Fin k0_t1_loop.trips) : BitVec 32 :=
  let c1920_i32_1211 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1210 : BitVec 32 := 8#32
  let v1882 : BitVec 32 := Scalar.muli v413 c8_i32_1210
  let v1883 : BitVec 32 := Scalar.addi c1920_i32_1211 v1882
  let c8_i32_1212 : BitVec 32 := 8#32
  let v1884 : BitVec 32 := Scalar.subi v1883 c8_i32_1212
  v1884
def k0_mult185 (k0_t1 : Fin k0_t1_loop.trips) : BitVec 32 :=
  let c2176_i32_1214 : BitVec 32 := 2176#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1213 : BitVec 32 := 8#32
  let v1886 : BitVec 32 := Scalar.muli v413 c8_i32_1213
  let v1887 : BitVec 32 := Scalar.addi c2176_i32_1214 v1886
  let c8_i32_1215 : BitVec 32 := 8#32
  let v1888 : BitVec 32 := Scalar.subi v1887 c8_i32_1215
  v1888
def k0_mult186 (k0_t1 : Fin k0_t1_loop.trips) : BitVec 32 :=
  let c2432_i32_1217 : BitVec 32 := 2432#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1216 : BitVec 32 := 8#32
  let v1890 : BitVec 32 := Scalar.muli v413 c8_i32_1216
  let v1891 : BitVec 32 := Scalar.addi c2432_i32_1217 v1890
  let c8_i32_1218 : BitVec 32 := 8#32
  let v1892 : BitVec 32 := Scalar.subi v1891 c8_i32_1218
  v1892
def k0_mult187 (k0_t1 : Fin k0_t1_loop.trips) : BitVec 32 :=
  let c2688_i32_1220 : BitVec 32 := 2688#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1219 : BitVec 32 := 8#32
  let v1894 : BitVec 32 := Scalar.muli v413 c8_i32_1219
  let v1895 : BitVec 32 := Scalar.addi c2688_i32_1220 v1894
  let c8_i32_1221 : BitVec 32 := 8#32
  let v1896 : BitVec 32 := Scalar.subi v1895 c8_i32_1221
  v1896
def k0_mult188 (k0_t1 : Fin k0_t1_loop.trips) : BitVec 32 :=
  let c2944_i32_1223 : BitVec 32 := 2944#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1222 : BitVec 32 := 8#32
  let v1898 : BitVec 32 := Scalar.muli v413 c8_i32_1222
  let v1899 : BitVec 32 := Scalar.addi c2944_i32_1223 v1898
  let c8_i32_1224 : BitVec 32 := 8#32
  let v1900 : BitVec 32 := Scalar.subi v1899 c8_i32_1224
  v1900
def k0_mult189 (k0_t1 : Fin k0_t1_loop.trips) : BitVec 32 :=
  let c3200_i32_1226 : BitVec 32 := 3200#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1225 : BitVec 32 := 8#32
  let v1902 : BitVec 32 := Scalar.muli v413 c8_i32_1225
  let v1903 : BitVec 32 := Scalar.addi c3200_i32_1226 v1902
  let c8_i32_1227 : BitVec 32 := 8#32
  let v1904 : BitVec 32 := Scalar.subi v1903 c8_i32_1227
  v1904
def k0_mult190 (k0_t1 : Fin k0_t1_loop.trips) : BitVec 32 :=
  let c3456_i32_1229 : BitVec 32 := 3456#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1228 : BitVec 32 := 8#32
  let v1906 : BitVec 32 := Scalar.muli v413 c8_i32_1228
  let v1907 : BitVec 32 := Scalar.addi c3456_i32_1229 v1906
  let c8_i32_1230 : BitVec 32 := 8#32
  let v1908 : BitVec 32 := Scalar.subi v1907 c8_i32_1230
  v1908
def k0_mult191 (k0_t1 : Fin k0_t1_loop.trips) : BitVec 32 :=
  let c3712_i32_1232 : BitVec 32 := 3712#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1231 : BitVec 32 := 8#32
  let v1910 : BitVec 32 := Scalar.muli v413 c8_i32_1231
  let v1911 : BitVec 32 := Scalar.addi c3712_i32_1232 v1910
  let c8_i32_1233 : BitVec 32 := 8#32
  let v1912 : BitVec 32 := Scalar.subi v1911 c8_i32_1233
  v1912
def k0_mult192 (k0_t1 : Fin k0_t1_loop.trips) : BitVec 32 :=
  let c3968_i32_1235 : BitVec 32 := 3968#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1234 : BitVec 32 := 8#32
  let v1914 : BitVec 32 := Scalar.muli v413 c8_i32_1234
  let v1915 : BitVec 32 := Scalar.addi c3968_i32_1235 v1914
  let c8_i32_1236 : BitVec 32 := 8#32
  let v1916 : BitVec 32 := Scalar.subi v1915 c8_i32_1236
  v1916
def k0_mult193 (k0_t1 : Fin k0_t1_loop.trips) : BitVec 32 :=
  let c0_i32_1373 : BitVec 32 := 0#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1372 : BitVec 32 := 8#32
  let v2206 : BitVec 32 := Scalar.muli v407 c8_i32_1372
  let v2207 : BitVec 32 := Scalar.addi c0_i32_1373 v2206
  v2207
def k0_mult194 (k0_t1 : Fin k0_t1_loop.trips) : BitVec 32 :=
  let c128_i32_1375 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1374 : BitVec 32 := 8#32
  let v2209 : BitVec 32 := Scalar.muli v407 c8_i32_1374
  let v2210 : BitVec 32 := Scalar.addi c128_i32_1375 v2209
  v2210
def k0_mult195 (k0_t1 : Fin k0_t1_loop.trips) : BitVec 32 :=
  let c256_i32_1377 : BitVec 32 := 256#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1376 : BitVec 32 := 8#32
  let v2212 : BitVec 32 := Scalar.muli v407 c8_i32_1376
  let v2213 : BitVec 32 := Scalar.addi c256_i32_1377 v2212
  v2213
def k0_mult196 (k0_t1 : Fin k0_t1_loop.trips) : BitVec 32 :=
  let c384_i32_1379 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1378 : BitVec 32 := 8#32
  let v2215 : BitVec 32 := Scalar.muli v407 c8_i32_1378
  let v2216 : BitVec 32 := Scalar.addi c384_i32_1379 v2215
  v2216
def k0_mult197 (k0_t1 : Fin k0_t1_loop.trips) : BitVec 32 :=
  let c512_i32_1381 : BitVec 32 := 512#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1380 : BitVec 32 := 8#32
  let v2218 : BitVec 32 := Scalar.muli v407 c8_i32_1380
  let v2219 : BitVec 32 := Scalar.addi c512_i32_1381 v2218
  v2219
def k0_mult198 (k0_t1 : Fin k0_t1_loop.trips) : BitVec 32 :=
  let c640_i32_1383 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1382 : BitVec 32 := 8#32
  let v2221 : BitVec 32 := Scalar.muli v407 c8_i32_1382
  let v2222 : BitVec 32 := Scalar.addi c640_i32_1383 v2221
  v2222
def k0_mult199 (k0_t1 : Fin k0_t1_loop.trips) : BitVec 32 :=
  let c768_i32_1385 : BitVec 32 := 768#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1384 : BitVec 32 := 8#32
  let v2224 : BitVec 32 := Scalar.muli v407 c8_i32_1384
  let v2225 : BitVec 32 := Scalar.addi c768_i32_1385 v2224
  v2225
def k0_mult200 (k0_t1 : Fin k0_t1_loop.trips) : BitVec 32 :=
  let c896_i32_1387 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1386 : BitVec 32 := 8#32
  let v2227 : BitVec 32 := Scalar.muli v407 c8_i32_1386
  let v2228 : BitVec 32 := Scalar.addi c896_i32_1387 v2227
  v2228
def k0_mult201 (k0_t1 : Fin k0_t1_loop.trips) : BitVec 32 :=
  let c1024_i32_1389 : BitVec 32 := 1024#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1388 : BitVec 32 := 8#32
  let v2230 : BitVec 32 := Scalar.muli v407 c8_i32_1388
  let v2231 : BitVec 32 := Scalar.addi c1024_i32_1389 v2230
  v2231
def k0_mult202 (k0_t1 : Fin k0_t1_loop.trips) : BitVec 32 :=
  let c1152_i32_1391 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1390 : BitVec 32 := 8#32
  let v2233 : BitVec 32 := Scalar.muli v407 c8_i32_1390
  let v2234 : BitVec 32 := Scalar.addi c1152_i32_1391 v2233
  v2234
def k0_mult203 (k0_t1 : Fin k0_t1_loop.trips) : BitVec 32 :=
  let c1280_i32_1393 : BitVec 32 := 1280#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1392 : BitVec 32 := 8#32
  let v2236 : BitVec 32 := Scalar.muli v407 c8_i32_1392
  let v2237 : BitVec 32 := Scalar.addi c1280_i32_1393 v2236
  v2237
def k0_mult204 (k0_t1 : Fin k0_t1_loop.trips) : BitVec 32 :=
  let c1408_i32_1395 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1394 : BitVec 32 := 8#32
  let v2239 : BitVec 32 := Scalar.muli v407 c8_i32_1394
  let v2240 : BitVec 32 := Scalar.addi c1408_i32_1395 v2239
  v2240
def k0_mult205 (k0_t1 : Fin k0_t1_loop.trips) : BitVec 32 :=
  let c1536_i32_1397 : BitVec 32 := 1536#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1396 : BitVec 32 := 8#32
  let v2242 : BitVec 32 := Scalar.muli v407 c8_i32_1396
  let v2243 : BitVec 32 := Scalar.addi c1536_i32_1397 v2242
  v2243
def k0_mult206 (k0_t1 : Fin k0_t1_loop.trips) : BitVec 32 :=
  let c1664_i32_1399 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1398 : BitVec 32 := 8#32
  let v2245 : BitVec 32 := Scalar.muli v407 c8_i32_1398
  let v2246 : BitVec 32 := Scalar.addi c1664_i32_1399 v2245
  v2246
def k0_mult207 (k0_t1 : Fin k0_t1_loop.trips) : BitVec 32 :=
  let c1792_i32_1401 : BitVec 32 := 1792#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1400 : BitVec 32 := 8#32
  let v2248 : BitVec 32 := Scalar.muli v407 c8_i32_1400
  let v2249 : BitVec 32 := Scalar.addi c1792_i32_1401 v2248
  v2249
def k0_mult208 (k0_t1 : Fin k0_t1_loop.trips) : BitVec 32 :=
  let c1920_i32_1403 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1402 : BitVec 32 := 8#32
  let v2251 : BitVec 32 := Scalar.muli v407 c8_i32_1402
  let v2252 : BitVec 32 := Scalar.addi c1920_i32_1403 v2251
  v2252
def k0_mult209 (k0_t1 : Fin k0_t1_loop.trips) : BitVec 32 :=
  let c128_i32_1405 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1404 : BitVec 32 := 8#32
  let v2254 : BitVec 32 := Scalar.muli v407 c8_i32_1404
  let v2255 : BitVec 32 := Scalar.addi c128_i32_1405 v2254
  v2255
def k0_mult210 (k0_t1 : Fin k0_t1_loop.trips) : BitVec 32 :=
  let c384_i32_1407 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1406 : BitVec 32 := 8#32
  let v2257 : BitVec 32 := Scalar.muli v407 c8_i32_1406
  let v2258 : BitVec 32 := Scalar.addi c384_i32_1407 v2257
  v2258
def k0_mult211 (k0_t1 : Fin k0_t1_loop.trips) : BitVec 32 :=
  let c640_i32_1409 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1408 : BitVec 32 := 8#32
  let v2260 : BitVec 32 := Scalar.muli v407 c8_i32_1408
  let v2261 : BitVec 32 := Scalar.addi c640_i32_1409 v2260
  v2261
def k0_mult212 (k0_t1 : Fin k0_t1_loop.trips) : BitVec 32 :=
  let c896_i32_1411 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1410 : BitVec 32 := 8#32
  let v2263 : BitVec 32 := Scalar.muli v407 c8_i32_1410
  let v2264 : BitVec 32 := Scalar.addi c896_i32_1411 v2263
  v2264
def k0_mult213 (k0_t1 : Fin k0_t1_loop.trips) : BitVec 32 :=
  let c1152_i32_1413 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1412 : BitVec 32 := 8#32
  let v2266 : BitVec 32 := Scalar.muli v407 c8_i32_1412
  let v2267 : BitVec 32 := Scalar.addi c1152_i32_1413 v2266
  v2267
def k0_mult214 (k0_t1 : Fin k0_t1_loop.trips) : BitVec 32 :=
  let c1408_i32_1415 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1414 : BitVec 32 := 8#32
  let v2269 : BitVec 32 := Scalar.muli v407 c8_i32_1414
  let v2270 : BitVec 32 := Scalar.addi c1408_i32_1415 v2269
  v2270
def k0_mult215 (k0_t1 : Fin k0_t1_loop.trips) : BitVec 32 :=
  let c1664_i32_1417 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1416 : BitVec 32 := 8#32
  let v2272 : BitVec 32 := Scalar.muli v407 c8_i32_1416
  let v2273 : BitVec 32 := Scalar.addi c1664_i32_1417 v2272
  v2273
def k0_mult216 (k0_t1 : Fin k0_t1_loop.trips) : BitVec 32 :=
  let c1920_i32_1419 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1418 : BitVec 32 := 8#32
  let v2275 : BitVec 32 := Scalar.muli v407 c8_i32_1418
  let v2276 : BitVec 32 := Scalar.addi c1920_i32_1419 v2275
  v2276
def k0_mult217 (k0_t1 : Fin k0_t1_loop.trips) : BitVec 32 :=
  let c2176_i32_1421 : BitVec 32 := 2176#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1420 : BitVec 32 := 8#32
  let v2278 : BitVec 32 := Scalar.muli v407 c8_i32_1420
  let v2279 : BitVec 32 := Scalar.addi c2176_i32_1421 v2278
  v2279
def k0_mult218 (k0_t1 : Fin k0_t1_loop.trips) : BitVec 32 :=
  let c2432_i32_1423 : BitVec 32 := 2432#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1422 : BitVec 32 := 8#32
  let v2281 : BitVec 32 := Scalar.muli v407 c8_i32_1422
  let v2282 : BitVec 32 := Scalar.addi c2432_i32_1423 v2281
  v2282
def k0_mult219 (k0_t1 : Fin k0_t1_loop.trips) : BitVec 32 :=
  let c2688_i32_1425 : BitVec 32 := 2688#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1424 : BitVec 32 := 8#32
  let v2284 : BitVec 32 := Scalar.muli v407 c8_i32_1424
  let v2285 : BitVec 32 := Scalar.addi c2688_i32_1425 v2284
  v2285
def k0_mult220 (k0_t1 : Fin k0_t1_loop.trips) : BitVec 32 :=
  let c2944_i32_1427 : BitVec 32 := 2944#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1426 : BitVec 32 := 8#32
  let v2287 : BitVec 32 := Scalar.muli v407 c8_i32_1426
  let v2288 : BitVec 32 := Scalar.addi c2944_i32_1427 v2287
  v2288
def k0_mult221 (k0_t1 : Fin k0_t1_loop.trips) : BitVec 32 :=
  let c3200_i32_1429 : BitVec 32 := 3200#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1428 : BitVec 32 := 8#32
  let v2290 : BitVec 32 := Scalar.muli v407 c8_i32_1428
  let v2291 : BitVec 32 := Scalar.addi c3200_i32_1429 v2290
  v2291
def k0_mult222 (k0_t1 : Fin k0_t1_loop.trips) : BitVec 32 :=
  let c3456_i32_1431 : BitVec 32 := 3456#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1430 : BitVec 32 := 8#32
  let v2293 : BitVec 32 := Scalar.muli v407 c8_i32_1430
  let v2294 : BitVec 32 := Scalar.addi c3456_i32_1431 v2293
  v2294
def k0_mult223 (k0_t1 : Fin k0_t1_loop.trips) : BitVec 32 :=
  let c3712_i32_1433 : BitVec 32 := 3712#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1432 : BitVec 32 := 8#32
  let v2296 : BitVec 32 := Scalar.muli v407 c8_i32_1432
  let v2297 : BitVec 32 := Scalar.addi c3712_i32_1433 v2296
  v2297
def k0_mult224 (k0_t1 : Fin k0_t1_loop.trips) : BitVec 32 :=
  let c3968_i32_1435 : BitVec 32 := 3968#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1434 : BitVec 32 := 8#32
  let v2299 : BitVec 32 := Scalar.muli v407 c8_i32_1434
  let v2300 : BitVec 32 := Scalar.addi c3968_i32_1435 v2299
  v2300
def k0_mult225 (k0_t1 : Fin k0_t1_loop.trips) : BitVec 32 :=
  let c128_i32_1437 : BitVec 32 := 128#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1436 : BitVec 32 := 8#32
  let v2302 : BitVec 32 := Scalar.muli v407 c8_i32_1436
  let v2303 : BitVec 32 := Scalar.addi c128_i32_1437 v2302
  let c8_i32_1438 : BitVec 32 := 8#32
  let v2304 : BitVec 32 := Scalar.subi v2303 c8_i32_1438
  v2304
def k0_mult226 (k0_t1 : Fin k0_t1_loop.trips) : BitVec 32 :=
  let c384_i32_1440 : BitVec 32 := 384#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1439 : BitVec 32 := 8#32
  let v2306 : BitVec 32 := Scalar.muli v407 c8_i32_1439
  let v2307 : BitVec 32 := Scalar.addi c384_i32_1440 v2306
  let c8_i32_1441 : BitVec 32 := 8#32
  let v2308 : BitVec 32 := Scalar.subi v2307 c8_i32_1441
  v2308
def k0_mult227 (k0_t1 : Fin k0_t1_loop.trips) : BitVec 32 :=
  let c640_i32_1443 : BitVec 32 := 640#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1442 : BitVec 32 := 8#32
  let v2310 : BitVec 32 := Scalar.muli v407 c8_i32_1442
  let v2311 : BitVec 32 := Scalar.addi c640_i32_1443 v2310
  let c8_i32_1444 : BitVec 32 := 8#32
  let v2312 : BitVec 32 := Scalar.subi v2311 c8_i32_1444
  v2312
def k0_mult228 (k0_t1 : Fin k0_t1_loop.trips) : BitVec 32 :=
  let c896_i32_1446 : BitVec 32 := 896#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1445 : BitVec 32 := 8#32
  let v2314 : BitVec 32 := Scalar.muli v407 c8_i32_1445
  let v2315 : BitVec 32 := Scalar.addi c896_i32_1446 v2314
  let c8_i32_1447 : BitVec 32 := 8#32
  let v2316 : BitVec 32 := Scalar.subi v2315 c8_i32_1447
  v2316
def k0_mult229 (k0_t1 : Fin k0_t1_loop.trips) : BitVec 32 :=
  let c1152_i32_1449 : BitVec 32 := 1152#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1448 : BitVec 32 := 8#32
  let v2318 : BitVec 32 := Scalar.muli v407 c8_i32_1448
  let v2319 : BitVec 32 := Scalar.addi c1152_i32_1449 v2318
  let c8_i32_1450 : BitVec 32 := 8#32
  let v2320 : BitVec 32 := Scalar.subi v2319 c8_i32_1450
  v2320
def k0_mult230 (k0_t1 : Fin k0_t1_loop.trips) : BitVec 32 :=
  let c1408_i32_1452 : BitVec 32 := 1408#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1451 : BitVec 32 := 8#32
  let v2322 : BitVec 32 := Scalar.muli v407 c8_i32_1451
  let v2323 : BitVec 32 := Scalar.addi c1408_i32_1452 v2322
  let c8_i32_1453 : BitVec 32 := 8#32
  let v2324 : BitVec 32 := Scalar.subi v2323 c8_i32_1453
  v2324
def k0_mult231 (k0_t1 : Fin k0_t1_loop.trips) : BitVec 32 :=
  let c1664_i32_1455 : BitVec 32 := 1664#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1454 : BitVec 32 := 8#32
  let v2326 : BitVec 32 := Scalar.muli v407 c8_i32_1454
  let v2327 : BitVec 32 := Scalar.addi c1664_i32_1455 v2326
  let c8_i32_1456 : BitVec 32 := 8#32
  let v2328 : BitVec 32 := Scalar.subi v2327 c8_i32_1456
  v2328
def k0_mult232 (k0_t1 : Fin k0_t1_loop.trips) : BitVec 32 :=
  let c1920_i32_1458 : BitVec 32 := 1920#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1457 : BitVec 32 := 8#32
  let v2330 : BitVec 32 := Scalar.muli v407 c8_i32_1457
  let v2331 : BitVec 32 := Scalar.addi c1920_i32_1458 v2330
  let c8_i32_1459 : BitVec 32 := 8#32
  let v2332 : BitVec 32 := Scalar.subi v2331 c8_i32_1459
  v2332
def k0_mult233 (k0_t1 : Fin k0_t1_loop.trips) : BitVec 32 :=
  let c2176_i32_1461 : BitVec 32 := 2176#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1460 : BitVec 32 := 8#32
  let v2334 : BitVec 32 := Scalar.muli v407 c8_i32_1460
  let v2335 : BitVec 32 := Scalar.addi c2176_i32_1461 v2334
  let c8_i32_1462 : BitVec 32 := 8#32
  let v2336 : BitVec 32 := Scalar.subi v2335 c8_i32_1462
  v2336
def k0_mult234 (k0_t1 : Fin k0_t1_loop.trips) : BitVec 32 :=
  let c2432_i32_1464 : BitVec 32 := 2432#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1463 : BitVec 32 := 8#32
  let v2338 : BitVec 32 := Scalar.muli v407 c8_i32_1463
  let v2339 : BitVec 32 := Scalar.addi c2432_i32_1464 v2338
  let c8_i32_1465 : BitVec 32 := 8#32
  let v2340 : BitVec 32 := Scalar.subi v2339 c8_i32_1465
  v2340
def k0_mult235 (k0_t1 : Fin k0_t1_loop.trips) : BitVec 32 :=
  let c2688_i32_1467 : BitVec 32 := 2688#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1466 : BitVec 32 := 8#32
  let v2342 : BitVec 32 := Scalar.muli v407 c8_i32_1466
  let v2343 : BitVec 32 := Scalar.addi c2688_i32_1467 v2342
  let c8_i32_1468 : BitVec 32 := 8#32
  let v2344 : BitVec 32 := Scalar.subi v2343 c8_i32_1468
  v2344
def k0_mult236 (k0_t1 : Fin k0_t1_loop.trips) : BitVec 32 :=
  let c2944_i32_1470 : BitVec 32 := 2944#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1469 : BitVec 32 := 8#32
  let v2346 : BitVec 32 := Scalar.muli v407 c8_i32_1469
  let v2347 : BitVec 32 := Scalar.addi c2944_i32_1470 v2346
  let c8_i32_1471 : BitVec 32 := 8#32
  let v2348 : BitVec 32 := Scalar.subi v2347 c8_i32_1471
  v2348
def k0_mult237 (k0_t1 : Fin k0_t1_loop.trips) : BitVec 32 :=
  let c3200_i32_1473 : BitVec 32 := 3200#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1472 : BitVec 32 := 8#32
  let v2350 : BitVec 32 := Scalar.muli v407 c8_i32_1472
  let v2351 : BitVec 32 := Scalar.addi c3200_i32_1473 v2350
  let c8_i32_1474 : BitVec 32 := 8#32
  let v2352 : BitVec 32 := Scalar.subi v2351 c8_i32_1474
  v2352
def k0_mult238 (k0_t1 : Fin k0_t1_loop.trips) : BitVec 32 :=
  let c3456_i32_1476 : BitVec 32 := 3456#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1475 : BitVec 32 := 8#32
  let v2354 : BitVec 32 := Scalar.muli v407 c8_i32_1475
  let v2355 : BitVec 32 := Scalar.addi c3456_i32_1476 v2354
  let c8_i32_1477 : BitVec 32 := 8#32
  let v2356 : BitVec 32 := Scalar.subi v2355 c8_i32_1477
  v2356
def k0_mult239 (k0_t1 : Fin k0_t1_loop.trips) : BitVec 32 :=
  let c3712_i32_1479 : BitVec 32 := 3712#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1478 : BitVec 32 := 8#32
  let v2358 : BitVec 32 := Scalar.muli v407 c8_i32_1478
  let v2359 : BitVec 32 := Scalar.addi c3712_i32_1479 v2358
  let c8_i32_1480 : BitVec 32 := 8#32
  let v2360 : BitVec 32 := Scalar.subi v2359 c8_i32_1480
  v2360
def k0_mult240 (k0_t1 : Fin k0_t1_loop.trips) : BitVec 32 :=
  let c3968_i32_1482 : BitVec 32 := 3968#32
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let c0_i32_403 : BitVec 32 := 0#32
  let v407 : BitVec 32 := Scalar.addi v406 c0_i32_403
  let c8_i32_1481 : BitVec 32 := 8#32
  let v2362 : BitVec 32 := Scalar.muli v407 c8_i32_1481
  let v2363 : BitVec 32 := Scalar.addi c3968_i32_1482 v2362
  let c8_i32_1483 : BitVec 32 := 8#32
  let v2364 : BitVec 32 := Scalar.subi v2363 c8_i32_1483
  v2364
def k0_off4 (i : grid0.Coords) (k0_t1 : Fin k0_t1_loop.trips) (c0_i32_403 : BitVec 32) (c0_i32_1488 : BitVec 32) : Fin 3 → Nat :=
  let c0_i32_1486 : BitVec 32 := 0#32
  let c3_i32 : BitVec 32 := 3#32
  let arg1 : BitVec 32 := BitVec.ofNat 32 (i 1).val
  let v0 : BitVec 32 := Scalar.subi c3_i32 arg1
  let c0_i32_1484 : BitVec 32 := 0#32
  let v2366 : BitVec 1 := Scalar.cmpi .eq v0 c0_i32_1484
  let c0_i32_229 : BitVec 32 := 0#32
  let c1_i32 : BitVec 32 := 1#32
  let arg19 : BitVec 32 := Scf.iv c0_i32_229 c1_i32 k0_t1
  let c4_i32_402 : BitVec 32 := 4#32
  let v406 : BitVec 32 := Scalar.muli arg19 c4_i32_402
  let v407 : BitVec 32 := Scalar.addi v406 c0_i32_403
  let c0_i32_1485 : BitVec 32 := 0#32
  let v2367 : BitVec 1 := Scalar.cmpi .eq v407 c0_i32_1485
  let v2368 : BitVec 1 := Scalar.andi v2366 v2367
  let v2369 : BitVec 32 := Scalar.extui v2368
  let v2370 : BitVec 32 := Scalar.addi c0_i32_1486 v2369
  let c2_i32_1487 : BitVec 32 := 2#32
  let v2371 : BitVec 32 := Scalar.muli v2370 c2_i32_1487
  let v2374 : BitVec 32 := Scalar.addi v2371 c0_i32_1488
  let v2375 : Index := Scalar.indexCast v2374
  let c0_1489 : Index := 0#32
  let c0_1490 : Index := 0#32
  ![v2375.toNat, 0, 0]
def k0_mult241 (k0_t1 : Fin k0_t1_loop.trips) : BitVec 32 :=
  let c0_i32_1498 : BitVec 32 := 0#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1497 : BitVec 32 := 8#32
  let v2421 : BitVec 32 := Scalar.muli v409 c8_i32_1497
  let v2422 : BitVec 32 := Scalar.addi c0_i32_1498 v2421
  v2422
def k0_mult242 (k0_t1 : Fin k0_t1_loop.trips) : BitVec 32 :=
  let c128_i32_1500 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1499 : BitVec 32 := 8#32
  let v2424 : BitVec 32 := Scalar.muli v409 c8_i32_1499
  let v2425 : BitVec 32 := Scalar.addi c128_i32_1500 v2424
  v2425
def k0_mult243 (k0_t1 : Fin k0_t1_loop.trips) : BitVec 32 :=
  let c256_i32_1502 : BitVec 32 := 256#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1501 : BitVec 32 := 8#32
  let v2427 : BitVec 32 := Scalar.muli v409 c8_i32_1501
  let v2428 : BitVec 32 := Scalar.addi c256_i32_1502 v2427
  v2428
def k0_mult244 (k0_t1 : Fin k0_t1_loop.trips) : BitVec 32 :=
  let c384_i32_1504 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1503 : BitVec 32 := 8#32
  let v2430 : BitVec 32 := Scalar.muli v409 c8_i32_1503
  let v2431 : BitVec 32 := Scalar.addi c384_i32_1504 v2430
  v2431
def k0_mult245 (k0_t1 : Fin k0_t1_loop.trips) : BitVec 32 :=
  let c512_i32_1506 : BitVec 32 := 512#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1505 : BitVec 32 := 8#32
  let v2433 : BitVec 32 := Scalar.muli v409 c8_i32_1505
  let v2434 : BitVec 32 := Scalar.addi c512_i32_1506 v2433
  v2434
def k0_mult246 (k0_t1 : Fin k0_t1_loop.trips) : BitVec 32 :=
  let c640_i32_1508 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1507 : BitVec 32 := 8#32
  let v2436 : BitVec 32 := Scalar.muli v409 c8_i32_1507
  let v2437 : BitVec 32 := Scalar.addi c640_i32_1508 v2436
  v2437
def k0_mult247 (k0_t1 : Fin k0_t1_loop.trips) : BitVec 32 :=
  let c768_i32_1510 : BitVec 32 := 768#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1509 : BitVec 32 := 8#32
  let v2439 : BitVec 32 := Scalar.muli v409 c8_i32_1509
  let v2440 : BitVec 32 := Scalar.addi c768_i32_1510 v2439
  v2440
def k0_mult248 (k0_t1 : Fin k0_t1_loop.trips) : BitVec 32 :=
  let c896_i32_1512 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1511 : BitVec 32 := 8#32
  let v2442 : BitVec 32 := Scalar.muli v409 c8_i32_1511
  let v2443 : BitVec 32 := Scalar.addi c896_i32_1512 v2442
  v2443
def k0_mult249 (k0_t1 : Fin k0_t1_loop.trips) : BitVec 32 :=
  let c1024_i32_1514 : BitVec 32 := 1024#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1513 : BitVec 32 := 8#32
  let v2445 : BitVec 32 := Scalar.muli v409 c8_i32_1513
  let v2446 : BitVec 32 := Scalar.addi c1024_i32_1514 v2445
  v2446
def k0_mult250 (k0_t1 : Fin k0_t1_loop.trips) : BitVec 32 :=
  let c1152_i32_1516 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1515 : BitVec 32 := 8#32
  let v2448 : BitVec 32 := Scalar.muli v409 c8_i32_1515
  let v2449 : BitVec 32 := Scalar.addi c1152_i32_1516 v2448
  v2449
def k0_mult251 (k0_t1 : Fin k0_t1_loop.trips) : BitVec 32 :=
  let c1280_i32_1518 : BitVec 32 := 1280#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1517 : BitVec 32 := 8#32
  let v2451 : BitVec 32 := Scalar.muli v409 c8_i32_1517
  let v2452 : BitVec 32 := Scalar.addi c1280_i32_1518 v2451
  v2452
def k0_mult252 (k0_t1 : Fin k0_t1_loop.trips) : BitVec 32 :=
  let c1408_i32_1520 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1519 : BitVec 32 := 8#32
  let v2454 : BitVec 32 := Scalar.muli v409 c8_i32_1519
  let v2455 : BitVec 32 := Scalar.addi c1408_i32_1520 v2454
  v2455
def k0_mult253 (k0_t1 : Fin k0_t1_loop.trips) : BitVec 32 :=
  let c1536_i32_1522 : BitVec 32 := 1536#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1521 : BitVec 32 := 8#32
  let v2457 : BitVec 32 := Scalar.muli v409 c8_i32_1521
  let v2458 : BitVec 32 := Scalar.addi c1536_i32_1522 v2457
  v2458
def k0_mult254 (k0_t1 : Fin k0_t1_loop.trips) : BitVec 32 :=
  let c1664_i32_1524 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1523 : BitVec 32 := 8#32
  let v2460 : BitVec 32 := Scalar.muli v409 c8_i32_1523
  let v2461 : BitVec 32 := Scalar.addi c1664_i32_1524 v2460
  v2461
def k0_mult255 (k0_t1 : Fin k0_t1_loop.trips) : BitVec 32 :=
  let c1792_i32_1526 : BitVec 32 := 1792#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1525 : BitVec 32 := 8#32
  let v2463 : BitVec 32 := Scalar.muli v409 c8_i32_1525
  let v2464 : BitVec 32 := Scalar.addi c1792_i32_1526 v2463
  v2464
def k0_mult256 (k0_t1 : Fin k0_t1_loop.trips) : BitVec 32 :=
  let c1920_i32_1528 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1527 : BitVec 32 := 8#32
  let v2466 : BitVec 32 := Scalar.muli v409 c8_i32_1527
  let v2467 : BitVec 32 := Scalar.addi c1920_i32_1528 v2466
  v2467
def k0_mult257 (k0_t1 : Fin k0_t1_loop.trips) : BitVec 32 :=
  let c128_i32_1530 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1529 : BitVec 32 := 8#32
  let v2469 : BitVec 32 := Scalar.muli v409 c8_i32_1529
  let v2470 : BitVec 32 := Scalar.addi c128_i32_1530 v2469
  v2470
def k0_mult258 (k0_t1 : Fin k0_t1_loop.trips) : BitVec 32 :=
  let c384_i32_1532 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1531 : BitVec 32 := 8#32
  let v2472 : BitVec 32 := Scalar.muli v409 c8_i32_1531
  let v2473 : BitVec 32 := Scalar.addi c384_i32_1532 v2472
  v2473
def k0_mult259 (k0_t1 : Fin k0_t1_loop.trips) : BitVec 32 :=
  let c640_i32_1534 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1533 : BitVec 32 := 8#32
  let v2475 : BitVec 32 := Scalar.muli v409 c8_i32_1533
  let v2476 : BitVec 32 := Scalar.addi c640_i32_1534 v2475
  v2476
def k0_mult260 (k0_t1 : Fin k0_t1_loop.trips) : BitVec 32 :=
  let c896_i32_1536 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1535 : BitVec 32 := 8#32
  let v2478 : BitVec 32 := Scalar.muli v409 c8_i32_1535
  let v2479 : BitVec 32 := Scalar.addi c896_i32_1536 v2478
  v2479
def k0_mult261 (k0_t1 : Fin k0_t1_loop.trips) : BitVec 32 :=
  let c1152_i32_1538 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1537 : BitVec 32 := 8#32
  let v2481 : BitVec 32 := Scalar.muli v409 c8_i32_1537
  let v2482 : BitVec 32 := Scalar.addi c1152_i32_1538 v2481
  v2482
def k0_mult262 (k0_t1 : Fin k0_t1_loop.trips) : BitVec 32 :=
  let c1408_i32_1540 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1539 : BitVec 32 := 8#32
  let v2484 : BitVec 32 := Scalar.muli v409 c8_i32_1539
  let v2485 : BitVec 32 := Scalar.addi c1408_i32_1540 v2484
  v2485
def k0_mult263 (k0_t1 : Fin k0_t1_loop.trips) : BitVec 32 :=
  let c1664_i32_1542 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1541 : BitVec 32 := 8#32
  let v2487 : BitVec 32 := Scalar.muli v409 c8_i32_1541
  let v2488 : BitVec 32 := Scalar.addi c1664_i32_1542 v2487
  v2488
def k0_mult264 (k0_t1 : Fin k0_t1_loop.trips) : BitVec 32 :=
  let c1920_i32_1544 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1543 : BitVec 32 := 8#32
  let v2490 : BitVec 32 := Scalar.muli v409 c8_i32_1543
  let v2491 : BitVec 32 := Scalar.addi c1920_i32_1544 v2490
  v2491
def k0_mult265 (k0_t1 : Fin k0_t1_loop.trips) : BitVec 32 :=
  let c2176_i32_1546 : BitVec 32 := 2176#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1545 : BitVec 32 := 8#32
  let v2493 : BitVec 32 := Scalar.muli v409 c8_i32_1545
  let v2494 : BitVec 32 := Scalar.addi c2176_i32_1546 v2493
  v2494
def k0_mult266 (k0_t1 : Fin k0_t1_loop.trips) : BitVec 32 :=
  let c2432_i32_1548 : BitVec 32 := 2432#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1547 : BitVec 32 := 8#32
  let v2496 : BitVec 32 := Scalar.muli v409 c8_i32_1547
  let v2497 : BitVec 32 := Scalar.addi c2432_i32_1548 v2496
  v2497
def k0_mult267 (k0_t1 : Fin k0_t1_loop.trips) : BitVec 32 :=
  let c2688_i32_1550 : BitVec 32 := 2688#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1549 : BitVec 32 := 8#32
  let v2499 : BitVec 32 := Scalar.muli v409 c8_i32_1549
  let v2500 : BitVec 32 := Scalar.addi c2688_i32_1550 v2499
  v2500
def k0_mult268 (k0_t1 : Fin k0_t1_loop.trips) : BitVec 32 :=
  let c2944_i32_1552 : BitVec 32 := 2944#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1551 : BitVec 32 := 8#32
  let v2502 : BitVec 32 := Scalar.muli v409 c8_i32_1551
  let v2503 : BitVec 32 := Scalar.addi c2944_i32_1552 v2502
  v2503
def k0_mult269 (k0_t1 : Fin k0_t1_loop.trips) : BitVec 32 :=
  let c3200_i32_1554 : BitVec 32 := 3200#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1553 : BitVec 32 := 8#32
  let v2505 : BitVec 32 := Scalar.muli v409 c8_i32_1553
  let v2506 : BitVec 32 := Scalar.addi c3200_i32_1554 v2505
  v2506
def k0_mult270 (k0_t1 : Fin k0_t1_loop.trips) : BitVec 32 :=
  let c3456_i32_1556 : BitVec 32 := 3456#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1555 : BitVec 32 := 8#32
  let v2508 : BitVec 32 := Scalar.muli v409 c8_i32_1555
  let v2509 : BitVec 32 := Scalar.addi c3456_i32_1556 v2508
  v2509
def k0_mult271 (k0_t1 : Fin k0_t1_loop.trips) : BitVec 32 :=
  let c3712_i32_1558 : BitVec 32 := 3712#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1557 : BitVec 32 := 8#32
  let v2511 : BitVec 32 := Scalar.muli v409 c8_i32_1557
  let v2512 : BitVec 32 := Scalar.addi c3712_i32_1558 v2511
  v2512
def k0_mult272 (k0_t1 : Fin k0_t1_loop.trips) : BitVec 32 :=
  let c3968_i32_1560 : BitVec 32 := 3968#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1559 : BitVec 32 := 8#32
  let v2514 : BitVec 32 := Scalar.muli v409 c8_i32_1559
  let v2515 : BitVec 32 := Scalar.addi c3968_i32_1560 v2514
  v2515
def k0_mult273 (k0_t1 : Fin k0_t1_loop.trips) : BitVec 32 :=
  let c128_i32_1562 : BitVec 32 := 128#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1561 : BitVec 32 := 8#32
  let v2517 : BitVec 32 := Scalar.muli v409 c8_i32_1561
  let v2518 : BitVec 32 := Scalar.addi c128_i32_1562 v2517
  let c8_i32_1563 : BitVec 32 := 8#32
  let v2519 : BitVec 32 := Scalar.subi v2518 c8_i32_1563
  v2519
def k0_mult274 (k0_t1 : Fin k0_t1_loop.trips) : BitVec 32 :=
  let c384_i32_1565 : BitVec 32 := 384#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1564 : BitVec 32 := 8#32
  let v2521 : BitVec 32 := Scalar.muli v409 c8_i32_1564
  let v2522 : BitVec 32 := Scalar.addi c384_i32_1565 v2521
  let c8_i32_1566 : BitVec 32 := 8#32
  let v2523 : BitVec 32 := Scalar.subi v2522 c8_i32_1566
  v2523
def k0_mult275 (k0_t1 : Fin k0_t1_loop.trips) : BitVec 32 :=
  let c640_i32_1568 : BitVec 32 := 640#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1567 : BitVec 32 := 8#32
  let v2525 : BitVec 32 := Scalar.muli v409 c8_i32_1567
  let v2526 : BitVec 32 := Scalar.addi c640_i32_1568 v2525
  let c8_i32_1569 : BitVec 32 := 8#32
  let v2527 : BitVec 32 := Scalar.subi v2526 c8_i32_1569
  v2527
def k0_mult276 (k0_t1 : Fin k0_t1_loop.trips) : BitVec 32 :=
  let c896_i32_1571 : BitVec 32 := 896#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1570 : BitVec 32 := 8#32
  let v2529 : BitVec 32 := Scalar.muli v409 c8_i32_1570
  let v2530 : BitVec 32 := Scalar.addi c896_i32_1571 v2529
  let c8_i32_1572 : BitVec 32 := 8#32
  let v2531 : BitVec 32 := Scalar.subi v2530 c8_i32_1572
  v2531
def k0_mult277 (k0_t1 : Fin k0_t1_loop.trips) : BitVec 32 :=
  let c1152_i32_1574 : BitVec 32 := 1152#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1573 : BitVec 32 := 8#32
  let v2533 : BitVec 32 := Scalar.muli v409 c8_i32_1573
  let v2534 : BitVec 32 := Scalar.addi c1152_i32_1574 v2533
  let c8_i32_1575 : BitVec 32 := 8#32
  let v2535 : BitVec 32 := Scalar.subi v2534 c8_i32_1575
  v2535
def k0_mult278 (k0_t1 : Fin k0_t1_loop.trips) : BitVec 32 :=
  let c1408_i32_1577 : BitVec 32 := 1408#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1576 : BitVec 32 := 8#32
  let v2537 : BitVec 32 := Scalar.muli v409 c8_i32_1576
  let v2538 : BitVec 32 := Scalar.addi c1408_i32_1577 v2537
  let c8_i32_1578 : BitVec 32 := 8#32
  let v2539 : BitVec 32 := Scalar.subi v2538 c8_i32_1578
  v2539
def k0_mult279 (k0_t1 : Fin k0_t1_loop.trips) : BitVec 32 :=
  let c1664_i32_1580 : BitVec 32 := 1664#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1579 : BitVec 32 := 8#32
  let v2541 : BitVec 32 := Scalar.muli v409 c8_i32_1579
  let v2542 : BitVec 32 := Scalar.addi c1664_i32_1580 v2541
  let c8_i32_1581 : BitVec 32 := 8#32
  let v2543 : BitVec 32 := Scalar.subi v2542 c8_i32_1581
  v2543
def k0_mult280 (k0_t1 : Fin k0_t1_loop.trips) : BitVec 32 :=
  let c1920_i32_1583 : BitVec 32 := 1920#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1582 : BitVec 32 := 8#32
  let v2545 : BitVec 32 := Scalar.muli v409 c8_i32_1582
  let v2546 : BitVec 32 := Scalar.addi c1920_i32_1583 v2545
  let c8_i32_1584 : BitVec 32 := 8#32
  let v2547 : BitVec 32 := Scalar.subi v2546 c8_i32_1584
  v2547
def k0_mult281 (k0_t1 : Fin k0_t1_loop.trips) : BitVec 32 :=
  let c2176_i32_1586 : BitVec 32 := 2176#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1585 : BitVec 32 := 8#32
  let v2549 : BitVec 32 := Scalar.muli v409 c8_i32_1585
  let v2550 : BitVec 32 := Scalar.addi c2176_i32_1586 v2549
  let c8_i32_1587 : BitVec 32 := 8#32
  let v2551 : BitVec 32 := Scalar.subi v2550 c8_i32_1587
  v2551
def k0_mult282 (k0_t1 : Fin k0_t1_loop.trips) : BitVec 32 :=
  let c2432_i32_1589 : BitVec 32 := 2432#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1588 : BitVec 32 := 8#32
  let v2553 : BitVec 32 := Scalar.muli v409 c8_i32_1588
  let v2554 : BitVec 32 := Scalar.addi c2432_i32_1589 v2553
  let c8_i32_1590 : BitVec 32 := 8#32
  let v2555 : BitVec 32 := Scalar.subi v2554 c8_i32_1590
  v2555
def k0_mult283 (k0_t1 : Fin k0_t1_loop.trips) : BitVec 32 :=
  let c2688_i32_1592 : BitVec 32 := 2688#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1591 : BitVec 32 := 8#32
  let v2557 : BitVec 32 := Scalar.muli v409 c8_i32_1591
  let v2558 : BitVec 32 := Scalar.addi c2688_i32_1592 v2557
  let c8_i32_1593 : BitVec 32 := 8#32
  let v2559 : BitVec 32 := Scalar.subi v2558 c8_i32_1593
  v2559
def k0_mult284 (k0_t1 : Fin k0_t1_loop.trips) : BitVec 32 :=
  let c2944_i32_1595 : BitVec 32 := 2944#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1594 : BitVec 32 := 8#32
  let v2561 : BitVec 32 := Scalar.muli v409 c8_i32_1594
  let v2562 : BitVec 32 := Scalar.addi c2944_i32_1595 v2561
  let c8_i32_1596 : BitVec 32 := 8#32
  let v2563 : BitVec 32 := Scalar.subi v2562 c8_i32_1596
  v2563
def k0_mult285 (k0_t1 : Fin k0_t1_loop.trips) : BitVec 32 :=
  let c3200_i32_1598 : BitVec 32 := 3200#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1597 : BitVec 32 := 8#32
  let v2565 : BitVec 32 := Scalar.muli v409 c8_i32_1597
  let v2566 : BitVec 32 := Scalar.addi c3200_i32_1598 v2565
  let c8_i32_1599 : BitVec 32 := 8#32
  let v2567 : BitVec 32 := Scalar.subi v2566 c8_i32_1599
  v2567
def k0_mult286 (k0_t1 : Fin k0_t1_loop.trips) : BitVec 32 :=
  let c3456_i32_1601 : BitVec 32 := 3456#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1600 : BitVec 32 := 8#32
  let v2569 : BitVec 32 := Scalar.muli v409 c8_i32_1600
  let v2570 : BitVec 32 := Scalar.addi c3456_i32_1601 v2569
  let c8_i32_1602 : BitVec 32 := 8#32
  let v2571 : BitVec 32 := Scalar.subi v2570 c8_i32_1602
  v2571
def k0_mult287 (k0_t1 : Fin k0_t1_loop.trips) : BitVec 32 :=
  let c3712_i32_1604 : BitVec 32 := 3712#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1603 : BitVec 32 := 8#32
  let v2573 : BitVec 32 := Scalar.muli v409 c8_i32_1603
  let v2574 : BitVec 32 := Scalar.addi c3712_i32_1604 v2573
  let c8_i32_1605 : BitVec 32 := 8#32
  let v2575 : BitVec 32 := Scalar.subi v2574 c8_i32_1605
  v2575
def k0_mult288 (k0_t1 : Fin k0_t1_loop.trips) : BitVec 32 :=
  let c3968_i32_1607 : BitVec 32 := 3968#32
  let c0_i32_229 : BitVec 32 := 0#32
  let c1_i32 : BitVec 32 := 1#32
  let arg19 : BitVec 32 := Scf.iv c0_i32_229 c1_i32 k0_t1
  let c4_i32_404 : BitVec 32 := 4#32
  let v408 : BitVec 32 := Scalar.muli arg19 c4_i32_404
  let c1_i32_405 : BitVec 32 := 1#32
  let v409 : BitVec 32 := Scalar.addi v408 c1_i32_405
  let c8_i32_1606 : BitVec 32 := 8#32
  let v2577 : BitVec 32 := Scalar.muli v409 c8_i32_1606
  let v2578 : BitVec 32 := Scalar.addi c3968_i32_1607 v2577
  let c8_i32_1608 : BitVec 32 := 8#32
  let v2579 : BitVec 32 := Scalar.subi v2578 c8_i32_1608
  v2579
def k0_mult289 (k0_t1 : Fin k0_t1_loop.trips) : BitVec 32 :=
  let c0_i32_1623 : BitVec 32 := 0#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1622 : BitVec 32 := 8#32
  let v2636 : BitVec 32 := Scalar.muli v411 c8_i32_1622
  let v2637 : BitVec 32 := Scalar.addi c0_i32_1623 v2636
  v2637
def k0_mult290 (k0_t1 : Fin k0_t1_loop.trips) : BitVec 32 :=
  let c128_i32_1625 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1624 : BitVec 32 := 8#32
  let v2639 : BitVec 32 := Scalar.muli v411 c8_i32_1624
  let v2640 : BitVec 32 := Scalar.addi c128_i32_1625 v2639
  v2640
def k0_mult291 (k0_t1 : Fin k0_t1_loop.trips) : BitVec 32 :=
  let c256_i32_1627 : BitVec 32 := 256#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1626 : BitVec 32 := 8#32
  let v2642 : BitVec 32 := Scalar.muli v411 c8_i32_1626
  let v2643 : BitVec 32 := Scalar.addi c256_i32_1627 v2642
  v2643
def k0_mult292 (k0_t1 : Fin k0_t1_loop.trips) : BitVec 32 :=
  let c384_i32_1629 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1628 : BitVec 32 := 8#32
  let v2645 : BitVec 32 := Scalar.muli v411 c8_i32_1628
  let v2646 : BitVec 32 := Scalar.addi c384_i32_1629 v2645
  v2646
def k0_mult293 (k0_t1 : Fin k0_t1_loop.trips) : BitVec 32 :=
  let c512_i32_1631 : BitVec 32 := 512#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1630 : BitVec 32 := 8#32
  let v2648 : BitVec 32 := Scalar.muli v411 c8_i32_1630
  let v2649 : BitVec 32 := Scalar.addi c512_i32_1631 v2648
  v2649
def k0_mult294 (k0_t1 : Fin k0_t1_loop.trips) : BitVec 32 :=
  let c640_i32_1633 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1632 : BitVec 32 := 8#32
  let v2651 : BitVec 32 := Scalar.muli v411 c8_i32_1632
  let v2652 : BitVec 32 := Scalar.addi c640_i32_1633 v2651
  v2652
def k0_mult295 (k0_t1 : Fin k0_t1_loop.trips) : BitVec 32 :=
  let c768_i32_1635 : BitVec 32 := 768#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1634 : BitVec 32 := 8#32
  let v2654 : BitVec 32 := Scalar.muli v411 c8_i32_1634
  let v2655 : BitVec 32 := Scalar.addi c768_i32_1635 v2654
  v2655
def k0_mult296 (k0_t1 : Fin k0_t1_loop.trips) : BitVec 32 :=
  let c896_i32_1637 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1636 : BitVec 32 := 8#32
  let v2657 : BitVec 32 := Scalar.muli v411 c8_i32_1636
  let v2658 : BitVec 32 := Scalar.addi c896_i32_1637 v2657
  v2658
def k0_mult297 (k0_t1 : Fin k0_t1_loop.trips) : BitVec 32 :=
  let c1024_i32_1639 : BitVec 32 := 1024#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1638 : BitVec 32 := 8#32
  let v2660 : BitVec 32 := Scalar.muli v411 c8_i32_1638
  let v2661 : BitVec 32 := Scalar.addi c1024_i32_1639 v2660
  v2661
def k0_mult298 (k0_t1 : Fin k0_t1_loop.trips) : BitVec 32 :=
  let c1152_i32_1641 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1640 : BitVec 32 := 8#32
  let v2663 : BitVec 32 := Scalar.muli v411 c8_i32_1640
  let v2664 : BitVec 32 := Scalar.addi c1152_i32_1641 v2663
  v2664
def k0_mult299 (k0_t1 : Fin k0_t1_loop.trips) : BitVec 32 :=
  let c1280_i32_1643 : BitVec 32 := 1280#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1642 : BitVec 32 := 8#32
  let v2666 : BitVec 32 := Scalar.muli v411 c8_i32_1642
  let v2667 : BitVec 32 := Scalar.addi c1280_i32_1643 v2666
  v2667
def k0_mult300 (k0_t1 : Fin k0_t1_loop.trips) : BitVec 32 :=
  let c1408_i32_1645 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1644 : BitVec 32 := 8#32
  let v2669 : BitVec 32 := Scalar.muli v411 c8_i32_1644
  let v2670 : BitVec 32 := Scalar.addi c1408_i32_1645 v2669
  v2670
def k0_mult301 (k0_t1 : Fin k0_t1_loop.trips) : BitVec 32 :=
  let c1536_i32_1647 : BitVec 32 := 1536#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1646 : BitVec 32 := 8#32
  let v2672 : BitVec 32 := Scalar.muli v411 c8_i32_1646
  let v2673 : BitVec 32 := Scalar.addi c1536_i32_1647 v2672
  v2673
def k0_mult302 (k0_t1 : Fin k0_t1_loop.trips) : BitVec 32 :=
  let c1664_i32_1649 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1648 : BitVec 32 := 8#32
  let v2675 : BitVec 32 := Scalar.muli v411 c8_i32_1648
  let v2676 : BitVec 32 := Scalar.addi c1664_i32_1649 v2675
  v2676
def k0_mult303 (k0_t1 : Fin k0_t1_loop.trips) : BitVec 32 :=
  let c1792_i32_1651 : BitVec 32 := 1792#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1650 : BitVec 32 := 8#32
  let v2678 : BitVec 32 := Scalar.muli v411 c8_i32_1650
  let v2679 : BitVec 32 := Scalar.addi c1792_i32_1651 v2678
  v2679
def k0_mult304 (k0_t1 : Fin k0_t1_loop.trips) : BitVec 32 :=
  let c1920_i32_1653 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1652 : BitVec 32 := 8#32
  let v2681 : BitVec 32 := Scalar.muli v411 c8_i32_1652
  let v2682 : BitVec 32 := Scalar.addi c1920_i32_1653 v2681
  v2682
def k0_mult305 (k0_t1 : Fin k0_t1_loop.trips) : BitVec 32 :=
  let c128_i32_1655 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1654 : BitVec 32 := 8#32
  let v2684 : BitVec 32 := Scalar.muli v411 c8_i32_1654
  let v2685 : BitVec 32 := Scalar.addi c128_i32_1655 v2684
  v2685
def k0_mult306 (k0_t1 : Fin k0_t1_loop.trips) : BitVec 32 :=
  let c384_i32_1657 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1656 : BitVec 32 := 8#32
  let v2687 : BitVec 32 := Scalar.muli v411 c8_i32_1656
  let v2688 : BitVec 32 := Scalar.addi c384_i32_1657 v2687
  v2688
def k0_mult307 (k0_t1 : Fin k0_t1_loop.trips) : BitVec 32 :=
  let c640_i32_1659 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1658 : BitVec 32 := 8#32
  let v2690 : BitVec 32 := Scalar.muli v411 c8_i32_1658
  let v2691 : BitVec 32 := Scalar.addi c640_i32_1659 v2690
  v2691
def k0_mult308 (k0_t1 : Fin k0_t1_loop.trips) : BitVec 32 :=
  let c896_i32_1661 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1660 : BitVec 32 := 8#32
  let v2693 : BitVec 32 := Scalar.muli v411 c8_i32_1660
  let v2694 : BitVec 32 := Scalar.addi c896_i32_1661 v2693
  v2694
def k0_mult309 (k0_t1 : Fin k0_t1_loop.trips) : BitVec 32 :=
  let c1152_i32_1663 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1662 : BitVec 32 := 8#32
  let v2696 : BitVec 32 := Scalar.muli v411 c8_i32_1662
  let v2697 : BitVec 32 := Scalar.addi c1152_i32_1663 v2696
  v2697
def k0_mult310 (k0_t1 : Fin k0_t1_loop.trips) : BitVec 32 :=
  let c1408_i32_1665 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1664 : BitVec 32 := 8#32
  let v2699 : BitVec 32 := Scalar.muli v411 c8_i32_1664
  let v2700 : BitVec 32 := Scalar.addi c1408_i32_1665 v2699
  v2700
def k0_mult311 (k0_t1 : Fin k0_t1_loop.trips) : BitVec 32 :=
  let c1664_i32_1667 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1666 : BitVec 32 := 8#32
  let v2702 : BitVec 32 := Scalar.muli v411 c8_i32_1666
  let v2703 : BitVec 32 := Scalar.addi c1664_i32_1667 v2702
  v2703
def k0_mult312 (k0_t1 : Fin k0_t1_loop.trips) : BitVec 32 :=
  let c1920_i32_1669 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1668 : BitVec 32 := 8#32
  let v2705 : BitVec 32 := Scalar.muli v411 c8_i32_1668
  let v2706 : BitVec 32 := Scalar.addi c1920_i32_1669 v2705
  v2706
def k0_mult313 (k0_t1 : Fin k0_t1_loop.trips) : BitVec 32 :=
  let c2176_i32_1671 : BitVec 32 := 2176#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1670 : BitVec 32 := 8#32
  let v2708 : BitVec 32 := Scalar.muli v411 c8_i32_1670
  let v2709 : BitVec 32 := Scalar.addi c2176_i32_1671 v2708
  v2709
def k0_mult314 (k0_t1 : Fin k0_t1_loop.trips) : BitVec 32 :=
  let c2432_i32_1673 : BitVec 32 := 2432#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1672 : BitVec 32 := 8#32
  let v2711 : BitVec 32 := Scalar.muli v411 c8_i32_1672
  let v2712 : BitVec 32 := Scalar.addi c2432_i32_1673 v2711
  v2712
def k0_mult315 (k0_t1 : Fin k0_t1_loop.trips) : BitVec 32 :=
  let c2688_i32_1675 : BitVec 32 := 2688#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1674 : BitVec 32 := 8#32
  let v2714 : BitVec 32 := Scalar.muli v411 c8_i32_1674
  let v2715 : BitVec 32 := Scalar.addi c2688_i32_1675 v2714
  v2715
def k0_mult316 (k0_t1 : Fin k0_t1_loop.trips) : BitVec 32 :=
  let c2944_i32_1677 : BitVec 32 := 2944#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1676 : BitVec 32 := 8#32
  let v2717 : BitVec 32 := Scalar.muli v411 c8_i32_1676
  let v2718 : BitVec 32 := Scalar.addi c2944_i32_1677 v2717
  v2718
def k0_mult317 (k0_t1 : Fin k0_t1_loop.trips) : BitVec 32 :=
  let c3200_i32_1679 : BitVec 32 := 3200#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1678 : BitVec 32 := 8#32
  let v2720 : BitVec 32 := Scalar.muli v411 c8_i32_1678
  let v2721 : BitVec 32 := Scalar.addi c3200_i32_1679 v2720
  v2721
def k0_mult318 (k0_t1 : Fin k0_t1_loop.trips) : BitVec 32 :=
  let c3456_i32_1681 : BitVec 32 := 3456#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1680 : BitVec 32 := 8#32
  let v2723 : BitVec 32 := Scalar.muli v411 c8_i32_1680
  let v2724 : BitVec 32 := Scalar.addi c3456_i32_1681 v2723
  v2724
def k0_mult319 (k0_t1 : Fin k0_t1_loop.trips) : BitVec 32 :=
  let c3712_i32_1683 : BitVec 32 := 3712#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1682 : BitVec 32 := 8#32
  let v2726 : BitVec 32 := Scalar.muli v411 c8_i32_1682
  let v2727 : BitVec 32 := Scalar.addi c3712_i32_1683 v2726
  v2727
def k0_mult320 (k0_t1 : Fin k0_t1_loop.trips) : BitVec 32 :=
  let c3968_i32_1685 : BitVec 32 := 3968#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1684 : BitVec 32 := 8#32
  let v2729 : BitVec 32 := Scalar.muli v411 c8_i32_1684
  let v2730 : BitVec 32 := Scalar.addi c3968_i32_1685 v2729
  v2730
def k0_mult321 (k0_t1 : Fin k0_t1_loop.trips) : BitVec 32 :=
  let c128_i32_1687 : BitVec 32 := 128#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1686 : BitVec 32 := 8#32
  let v2732 : BitVec 32 := Scalar.muli v411 c8_i32_1686
  let v2733 : BitVec 32 := Scalar.addi c128_i32_1687 v2732
  let c8_i32_1688 : BitVec 32 := 8#32
  let v2734 : BitVec 32 := Scalar.subi v2733 c8_i32_1688
  v2734
def k0_mult322 (k0_t1 : Fin k0_t1_loop.trips) : BitVec 32 :=
  let c384_i32_1690 : BitVec 32 := 384#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1689 : BitVec 32 := 8#32
  let v2736 : BitVec 32 := Scalar.muli v411 c8_i32_1689
  let v2737 : BitVec 32 := Scalar.addi c384_i32_1690 v2736
  let c8_i32_1691 : BitVec 32 := 8#32
  let v2738 : BitVec 32 := Scalar.subi v2737 c8_i32_1691
  v2738
def k0_mult323 (k0_t1 : Fin k0_t1_loop.trips) : BitVec 32 :=
  let c640_i32_1693 : BitVec 32 := 640#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1692 : BitVec 32 := 8#32
  let v2740 : BitVec 32 := Scalar.muli v411 c8_i32_1692
  let v2741 : BitVec 32 := Scalar.addi c640_i32_1693 v2740
  let c8_i32_1694 : BitVec 32 := 8#32
  let v2742 : BitVec 32 := Scalar.subi v2741 c8_i32_1694
  v2742
def k0_mult324 (k0_t1 : Fin k0_t1_loop.trips) : BitVec 32 :=
  let c896_i32_1696 : BitVec 32 := 896#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1695 : BitVec 32 := 8#32
  let v2744 : BitVec 32 := Scalar.muli v411 c8_i32_1695
  let v2745 : BitVec 32 := Scalar.addi c896_i32_1696 v2744
  let c8_i32_1697 : BitVec 32 := 8#32
  let v2746 : BitVec 32 := Scalar.subi v2745 c8_i32_1697
  v2746
def k0_mult325 (k0_t1 : Fin k0_t1_loop.trips) : BitVec 32 :=
  let c1152_i32_1699 : BitVec 32 := 1152#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1698 : BitVec 32 := 8#32
  let v2748 : BitVec 32 := Scalar.muli v411 c8_i32_1698
  let v2749 : BitVec 32 := Scalar.addi c1152_i32_1699 v2748
  let c8_i32_1700 : BitVec 32 := 8#32
  let v2750 : BitVec 32 := Scalar.subi v2749 c8_i32_1700
  v2750
def k0_mult326 (k0_t1 : Fin k0_t1_loop.trips) : BitVec 32 :=
  let c1408_i32_1702 : BitVec 32 := 1408#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1701 : BitVec 32 := 8#32
  let v2752 : BitVec 32 := Scalar.muli v411 c8_i32_1701
  let v2753 : BitVec 32 := Scalar.addi c1408_i32_1702 v2752
  let c8_i32_1703 : BitVec 32 := 8#32
  let v2754 : BitVec 32 := Scalar.subi v2753 c8_i32_1703
  v2754
def k0_mult327 (k0_t1 : Fin k0_t1_loop.trips) : BitVec 32 :=
  let c1664_i32_1705 : BitVec 32 := 1664#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1704 : BitVec 32 := 8#32
  let v2756 : BitVec 32 := Scalar.muli v411 c8_i32_1704
  let v2757 : BitVec 32 := Scalar.addi c1664_i32_1705 v2756
  let c8_i32_1706 : BitVec 32 := 8#32
  let v2758 : BitVec 32 := Scalar.subi v2757 c8_i32_1706
  v2758
def k0_mult328 (k0_t1 : Fin k0_t1_loop.trips) : BitVec 32 :=
  let c1920_i32_1708 : BitVec 32 := 1920#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1707 : BitVec 32 := 8#32
  let v2760 : BitVec 32 := Scalar.muli v411 c8_i32_1707
  let v2761 : BitVec 32 := Scalar.addi c1920_i32_1708 v2760
  let c8_i32_1709 : BitVec 32 := 8#32
  let v2762 : BitVec 32 := Scalar.subi v2761 c8_i32_1709
  v2762
def k0_mult329 (k0_t1 : Fin k0_t1_loop.trips) : BitVec 32 :=
  let c2176_i32_1711 : BitVec 32 := 2176#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1710 : BitVec 32 := 8#32
  let v2764 : BitVec 32 := Scalar.muli v411 c8_i32_1710
  let v2765 : BitVec 32 := Scalar.addi c2176_i32_1711 v2764
  let c8_i32_1712 : BitVec 32 := 8#32
  let v2766 : BitVec 32 := Scalar.subi v2765 c8_i32_1712
  v2766
def k0_mult330 (k0_t1 : Fin k0_t1_loop.trips) : BitVec 32 :=
  let c2432_i32_1714 : BitVec 32 := 2432#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1713 : BitVec 32 := 8#32
  let v2768 : BitVec 32 := Scalar.muli v411 c8_i32_1713
  let v2769 : BitVec 32 := Scalar.addi c2432_i32_1714 v2768
  let c8_i32_1715 : BitVec 32 := 8#32
  let v2770 : BitVec 32 := Scalar.subi v2769 c8_i32_1715
  v2770
def k0_mult331 (k0_t1 : Fin k0_t1_loop.trips) : BitVec 32 :=
  let c2688_i32_1717 : BitVec 32 := 2688#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1716 : BitVec 32 := 8#32
  let v2772 : BitVec 32 := Scalar.muli v411 c8_i32_1716
  let v2773 : BitVec 32 := Scalar.addi c2688_i32_1717 v2772
  let c8_i32_1718 : BitVec 32 := 8#32
  let v2774 : BitVec 32 := Scalar.subi v2773 c8_i32_1718
  v2774
def k0_mult332 (k0_t1 : Fin k0_t1_loop.trips) : BitVec 32 :=
  let c2944_i32_1720 : BitVec 32 := 2944#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1719 : BitVec 32 := 8#32
  let v2776 : BitVec 32 := Scalar.muli v411 c8_i32_1719
  let v2777 : BitVec 32 := Scalar.addi c2944_i32_1720 v2776
  let c8_i32_1721 : BitVec 32 := 8#32
  let v2778 : BitVec 32 := Scalar.subi v2777 c8_i32_1721
  v2778
def k0_mult333 (k0_t1 : Fin k0_t1_loop.trips) : BitVec 32 :=
  let c3200_i32_1723 : BitVec 32 := 3200#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1722 : BitVec 32 := 8#32
  let v2780 : BitVec 32 := Scalar.muli v411 c8_i32_1722
  let v2781 : BitVec 32 := Scalar.addi c3200_i32_1723 v2780
  let c8_i32_1724 : BitVec 32 := 8#32
  let v2782 : BitVec 32 := Scalar.subi v2781 c8_i32_1724
  v2782
def k0_mult334 (k0_t1 : Fin k0_t1_loop.trips) : BitVec 32 :=
  let c3456_i32_1726 : BitVec 32 := 3456#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1725 : BitVec 32 := 8#32
  let v2784 : BitVec 32 := Scalar.muli v411 c8_i32_1725
  let v2785 : BitVec 32 := Scalar.addi c3456_i32_1726 v2784
  let c8_i32_1727 : BitVec 32 := 8#32
  let v2786 : BitVec 32 := Scalar.subi v2785 c8_i32_1727
  v2786
def k0_mult335 (k0_t1 : Fin k0_t1_loop.trips) : BitVec 32 :=
  let c3712_i32_1729 : BitVec 32 := 3712#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1728 : BitVec 32 := 8#32
  let v2788 : BitVec 32 := Scalar.muli v411 c8_i32_1728
  let v2789 : BitVec 32 := Scalar.addi c3712_i32_1729 v2788
  let c8_i32_1730 : BitVec 32 := 8#32
  let v2790 : BitVec 32 := Scalar.subi v2789 c8_i32_1730
  v2790
def k0_mult336 (k0_t1 : Fin k0_t1_loop.trips) : BitVec 32 :=
  let c3968_i32_1732 : BitVec 32 := 3968#32
  let c0_i32_229 : BitVec 32 := 0#32
  let c1_i32 : BitVec 32 := 1#32
  let arg19 : BitVec 32 := Scf.iv c0_i32_229 c1_i32 k0_t1
  let c4_i32_406 : BitVec 32 := 4#32
  let v410 : BitVec 32 := Scalar.muli arg19 c4_i32_406
  let c2_i32 : BitVec 32 := 2#32
  let v411 : BitVec 32 := Scalar.addi v410 c2_i32
  let c8_i32_1731 : BitVec 32 := 8#32
  let v2792 : BitVec 32 := Scalar.muli v411 c8_i32_1731
  let v2793 : BitVec 32 := Scalar.addi c3968_i32_1732 v2792
  let c8_i32_1733 : BitVec 32 := 8#32
  let v2794 : BitVec 32 := Scalar.subi v2793 c8_i32_1733
  v2794
def k0_mult337 (k0_t1 : Fin k0_t1_loop.trips) : BitVec 32 :=
  let c0_i32_1748 : BitVec 32 := 0#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1747 : BitVec 32 := 8#32
  let v2851 : BitVec 32 := Scalar.muli v413 c8_i32_1747
  let v2852 : BitVec 32 := Scalar.addi c0_i32_1748 v2851
  v2852
def k0_mult338 (k0_t1 : Fin k0_t1_loop.trips) : BitVec 32 :=
  let c128_i32_1750 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1749 : BitVec 32 := 8#32
  let v2854 : BitVec 32 := Scalar.muli v413 c8_i32_1749
  let v2855 : BitVec 32 := Scalar.addi c128_i32_1750 v2854
  v2855
def k0_mult339 (k0_t1 : Fin k0_t1_loop.trips) : BitVec 32 :=
  let c256_i32_1752 : BitVec 32 := 256#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1751 : BitVec 32 := 8#32
  let v2857 : BitVec 32 := Scalar.muli v413 c8_i32_1751
  let v2858 : BitVec 32 := Scalar.addi c256_i32_1752 v2857
  v2858
def k0_mult340 (k0_t1 : Fin k0_t1_loop.trips) : BitVec 32 :=
  let c384_i32_1754 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1753 : BitVec 32 := 8#32
  let v2860 : BitVec 32 := Scalar.muli v413 c8_i32_1753
  let v2861 : BitVec 32 := Scalar.addi c384_i32_1754 v2860
  v2861
def k0_mult341 (k0_t1 : Fin k0_t1_loop.trips) : BitVec 32 :=
  let c512_i32_1756 : BitVec 32 := 512#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1755 : BitVec 32 := 8#32
  let v2863 : BitVec 32 := Scalar.muli v413 c8_i32_1755
  let v2864 : BitVec 32 := Scalar.addi c512_i32_1756 v2863
  v2864
def k0_mult342 (k0_t1 : Fin k0_t1_loop.trips) : BitVec 32 :=
  let c640_i32_1758 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1757 : BitVec 32 := 8#32
  let v2866 : BitVec 32 := Scalar.muli v413 c8_i32_1757
  let v2867 : BitVec 32 := Scalar.addi c640_i32_1758 v2866
  v2867
def k0_mult343 (k0_t1 : Fin k0_t1_loop.trips) : BitVec 32 :=
  let c768_i32_1760 : BitVec 32 := 768#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1759 : BitVec 32 := 8#32
  let v2869 : BitVec 32 := Scalar.muli v413 c8_i32_1759
  let v2870 : BitVec 32 := Scalar.addi c768_i32_1760 v2869
  v2870
def k0_mult344 (k0_t1 : Fin k0_t1_loop.trips) : BitVec 32 :=
  let c896_i32_1762 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1761 : BitVec 32 := 8#32
  let v2872 : BitVec 32 := Scalar.muli v413 c8_i32_1761
  let v2873 : BitVec 32 := Scalar.addi c896_i32_1762 v2872
  v2873
def k0_mult345 (k0_t1 : Fin k0_t1_loop.trips) : BitVec 32 :=
  let c1024_i32_1764 : BitVec 32 := 1024#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1763 : BitVec 32 := 8#32
  let v2875 : BitVec 32 := Scalar.muli v413 c8_i32_1763
  let v2876 : BitVec 32 := Scalar.addi c1024_i32_1764 v2875
  v2876
def k0_mult346 (k0_t1 : Fin k0_t1_loop.trips) : BitVec 32 :=
  let c1152_i32_1766 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1765 : BitVec 32 := 8#32
  let v2878 : BitVec 32 := Scalar.muli v413 c8_i32_1765
  let v2879 : BitVec 32 := Scalar.addi c1152_i32_1766 v2878
  v2879
def k0_mult347 (k0_t1 : Fin k0_t1_loop.trips) : BitVec 32 :=
  let c1280_i32_1768 : BitVec 32 := 1280#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1767 : BitVec 32 := 8#32
  let v2881 : BitVec 32 := Scalar.muli v413 c8_i32_1767
  let v2882 : BitVec 32 := Scalar.addi c1280_i32_1768 v2881
  v2882
def k0_mult348 (k0_t1 : Fin k0_t1_loop.trips) : BitVec 32 :=
  let c1408_i32_1770 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1769 : BitVec 32 := 8#32
  let v2884 : BitVec 32 := Scalar.muli v413 c8_i32_1769
  let v2885 : BitVec 32 := Scalar.addi c1408_i32_1770 v2884
  v2885
def k0_mult349 (k0_t1 : Fin k0_t1_loop.trips) : BitVec 32 :=
  let c1536_i32_1772 : BitVec 32 := 1536#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1771 : BitVec 32 := 8#32
  let v2887 : BitVec 32 := Scalar.muli v413 c8_i32_1771
  let v2888 : BitVec 32 := Scalar.addi c1536_i32_1772 v2887
  v2888
def k0_mult350 (k0_t1 : Fin k0_t1_loop.trips) : BitVec 32 :=
  let c1664_i32_1774 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1773 : BitVec 32 := 8#32
  let v2890 : BitVec 32 := Scalar.muli v413 c8_i32_1773
  let v2891 : BitVec 32 := Scalar.addi c1664_i32_1774 v2890
  v2891
def k0_mult351 (k0_t1 : Fin k0_t1_loop.trips) : BitVec 32 :=
  let c1792_i32_1776 : BitVec 32 := 1792#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1775 : BitVec 32 := 8#32
  let v2893 : BitVec 32 := Scalar.muli v413 c8_i32_1775
  let v2894 : BitVec 32 := Scalar.addi c1792_i32_1776 v2893
  v2894
def k0_mult352 (k0_t1 : Fin k0_t1_loop.trips) : BitVec 32 :=
  let c1920_i32_1778 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1777 : BitVec 32 := 8#32
  let v2896 : BitVec 32 := Scalar.muli v413 c8_i32_1777
  let v2897 : BitVec 32 := Scalar.addi c1920_i32_1778 v2896
  v2897
def k0_mult353 (k0_t1 : Fin k0_t1_loop.trips) : BitVec 32 :=
  let c128_i32_1780 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1779 : BitVec 32 := 8#32
  let v2899 : BitVec 32 := Scalar.muli v413 c8_i32_1779
  let v2900 : BitVec 32 := Scalar.addi c128_i32_1780 v2899
  v2900
def k0_mult354 (k0_t1 : Fin k0_t1_loop.trips) : BitVec 32 :=
  let c384_i32_1782 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1781 : BitVec 32 := 8#32
  let v2902 : BitVec 32 := Scalar.muli v413 c8_i32_1781
  let v2903 : BitVec 32 := Scalar.addi c384_i32_1782 v2902
  v2903
def k0_mult355 (k0_t1 : Fin k0_t1_loop.trips) : BitVec 32 :=
  let c640_i32_1784 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1783 : BitVec 32 := 8#32
  let v2905 : BitVec 32 := Scalar.muli v413 c8_i32_1783
  let v2906 : BitVec 32 := Scalar.addi c640_i32_1784 v2905
  v2906
def k0_mult356 (k0_t1 : Fin k0_t1_loop.trips) : BitVec 32 :=
  let c896_i32_1786 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1785 : BitVec 32 := 8#32
  let v2908 : BitVec 32 := Scalar.muli v413 c8_i32_1785
  let v2909 : BitVec 32 := Scalar.addi c896_i32_1786 v2908
  v2909
def k0_mult357 (k0_t1 : Fin k0_t1_loop.trips) : BitVec 32 :=
  let c1152_i32_1788 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1787 : BitVec 32 := 8#32
  let v2911 : BitVec 32 := Scalar.muli v413 c8_i32_1787
  let v2912 : BitVec 32 := Scalar.addi c1152_i32_1788 v2911
  v2912
def k0_mult358 (k0_t1 : Fin k0_t1_loop.trips) : BitVec 32 :=
  let c1408_i32_1790 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1789 : BitVec 32 := 8#32
  let v2914 : BitVec 32 := Scalar.muli v413 c8_i32_1789
  let v2915 : BitVec 32 := Scalar.addi c1408_i32_1790 v2914
  v2915
def k0_mult359 (k0_t1 : Fin k0_t1_loop.trips) : BitVec 32 :=
  let c1664_i32_1792 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1791 : BitVec 32 := 8#32
  let v2917 : BitVec 32 := Scalar.muli v413 c8_i32_1791
  let v2918 : BitVec 32 := Scalar.addi c1664_i32_1792 v2917
  v2918
def k0_mult360 (k0_t1 : Fin k0_t1_loop.trips) : BitVec 32 :=
  let c1920_i32_1794 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1793 : BitVec 32 := 8#32
  let v2920 : BitVec 32 := Scalar.muli v413 c8_i32_1793
  let v2921 : BitVec 32 := Scalar.addi c1920_i32_1794 v2920
  v2921
def k0_mult361 (k0_t1 : Fin k0_t1_loop.trips) : BitVec 32 :=
  let c2176_i32_1796 : BitVec 32 := 2176#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1795 : BitVec 32 := 8#32
  let v2923 : BitVec 32 := Scalar.muli v413 c8_i32_1795
  let v2924 : BitVec 32 := Scalar.addi c2176_i32_1796 v2923
  v2924
def k0_mult362 (k0_t1 : Fin k0_t1_loop.trips) : BitVec 32 :=
  let c2432_i32_1798 : BitVec 32 := 2432#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1797 : BitVec 32 := 8#32
  let v2926 : BitVec 32 := Scalar.muli v413 c8_i32_1797
  let v2927 : BitVec 32 := Scalar.addi c2432_i32_1798 v2926
  v2927
def k0_mult363 (k0_t1 : Fin k0_t1_loop.trips) : BitVec 32 :=
  let c2688_i32_1800 : BitVec 32 := 2688#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1799 : BitVec 32 := 8#32
  let v2929 : BitVec 32 := Scalar.muli v413 c8_i32_1799
  let v2930 : BitVec 32 := Scalar.addi c2688_i32_1800 v2929
  v2930
def k0_mult364 (k0_t1 : Fin k0_t1_loop.trips) : BitVec 32 :=
  let c2944_i32_1802 : BitVec 32 := 2944#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1801 : BitVec 32 := 8#32
  let v2932 : BitVec 32 := Scalar.muli v413 c8_i32_1801
  let v2933 : BitVec 32 := Scalar.addi c2944_i32_1802 v2932
  v2933
def k0_mult365 (k0_t1 : Fin k0_t1_loop.trips) : BitVec 32 :=
  let c3200_i32_1804 : BitVec 32 := 3200#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1803 : BitVec 32 := 8#32
  let v2935 : BitVec 32 := Scalar.muli v413 c8_i32_1803
  let v2936 : BitVec 32 := Scalar.addi c3200_i32_1804 v2935
  v2936
def k0_mult366 (k0_t1 : Fin k0_t1_loop.trips) : BitVec 32 :=
  let c3456_i32_1806 : BitVec 32 := 3456#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1805 : BitVec 32 := 8#32
  let v2938 : BitVec 32 := Scalar.muli v413 c8_i32_1805
  let v2939 : BitVec 32 := Scalar.addi c3456_i32_1806 v2938
  v2939
def k0_mult367 (k0_t1 : Fin k0_t1_loop.trips) : BitVec 32 :=
  let c3712_i32_1808 : BitVec 32 := 3712#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1807 : BitVec 32 := 8#32
  let v2941 : BitVec 32 := Scalar.muli v413 c8_i32_1807
  let v2942 : BitVec 32 := Scalar.addi c3712_i32_1808 v2941
  v2942
def k0_mult368 (k0_t1 : Fin k0_t1_loop.trips) : BitVec 32 :=
  let c3968_i32_1810 : BitVec 32 := 3968#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1809 : BitVec 32 := 8#32
  let v2944 : BitVec 32 := Scalar.muli v413 c8_i32_1809
  let v2945 : BitVec 32 := Scalar.addi c3968_i32_1810 v2944
  v2945
def k0_mult369 (k0_t1 : Fin k0_t1_loop.trips) : BitVec 32 :=
  let c128_i32_1812 : BitVec 32 := 128#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1811 : BitVec 32 := 8#32
  let v2947 : BitVec 32 := Scalar.muli v413 c8_i32_1811
  let v2948 : BitVec 32 := Scalar.addi c128_i32_1812 v2947
  let c8_i32_1813 : BitVec 32 := 8#32
  let v2949 : BitVec 32 := Scalar.subi v2948 c8_i32_1813
  v2949
def k0_mult370 (k0_t1 : Fin k0_t1_loop.trips) : BitVec 32 :=
  let c384_i32_1815 : BitVec 32 := 384#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1814 : BitVec 32 := 8#32
  let v2951 : BitVec 32 := Scalar.muli v413 c8_i32_1814
  let v2952 : BitVec 32 := Scalar.addi c384_i32_1815 v2951
  let c8_i32_1816 : BitVec 32 := 8#32
  let v2953 : BitVec 32 := Scalar.subi v2952 c8_i32_1816
  v2953
def k0_mult371 (k0_t1 : Fin k0_t1_loop.trips) : BitVec 32 :=
  let c640_i32_1818 : BitVec 32 := 640#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1817 : BitVec 32 := 8#32
  let v2955 : BitVec 32 := Scalar.muli v413 c8_i32_1817
  let v2956 : BitVec 32 := Scalar.addi c640_i32_1818 v2955
  let c8_i32_1819 : BitVec 32 := 8#32
  let v2957 : BitVec 32 := Scalar.subi v2956 c8_i32_1819
  v2957
def k0_mult372 (k0_t1 : Fin k0_t1_loop.trips) : BitVec 32 :=
  let c896_i32_1821 : BitVec 32 := 896#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1820 : BitVec 32 := 8#32
  let v2959 : BitVec 32 := Scalar.muli v413 c8_i32_1820
  let v2960 : BitVec 32 := Scalar.addi c896_i32_1821 v2959
  let c8_i32_1822 : BitVec 32 := 8#32
  let v2961 : BitVec 32 := Scalar.subi v2960 c8_i32_1822
  v2961
def k0_mult373 (k0_t1 : Fin k0_t1_loop.trips) : BitVec 32 :=
  let c1152_i32_1824 : BitVec 32 := 1152#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1823 : BitVec 32 := 8#32
  let v2963 : BitVec 32 := Scalar.muli v413 c8_i32_1823
  let v2964 : BitVec 32 := Scalar.addi c1152_i32_1824 v2963
  let c8_i32_1825 : BitVec 32 := 8#32
  let v2965 : BitVec 32 := Scalar.subi v2964 c8_i32_1825
  v2965
def k0_mult374 (k0_t1 : Fin k0_t1_loop.trips) : BitVec 32 :=
  let c1408_i32_1827 : BitVec 32 := 1408#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1826 : BitVec 32 := 8#32
  let v2967 : BitVec 32 := Scalar.muli v413 c8_i32_1826
  let v2968 : BitVec 32 := Scalar.addi c1408_i32_1827 v2967
  let c8_i32_1828 : BitVec 32 := 8#32
  let v2969 : BitVec 32 := Scalar.subi v2968 c8_i32_1828
  v2969
def k0_mult375 (k0_t1 : Fin k0_t1_loop.trips) : BitVec 32 :=
  let c1664_i32_1830 : BitVec 32 := 1664#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1829 : BitVec 32 := 8#32
  let v2971 : BitVec 32 := Scalar.muli v413 c8_i32_1829
  let v2972 : BitVec 32 := Scalar.addi c1664_i32_1830 v2971
  let c8_i32_1831 : BitVec 32 := 8#32
  let v2973 : BitVec 32 := Scalar.subi v2972 c8_i32_1831
  v2973
def k0_mult376 (k0_t1 : Fin k0_t1_loop.trips) : BitVec 32 :=
  let c1920_i32_1833 : BitVec 32 := 1920#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1832 : BitVec 32 := 8#32
  let v2975 : BitVec 32 := Scalar.muli v413 c8_i32_1832
  let v2976 : BitVec 32 := Scalar.addi c1920_i32_1833 v2975
  let c8_i32_1834 : BitVec 32 := 8#32
  let v2977 : BitVec 32 := Scalar.subi v2976 c8_i32_1834
  v2977
def k0_mult377 (k0_t1 : Fin k0_t1_loop.trips) : BitVec 32 :=
  let c2176_i32_1836 : BitVec 32 := 2176#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1835 : BitVec 32 := 8#32
  let v2979 : BitVec 32 := Scalar.muli v413 c8_i32_1835
  let v2980 : BitVec 32 := Scalar.addi c2176_i32_1836 v2979
  let c8_i32_1837 : BitVec 32 := 8#32
  let v2981 : BitVec 32 := Scalar.subi v2980 c8_i32_1837
  v2981
def k0_mult378 (k0_t1 : Fin k0_t1_loop.trips) : BitVec 32 :=
  let c2432_i32_1839 : BitVec 32 := 2432#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1838 : BitVec 32 := 8#32
  let v2983 : BitVec 32 := Scalar.muli v413 c8_i32_1838
  let v2984 : BitVec 32 := Scalar.addi c2432_i32_1839 v2983
  let c8_i32_1840 : BitVec 32 := 8#32
  let v2985 : BitVec 32 := Scalar.subi v2984 c8_i32_1840
  v2985
def k0_mult379 (k0_t1 : Fin k0_t1_loop.trips) : BitVec 32 :=
  let c2688_i32_1842 : BitVec 32 := 2688#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1841 : BitVec 32 := 8#32
  let v2987 : BitVec 32 := Scalar.muli v413 c8_i32_1841
  let v2988 : BitVec 32 := Scalar.addi c2688_i32_1842 v2987
  let c8_i32_1843 : BitVec 32 := 8#32
  let v2989 : BitVec 32 := Scalar.subi v2988 c8_i32_1843
  v2989
def k0_mult380 (k0_t1 : Fin k0_t1_loop.trips) : BitVec 32 :=
  let c2944_i32_1845 : BitVec 32 := 2944#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1844 : BitVec 32 := 8#32
  let v2991 : BitVec 32 := Scalar.muli v413 c8_i32_1844
  let v2992 : BitVec 32 := Scalar.addi c2944_i32_1845 v2991
  let c8_i32_1846 : BitVec 32 := 8#32
  let v2993 : BitVec 32 := Scalar.subi v2992 c8_i32_1846
  v2993
def k0_mult381 (k0_t1 : Fin k0_t1_loop.trips) : BitVec 32 :=
  let c3200_i32_1848 : BitVec 32 := 3200#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1847 : BitVec 32 := 8#32
  let v2995 : BitVec 32 := Scalar.muli v413 c8_i32_1847
  let v2996 : BitVec 32 := Scalar.addi c3200_i32_1848 v2995
  let c8_i32_1849 : BitVec 32 := 8#32
  let v2997 : BitVec 32 := Scalar.subi v2996 c8_i32_1849
  v2997
def k0_mult382 (k0_t1 : Fin k0_t1_loop.trips) : BitVec 32 :=
  let c3456_i32_1851 : BitVec 32 := 3456#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1850 : BitVec 32 := 8#32
  let v2999 : BitVec 32 := Scalar.muli v413 c8_i32_1850
  let v3000 : BitVec 32 := Scalar.addi c3456_i32_1851 v2999
  let c8_i32_1852 : BitVec 32 := 8#32
  let v3001 : BitVec 32 := Scalar.subi v3000 c8_i32_1852
  v3001
def k0_mult383 (k0_t1 : Fin k0_t1_loop.trips) : BitVec 32 :=
  let c3712_i32_1854 : BitVec 32 := 3712#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1853 : BitVec 32 := 8#32
  let v3003 : BitVec 32 := Scalar.muli v413 c8_i32_1853
  let v3004 : BitVec 32 := Scalar.addi c3712_i32_1854 v3003
  let c8_i32_1855 : BitVec 32 := 8#32
  let v3005 : BitVec 32 := Scalar.subi v3004 c8_i32_1855
  v3005
def k0_mult384 (k0_t1 : Fin k0_t1_loop.trips) : BitVec 32 :=
  let c3968_i32_1857 : BitVec 32 := 3968#32
  let c0_i32_229 : BitVec 32 := 0#32
  let c1_i32 : BitVec 32 := 1#32
  let arg19 : BitVec 32 := Scf.iv c0_i32_229 c1_i32 k0_t1
  let c4_i32_407 : BitVec 32 := 4#32
  let v412 : BitVec 32 := Scalar.muli arg19 c4_i32_407
  let c3_i32_408 : BitVec 32 := 3#32
  let v413 : BitVec 32 := Scalar.addi v412 c3_i32_408
  let c8_i32_1856 : BitVec 32 := 8#32
  let v3007 : BitVec 32 := Scalar.muli v413 c8_i32_1856
  let v3008 : BitVec 32 := Scalar.addi c3968_i32_1857 v3007
  let c8_i32_1858 : BitVec 32 := 8#32
  let v3009 : BitVec 32 := Scalar.subi v3008 c8_i32_1858
  v3009
@[reducible] def k0_t2_loop : Scf.Loop 32 :=
  let c0_i32_231 : BitVec 32 := 0#32
  let c4_i32_232 : BitVec 32 := 4#32
  let v273 : BitVec 32 := Scalar.addi c0_i32_231 c4_i32_232
  let c1_i32_233 : BitVec 32 := 1#32
  ⟨c0_i32_231, v273, c1_i32_233⟩
def k0_mult385 (k0_t2 : Fin k0_t2_loop.trips) : BitVec 32 :=
  let c0_i32_410 : BitVec 32 := 0#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32 : BitVec 32 := 32#32
  let v414 : BitVec 32 := Scalar.muli v407 c32_i32
  let v415 : BitVec 32 := Scalar.addi c0_i32_410 v414
  v415
def k0_mult386 (k0_t2 : Fin k0_t2_loop.trips) : BitVec 32 :=
  let c512_i32 : BitVec 32 := 512#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_411 : BitVec 32 := 32#32
  let v417 : BitVec 32 := Scalar.muli v407 c32_i32_411
  let v418 : BitVec 32 := Scalar.addi c512_i32 v417
  v418
def k0_mult387 (k0_t2 : Fin k0_t2_loop.trips) : BitVec 32 :=
  let c1024_i32 : BitVec 32 := 1024#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_412 : BitVec 32 := 32#32
  let v420 : BitVec 32 := Scalar.muli v407 c32_i32_412
  let v421 : BitVec 32 := Scalar.addi c1024_i32 v420
  v421
def k0_mult388 (k0_t2 : Fin k0_t2_loop.trips) : BitVec 32 :=
  let c1536_i32 : BitVec 32 := 1536#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_413 : BitVec 32 := 32#32
  let v423 : BitVec 32 := Scalar.muli v407 c32_i32_413
  let v424 : BitVec 32 := Scalar.addi c1536_i32 v423
  v424
def k0_mult389 (k0_t2 : Fin k0_t2_loop.trips) : BitVec 32 :=
  let c128_i32 : BitVec 32 := 128#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_414 : BitVec 32 := 32#32
  let v426 : BitVec 32 := Scalar.muli v407 c32_i32_414
  let v427 : BitVec 32 := Scalar.addi c128_i32 v426
  v427
def k0_mult390 (k0_t2 : Fin k0_t2_loop.trips) : BitVec 32 :=
  let c1152_i32 : BitVec 32 := 1152#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_415 : BitVec 32 := 32#32
  let v429 : BitVec 32 := Scalar.muli v407 c32_i32_415
  let v430 : BitVec 32 := Scalar.addi c1152_i32 v429
  v430
def k0_mult391 (k0_t2 : Fin k0_t2_loop.trips) : BitVec 32 :=
  let c2176_i32 : BitVec 32 := 2176#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_416 : BitVec 32 := 32#32
  let v432 : BitVec 32 := Scalar.muli v407 c32_i32_416
  let v433 : BitVec 32 := Scalar.addi c2176_i32 v432
  v433
def k0_mult392 (k0_t2 : Fin k0_t2_loop.trips) : BitVec 32 :=
  let c3200_i32 : BitVec 32 := 3200#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_417 : BitVec 32 := 32#32
  let v435 : BitVec 32 := Scalar.muli v407 c32_i32_417
  let v436 : BitVec 32 := Scalar.addi c3200_i32 v435
  v436
def k0_mult393 (k0_t2 : Fin k0_t2_loop.trips) : BitVec 32 :=
  let c128_i32_419 : BitVec 32 := 128#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_418 : BitVec 32 := 32#32
  let v438 : BitVec 32 := Scalar.muli v407 c32_i32_418
  let v439 : BitVec 32 := Scalar.addi c128_i32_419 v438
  let c32_i32_420 : BitVec 32 := 32#32
  let v440 : BitVec 32 := Scalar.subi v439 c32_i32_420
  v440
def k0_mult394 (k0_t2 : Fin k0_t2_loop.trips) : BitVec 32 :=
  let c1152_i32_422 : BitVec 32 := 1152#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_421 : BitVec 32 := 32#32
  let v442 : BitVec 32 := Scalar.muli v407 c32_i32_421
  let v443 : BitVec 32 := Scalar.addi c1152_i32_422 v442
  let c32_i32_423 : BitVec 32 := 32#32
  let v444 : BitVec 32 := Scalar.subi v443 c32_i32_423
  v444
def k0_mult395 (k0_t2 : Fin k0_t2_loop.trips) : BitVec 32 :=
  let c2176_i32_425 : BitVec 32 := 2176#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_424 : BitVec 32 := 32#32
  let v446 : BitVec 32 := Scalar.muli v407 c32_i32_424
  let v447 : BitVec 32 := Scalar.addi c2176_i32_425 v446
  let c32_i32_426 : BitVec 32 := 32#32
  let v448 : BitVec 32 := Scalar.subi v447 c32_i32_426
  v448
def k0_mult396 (k0_t2 : Fin k0_t2_loop.trips) : BitVec 32 :=
  let c3200_i32_428 : BitVec 32 := 3200#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_427 : BitVec 32 := 32#32
  let v450 : BitVec 32 := Scalar.muli v407 c32_i32_427
  let v451 : BitVec 32 := Scalar.addi c3200_i32_428 v450
  let c32_i32_429 : BitVec 32 := 32#32
  let v452 : BitVec 32 := Scalar.subi v451 c32_i32_429
  v452
def k0_off5 (k0_t2 : Fin k0_t2_loop.trips) (c0_i32_410 : BitVec 32) : Fin 2 → Nat :=
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32 : BitVec 32 := 32#32
  let v414 : BitVec 32 := Scalar.muli v407 c32_i32
  let v415 : BitVec 32 := Scalar.addi c0_i32_410 v414
  let v416 : BitVec 32 := v415
  let v454 : Index := Scalar.indexCast v416
  let c0_430 : Index := 0#32
  ![v454.toNat, 0]
def k0_off6 (k0_t2 : Fin k0_t2_loop.trips) (c128_i32_419 : BitVec 32) : Fin 2 → Nat :=
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_418 : BitVec 32 := 32#32
  let v438 : BitVec 32 := Scalar.muli v407 c32_i32_418
  let v439 : BitVec 32 := Scalar.addi c128_i32_419 v438
  let c32_i32_420 : BitVec 32 := 32#32
  let v440 : BitVec 32 := Scalar.subi v439 c32_i32_420
  let v441 : BitVec 32 := v440
  let v500 : Index := Scalar.indexCast v441
  let c0_448 : Index := 0#32
  ![v500.toNat, 0]
def k0_off7 (k0_t2 : Fin k0_t2_loop.trips) (c128_i32 : BitVec 32) : Fin 2 → Nat :=
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_414 : BitVec 32 := 32#32
  let v426 : BitVec 32 := Scalar.muli v407 c32_i32_414
  let v427 : BitVec 32 := Scalar.addi c128_i32 v426
  let v428 : BitVec 32 := v427
  let v509 : Index := Scalar.indexCast v428
  let c0_452 : Index := 0#32
  ![v509.toNat, 0]
def k0_mult397 (k0_t2 : Fin k0_t2_loop.trips) : BitVec 32 :=
  let c128_i32_469 : BitVec 32 := 128#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_468 : BitVec 32 := 32#32
  let v550 : BitVec 32 := Scalar.muli v409 c32_i32_468
  let v551 : BitVec 32 := Scalar.addi c128_i32_469 v550
  v551
def k0_mult398 (k0_t2 : Fin k0_t2_loop.trips) : BitVec 32 :=
  let c640_i32 : BitVec 32 := 640#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_470 : BitVec 32 := 32#32
  let v553 : BitVec 32 := Scalar.muli v409 c32_i32_470
  let v554 : BitVec 32 := Scalar.addi c640_i32 v553
  v554
def k0_mult399 (k0_t2 : Fin k0_t2_loop.trips) : BitVec 32 :=
  let c1152_i32_472 : BitVec 32 := 1152#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_471 : BitVec 32 := 32#32
  let v556 : BitVec 32 := Scalar.muli v409 c32_i32_471
  let v557 : BitVec 32 := Scalar.addi c1152_i32_472 v556
  v557
def k0_mult400 (k0_t2 : Fin k0_t2_loop.trips) : BitVec 32 :=
  let c1664_i32 : BitVec 32 := 1664#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_473 : BitVec 32 := 32#32
  let v559 : BitVec 32 := Scalar.muli v409 c32_i32_473
  let v560 : BitVec 32 := Scalar.addi c1664_i32 v559
  v560
def k0_mult401 (k0_t2 : Fin k0_t2_loop.trips) : BitVec 32 :=
  let c384_i32 : BitVec 32 := 384#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_474 : BitVec 32 := 32#32
  let v562 : BitVec 32 := Scalar.muli v409 c32_i32_474
  let v563 : BitVec 32 := Scalar.addi c384_i32 v562
  v563
def k0_mult402 (k0_t2 : Fin k0_t2_loop.trips) : BitVec 32 :=
  let c1408_i32 : BitVec 32 := 1408#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_475 : BitVec 32 := 32#32
  let v565 : BitVec 32 := Scalar.muli v409 c32_i32_475
  let v566 : BitVec 32 := Scalar.addi c1408_i32 v565
  v566
def k0_mult403 (k0_t2 : Fin k0_t2_loop.trips) : BitVec 32 :=
  let c2432_i32 : BitVec 32 := 2432#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_476 : BitVec 32 := 32#32
  let v568 : BitVec 32 := Scalar.muli v409 c32_i32_476
  let v569 : BitVec 32 := Scalar.addi c2432_i32 v568
  v569
def k0_mult404 (k0_t2 : Fin k0_t2_loop.trips) : BitVec 32 :=
  let c3456_i32 : BitVec 32 := 3456#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_477 : BitVec 32 := 32#32
  let v571 : BitVec 32 := Scalar.muli v409 c32_i32_477
  let v572 : BitVec 32 := Scalar.addi c3456_i32 v571
  v572
def k0_mult405 (k0_t2 : Fin k0_t2_loop.trips) : BitVec 32 :=
  let c384_i32_479 : BitVec 32 := 384#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_478 : BitVec 32 := 32#32
  let v574 : BitVec 32 := Scalar.muli v409 c32_i32_478
  let v575 : BitVec 32 := Scalar.addi c384_i32_479 v574
  let c32_i32_480 : BitVec 32 := 32#32
  let v576 : BitVec 32 := Scalar.subi v575 c32_i32_480
  v576
def k0_mult406 (k0_t2 : Fin k0_t2_loop.trips) : BitVec 32 :=
  let c1408_i32_482 : BitVec 32 := 1408#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_481 : BitVec 32 := 32#32
  let v578 : BitVec 32 := Scalar.muli v409 c32_i32_481
  let v579 : BitVec 32 := Scalar.addi c1408_i32_482 v578
  let c32_i32_483 : BitVec 32 := 32#32
  let v580 : BitVec 32 := Scalar.subi v579 c32_i32_483
  v580
def k0_mult407 (k0_t2 : Fin k0_t2_loop.trips) : BitVec 32 :=
  let c2432_i32_485 : BitVec 32 := 2432#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_484 : BitVec 32 := 32#32
  let v582 : BitVec 32 := Scalar.muli v409 c32_i32_484
  let v583 : BitVec 32 := Scalar.addi c2432_i32_485 v582
  let c32_i32_486 : BitVec 32 := 32#32
  let v584 : BitVec 32 := Scalar.subi v583 c32_i32_486
  v584
def k0_mult408 (k0_t2 : Fin k0_t2_loop.trips) : BitVec 32 :=
  let c3456_i32_488 : BitVec 32 := 3456#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_487 : BitVec 32 := 32#32
  let v586 : BitVec 32 := Scalar.muli v409 c32_i32_487
  let v587 : BitVec 32 := Scalar.addi c3456_i32_488 v586
  let c32_i32_489 : BitVec 32 := 32#32
  let v588 : BitVec 32 := Scalar.subi v587 c32_i32_489
  v588
def k0_mult409 (k0_t2 : Fin k0_t2_loop.trips) : BitVec 32 :=
  let c256_i32 : BitVec 32 := 256#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_529 : BitVec 32 := 32#32
  let v686 : BitVec 32 := Scalar.muli v411 c32_i32_529
  let v687 : BitVec 32 := Scalar.addi c256_i32 v686
  v687
def k0_mult410 (k0_t2 : Fin k0_t2_loop.trips) : BitVec 32 :=
  let c768_i32 : BitVec 32 := 768#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_530 : BitVec 32 := 32#32
  let v689 : BitVec 32 := Scalar.muli v411 c32_i32_530
  let v690 : BitVec 32 := Scalar.addi c768_i32 v689
  v690
def k0_mult411 (k0_t2 : Fin k0_t2_loop.trips) : BitVec 32 :=
  let c1280_i32 : BitVec 32 := 1280#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_531 : BitVec 32 := 32#32
  let v692 : BitVec 32 := Scalar.muli v411 c32_i32_531
  let v693 : BitVec 32 := Scalar.addi c1280_i32 v692
  v693
def k0_mult412 (k0_t2 : Fin k0_t2_loop.trips) : BitVec 32 :=
  let c1792_i32 : BitVec 32 := 1792#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_532 : BitVec 32 := 32#32
  let v695 : BitVec 32 := Scalar.muli v411 c32_i32_532
  let v696 : BitVec 32 := Scalar.addi c1792_i32 v695
  v696
def k0_mult413 (k0_t2 : Fin k0_t2_loop.trips) : BitVec 32 :=
  let c640_i32_534 : BitVec 32 := 640#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_533 : BitVec 32 := 32#32
  let v698 : BitVec 32 := Scalar.muli v411 c32_i32_533
  let v699 : BitVec 32 := Scalar.addi c640_i32_534 v698
  v699
def k0_mult414 (k0_t2 : Fin k0_t2_loop.trips) : BitVec 32 :=
  let c1664_i32_536 : BitVec 32 := 1664#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_535 : BitVec 32 := 32#32
  let v701 : BitVec 32 := Scalar.muli v411 c32_i32_535
  let v702 : BitVec 32 := Scalar.addi c1664_i32_536 v701
  v702
def k0_mult415 (k0_t2 : Fin k0_t2_loop.trips) : BitVec 32 :=
  let c2688_i32 : BitVec 32 := 2688#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_537 : BitVec 32 := 32#32
  let v704 : BitVec 32 := Scalar.muli v411 c32_i32_537
  let v705 : BitVec 32 := Scalar.addi c2688_i32 v704
  v705
def k0_mult416 (k0_t2 : Fin k0_t2_loop.trips) : BitVec 32 :=
  let c3712_i32 : BitVec 32 := 3712#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_538 : BitVec 32 := 32#32
  let v707 : BitVec 32 := Scalar.muli v411 c32_i32_538
  let v708 : BitVec 32 := Scalar.addi c3712_i32 v707
  v708
def k0_mult417 (k0_t2 : Fin k0_t2_loop.trips) : BitVec 32 :=
  let c640_i32_540 : BitVec 32 := 640#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_539 : BitVec 32 := 32#32
  let v710 : BitVec 32 := Scalar.muli v411 c32_i32_539
  let v711 : BitVec 32 := Scalar.addi c640_i32_540 v710
  let c32_i32_541 : BitVec 32 := 32#32
  let v712 : BitVec 32 := Scalar.subi v711 c32_i32_541
  v712
def k0_mult418 (k0_t2 : Fin k0_t2_loop.trips) : BitVec 32 :=
  let c1664_i32_543 : BitVec 32 := 1664#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_542 : BitVec 32 := 32#32
  let v714 : BitVec 32 := Scalar.muli v411 c32_i32_542
  let v715 : BitVec 32 := Scalar.addi c1664_i32_543 v714
  let c32_i32_544 : BitVec 32 := 32#32
  let v716 : BitVec 32 := Scalar.subi v715 c32_i32_544
  v716
def k0_mult419 (k0_t2 : Fin k0_t2_loop.trips) : BitVec 32 :=
  let c2688_i32_546 : BitVec 32 := 2688#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_545 : BitVec 32 := 32#32
  let v718 : BitVec 32 := Scalar.muli v411 c32_i32_545
  let v719 : BitVec 32 := Scalar.addi c2688_i32_546 v718
  let c32_i32_547 : BitVec 32 := 32#32
  let v720 : BitVec 32 := Scalar.subi v719 c32_i32_547
  v720
def k0_mult420 (k0_t2 : Fin k0_t2_loop.trips) : BitVec 32 :=
  let c3712_i32_549 : BitVec 32 := 3712#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_548 : BitVec 32 := 32#32
  let v722 : BitVec 32 := Scalar.muli v411 c32_i32_548
  let v723 : BitVec 32 := Scalar.addi c3712_i32_549 v722
  let c32_i32_550 : BitVec 32 := 32#32
  let v724 : BitVec 32 := Scalar.subi v723 c32_i32_550
  v724
def k0_mult421 (k0_t2 : Fin k0_t2_loop.trips) : BitVec 32 :=
  let c384_i32_591 : BitVec 32 := 384#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_590 : BitVec 32 := 32#32
  let v822 : BitVec 32 := Scalar.muli v413 c32_i32_590
  let v823 : BitVec 32 := Scalar.addi c384_i32_591 v822
  v823
def k0_mult422 (k0_t2 : Fin k0_t2_loop.trips) : BitVec 32 :=
  let c896_i32 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_592 : BitVec 32 := 32#32
  let v825 : BitVec 32 := Scalar.muli v413 c32_i32_592
  let v826 : BitVec 32 := Scalar.addi c896_i32 v825
  v826
def k0_mult423 (k0_t2 : Fin k0_t2_loop.trips) : BitVec 32 :=
  let c1408_i32_594 : BitVec 32 := 1408#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_593 : BitVec 32 := 32#32
  let v828 : BitVec 32 := Scalar.muli v413 c32_i32_593
  let v829 : BitVec 32 := Scalar.addi c1408_i32_594 v828
  v829
def k0_mult424 (k0_t2 : Fin k0_t2_loop.trips) : BitVec 32 :=
  let c1920_i32 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_595 : BitVec 32 := 32#32
  let v831 : BitVec 32 := Scalar.muli v413 c32_i32_595
  let v832 : BitVec 32 := Scalar.addi c1920_i32 v831
  v832
def k0_mult425 (k0_t2 : Fin k0_t2_loop.trips) : BitVec 32 :=
  let c896_i32_597 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_596 : BitVec 32 := 32#32
  let v834 : BitVec 32 := Scalar.muli v413 c32_i32_596
  let v835 : BitVec 32 := Scalar.addi c896_i32_597 v834
  v835
def k0_mult426 (k0_t2 : Fin k0_t2_loop.trips) : BitVec 32 :=
  let c1920_i32_599 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_598 : BitVec 32 := 32#32
  let v837 : BitVec 32 := Scalar.muli v413 c32_i32_598
  let v838 : BitVec 32 := Scalar.addi c1920_i32_599 v837
  v838
def k0_mult427 (k0_t2 : Fin k0_t2_loop.trips) : BitVec 32 :=
  let c2944_i32 : BitVec 32 := 2944#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_600 : BitVec 32 := 32#32
  let v840 : BitVec 32 := Scalar.muli v413 c32_i32_600
  let v841 : BitVec 32 := Scalar.addi c2944_i32 v840
  v841
def k0_mult428 (k0_t2 : Fin k0_t2_loop.trips) : BitVec 32 :=
  let c3968_i32 : BitVec 32 := 3968#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_601 : BitVec 32 := 32#32
  let v843 : BitVec 32 := Scalar.muli v413 c32_i32_601
  let v844 : BitVec 32 := Scalar.addi c3968_i32 v843
  v844
def k0_mult429 (k0_t2 : Fin k0_t2_loop.trips) : BitVec 32 :=
  let c896_i32_603 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_602 : BitVec 32 := 32#32
  let v846 : BitVec 32 := Scalar.muli v413 c32_i32_602
  let v847 : BitVec 32 := Scalar.addi c896_i32_603 v846
  let c32_i32_604 : BitVec 32 := 32#32
  let v848 : BitVec 32 := Scalar.subi v847 c32_i32_604
  v848
def k0_mult430 (k0_t2 : Fin k0_t2_loop.trips) : BitVec 32 :=
  let c1920_i32_606 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_605 : BitVec 32 := 32#32
  let v850 : BitVec 32 := Scalar.muli v413 c32_i32_605
  let v851 : BitVec 32 := Scalar.addi c1920_i32_606 v850
  let c32_i32_607 : BitVec 32 := 32#32
  let v852 : BitVec 32 := Scalar.subi v851 c32_i32_607
  v852
def k0_mult431 (k0_t2 : Fin k0_t2_loop.trips) : BitVec 32 :=
  let c2944_i32_609 : BitVec 32 := 2944#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_608 : BitVec 32 := 32#32
  let v854 : BitVec 32 := Scalar.muli v413 c32_i32_608
  let v855 : BitVec 32 := Scalar.addi c2944_i32_609 v854
  let c32_i32_610 : BitVec 32 := 32#32
  let v856 : BitVec 32 := Scalar.subi v855 c32_i32_610
  v856
def k0_mult432 (k0_t2 : Fin k0_t2_loop.trips) : BitVec 32 :=
  let c3968_i32_612 : BitVec 32 := 3968#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_611 : BitVec 32 := 32#32
  let v858 : BitVec 32 := Scalar.muli v413 c32_i32_611
  let v859 : BitVec 32 := Scalar.addi c3968_i32_612 v858
  let c32_i32_613 : BitVec 32 := 32#32
  let v860 : BitVec 32 := Scalar.subi v859 c32_i32_613
  v860
def k0_mult433 (k0_t2 : Fin k0_t2_loop.trips) : BitVec 32 :=
  let c0_i32_654 : BitVec 32 := 0#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_653 : BitVec 32 := 32#32
  let v958 : BitVec 32 := Scalar.muli v407 c32_i32_653
  let v959 : BitVec 32 := Scalar.addi c0_i32_654 v958
  v959
def k0_mult434 (k0_t2 : Fin k0_t2_loop.trips) : BitVec 32 :=
  let c512_i32_656 : BitVec 32 := 512#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_655 : BitVec 32 := 32#32
  let v961 : BitVec 32 := Scalar.muli v407 c32_i32_655
  let v962 : BitVec 32 := Scalar.addi c512_i32_656 v961
  v962
def k0_mult435 (k0_t2 : Fin k0_t2_loop.trips) : BitVec 32 :=
  let c1024_i32_658 : BitVec 32 := 1024#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_657 : BitVec 32 := 32#32
  let v964 : BitVec 32 := Scalar.muli v407 c32_i32_657
  let v965 : BitVec 32 := Scalar.addi c1024_i32_658 v964
  v965
def k0_mult436 (k0_t2 : Fin k0_t2_loop.trips) : BitVec 32 :=
  let c1536_i32_660 : BitVec 32 := 1536#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_659 : BitVec 32 := 32#32
  let v967 : BitVec 32 := Scalar.muli v407 c32_i32_659
  let v968 : BitVec 32 := Scalar.addi c1536_i32_660 v967
  v968
def k0_mult437 (k0_t2 : Fin k0_t2_loop.trips) : BitVec 32 :=
  let c128_i32_662 : BitVec 32 := 128#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_661 : BitVec 32 := 32#32
  let v970 : BitVec 32 := Scalar.muli v407 c32_i32_661
  let v971 : BitVec 32 := Scalar.addi c128_i32_662 v970
  v971
def k0_mult438 (k0_t2 : Fin k0_t2_loop.trips) : BitVec 32 :=
  let c1152_i32_664 : BitVec 32 := 1152#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_663 : BitVec 32 := 32#32
  let v973 : BitVec 32 := Scalar.muli v407 c32_i32_663
  let v974 : BitVec 32 := Scalar.addi c1152_i32_664 v973
  v974
def k0_mult439 (k0_t2 : Fin k0_t2_loop.trips) : BitVec 32 :=
  let c2176_i32_666 : BitVec 32 := 2176#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_665 : BitVec 32 := 32#32
  let v976 : BitVec 32 := Scalar.muli v407 c32_i32_665
  let v977 : BitVec 32 := Scalar.addi c2176_i32_666 v976
  v977
def k0_mult440 (k0_t2 : Fin k0_t2_loop.trips) : BitVec 32 :=
  let c3200_i32_668 : BitVec 32 := 3200#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_667 : BitVec 32 := 32#32
  let v979 : BitVec 32 := Scalar.muli v407 c32_i32_667
  let v980 : BitVec 32 := Scalar.addi c3200_i32_668 v979
  v980
def k0_mult441 (k0_t2 : Fin k0_t2_loop.trips) : BitVec 32 :=
  let c128_i32_670 : BitVec 32 := 128#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_669 : BitVec 32 := 32#32
  let v982 : BitVec 32 := Scalar.muli v407 c32_i32_669
  let v983 : BitVec 32 := Scalar.addi c128_i32_670 v982
  let c32_i32_671 : BitVec 32 := 32#32
  let v984 : BitVec 32 := Scalar.subi v983 c32_i32_671
  v984
def k0_mult442 (k0_t2 : Fin k0_t2_loop.trips) : BitVec 32 :=
  let c1152_i32_673 : BitVec 32 := 1152#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_672 : BitVec 32 := 32#32
  let v986 : BitVec 32 := Scalar.muli v407 c32_i32_672
  let v987 : BitVec 32 := Scalar.addi c1152_i32_673 v986
  let c32_i32_674 : BitVec 32 := 32#32
  let v988 : BitVec 32 := Scalar.subi v987 c32_i32_674
  v988
def k0_mult443 (k0_t2 : Fin k0_t2_loop.trips) : BitVec 32 :=
  let c2176_i32_676 : BitVec 32 := 2176#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_675 : BitVec 32 := 32#32
  let v990 : BitVec 32 := Scalar.muli v407 c32_i32_675
  let v991 : BitVec 32 := Scalar.addi c2176_i32_676 v990
  let c32_i32_677 : BitVec 32 := 32#32
  let v992 : BitVec 32 := Scalar.subi v991 c32_i32_677
  v992
def k0_mult444 (k0_t2 : Fin k0_t2_loop.trips) : BitVec 32 :=
  let c3200_i32_679 : BitVec 32 := 3200#32
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c32_i32_678 : BitVec 32 := 32#32
  let v994 : BitVec 32 := Scalar.muli v407 c32_i32_678
  let v995 : BitVec 32 := Scalar.addi c3200_i32_679 v994
  let c32_i32_680 : BitVec 32 := 32#32
  let v996 : BitVec 32 := Scalar.subi v995 c32_i32_680
  v996
def k0_off8 (i : grid0.Coords) (k0_t2 : Fin k0_t2_loop.trips) (c0_i32_684 : BitVec 32) : Fin 3 → Nat :=
  let c2_i32 : BitVec 32 := 2#32
  let c3_i32 : BitVec 32 := 3#32
  let arg1 : BitVec 32 := BitVec.ofNat 32 (i 1).val
  let v0 : BitVec 32 := Scalar.subi c3_i32 arg1
  let c0_i32_681 : BitVec 32 := 0#32
  let v998 : BitVec 1 := Scalar.cmpi .eq v0 c0_i32_681
  let c0_i32_231 : BitVec 32 := 0#32
  let c1_i32_233 : BitVec 32 := 1#32
  let arg19 : BitVec 32 := Scf.iv c0_i32_231 c1_i32_233 k0_t2
  let c1_i32_402 : BitVec 32 := 1#32
  let v406 : BitVec 32 := Scalar.muli arg19 c1_i32_402
  let c0_i32_403 : BitVec 32 := 0#32
  let v407 : BitVec 32 := Scalar.addi v406 c0_i32_403
  let c0_i32_682 : BitVec 32 := 0#32
  let v999 : BitVec 1 := Scalar.cmpi .eq v407 c0_i32_682
  let v1000 : BitVec 1 := Scalar.andi v998 v999
  let v1001 : BitVec 32 := Scalar.extui v1000
  let v1002 : BitVec 32 := Scalar.addi c2_i32 v1001
  let c2_i32_683 : BitVec 32 := 2#32
  let v1003 : BitVec 32 := Scalar.muli v1002 c2_i32_683
  let v1006 : BitVec 32 := Scalar.addi v1003 c0_i32_684
  let v1007 : Index := Scalar.indexCast v1006
  let c0_685 : Index := 0#32
  let c0_686 : Index := 0#32
  ![v1007.toNat, 0, 0]
def k0_mult445 (k0_t2 : Fin k0_t2_loop.trips) : BitVec 32 :=
  let c128_i32_694 : BitVec 32 := 128#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_693 : BitVec 32 := 32#32
  let v1053 : BitVec 32 := Scalar.muli v409 c32_i32_693
  let v1054 : BitVec 32 := Scalar.addi c128_i32_694 v1053
  v1054
def k0_mult446 (k0_t2 : Fin k0_t2_loop.trips) : BitVec 32 :=
  let c640_i32_696 : BitVec 32 := 640#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_695 : BitVec 32 := 32#32
  let v1056 : BitVec 32 := Scalar.muli v409 c32_i32_695
  let v1057 : BitVec 32 := Scalar.addi c640_i32_696 v1056
  v1057
def k0_mult447 (k0_t2 : Fin k0_t2_loop.trips) : BitVec 32 :=
  let c1152_i32_698 : BitVec 32 := 1152#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_697 : BitVec 32 := 32#32
  let v1059 : BitVec 32 := Scalar.muli v409 c32_i32_697
  let v1060 : BitVec 32 := Scalar.addi c1152_i32_698 v1059
  v1060
def k0_mult448 (k0_t2 : Fin k0_t2_loop.trips) : BitVec 32 :=
  let c1664_i32_700 : BitVec 32 := 1664#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_699 : BitVec 32 := 32#32
  let v1062 : BitVec 32 := Scalar.muli v409 c32_i32_699
  let v1063 : BitVec 32 := Scalar.addi c1664_i32_700 v1062
  v1063
def k0_mult449 (k0_t2 : Fin k0_t2_loop.trips) : BitVec 32 :=
  let c384_i32_702 : BitVec 32 := 384#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_701 : BitVec 32 := 32#32
  let v1065 : BitVec 32 := Scalar.muli v409 c32_i32_701
  let v1066 : BitVec 32 := Scalar.addi c384_i32_702 v1065
  v1066
def k0_mult450 (k0_t2 : Fin k0_t2_loop.trips) : BitVec 32 :=
  let c1408_i32_704 : BitVec 32 := 1408#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_703 : BitVec 32 := 32#32
  let v1068 : BitVec 32 := Scalar.muli v409 c32_i32_703
  let v1069 : BitVec 32 := Scalar.addi c1408_i32_704 v1068
  v1069
def k0_mult451 (k0_t2 : Fin k0_t2_loop.trips) : BitVec 32 :=
  let c2432_i32_706 : BitVec 32 := 2432#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_705 : BitVec 32 := 32#32
  let v1071 : BitVec 32 := Scalar.muli v409 c32_i32_705
  let v1072 : BitVec 32 := Scalar.addi c2432_i32_706 v1071
  v1072
def k0_mult452 (k0_t2 : Fin k0_t2_loop.trips) : BitVec 32 :=
  let c3456_i32_708 : BitVec 32 := 3456#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_707 : BitVec 32 := 32#32
  let v1074 : BitVec 32 := Scalar.muli v409 c32_i32_707
  let v1075 : BitVec 32 := Scalar.addi c3456_i32_708 v1074
  v1075
def k0_mult453 (k0_t2 : Fin k0_t2_loop.trips) : BitVec 32 :=
  let c384_i32_710 : BitVec 32 := 384#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_709 : BitVec 32 := 32#32
  let v1077 : BitVec 32 := Scalar.muli v409 c32_i32_709
  let v1078 : BitVec 32 := Scalar.addi c384_i32_710 v1077
  let c32_i32_711 : BitVec 32 := 32#32
  let v1079 : BitVec 32 := Scalar.subi v1078 c32_i32_711
  v1079
def k0_mult454 (k0_t2 : Fin k0_t2_loop.trips) : BitVec 32 :=
  let c1408_i32_713 : BitVec 32 := 1408#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_712 : BitVec 32 := 32#32
  let v1081 : BitVec 32 := Scalar.muli v409 c32_i32_712
  let v1082 : BitVec 32 := Scalar.addi c1408_i32_713 v1081
  let c32_i32_714 : BitVec 32 := 32#32
  let v1083 : BitVec 32 := Scalar.subi v1082 c32_i32_714
  v1083
def k0_mult455 (k0_t2 : Fin k0_t2_loop.trips) : BitVec 32 :=
  let c2432_i32_716 : BitVec 32 := 2432#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_715 : BitVec 32 := 32#32
  let v1085 : BitVec 32 := Scalar.muli v409 c32_i32_715
  let v1086 : BitVec 32 := Scalar.addi c2432_i32_716 v1085
  let c32_i32_717 : BitVec 32 := 32#32
  let v1087 : BitVec 32 := Scalar.subi v1086 c32_i32_717
  v1087
def k0_mult456 (k0_t2 : Fin k0_t2_loop.trips) : BitVec 32 :=
  let c3456_i32_719 : BitVec 32 := 3456#32
  let c0_i32_231 : BitVec 32 := 0#32
  let c1_i32_233 : BitVec 32 := 1#32
  let arg19 : BitVec 32 := Scf.iv c0_i32_231 c1_i32_233 k0_t2
  let c1_i32_404 : BitVec 32 := 1#32
  let v408 : BitVec 32 := Scalar.muli arg19 c1_i32_404
  let c0_i32_405 : BitVec 32 := 0#32
  let v409 : BitVec 32 := Scalar.addi v408 c0_i32_405
  let c32_i32_718 : BitVec 32 := 32#32
  let v1089 : BitVec 32 := Scalar.muli v409 c32_i32_718
  let v1090 : BitVec 32 := Scalar.addi c3456_i32_719 v1089
  let c32_i32_720 : BitVec 32 := 32#32
  let v1091 : BitVec 32 := Scalar.subi v1090 c32_i32_720
  v1091
def k0_mult457 (k0_t2 : Fin k0_t2_loop.trips) : BitVec 32 :=
  let c256_i32_735 : BitVec 32 := 256#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_734 : BitVec 32 := 32#32
  let v1148 : BitVec 32 := Scalar.muli v411 c32_i32_734
  let v1149 : BitVec 32 := Scalar.addi c256_i32_735 v1148
  v1149
def k0_mult458 (k0_t2 : Fin k0_t2_loop.trips) : BitVec 32 :=
  let c768_i32_737 : BitVec 32 := 768#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_736 : BitVec 32 := 32#32
  let v1151 : BitVec 32 := Scalar.muli v411 c32_i32_736
  let v1152 : BitVec 32 := Scalar.addi c768_i32_737 v1151
  v1152
def k0_mult459 (k0_t2 : Fin k0_t2_loop.trips) : BitVec 32 :=
  let c1280_i32_739 : BitVec 32 := 1280#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_738 : BitVec 32 := 32#32
  let v1154 : BitVec 32 := Scalar.muli v411 c32_i32_738
  let v1155 : BitVec 32 := Scalar.addi c1280_i32_739 v1154
  v1155
def k0_mult460 (k0_t2 : Fin k0_t2_loop.trips) : BitVec 32 :=
  let c1792_i32_741 : BitVec 32 := 1792#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_740 : BitVec 32 := 32#32
  let v1157 : BitVec 32 := Scalar.muli v411 c32_i32_740
  let v1158 : BitVec 32 := Scalar.addi c1792_i32_741 v1157
  v1158
def k0_mult461 (k0_t2 : Fin k0_t2_loop.trips) : BitVec 32 :=
  let c640_i32_743 : BitVec 32 := 640#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_742 : BitVec 32 := 32#32
  let v1160 : BitVec 32 := Scalar.muli v411 c32_i32_742
  let v1161 : BitVec 32 := Scalar.addi c640_i32_743 v1160
  v1161
def k0_mult462 (k0_t2 : Fin k0_t2_loop.trips) : BitVec 32 :=
  let c1664_i32_745 : BitVec 32 := 1664#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_744 : BitVec 32 := 32#32
  let v1163 : BitVec 32 := Scalar.muli v411 c32_i32_744
  let v1164 : BitVec 32 := Scalar.addi c1664_i32_745 v1163
  v1164
def k0_mult463 (k0_t2 : Fin k0_t2_loop.trips) : BitVec 32 :=
  let c2688_i32_747 : BitVec 32 := 2688#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_746 : BitVec 32 := 32#32
  let v1166 : BitVec 32 := Scalar.muli v411 c32_i32_746
  let v1167 : BitVec 32 := Scalar.addi c2688_i32_747 v1166
  v1167
def k0_mult464 (k0_t2 : Fin k0_t2_loop.trips) : BitVec 32 :=
  let c3712_i32_749 : BitVec 32 := 3712#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_748 : BitVec 32 := 32#32
  let v1169 : BitVec 32 := Scalar.muli v411 c32_i32_748
  let v1170 : BitVec 32 := Scalar.addi c3712_i32_749 v1169
  v1170
def k0_mult465 (k0_t2 : Fin k0_t2_loop.trips) : BitVec 32 :=
  let c640_i32_751 : BitVec 32 := 640#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_750 : BitVec 32 := 32#32
  let v1172 : BitVec 32 := Scalar.muli v411 c32_i32_750
  let v1173 : BitVec 32 := Scalar.addi c640_i32_751 v1172
  let c32_i32_752 : BitVec 32 := 32#32
  let v1174 : BitVec 32 := Scalar.subi v1173 c32_i32_752
  v1174
def k0_mult466 (k0_t2 : Fin k0_t2_loop.trips) : BitVec 32 :=
  let c1664_i32_754 : BitVec 32 := 1664#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_753 : BitVec 32 := 32#32
  let v1176 : BitVec 32 := Scalar.muli v411 c32_i32_753
  let v1177 : BitVec 32 := Scalar.addi c1664_i32_754 v1176
  let c32_i32_755 : BitVec 32 := 32#32
  let v1178 : BitVec 32 := Scalar.subi v1177 c32_i32_755
  v1178
def k0_mult467 (k0_t2 : Fin k0_t2_loop.trips) : BitVec 32 :=
  let c2688_i32_757 : BitVec 32 := 2688#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_756 : BitVec 32 := 32#32
  let v1180 : BitVec 32 := Scalar.muli v411 c32_i32_756
  let v1181 : BitVec 32 := Scalar.addi c2688_i32_757 v1180
  let c32_i32_758 : BitVec 32 := 32#32
  let v1182 : BitVec 32 := Scalar.subi v1181 c32_i32_758
  v1182
def k0_mult468 (k0_t2 : Fin k0_t2_loop.trips) : BitVec 32 :=
  let c3712_i32_760 : BitVec 32 := 3712#32
  let c0_i32_231 : BitVec 32 := 0#32
  let c1_i32_233 : BitVec 32 := 1#32
  let arg19 : BitVec 32 := Scf.iv c0_i32_231 c1_i32_233 k0_t2
  let c1_i32_406 : BitVec 32 := 1#32
  let v410 : BitVec 32 := Scalar.muli arg19 c1_i32_406
  let c0_i32_407 : BitVec 32 := 0#32
  let v411 : BitVec 32 := Scalar.addi v410 c0_i32_407
  let c32_i32_759 : BitVec 32 := 32#32
  let v1184 : BitVec 32 := Scalar.muli v411 c32_i32_759
  let v1185 : BitVec 32 := Scalar.addi c3712_i32_760 v1184
  let c32_i32_761 : BitVec 32 := 32#32
  let v1186 : BitVec 32 := Scalar.subi v1185 c32_i32_761
  v1186
def k0_mult469 (k0_t2 : Fin k0_t2_loop.trips) : BitVec 32 :=
  let c384_i32_776 : BitVec 32 := 384#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_775 : BitVec 32 := 32#32
  let v1243 : BitVec 32 := Scalar.muli v413 c32_i32_775
  let v1244 : BitVec 32 := Scalar.addi c384_i32_776 v1243
  v1244
def k0_mult470 (k0_t2 : Fin k0_t2_loop.trips) : BitVec 32 :=
  let c896_i32_778 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_777 : BitVec 32 := 32#32
  let v1246 : BitVec 32 := Scalar.muli v413 c32_i32_777
  let v1247 : BitVec 32 := Scalar.addi c896_i32_778 v1246
  v1247
def k0_mult471 (k0_t2 : Fin k0_t2_loop.trips) : BitVec 32 :=
  let c1408_i32_780 : BitVec 32 := 1408#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_779 : BitVec 32 := 32#32
  let v1249 : BitVec 32 := Scalar.muli v413 c32_i32_779
  let v1250 : BitVec 32 := Scalar.addi c1408_i32_780 v1249
  v1250
def k0_mult472 (k0_t2 : Fin k0_t2_loop.trips) : BitVec 32 :=
  let c1920_i32_782 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_781 : BitVec 32 := 32#32
  let v1252 : BitVec 32 := Scalar.muli v413 c32_i32_781
  let v1253 : BitVec 32 := Scalar.addi c1920_i32_782 v1252
  v1253
def k0_mult473 (k0_t2 : Fin k0_t2_loop.trips) : BitVec 32 :=
  let c896_i32_784 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_783 : BitVec 32 := 32#32
  let v1255 : BitVec 32 := Scalar.muli v413 c32_i32_783
  let v1256 : BitVec 32 := Scalar.addi c896_i32_784 v1255
  v1256
def k0_mult474 (k0_t2 : Fin k0_t2_loop.trips) : BitVec 32 :=
  let c1920_i32_786 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_785 : BitVec 32 := 32#32
  let v1258 : BitVec 32 := Scalar.muli v413 c32_i32_785
  let v1259 : BitVec 32 := Scalar.addi c1920_i32_786 v1258
  v1259
def k0_mult475 (k0_t2 : Fin k0_t2_loop.trips) : BitVec 32 :=
  let c2944_i32_788 : BitVec 32 := 2944#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_787 : BitVec 32 := 32#32
  let v1261 : BitVec 32 := Scalar.muli v413 c32_i32_787
  let v1262 : BitVec 32 := Scalar.addi c2944_i32_788 v1261
  v1262
def k0_mult476 (k0_t2 : Fin k0_t2_loop.trips) : BitVec 32 :=
  let c3968_i32_790 : BitVec 32 := 3968#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_789 : BitVec 32 := 32#32
  let v1264 : BitVec 32 := Scalar.muli v413 c32_i32_789
  let v1265 : BitVec 32 := Scalar.addi c3968_i32_790 v1264
  v1265
def k0_mult477 (k0_t2 : Fin k0_t2_loop.trips) : BitVec 32 :=
  let c896_i32_792 : BitVec 32 := 896#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_791 : BitVec 32 := 32#32
  let v1267 : BitVec 32 := Scalar.muli v413 c32_i32_791
  let v1268 : BitVec 32 := Scalar.addi c896_i32_792 v1267
  let c32_i32_793 : BitVec 32 := 32#32
  let v1269 : BitVec 32 := Scalar.subi v1268 c32_i32_793
  v1269
def k0_mult478 (k0_t2 : Fin k0_t2_loop.trips) : BitVec 32 :=
  let c1920_i32_795 : BitVec 32 := 1920#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_794 : BitVec 32 := 32#32
  let v1271 : BitVec 32 := Scalar.muli v413 c32_i32_794
  let v1272 : BitVec 32 := Scalar.addi c1920_i32_795 v1271
  let c32_i32_796 : BitVec 32 := 32#32
  let v1273 : BitVec 32 := Scalar.subi v1272 c32_i32_796
  v1273
def k0_mult479 (k0_t2 : Fin k0_t2_loop.trips) : BitVec 32 :=
  let c2944_i32_798 : BitVec 32 := 2944#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_797 : BitVec 32 := 32#32
  let v1275 : BitVec 32 := Scalar.muli v413 c32_i32_797
  let v1276 : BitVec 32 := Scalar.addi c2944_i32_798 v1275
  let c32_i32_799 : BitVec 32 := 32#32
  let v1277 : BitVec 32 := Scalar.subi v1276 c32_i32_799
  v1277
def k0_mult480 (k0_t2 : Fin k0_t2_loop.trips) : BitVec 32 :=
  let c3968_i32_801 : BitVec 32 := 3968#32
  let c0_i32_231 : BitVec 32 := 0#32
  let c1_i32_233 : BitVec 32 := 1#32
  let arg19 : BitVec 32 := Scf.iv c0_i32_231 c1_i32_233 k0_t2
  let c1_i32_408 : BitVec 32 := 1#32
  let v412 : BitVec 32 := Scalar.muli arg19 c1_i32_408
  let c0_i32_409 : BitVec 32 := 0#32
  let v413 : BitVec 32 := Scalar.addi v412 c0_i32_409
  let c32_i32_800 : BitVec 32 := 32#32
  let v1279 : BitVec 32 := Scalar.muli v413 c32_i32_800
  let v1280 : BitVec 32 := Scalar.addi c3968_i32_801 v1279
  let c32_i32_802 : BitVec 32 := 32#32
  let v1281 : BitVec 32 := Scalar.subi v1280 c32_i32_802
  v1281
@[reducible] def k0_t3_loop : Scf.Loop 32 :=
  let c0_i32_235 : BitVec 32 := 0#32
  let c4_i32_236 : BitVec 32 := 4#32
  let v274 : BitVec 32 := Scalar.addi c0_i32_235 c4_i32_236
  let c1_i32_237 : BitVec 32 := 1#32
  ⟨c0_i32_235, v274, c1_i32_237⟩
def k0_mult481 (k0_t3 : Fin k0_t3_loop.trips) : BitVec 32 :=
  let c0_i32_409 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v414 : BitVec 32 := Scalar.addi c0_i32_409 v407
  let c128_i32 : BitVec 32 := 128#32
  let v415 : BitVec 32 := Scalar.muli v414 c128_i32
  let c0_i32_410 : BitVec 32 := 0#32
  let v416 : BitVec 32 := Scalar.addi v415 c0_i32_410
  v416
def k0_mult482 (k0_t3 : Fin k0_t3_loop.trips) : BitVec 32 :=
  let c0_i32_411 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v418 : BitVec 32 := Scalar.addi c0_i32_411 v407
  let c2_i32_412 : BitVec 32 := 2#32
  let v419 : BitVec 32 := Scalar.muli v418 c2_i32_412
  let c128_i32_413 : BitVec 32 := 128#32
  let v420 : BitVec 32 := Scalar.muli v419 c128_i32_413
  let c128_i32_414 : BitVec 32 := 128#32
  let v421 : BitVec 32 := Scalar.addi v420 c128_i32_414
  let c0_i32_415 : BitVec 32 := 0#32
  let v422 : BitVec 32 := Scalar.addi v421 c0_i32_415
  v422
def k0_mult483 (k0_t3 : Fin k0_t3_loop.trips) : BitVec 32 :=
  let c0_i32_416 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v424 : BitVec 32 := Scalar.addi c0_i32_416 v407
  let c2_i32_417 : BitVec 32 := 2#32
  let v425 : BitVec 32 := Scalar.muli v424 c2_i32_417
  let c128_i32_418 : BitVec 32 := 128#32
  let v426 : BitVec 32 := Scalar.muli v425 c128_i32_418
  let c128_i32_419 : BitVec 32 := 128#32
  let v427 : BitVec 32 := Scalar.addi v426 c128_i32_419
  let c0_i32_420 : BitVec 32 := 0#32
  let v428 : BitVec 32 := Scalar.addi v427 c0_i32_420
  let c128_i32_421 : BitVec 32 := 128#32
  let v429 : BitVec 32 := Scalar.subi v428 c128_i32_421
  v429
def k0_off9 (k0_t3 : Fin k0_t3_loop.trips) (c0_i32_403 : BitVec 32) : Fin 2 → Nat :=
  let c0_i32_409 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let v407 : BitVec 32 := Scalar.addi v406 c0_i32_403
  let v414 : BitVec 32 := Scalar.addi c0_i32_409 v407
  let c128_i32 : BitVec 32 := 128#32
  let v415 : BitVec 32 := Scalar.muli v414 c128_i32
  let c0_i32_410 : BitVec 32 := 0#32
  let v416 : BitVec 32 := Scalar.addi v415 c0_i32_410
  let v417 : BitVec 32 := v416
  let v431 : Index := Scalar.indexCast v417
  let c0_422 : Index := 0#32
  ![v431.toNat, 0]
def k0_off10 (k0_t3 : Fin k0_t3_loop.trips) (c0_i32_403 : BitVec 32) : Fin 2 → Nat :=
  let c0_i32_416 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let v407 : BitVec 32 := Scalar.addi v406 c0_i32_403
  let v424 : BitVec 32 := Scalar.addi c0_i32_416 v407
  let c2_i32_417 : BitVec 32 := 2#32
  let v425 : BitVec 32 := Scalar.muli v424 c2_i32_417
  let c128_i32_418 : BitVec 32 := 128#32
  let v426 : BitVec 32 := Scalar.muli v425 c128_i32_418
  let c128_i32_419 : BitVec 32 := 128#32
  let v427 : BitVec 32 := Scalar.addi v426 c128_i32_419
  let c0_i32_420 : BitVec 32 := 0#32
  let v428 : BitVec 32 := Scalar.addi v427 c0_i32_420
  let c128_i32_421 : BitVec 32 := 128#32
  let v429 : BitVec 32 := Scalar.subi v428 c128_i32_421
  let v430 : BitVec 32 := v429
  let v449 : Index := Scalar.indexCast v430
  let c0_428 : Index := 0#32
  ![v449.toNat, 0]
def k0_off11 (k0_t3 : Fin k0_t3_loop.trips) (c0_i32_403 : BitVec 32) : Fin 2 → Nat :=
  let c0_i32_411 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let v407 : BitVec 32 := Scalar.addi v406 c0_i32_403
  let v418 : BitVec 32 := Scalar.addi c0_i32_411 v407
  let c2_i32_412 : BitVec 32 := 2#32
  let v419 : BitVec 32 := Scalar.muli v418 c2_i32_412
  let c128_i32_413 : BitVec 32 := 128#32
  let v420 : BitVec 32 := Scalar.muli v419 c128_i32_413
  let c128_i32_414 : BitVec 32 := 128#32
  let v421 : BitVec 32 := Scalar.addi v420 c128_i32_414
  let c0_i32_415 : BitVec 32 := 0#32
  let v422 : BitVec 32 := Scalar.addi v421 c0_i32_415
  let v423 : BitVec 32 := v422
  let v451 : Index := Scalar.indexCast v423
  let c0_429 : Index := 0#32
  ![v451.toNat, 0]
def k0_mult484 (k0_t3 : Fin k0_t3_loop.trips) : BitVec 32 :=
  let c0_i32_436 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v471 : BitVec 32 := Scalar.addi c0_i32_436 v409
  let c128_i32_437 : BitVec 32 := 128#32
  let v472 : BitVec 32 := Scalar.muli v471 c128_i32_437
  let c0_i32_438 : BitVec 32 := 0#32
  let v473 : BitVec 32 := Scalar.addi v472 c0_i32_438
  v473
def k0_mult485 (k0_t3 : Fin k0_t3_loop.trips) : BitVec 32 :=
  let c0_i32_439 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v475 : BitVec 32 := Scalar.addi c0_i32_439 v409
  let c2_i32_440 : BitVec 32 := 2#32
  let v476 : BitVec 32 := Scalar.muli v475 c2_i32_440
  let c128_i32_441 : BitVec 32 := 128#32
  let v477 : BitVec 32 := Scalar.muli v476 c128_i32_441
  let c128_i32_442 : BitVec 32 := 128#32
  let v478 : BitVec 32 := Scalar.addi v477 c128_i32_442
  let c0_i32_443 : BitVec 32 := 0#32
  let v479 : BitVec 32 := Scalar.addi v478 c0_i32_443
  v479
def k0_mult486 (k0_t3 : Fin k0_t3_loop.trips) : BitVec 32 :=
  let c0_i32_444 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v481 : BitVec 32 := Scalar.addi c0_i32_444 v409
  let c2_i32_445 : BitVec 32 := 2#32
  let v482 : BitVec 32 := Scalar.muli v481 c2_i32_445
  let c128_i32_446 : BitVec 32 := 128#32
  let v483 : BitVec 32 := Scalar.muli v482 c128_i32_446
  let c128_i32_447 : BitVec 32 := 128#32
  let v484 : BitVec 32 := Scalar.addi v483 c128_i32_447
  let c0_i32_448 : BitVec 32 := 0#32
  let v485 : BitVec 32 := Scalar.addi v484 c0_i32_448
  let c128_i32_449 : BitVec 32 := 128#32
  let v486 : BitVec 32 := Scalar.subi v485 c128_i32_449
  v486
def k0_mult487 (k0_t3 : Fin k0_t3_loop.trips) : BitVec 32 :=
  let c0_i32_465 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v528 : BitVec 32 := Scalar.addi c0_i32_465 v411
  let c128_i32_466 : BitVec 32 := 128#32
  let v529 : BitVec 32 := Scalar.muli v528 c128_i32_466
  let c0_i32_467 : BitVec 32 := 0#32
  let v530 : BitVec 32 := Scalar.addi v529 c0_i32_467
  v530
def k0_mult488 (k0_t3 : Fin k0_t3_loop.trips) : BitVec 32 :=
  let c0_i32_468 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v532 : BitVec 32 := Scalar.addi c0_i32_468 v411
  let c2_i32_469 : BitVec 32 := 2#32
  let v533 : BitVec 32 := Scalar.muli v532 c2_i32_469
  let c128_i32_470 : BitVec 32 := 128#32
  let v534 : BitVec 32 := Scalar.muli v533 c128_i32_470
  let c128_i32_471 : BitVec 32 := 128#32
  let v535 : BitVec 32 := Scalar.addi v534 c128_i32_471
  let c0_i32_472 : BitVec 32 := 0#32
  let v536 : BitVec 32 := Scalar.addi v535 c0_i32_472
  v536
def k0_mult489 (k0_t3 : Fin k0_t3_loop.trips) : BitVec 32 :=
  let c0_i32_473 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v538 : BitVec 32 := Scalar.addi c0_i32_473 v411
  let c2_i32_474 : BitVec 32 := 2#32
  let v539 : BitVec 32 := Scalar.muli v538 c2_i32_474
  let c128_i32_475 : BitVec 32 := 128#32
  let v540 : BitVec 32 := Scalar.muli v539 c128_i32_475
  let c128_i32_476 : BitVec 32 := 128#32
  let v541 : BitVec 32 := Scalar.addi v540 c128_i32_476
  let c0_i32_477 : BitVec 32 := 0#32
  let v542 : BitVec 32 := Scalar.addi v541 c0_i32_477
  let c128_i32_478 : BitVec 32 := 128#32
  let v543 : BitVec 32 := Scalar.subi v542 c128_i32_478
  v543
def k0_mult490 (k0_t3 : Fin k0_t3_loop.trips) : BitVec 32 :=
  let c0_i32_494 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v585 : BitVec 32 := Scalar.addi c0_i32_494 v413
  let c128_i32_495 : BitVec 32 := 128#32
  let v586 : BitVec 32 := Scalar.muli v585 c128_i32_495
  let c0_i32_496 : BitVec 32 := 0#32
  let v587 : BitVec 32 := Scalar.addi v586 c0_i32_496
  v587
def k0_mult491 (k0_t3 : Fin k0_t3_loop.trips) : BitVec 32 :=
  let c0_i32_497 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v589 : BitVec 32 := Scalar.addi c0_i32_497 v413
  let c2_i32_498 : BitVec 32 := 2#32
  let v590 : BitVec 32 := Scalar.muli v589 c2_i32_498
  let c128_i32_499 : BitVec 32 := 128#32
  let v591 : BitVec 32 := Scalar.muli v590 c128_i32_499
  let c128_i32_500 : BitVec 32 := 128#32
  let v592 : BitVec 32 := Scalar.addi v591 c128_i32_500
  let c0_i32_501 : BitVec 32 := 0#32
  let v593 : BitVec 32 := Scalar.addi v592 c0_i32_501
  v593
def k0_mult492 (k0_t3 : Fin k0_t3_loop.trips) : BitVec 32 :=
  let c0_i32_502 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v595 : BitVec 32 := Scalar.addi c0_i32_502 v413
  let c2_i32_503 : BitVec 32 := 2#32
  let v596 : BitVec 32 := Scalar.muli v595 c2_i32_503
  let c128_i32_504 : BitVec 32 := 128#32
  let v597 : BitVec 32 := Scalar.muli v596 c128_i32_504
  let c128_i32_505 : BitVec 32 := 128#32
  let v598 : BitVec 32 := Scalar.addi v597 c128_i32_505
  let c0_i32_506 : BitVec 32 := 0#32
  let v599 : BitVec 32 := Scalar.addi v598 c0_i32_506
  let c128_i32_507 : BitVec 32 := 128#32
  let v600 : BitVec 32 := Scalar.subi v599 c128_i32_507
  v600
def k0_mult493 (k0_t3 : Fin k0_t3_loop.trips) : BitVec 32 :=
  let c0_i32_523 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v642 : BitVec 32 := Scalar.addi c0_i32_523 v407
  let c128_i32_524 : BitVec 32 := 128#32
  let v643 : BitVec 32 := Scalar.muli v642 c128_i32_524
  let c0_i32_525 : BitVec 32 := 0#32
  let v644 : BitVec 32 := Scalar.addi v643 c0_i32_525
  v644
def k0_mult494 (k0_t3 : Fin k0_t3_loop.trips) : BitVec 32 :=
  let c0_i32_526 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v646 : BitVec 32 := Scalar.addi c0_i32_526 v407
  let c2_i32_527 : BitVec 32 := 2#32
  let v647 : BitVec 32 := Scalar.muli v646 c2_i32_527
  let c128_i32_528 : BitVec 32 := 128#32
  let v648 : BitVec 32 := Scalar.muli v647 c128_i32_528
  let c128_i32_529 : BitVec 32 := 128#32
  let v649 : BitVec 32 := Scalar.addi v648 c128_i32_529
  let c0_i32_530 : BitVec 32 := 0#32
  let v650 : BitVec 32 := Scalar.addi v649 c0_i32_530
  v650
def k0_mult495 (k0_t3 : Fin k0_t3_loop.trips) : BitVec 32 :=
  let c0_i32_531 : BitVec 32 := 0#32
  let c0_i32_235 : BitVec 32 := 0#32
  let c1_i32_237 : BitVec 32 := 1#32
  let arg19 : BitVec 32 := Scf.iv c0_i32_235 c1_i32_237 k0_t3
  let c4_i32_402 : BitVec 32 := 4#32
  let v406 : BitVec 32 := Scalar.muli arg19 c4_i32_402
  let c0_i32_403 : BitVec 32 := 0#32
  let v407 : BitVec 32 := Scalar.addi v406 c0_i32_403
  let v652 : BitVec 32 := Scalar.addi c0_i32_531 v407
  let c2_i32_532 : BitVec 32 := 2#32
  let v653 : BitVec 32 := Scalar.muli v652 c2_i32_532
  let c128_i32_533 : BitVec 32 := 128#32
  let v654 : BitVec 32 := Scalar.muli v653 c128_i32_533
  let c128_i32_534 : BitVec 32 := 128#32
  let v655 : BitVec 32 := Scalar.addi v654 c128_i32_534
  let c0_i32_535 : BitVec 32 := 0#32
  let v656 : BitVec 32 := Scalar.addi v655 c0_i32_535
  let c128_i32_536 : BitVec 32 := 128#32
  let v657 : BitVec 32 := Scalar.subi v656 c128_i32_536
  v657
def k0_off12 (i : grid0.Coords) (c0_i32_540 : BitVec 32) : Fin 3 → Nat :=
  let c4_i32_538 : BitVec 32 := 4#32
  let c3_i32 : BitVec 32 := 3#32
  let arg1 : BitVec 32 := BitVec.ofNat 32 (i 1).val
  let v0 : BitVec 32 := Scalar.subi c3_i32 arg1
  let c0_i32_537 : BitVec 32 := 0#32
  let v659 : BitVec 1 := Scalar.cmpi .eq v0 c0_i32_537
  let v_true : BitVec 1 := 1#1
  let v660 : BitVec 1 := Scalar.andi v659 v_true
  let v661 : BitVec 32 := Scalar.extui v660
  let v662 : BitVec 32 := Scalar.addi c4_i32_538 v661
  let c2_i32_539 : BitVec 32 := 2#32
  let v663 : BitVec 32 := Scalar.muli v662 c2_i32_539
  let v666 : BitVec 32 := Scalar.addi v663 c0_i32_540
  let v667 : Index := Scalar.indexCast v666
  let c0_541 : Index := 0#32
  let c0_542 : Index := 0#32
  ![v667.toNat, 0, 0]
def k0_mult496 (k0_t3 : Fin k0_t3_loop.trips) : BitVec 32 :=
  let c0_i32_549 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v713 : BitVec 32 := Scalar.addi c0_i32_549 v409
  let c128_i32_550 : BitVec 32 := 128#32
  let v714 : BitVec 32 := Scalar.muli v713 c128_i32_550
  let c0_i32_551 : BitVec 32 := 0#32
  let v715 : BitVec 32 := Scalar.addi v714 c0_i32_551
  v715
def k0_mult497 (k0_t3 : Fin k0_t3_loop.trips) : BitVec 32 :=
  let c0_i32_552 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v717 : BitVec 32 := Scalar.addi c0_i32_552 v409
  let c2_i32_553 : BitVec 32 := 2#32
  let v718 : BitVec 32 := Scalar.muli v717 c2_i32_553
  let c128_i32_554 : BitVec 32 := 128#32
  let v719 : BitVec 32 := Scalar.muli v718 c128_i32_554
  let c128_i32_555 : BitVec 32 := 128#32
  let v720 : BitVec 32 := Scalar.addi v719 c128_i32_555
  let c0_i32_556 : BitVec 32 := 0#32
  let v721 : BitVec 32 := Scalar.addi v720 c0_i32_556
  v721
def k0_mult498 (k0_t3 : Fin k0_t3_loop.trips) : BitVec 32 :=
  let c0_i32_557 : BitVec 32 := 0#32
  let c0_i32_235 : BitVec 32 := 0#32
  let c1_i32_237 : BitVec 32 := 1#32
  let arg19 : BitVec 32 := Scf.iv c0_i32_235 c1_i32_237 k0_t3
  let c4_i32_404 : BitVec 32 := 4#32
  let v408 : BitVec 32 := Scalar.muli arg19 c4_i32_404
  let c1_i32_405 : BitVec 32 := 1#32
  let v409 : BitVec 32 := Scalar.addi v408 c1_i32_405
  let v723 : BitVec 32 := Scalar.addi c0_i32_557 v409
  let c2_i32_558 : BitVec 32 := 2#32
  let v724 : BitVec 32 := Scalar.muli v723 c2_i32_558
  let c128_i32_559 : BitVec 32 := 128#32
  let v725 : BitVec 32 := Scalar.muli v724 c128_i32_559
  let c128_i32_560 : BitVec 32 := 128#32
  let v726 : BitVec 32 := Scalar.addi v725 c128_i32_560
  let c0_i32_561 : BitVec 32 := 0#32
  let v727 : BitVec 32 := Scalar.addi v726 c0_i32_561
  let c128_i32_562 : BitVec 32 := 128#32
  let v728 : BitVec 32 := Scalar.subi v727 c128_i32_562
  v728
def k0_mult499 (k0_t3 : Fin k0_t3_loop.trips) : BitVec 32 :=
  let c0_i32_576 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v784 : BitVec 32 := Scalar.addi c0_i32_576 v411
  let c128_i32_577 : BitVec 32 := 128#32
  let v785 : BitVec 32 := Scalar.muli v784 c128_i32_577
  let c0_i32_578 : BitVec 32 := 0#32
  let v786 : BitVec 32 := Scalar.addi v785 c0_i32_578
  v786
def k0_mult500 (k0_t3 : Fin k0_t3_loop.trips) : BitVec 32 :=
  let c0_i32_579 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v788 : BitVec 32 := Scalar.addi c0_i32_579 v411
  let c2_i32_580 : BitVec 32 := 2#32
  let v789 : BitVec 32 := Scalar.muli v788 c2_i32_580
  let c128_i32_581 : BitVec 32 := 128#32
  let v790 : BitVec 32 := Scalar.muli v789 c128_i32_581
  let c128_i32_582 : BitVec 32 := 128#32
  let v791 : BitVec 32 := Scalar.addi v790 c128_i32_582
  let c0_i32_583 : BitVec 32 := 0#32
  let v792 : BitVec 32 := Scalar.addi v791 c0_i32_583
  v792
def k0_mult501 (k0_t3 : Fin k0_t3_loop.trips) : BitVec 32 :=
  let c0_i32_584 : BitVec 32 := 0#32
  let c0_i32_235 : BitVec 32 := 0#32
  let c1_i32_237 : BitVec 32 := 1#32
  let arg19 : BitVec 32 := Scf.iv c0_i32_235 c1_i32_237 k0_t3
  let c4_i32_406 : BitVec 32 := 4#32
  let v410 : BitVec 32 := Scalar.muli arg19 c4_i32_406
  let c2_i32 : BitVec 32 := 2#32
  let v411 : BitVec 32 := Scalar.addi v410 c2_i32
  let v794 : BitVec 32 := Scalar.addi c0_i32_584 v411
  let c2_i32_585 : BitVec 32 := 2#32
  let v795 : BitVec 32 := Scalar.muli v794 c2_i32_585
  let c128_i32_586 : BitVec 32 := 128#32
  let v796 : BitVec 32 := Scalar.muli v795 c128_i32_586
  let c128_i32_587 : BitVec 32 := 128#32
  let v797 : BitVec 32 := Scalar.addi v796 c128_i32_587
  let c0_i32_588 : BitVec 32 := 0#32
  let v798 : BitVec 32 := Scalar.addi v797 c0_i32_588
  let c128_i32_589 : BitVec 32 := 128#32
  let v799 : BitVec 32 := Scalar.subi v798 c128_i32_589
  v799
def k0_mult502 (k0_t3 : Fin k0_t3_loop.trips) : BitVec 32 :=
  let c0_i32_603 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v855 : BitVec 32 := Scalar.addi c0_i32_603 v413
  let c128_i32_604 : BitVec 32 := 128#32
  let v856 : BitVec 32 := Scalar.muli v855 c128_i32_604
  let c0_i32_605 : BitVec 32 := 0#32
  let v857 : BitVec 32 := Scalar.addi v856 c0_i32_605
  v857
def k0_mult503 (k0_t3 : Fin k0_t3_loop.trips) : BitVec 32 :=
  let c0_i32_606 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v859 : BitVec 32 := Scalar.addi c0_i32_606 v413
  let c2_i32_607 : BitVec 32 := 2#32
  let v860 : BitVec 32 := Scalar.muli v859 c2_i32_607
  let c128_i32_608 : BitVec 32 := 128#32
  let v861 : BitVec 32 := Scalar.muli v860 c128_i32_608
  let c128_i32_609 : BitVec 32 := 128#32
  let v862 : BitVec 32 := Scalar.addi v861 c128_i32_609
  let c0_i32_610 : BitVec 32 := 0#32
  let v863 : BitVec 32 := Scalar.addi v862 c0_i32_610
  v863
def k0_mult504 (k0_t3 : Fin k0_t3_loop.trips) : BitVec 32 :=
  let c0_i32_611 : BitVec 32 := 0#32
  let c0_i32_235 : BitVec 32 := 0#32
  let c1_i32_237 : BitVec 32 := 1#32
  let arg19 : BitVec 32 := Scf.iv c0_i32_235 c1_i32_237 k0_t3
  let c4_i32_407 : BitVec 32 := 4#32
  let v412 : BitVec 32 := Scalar.muli arg19 c4_i32_407
  let c3_i32_408 : BitVec 32 := 3#32
  let v413 : BitVec 32 := Scalar.addi v412 c3_i32_408
  let v865 : BitVec 32 := Scalar.addi c0_i32_611 v413
  let c2_i32_612 : BitVec 32 := 2#32
  let v866 : BitVec 32 := Scalar.muli v865 c2_i32_612
  let c128_i32_613 : BitVec 32 := 128#32
  let v867 : BitVec 32 := Scalar.muli v866 c128_i32_613
  let c128_i32_614 : BitVec 32 := 128#32
  let v868 : BitVec 32 := Scalar.addi v867 c128_i32_614
  let c0_i32_615 : BitVec 32 := 0#32
  let v869 : BitVec 32 := Scalar.addi v868 c0_i32_615
  let c128_i32_616 : BitVec 32 := 128#32
  let v870 : BitVec 32 := Scalar.subi v869 c128_i32_616
  v870
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c8_i32 : BitVec 32 := 8#32
  let v1 : BitVec 32 := Scalar.addi c8_i32 arg0
  let c0_i32 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi c2_i32 arg1
  let c0_i32 : BitVec 32 := 0#32
  let v1 : BitVec 32 := Scalar.maxsi v0 c0_i32
  let c8_i32 : BitVec 32 := 8#32
  let v2 : BitVec 32 := Scalar.addi c8_i32 arg0
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel26.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== Kernel27.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference27Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference28Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .bf16⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel29.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference29Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel30.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel31.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference31Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel32.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel33.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference33Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1024, .f32⟩
  | .hbm, ⟨43, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel34.lean ====
abbrev S32x256 : Shape := ⟨2, ![32, 256]⟩

abbrev nBuf : Space → Nat
  | .hbm => 8
  | .vmem => 8
  | .smem => 0
  | _ => 0

abbrev bufTy : (tb : Table) → Fin (tcTables nBuf tb) → BufTy
  | .hbm, ⟨0, _⟩ => ⟨S32x256, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S32x256, .f32⟩
  | .hbm, ⟨5, _⟩ => ⟨S32x256, .f32⟩
  | .hbm, ⟨6, _⟩ => ⟨S32x256, .f32⟩
  | .hbm, ⟨7, _⟩ => ⟨S32x256, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | _, _ => ⟨S32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S32x256 : Shape := ⟨2, ![32, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x256, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S_, .f32⟩
  | .hbm, ⟨5, _⟩ => ⟨S32x256, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S_, .f32⟩
  | .hbm, ⟨12, _⟩ => ⟨S32x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S32x256, .f32⟩
  | .hbm, ⟨19, _⟩ => ⟨S_, .f32⟩
  | .hbm, ⟨20, _⟩ => ⟨S32x256, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256, .f32⟩
  | .hbm, ⟨30, _⟩ => ⟨S_, .f32⟩
  | .hbm, ⟨31, _⟩ => ⟨S32x256, .f32⟩
  | .hbm, ⟨32, _⟩ => ⟨S32x256, .f32⟩
  | .hbm, ⟨33, _⟩ => ⟨S32x256, .f32⟩
  | .hbm, ⟨34, _⟩ => ⟨S_, .f32⟩
  | .hbm, ⟨35, _⟩ => ⟨S32x256, .f32⟩
  | .hbm, ⟨36, _⟩ => ⟨S32x256, .f32⟩
  | _, _ => ⟨S32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S8192x1024 : Shape := ⟨2, ![8192, 1024]⟩
abbrev S2048x128 : Shape := ⟨2, ![2048, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference35Ideal.lean ====
abbrev S8192x1024 : Shape := ⟨2, ![8192, 1024]⟩
abbrev S4x128x16x1024 : Shape := ⟨4, ![4, 128, 16, 1024]⟩
abbrev S4x16x128x1024 : Shape := ⟨4, ![4, 16, 128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x128x16x1024, .f32⟩
  | .hbm, ⟨2, _⟩ => ⟨S4x16x128x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel36.lean ====
abbrev S8192x1024 : Shape := ⟨2, ![8192, 1024]⟩
abbrev S2048x128 : Shape := ⟨2, ![2048, 128]⟩
abbrev S16x128 : Shape := ⟨2, ![16, 128]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference36Ideal.lean ====
abbrev S8192x1024 : Shape := ⟨2, ![8192, 1024]⟩
abbrev S_ : Shape := ⟨0, ![]⟩
abbrev S4x128x16x1024 : Shape := ⟨4, ![4, 128, 16, 1024]⟩
abbrev S4x16x128x1024 : Shape := ⟨4, ![4, 16, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S8192x1024, .f32⟩
  | .hbm, ⟨3, _⟩ => ⟨S4x128x16x1024, .f32⟩
  | .hbm, ⟨4, _⟩ => ⟨S4x16x128x1024, .f32⟩
  | .hbm, ⟨5, _⟩ => ⟨S8192x1024, .f32⟩
  | .hbm, ⟨6, _⟩ => ⟨S4x16x128x1024, .f32⟩
  | .hbm, ⟨7, _⟩ => ⟨S4x128x16x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel37.lean ====
abbrev S1024x512 : Shape := ⟨2, ![1024, 512]⟩
abbrev S1024x2048 : Shape := ⟨2, ![1024, 2048]⟩
abbrev S3x1024x512 : Shape := ⟨3, ![3, 1024, 512]⟩
abbrev S4x1024x512 : Shape := ⟨3, ![4, 1024, 512]⟩
abbrev S_ : Shape := ⟨0, ![]⟩
abbrev S1 : Shape := ⟨1, ![1]⟩
abbrev S128x512 : Shape := ⟨2, ![128, 512]⟩
abbrev S3x128x512 : Shape := ⟨3, ![3, 128, 512]⟩
abbrev S4x128x512 : Shape := ⟨3, ![4, 128, 512]⟩
abbrev S1x128x512 : Shape := ⟨3, ![1, 128, 512]⟩

abbrev nBuf : Space → Nat
  | .hbm => 11
  | .vmem => 20
  | .smem => 1
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x2048, .bf16⟩
  | .hbm, ⟨4, _⟩ => ⟨S3x1024x512, .bf16⟩
  | .hbm, ⟨5, _⟩ => ⟨S4x1024x512, .bf16⟩
  | .hbm, ⟨6, _⟩ => ⟨S_, .i32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .bf16⟩
  | .local _ .vmem, ⟨7, _⟩ => ⟨S128x512, .bf16⟩
  | .local _ .vmem, ⟨8, _⟩ => ⟨S3x128x512, .bf16⟩
  | .local _ .vmem, ⟨9, _⟩ => ⟨S3x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .smem, ⟨0, _⟩ => ⟨S1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0 : Index := 0#32
  let v3 : BitVec 32 := pf.at 0 (Rect.unit (s := S1) ![0] S1.size inb_S1_S1_0) numel1_S1
  let c0_i32_1 : BitVec 32 := 0#32
  ![v2.toNat, v3.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference37Ideal.lean ====
abbrev S1024x512 : Shape := ⟨2, ![1024, 512]⟩
abbrev S1024x2048 : Shape := ⟨2, ![1024, 2048]⟩
abbrev S3x1024x512 : Shape := ⟨3, ![3, 1024, 512]⟩
abbrev S4x1024x512 : Shape := ⟨3, ![4, 1024, 512]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x2048, .bf16⟩
  | .hbm, ⟨4, _⟩ => ⟨S3x1024x512, .bf16⟩
  | .hbm, ⟨5, _⟩ => ⟨S4x1024x512, .bf16⟩
  | .hbm, ⟨6, _⟩ => ⟨S1024x512, .bf16⟩
  | .hbm, ⟨7, _⟩ => ⟨S1024x512, .f32⟩
  | .hbm, ⟨8, _⟩ => ⟨S3x1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S4x1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel38.lean ====
abbrev S512x1024 : Shape := ⟨2, ![512, 1024]⟩
abbrev S1024x1024 : Shape := ⟨2, ![1024, 1024]⟩
abbrev S3x256x1024 : Shape := ⟨3, ![3, 256, 1024]⟩
abbrev S4x256x1024 : Shape := ⟨3, ![4, 256, 1024]⟩
abbrev S_ : Shape := ⟨0, ![]⟩
abbrev S1 : Shape := ⟨1, ![1]⟩
abbrev S128x1024 : Shape := ⟨2, ![128, 1024]⟩
abbrev S3x128x1024 : Shape := ⟨3, ![3, 128, 1024]⟩
abbrev S4x128x1024 : Shape := ⟨3, ![4, 128, 1024]⟩
abbrev S1x128x1024 : Shape := ⟨3, ![1, 128, 1024]⟩

abbrev nBuf : Space → Nat
  | .hbm => 14
  | .vmem => 26
  | .smem => 1
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1024x1024, .bf16⟩
  | .hbm, ⟨4, _⟩ => ⟨S3x256x1024, .bf16⟩
  | .hbm, ⟨5, _⟩ => ⟨S4x256x1024, .bf16⟩
  | .hbm, ⟨6, _⟩ => ⟨S1024x1024, .bf16⟩
  | .hbm, ⟨7, _⟩ => ⟨S3x256x1024, .bf16⟩
  | .hbm, ⟨8, _⟩ => ⟨S4x256x1024, .bf16⟩
  | .hbm, ⟨9, _⟩ => ⟨S_, .i32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .bf16⟩
  | .local _ .vmem, ⟨7, _⟩ => ⟨S128x1024, .bf16⟩
  | .local _ .vmem, ⟨8, _⟩ => ⟨S3x128x1024, .bf16⟩
  | .local _ .vmem, ⟨9, _⟩ => ⟨S3x128x1024, .bf16⟩
  | .local _ .vmem, ⟨10, _⟩ => ⟨S4x128x1024, .bf16⟩
  | .local _ .vmem, ⟨11, _⟩ => ⟨S4x128x1024, .bf16⟩
  | .local _ .vmem, ⟨12, _⟩ => ⟨S128x1024, .bf16⟩
  | .local _ .vmem, ⟨13, _⟩ => ⟨S128x1024, .bf16⟩
  | .local _ .vmem, ⟨14, _⟩ => ⟨S3x128x1024, .bf16⟩
  | .local _ .vmem, ⟨15, _⟩ => ⟨S3x128x1024, .bf16⟩
  | .local _ .vmem, ⟨16, _⟩ => ⟨S4x128x1024, .bf16⟩
  | .local _ .vmem, ⟨17, _⟩ => ⟨S4x128x1024, .bf16⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .smem, ⟨0, _⟩ => ⟨S1, .i32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c0_i32 : BitVec 32 := 0#32
  let v2 : BitVec 32 := Scalar.subi arg0 c0_i32
  let c0_i32_0 : BitVec 32 := 0#32
  let c1_i32 : BitVec 32 := 1#32
  let v3 : BitVec 32 := Scalar.maxsi c0_i32_0 v2
  let v4 : BitVec 32 := Scalar.minsi c1_i32 v3
  let v5 : BitVec 32 := Scalar.addi v1 v4
  let c0_i32_1 : BitVec 32 := 0#32
  let c0_i32_2 : BitVec 32 := 0#32
  ![v5.toNat, c0_i32_1.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let c2_i32_0 : BitVec 32 := 2#32
  let v2 : BitVec 32 := Scalar.subi arg0 c2_i32_0
  let c0_i32 : BitVec 32 := 0#32
  let c1_i32 : BitVec 32 := 1#32
  let v3 : BitVec 32 := Scalar.maxsi c0_i32 v2
  let v4 : BitVec 32 := Scalar.minsi c1_i32 v3
  let v5 : BitVec 32 := Scalar.addi v1 v4
  let c0_i32_1 : BitVec 32 := 0#32
  let c0_i32_2 : BitVec 32 := 0#32
  ![v5.toNat, c0_i32_1.toNat]

def cc0_transform_7 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_8 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference38Ideal.lean ====
abbrev S512x1024 : Shape := ⟨2, ![512, 1024]⟩
abbrev S1024x1024 : Shape := ⟨2, ![1024, 1024]⟩
abbrev S3x256x1024 : Shape := ⟨3, ![3, 256, 1024]⟩
abbrev S4x256x1024 : Shape := ⟨3, ![4, 256, 1024]⟩
abbrev S256x1024 : Shape := ⟨2, ![256, 1024]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S1024x1024, .bf16⟩
  | .hbm, ⟨4, _⟩ => ⟨S3x256x1024, .bf16⟩
  | .hbm, ⟨5, _⟩ => ⟨S4x256x1024, .bf16⟩
  | .hbm, ⟨6, _⟩ => ⟨S1024x1024, .bf16⟩
  | .hbm, ⟨7, _⟩ => ⟨S3x256x1024, .bf16⟩
  | .hbm, ⟨8, _⟩ => ⟨S4x256x1024, .bf16⟩
  | .hbm, ⟨9, _⟩ => ⟨S256x1024, .bf16⟩
  | .hbm, ⟨10, _⟩ => ⟨S256x1024, .f32⟩
  | .hbm, ⟨11, _⟩ => ⟨S3x256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S4x256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .f32⟩
  | .hbm, ⟨21, _⟩ => ⟨S3x256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S4x256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512x1024, .f32⟩
  | .hbm, ⟨50, _⟩ => ⟨S512x1024, .f32⟩
  | .hbm, ⟨51, _⟩ => ⟨S512x1024, .f32⟩
  | .hbm, ⟨52, _⟩ => ⟨S_, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S_, .f32⟩
  | .hbm, ⟨57, _⟩ => ⟨S512x1024, .f32⟩
  | .hbm, ⟨58, _⟩ => ⟨S512x1024, .f32⟩
  | .hbm, ⟨59, _⟩ => ⟨S512x1024, .f32⟩
  | .hbm, ⟨60, _⟩ => ⟨S_, .f32⟩
  | .hbm, ⟨61, _⟩ => ⟨S512x1024, .f32⟩
  | .hbm, ⟨62, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.ConvSpec.lean ====
/-
  The gradient of the gated short convolution, written at one row and one channel over the extended reals.

  For a token row `r` and a channel `l`, with `b`, `c`, `h` the three column groups of `P` and `w` the three taps:
    u = c · h,    y = w₀ · u[r-2] + w₁ · u[r-1] + w₂ · u[r],    out = b · y,
  and, for the cotangent `dz` of `out`,
    g = dz · b,   du = w₂ · g[r] + w₁ · g[r+1] + w₀ · g[r+2],
    d b = dz · y,   d c = du · h,   d h = du · c,   d w_k = Σ_r g[r] · u[r - (2 - k)],
  where a row outside the sequence counts as zero.
-/
module

public import Idealize.ShloMosaic.Lib.Pointwise

@[expose] public section

noncomputable section

open Idealize.ShloMosaic

namespace Conv

/-- The projected input: 8192 token rows, three groups of 1024 channels. -/
abbrev SP : Shape := ⟨2, ![8192, 3072]⟩
/-- The cotangent: 8192 token rows, 1024 channels. -/
abbrev SZ : Shape := ⟨2, ![8192, 1024]⟩
/-- The taps: 3 rows of 1024 channels. -/
abbrev SW : Shape := ⟨2, ![3, 1024]⟩

/-- A sequence read `k` rows earlier, zero before its first row. -/
def lag (k : ℕ) (f : Fin 8192 → EReal) (r : Fin 8192) : EReal :=
  if h : k ≤ r.val then f ⟨r.val - k, by omega⟩ else 0

/-- A sequence read `k` rows later, zero past its last row. -/
def lead (k : ℕ) (f : Fin 8192 → EReal) (r : Fin 8192) : EReal :=
  if h : r.val + k < 8192 then f ⟨r.val + k, h⟩ else 0

variable (P : SP.Idx → EReal) (Z : SZ.Idx → EReal) (W : SW.Idx → EReal)

/-- The gated input of the convolution, `c · h`. -/
def u (l : Fin 1024) (r : Fin 8192) : EReal := P (ix2 r ⟨1024 + l.val, by omega⟩) * P (ix2 r ⟨2048 + l.val, by omega⟩)

/-- The convolution's output. -/
def y (l : Fin 1024) (r : Fin 8192) : EReal :=
  W (ix2 0 l) * lag 2 (u P l) r + W (ix2 1 l) * lag 1 (u P l) r + W (ix2 2 l) * u P l r

/-- The cotangent of the convolution's output. -/
def g (l : Fin 1024) (r : Fin 8192) : EReal := Z (ix2 r l) * P (ix2 r ⟨l.val, by omega⟩)

/-- The cotangent of the convolution's input. -/
def du (l : Fin 1024) (r : Fin 8192) : EReal :=
  W (ix2 2 l) * g P Z l r + W (ix2 1 l) * lead 1 (g P Z l) r + W (ix2 0 l) * lead 2 (g P Z l) r

/-- The gradient of the projected input. -/
def dp (i : SP.Idx) : EReal :=
  if h : (i 1).val < 1024 then Z (ix2 (i 0) ⟨(i 1).val, h⟩) * y P W ⟨(i 1).val, h⟩ (i 0)
  else if h' : (i 1).val < 2048 then du P Z W ⟨(i 1).val - 1024, by omega⟩ (i 0) * P (ix2 (i 0) ⟨(i 1).val + 1024, by omega⟩)
  else du P Z W ⟨(i 1).val - 2048, by have := (i 1).isLt; change (i 1).val < 3072 at this; omega⟩ (i 0) * P (ix2 (i 0) ⟨(i 1).val - 1024, by have := (i 1).isLt; change (i 1).val < 3072 at this; omega⟩)

/-- The gradient of the taps. -/
def dw (i : SW.Idx) : EReal := ∑ r : Fin 8192, g P Z (i 1) r * lag (2 - (i 0).val) (u P (i 1)) r

/-- Reading zero rows earlier changes nothing. -/
theorem lag_zero (f : Fin 8192 → EReal) (r : Fin 8192) : lag 0 f r = f r := by
  unfold lag; rw [dif_pos (Nat.zero_le _)]; rfl

end Conv

end
-- ==== Proof.ConvBlock.lean ====
/-
  What the convolution-gradient kernel computes from one block of rows, in the words of `ConvSpec.lean`.
-/
module

public import proofs.«01_k».proof.Proof.ConvSpec
public import proofs.«01_k».proof.Proof.Gen.KernelIdeal.Value
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem Idealize.ShloMosaic.WordCmp

namespace Cert.KernelIdeal.ConvBlock

open Cert.KernelIdeal Cert.KernelIdeal.Gen

variable (P : Conv.SP.Idx → EReal) (Z : Conv.SZ.Idx → EReal) (W : Conv.SW.Idx → EReal)

/-- The six input blocks at grid row `n` hold rows of the arrays: the block's own 256 rows, the 16 rows before it
    (when there are any), the 16 rows after it (when there are any), and the taps. -/
structure Reads (n : Fin 32) (x0 : Vec Ideal S256x3072 .bf16) (x1 x2 : Vec Ideal S16x3072 .bf16)
    (x3 : Vec Ideal S256x1024 .bf16) (x4 : Vec Ideal S16x1024 .bf16) (x5 : Vec Ideal S3x1024 .f32) : Prop where
  own : ∀ (r : Fin 256) (j : Fin 3072), x0 (ix2 r j) = P (ix2 ⟨256 * n.val + r.val, by omega⟩ j)
  prev : ∀ (h : 0 < n.val) (r : Fin 16) (j : Fin 3072), x1 (ix2 r j) = P (ix2 ⟨256 * n.val - 16 + r.val, by omega⟩ j)
  next : ∀ (h : n.val < 31) (r : Fin 16) (j : Fin 3072), x2 (ix2 r j) = P (ix2 ⟨256 * n.val + 256 + r.val, by omega⟩ j)
  ownz : ∀ (r : Fin 256) (j : Fin 1024), x3 (ix2 r j) = Z (ix2 ⟨256 * n.val + r.val, by omega⟩ j)
  nextz : ∀ (h : n.val < 31) (r : Fin 16) (j : Fin 1024), x4 (ix2 r j) = Z (ix2 ⟨256 * n.val + 256 + r.val, by omega⟩ j)
  taps : ∀ (k : Fin 3) (j : Fin 1024), x5 (ix2 k j) = W (ix2 k j)

variable {P Z W}
variable {n : Fin 32} {x0 : Vec Ideal S256x3072 .bf16} {x1 x2 : Vec Ideal S16x3072 .bf16}
  {x3 : Vec Ideal S256x1024 .bf16} {x4 : Vec Ideal S16x1024 .bf16} {x5 : Vec Ideal S3x1024 .f32}

theorem u_block (R : Reads P Z W n x0 x1 x2 x3 x4 x5) (r : Fin 256) (l : Fin 1024) :
    k0_pay5 x0 (ix2 r l) = Conv.u P l ⟨256 * n.val + r.val, by omega⟩ := by
  unfold Conv.u
  pointwise [k0_pay5, k0_pay4, k0_pay3, k0_pay1]
  rw [R.own, R.own]

theorem sel_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [cmpi_eq_ofNat ha hb, select_ofBool]; simp

theorem sel_sgt {α : Type} (a b : ℕ) (ha : a < 2 ^ 31) (hb : b < 2 ^ 31) (x y : α) :
    Scalar.select (Scalar.cmpi .sgt (BitVec.ofNat 32 a) (BitVec.ofNat 32 b)) x y = if b < a then x else y := by
  rw [scalar_cmpi_eq, cmpi_sgt_ofNat ha hb, select_ofBool]; simp

theorem sel_slt {α : Type} (a b : ℕ) (ha : a < 2 ^ 31) (hb : b < 2 ^ 31) (x y : α) :
    Scalar.select (Scalar.cmpi .slt (BitVec.ofNat 32 a) (BitVec.ofNat 32 b)) x y = if a < b then x else y := by
  rw [scalar_cmpi_eq, cmpi_slt_ofNat ha hb, select_ofBool]; simp

/-- The rows before the block: their products, or zero where there are none. -/
theorem prev_block (R : Reads P Z W n x0 x1 x2 x3 x4 x5) (i : grid0.Coords) (hi : (i 0).val = n.val) (k : ℕ) (hk : k < 16) (l : Fin 1024)
    (r : Fin 8192) (hr : r.val + (16 - k) = 256 * n.val) (hn : 0 < n.val) :
    k0_pay6 i x1 (ix2 ⟨k, hk⟩ l) = Conv.u P l r := by
  unfold Conv.u
  pointwise [k0_pay6]
  rw [sel_sgt _ _ (by have := n.isLt; omega) (by decide), hi, if_pos hn, R.prev hn, R.prev hn]
  have : (⟨256 * n.val - 16 + k, by omega⟩ : Fin 8192) = r := Fin.ext (by dsimp only; omega)
  rw [this]

theorem prev_zero (i : grid0.Coords) (hi : (i 0).val = 0) (k : Fin 16) (l : Fin 1024) : k0_pay6 i x1 (ix2 k l) = (0 : EReal) := by
  pointwise [k0_pay6]
  rw [sel_sgt _ _ (by omega) (by decide), hi, if_neg (lt_irrefl _)]

/-- The block's products read one row earlier. -/
theorem u1_block (R : Reads P Z W n x0 x1 x2 x3 x4 x5) (i : grid0.Coords) (hi : (i 0).val = n.val) (r : Fin 256) (l : Fin 1024) :
    k0_pay7 i x0 x1 (ix2 r l) = Conv.lag 1 (Conv.u P l) ⟨256 * n.val + r.val, by omega⟩ := by
  have hr := r.isLt
  have hn := n.isLt
  unfold Conv.lag
  pointwise [k0_pay7]
  rw [sel_eq _ _ (by omega) (by decide), u_block R]
  split
  · rename_i h0
    rcases Nat.eq_zero_or_pos n.val with hz | hp
    · rw [prev_zero i (hi.trans hz), dif_neg (by omega)]
    · rw [dif_pos (by omega)]
      refine prev_block R i hi 15 (by decide) l _ ?_ hp; dsimp only; omega
  · rw [dif_pos (by omega)]
    congr 1; apply Fin.ext; dsimp only; omega

/-- The block's products read two rows earlier. -/
theorem u2_block (R : Reads P Z W n x0 x1 x2 x3 x4 x5) (i : grid0.Coords) (hi : (i 0).val = n.val) (r : Fin 256) (l : Fin 1024) :
    k0_pay8 i x0 x1 (ix2 r l) = Conv.lag 2 (Conv.u P l) ⟨256 * n.val + r.val, by omega⟩ := by
  have hr := r.isLt
  have hn := n.isLt
  unfold Conv.lag
  pointwise [k0_pay8]
  rw [sel_eq _ _ (by omega) (by decide), sel_eq _ _ (by omega) (by decide), u_block R]
  split
  · rename_i h0
    rcases Nat.eq_zero_or_pos n.val with hz | hp
    · rw [prev_zero i (hi.trans hz), dif_neg (by omega)]
    · rw [dif_pos (by omega)]
      refine prev_block R i hi 15 (by decide) l _ ?_ hp; dsimp only; omega
  · split
    · rename_i h0
      rcases Nat.eq_zero_or_pos n.val with hz | hp
      · rw [prev_zero i (hi.trans hz), dif_neg (by omega)]
      · rw [dif_pos (by omega)]
        refine prev_block R i hi 14 (by decide) l _ ?_ hp; dsimp only; omega
    · rw [dif_pos (by omega)]
      congr 1; apply Fin.ext; dsimp only; omega

/-- The convolution's output on the block. -/
theorem y_block (R : Reads P Z W n x0 x1 x2 x3 x4 x5) (i : grid0.Coords) (hi : (i 0).val = n.val) (r : Fin 256) (l : Fin 1024) :
    k0_pay11 (k0_pay5 x0) (k0_pay9 i x0 x1 x5) (k0_pay10 x5) (ix2 r l) = Conv.y P W l ⟨256 * n.val + r.val, by omega⟩ := by
  unfold Conv.y
  pointwise [k0_pay11, k0_pay10, k0_pay9]
  rw [u_block R, u1_block R i hi, u2_block R i hi, R.taps, R.taps, R.taps]

/-- The cotangent of the convolution's output on the block. -/
theorem g_block (R : Reads P Z W n x0 x1 x2 x3 x4 x5) (r : Fin 256) (l : Fin 1024) :
    k0_pay13 (k0_pay2 x0) x3 (ix2 r l) = Conv.g P Z l ⟨256 * n.val + r.val, by omega⟩ := by
  unfold Conv.g
  pointwise [k0_pay13, k0_pay12, k0_pay2, k0_pay1]
  rw [R.own, R.ownz]

/-- The same in the rows after the block, zero where there are none. -/
theorem next_block (R : Reads P Z W n x0 x1 x2 x3 x4 x5) (r : Fin 16) (l : Fin 1024) :
    (if n.val < 31 then x4 (ix2 r l) * x2 (ix2 r ⟨l.val, by omega⟩) else (0 : EReal))
      = if h : 256 * n.val + 256 + r.val < 8192 then Conv.g P Z l ⟨256 * n.val + 256 + r.val, h⟩ else 0 := by
  have hr := r.isLt
  by_cases h : n.val < 31
  · rw [if_pos h, dif_pos (by omega), R.next h, R.nextz h]; rfl
  · rw [if_neg h, dif_neg (by omega)]

/-- The cotangent of the convolution's input on the block. -/
theorem du_block (R : Reads P Z W n x0 x1 x2 x3 x4 x5) (i : grid0.Coords) (hi : (i 0).val = n.val) (r : Fin 256) (l : Fin 1024) :
    k0_pay14 (BitVec.ofNat 32 (i 0).val) (k0_pay2 x0) x5 x3 x4 x2 (ix2 r l) = Conv.du P Z W l ⟨256 * n.val + r.val, by omega⟩ := by
  have hr := r.isLt
  have hn := n.isLt
  obtain ⟨G, hG⟩ : ∃ G : ℕ → EReal, G = fun a => if h : a < 8192 then Conv.g P Z l ⟨a, h⟩ else 0 := ⟨_, rfl⟩
  have hg : ∀ (a : ℕ) (h : a < 8192), Conv.g P Z l ⟨a, h⟩ = G a := fun a h => by simp only [hG, dif_pos h]
  have hG' : ∀ a : ℕ, (if h : a < 8192 then Conv.g P Z l ⟨a, h⟩ else 0) = G a := fun a => by rw [hG]
  unfold Conv.du Conv.lead
  pointwise [k0_pay14]
  simp only [hi, sel_slt n.val 31 (by omega) (by decide)]
  rw [sel_eq _ _ (by omega) (by decide), sel_eq _ _ (by omega) (by decide), sel_eq _ _ (by omega) (by decide),
    next_block R 0 l, next_block R 1 l, g_block R, g_block R, g_block R, R.taps, R.taps, R.taps]
  simp only [hG']
  simp only [hg]
  have e1 : (if r.val = 255 then G (256 * n.val + 256 + (0 : Fin 16).val) else G (256 * n.val + (r.val + 256 - 255) % 256))
      = G (256 * n.val + r.val + 1) := by split <;> congr 1 <;> (try dsimp only) <;> omega
  have e2 : (if r.val = 255 then G (256 * n.val + 256 + (1 : Fin 16).val) else if r.val = 254 then G (256 * n.val + 256 + (0 : Fin 16).val)
      else G (256 * n.val + (r.val + 256 - 254) % 256)) = G (256 * n.val + r.val + 2) := by
    split
    · congr 1; show _ + 1 = _; omega
    · split <;> congr 1 <;> (try dsimp only) <;> omega
  rw [e1, e2]

end Cert.KernelIdeal.ConvBlock

end
-- ==== Proof.ConvOut.lean ====
/-
  What the convolution-gradient kernel leaves in its two output blocks at one grid point.
-/
module

public import proofs.«01_k».proof.Proof.ConvBlock
public import Idealize.ShloMosaic.Lib.Pipeline.ReadBack

@[expose] public section

set_option maxRecDepth 16384

noncomputable section

open Idealize.ShloMosaic Idealize.ShloMosaic.TcCoe Idealize.SL.Sem

namespace Cert.KernelIdeal.ConvOut

open Cert.KernelIdeal Cert.KernelIdeal.Gen Cert.KernelIdeal.ConvBlock

variable {P : Conv.SP.Idx → EReal} {Z : Conv.SZ.Idx → EReal} {W : Conv.SW.Idx → EReal}
variable {n : Fin 32} {x0 : Vec Ideal S256x3072 .bf16} {x1 x2 : Vec Ideal S16x3072 .bf16}
  {x3 : Vec Ideal S256x1024 .bf16} {x4 : Vec Ideal S16x1024 .bf16} {x5 : Vec Ideal S3x1024 .f32}

/-- Pieces that cover an index decide it, whatever was written before them. -/
theorem canon_cover {Val : EltTy → Type} [∀ e, Nonempty (Val e)] {s : Shape} {e : EltTy} :
    ∀ (L L' : List (View.Piece Val s e)) (q : s.Idx), (∃ p ∈ L, q ∈ p.1.set) → View.canon (L ++ L') q = View.canon L q
  | [], _, _, ⟨_, hp, _⟩ => absurd hp List.not_mem_nil
  | p :: L, L', q, h => by
    by_cases hm : q ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_cover L L' q ?_
      obtain ⟨p', hp', hq⟩ := h
      rcases List.mem_cons.mp hp' with rfl | hp'
      · exact absurd hq hm
      · exact ⟨p', hp', hq⟩

/-- The three column groups stored at a point are the gradient of the projected input at the block's rows. -/
theorem dp_pieces (R : Reads P Z W n x0 x1 x2 x3 x4 x5) (i : grid0.Coords) (hi : (i 0).val = n.val) (q : S256x3072.Idx)
    (v : Fin 8192) (hv : v.val = 256 * n.val + (q 0).val) :
    View.canon (Val := Elt Ideal) (s := S256x3072) (e := .bf16)
      [⟨Rect.unit ![0, 2048] ![256, 1024] inb_S256x3072_S256x1024_0_2048,
          k0_pay17 (k0_pay3 x0) (k0_pay14 (BitVec.ofNat 32 (i 0).val) (k0_pay2 x0) x5 x3 x4 x2)⟩,
        ⟨Rect.unit ![0, 1024] ![256, 1024] inb_S256x3072_S256x1024_0_1024,
          k0_pay16 (k0_pay4 x0) (k0_pay14 (BitVec.ofNat 32 (i 0).val) (k0_pay2 x0) x5 x3 x4 x2)⟩,
        ⟨Rect.unit ![0, 0] ![256, 1024] inb_S256x3072_S256x1024_0_0,
          k0_pay15 (k0_pay11 (k0_pay5 x0) (k0_pay9 i x0 x1 x5) (k0_pay10 x5)) (k0_pay12 x3)⟩] q
      = Conv.dp P Z W (ix2 v (q 1)) := by
  obtain ⟨a, j, rfl⟩ : ∃ (a : Fin 256) (j : Fin 3072), q = ix2 a j := ⟨q 0, q 1, eq_ix2 q⟩
  change _ = Conv.dp P Z W (ix2 v j)
  canon_tiles x h
  all_goals
    obtain ⟨a', l, rfl⟩ : ∃ (a' : Fin 256) (l : Fin 1024), x = ix2 a' l := ⟨x 0, x 1, eq_ix2 x⟩
    have ea : a = a' := Fin.ext h0
    subst ea
    obtain ⟨v, hlt⟩ := v
    change v = 256 * n.val + a.val at hv
    subst hv
    simp only [Conv.dp]
    have hj : ∀ w : Fin 8192, ((ix2 w j : Conv.SP.Idx) 1).val = j.val := fun _ => rfl
  · have ej : j.val = 2048 + l.val := h1
    rw [dif_neg (by rw [hj]; omega), dif_neg (by rw [hj]; omega)]
    pointwise [k0_pay17, k0_pay3, k0_pay1]
    rw [du_block R i hi, R.own]
    congr 2 <;> (try congr 1) <;> apply Fin.ext <;> dsimp only <;> omega
  · have ej : j.val = 1024 + l.val := h1
    rw [dif_neg (by rw [hj]; omega), dif_pos (by rw [hj]; omega)]
    pointwise [k0_pay16, k0_pay4, k0_pay1]
    rw [du_block R i hi, R.own]
    congr 2 <;> (try congr 1) <;> apply Fin.ext <;> dsimp only <;> omega
  · have ej : j.val = l.val := h1
    rw [dif_pos (by rw [hj]; omega)]
    pointwise [k0_pay15, k0_pay12]
    rw [y_block R i hi, R.ownz]
    congr 2 <;> (try congr 1) <;> apply Fin.ext <;> dsimp only <;> omega

/-- The addend of one block of rows to the gradient of the taps. -/
def dwTerm (P : Conv.SP.Idx → EReal) (Z : Conv.SZ.Idx → EReal) (n : Fin 32) (k : S3x1024.Idx) : EReal :=
  ∑ r : Fin 256, Conv.g P Z (k 1) ⟨256 * n.val + r.val, by omega⟩ * Conv.lag (2 - (k 0).val) (Conv.u P (k 1)) ⟨256 * n.val + r.val, by omega⟩

/-- The three rows added into the taps' gradient at a point, over what it held. -/
def dwRows (xo : Vec Ideal S3x1024 .f32) (P : Conv.SP.Idx → EReal) (Z : Conv.SZ.Idx → EReal) (n : Fin 32) (k : S3x1024.Idx) : EReal :=
  xo k + dwTerm P Z n k

theorem dw_pieces (R : Reads P Z W n x0 x1 x2 x3 x4 x5) (i : grid0.Coords) (hi : (i 0).val = n.val) (xo : Vec Ideal S3x1024 .f32) (q : S3x1024.Idx) :
    View.canon (Val := Elt Ideal) (s := S3x1024) (e := .f32)
      [⟨Rect.unit ![2, 0] ![1, 1024] inb_S3x1024_S1x1024_2_0,
          k0_pay21 (k0_pay5 x0) (k0_pay13 (k0_pay2 x0) x3)
            (View.ld xo (Rect.unit ![2, 0] ![1, 1024] inb_S3x1024_S1x1024_2_0))⟩,
        ⟨Rect.unit ![1, 0] ![1, 1024] inb_S3x1024_S1x1024_1_0,
          k0_pay20 (k0_pay7 i x0 x1) (k0_pay13 (k0_pay2 x0) x3)
            (View.ld xo (Rect.unit ![1, 0] ![1, 1024] inb_S3x1024_S1x1024_1_0))⟩,
        ⟨Rect.unit ![0, 0] ![1, 1024] inb_S3x1024_S1x1024_0_0,
          k0_pay19 (k0_pay8 i x0 x1) (k0_pay13 (k0_pay2 x0) x3)
            (View.ld xo (Rect.unit ![0, 0] ![1, 1024] inb_S3x1024_S1x1024_0_0))⟩] q
      = dwRows xo P Z n q := by
  obtain ⟨a, j, rfl⟩ : ∃ (a : Fin 3) (j : Fin 1024), q = ix2 a j := ⟨q 0, q 1, eq_ix2 q⟩
  canon_tiles x h
  all_goals
    obtain ⟨a', l, rfl⟩ : ∃ (a' : Fin 1) (l : Fin 1024), x = ix2 a' l := ⟨x 0, x 1, eq_ix2 x⟩
    have el : j = l := Fin.ext h1
    subst el
    unfold dwRows dwTerm
  · have ea : a = 2 := Fin.ext (by have : a.val = 2 + a'.val := h0; have := a'.isLt; show a.val = 2; omega)
    subst ea
    pointwise [k0_pay21]
    refine congrArg _ (Finset.sum_congr rfl fun r _ => ?_)
    rw [u_block R, g_block R]
    exact congrArg _ (Conv.lag_zero _ _).symm
  · have ea : a = 1 := Fin.ext (by have : a.val = 1 + a'.val := h0; have := a'.isLt; show a.val = 1; omega)
    subst ea
    pointwise [k0_pay20]
    refine congrArg _ (Finset.sum_congr rfl fun r _ => ?_)
    rw [u1_block R i hi, g_block R]
  · have ea : a = 0 := Fin.ext (by have : a.val = a'.val := h0; have := a'.isLt; show a.val = 0; omega)
    subst ea
    pointwise [k0_pay19]
    refine congrArg _ (Finset.sum_congr rfl fun r _ => ?_)
    rw [u2_block R i hi, g_block R]

variable (c : Dev nD) (i : grid0.Coords) (hi : (i 0).val = n.val)
    (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S3x1024 .f32) (harg6 : arg6.IsWhole) (arg7 : Memref sig .tc .vmem S256x3072 .bf16) (harg7 : arg7.IsWhole) (arg8 : Memref sig .tc .vmem S3x1024 .f32) (harg8 : arg8.IsWhole)
include hi

/-- Case A (the first point): the block of the gradient of the projected input. -/
theorem out6_A (R : Reads P Z W n x0 x1 x2 x3 x4 x5) (hc0 : cond0_0 i) (q : S256x3072.Idx) (v : Fin 8192) (hv : v.val = 256 * n.val + (q 0).val) :
    out0_A_6 c i arg1 harg1 arg2 harg2 arg3 harg3 arg4 harg4 arg5 harg5 arg6 harg6 arg7 harg7 arg8 harg8 hc0 x0 x1 x2 x3 x4 x5 q = Conv.dp P Z W (ix2 v (q 1)) := by
  frame_out
  exact dp_pieces R i hi q v hv

/-- Case B (the later points): the same. -/
theorem out6_B (R : Reads P Z W n x0 x1 x2 x3 x4 x5) (hc0 : ¬cond0_0 i) (xo : Vec Ideal S3x1024 .f32) (q : S256x3072.Idx) (v : Fin 8192) (hv : v.val = 256 * n.val + (q 0).val) :
    out0_B_6 c i arg1 harg1 arg2 harg2 arg3 harg3 arg4 harg4 arg5 harg5 arg6 harg6 arg7 harg7 arg8 harg8 hc0 x0 x1 x2 x3 x4 x5 xo q = Conv.dp P Z W (ix2 v (q 1)) := by
  frame_out
  exact dp_pieces R i hi q v hv

/-- Case B: the block's addend over what the taps' gradient held. -/
theorem out7_B (R : Reads P Z W n x0 x1 x2 x3 x4 x5) (hc0 : ¬cond0_0 i) (xo : Vec Ideal S3x1024 .f32) (q : S3x1024.Idx) :
    out0_B_7 c i arg1 harg1 arg2 harg2 arg3 harg3 arg4 harg4 arg5 harg5 arg6 harg6 arg7 harg7 arg8 harg8 hc0 x0 x1 x2 x3 x4 x5 xo q = xo q + dwTerm P Z n q := by
  frame_open
  simp (disch := decide) only [↓ View.readCov_skip, ↓ View.readCov_cons_toLoadRect, ↓ View.readCov_fill]
  frame_out
  exact dw_pieces R i hi xo q

/-- Case A: the block's addend over zero. -/
theorem out7_A (R : Reads P Z W n x0 x1 x2 x3 x4 x5) (hc0 : cond0_0 i) (q : S3x1024.Idx) :
    out0_A_7 c i arg1 harg1 arg2 harg2 arg3 harg3 arg4 harg4 arg5 harg5 arg6 harg6 arg7 harg7 arg8 harg8 hc0 x0 x1 x2 x3 x4 x5 q = 0 + dwTerm P Z n q := by
  frame_open
  simp (disch := decide) only [↓ View.readCov_skip, ↓ View.readCov_cons_toLoadRect, ↓ View.readCov_fill]
  frame_out
  refine (canon_cover [_, _, _] [_] q (View.cover_of_tiledL _ ![1, 1024] (by sl_kernel_rfl) q)).trans ?_
  refine (dw_pieces R i hi (k0_pay18 (F := Ideal)) q).trans ?_
  unfold dwRows
  congr 1
  pointwise [k0_pay18]

end Cert.KernelIdeal.ConvOut

end
-- ==== Proof.ConvValue.lean ====
/-
  The convolution-gradient kernel's two result arrays after its run.
-/
module

public import proofs.«01_k».proof.Proof.ConvOut

@[expose] public section

set_option maxRecDepth 16384

noncomputable section

open Idealize.ShloMosaic Idealize.ShloMosaic.TcCoe Idealize.SL.Sem

namespace Cert.KernelIdeal.ConvValue

open Cert.KernelIdeal Cert.KernelIdeal.Gen Cert.KernelIdeal.ConvBlock Cert.KernelIdeal.ConvOut

variable (m : (ℓ : Loc nD τ sig) → Buf (Elt Ideal) ℓ)

/-- The block of each window at every grid point. -/
theorem idx : ∀ t : Fin cfg0.N,
    win0_0.index t = ![t.val, 0] ∧ win0_1.index t = ![16 * t.val - 1, 0] ∧ win0_2.index t = ![min (16 * t.val + 16) 511, 0] ∧
    win0_3.index t = ![t.val, 0] ∧ win0_4.index t = ![min (16 * t.val + 16) 511, 0] ∧ win0_5.index t = ![0, 0] ∧
    win0_6.index t = ![t.val, 0] ∧ win0_7.index t = ![0, 0] := by
  decide +kernel

/-- The last grid point. -/
def tLast : Fin cfg0.N := ⟨31, by decide⟩

/-- A grid point as a block number. -/
def blkNo (t : Fin cfg0.N) : Fin 32 := ⟨t.val, t.isLt⟩

theorem coords0 : ∀ t : Fin cfg0.N, (grid0.coords t 0).val = (blkNo t).val := by decide +kernel

/-- The six input blocks at a point hold the arguments' rows. -/
theorem reads (c : Dev nD) (t : Fin cfg0.N) :
    Reads (m ((c : Thread nD τ).loc main_arg0)) (m ((c : Thread nD τ).loc main_arg1)) (m ((c : Thread nD τ).loc main_arg2))
      (blkNo t) (iblk m c 0 t) (iblk m c 1 t) (iblk m c 2 t) (iblk m c 3 t) (iblk m c 4 t) (iblk m c 5 t) := by
  have hN : t.val < 32 := t.isLt
  have hb : (blkNo t).val = t.val := rfl
  constructor
  · intro r j; blk_ext [iblk, V, idx t, hb]
  · intro h r j; blk_ext [iblk, V, idx t, hb]
  · intro h r j; blk_ext [iblk, V, idx t, hb]
  · intro r j; blk_ext [iblk, V, idx t, hb]
  · intro h r j; blk_ext [iblk, V, idx t, hb]
  · intro k j; blk_ext [iblk, V, idx t, hb]

/-- A row of the block a point leaves for the first result. -/
theorem point6 (c : Dev nD) (t : Fin cfg0.N) (y : S256x3072.Idx) (v : Fin 8192) (hv : v.val = 256 * t.val + (y 0).val) :
    (outsAt0 m c t.val t.isLt).1 y =
      Conv.dp (m ((c : Thread nD τ).loc main_arg0)) (m ((c : Thread nD τ).loc main_arg1)) (m ((c : Thread nD τ).loc main_arg2)) (ix2 v (y 1)) := by
  by_cases h : t.val % 32 = 0
  · rw [outsAt0_A m c t h]
    dsimp only
    exact out6_A c (grid0.coords t) (coords0 t) _ _ _ _ _ _ _ _ _ _ _ _ _ _ _ _ (reads m c t) _ y v hv
  · rw [outsAt0_B m c t h]
    dsimp only
    exact out6_B c (grid0.coords t) (coords0 t) _ _ _ _ _ _ _ _ _ _ _ _ _ _ _ _ (reads m c t) _ _ y v hv

/-- The first result is the gradient of the projected input. -/
theorem arr6 (c : Dev nD) : (dats m 0 c).arrAt 6 cfg0.N =
    Conv.dp (m ((c : Thread nD τ).loc main_arg0)) (m ((c : Thread nD τ).loc main_arg1)) (m ((c : Thread nD τ).loc main_arg2)) := by
  refine (dats m 0 c).arrAt_eq_of_covers 6 _ (by decide +kernel) fun t hf y => ?_
  have hN : t.val < 32 := t.isLt
  have hy : (y 0).val < 256 := (y 0).isLt
  blk_simp
  rw [after0_6]
  refine (point6 m c t y ⟨256 * t.val + (y 0).val, by omega⟩ rfl).trans ?_
  refine congrArg _ ?_
  blk_ext [idx t]

/-- The second result is the gradient of the taps. -/
theorem arr7 (c : Dev nD) : (dats m 0 c).arrAt 7 cfg0.N =
    Conv.dw (m ((c : Thread nD τ).loc main_arg0)) (m ((c : Thread nD τ).loc main_arg1)) := by
  refine (dats m 0 c).arrAt_eq_of_after_last 7 tLast (by decide +kernel) _ fun j => ?_
  blk_simp
  rw [after0_7]
  refine (Pipeline.eq_sum_fin_of_reset_step_apply_last (fun n h => (outsAt0 m c n h).2) 32 (fun _ => (0 : EReal))
    (fun t k => dwTerm (m ((c : Thread nD τ).loc main_arg0)) (m ((c : Thread nD τ).loc main_arg1)) (blkNo t) k)
    (fun t h k => by
      show (outsAt0 m c t.val t.isLt).2 k = 0 + _
      rw [outsAt0_A m c t h]
      dsimp only
      exact out7_A c (grid0.coords t) (coords0 t) _ _ _ _ _ _ _ _ _ _ _ _ _ _ _ _ (reads m c t) _ k)
    (fun t h k => by
      show (outsAt0 m c t.val t.isLt).2 k = (outsAt0 m c (t.val - 1) _).2 k + _
      rw [outsAt0_B m c t h]
      dsimp only
      exact out7_B c (grid0.coords t) (coords0 t) _ _ _ _ _ _ _ _ _ _ _ _ _ _ _ _ (reads m c t) _ _ k)
    (by decide) tLast rfl j).trans ?_
  unfold Conv.dw dwTerm
  rw [zero_add]
  refine Fin.sum_mul_add_congr fun t k hl => ?_
  have e : (⟨256 * (blkNo t).val + k.val, by have := (blkNo t).isLt; omega⟩ : Fin 8192) = ⟨t.val * 256 + k.val, hl⟩ :=
    Fin.ext (by show 256 * t.val + k.val = t.val * 256 + k.val; omega)
  rw [e]

variable (ρ : Dev nD → PrngReg)

/-- The kernel's run: the two gradients, and the arguments as they were. -/
theorem run : θ_run defs (onTc (τ := τ) (main (F := Ideal))) ⟨m, fun _ => 0, ρ⟩ fun r => ∀ c : Dev nD,
      r.2.mem ((c : Thread nD τ).loc main_v0_0) =
        Conv.dp (m ((c : Thread nD τ).loc main_arg0)) (m ((c : Thread nD τ).loc main_arg1)) (m ((c : Thread nD τ).loc main_arg2))
      ∧ r.2.mem ((c : Thread nD τ).loc main_v0_1) = Conv.dw (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr6 m c), (h c).2.1.trans (arr7 m c), (h c).2.2⟩)
    (Value.run_blocks m ρ)

end Cert.KernelIdeal.ConvValue

end
-- ==== Proof.ConvRef.lean ====
/-
  The reference's gradients of the gated short convolution, read at an index.
-/
module

public import proofs.«01_k».proof.Proof.ConvSpec
public import proofs.«01_k».proof.Proof.Gen.ReferenceIdeal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.ReferenceIdeal.ConvRef

open Cert.ReferenceIdeal Cert.ReferenceIdeal.Gen

variable (m : (ℓ : Loc nD τ sig) → Buf (Elt Ideal) ℓ)

/-- A conditional read of the next row. -/
theorem lead_one (P : Conv.SP.Idx → EReal) (Z : Conv.SZ.Idx → EReal) (r : Fin 8192) (l : Fin 1024) (a : ℕ) (ha : a = l.val)
    (w : EReal) (f : (1 ≤ 2 + r.val ∧ 2 + r.val - 1 < 8192) ∧ a < 1024 → EReal)
    (hf : ∀ h, f h = w * (P (ix2 ⟨2 + r.val - 1, h.1.2⟩ ⟨a, by omega⟩) * Z (ix2 ⟨2 + r.val - 1, h.1.2⟩ ⟨a, h.2⟩))) :
    dite ((1 ≤ 2 + r.val ∧ 2 + r.val - 1 < 8192) ∧ a < 1024) f (fun _ => 0) = w * Conv.lead 1 (Conv.g P Z l) r := by
  subst ha
  unfold Conv.lead Conv.g
  by_cases h : r.val + 1 < 8192
  · rw [dif_pos (by omega), dif_pos h, hf]
    have e : (⟨2 + r.val - 1, by omega⟩ : Fin 8192) = ⟨r.val + 1, h⟩ := Fin.ext (by dsimp only; omega)
    rw [e]
    exact congrArg _ (mul_comm _ _)
  · rw [dif_neg (by omega), dif_neg h, mul_zero]

/-- A conditional read of the row after the next. -/
theorem lead_two (P : Conv.SP.Idx → EReal) (Z : Conv.SZ.Idx → EReal) (r : Fin 8192) (l : Fin 1024) (a : ℕ) (ha : a = l.val)
    (w : EReal) (f : 2 + r.val < 8192 ∧ a < 1024 → EReal)
    (hf : ∀ h, f h = w * (P (ix2 ⟨2 + r.val, h.1⟩ ⟨a, by omega⟩) * Z (ix2 ⟨2 + r.val, h.1⟩ ⟨a, h.2⟩))) :
    dite (2 + r.val < 8192 ∧ a < 1024) f (fun _ => 0) = w * Conv.lead 2 (Conv.g P Z l) r := by
  subst ha
  unfold Conv.lead Conv.g
  by_cases h : r.val + 2 < 8192
  · rw [dif_pos (by omega), dif_pos h, hf]
    have e : (⟨2 + r.val, by omega⟩ : Fin 8192) = ⟨r.val + 2, h⟩ := Fin.ext (by dsimp only; omega)
    rw [e]
    exact congrArg _ (mul_comm _ _)
  · rw [dif_neg (by omega), dif_neg h, mul_zero]

/-- The gradient of the projected input as a nest of conditional reads. -/
theorem dp_reads (P : Conv.SP.Idx → EReal) (Z : Conv.SZ.Idx → EReal) (W : Conv.SW.Idx → EReal) (r : Fin 8192) (j : Fin 3072) :
    (if h : j.val < 1024 then
      Z (ix2 r ⟨j.val, h⟩) *
        (((W (ix2 0 ⟨j.val, h⟩) *
            if h' : r.val < 2 then 0
            else P (ix2 ⟨r.val - 2, by omega⟩ ⟨1024 + j.val, by omega⟩) * P (ix2 ⟨r.val - 2, by omega⟩ ⟨2048 + j.val, by omega⟩)) +
          W (ix2 1 ⟨j.val, h⟩) *
            if h' : 1 + r.val < 2 then 0
            else P (ix2 ⟨1 + r.val - 2, by omega⟩ ⟨1024 + j.val, by omega⟩) * P (ix2 ⟨1 + r.val - 2, by omega⟩ ⟨2048 + j.val, by omega⟩)) +
          W (ix2 2 ⟨j.val, h⟩) * (P (ix2 r ⟨1024 + j.val, by omega⟩) * P (ix2 r ⟨2048 + j.val, by omega⟩)))
    else if h : j.val - 1024 < 1024 then
      (((if h' : j.val - 1024 < 1024 then
          W (ix2 2 ⟨j.val - 1024, h'⟩) * (P (ix2 r ⟨j.val - 1024, by omega⟩) * Z (ix2 r ⟨j.val - 1024, h'⟩)) else 0) +
        if h' : (1 ≤ 2 + r.val ∧ 2 + r.val - 1 < 8192) ∧ j.val - 1024 < 1024 then
          W (ix2 1 ⟨j.val - 1024, h'.2⟩) * (P (ix2 ⟨2 + r.val - 1, h'.1.2⟩ ⟨j.val - 1024, by omega⟩) * Z (ix2 ⟨2 + r.val - 1, h'.1.2⟩ ⟨j.val - 1024, h'.2⟩)) else 0) +
        if h' : 2 + r.val < 8192 ∧ j.val - 1024 < 1024 then
          W (ix2 0 ⟨j.val - 1024, h'.2⟩) * (P (ix2 ⟨2 + r.val, h'.1⟩ ⟨j.val - 1024, by omega⟩) * Z (ix2 ⟨2 + r.val, h'.1⟩ ⟨j.val - 1024, h'.2⟩)) else 0) *
        P (ix2 r ⟨2048 + (j.val - 1024), by omega⟩)
    else
      P (ix2 r ⟨1024 + (j.val - 1024 - 1024), by omega⟩) *
        (((if h' : j.val - 1024 - 1024 < 1024 then
            W (ix2 2 ⟨j.val - 1024 - 1024, h'⟩) * (P (ix2 r ⟨j.val - 1024 - 1024, by omega⟩) * Z (ix2 r ⟨j.val - 1024 - 1024, h'⟩)) else 0) +
          if h' : (1 ≤ 2 + r.val ∧ 2 + r.val - 1 < 8192) ∧ j.val - 1024 - 1024 < 1024 then
            W (ix2 1 ⟨j.val - 1024 - 1024, h'.2⟩) * (P (ix2 ⟨2 + r.val - 1, h'.1.2⟩ ⟨j.val - 1024 - 1024, by omega⟩) * Z (ix2 ⟨2 + r.val - 1, h'.1.2⟩ ⟨j.val - 1024 - 1024, h'.2⟩)) else 0) +
          if h' : 2 + r.val < 8192 ∧ j.val - 1024 - 1024 < 1024 then
            W (ix2 0 ⟨j.val - 1024 - 1024, h'.2⟩) * (P (ix2 ⟨2 + r.val, h'.1⟩ ⟨j.val - 1024 - 1024, by omega⟩) * Z (ix2 ⟨2 + r.val, h'.1⟩ ⟨j.val - 1024 - 1024, h'.2⟩)) else 0))
      = Conv.dp P Z W (ix2 r j) := by
  have e0 : Conv.dp P Z W (ix2 r j) = if h : j.val < 1024 then Z (ix2 r ⟨j.val, h⟩) * Conv.y P W ⟨j.val, h⟩ r
      else if h' : j.val < 2048 then Conv.du P Z W ⟨j.val - 1024, by omega⟩ r * P (ix2 r ⟨j.val + 1024, by omega⟩)
      else Conv.du P Z W ⟨j.val - 2048, by omega⟩ r * P (ix2 r ⟨j.val - 1024, by omega⟩) := rfl
  rw [e0]
  by_cases h1 : j.val < 1024
  · simp only [dif_pos h1]
    unfold Conv.y Conv.lag Conv.u
    by_cases h2 : r.val < 2
    · by_cases h3 : r.val < 1
      · simp only [dif_pos h2, dif_pos (show 1 + r.val < 2 by omega), dif_neg (show ¬ 2 ≤ r.val by omega), dif_neg (show ¬ 1 ≤ r.val by omega)]
      · have e : (⟨1 + r.val - 2, by omega⟩ : Fin 8192) = ⟨r.val - 1, by omega⟩ := Fin.ext (by dsimp only; omega)
        simp only [dif_pos h2, dif_neg (show ¬ 1 + r.val < 2 by omega), dif_neg (show ¬ 2 ≤ r.val by omega), dif_pos (show 1 ≤ r.val by omega), e]
    · have e : (⟨1 + r.val - 2, by omega⟩ : Fin 8192) = ⟨r.val - 1, by omega⟩ := Fin.ext (by dsimp only; omega)
      simp only [dif_neg h2, dif_neg (show ¬ 1 + r.val < 2 by omega), dif_pos (show 2 ≤ r.val by omega), dif_pos (show 1 ≤ r.val by omega), e]
  · simp only [dif_neg h1]
    by_cases h2 : j.val < 2048
    · have h3 : j.val - 1024 < 1024 := by omega
      have e : (⟨2048 + (j.val - 1024), by omega⟩ : Fin 3072) = ⟨j.val + 1024, by omega⟩ := Fin.ext (by dsimp only; omega)
      simp only [dif_pos h3, dif_pos h2, e]
      refine congrArg₂ _ (congrArg₂ _ (congrArg₂ _ ?_ ?_) ?_) rfl
      · exact congrArg _ (mul_comm _ _)
      · exact lead_one P Z r ⟨j.val - 1024, h3⟩ _ rfl _ _ fun _ => rfl
      · exact lead_two P Z r ⟨j.val - 1024, h3⟩ _ rfl _ _ fun _ => rfl
    · have h3 : ¬ j.val - 1024 < 1024 := by omega
      have h4 : j.val - 1024 - 1024 < 1024 := by omega
      have h5 : j.val - 2048 < 1024 := by omega
      have e : (⟨1024 + (j.val - 1024 - 1024), by omega⟩ : Fin 3072) = ⟨j.val - 1024, by omega⟩ := Fin.ext (by dsimp only; omega)
      have e' : (⟨j.val - 1024 - 1024, h4⟩ : Fin 1024) = ⟨j.val - 2048, h5⟩ := Fin.ext (by dsimp only; omega)
      simp only [dif_neg h3, dif_neg h2, dif_pos h4, e]
      rw [mul_comm, ← e']
      refine congrArg₂ _ (congrArg₂ _ (congrArg₂ _ ?_ ?_) ?_) rfl
      · exact congrArg _ (mul_comm _ _)
      · exact lead_one P Z r ⟨j.val - 1024 - 1024, h4⟩ _ rfl _ _ fun _ => rfl
      · exact lead_two P Z r ⟨j.val - 1024 - 1024, h4⟩ _ rfl _ _ fun _ => rfl

/-- The gradient of the taps as three conditional sums, one per tap. -/
theorem dw_reads (P : Conv.SP.Idx → EReal) (Z : Conv.SZ.Idx → EReal) (k : Fin 3) (l : Fin 1024) :
    (((if _ : 2 ≤ k.val ∧ k.val - 2 < 1 then
        ∑ x : Fin 8192, P (ix2 x ⟨l.val, by omega⟩) * Z (ix2 x l) * (P (ix2 x ⟨1024 + l.val, by omega⟩) * P (ix2 x ⟨2048 + l.val, by omega⟩))
      else 0) +
      if _ : 1 ≤ k.val ∧ k.val - 1 < 1 then
        ∑ x : Fin 8192, P (ix2 x ⟨l.val, by omega⟩) * Z (ix2 x l) *
          if _ : 1 + x.val < 2 then 0
          else P (ix2 ⟨1 + x.val - 2, by omega⟩ ⟨1024 + l.val, by omega⟩) * P (ix2 ⟨1 + x.val - 2, by omega⟩ ⟨2048 + l.val, by omega⟩)
      else 0) +
      if _ : k.val < 1 then
        (∑ x : Fin 2, P (ix2 ⟨x.val, by omega⟩ ⟨l.val, by omega⟩) * Z (ix2 ⟨x.val, by omega⟩ l) * 0) +
        ∑ x : Fin 8190, P (ix2 ⟨2 + x.val, by omega⟩ ⟨l.val, by omega⟩) * Z (ix2 ⟨2 + x.val, by omega⟩ l) *
          (P (ix2 ⟨x.val, by omega⟩ ⟨1024 + l.val, by omega⟩) * P (ix2 ⟨x.val, by omega⟩ ⟨2048 + l.val, by omega⟩))
      else 0)
      = ∑ x : Fin 8192, Conv.g P Z l x * Conv.lag (2 - k.val) (Conv.u P l) x := by
  obtain rfl | rfl | rfl : k = 0 ∨ k = 1 ∨ k = 2 := by
    obtain ⟨k, hk⟩ := k
    interval_cases k
    · exact Or.inl rfl
    · exact Or.inr (Or.inl rfl)
    · exact Or.inr (Or.inr rfl)
  · rw [dif_neg (by decide), dif_neg (by decide), dif_pos (by decide), zero_add, zero_add]
    refine Eq.trans ?_ (Fin.sum_univ_add (a := 2) (b := 8190) (fun x : Fin (2 + 8190) => Conv.g P Z l x * Conv.lag 2 (Conv.u P l) x)).symm
    refine congrArg₂ _ (Finset.sum_congr rfl fun x _ => ?_) (Finset.sum_congr rfl fun x _ => ?_)
    · have h : Conv.lag 2 (Conv.u P l) (Fin.castAdd 8190 x) = 0 := dif_neg (by have := x.isLt; show ¬ 2 ≤ x.val; omega)
      rw [h, mul_zero, mul_zero]
    · have h : Conv.lag 2 (Conv.u P l) (Fin.natAdd 2 x) = Conv.u P l ⟨x.val, by omega⟩ := by
        unfold Conv.lag
        rw [dif_pos (show 2 ≤ (Fin.natAdd 2 x).val by show 2 ≤ 2 + x.val; omega)]
        exact congrArg _ (Fin.ext (by show 2 + x.val - 2 = x.val; omega))
      rw [h, mul_comm (P _)]
      rfl
  · rw [dif_neg (by decide), dif_pos (by decide), dif_neg (by decide), zero_add, add_zero]
    refine Finset.sum_congr rfl fun x _ => ?_
    rw [mul_comm (P _) (Z _)]
    refine congrArg _ ?_
    show _ = Conv.lag 1 (Conv.u P l) x
    unfold Conv.lag
    by_cases h : 1 ≤ x.val
    · rw [dif_neg (by omega), dif_pos h]
      have e : (⟨1 + x.val - 2, by omega⟩ : Fin 8192) = ⟨x.val - 1, by omega⟩ := Fin.ext (by dsimp only; omega)
      rw [e]
      rfl
    · rw [dif_pos (by omega), dif_neg h]
  · rw [dif_pos (by decide), dif_neg (by decide), dif_neg (by decide), add_zero, add_zero]
    refine Finset.sum_congr rfl fun x _ => ?_
    rw [mul_comm (P _) (Z _)]
    exact congrArg _ (Conv.lag_zero (Conv.u P l) x).symm

/-- The reference's gradient of the projected input. -/
theorem res0 (c : Dev nD) : Value.res_out0 m c =
    Conv.dp (m ((c : Thread nD τ).loc main_arg0)) (m ((c : Thread nD τ).loc main_arg1)) (m ((c : Thread nD τ).loc main_arg2)) := by
  unfold Value.res_out0 Value.res_main_v56
  clean_types
  funext i
  obtain ⟨r, j, rfl⟩ : ∃ (r : Fin 8192) (j : Fin 3072), i = ix2 r j := ⟨i 0, i 1, eq_ix2 i⟩
  pointwise
  exact dp_reads (m (c.tc.loc main_arg0)) (m (c.tc.loc main_arg1)) (m (c.tc.loc main_arg2)) r j

/-- The reference's run: the two gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v56) =
        Conv.dp (m ((c : Thread nD τ).loc main_arg0)) (m ((c : Thread nD τ).loc main_arg1)) (m ((c : Thread nD τ).loc main_arg2))
      ∧ r.2.mem ((c : Thread nD τ).loc main_v50) = Conv.dw (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans (res0 m c), (h c).2.1.trans ?_, (h c).2.2⟩) (Value.run m ρ)
  clean_types
  funext i
  obtain ⟨k, l, rfl⟩ : ∃ (k : Fin 3) (l : Fin 1024), i = ix2 k l := ⟨i 0, i 1, eq_ix2 i⟩
  pointwise [Conv.dw]
  exact dw_reads (m (c.tc.loc main_arg0)) (m (c.tc.loc main_arg1)) k l

end Cert.ReferenceIdeal.ConvRef

end
-- ==== Proof.MatSpec.lean ====
/-
  Products of two matrices, written at one row and one column over the extended reals.
-/
module

public import Idealize.ShloMosaic.Lib.Pointwise

@[expose] public section

noncomputable section

open Idealize.ShloMosaic

namespace Mat

/-- A matrix of `a` rows and `b` columns. -/
abbrev M (a b : ℕ) : Shape := ⟨2, ![a, b]⟩
/-- Two matrices of `a` rows and `b` columns, one in each plane. -/
abbrev Two (a b : ℕ) : Shape := ⟨3, ![2, a, b]⟩

variable {a b n : ℕ}

/-- `A · B`: the rows of `A` against the columns of `B`. -/
def rowCol (A : (M a n).Idx → EReal) (B : (M n b).Idx → EReal) : (M a b).Idx → EReal :=
  fun i => ∑ l : Fin n, A (ix2 (i 0) l) * B (ix2 l (i 1))

/-- `A · Bᵀ`: the rows of `A` against the rows of `B`. -/
def rowRow (A : (M a n).Idx → EReal) (B : (M b n).Idx → EReal) : (M a b).Idx → EReal :=
  fun i => ∑ l : Fin n, A (ix2 (i 0) l) * B (ix2 (i 1) l)

/-- `Aᵀ · B`: the columns of `A` against the columns of `B`. -/
def colCol (A : (M n a).Idx → EReal) (B : (M n b).Idx → EReal) : (M a b).Idx → EReal :=
  fun i => ∑ l : Fin n, A (ix2 l (i 0)) * B (ix2 l (i 1))

/-- `[P₀ | P₁] · Bᵀ`: the rows of the two planes laid side by side, against the rows of `B`. -/
def twoRow (P : (Two a 2816).Idx → EReal) (B : (M b 5632).Idx → EReal) : (M a b).Idx → EReal :=
  fun i => ∑ p : Fin 2, ∑ l : Fin 2816, P (ix3 p (i 0) l) * B (ix2 (i 1) ⟨p.val * 2816 + l.val, by omega⟩)

/-- `Aᵀ · [P₀ | P₁]`: the columns of `A` against the columns of the two planes laid side by side. -/
def colTwo (A : (M n a).Idx → EReal) (P : (Two n 2816).Idx → EReal) : (M a 5632).Idx → EReal :=
  fun i => ∑ l : Fin n, A (ix2 l (i 0)) *
    P (ix3 (⟨(i 1).val / 2816, by have : (i 1).val < 5632 := (i 1).isLt; omega⟩ : Fin 2) l (⟨(i 1).val % 2816, Nat.mod_lt _ (by decide)⟩ : Fin 2816))

/-- A column of the two planes laid side by side lies in the plane its number divided by the width names. -/
theorem side (P : (Two n 2816).Idx → EReal) (l : Fin n) (q : Fin 5632) :
    (if h : q.val < 2816 then P (ix3 (0 : Fin 2) l (⟨q.val, h⟩ : Fin 2816))
      else P (ix3 (1 : Fin 2) l (⟨q.val - 2816, by omega⟩ : Fin 2816))) =
    P (ix3 (⟨q.val / 2816, by omega⟩ : Fin 2) l (⟨q.val % 2816, Nat.mod_lt _ (by decide)⟩ : Fin 2816)) := by
  by_cases h : q.val < 2816
  · rw [dif_pos h]
    have e : (⟨q.val / 2816, by omega⟩ : Fin 2) = 0 := Fin.ext (by show q.val / 2816 = 0; omega)
    have e' : (⟨q.val % 2816, Nat.mod_lt _ (by decide)⟩ : Fin 2816) = ⟨q.val, h⟩ := Fin.ext (by show q.val % 2816 = q.val; omega)
    rw [e, e']
  · rw [dif_neg h]
    have e : (⟨q.val / 2816, by omega⟩ : Fin 2) = 1 := Fin.ext (by show q.val / 2816 = 1; omega)
    have e' : (⟨q.val % 2816, Nat.mod_lt _ (by decide)⟩ : Fin 2816) = ⟨q.val - 2816, by omega⟩ :=
      Fin.ext (by show q.val % 2816 = q.val - 2816; omega)
    rw [e, e']

/-- A sum over two planes, one after the other. -/
theorem two (F : Fin 2 → Fin 2816 → EReal) : ∑ p : Fin 2, ∑ l : Fin 2816, F p l = ∑ l : Fin 2816, F 0 l + ∑ l : Fin 2816, F 1 l :=
  Fin.sum_univ_two _

end Mat

end
-- ==== Proof.Product2.lean ====
/-
  The gradient of the feed-forward input projection, with respect to its input: what its run leaves in the result.
-/
module

public import proofs.«01_k».proof.Proof.MatSpec
public import proofs.«01_k».proof.Proof.Gen.Kernel2Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel2Ideal.Product

open Cert.Kernel2Ideal Cert.Kernel2Ideal.Gen

variable (m : (ℓ : Loc nD τ sig) → Buf (Elt Ideal) ℓ)

/-- The block of each window at every grid point. -/
theorem idx : ∀ t : Fin cfg0.N,
    win0_0.index t = ![t.val % 2, t.val / 2, 0] ∧ win0_1.index t = ![0, t.val % 2] ∧ win0_2.index t = ![t.val / 2, 0] := by
  decide +kernel

/-- The product of a pair of blocks, at one place. -/
def part (x0 : Vec Ideal S1x1024x2816 .bf16) (x1 : Vec Ideal S1024x2816 .bf16) (y : S1024x1024.Idx) : EReal :=
  ∑ l : Fin 2816, x0 (ix3 0 (y 0) l) * x1 (ix2 (y 1) l)

section
variable (c : Dev nD) (i : grid0.Coords) (arg3 : Memref sig .tc .vmem S1x1024x2816 .bf16) (harg3 : arg3.IsWhole)
    (arg4 : Memref sig .tc .vmem S1024x2816 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S1x1024x2816 .bf16) (x1 : Vec Ideal S1024x2816 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- The last point adds to the sum … -/
theorem scr_B (hc0 : ¬cond0_0 i) (hc1 : cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- … and writes it out. -/
theorem out_B (hc0 : ¬cond0_0 i) (hc1 : cond0_1 i) (a : Vec Ideal S1024x1024 .f32) (y : S1024x1024.Idx) :
    out0_B_2 c i arg3 harg3 arg4 harg4 arg5 harg5 arg6 harg6 hc0 hc1 x0 x1 a y = a y + part x0 x1 y := by
  frame_out
  pointwise [k0_pay3, k0_pay2, part]
end

/-- The point that writes a block back leaves in it the sum of the products of its 2 pairs of blocks. -/
theorem flushed (c : Dev nD) (t : Fin cfg0.N) (ht : t.val % 2 = 1) (y : S1024x1024.Idx) :
    (outsAt0 m c t.val t.isLt).1 y = 0 + ∑ s : Fin 2,
      part (iblk m c 0 ⟨2 * (t.val / 2) + s.val, Pipeline.run_point_lt_of_flush t ht s⟩)
        (iblk m c 1 ⟨2 * (t.val / 2) + s.val, Pipeline.run_point_lt_of_flush t ht s⟩) y := by
  have e : (outsAt0 m c t.val t.isLt).1 y = (outsAt0 m c t.val t.isLt).2 y := by
    rw [outsAt0_B m c t (by omega) ht]
    dsimp only
    exact (out_B c (grid0.coords t) _ _ _ _ _ _ _ _ _ _ _ _ _ y).trans (scr_B c (grid0.coords t) _ _ _ _ _ _ _ _ _ _ _ _ _ y).symm
  refine e.trans ?_
  refine Pipeline.eq_sum_fin_of_reset_step_apply_of_flush (fun n h => (outsAt0 m c n h).2) 2 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    rw [outsAt0_B m c t h (by omega)]
    dsimp only
    exact scr_B c (grid0.coords t) _ _ _ _ _ _ _ _ _ _ _ _ _ k

/-- The result is the product of the two arguments. -/
theorem arr (c : Dev nD) : (dats m 0 c).arrAt 2 cfg0.N =
    Mat.twoRow (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  refine (flushed m c t ((flush0_2 t).mp hf) y).trans ?_
  rw [zero_add]
  unfold Mat.twoRow part
  refine Finset.sum_congr rfl fun p _ => Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.twoRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel2Ideal.Product

end
-- ==== Proof.ProductRef2.lean ====
/-
  The gradient of the feed-forward input projection, with respect to its input: the reference's value of it.
-/
module

public import proofs.«01_k».proof.Proof.MatSpec
public import proofs.«01_k».proof.Proof.Gen.Reference2Ideal.Run
public import Idealize.ShloMosaic.Lib.Tactic.CleanTypes

@[expose] public section

set_option maxRecDepth 16384

noncomputable section

open Idealize.ShloMosaic Idealize.ShloMosaic.TcCoe Idealize.SL.Sem

namespace Cert.Reference2Ideal.Product

open Cert.Reference2Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v10) = Mat.twoRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.twoRow]
  rw [Mat.two]
  refine congrArg₂ _ (Finset.sum_congr rfl fun l _ => ?_) (Finset.sum_congr rfl fun l _ => ?_)
  · exact congrArg _ (congrArg _ (congrArg _ (Fin.ext (by show l.val = 0 * 2816 + l.val; omega))))
  · exact congrArg _ (congrArg _ (congrArg _ (Fin.ext (by show 2816 + l.val = 1 * 2816 + l.val; omega))))

end Cert.Reference2Ideal.Product

end
-- ==== Proof.Product3.lean ====
/-
  The gradient of the feed-forward input projection, with respect to its weight: what its run leaves in the result.
-/
module

public import proofs.«01_k».proof.Proof.MatSpec
public import proofs.«01_k».proof.Proof.Gen.Kernel3Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel3Ideal.Product

open Cert.Kernel3Ideal Cert.Kernel3Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val / 8, t.val % 4, t.val / 4 % 2] ∧ win0_2.index t = ![0, t.val / 4] := by
  decide +kernel

/-- The product of a pair of blocks, at one place. -/
def part (x0 : Vec Ideal S2048x1024 .bf16) (x1 : Vec Ideal S1x2048x1408 .bf16) (y : S1024x1408.Idx) : EReal :=
  ∑ l : Fin 2048, x0 (ix2 l (y 0)) * x1 (ix3 0 l (y 1))

section
variable (c : Dev nD) (i : grid0.Coords) (arg3 : Memref sig .tc .vmem S2048x1024 .bf16) (harg3 : arg3.IsWhole)
    (arg4 : Memref sig .tc .vmem S1x2048x1408 .bf16) (harg4 : arg4.IsWhole) (arg5 : Memref sig .tc .vmem S1024x1408 .bf16) (harg5 : arg5.IsWhole)
    (arg6 : Memref sig .tc .vmem S1024x1408 .f32) (harg6 : arg6.IsWhole) (x0 : Vec Ideal S2048x1024 .bf16) (x1 : Vec Ideal S1x2048x1408 .bf16)

/-- The first point of a sum starts it at zero. -/
theorem scr_A (hc0 : cond0_0 i) (hc1 : ¬cond0_1 i) (y : S1024x1408.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1408 .f32) (y : S1024x1408.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1408 .f32) (y : S1024x1408.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1024x1408 .f32) (y : S1024x1408.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1024x1408.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colTwo (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  refine (flushed m c t ((flush0_2 t).mp hf) y).trans ?_
  rw [zero_add]
  unfold Mat.colTwo part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colTwo (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel3Ideal.Product

end
-- ==== Proof.ProductRef3.lean ====
/-
  The gradient of the feed-forward input projection, with respect to its weight: the reference's value of it.
-/
module

public import proofs.«01_k».proof.Proof.MatSpec
public import proofs.«01_k».proof.Proof.Gen.Reference3Ideal.Run
public import Idealize.ShloMosaic.Lib.Tactic.CleanTypes

@[expose] public section

set_option maxRecDepth 16384

noncomputable section

open Idealize.ShloMosaic Idealize.ShloMosaic.TcCoe Idealize.SL.Sem

namespace Cert.Reference3Ideal.Product

open Cert.Reference3Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v11) = Mat.colTwo (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 5632), i = ix2 p q := ⟨i 0, i 1, eq_ix2 i⟩
  pointwise [Mat.colTwo]
  exact Finset.sum_congr rfl fun l _ => (mul_comm _ _).trans (congrArg _ (Mat.side (m (c.tc.loc main_arg1)) l q))

end Cert.Reference3Ideal.Product

end
-- ==== Proof.Product4.lean ====
/-
  The gradient of the feed-forward output projection, with respect to its weight: what its run leaves in the result.
-/
module

public import proofs.«01_k».proof.Proof.MatSpec
public import proofs.«01_k».proof.Proof.Gen.Kernel4Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel4Ideal.Product

open Cert.Kernel4Ideal Cert.Kernel4Ideal.Gen

variable (m : (ℓ : Loc nD τ sig) → Buf (Elt Ideal) ℓ)

/-- The block of each window at every grid point. -/
theorem idx : ∀ t : Fin cfg0.N,
    win0_0.index t = ![t.val % 4, t.val / 4] ∧ win0_1.index t = ![t.val % 4, 0] ∧ win0_2.index t = ![t.val / 4, 0] := by
  decide +kernel

/-- The product of a pair of blocks, at one place. -/
def part (x0 : Vec Ideal S2048x1408 .bf16) (x1 : Vec Ideal S2048x1024 .bf16) (y : S1408x1024.Idx) : EReal :=
  ∑ l : Fin 2048, x0 (ix2 l (y 0)) * x1 (ix2 l (y 1))

section
variable (c : Dev nD) (i : grid0.Coords) (arg3 : Memref sig .tc .vmem S2048x1408 .bf16) (harg3 : arg3.IsWhole)
    (arg4 : Memref sig .tc .vmem S2048x1024 .bf16) (harg4 : arg4.IsWhole) (arg5 : Memref sig .tc .vmem S1408x1024 .bf16) (harg5 : arg5.IsWhole)
    (arg6 : Memref sig .tc .vmem S1408x1024 .f32) (harg6 : arg6.IsWhole) (x0 : Vec Ideal S2048x1408 .bf16) (x1 : Vec Ideal S2048x1024 .bf16)

/-- The first point of a sum starts it at zero. -/
theorem scr_A (hc0 : cond0_0 i) (hc1 : ¬cond0_1 i) (y : S1408x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1408x1024 .f32) (y : S1408x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1408x1024 .f32) (y : S1408x1024.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1408x1024 .f32) (y : S1408x1024.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1408x1024.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colCol (m ((c : Thread nD τ).loc main_arg0)) (m ((c : Thread nD τ).loc main_arg1)) := by
  refine (dats m 0 c).arrAt_eq_of_covers 2 _ (by decide +kernel) fun t hf y => ?_
  have hN : t.val < 8 := t.isLt
  blk_simp
  rw [after0_2]
  refine (flushed m c t ((flush0_2 t).mp hf) y).trans ?_
  rw [zero_add]
  unfold Mat.colCol part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel4Ideal.Product

end
-- ==== Proof.ProductRef4.lean ====
/-
  The gradient of the feed-forward output projection, with respect to its weight: the reference's value of it.
-/
module

public import proofs.«01_k».proof.Proof.MatSpec
public import proofs.«01_k».proof.Proof.Gen.Reference4Ideal.Run
public import Idealize.ShloMosaic.Lib.Tactic.CleanTypes

@[expose] public section

set_option maxRecDepth 16384

noncomputable section

open Idealize.ShloMosaic Idealize.ShloMosaic.TcCoe Idealize.SL.Sem

namespace Cert.Reference4Ideal.Product

open Cert.Reference4Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 2816) (q : Fin 1024), i = ix2 p q := ⟨i 0, i 1, eq_ix2 i⟩
  pointwise [Mat.colCol]
  exact Finset.sum_congr rfl fun _ _ => mul_comm _ _

end Cert.Reference4Ideal.Product

end
-- ==== Proof.Product5.lean ====
/-
  The feed-forward output projection: what its run leaves in the result.
-/
module

public import proofs.«01_k».proof.Proof.MatSpec
public import proofs.«01_k».proof.Proof.Gen.Kernel5Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel5Ideal.Product

open Cert.Kernel5Ideal Cert.Kernel5Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x2816 .bf16) (x1 : Vec Ideal S2816x1024 .bf16) (y : S1024x1024.Idx) : EReal :=
  ∑ l : Fin 2816, x0 (ix2 (y 0) l) * x1 (ix2 l (y 1))

/-- A point's block is the product of its two blocks. -/
theorem block (x0 : Vec Ideal S1024x2816 .bf16) (x1 : Vec Ideal S2816x1024 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowCol (m ((c : Thread nD τ).loc main_arg0)) (m ((c : Thread nD τ).loc main_arg1)) := by
  refine (dats m 0 c).arrAt_eq_of_covers 2 _ (by decide +kernel) fun t _ y => ?_
  have hN : t.val < 8 := t.isLt
  blk_simp
  rw [after0_2]
  refine (block _ _ y).trans ?_
  unfold part Mat.rowCol
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel5Ideal.Product

end
-- ==== Proof.ProductRef5.lean ====
/-
  The feed-forward output projection: the reference's value of it.
-/
module

public import proofs.«01_k».proof.Proof.MatSpec
public import proofs.«01_k».proof.Proof.Gen.Reference5Ideal.Run
public import Idealize.ShloMosaic.Lib.Tactic.CleanTypes

@[expose] public section

set_option maxRecDepth 16384

noncomputable section

open Idealize.ShloMosaic Idealize.ShloMosaic.TcCoe Idealize.SL.Sem

namespace Cert.Reference5Ideal.Product

open Cert.Reference5Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v3) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.rowCol]

end Cert.Reference5Ideal.Product

end
-- ==== Proof.Product6.lean ====
/-
  The gradient of the convolution's input projection, with respect to its input: what its run leaves in the result.
-/
module

public import proofs.«01_k».proof.Proof.MatSpec
public import proofs.«01_k».proof.Proof.Gen.Kernel6Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel6Ideal.Product

open Cert.Kernel6Ideal Cert.Kernel6Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x3072 .bf16) (x1 : Vec Ideal S1024x3072 .bf16) (y : S1024x1024.Idx) : EReal :=
  ∑ l : Fin 3072, x0 (ix2 (y 0) l) * x1 (ix2 (y 1) l)

/-- A point's block is the product of its two blocks. -/
theorem block (x0 : Vec Ideal S1024x3072 .bf16) (x1 : Vec Ideal S1024x3072 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowRow (m ((c : Thread nD τ).loc main_arg0)) (m ((c : Thread nD τ).loc main_arg1)) := by
  refine (dats m 0 c).arrAt_eq_of_covers 2 _ (by decide +kernel) fun t _ y => ?_
  have hN : t.val < 8 := t.isLt
  blk_simp
  rw [after0_2]
  refine (block _ _ y).trans ?_
  unfold part Mat.rowRow
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel6Ideal.Product

end
-- ==== Proof.ProductRef6.lean ====
/-
  The gradient of the convolution's input projection, with respect to its input: the reference's value of it.
-/
module

public import proofs.«01_k».proof.Proof.MatSpec
public import proofs.«01_k».proof.Proof.Gen.Reference6Ideal.Run
public import Idealize.ShloMosaic.Lib.Tactic.CleanTypes

@[expose] public section

set_option maxRecDepth 16384

noncomputable section

open Idealize.ShloMosaic Idealize.ShloMosaic.TcCoe Idealize.SL.Sem

namespace Cert.Reference6Ideal.Product

open Cert.Reference6Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.rowRow]

end Cert.Reference6Ideal.Product

end
-- ==== Proof.Product7.lean ====
/-
  The gradient of the convolution's input projection, with respect to its weight: what its run leaves in the result.
-/
module

public import proofs.«01_k».proof.Proof.MatSpec
public import proofs.«01_k».proof.Proof.Gen.Kernel7Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel7Ideal.Product

open Cert.Kernel7Ideal Cert.Kernel7Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val % 4, t.val / 4] ∧ win0_2.index t = ![0, t.val / 4] := by
  decide +kernel

/-- The product of a pair of blocks, at one place. -/
def part (x0 : Vec Ideal S2048x1024 .bf16) (x1 : Vec Ideal S2048x1024 .bf16) (y : S1024x1024.Idx) : EReal :=
  ∑ l : Fin 2048, x0 (ix2 l (y 0)) * x1 (ix2 l (y 1))

section
variable (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S2048x1024 .bf16) (x1 : Vec Ideal S2048x1024 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1024 .f32) (y : S1024x1024.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1024x1024 .f32) (y : S1024x1024.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1024x1024.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colCol (m ((c : Thread nD τ).loc main_arg0)) (m ((c : Thread nD τ).loc main_arg1)) := by
  refine (dats m 0 c).arrAt_eq_of_covers 2 _ (by decide +kernel) fun t hf y => ?_
  have hN : t.val < 12 := t.isLt
  blk_simp
  rw [after0_2]
  refine (flushed m c t ((flush0_2 t).mp hf) y).trans ?_
  rw [zero_add]
  unfold Mat.colCol part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel7Ideal.Product

end
-- ==== Proof.ProductRef7.lean ====
/-
  The gradient of the convolution's input projection, with respect to its weight: the reference's value of it.
-/
module

public import proofs.«01_k».proof.Proof.MatSpec
public import proofs.«01_k».proof.Proof.Gen.Reference7Ideal.Run
public import Idealize.ShloMosaic.Lib.Tactic.CleanTypes

@[expose] public section

set_option maxRecDepth 16384

noncomputable section

open Idealize.ShloMosaic Idealize.ShloMosaic.TcCoe Idealize.SL.Sem

namespace Cert.Reference7Ideal.Product

open Cert.Reference7Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 3072), i = ix2 p q := ⟨i 0, i 1, eq_ix2 i⟩
  pointwise [Mat.colCol]
  exact Finset.sum_congr rfl fun _ _ => mul_comm _ _

end Cert.Reference7Ideal.Product

end
-- ==== Proof.Product8.lean ====
/-
  The convolution's input projection: what its run leaves in the result.
-/
module

public import proofs.«01_k».proof.Proof.MatSpec
public import proofs.«01_k».proof.Proof.Gen.Kernel8Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel8Ideal.Product

open Cert.Kernel8Ideal Cert.Kernel8Ideal.Gen

variable (m : (ℓ : Loc nD τ sig) → Buf (Elt Ideal) ℓ)

/-- The block of each window at every grid point. -/
theorem idx : ∀ t : Fin cfg0.N,
    win0_0.index t = ![t.val / 3, 0] ∧ win0_1.index t = ![0, t.val % 3] ∧ win0_2.index t = ![t.val / 3, t.val % 3] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 l (y 1))

/-- A point's block is the product of its two blocks. -/
theorem block (x0 : Vec Ideal S1024x1024 .bf16) (x1 : Vec Ideal S1024x1024 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowCol (m ((c : Thread nD τ).loc main_arg0)) (m ((c : Thread nD τ).loc main_arg1)) := by
  refine (dats m 0 c).arrAt_eq_of_covers 2 _ (by decide +kernel) fun t _ y => ?_
  have hN : t.val < 24 := t.isLt
  blk_simp
  rw [after0_2]
  refine (block _ _ y).trans ?_
  unfold part Mat.rowCol
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel8Ideal.Product

end
-- ==== Proof.ProductRef8.lean ====
/-
  The convolution's input projection: the reference's value of it.
-/
module

public import proofs.«01_k».proof.Proof.MatSpec
public import proofs.«01_k».proof.Proof.Gen.Reference8Ideal.Run
public import Idealize.ShloMosaic.Lib.Tactic.CleanTypes

@[expose] public section

set_option maxRecDepth 16384

noncomputable section

open Idealize.ShloMosaic Idealize.ShloMosaic.TcCoe Idealize.SL.Sem

namespace Cert.Reference8Ideal.Product

open Cert.Reference8Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v3) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 3072), i = ix2 p q := ⟨i 0, i 1, eq_ix2 i⟩
  pointwise [Mat.rowCol]

end Cert.Reference8Ideal.Product

end
-- ==== Proof.Product9.lean ====
/-
  The gradient of the convolution's output projection, with respect to its input: what its run leaves in the result.
-/
module

public import proofs.«01_k».proof.Proof.MatSpec
public import proofs.«01_k».proof.Proof.Gen.Kernel9Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel9Ideal.Product

open Cert.Kernel9Ideal Cert.Kernel9Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 (y 1) l)

/-- A point's block is the product of its two blocks. -/
theorem block (x0 : Vec Ideal S1024x1024 .bf16) (x1 : Vec Ideal S1024x1024 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowRow (m ((c : Thread nD τ).loc main_arg0)) (m ((c : Thread nD τ).loc main_arg1)) := by
  refine (dats m 0 c).arrAt_eq_of_covers 2 _ (by decide +kernel) fun t _ y => ?_
  have hN : t.val < 8 := t.isLt
  blk_simp
  rw [after0_2]
  refine (block _ _ y).trans ?_
  unfold part Mat.rowRow
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel9Ideal.Product

end
-- ==== Proof.ProductRef9.lean ====
/-
  The gradient of the convolution's output projection, with respect to its input: the reference's value of it.
-/
module

public import proofs.«01_k».proof.Proof.MatSpec
public import proofs.«01_k».proof.Proof.Gen.Reference9Ideal.Run
public import Idealize.ShloMosaic.Lib.Tactic.CleanTypes

@[expose] public section

set_option maxRecDepth 16384

noncomputable section

open Idealize.ShloMosaic Idealize.ShloMosaic.TcCoe Idealize.SL.Sem

namespace Cert.Reference9Ideal.Product

open Cert.Reference9Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.rowRow]

end Cert.Reference9Ideal.Product

end
-- ==== Proof.Product10.lean ====
/-
  The gradient of the convolution's output projection, with respect to its weight: what its run leaves in the result.
-/
module

public import proofs.«01_k».proof.Proof.MatSpec
public import proofs.«01_k».proof.Proof.Gen.Kernel10Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel10Ideal.Product

open Cert.Kernel10Ideal Cert.Kernel10Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val % 4, 0] ∧ win0_2.index t = ![0, 0] := by
  decide +kernel

/-- The product of a pair of blocks, at one place. -/
def part (x0 : Vec Ideal S2048x1024 .bf16) (x1 : Vec Ideal S2048x1024 .bf16) (y : S1024x1024.Idx) : EReal :=
  ∑ l : Fin 2048, x0 (ix2 l (y 0)) * x1 (ix2 l (y 1))

section
variable (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S2048x1024 .bf16) (x1 : Vec Ideal S2048x1024 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1024 .f32) (y : S1024x1024.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1024x1024 .f32) (y : S1024x1024.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1024x1024.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colCol (m ((c : Thread nD τ).loc main_arg0)) (m ((c : Thread nD τ).loc main_arg1)) := by
  refine (dats m 0 c).arrAt_eq_of_covers 2 _ (by decide +kernel) fun t hf y => ?_
  have hN : t.val < 4 := t.isLt
  blk_simp
  rw [after0_2]
  refine (flushed m c t ((flush0_2 t).mp hf) y).trans ?_
  rw [zero_add]
  unfold Mat.colCol part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel10Ideal.Product

end
-- ==== Proof.ProductRef10.lean ====
/-
  The gradient of the convolution's output projection, with respect to its weight: the reference's value of it.
-/
module

public import proofs.«01_k».proof.Proof.MatSpec
public import proofs.«01_k».proof.Proof.Gen.Reference10Ideal.Run
public import Idealize.ShloMosaic.Lib.Tactic.CleanTypes

@[expose] public section

set_option maxRecDepth 16384

noncomputable section

open Idealize.ShloMosaic Idealize.ShloMosaic.TcCoe Idealize.SL.Sem

namespace Cert.Reference10Ideal.Product

open Cert.Reference10Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v6) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 1024), i = ix2 p q := ⟨i 0, i 1, eq_ix2 i⟩
  pointwise [Mat.colCol]
  exact Finset.sum_congr rfl fun _ _ => mul_comm _ _

end Cert.Reference10Ideal.Product

end
-- ==== Proof.GateSpec.lean ====
/-
  The gated projection of the feed-forward layer, written at one row and one column over the extended reals.

  With `[G | U] = X · W`, the layer's value is `silu(G) · U`, `silu(g) = g · σ(g)`, `σ(g) = 1 / (1 + exp(-g))`.
-/
module

public import proofs.«01_k».proof.Proof.MatSpec

@[expose] public section

noncomputable section

open Idealize.ShloMosaic

namespace Gate

variable (X : (Mat.M 8192 1024).Idx → EReal) (W : (Mat.M 1024 5632).Idx → EReal)

/-- The projection at one row and one column: `G` is its first half of columns (`p = 0`), `U` its second (`p = 1`). -/
def proj (p : Fin 2) (r : Fin 8192) (j : Fin 2816) : EReal :=
  ∑ l : Fin 1024, X (ix2 r l) * W (ix2 l (⟨p.val * 2816 + j.val, by omega⟩ : Fin 5632))

/-- The two halves of the projection, one in each plane. -/
def planes : (Mat.Two 8192 2816).Idx → EReal := fun i => proj X W (i 0) (i 1) (i 2)

/-- The gated value. -/
def gated : (Mat.M 8192 2816).Idx → EReal :=
  fun i => proj X W 0 (i 0) (i 1) * Ideal.logistic (proj X W 0 (i 0) (i 1)) * proj X W 1 (i 0) (i 1)

end Gate

end
-- ==== Proof.GateValue.lean ====
/-
  The feed-forward input projection with its gate: what its run leaves in the two results.
-/
module

public import proofs.«01_k».proof.Proof.GateSpec
public import proofs.«01_k».proof.Proof.Gen.Kernel11Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel11Ideal.GateValue

open Cert.Kernel11Ideal Cert.Kernel11Ideal.Gen

/-- The product of a block of rows and a block of columns, at one place. -/
def part (x0 : Vec Ideal S1024x1024 .bf16) (x : Vec Ideal S1024x1408 .bf16) (r : Fin 1024) (j : Fin 1408) : EReal :=
  ∑ l : Fin 1024, x0 (ix2 r l) * x (ix2 l j)

variable (x0 : Vec Ideal S1024x1024 .bf16) (x1 x2 : Vec Ideal S1024x1408 .bf16)

/-- A point's block of the gated value. -/
theorem gated_block (y : S1024x1408.Idx) : out0_4 x0 x1 x2 y =
    part x0 x1 (y 0) (y 1) * Ideal.logistic (part x0 x1 (y 0) (y 1)) * part x0 x2 (y 0) (y 1) := by
  obtain ⟨r, j, rfl⟩ : ∃ (r : Fin 1024) (j : Fin 1408), y = ix2 r j := ⟨y 0, y 1, eq_ix2 y⟩
  unfold_out out0_4
  canon_tiles x h
  all_goals
    obtain ⟨a, b, rfl⟩ : ∃ (a : Fin 256) (b : Fin 1408), x = ix2 a b := ⟨x 0, x 1, eq_ix2 x⟩
    have ej : j = b := Fin.ext h1
    subst ej
    obtain ⟨r, hr⟩ := r
    first
      | change r = 768 + a.val at h0
      | change r = 512 + a.val at h0
      | change r = 256 + a.val at h0
      | change r = a.val at h0
    subst h0
    pointwise [k0_pay5, k0_pay1, k0_pay2, k0_pay6, k0_pay7, k0_pay10, k0_pay11, k0_pay12, k0_pay15, k0_pay16, k0_pay17, k0_pay20, part]

/-- A point's block of the two planes. -/
theorem planes_block (y : S2x1024x1408.Idx) : out0_3 x0 x1 x2 y =
    part x0 (if (y 0).val = 0 then x1 else x2) (y 1) (y 2) := by
  obtain ⟨p, r, j, rfl⟩ : ∃ (p : Fin 2) (r : Fin 1024) (j : Fin 1408), y = ix3 p r j := ⟨y 0, y 1, y 2, eq_ix3 y⟩
  unfold_out out0_3
  canon_tiles x h
  all_goals
    obtain ⟨o, a, b, rfl⟩ : ∃ (o : Fin 1) (a : Fin 256) (b : Fin 1408), x = ix3 o a b := ⟨x 0, x 1, x 2, eq_ix3 x⟩
    have ej : j = b := Fin.ext h2
    subst ej
    obtain rfl : o = 0 := Subsingleton.elim _ _
    obtain ⟨p, hp⟩ := p
    obtain ⟨r, hr⟩ := r
    first
      | change p = 1 + 0 at h0
      | change p = 0 at h0
    subst h0
    first
      | change r = 768 + a.val at h1
      | change r = 512 + a.val at h1
      | change r = 256 + a.val at h1
      | change r = a.val at h1
    subst h1
    pointwise [k0_pay3, k0_pay4, k0_pay1, k0_pay2, k0_pay6, k0_pay7, k0_pay8, k0_pay9, k0_pay13, k0_pay14, k0_pay11, k0_pay12,
      k0_pay16, k0_pay17, k0_pay18, k0_pay19, part]
    try rfl

variable (m : (ℓ : Loc nD τ sig) → Buf (Elt Ideal) ℓ)

/-- The block of each window at every grid point. -/
theorem idx : ∀ t : Fin cfg0.N,
    win0_0.index t = ![t.val % 8, 0] ∧ win0_1.index t = ![0, t.val / 8] ∧ win0_2.index t = ![0, 2 + t.val / 8] ∧
    win0_3.index t = ![0, t.val % 8, t.val / 8] ∧ win0_4.index t = ![t.val % 8, t.val / 8] := by
  decide +kernel

/-- The projection's first half at a point. -/
theorem part_gate (c : Dev nD) (t : Fin cfg0.N) (r : Fin 1024) (j : Fin 1408) (r' : Fin 8192) (j' : Fin 2816)
    (hr : r'.val = 1024 * (t.val % 8) + r.val) (hj : j'.val = 1408 * (t.val / 8) + j.val) :
    part (iblk m c 0 t) (iblk m c 1 t) r j = Gate.proj (m ((c : Thread nD τ).loc main_arg0)) (m ((c : Thread nD τ).loc main_arg1)) 0 r' j' := by
  have hN : t.val < 16 := t.isLt
  refine Finset.sum_congr rfl fun l _ => congrArg₂ _ ?_ ?_
  · blk_ext [iblk, V, idx, hr]
  · blk_ext [iblk, V, idx, hj]

/-- The projection's second half at a point. -/
theorem part_up (c : Dev nD) (t : Fin cfg0.N) (r : Fin 1024) (j : Fin 1408) (r' : Fin 8192) (j' : Fin 2816)
    (hr : r'.val = 1024 * (t.val % 8) + r.val) (hj : j'.val = 1408 * (t.val / 8) + j.val) :
    part (iblk m c 0 t) (iblk m c 2 t) r j = Gate.proj (m ((c : Thread nD τ).loc main_arg0)) (m ((c : Thread nD τ).loc main_arg1)) 1 r' j' := by
  have hN : t.val < 16 := t.isLt
  refine Finset.sum_congr rfl fun l _ => congrArg₂ _ ?_ ?_
  · blk_ext [iblk, V, idx, hr]
  · blk_ext [iblk, V, idx, hj]

/-- The first result is the projection's two halves. -/
theorem arr3 (c : Dev nD) : (dats m 0 c).arrAt 3 cfg0.N =
    Gate.planes (m ((c : Thread nD τ).loc main_arg0)) (m ((c : Thread nD τ).loc main_arg1)) := by
  refine (dats m 0 c).arrAt_eq_of_covers 3 _ (by decide +kernel) fun t _ y => ?_
  have hN : t.val < 16 := t.isLt
  have h1 : (y 1).val < 1024 := (y 1).isLt
  have h2 : (y 2).val < 1408 := (y 2).isLt
  have hi : win0_3.index t = ![0, t.val % 8, t.val / 8] := (idx t).2.2.2.1
  blk_simp
  rw [after0_3]
  refine (planes_block _ _ _ y).trans ?_
  obtain ⟨p, r, j, rfl⟩ : ∃ (p : Fin 2) (r : Fin 1024) (j : Fin 1408), y = ix3 p r j := ⟨y 0, y 1, y 2, eq_ix3 y⟩
  change r.val < 1024 at h1
  change j.val < 1408 at h2
  have key : part (iblk m c 0 t) (if p.val = 0 then iblk m c 1 t else iblk m c 2 t) r j =
      Gate.planes (m ((c : Thread nD τ).loc main_arg0)) (m ((c : Thread nD τ).loc main_arg1))
        (ix3 p (⟨1024 * (t.val % 8) + r.val, by omega⟩ : Fin 8192) (⟨1408 * (t.val / 8) + j.val, by omega⟩ : Fin 2816)) := by
    obtain rfl | rfl : p = 0 ∨ p = 1 := by omega
    · rw [if_pos (by rfl)]
      exact part_gate m c t r j _ _ rfl rfl
    · rw [if_neg (by decide)]
      exact part_up m c t r j _ _ rfl rfl
  refine key.trans (congrArg _ ?_)
  blk_ext [idx]

/-- The second result is the gated value. -/
theorem arr4 (c : Dev nD) : (dats m 0 c).arrAt 4 cfg0.N =
    Gate.gated (m ((c : Thread nD τ).loc main_arg0)) (m ((c : Thread nD τ).loc main_arg1)) := by
  refine (dats m 0 c).arrAt_eq_of_covers 4 _ (by decide +kernel) fun t _ y => ?_
  have hN : t.val < 16 := t.isLt
  blk_simp
  rw [after0_4]
  refine (gated_block _ _ _ y).trans ?_
  obtain ⟨r, j, rfl⟩ : ∃ (r : Fin 1024) (j : Fin 1408), y = ix2 r j := ⟨y 0, y 1, eq_ix2 y⟩
  have key : part (iblk m c 0 t) (iblk m c 1 t) r j * Ideal.logistic (part (iblk m c 0 t) (iblk m c 1 t) r j) * part (iblk m c 0 t) (iblk m c 2 t) r j =
      Gate.gated (m ((c : Thread nD τ).loc main_arg0)) (m ((c : Thread nD τ).loc main_arg1))
        (ix2 (⟨1024 * (t.val % 8) + r.val, by omega⟩ : Fin 8192) (⟨1408 * (t.val / 8) + j.val, by omega⟩ : Fin 2816)) := by
    rw [part_gate m c t r j ⟨1024 * (t.val % 8) + r.val, by omega⟩ ⟨1408 * (t.val / 8) + j.val, by omega⟩ rfl rfl,
      part_up m c t r j ⟨1024 * (t.val % 8) + r.val, by omega⟩ ⟨1408 * (t.val / 8) + j.val, by omega⟩ rfl rfl]
    rfl
  refine key.trans (congrArg _ ?_)
  blk_ext [idx]

/-- The kernel's run: the two planes, the gated value, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = Gate.planes (m ((c : Thread nD τ).loc main_arg0)) (m ((c : Thread nD τ).loc main_arg1))
      ∧ r.2.mem ((c : Thread nD τ).loc main_v0_1) = Gate.gated (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr3 m c), (h c).2.1.trans (arr4 m c), (h c).2.2⟩) (Value.run_blocks m ρ)

end Cert.Kernel11Ideal.GateValue

end
-- ==== Proof.GateRef.lean ====
/-
  The feed-forward input projection with its gate: the reference's values of the two results.
-/
module

public import proofs.«01_k».proof.Proof.GateSpec
public import proofs.«01_k».proof.Proof.Gen.Reference11Ideal.Run
public import Idealize.ShloMosaic.Lib.Tactic.CleanTypes

@[expose] public section

set_option maxRecDepth 16384

noncomputable section

open Idealize.ShloMosaic Idealize.ShloMosaic.TcCoe Idealize.SL.Sem

namespace Cert.Reference11Ideal.GateRef

open Cert.Reference11Ideal

variable (m : (ℓ : Loc nD τ sig) → Buf (Elt Ideal) ℓ)

/-- The reference's run: the two planes, the gated value, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v8) = Gate.planes (m ((c : Thread nD τ).loc main_arg0)) (m ((c : Thread nD τ).loc main_arg1))
      ∧ r.2.mem ((c : Thread nD τ).loc main_v11) = Gate.gated (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2.1.trans ?_, (h c).2.2⟩) (Value.run m ρ)
  · clean_types
    funext i
    obtain ⟨p, r, j, rfl⟩ : ∃ (p : Fin 2) (r : Fin 8192) (j : Fin 2816), i = ix3 p r j := ⟨i 0, i 1, i 2, eq_ix3 i⟩
    obtain rfl | rfl : p = 0 ∨ p = 1 := by omega
    · pointwise [Gate.planes, Gate.proj]
    · pointwise [Gate.planes, Gate.proj]
  · clean_types
    funext i
    obtain ⟨r, j, rfl⟩ : ∃ (r : Fin 8192) (j : Fin 2816), i = ix2 r j := ⟨i 0, i 1, eq_ix2 i⟩
    pointwise [Gate.gated, Gate.proj]
    rfl

end Cert.Reference11Ideal.GateRef

end
-- ==== Proof.GateGradSpec.lean ====
/-
  The gradient of the gated feed-forward value, written at one row and one column over the extended reals.

  With `da = dff · Wᵀ` the gradient of the gated value `silu(G) · U`,
    dU = da · silu(G),   dG = da · U · (σ(G) + silu(G) · (1 - σ(G))).
-/
module

public import proofs.«01_k».proof.Proof.MatSpec

@[expose] public section

noncomputable section

open Idealize.ShloMosaic

namespace GateGrad

variable (Z : (Mat.M 8192 1024).Idx → EReal) (W : (Mat.M 2816 1024).Idx → EReal) (G : (Mat.Two 8192 2816).Idx → EReal)

/-- The gradient of the gated value at one row and one column. -/
def da (r : Fin 8192) (j : Fin 2816) : EReal := ∑ l : Fin 1024, Z (ix2 r l) * W (ix2 j l)

/-- From the gated value's gradient `d`, the gate `g` and the other factor `u`: the gate's gradient. -/
def dgate (d g u : EReal) : EReal := d * u * (Ideal.logistic g + g * Ideal.logistic g * (1 - Ideal.logistic g))

/-- From the gated value's gradient `d` and the gate `g`: the other factor's gradient. -/
def dup (d g : EReal) : EReal := d * (g * Ideal.logistic g)

/-- The two gradients, one in each plane. -/
def planes : (Mat.Two 8192 2816).Idx → EReal := fun i =>
  if (i 0).val = 0 then dgate (da Z W (i 1) (i 2)) (G (ix3 0 (i 1) (i 2))) (G (ix3 1 (i 1) (i 2)))
  else dup (da Z W (i 1) (i 2)) (G (ix3 0 (i 1) (i 2)))

/-- A value that is a real number. -/
def Finite (x : EReal) : Prop := ∃ a : ℝ, x = (a : EReal)

theorem Finite.mul {x y : EReal} : Finite x → Finite y → Finite (x * y) := by
  rintro ⟨a, rfl⟩ ⟨b, rfl⟩
  exact ⟨a * b, (EReal.coe_mul a b).symm⟩

theorem Finite.add {x y : EReal} : Finite x → Finite y → Finite (x + y) := by
  rintro ⟨a, rfl⟩ ⟨b, rfl⟩
  exact ⟨a + b, (EReal.coe_add a b).symm⟩

/-- The gated value's gradient is a real number where its factors are. -/
theorem da_finite (hZ : ∀ i, Finite (Z i)) (hW : ∀ i, Finite (W i)) (r : Fin 8192) (j : Fin 2816) : Finite (da Z W r j) :=
  Finset.sum_induction _ Finite (fun _ _ => Finite.add) ⟨0, rfl⟩ fun _ _ => (hZ _).mul (hW _)

/-- The gate's gradient as the product rule gives it, where the factor before it is a real number. -/
theorem dgate_eq (d g u : EReal) (h : Finite (d * u)) :
    d * u * Ideal.logistic g + g * (d * u) * (Ideal.logistic g * (1 - Ideal.logistic g)) = dgate d g u := by
  unfold dgate
  obtain ⟨q, hq⟩ := h
  rw [hq]
  induction g using EReal.rec with
  | bot => simp
  | top =>
    have e : (1 : EReal) - 1 = 0 := EReal.sub_self (by decide) (by decide)
    simp [e]
  | coe g =>
    rw [Ideal.logistic_coe]
    norm_cast
    congr 1
    ring

end GateGrad

end
-- ==== Proof.GateGradValue.lean ====
/-
  The gradient of the gated feed-forward value: what the kernel's run leaves in the result.
-/
module

public import proofs.«01_k».proof.Proof.GateGradSpec
public import proofs.«01_k».proof.Proof.Gen.Kernel12Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel12Ideal.GateGradValue

open Cert.Kernel12Ideal Cert.Kernel12Ideal.Gen

/-- The product of a block of rows of the one factor and of the other, at one place. -/
def part (x0 : Vec Ideal S1024x1024 .bf16) (x1 : Vec Ideal S1408x1024 .bf16) (r : Fin 1024) (j : Fin 1408) : EReal :=
  ∑ l : Fin 1024, x0 (ix2 r l) * x1 (ix2 j l)

variable (x0 : Vec Ideal S1024x1024 .bf16) (x1 : Vec Ideal S1408x1024 .bf16) (x2 : Vec Ideal S2x1024x1408 .bf16)

/-- The gradients of a block, from its own blocks. -/
def grads (y : S2x1024x1408.Idx) : EReal :=
  if (y 0).val = 0 then GateGrad.dgate (part x0 x1 (y 1) (y 2)) (x2 (ix3 0 (y 1) (y 2))) (x2 (ix3 1 (y 1) (y 2)))
  else GateGrad.dup (part x0 x1 (y 1) (y 2)) (x2 (ix3 0 (y 1) (y 2)))

/-- A point's block of the two gradients. -/
theorem block (y : S2x1024x1408.Idx) : out0_3 x0 x1 x2 y = grads x0 x1 x2 y := by
  obtain ⟨p, r, j, rfl⟩ : ∃ (p : Fin 2) (r : Fin 1024) (j : Fin 1408), y = ix3 p r j := ⟨y 0, y 1, y 2, eq_ix3 y⟩
  unfold_out out0_3
  canon_tiles x h
  all_goals
    obtain ⟨o, a, b, rfl⟩ : ∃ (o : Fin 1) (a : Fin 256) (b : Fin 1408), x = ix3 o a b := ⟨x 0, x 1, x 2, eq_ix3 x⟩
    have ej : j = b := Fin.ext h2
    subst ej
    obtain rfl : o = 0 := Subsingleton.elim _ _
    obtain ⟨p, hp⟩ := p
    obtain ⟨r, hr⟩ := r
    first
      | change p = 1 + 0 at h0
      | change p = 0 at h0
    subst h0
    first
      | change r = 768 + a.val at h1
      | change r = 512 + a.val at h1
      | change r = 256 + a.val at h1
      | change r = a.val at h1
    subst h1
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, grads, part, GateGrad.dgate, GateGrad.dup]
    try trace_state
    try rfl

variable (m : (ℓ : Loc nD τ sig) → Buf (Elt Ideal) ℓ)

/-- The block of each window at every grid point. -/
theorem idx : ∀ t : Fin cfg0.N,
    win0_0.index t = ![t.val % 8, 0] ∧ win0_1.index t = ![t.val / 8, 0] ∧ win0_2.index t = ![0, t.val % 8, t.val / 8] ∧
    win0_3.index t = ![0, t.val % 8, t.val / 8] := by
  decide +kernel

/-- The gated value's gradient at a point. -/
theorem part_eq (c : Dev nD) (t : Fin cfg0.N) (r : Fin 1024) (j : Fin 1408) (r' : Fin 8192) (j' : Fin 2816)
    (hr : r'.val = 1024 * (t.val % 8) + r.val) (hj : j'.val = 1408 * (t.val / 8) + j.val) :
    part (iblk m c 0 t) (iblk m c 1 t) r j = GateGrad.da (m ((c : Thread nD τ).loc main_arg0)) (m ((c : Thread nD τ).loc main_arg1)) r' j' := by
  have hN : t.val < 16 := t.isLt
  refine Finset.sum_congr rfl fun l _ => congrArg₂ _ ?_ ?_
  · blk_ext [iblk, V, idx, hr]
  · blk_ext [iblk, V, idx, hj]

/-- The saved projection at a point. -/
theorem saved (c : Dev nD) (t : Fin cfg0.N) (p : Fin 2) (r : Fin 1024) (j : Fin 1408) (r' : Fin 8192) (j' : Fin 2816)
    (hr : r'.val = 1024 * (t.val % 8) + r.val) (hj : j'.val = 1408 * (t.val / 8) + j.val) :
    (iblk m c 2 t : Vec Ideal S2x1024x1408 .bf16) (ix3 p r j) = m ((c : Thread nD τ).loc main_arg2) (ix3 p r' j') := by
  have hN : t.val < 16 := t.isLt
  blk_ext [iblk, V, idx, hr, hj]

/-- The result is the two gradients. -/
theorem arr (c : Dev nD) : (dats m 0 c).arrAt 3 cfg0.N =
    GateGrad.planes (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN : t.val < 16 := t.isLt
  blk_simp
  rw [after0_3]
  refine (block _ _ _ y).trans ?_
  obtain ⟨p, r, j, rfl⟩ : ∃ (p : Fin 2) (r : Fin 1024) (j : Fin 1408), y = ix3 p r j := ⟨y 0, y 1, y 2, eq_ix3 y⟩
  have key : grads (iblk m c 0 t) (iblk m c 1 t) (iblk m c 2 t) (ix3 p r j) =
      GateGrad.planes (m ((c : Thread nD τ).loc main_arg0)) (m ((c : Thread nD τ).loc main_arg1)) (m ((c : Thread nD τ).loc main_arg2))
        (ix3 p (⟨1024 * (t.val % 8) + r.val, by omega⟩ : Fin 8192) (⟨1408 * (t.val / 8) + j.val, by omega⟩ : Fin 2816)) := by
    have e := part_eq m c t r j ⟨1024 * (t.val % 8) + r.val, by omega⟩ ⟨1408 * (t.val / 8) + j.val, by omega⟩ rfl rfl
    have s := fun p => saved m c t p r j ⟨1024 * (t.val % 8) + r.val, by omega⟩ ⟨1408 * (t.val / 8) + j.val, by omega⟩ rfl rfl
    show (if p.val = 0 then GateGrad.dgate (part (iblk m c 0 t) (iblk m c 1 t) r j) ((iblk m c 2 t : Vec Ideal S2x1024x1408 .bf16) (ix3 0 r j))
      ((iblk m c 2 t : Vec Ideal S2x1024x1408 .bf16) (ix3 1 r j))
      else GateGrad.dup (part (iblk m c 0 t) (iblk m c 1 t) r j) ((iblk m c 2 t : Vec Ideal S2x1024x1408 .bf16) (ix3 0 r j))) = _
    rw [e, s 0, s 1]
    rfl
  refine key.trans (congrArg _ ?_)
  blk_ext [idx]

/-- The kernel's run: the two gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) =
        GateGrad.planes (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr m c), (h c).2⟩) (Value.run_blocks m ρ)

end Cert.Kernel12Ideal.GateGradValue

end
-- ==== Proof.GateGradRef.lean ====
/-
  The gradient of the gated feed-forward value: the reference's value of the result, where its factors are real numbers.
-/
module

public import proofs.«01_k».proof.Proof.GateGradSpec
public import proofs.«01_k».proof.Proof.Gen.Reference12Ideal.Run
public import Idealize.ShloMosaic.Lib.Tactic.CleanTypes

@[expose] public section

set_option maxRecDepth 16384

noncomputable section

open Idealize.ShloMosaic Idealize.ShloMosaic.TcCoe Idealize.SL.Sem

namespace Cert.Reference12Ideal.GateGradRef

open Cert.Reference12Ideal

variable (m : (ℓ : Loc nD τ sig) → Buf (Elt Ideal) ℓ)

/-- The reference's run: the two gradients, and the arguments as they were. -/
theorem run (hZ : ∀ (c : Dev nD) i, GateGrad.Finite (m ((c : Thread nD τ).loc main_arg0) i))
    (hW : ∀ (c : Dev nD) i, GateGrad.Finite (m ((c : Thread nD τ).loc main_arg1) i))
    (hU : ∀ (c : Dev nD) (r : Fin 8192) (j : Fin 2816), GateGrad.Finite (m ((c : Thread nD τ).loc main_arg2) (ix3 1 r j)))
    (ρ : Dev nD → PrngReg) : θ_run defs (onTc (τ := τ) (main (F := Ideal))) ⟨m, fun _ => 0, ρ⟩ fun r => ∀ c : Dev nD,
      r.2.mem ((c : Thread nD τ).loc main_v17) =
        GateGrad.planes (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  clear h r
  clean_types
  funext i
  obtain ⟨p, r, j, rfl⟩ : ∃ (p : Fin 2) (r : Fin 8192) (j : Fin 2816), i = ix3 p r j := ⟨i 0, i 1, i 2, eq_ix3 i⟩
  obtain rfl | rfl : p = 0 ∨ p = 1 := by omega
  · refine Eq.trans ?_ (GateGrad.dgate_eq (GateGrad.da (m (c.tc.loc main_arg0)) (m (c.tc.loc main_arg1)) r j) (m (c.tc.loc main_arg2) (ix3 0 r j))
      (m (c.tc.loc main_arg2) (ix3 1 r j)) ((GateGrad.da_finite _ _ (hZ c) (hW c) r j).mul (hU c r j)))
    pointwise [GateGrad.da]
    rfl
  · pointwise [GateGrad.planes]
    exact mul_comm _ _

end Cert.Reference12Ideal.GateGradRef

end
-- ==== Proof.GateGradPre.lean ====
/-
  What the precondition of the gated value's gradient says: its factors are real numbers.
-/
module

public import proofs.«01_k».proof.Defs
public import proofs.«01_k».proof.Proof.GateGradSpec
public import proofs.«01_k».proof.Proof.Gen.Pre_finite12
public import Idealize.ShloMosaic.Lib.ReduceAll

@[expose] public section

set_option maxRecDepth 16384

noncomputable section

open Idealize.ShloMosaic Idealize.ShloMosaic.TcCoe Idealize.SL.Sem

namespace Cert.Pre_finite12.Read

/-- A value whose absolute value is less than infinity is finite. -/
theorem fin_of (x : EReal)
    (h : BitVec.ofBool (decide (FloatOps.absf (F := Ideal) (φ := .f32) x
      < Ideal.ofBits FTy.f32 2139095040#32)) = 1#1) : GateGrad.Finite x := by
  have hi : Ideal.ofBits FTy.f32 2139095040#32 = ⊤ := by simp [Ideal.ofBits, Ideal.ieee]
  have h1 : max x (-x) < (⊤ : EReal) := by
    rw [hi] at h
    by_contra hn
    have : decide (FloatOps.absf (F := Ideal) (φ := .f32) x < (⊤ : EReal)) = false := decide_eq_false hn
    rw [this] at h
    exact absurd h (by decide)
  induction x using EReal.rec <;> simp_all [GateGrad.Finite]

variable (Z : Vec Ideal S8192x1024 .bf16) (W : Vec Ideal S2816x1024 .bf16) (G : Vec Ideal S2x8192x2816 .bf16)

/-- The three factors the precondition speaks of. -/
theorem read (h : fn (F := Ideal) Z W G = fun _ => 1#1) :
    (∀ i, GateGrad.Finite (Z i)) ∧ (∀ i, GateGrad.Finite (W i)) ∧ ∀ (r : Fin 8192) (j : Fin 2816), GateGrad.Finite (G (ix3 1 r j)) := by
  have e := congrFun h (fun a => a.elim0)
  dsimp only [fn, fn_part1] at e
  obtain ⟨e1, e3⟩ := IntOp.andi_eq_one.mp e
  obtain ⟨e1, e2⟩ := IntOp.andi_eq_one.mp e1
  have a := Host.reduce_andi_all _ _ _ _ _ e1
  have b := Host.reduce_andi_all _ _ _ _ _ e2
  have d := Host.reduce_andi_all _ _ _ _ _ e3
  refine ⟨fun i => ?_, fun i => ?_, fun r j => ?_⟩
  · have h := a i
    pointwise at h
    exact fin_of _ h
  · have h := b i
    pointwise at h
    exact fin_of _ h
  · have h := d (ix2 r j)
    pointwise at h
    exact fin_of _ h

end Cert.Pre_finite12.Read

end
-- ==== Proof.MatKv.lean ====
/-
  Products with the keys and the values, kept in two planes of 1024 columns each, and products scaled by a constant.
-/
module

public import proofs.«01_k».proof.Proof.MatSpec
public import Idealize.ShloMosaic.PureOps.Ideal

@[expose] public section

noncomputable section

open Idealize.ShloMosaic

namespace Mat

variable {a b n : ℕ}

/-- `[P₀ | P₁] · Bᵀ`: the rows of the two planes laid side by side, against the rows of `B`. -/
def twoRowKv (P : (Two a 1024).Idx → EReal) (B : (M b 2048).Idx → EReal) : (M a b).Idx → EReal :=
  fun i => ∑ p : Fin 2, ∑ l : Fin 1024, P (ix3 p (i 0) l) * B (ix2 (i 1) ⟨p.val * 1024 + l.val, by omega⟩)

/-- `Aᵀ · [P₀ | P₁]`: the columns of `A` against the columns of the two planes laid side by side. -/
def colTwoKv (A : (M n a).Idx → EReal) (P : (Two n 1024).Idx → EReal) : (M a 2048).Idx → EReal :=
  fun i => ∑ l : Fin n, A (ix2 l (i 0)) *
    P (ix3 (⟨(i 1).val / 1024, by have : (i 1).val < 2048 := (i 1).isLt; omega⟩ : Fin 2) l (⟨(i 1).val % 1024, Nat.mod_lt _ (by decide)⟩ : Fin 1024))

/-- A column of the two planes laid side by side lies in the plane its number divided by the width names. -/
theorem sideKv (P : (Two n 1024).Idx → EReal) (l : Fin n) (q : Fin 2048) :
    (if h : q.val < 1024 then P (ix3 (0 : Fin 2) l (⟨q.val, h⟩ : Fin 1024))
      else P (ix3 (1 : Fin 2) l (⟨q.val - 1024, by omega⟩ : Fin 1024))) =
    P (ix3 (⟨q.val / 1024, by omega⟩ : Fin 2) l (⟨q.val % 1024, Nat.mod_lt _ (by decide)⟩ : Fin 1024)) := by
  by_cases h : q.val < 1024
  · rw [dif_pos h]
    have e : (⟨q.val / 1024, by omega⟩ : Fin 2) = 0 := Fin.ext (by show q.val / 1024 = 0; omega)
    have e' : (⟨q.val % 1024, Nat.mod_lt _ (by decide)⟩ : Fin 1024) = ⟨q.val, h⟩ := Fin.ext (by show q.val % 1024 = q.val; omega)
    rw [e, e']
  · rw [dif_neg h]
    have e : (⟨q.val / 1024, by omega⟩ : Fin 2) = 1 := Fin.ext (by show q.val / 1024 = 1; omega)
    have e' : (⟨q.val % 1024, Nat.mod_lt _ (by decide)⟩ : Fin 1024) = ⟨q.val - 1024, by omega⟩ :=
      Fin.ext (by show q.val % 1024 = q.val - 1024; omega)
    rw [e, e']

/-- A sum over two planes, one after the other. -/
theorem twoKv (F : Fin 2 → Fin 1024 → EReal) : ∑ p : Fin 2, ∑ l : Fin 1024, F p l = ∑ l : Fin 1024, F 0 l + ∑ l : Fin 1024, F 1 l :=
  Fin.sum_univ_two _

/-- The scale of the queries. -/
def sc : EReal := Ideal.ofBits FTy.f32 1040187392#32

/-- A matrix times the scale. -/
def scaled (A : (M a b).Idx → EReal) : (M a b).Idx → EReal := fun i => A i * sc

theorem sc_eq : sc = ((1 / 8 : ℝ) : EReal) := by
  unfold sc
  simp [Ideal.ofBits, Ideal.ieee, -EReal.coe_mul]
  norm_num

/-- The scale may be taken out of a sum. -/
theorem sum_sc (f : Fin n → EReal) : ∑ l, f l * sc = (∑ l, f l) * sc := by
  classical
  have h0 : (0 : EReal) ≤ sc := by rw [sc_eq]; exact_mod_cast (by norm_num : (0 : ℝ) ≤ 1 / 8)
  have h1 : sc ≠ ⊤ := by rw [sc_eq]; exact EReal.coe_ne_top _
  induction (Finset.univ : Finset (Fin n)) using Finset.induction_on with
  | empty => simp
  | insert x s hx ih => rw [Finset.sum_insert hx, Finset.sum_insert hx, ih, EReal.right_distrib_of_nonneg_of_ne_top h0 h1]

/-- The same where the scale stands on the left factor … -/
theorem sum_left (f g : Fin n → EReal) : ∑ l, f l * sc * g l = (∑ l, f l * g l) * sc := by
  rw [← sum_sc]
  exact Finset.sum_congr rfl fun l _ => mul_right_comm _ _ _

/-- … and with the factors exchanged. -/
theorem sum_right (f g : Fin n → EReal) : ∑ l, g l * sc * f l = (∑ l, f l * g l) * sc := by
  rw [← sum_sc]
  exact Finset.sum_congr rfl fun l _ => by rw [mul_comm (f l) (g l), mul_right_comm]

end Mat

end
-- ==== Proof.Product13.lean ====
/-
  The attention's queries: what its run leaves in the result.
-/
module

public import proofs.«01_k».proof.Proof.MatKv
public import proofs.«01_k».proof.Proof.Gen.Kernel13Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel13Ideal.Product

open Cert.Kernel13Ideal Cert.Kernel13Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 l (y 1))

/-- A point's block is the scaled product of its two blocks. -/
theorem block (x0 : Vec Ideal S1024x1024 .bf16) (x1 : Vec Ideal S1024x1024 .bf16) (y : S1024x1024.Idx) : out0_2 x0 x1 y = part x0 x1 y * Mat.sc := by
  frame_out
  pointwise [k0_pay1, part, Mat.sc]

/-- The result is the product of the two arguments, scaled. -/
theorem arr (c : Dev nD) : (dats m 0 c).arrAt 2 cfg0.N =
    Mat.scaled (Mat.rowCol (m ((c : Thread nD τ).loc main_arg0)) (m ((c : Thread nD τ).loc main_arg1))) := by
  refine (dats m 0 c).arrAt_eq_of_covers 2 _ (by decide +kernel) fun t _ y => ?_
  have hN : t.val < 8 := t.isLt
  blk_simp
  rw [after0_2]
  refine (block _ _ y).trans ?_
  unfold part Mat.scaled Mat.rowCol
  refine congrArg (· * Mat.sc) ?_
  refine Finset.sum_congr rfl fun l _ => congrArg₂ _ ?_ ?_
  · blk_ext [iblk, V, idx]
  · blk_ext [iblk, V, idx]

/-- The kernel's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.scaled (Mat.rowCol (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel13Ideal.Product

end
-- ==== Proof.ProductRef13.lean ====
/-
  The attention's queries: the reference's value of it.
-/
module

public import proofs.«01_k».proof.Proof.MatKv
public import proofs.«01_k».proof.Proof.Gen.Reference13Ideal.Run
public import Idealize.ShloMosaic.Lib.Tactic.CleanTypes

@[expose] public section

set_option maxRecDepth 16384

noncomputable section

open Idealize.ShloMosaic Idealize.ShloMosaic.TcCoe Idealize.SL.Sem

namespace Cert.Reference13Ideal.Product

open Cert.Reference13Ideal

variable (m : (ℓ : Loc nD τ sig) → Buf (Elt Ideal) ℓ)

/-- The reference's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v4) = Mat.scaled (Mat.rowCol (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.scaled, Mat.sc, Mat.rowCol]

end Cert.Reference13Ideal.Product

end
-- ==== Proof.Product14.lean ====
/-
  The gradient of the attention's queries, with respect to the projection's input: what its run leaves in the result.
-/
module

public import proofs.«01_k».proof.Proof.MatKv
public import proofs.«01_k».proof.Proof.Gen.Kernel14Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel14Ideal.Product

open Cert.Kernel14Ideal Cert.Kernel14Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 (y 1) l)

/-- A point's block is the scaled product of its two blocks. -/
theorem block (x0 : Vec Ideal S1024x1024 .bf16) (x1 : Vec Ideal S1024x1024 .bf16) (y : S1024x1024.Idx) : out0_2 x0 x1 y = part x0 x1 y * Mat.sc := by
  frame_out
  pointwise [k0_pay1, part, Mat.sc]

/-- The result is the product of the two arguments, scaled. -/
theorem arr (c : Dev nD) : (dats m 0 c).arrAt 2 cfg0.N =
    Mat.scaled (Mat.rowRow (m ((c : Thread nD τ).loc main_arg0)) (m ((c : Thread nD τ).loc main_arg1))) := by
  refine (dats m 0 c).arrAt_eq_of_covers 2 _ (by decide +kernel) fun t _ y => ?_
  have hN : t.val < 8 := t.isLt
  blk_simp
  rw [after0_2]
  refine (block _ _ y).trans ?_
  unfold part Mat.scaled Mat.rowRow
  refine congrArg (· * Mat.sc) ?_
  refine Finset.sum_congr rfl fun l _ => congrArg₂ _ ?_ ?_
  · blk_ext [iblk, V, idx]
  · blk_ext [iblk, V, idx]

/-- The kernel's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.scaled (Mat.rowRow (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel14Ideal.Product

end
-- ==== Proof.ProductRef14.lean ====
/-
  The gradient of the attention's queries, with respect to the projection's input: the reference's value of it.
-/
module

public import proofs.«01_k».proof.Proof.MatKv
public import proofs.«01_k».proof.Proof.Gen.Reference14Ideal.Run
public import Idealize.ShloMosaic.Lib.Tactic.CleanTypes

@[expose] public section

set_option maxRecDepth 16384

noncomputable section

open Idealize.ShloMosaic Idealize.ShloMosaic.TcCoe Idealize.SL.Sem

namespace Cert.Reference14Ideal.Product

open Cert.Reference14Ideal

variable (m : (ℓ : Loc nD τ sig) → Buf (Elt Ideal) ℓ)

/-- The reference's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v9) = Mat.scaled (Mat.rowRow (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.scaled, Mat.sc, Mat.rowRow]
  exact Mat.sum_left _ _

end Cert.Reference14Ideal.Product

end
-- ==== Proof.Product15.lean ====
/-
  The gradient of the attention's queries, with respect to the projection's weight: what its run leaves in the result.
-/
module

public import proofs.«01_k».proof.Proof.MatKv
public import proofs.«01_k».proof.Proof.Gen.Kernel15Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel15Ideal.Product

open Cert.Kernel15Ideal Cert.Kernel15Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val % 4, 0] ∧ win0_2.index t = ![0, 0] := by
  decide +kernel

/-- The product of a pair of blocks, at one place. -/
def part (x0 : Vec Ideal S2048x1024 .bf16) (x1 : Vec Ideal S2048x1024 .bf16) (y : S1024x1024.Idx) : EReal :=
  ∑ l : Fin 2048, x0 (ix2 l (y 0)) * x1 (ix2 l (y 1))

section
variable (c : Dev nD) (i : grid0.Coords) (arg3 : Memref sig .tc .vmem S2048x1024 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S2048x1024 .bf16) (x1 : Vec Ideal S2048x1024 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1024 .f32) (y : S1024x1024.Idx) :
    sout0_C_0 c i arg3 harg3 arg4 harg4 arg5 harg5 arg6 harg6 hc0 hc1 x0 x1 a y = a y + part x0 x1 y := by
  frame_out
  pointwise [k0_pay2, part]

/-- … and writes it out, scaled. -/
theorem out_C (hc0 : ¬cond0_0 i) (hc1 : cond0_1 i) (a : Vec Ideal S1024x1024 .f32) (y : S1024x1024.Idx) :
    out0_C_2 c i arg3 harg3 arg4 harg4 arg5 harg5 arg6 harg6 hc0 hc1 x0 x1 a y = (a y + part x0 x1 y) * Mat.sc := by
  frame_out
  pointwise [k0_pay3, k0_pay2, part, Mat.sc]
end

/-- The point that writes a block back leaves in it the scaled sum of the products of its 4 pairs of blocks. -/
theorem flushed (c : Dev nD) (t : Fin cfg0.N) (ht : t.val % 4 = 3) (y : S1024x1024.Idx) :
    (outsAt0 m c t.val t.isLt).1 y = (0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y) * Mat.sc := by
  have e : (outsAt0 m c t.val t.isLt).1 y = (outsAt0 m c t.val t.isLt).2 y * Mat.sc := by
    rw [outsAt0_C m c t (by omega) ht]
    dsimp only
    exact (out_C c (grid0.coords t) _ _ _ _ _ _ _ _ _ _ _ _ _ y).trans (congrArg (· * Mat.sc) (scr_C c (grid0.coords t) _ _ _ _ _ _ _ _ _ _ _ _ _ y)).symm
  refine e.trans (congrArg (· * Mat.sc) ?_)
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments, scaled. -/
theorem arr (c : Dev nD) : (dats m 0 c).arrAt 2 cfg0.N =
    Mat.scaled (Mat.colCol (m ((c : Thread nD τ).loc main_arg0)) (m ((c : Thread nD τ).loc main_arg1))) := by
  refine (dats m 0 c).arrAt_eq_of_covers 2 _ (by decide +kernel) fun t hf y => ?_
  have hN : t.val < 4 := t.isLt
  blk_simp
  rw [after0_2]
  refine (flushed m c t ((flush0_2 t).mp hf) y).trans ?_
  rw [zero_add]
  unfold Mat.scaled Mat.colCol part
  refine congrArg (· * Mat.sc) ?_
  refine Fin.sum_mul_add_congr fun s l hl => congrArg₂ _ ?_ ?_
  · blk_ext [iblk, V, idx]
  · blk_ext [iblk, V, idx]

/-- The kernel's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.scaled (Mat.colCol (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel15Ideal.Product

end
-- ==== Proof.ProductRef15.lean ====
/-
  The gradient of the attention's queries, with respect to the projection's weight: the reference's value of it.
-/
module

public import proofs.«01_k».proof.Proof.MatKv
public import proofs.«01_k».proof.Proof.Gen.Reference15Ideal.Run
public import Idealize.ShloMosaic.Lib.Tactic.CleanTypes

@[expose] public section

set_option maxRecDepth 16384

noncomputable section

open Idealize.ShloMosaic Idealize.ShloMosaic.TcCoe Idealize.SL.Sem

namespace Cert.Reference15Ideal.Product

open Cert.Reference15Ideal

variable (m : (ℓ : Loc nD τ sig) → Buf (Elt Ideal) ℓ)

/-- The reference's run: the scaled product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v10) = Mat.scaled (Mat.colCol (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 1024), i = ix2 p q := ⟨i 0, i 1, eq_ix2 i⟩
  pointwise [Mat.scaled, Mat.sc, Mat.colCol]
  exact Mat.sum_right _ _

end Cert.Reference15Ideal.Product

end
-- ==== Proof.Product16.lean ====
/-
  The gradient of the attention's output projection, with respect to its input: what its run leaves in the result.
-/
module

public import proofs.«01_k».proof.Proof.MatKv
public import proofs.«01_k».proof.Proof.Gen.Kernel16Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel16Ideal.Product

open Cert.Kernel16Ideal Cert.Kernel16Ideal.Gen

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 (y 1) l)

/-- A point's block is the product of its two blocks. -/
theorem block (x0 : Vec Ideal S1024x1024 .bf16) (x1 : Vec Ideal S1024x1024 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowRow (m ((c : Thread nD τ).loc main_arg0)) (m ((c : Thread nD τ).loc main_arg1)) := by
  refine (dats m 0 c).arrAt_eq_of_covers 2 _ (by decide +kernel) fun t _ y => ?_
  have hN : t.val < 8 := t.isLt
  blk_simp
  rw [after0_2]
  refine (block _ _ y).trans ?_
  unfold part Mat.rowRow
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel16Ideal.Product

end
-- ==== Proof.ProductRef16.lean ====
/-
  The gradient of the attention's output projection, with respect to its input: the reference's value of it.
-/
module

public import proofs.«01_k».proof.Proof.MatKv
public import proofs.«01_k».proof.Proof.Gen.Reference16Ideal.Run
public import Idealize.ShloMosaic.Lib.Tactic.CleanTypes

@[expose] public section

set_option maxRecDepth 16384

noncomputable section

open Idealize.ShloMosaic Idealize.ShloMosaic.TcCoe Idealize.SL.Sem

namespace Cert.Reference16Ideal.Product

open Cert.Reference16Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v4) = Mat.rowRow (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.rowRow]

end Cert.Reference16Ideal.Product

end
-- ==== Proof.Product17.lean ====
/-
  The gradient of the attention's output projection, with respect to its weight: what its run leaves in the result.
-/
module

public import proofs.«01_k».proof.Proof.MatKv
public import proofs.«01_k».proof.Proof.Gen.Kernel17Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel17Ideal.Product

open Cert.Kernel17Ideal Cert.Kernel17Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val % 4, 0] ∧ win0_2.index t = ![0, 0] := by
  decide +kernel

/-- The product of a pair of blocks, at one place. -/
def part (x0 : Vec Ideal S2048x1024 .f32) (x1 : Vec Ideal S2048x1024 .bf16) (y : S1024x1024.Idx) : EReal :=
  ∑ l : Fin 2048, x0 (ix2 l (y 0)) * x1 (ix2 l (y 1))

section
variable (c : Dev nD) (i : grid0.Coords) (arg3 : Memref sig .tc .vmem S2048x1024 .f32) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S2048x1024 .f32) (x1 : Vec Ideal S2048x1024 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1024 .f32) (y : S1024x1024.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1024x1024 .f32) (y : S1024x1024.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1024x1024.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colCol (m ((c : Thread nD τ).loc main_arg0)) (m ((c : Thread nD τ).loc main_arg1)) := by
  refine (dats m 0 c).arrAt_eq_of_covers 2 _ (by decide +kernel) fun t hf y => ?_
  have hN : t.val < 4 := t.isLt
  blk_simp
  rw [after0_2]
  refine (flushed m c t ((flush0_2 t).mp hf) y).trans ?_
  rw [zero_add]
  unfold Mat.colCol part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel17Ideal.Product

end
-- ==== Proof.ProductRef17.lean ====
/-
  The gradient of the attention's output projection, with respect to its weight: the reference's value of it.
-/
module

public import proofs.«01_k».proof.Proof.MatKv
public import proofs.«01_k».proof.Proof.Gen.Reference17Ideal.Run
public import Idealize.ShloMosaic.Lib.Tactic.CleanTypes

@[expose] public section

set_option maxRecDepth 16384

noncomputable section

open Idealize.ShloMosaic Idealize.ShloMosaic.TcCoe Idealize.SL.Sem

namespace Cert.Reference17Ideal.Product

open Cert.Reference17Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v5) = Mat.colCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 1024), i = ix2 p q := ⟨i 0, i 1, eq_ix2 i⟩
  pointwise [Mat.colCol]
  exact Finset.sum_congr rfl fun _ _ => mul_comm _ _

end Cert.Reference17Ideal.Product

end
-- ==== Proof.Product18.lean ====
/-
  The attention's keys and values: what its run leaves in the result.
-/
module

public import proofs.«01_k».proof.Proof.MatKv
public import proofs.«01_k».proof.Proof.Gen.Kernel18Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel18Ideal.Product

open Cert.Kernel18Ideal Cert.Kernel18Ideal.Gen

variable (m : (ℓ : Loc nD τ sig) → Buf (Elt Ideal) ℓ)

/-- The block of each window at every grid point. -/
theorem idx : ∀ t : Fin cfg0.N,
    win0_0.index t = ![t.val / 2, 0] ∧ win0_1.index t = ![0, t.val % 2] ∧ win0_2.index t = ![t.val / 2, t.val % 2] := by
  decide +kernel

/-- The product of a pair of blocks, at one place. -/
def part (x0 : Vec Ideal S1024x1024 .bf16) (x1 : Vec Ideal S1024x1024 .bf16) (y : S1024x1024.Idx) : EReal :=
  ∑ l : Fin 1024, x0 (ix2 (y 0) l) * x1 (ix2 l (y 1))

/-- A point's block is the product of its two blocks. -/
theorem block (x0 : Vec Ideal S1024x1024 .bf16) (x1 : Vec Ideal S1024x1024 .bf16) (y : S1024x1024.Idx) : out0_2 x0 x1 y = part x0 x1 y := by
  frame_out
  pointwise [k0_pay1, part]

/-- The result is the product of the two arguments. -/
theorem arr (c : Dev nD) : (dats m 0 c).arrAt 2 cfg0.N =
    Mat.rowCol (m ((c : Thread nD τ).loc main_arg0)) (m ((c : Thread nD τ).loc main_arg1)) := by
  refine (dats m 0 c).arrAt_eq_of_covers 2 _ (by decide +kernel) fun t _ y => ?_
  have hN : t.val < 16 := t.isLt
  blk_simp
  rw [after0_2]
  refine (block _ _ y).trans ?_
  unfold part Mat.rowCol
  refine Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel18Ideal.Product

end
-- ==== Proof.ProductRef18.lean ====
/-
  The attention's keys and values: the reference's value of it.
-/
module

public import proofs.«01_k».proof.Proof.MatKv
public import proofs.«01_k».proof.Proof.Gen.Reference18Ideal.Run
public import Idealize.ShloMosaic.Lib.Tactic.CleanTypes

@[expose] public section

set_option maxRecDepth 16384

noncomputable section

open Idealize.ShloMosaic Idealize.ShloMosaic.TcCoe Idealize.SL.Sem

namespace Cert.Reference18Ideal.Product

open Cert.Reference18Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v2) = Mat.rowCol (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 2048), i = ix2 p q := ⟨i 0, i 1, eq_ix2 i⟩
  pointwise [Mat.rowCol]

end Cert.Reference18Ideal.Product

end
-- ==== Proof.Product19.lean ====
/-
  The gradient of the attention's keys and values, with respect to the projection's input: what its run leaves in the result.
-/
module

public import proofs.«01_k».proof.Proof.MatKv
public import proofs.«01_k».proof.Proof.Gen.Kernel19Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel19Ideal.Product

open Cert.Kernel19Ideal Cert.Kernel19Ideal.Gen

variable (m : (ℓ : Loc nD τ sig) → Buf (Elt Ideal) ℓ)

/-- The block of each window at every grid point. -/
theorem idx : ∀ t : Fin cfg0.N,
    win0_0.index t = ![t.val % 2, t.val / 2, 0] ∧ win0_1.index t = ![0, t.val % 2] ∧ win0_2.index t = ![t.val / 2, 0] := by
  decide +kernel

/-- The product of a pair of blocks, at one place. -/
def part (x0 : Vec Ideal S1x1024x1024 .f32) (x1 : Vec Ideal S1024x1024 .bf16) (y : S1024x1024.Idx) : EReal :=
  ∑ l : Fin 1024, x0 (ix3 0 (y 0) l) * x1 (ix2 (y 1) l)

section
variable (c : Dev nD) (i : grid0.Coords) (arg3 : Memref sig .tc .vmem S1x1024x1024 .f32) (harg3 : arg3.IsWhole)
    (arg4 : Memref sig .tc .vmem S1024x1024 .bf16) (harg4 : arg4.IsWhole) (arg5 : Memref sig .tc .vmem S1024x1024 .bf16) (harg5 : arg5.IsWhole)
    (arg6 : Memref sig .tc .vmem S1024x1024 .f32) (harg6 : arg6.IsWhole) (x0 : Vec Ideal S1x1024x1024 .f32) (x1 : Vec Ideal S1024x1024 .bf16)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- The last point adds to the sum … -/
theorem scr_B (hc0 : ¬cond0_0 i) (hc1 : cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- … and writes it out. -/
theorem out_B (hc0 : ¬cond0_0 i) (hc1 : cond0_1 i) (a : Vec Ideal S1024x1024 .f32) (y : S1024x1024.Idx) :
    out0_B_2 c i arg3 harg3 arg4 harg4 arg5 harg5 arg6 harg6 hc0 hc1 x0 x1 a y = a y + part x0 x1 y := by
  frame_out
  pointwise [k0_pay3, k0_pay2, part]
end

/-- The point that writes a block back leaves in it the sum of the products of its 2 pairs of blocks. -/
theorem flushed (c : Dev nD) (t : Fin cfg0.N) (ht : t.val % 2 = 1) (y : S1024x1024.Idx) :
    (outsAt0 m c t.val t.isLt).1 y = 0 + ∑ s : Fin 2,
      part (iblk m c 0 ⟨2 * (t.val / 2) + s.val, Pipeline.run_point_lt_of_flush t ht s⟩)
        (iblk m c 1 ⟨2 * (t.val / 2) + s.val, Pipeline.run_point_lt_of_flush t ht s⟩) y := by
  have e : (outsAt0 m c t.val t.isLt).1 y = (outsAt0 m c t.val t.isLt).2 y := by
    rw [outsAt0_B m c t (by omega) ht]
    dsimp only
    exact (out_B c (grid0.coords t) _ _ _ _ _ _ _ _ _ _ _ _ _ y).trans (scr_B c (grid0.coords t) _ _ _ _ _ _ _ _ _ _ _ _ _ y).symm
  refine e.trans ?_
  refine Pipeline.eq_sum_fin_of_reset_step_apply_of_flush (fun n h => (outsAt0 m c n h).2) 2 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    rw [outsAt0_B m c t h (by omega)]
    dsimp only
    exact scr_B c (grid0.coords t) _ _ _ _ _ _ _ _ _ _ _ _ _ k

/-- The result is the product of the two arguments. -/
theorem arr (c : Dev nD) : (dats m 0 c).arrAt 2 cfg0.N =
    Mat.twoRowKv (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  refine (flushed m c t ((flush0_2 t).mp hf) y).trans ?_
  rw [zero_add]
  unfold Mat.twoRowKv part
  refine Finset.sum_congr rfl fun p _ => Finset.sum_congr rfl fun l _ => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.twoRowKv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel19Ideal.Product

end
-- ==== Proof.ProductRef19.lean ====
/-
  The gradient of the attention's keys and values, with respect to the projection's input: the reference's value of it.
-/
module

public import proofs.«01_k».proof.Proof.MatKv
public import proofs.«01_k».proof.Proof.Gen.Reference19Ideal.Run
public import Idealize.ShloMosaic.Lib.Tactic.CleanTypes

@[expose] public section

set_option maxRecDepth 16384

noncomputable section

open Idealize.ShloMosaic Idealize.ShloMosaic.TcCoe Idealize.SL.Sem

namespace Cert.Reference19Ideal.Product

open Cert.Reference19Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v9) = Mat.twoRowKv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 8192) (q : Fin 1024), i = ix2 p q := ⟨i 0, i 1, eq_ix2 i⟩
  pointwise [Mat.twoRowKv]
  rw [Mat.twoKv]
  refine congrArg₂ _ (Finset.sum_congr rfl fun l _ => ?_) (Finset.sum_congr rfl fun l _ => ?_)
  · exact congrArg _ (congrArg _ (congrArg _ (Fin.ext (by show l.val = 0 * 1024 + l.val; omega))))
  · exact congrArg _ (congrArg _ (congrArg _ (Fin.ext (by show 1024 + l.val = 1 * 1024 + l.val; omega))))

end Cert.Reference19Ideal.Product

end
-- ==== Proof.Product20.lean ====
/-
  The gradient of the attention's keys and values, with respect to the projection's weight: what its run leaves in the result.
-/
module

public import proofs.«01_k».proof.Proof.MatKv
public import proofs.«01_k».proof.Proof.Gen.Kernel20Ideal.Value
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem

namespace Cert.Kernel20Ideal.Product

open Cert.Kernel20Ideal Cert.Kernel20Ideal.Gen

variable (m : (ℓ : Loc nD τ sig) → Buf (Elt Ideal) ℓ)

/-- The block of each window at every grid point. -/
theorem idx : ∀ t : Fin cfg0.N,
    win0_0.index t = ![t.val % 4, 0] ∧ win0_1.index t = ![t.val / 4, t.val % 4, 0] ∧ win0_2.index t = ![0, t.val / 4] := by
  decide +kernel

/-- The product of a pair of blocks, at one place. -/
def part (x0 : Vec Ideal S2048x1024 .bf16) (x1 : Vec Ideal S1x2048x1024 .f32) (y : S1024x1024.Idx) : EReal :=
  ∑ l : Fin 2048, x0 (ix2 l (y 0)) * x1 (ix3 0 l (y 1))

section
variable (c : Dev nD) (i : grid0.Coords) (arg3 : Memref sig .tc .vmem S2048x1024 .bf16) (harg3 : arg3.IsWhole)
    (arg4 : Memref sig .tc .vmem S1x2048x1024 .f32) (harg4 : arg4.IsWhole) (arg5 : Memref sig .tc .vmem S1024x1024 .bf16) (harg5 : arg5.IsWhole)
    (arg6 : Memref sig .tc .vmem S1024x1024 .f32) (harg6 : arg6.IsWhole) (x0 : Vec Ideal S2048x1024 .bf16) (x1 : Vec Ideal S1x2048x1024 .f32)

/-- The first point of a sum starts it at zero. -/
theorem scr_A (hc0 : cond0_0 i) (hc1 : ¬cond0_1 i) (y : S1024x1024.Idx) :
    sout0_A_0 c i arg3 harg3 arg4 harg4 arg5 harg5 arg6 harg6 hc0 hc1 x0 x1 y = 0 + part x0 x1 y := by
  frame_out
  pointwise [k0_pay2, k0_pay1, part]

/-- A middle point adds to the sum. -/
theorem scr_B (hc0 : ¬cond0_0 i) (hc1 : ¬cond0_1 i) (a : Vec Ideal S1024x1024 .f32) (y : S1024x1024.Idx) :
    sout0_B_0 c i arg3 harg3 arg4 harg4 arg5 harg5 arg6 harg6 hc0 hc1 x0 x1 a y = a y + part x0 x1 y := by
  frame_out
  pointwise [k0_pay2, part]

/-- The last point adds to the sum … -/
theorem scr_C (hc0 : ¬cond0_0 i) (hc1 : cond0_1 i) (a : Vec Ideal S1024x1024 .f32) (y : S1024x1024.Idx) :
    sout0_C_0 c i arg3 harg3 arg4 harg4 arg5 harg5 arg6 harg6 hc0 hc1 x0 x1 a y = a y + part x0 x1 y := by
  frame_out
  pointwise [k0_pay2, part]

/-- … and writes it out. -/
theorem out_C (hc0 : ¬cond0_0 i) (hc1 : cond0_1 i) (a : Vec Ideal S1024x1024 .f32) (y : S1024x1024.Idx) :
    out0_C_2 c i arg3 harg3 arg4 harg4 arg5 harg5 arg6 harg6 hc0 hc1 x0 x1 a y = a y + part x0 x1 y := by
  frame_out
  pointwise [k0_pay3, k0_pay2, part]
end

/-- The point that writes a block back leaves in it the sum of the products of its 4 pairs of blocks. -/
theorem flushed (c : Dev nD) (t : Fin cfg0.N) (ht : t.val % 4 = 3) (y : S1024x1024.Idx) :
    (outsAt0 m c t.val t.isLt).1 y = 0 + ∑ s : Fin 4,
      part (iblk m c 0 ⟨4 * (t.val / 4) + s.val, Pipeline.run_point_lt_of_flush t ht s⟩)
        (iblk m c 1 ⟨4 * (t.val / 4) + s.val, Pipeline.run_point_lt_of_flush t ht s⟩) y := by
  have e : (outsAt0 m c t.val t.isLt).1 y = (outsAt0 m c t.val t.isLt).2 y := by
    rw [outsAt0_C m c t (by omega) ht]
    dsimp only
    exact (out_C c (grid0.coords t) _ _ _ _ _ _ _ _ _ _ _ _ _ y).trans (scr_C c (grid0.coords t) _ _ _ _ _ _ _ _ _ _ _ _ _ y).symm
  refine e.trans ?_
  refine Pipeline.eq_sum_fin_of_reset_step_apply_of_flush (fun n h => (outsAt0 m c n h).2) 4 (fun _ => (0 : EReal))
    (fun t y => part (iblk m c 0 t) (iblk m c 1 t) y) (fun t h k => ?_) (fun t h k => ?_) t ht y
  · show (outsAt0 m c t.val t.isLt).2 k = 0 + _
    rw [outsAt0_A m c t h (by omega)]
    dsimp only
    exact scr_A c (grid0.coords t) _ _ _ _ _ _ _ _ _ _ _ _ k
  · show (outsAt0 m c t.val t.isLt).2 k = (outsAt0 m c (t.val - 1) _).2 k + _
    by_cases hl : t.val % 4 = 3
    · rw [outsAt0_C m c t h hl]
      dsimp only
      exact scr_C c (grid0.coords t) _ _ _ _ _ _ _ _ _ _ _ _ _ k
    · rw [outsAt0_B m c t h hl]
      dsimp only
      exact scr_B c (grid0.coords t) _ _ _ _ _ _ _ _ _ _ _ _ _ k

/-- The result is the product of the two arguments. -/
theorem arr (c : Dev nD) : (dats m 0 c).arrAt 2 cfg0.N =
    Mat.colTwoKv (m ((c : Thread nD τ).loc main_arg0)) (m ((c : Thread nD τ).loc main_arg1)) := by
  refine (dats m 0 c).arrAt_eq_of_covers 2 _ (by decide +kernel) fun t hf y => ?_
  have hN : t.val < 8 := t.isLt
  blk_simp
  rw [after0_2]
  refine (flushed m c t ((flush0_2 t).mp hf) y).trans ?_
  rw [zero_add]
  unfold Mat.colTwoKv part
  refine Fin.sum_mul_add_congr fun s l hl => congrArg₂ _ ?_ ?_
  · blk_ext [iblk, V, idx]
  · blk_ext [iblk, V, idx]

/-- The kernel's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = Mat.colTwoKv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Value.run_blocks m ρ)

end Cert.Kernel20Ideal.Product

end
-- ==== Proof.ProductRef20.lean ====
/-
  The gradient of the attention's keys and values, with respect to the projection's weight: the reference's value of it.
-/
module

public import proofs.«01_k».proof.Proof.MatKv
public import proofs.«01_k».proof.Proof.Gen.Reference20Ideal.Run
public import Idealize.ShloMosaic.Lib.Tactic.CleanTypes

@[expose] public section

set_option maxRecDepth 16384

noncomputable section

open Idealize.ShloMosaic Idealize.ShloMosaic.TcCoe Idealize.SL.Sem

namespace Cert.Reference20Ideal.Product

open Cert.Reference20Ideal

variable (m : (ℓ : Loc nD τ sig) → Buf (Elt Ideal) ℓ)

/-- The reference's run: the product, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v10) = Mat.colTwoKv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clean_types
  funext i
  obtain ⟨p, q, rfl⟩ : ∃ (p : Fin 1024) (q : Fin 2048), i = ix2 p q := ⟨i 0, i 1, eq_ix2 i⟩
  pointwise [Mat.colTwoKv]
  exact Finset.sum_congr rfl fun l _ => (mul_comm _ _).trans (congrArg _ (Mat.sideKv (m (c.tc.loc main_arg1)) l q))

end Cert.Reference20Ideal.Product

end
-- ==== Proof.NormSpec.lean ====
/-
  A row's root-mean-square norm and its gradient, over the extended reals.
-/
module

public import proofs.«01_k».proof.Proof.MatSpec
public import Idealize.ShloMosaic.PureOps.Ideal

@[expose] public section

noncomputable section

open Idealize.ShloMosaic

namespace Norm

/-- The number of columns, 1024, and the number added to the mean of the squares, as the programs write them. -/
def width : EReal := Ideal.ofBits FTy.f32 0x44800000#32
def eps : EReal := Ideal.ofBits FTy.f32 0x358637BD#32

/-- The mean of a row's squares, with `eps` added. -/
def ms (v : Fin 1024 → EReal) : EReal := Ideal.div (∑ k, v k * v k) width + eps

/-- What a row is multiplied by. -/
def rstd (v : Fin 1024 → EReal) : EReal := Ideal.rsqrt (ms v)

/-- The norm of a row, before its gain. -/
def hat (v : Fin 1024 → EReal) (j : Fin 1024) : EReal := v j * rstd v

/-- The gradient of the norm by the row: `w` is the incoming gradient times the gain. -/
def back (w v : Fin 1024 → EReal) (j : Fin 1024) : EReal :=
  rstd v * (w j - hat v j * Ideal.div (∑ k, w k * hat v k) width)

theorem width_eq : width = ((1024 : ℝ) : EReal) := by
  unfold width
  simp [Ideal.ofBits, Ideal.ieee, -EReal.coe_mul]
  norm_num

theorem eps_pos : ∃ e : ℝ, 0 < e ∧ eps = (e : EReal) := by
  refine ⟨_, ?_, by unfold eps; simp [Ideal.ofBits, Ideal.ieee, -EReal.coe_mul]; rfl⟩
  norm_num

theorem half_eq : Ideal.ofBits FTy.f32 3204448256#32 = ((-(1 / 2) : ℝ) : EReal) := by
  simp [Ideal.ofBits, Ideal.ieee, -EReal.coe_mul]
  norm_num

/-- A nonnegative real factor may be taken out of a sum. -/
theorem sum_mul_real {n : ℕ} (f : Fin n → EReal) {x : ℝ} (hx : 0 ≤ x) : ∑ l, f l * (x : EReal) = (∑ l, f l) * (x : EReal) := by
  classical
  have h0 : (0 : EReal) ≤ (x : EReal) := by exact_mod_cast hx
  induction (Finset.univ : Finset (Fin n)) using Finset.induction_on with
  | empty => simp
  | insert a s ha ih => rw [Finset.sum_insert ha, Finset.sum_insert ha, ih, EReal.right_distrib_of_nonneg_of_ne_top h0 (EReal.coe_ne_top _)]

/-- A square is not negative. -/
theorem sq_nonneg (x : EReal) : 0 ≤ x * x := by
  induction x using EReal.rec with
  | bot => simp
  | top => simp
  | coe a => rw [← EReal.coe_mul]; exact_mod_cast mul_self_nonneg a

/-- Either the squares sum to infinity, or every entry is real and the mean of the squares with `eps` is positive. -/
theorem ms_cases (v : Fin 1024 → EReal) :
    ms v = ⊤ ∨ ∃ (a : Fin 1024 → ℝ) (x : ℝ), 0 < x ∧ (∀ k, v k = (a k : EReal)) ∧ ms v = (x : EReal) := by
  obtain ⟨e, he, hE⟩ := eps_pos
  have hn : (0 : EReal) ≤ ∑ k, v k * v k := Finset.sum_nonneg fun k _ => sq_nonneg (v k)
  have hle : ∀ k, v k * v k ≤ ∑ k, v k * v k := fun k =>
    Finset.single_le_sum (f := fun k => v k * v k) (fun k _ => sq_nonneg (v k)) (Finset.mem_univ k)
  unfold ms
  rw [width_eq, Ideal.div_coe (by norm_num), hE]
  generalize (∑ k, v k * v k) = S at hn hle
  induction S using EReal.rec with
  | bot => simp at hn
  | top => left; rw [EReal.top_mul_coe_of_pos (by norm_num)]; exact EReal.top_add_coe _
  | coe s =>
    right
    have hs : 0 ≤ s := by exact_mod_cast hn
    have hv : ∀ k, ∃ a : ℝ, v k = (a : EReal) := fun k => by
      have h := hle k
      generalize v k = y at h
      induction y using EReal.rec with
      | bot => simp at h
      | top => simp at h
      | coe a => exact ⟨a, rfl⟩
    choose a ha using hv
    refine ⟨a, s * (1 / 1024) + e, by positivity, ha, ?_⟩
    rw [EReal.coe_add, EReal.coe_mul]

/-- The derivative taken step by step (the product's two factors, the root, the mean, the square) is `back`. -/
theorem back_eq (w v : Fin 1024 → EReal) (j : Fin 1024) :
    w j * rstd v + (v j * (Ideal.div ((∑ k, v k * w k) * (Ideal.ofBits FTy.f32 3204448256#32 * Ideal.div (rstd v) (ms v))) width)
      + Ideal.div ((∑ k, v k * w k) * (Ideal.ofBits FTy.f32 3204448256#32 * Ideal.div (rstd v) (ms v))) width * v j) = back w v j := by
  unfold back hat rstd
  obtain h | ⟨a, x, hx, ha, h⟩ := ms_cases v
  · rw [h]
    simp [Ideal.div, width_eq]
  · have hr : Ideal.rsqrt (ms v) = (((Real.sqrt x)⁻¹ : ℝ) : EReal) := by
      rw [h, Ideal.rsqrt_coe, if_neg (not_lt.mpr hx.le), if_neg hx.ne']
    have hp : 0 < (Real.sqrt x)⁻¹ := inv_pos.mpr (Real.sqrt_pos.mpr hx)
    have hq : 1 / x = (Real.sqrt x)⁻¹ * (Real.sqrt x)⁻¹ := by
      rw [← mul_inv, Real.mul_self_sqrt hx.le, one_div]
    rw [hr, h, half_eq, width_eq, Ideal.div_coe hx.ne', Ideal.div_coe (by norm_num), Ideal.div_coe (by norm_num), hq, ha j]
    generalize (Real.sqrt x)⁻¹ = ρ at hp
    have hs : ∑ k, w k * (v k * (ρ : EReal)) = (∑ k, v k * w k) * (ρ : EReal) := by
      rw [← sum_mul_real _ hp.le]
      exact Finset.sum_congr rfl fun k _ => by rw [← mul_assoc, mul_comm (w k)]
    rw [hs]
    generalize (∑ k, v k * w k) = A
    generalize w j = y
    have h0 : (0 : EReal) ≤ (ρ : EReal) := by exact_mod_cast hp.le
    have e1 : ∀ t : EReal, (a j : EReal) * t + t * (a j : EReal) = t * ((2 * a j : ℝ) : EReal) := fun t => by
      rw [mul_comm (a j : EReal) t, EReal.coe_mul, ← mul_assoc, mul_right_comm]
      rw [show ((2 : ℝ) : EReal) = 1 + 1 by rw [← EReal.coe_one, ← EReal.coe_add]; norm_num, EReal.left_distrib_of_nonneg zero_le_one zero_le_one]
      simp
    rw [e1, sub_eq_add_neg, EReal.left_distrib_of_nonneg_of_ne_top h0 (EReal.coe_ne_top _), mul_comm (ρ : EReal) y]
    refine congrArg (y * (ρ : EReal) + ·) ?_
    have e2 : (a j : EReal) * (ρ : EReal) * (A * (ρ : EReal) * ((1 / 1024 : ℝ) : EReal)) = A * ((a j * ρ * ρ * (1 / 1024) : ℝ) : EReal) := by
      simp only [EReal.coe_mul]
      ac_rfl
    rw [e2, ← mul_neg, ← EReal.coe_neg, mul_left_comm (ρ : EReal)]
    simp only [← EReal.coe_mul, mul_assoc]
    refine congrArg (A * ·) (congrArg _ ?_)
    ring

variable (D : (Mat.M 8192 1024).Idx → EReal) (N : (Mat.M 8192 1024).Idx → EReal) (G2 : (Mat.M 1 1024).Idx → EReal)
  (X : (Mat.M 8192 1024).Idx → EReal) (M : (Mat.M 8192 1024).Idx → EReal) (G1 : (Mat.M 1 1024).Idx → EReal)

/-- The gradient by the residual: `D` comes past the norm, `N` through the norm of `X`. -/
def dx (r : Fin 8192) (j : Fin 1024) : EReal :=
  D (ix2 r j) + back (fun k => N (ix2 r k) * G2 (ix2 0 k)) (fun k => X (ix2 r k)) j

/-- The gradient by the gain of the norm of `X`, where `d` is the gradient by the normed rows. -/
def dg (d : Fin 8192 → Fin 1024 → EReal) (j : Fin 1024) : EReal :=
  ∑ r : Fin 8192, d r j * hat (fun k => X (ix2 r k)) j

/-- The gradient by the array whose norm was added to the residual. -/
def dm (r : Fin 8192) (j : Fin 1024) : EReal :=
  back (fun k => dx D N G2 X r k * G1 (ix2 0 k)) (fun k => M (ix2 r k)) j

/-- The four gradients as arrays. -/
def dxArr : (Mat.M 8192 1024).Idx → EReal := fun i => dx D N G2 X (i 0) (i 1)
def dg2Arr : (Mat.M 1 1024).Idx → EReal := fun i => dg X (fun r k => N (ix2 r k)) (i 1)
def dmArr : (Mat.M 8192 1024).Idx → EReal := fun i => dm D N G2 X M G1 (i 0) (i 1)
def dg1Arr : (Mat.M 1 1024).Idx → EReal := fun i => dg M (dx D N G2 X) (i 1)

end Norm

end
-- ==== Proof.NormOut.lean ====
/-
  What the norm-gradient kernel leaves in its four output blocks at one grid point.
-/
module

public import proofs.«01_k».proof.Proof.NormSpec
public import proofs.«01_k».proof.Proof.Gen.Kernel21Ideal.Value
public import Idealize.ShloMosaic.Lib.Pipeline.ReadBack
public import Idealize.ShloMosaic.Lib.Pointwise
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel21Ideal.NormOut

open Cert.Kernel21Ideal Cert.Kernel21Ideal.Gen

/-- A row of the arrays from its place in a block of 512. -/
def row (n : Fin 16) (r : Fin 512) : Fin 8192 := ⟨512 * n.val + r.val, by omega⟩

variable (D : (Mat.M 8192 1024).Idx → EReal) (N : (Mat.M 8192 1024).Idx → EReal) (G2 : (Mat.M 1 1024).Idx → EReal)
  (X : (Mat.M 8192 1024).Idx → EReal) (M : (Mat.M 8192 1024).Idx → EReal) (G1 : (Mat.M 1 1024).Idx → EReal)

/-- The six input blocks at grid row `n` hold the arrays' 512 rows there, and the two gains. -/
structure Reads (n : Fin 16) (x0 x1 : Vec Ideal S512x1024 .f32) (x2 : Vec Ideal S512x1024 .bf16) (x3 : Vec Ideal S1x1024 .f32)
    (x4 : Vec Ideal S512x1024 .bf16) (x5 : Vec Ideal S1x1024 .f32) : Prop where
  d : ∀ (r : Fin 512) (j : Fin 1024), x0 (ix2 r j) = D (ix2 (row n r) j)
  x : ∀ (r : Fin 512) (j : Fin 1024), x1 (ix2 r j) = X (ix2 (row n r) j)
  nn : ∀ (r : Fin 512) (j : Fin 1024), x2 (ix2 r j) = N (ix2 (row n r) j)
  g2 : ∀ (j : Fin 1024), x3 (ix2 0 j) = G2 (ix2 0 j)
  mm : ∀ (r : Fin 512) (j : Fin 1024), x4 (ix2 r j) = M (ix2 (row n r) j)
  g1 : ∀ (j : Fin 1024), x5 (ix2 0 j) = G1 (ix2 0 j)

variable {D N G2 X M G1}
variable {n : Fin 16} {x0 x1 : Vec Ideal S512x1024 .f32} {x2 : Vec Ideal S512x1024 .bf16} {x3 : Vec Ideal S1x1024 .f32}
  {x4 : Vec Ideal S512x1024 .bf16} {x5 : Vec Ideal S1x1024 .f32}

theorem hat_x (R : Reads D N G2 X M G1 n x0 x1 x2 x3 x4 x5) (r : Fin 512) (j : Fin 1024) :
    k0_pay3 x1 (ix2 r j) = Norm.hat (fun k => X (ix2 (row n r) k)) j := by
  pointwise [k0_pay3, k0_pay1]
  simp only [R.x]
  rfl

theorem rstd_x (R : Reads D N G2 X M G1 n x0 x1 x2 x3 x4 x5) (r : Fin 512) (z : Fin 1) :
    k0_pay1 x1 (ix2 r z) = Norm.rstd (fun k => X (ix2 (row n r) k)) := by
  pointwise [k0_pay1]
  simp only [R.x]
  rfl

theorem hat_m (R : Reads D N G2 X M G1 n x0 x1 x2 x3 x4 x5) (r : Fin 512) (j : Fin 1024) :
    k0_pay9 x4 (ix2 r j) = Norm.hat (fun k => M (ix2 (row n r) k)) j := by
  pointwise [k0_pay9, k0_pay8, k0_pay7]
  simp only [R.mm]
  rfl

theorem rstd_m (R : Reads D N G2 X M G1 n x0 x1 x2 x3 x4 x5) (r : Fin 512) (z : Fin 1) :
    k0_pay8 x4 (ix2 r z) = Norm.rstd (fun k => M (ix2 (row n r) k)) := by
  pointwise [k0_pay8, k0_pay7]
  simp only [R.mm]
  rfl

theorem dx_row (R : Reads D N G2 X M G1 n x0 x1 x2 x3 x4 x5) (r : Fin 512) (j : Fin 1024) :
    k0_pay4 x0 x1 x2 x3 (ix2 r j) = Norm.dx D N G2 X (row n r) j := by
  pointwise [k0_pay4, k0_pay2]
  simp only [hat_x R, rstd_x R, R.d, R.nn, R.g2]
  rfl

theorem dm_row (R : Reads D N G2 X M G1 n x0 x1 x2 x3 x4 x5) (r : Fin 512) (j : Fin 1024) :
    k0_pay10 (k0_pay4 x0 x1 x2 x3) x4 x5 (ix2 r j) = Norm.dm D N G2 X M G1 (row n r) j := by
  pointwise [k0_pay10]
  simp only [hat_m R, rstd_m R, R.g1, dx_row R]
  rfl

/-- What a block of rows adds to the two gains' gradients. -/
def g2Term (N X : (Mat.M 8192 1024).Idx → EReal) (n : Fin 16) (k : S1x1024.Idx) : EReal :=
  ∑ r : Fin 512, N (ix2 (row n r) (k 1)) * Norm.hat (fun l => X (ix2 (row n r) l)) (k 1)

def g1Term (D N : (Mat.M 8192 1024).Idx → EReal) (G2 : (Mat.M 1 1024).Idx → EReal) (X M : (Mat.M 8192 1024).Idx → EReal) (n : Fin 16) (k : S1x1024.Idx) : EReal :=
  ∑ r : Fin 512, Norm.dx D N G2 X (row n r) (k 1) * Norm.hat (fun l => M (ix2 (row n r) l)) (k 1)

theorem g2_row (R : Reads D N G2 X M G1 n x0 x1 x2 x3 x4 x5) (xo : Vec Ideal S1x1024 .f32) (q : S1x1024.Idx) :
    k0_pay6 x1 x2 xo q = xo q + g2Term N X n q := by
  obtain ⟨z, j, rfl⟩ : ∃ (z : Fin 1) (j : Fin 1024), q = ix2 z j := ⟨q 0, q 1, eq_ix2 q⟩
  obtain rfl : z = 0 := Subsingleton.elim _ _
  pointwise [k0_pay6, k0_pay2]
  simp only [hat_x R, R.nn]
  rfl

theorem g1_row (R : Reads D N G2 X M G1 n x0 x1 x2 x3 x4 x5) (xo : Vec Ideal S1x1024 .f32) (q : S1x1024.Idx) :
    k0_pay12 (k0_pay4 x0 x1 x2 x3) x4 xo q = xo q + g1Term D N G2 X M n q := by
  obtain ⟨z, j, rfl⟩ : ∃ (z : Fin 1) (j : Fin 1024), q = ix2 z j := ⟨q 0, q 1, eq_ix2 q⟩
  obtain rfl : z = 0 := Subsingleton.elim _ _
  pointwise [k0_pay12]
  simp only [hat_m R, dx_row R]
  rfl

variable (c : Dev nD) (i : grid0.Coords)
    (arg1 : Memref sig .tc .vmem S512x1024 .f32) (harg1 : arg1.IsWhole) (arg2 : Memref sig .tc .vmem S512x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1x1024 .f32) (harg8 : arg8.IsWhole) (arg9 : Memref sig .tc .vmem S512x1024 .bf16) (harg9 : arg9.IsWhole) (arg10 : Memref sig .tc .vmem S1x1024 .f32) (harg10 : arg10.IsWhole)

/-- Case A: the gradient by the residual. -/
theorem out6_A (R : Reads D N G2 X M G1 n x0 x1 x2 x3 x4 x5) (hc0 : cond0_0 i) (hc1 : cond0_1 i) (r : Fin 512) (j : Fin 1024) :
    out0_A_6 c i arg1 harg1 arg2 harg2 arg3 harg3 arg4 harg4 arg5 harg5 arg6 harg6 arg7 harg7 arg8 harg8 arg9 harg9 arg10 harg10 hc0 hc1 x0 x1 x2 x3 x4 x5 (ix2 r j) = Norm.dx D N G2 X (row n r) j := by
  frame_out
  exact dx_row R r j

/-- Case B: the gradient by the residual. -/
theorem out6_B (R : Reads D N G2 X M G1 n x0 x1 x2 x3 x4 x5) (hc0 : ¬cond0_0 i) (hc1 : ¬cond0_1 i) (xo7 xo9 : Vec Ideal S1x1024 .f32) (r : Fin 512) (j : Fin 1024) :
    out0_B_6 c i arg1 harg1 arg2 harg2 arg3 harg3 arg4 harg4 arg5 harg5 arg6 harg6 arg7 harg7 arg8 harg8 arg9 harg9 arg10 harg10 hc0 hc1 x0 x1 x2 x3 x4 x5 xo7 xo9 (ix2 r j) = Norm.dx D N G2 X (row n r) j := by
  frame_out
  exact dx_row R r j

/-- Case A: the gradient by the normed array. -/
theorem out8_A (R : Reads D N G2 X M G1 n x0 x1 x2 x3 x4 x5) (hc0 : cond0_0 i) (hc1 : cond0_1 i) (r : Fin 512) (j : Fin 1024) :
    out0_A_8 c i arg1 harg1 arg2 harg2 arg3 harg3 arg4 harg4 arg5 harg5 arg6 harg6 arg7 harg7 arg8 harg8 arg9 harg9 arg10 harg10 hc0 hc1 x0 x1 x2 x3 x4 x5 (ix2 r j) = Norm.dm D N G2 X M G1 (row n r) j := by
  frame_out
  exact dm_row R r j

/-- Case B: the gradient by the normed array. -/
theorem out8_B (R : Reads D N G2 X M G1 n x0 x1 x2 x3 x4 x5) (hc0 : ¬cond0_0 i) (hc1 : ¬cond0_1 i) (xo7 xo9 : Vec Ideal S1x1024 .f32) (r : Fin 512) (j : Fin 1024) :
    out0_B_8 c i arg1 harg1 arg2 harg2 arg3 harg3 arg4 harg4 arg5 harg5 arg6 harg6 arg7 harg7 arg8 harg8 arg9 harg9 arg10 harg10 hc0 hc1 x0 x1 x2 x3 x4 x5 xo7 xo9 (ix2 r j) = Norm.dm D N G2 X M G1 (row n r) j := by
  frame_out
  exact dm_row R r j

/-- Case B: the first gain's gradient, over what was there. -/
theorem out7_B (R : Reads D N G2 X M G1 n x0 x1 x2 x3 x4 x5) (hc0 : ¬cond0_0 i) (hc1 : ¬cond0_1 i) (xo7 xo9 : Vec Ideal S1x1024 .f32) (q : S1x1024.Idx) :
    out0_B_7 c i arg1 harg1 arg2 harg2 arg3 harg3 arg4 harg4 arg5 harg5 arg6 harg6 arg7 harg7 arg8 harg8 arg9 harg9 arg10 harg10 hc0 hc1 x0 x1 x2 x3 x4 x5 xo7 xo9 q = xo7 q + g2Term N X n q := by
  frame_out
  exact g2_row R xo7 q

/-- Case A: the first gain's gradient, over zero. -/
theorem out7_A (R : Reads D N G2 X M G1 n x0 x1 x2 x3 x4 x5) (hc0 : cond0_0 i) (hc1 : cond0_1 i) (q : S1x1024.Idx) :
    out0_A_7 c i arg1 harg1 arg2 harg2 arg3 harg3 arg4 harg4 arg5 harg5 arg6 harg6 arg7 harg7 arg8 harg8 arg9 harg9 arg10 harg10 hc0 hc1 x0 x1 x2 x3 x4 x5 q = 0 + g2Term N X n q := by
  frame_out
  refine (g2_row R (k0_pay5 (F := Ideal)) q).trans ?_
  congr 1
  pointwise [k0_pay5]

/-- Case B: the second gain's gradient, over what was there. -/
theorem out9_B (R : Reads D N G2 X M G1 n x0 x1 x2 x3 x4 x5) (hc0 : ¬cond0_0 i) (hc1 : ¬cond0_1 i) (xo7 xo9 : Vec Ideal S1x1024 .f32) (q : S1x1024.Idx) :
    out0_B_9 c i arg1 harg1 arg2 harg2 arg3 harg3 arg4 harg4 arg5 harg5 arg6 harg6 arg7 harg7 arg8 harg8 arg9 harg9 arg10 harg10 hc0 hc1 x0 x1 x2 x3 x4 x5 xo7 xo9 q = xo9 q + g1Term D N G2 X M n q := by
  frame_out
  exact g1_row R xo9 q

/-- Case A: the second gain's gradient, over zero. -/
theorem out9_A (R : Reads D N G2 X M G1 n x0 x1 x2 x3 x4 x5) (hc0 : cond0_0 i) (hc1 : cond0_1 i) (q : S1x1024.Idx) :
    out0_A_9 c i arg1 harg1 arg2 harg2 arg3 harg3 arg4 harg4 arg5 harg5 arg6 harg6 arg7 harg7 arg8 harg8 arg9 harg9 arg10 harg10 hc0 hc1 x0 x1 x2 x3 x4 x5 q = 0 + g1Term D N G2 X M n q := by
  frame_out
  refine (g1_row R (k0_pay11 (F := Ideal)) q).trans ?_
  congr 1
  pointwise [k0_pay11]

end Cert.Kernel21Ideal.NormOut

end
-- ==== Proof.NormValue.lean ====
/-
  The norm-gradient kernel's four result arrays after its run.
-/
module

public import proofs.«01_k».proof.Proof.NormOut

@[expose] public section

set_option maxRecDepth 16384

noncomputable section

open Idealize.ShloMosaic Idealize.ShloMosaic.TcCoe Idealize.SL.Sem

namespace Cert.Kernel21Ideal.NormValue

open Cert.Kernel21Ideal Cert.Kernel21Ideal.Gen Cert.Kernel21Ideal.NormOut

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![t.val, 0] ∧ win0_3.index t = ![0, 0] ∧
    win0_4.index t = ![t.val, 0] ∧ win0_5.index t = ![0, 0] ∧ win0_6.index t = ![t.val, 0] ∧ win0_7.index t = ![0, 0] ∧
    win0_8.index t = ![t.val, 0] ∧ win0_9.index t = ![0, 0] := by
  decide +kernel

/-- The last grid point. -/
def tLast : Fin cfg0.N := ⟨15, by decide⟩

/-- A grid point as a block number. -/
def blkNo (t : Fin cfg0.N) : Fin 16 := ⟨t.val, t.isLt⟩

/-- The six input blocks at a point hold the arguments' rows. -/
theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (blkNo t) (iblk m c 0 t) (iblk m c 1 t) (iblk m c 2 t) (iblk m c 3 t) (iblk m c 4 t) (iblk m c 5 t) := by
  have hN : t.val < 16 := t.isLt
  have hb : ∀ r, (row (blkNo t) r).val = 512 * t.val + r.val := fun _ => rfl
  constructor
  · intro r j; blk_ext [iblk, V, idx t, hb]
  · intro r j; blk_ext [iblk, V, idx t, hb]
  · intro r j; blk_ext [iblk, V, idx t, hb]
  · intro j; blk_ext [iblk, V, idx t, hb]
  · intro r j; blk_ext [iblk, V, idx t, hb]
  · intro j; blk_ext [iblk, V, idx t, hb]

/-- A row of the block a point leaves: the gradient by the residual. -/
theorem point6 (c : Dev nD) (t : Fin cfg0.N) (r : Fin 512) (j : Fin 1024) :
    (outsAt0 m c t.val t.isLt).1 (ix2 r j) = Norm.dx (m ((c : Thread nD τ).loc main_arg0)) (m ((c : Thread nD τ).loc main_arg1)) (m ((c : Thread nD τ).loc main_arg2)) (m ((c : Thread nD τ).loc main_arg3)) (row (blkNo t) r) j := by
  by_cases h : t.val % 16 = 0
  · rw [outsAt0_A m c t h h]
    dsimp only
    exact out6_A c (grid0.coords t) _ _ _ _ _ _ _ _ _ _ _ _ _ _ _ _ _ _ _ _ (reads m c t) _ _ r j
  · rw [outsAt0_B m c t h h]
    dsimp only
    exact out6_B c (grid0.coords t) _ _ _ _ _ _ _ _ _ _ _ _ _ _ _ _ _ _ _ _ (reads m c t) _ _ _ _ r j

/-- The whole array: the gradient by the residual. -/
theorem arr6 (c : Dev nD) : (dats m 0 c).arrAt 6 cfg0.N = Norm.dxArr (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_6]
  refine (point6 m c t r j).trans ?_
  have hb : ∀ r, (row (blkNo t) r).val = 512 * t.val + r.val := fun _ => rfl
  unfold Norm.dxArr
  congr 1 <;> (apply Fin.ext; blk_simp [idx t, hb]; try omega)

/-- A row of the block a point leaves: the gradient by the normed array. -/
theorem point8 (c : Dev nD) (t : Fin cfg0.N) (r : Fin 512) (j : Fin 1024) :
    (outsAt0 m c t.val t.isLt).2.2.1 (ix2 r j) = Norm.dm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row (blkNo t) r) j := by
  by_cases h : t.val % 16 = 0
  · rw [outsAt0_A m c t h h]
    dsimp only
    exact out8_A c (grid0.coords t) _ _ _ _ _ _ _ _ _ _ _ _ _ _ _ _ _ _ _ _ (reads m c t) _ _ r j
  · rw [outsAt0_B m c t h h]
    dsimp only
    exact out8_B c (grid0.coords t) _ _ _ _ _ _ _ _ _ _ _ _ _ _ _ _ _ _ _ _ (reads m c t) _ _ _ _ r j

/-- The whole array: the gradient by the normed array. -/
theorem arr8 (c : Dev nD) : (dats m 0 c).arrAt 8 cfg0.N = Norm.dmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_8]
  refine (point8 m c t r j).trans ?_
  have hb : ∀ r, (row (blkNo t) r).val = 512 * t.val + r.val := fun _ => rfl
  unfold Norm.dmArr
  congr 1 <;> (apply Fin.ext; blk_simp [idx t, hb]; try omega)

/-- The whole array: the first gain's gradient. -/
theorem arr7 (c : Dev nD) : (dats m 0 c).arrAt 7 cfg0.N = Norm.dg2Arr (m ((c : Thread nD τ).loc main_arg1)) (m ((c : Thread nD τ).loc main_arg3)) := by
  refine (dats m 0 c).arrAt_eq_of_after_last 7 tLast (by decide +kernel) _ fun j => ?_
  blk_simp
  rw [after0_7]
  refine (Pipeline.eq_sum_fin_of_reset_step_apply_last (fun n h => (outsAt0 m c n h).2.1) 16 (fun _ => (0 : EReal))
    (fun t k => g2Term (m ((c : Thread nD τ).loc main_arg1)) (m ((c : Thread nD τ).loc main_arg3)) (blkNo t) k)
    (fun t h k => by
      show (outsAt0 m c t.val t.isLt).2.1 k = 0 + _
      rw [outsAt0_A m c t h h]
      dsimp only
      exact out7_A c (grid0.coords t) _ _ _ _ _ _ _ _ _ _ _ _ _ _ _ _ _ _ _ _ (reads m c t) _ _ k)
    (fun t h k => by
      show (outsAt0 m c t.val t.isLt).2.1 k = (outsAt0 m c (t.val - 1) _).2.1 k + _
      rw [outsAt0_B m c t h h]
      dsimp only
      exact out7_B c (grid0.coords t) _ _ _ _ _ _ _ _ _ _ _ _ _ _ _ _ _ _ _ _ (reads m c t) _ _ _ _ k)
    (by decide) tLast rfl j).trans ?_
  unfold Norm.dg2Arr Norm.dg g2Term
  rw [zero_add]
  refine Fin.sum_mul_add_congr fun t k hl => ?_
  have e : row (blkNo t) k = ⟨t.val * 512 + k.val, hl⟩ :=
    Fin.ext (by show 512 * t.val + k.val = t.val * 512 + k.val; omega)
  rw [e]

/-- The whole array: the second gain's gradient. -/
theorem arr9 (c : Dev nD) : (dats m 0 c).arrAt 9 cfg0.N = Norm.dg1Arr (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 tLast (by decide +kernel) _ fun j => ?_
  blk_simp
  rw [after0_9]
  refine (Pipeline.eq_sum_fin_of_reset_step_apply_last (fun n h => (outsAt0 m c n h).2.2.2) 16 (fun _ => (0 : EReal))
    (fun t k => g1Term (m ((c : Thread nD τ).loc main_arg0)) (m ((c : Thread nD τ).loc main_arg1)) (m ((c : Thread nD τ).loc main_arg2)) (m ((c : Thread nD τ).loc main_arg3)) (m ((c : Thread nD τ).loc main_arg4)) (blkNo t) k)
    (fun t h k => by
      show (outsAt0 m c t.val t.isLt).2.2.2 k = 0 + _
      rw [outsAt0_A m c t h h]
      dsimp only
      exact out9_A c (grid0.coords t) _ _ _ _ _ _ _ _ _ _ _ _ _ _ _ _ _ _ _ _ (reads m c t) _ _ k)
    (fun t h k => by
      show (outsAt0 m c t.val t.isLt).2.2.2 k = (outsAt0 m c (t.val - 1) _).2.2.2 k + _
      rw [outsAt0_B m c t h h]
      dsimp only
      exact out9_B c (grid0.coords t) _ _ _ _ _ _ _ _ _ _ _ _ _ _ _ _ _ _ _ _ (reads m c t) _ _ _ _ k)
    (by decide) tLast rfl j).trans ?_
  unfold Norm.dg1Arr Norm.dg g1Term
  rw [zero_add]
  refine Fin.sum_mul_add_congr fun t k hl => ?_
  have e : row (blkNo t) k = ⟨t.val * 512 + k.val, hl⟩ :=
    Fin.ext (by show 512 * t.val + k.val = t.val * 512 + k.val; omega)
  rw [e]

variable (ρ : Dev nD → PrngReg)

/-- The kernel's run: the four gradients, and the arguments as they were. -/
theorem run : θ_run defs (onTc (τ := τ) (main (F := Ideal))) ⟨m, fun _ => 0, ρ⟩ fun r => ∀ c : Dev nD,
      r.2.mem ((c : Thread nD τ).loc main_v0_0) = Norm.dxArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Norm.dg2Arr (m ((c : Thread nD τ).loc main_arg1)) (m ((c : Thread nD τ).loc main_arg3))
      ∧ r.2.mem ((c : Thread nD τ).loc main_v0_2) = Norm.dmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = Norm.dg1Arr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr6 m c), (h c).2.1.trans (arr7 m c), (h c).2.2.1.trans (arr8 m c),
    (h c).2.2.2.1.trans (arr9 m c), (h c).2.2.2.2⟩) (Value.run_blocks m ρ)

end Cert.Kernel21Ideal.NormValue

end
-- ==== Proof.NormRef.lean ====
/-
  The gradient of the two norms around a residual: the reference's value of it.
-/
module

public import proofs.«01_k».proof.Proof.NormSpec
public import proofs.«01_k».proof.Proof.Gen.Reference21Ideal.Run
public import Idealize.ShloMosaic.Lib.Tactic.CleanTypes

@[expose] public section

set_option maxRecDepth 16384

noncomputable section

open Idealize.ShloMosaic Idealize.ShloMosaic.TcCoe Idealize.SL.Sem

namespace Cert.Reference21Ideal.NormRef

open Cert.Reference21Ideal

variable (m : (ℓ : Loc nD τ sig) → Buf (Elt Ideal) ℓ)

/-- The gradient by the residual as the reference computes it. -/
theorem dx_form (D : (Mat.M 8192 1024).Idx → EReal) (N : (Mat.M 8192 1024).Idx → EReal) (G2 : (Mat.M 1 1024).Idx → EReal)
    (X : (Mat.M 8192 1024).Idx → EReal) (p : Fin 8192) (q : Fin 1024) :
    D (ix2 p q) + (N (ix2 p q) * G2 (ix2 0 q) * Ideal.rsqrt (Ideal.div (∑ x, X (ix2 p x) * X (ix2 p x)) (Ideal.ofBits FTy.f32 1149239296#32) + Ideal.ofBits FTy.f32 897988541#32) + X (ix2 p q) * (∑ _x : Fin 1, Ideal.div ((∑ x : Fin 1024, X (ix2 p x) * (N (ix2 p x) * G2 (ix2 0 x))) * (Ideal.ofBits FTy.f32 3204448256#32 * Ideal.div (Ideal.rsqrt (Ideal.div (∑ x, X (ix2 p x) * X (ix2 p x)) (Ideal.ofBits FTy.f32 1149239296#32) + Ideal.ofBits FTy.f32 897988541#32)) (Ideal.div (∑ x, X (ix2 p x) * X (ix2 p x)) (Ideal.ofBits FTy.f32 1149239296#32) + Ideal.ofBits FTy.f32 897988541#32))) (Ideal.ofBits FTy.f32 1149239296#32)) + (∑ _x : Fin 1, Ideal.div ((∑ x : Fin 1024, X (ix2 p x) * (N (ix2 p x) * G2 (ix2 0 x))) * (Ideal.ofBits FTy.f32 3204448256#32 * Ideal.div (Ideal.rsqrt (Ideal.div (∑ x, X (ix2 p x) * X (ix2 p x)) (Ideal.ofBits FTy.f32 1149239296#32) + Ideal.ofBits FTy.f32 897988541#32)) (Ideal.div (∑ x, X (ix2 p x) * X (ix2 p x)) (Ideal.ofBits FTy.f32 1149239296#32) + Ideal.ofBits FTy.f32 897988541#32))) (Ideal.ofBits FTy.f32 1149239296#32)) * X (ix2 p q)) = Norm.dx D N G2 X p q := by
  unfold Norm.dx
  rw [← Norm.back_eq, add_assoc, Fin.sum_univ_one]
  rfl

/-- The reference's run: the four gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v35) = Norm.dxArr (m ((c : Thread nD τ).loc main_arg0)) (m ((c : Thread nD τ).loc main_arg1)) (m ((c : Thread nD τ).loc main_arg2)) (m ((c : Thread nD τ).loc main_arg3))
      ∧ r.2.mem ((c : Thread nD τ).loc main_v18) = Norm.dg2Arr (m ((c : Thread nD τ).loc main_arg1)) (m ((c : Thread nD τ).loc main_arg3))
      ∧ r.2.mem ((c : Thread nD τ).loc main_v71) = Norm.dmArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v54) = Norm.dg1Arr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2.1.trans ?_, (h c).2.2.1.trans ?_, (h c).2.2.2.1.trans ?_, (h c).2.2.2.2⟩) (Value.run m ρ)
  · clear h r
    clean_types
    funext i
    obtain ⟨p, q, rfl⟩ : ∃ (p : Fin 8192) (q : Fin 1024), i = ix2 p q := ⟨i 0, i 1, eq_ix2 i⟩
    pointwise [Norm.dxArr]
    exact dx_form (m ((c : Thread nD τ).loc main_arg0)) (m ((c : Thread nD τ).loc main_arg1)) (m ((c : Thread nD τ).loc main_arg2)) (m ((c : Thread nD τ).loc main_arg3)) p q
  · clear h r
    clean_types
    funext i
    obtain ⟨p, q, rfl⟩ : ∃ (p : Fin 1) (q : Fin 1024), i = ix2 p q := ⟨i 0, i 1, eq_ix2 i⟩
    pointwise [Norm.dg2Arr, Norm.dg, Norm.hat, Norm.rstd, Norm.ms, Norm.width, Norm.eps]
    exact Finset.sum_congr rfl fun k _ => mul_comm _ _
  · clear h r
    unfold Value.res_main_v71
    clean_types
    funext i
    obtain ⟨p, q, rfl⟩ : ∃ (p : Fin 8192) (q : Fin 1024), i = ix2 p q := ⟨i 0, i 1, eq_ix2 i⟩
    pointwise [Norm.dmArr, Norm.dm]
    simp only [dx_form (m ((c : Thread nD τ).loc main_arg0)) (m ((c : Thread nD τ).loc main_arg1)) (m ((c : Thread nD τ).loc main_arg2)) (m ((c : Thread nD τ).loc main_arg3))]
    rw [← Norm.back_eq, add_assoc, Fin.sum_univ_one]
    rfl
  · clear h r
    unfold Value.res_main_v54
    clean_types
    funext i
    obtain ⟨p, q, rfl⟩ : ∃ (p : Fin 1) (q : Fin 1024), i = ix2 p q := ⟨i 0, i 1, eq_ix2 i⟩
    pointwise [Norm.dg1Arr, Norm.dg]
    simp only [dx_form (m ((c : Thread nD τ).loc main_arg0)) (m ((c : Thread nD τ).loc main_arg1)) (m ((c : Thread nD τ).loc main_arg2)) (m ((c : Thread nD τ).loc main_arg3))]
    exact Finset.sum_congr rfl fun k _ => mul_comm _ _

end Cert.Reference21Ideal.NormRef

end
-- ==== Proof.ConvFwd.lean ====
/-
  The gated short convolution's kernel: its result array after its run.
-/
module

public import proofs.«01_k».proof.Proof.ConvBlock
public import proofs.«01_k».proof.Proof.Gen.Kernel22Ideal.Value
public import Idealize.ShloMosaic.Lib.Pipeline.ReadBack

@[expose] public section

set_option maxRecDepth 16384

noncomputable section

open Idealize.ShloMosaic Idealize.ShloMosaic.TcCoe Idealize.SL.Sem

/-- The gated convolution: the first group of channels times the convolution's output. -/
def Conv.fwd (P : Conv.SP.Idx → EReal) (W : Conv.SW.Idx → EReal) : Conv.SZ.Idx → EReal := fun i =>
  P (ix2 (i 0) ⟨(i 1).val, (i 1).isLt.trans (by decide)⟩) * Conv.y P W (i 1) (i 0)

namespace Cert.Kernel22Ideal.ConvFwd

open Cert.Kernel22Ideal Cert.Kernel22Ideal.Gen
open Cert.KernelIdeal.ConvBlock (sel_eq sel_sgt)

variable (P : Conv.SP.Idx → EReal) (W : Conv.SW.Idx → EReal)

/-- The three input blocks at grid row `n` hold the block's own 256 rows, the 16 rows before it (when there are any), and the taps. -/
structure Reads (n : Fin 32) (x0 : Vec Ideal S256x3072 .bf16) (x1 : Vec Ideal S16x3072 .bf16) (x2 : Vec Ideal S3x1024 .f32) : Prop where
  own : ∀ (r : Fin 256) (j : Fin 3072), x0 (ix2 r j) = P (ix2 ⟨256 * n.val + r.val, by omega⟩ j)
  prev : ∀ (h : 0 < n.val) (r : Fin 16) (j : Fin 3072), x1 (ix2 r j) = P (ix2 ⟨256 * n.val - 16 + r.val, by omega⟩ j)
  taps : ∀ (k : Fin 3) (j : Fin 1024), x2 (ix2 k j) = W (ix2 k j)

variable {P W}
variable {n : Fin 32} {x0 : Vec Ideal S256x3072 .bf16} {x1 : Vec Ideal S16x3072 .bf16} {x2 : Vec Ideal S3x1024 .f32}

theorem u_own (R : Reads P W n x0 x1 x2) (r : Fin 256) (l : Fin 1024) :
    k0_pay4 x0 (ix2 r l) = Conv.u P l ⟨256 * n.val + r.val, by omega⟩ := by
  unfold Conv.u
  pointwise [k0_pay4, k0_pay2]
  rw [R.own, R.own]

/-- The rows before the block: their products, or zero where there are none. -/
theorem u_prev (R : Reads P W n x0 x1 x2) (k : Fin 16) (l : Fin 1024) :
    (if 0 < n.val then x1 (ix2 k ⟨1024 + l.val, by omega⟩) * x1 (ix2 k ⟨2048 + l.val, by omega⟩) else (0 : EReal))
      = if h : 16 - k.val ≤ 256 * n.val then Conv.u P l ⟨256 * n.val - (16 - k.val), by omega⟩ else 0 := by
  have hk := k.isLt
  by_cases h : 0 < n.val
  · rw [if_pos h, dif_pos (by omega), R.prev h, R.prev h]
    have e : (⟨256 * n.val - 16 + k.val, by omega⟩ : Fin 8192) = ⟨256 * n.val - (16 - k.val), by omega⟩ := Fin.ext (by dsimp only; omega)
    rw [e]; rfl
  · rw [if_neg h, dif_neg (by omega)]

/-- The two earlier taps' part of the convolution on the block. -/
theorem lags (R : Reads P W n x0 x1 x2) (i : grid0.Coords) (hi : (i 0).val = n.val) (r : Fin 256) (l : Fin 1024) :
    k0_pay5 i x0 x1 x2 (ix2 r l) = W (ix2 0 l) * Conv.lag 2 (Conv.u P l) ⟨256 * n.val + r.val, by omega⟩
      + W (ix2 1 l) * Conv.lag 1 (Conv.u P l) ⟨256 * n.val + r.val, by omega⟩ := by
  have hr := r.isLt
  have hn := n.isLt
  have hs : ∀ x y : EReal, Scalar.select (Scalar.cmpi .sgt (BitVec.ofNat 32 (i 0).val) 0#32) x y = if 0 < n.val then x else y := fun x y => by
    rw [← hi]; exact sel_sgt (i 0).val 0 (by omega) (by decide) x y
  pointwise [k0_pay5]
  rw [sel_eq _ _ (by omega) (by decide), sel_eq _ _ (by omega) (by decide), sel_eq _ _ (by omega) (by decide)]
  simp only [hs, u_prev R, u_own R, R.taps]
  unfold Conv.lag
  refine congrArg₂ (· + ·) (congrArg _ ?_) (congrArg _ ?_)
  · split
    · rename_i h1
      refine dite_congr (by simp only [eq_iff_iff]; omega) (fun h => congrArg _ (Fin.ext ?_)) fun _ => rfl
      dsimp only; omega
    · split
      · rename_i h1 h0
        refine dite_congr (by simp only [eq_iff_iff]; omega) (fun h => congrArg _ (Fin.ext ?_)) fun _ => rfl
        dsimp only; omega
      · rw [dif_pos (by dsimp only; omega)]
        exact congrArg _ (Fin.ext (by dsimp only; omega))
  · split
    · rename_i h1
      refine dite_congr (by simp only [eq_iff_iff]; omega) (fun h => congrArg _ (Fin.ext ?_)) fun _ => rfl
      dsimp only; omega
    · rw [dif_pos (by dsimp only; omega)]
      exact congrArg _ (Fin.ext (by dsimp only; omega))

/-- The block a point leaves. -/
theorem block (R : Reads P W n x0 x1 x2) (i : grid0.Coords) (hi : (i 0).val = n.val) (r : Fin 256) (l : Fin 1024) :
    out0_3 i x0 x1 x2 (ix2 r l) = Conv.fwd P W (ix2 ⟨256 * n.val + r.val, by omega⟩ l) := by
  unfold Conv.fwd Conv.y
  frame_out
  pointwise [k0_pay1, k0_pay3, k0_pay2, k0_pay6]
  rw [lags R i hi, u_own R, R.own, R.taps]

variable (m : (ℓ : Loc nD τ sig) → Buf (Elt Ideal) ℓ)

/-- The block of each window at every grid point. -/
theorem idx : ∀ t : Fin cfg0.N,
    win0_0.index t = ![t.val, 0] ∧ win0_1.index t = ![16 * t.val - 1, 0] ∧ win0_2.index t = ![0, 0] ∧ win0_3.index t = ![t.val, 0] := by
  decide +kernel

/-- A grid point as a block number. -/
def blkNo (t : Fin cfg0.N) : Fin 32 := ⟨t.val, t.isLt⟩

theorem coords0 : ∀ t : Fin cfg0.N, (grid0.coords t 0).val = (blkNo t).val := by decide +kernel

/-- The three input blocks at a point hold the arguments' rows. -/
theorem reads (c : Dev nD) (t : Fin cfg0.N) :
    Reads (m ((c : Thread nD τ).loc main_arg0)) (m ((c : Thread nD τ).loc main_arg1)) (blkNo t) (iblk m c 0 t) (iblk m c 1 t) (iblk m c 2 t) := by
  have hN : t.val < 32 := t.isLt
  have hb : (blkNo t).val = t.val := rfl
  constructor
  · intro r j; blk_ext [iblk, V, idx t, hb]
  · intro h r j; blk_ext [iblk, V, idx t, hb]
  · intro k j; blk_ext [iblk, V, idx t, hb]

/-- The result is the gated convolution. -/
theorem arr3 (c : Dev nD) : (dats m 0 c).arrAt 3 cfg0.N =
    Conv.fwd (m ((c : Thread nD τ).loc main_arg0)) (m ((c : Thread nD τ).loc main_arg1)) := by
  refine (dats m 0 c).arrAt_eq_of_covers 3 _ (by decide +kernel) fun t hf y => ?_
  have hN : t.val < 32 := t.isLt
  obtain ⟨r, j, rfl⟩ : ∃ (r : Fin 256) (j : Fin 1024), y = ix2 r j := ⟨y 0, y 1, eq_ix2 y⟩
  blk_simp
  rw [after0_3]
  refine (block (reads m c t) (grid0.coords t) (coords0 t) r j).trans (congrArg _ ?_)
  have hb : (blkNo t).val = t.val := rfl
  blk_ext [idx t, hb]

variable (ρ : Dev nD → PrngReg)

/-- The kernel's run: the gated convolution, and the arguments as they were. -/
theorem run : θ_run defs (onTc (τ := τ) (main (F := Ideal))) ⟨m, fun _ => 0, ρ⟩ fun r => ∀ c : Dev nD,
      r.2.mem ((c : Thread nD τ).loc main_v0) = Conv.fwd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr3 m c), (h c).2⟩) (Value.run_blocks m ρ)

end Cert.Kernel22Ideal.ConvFwd

end
-- ==== Proof.ConvFwdRef.lean ====
/-
  The gated short convolution: the reference's value of it.
-/
module

public import proofs.«01_k».proof.Proof.ConvFwd
public import proofs.«01_k».proof.Proof.Gen.Reference22Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference22Ideal.ConvFwdRef

open Cert.Reference22Ideal

variable (m : (ℓ : Loc nD τ sig) → Buf (Elt Ideal) ℓ)

/-- The reference's reading of the rows before the first as zero. -/
theorem fwd_form (P : Conv.SP.Idx → EReal) (W : Conv.SW.Idx → EReal) (p : Fin 8192) (q : Fin 1024) :
    P (ix2 p ⟨q.val, by omega⟩) * (((W (ix2 0 q) * (if h : p.val < 2 then 0 else P (ix2 ⟨p.val - 2, by omega⟩ ⟨1024 + q.val, by omega⟩) * P (ix2 ⟨p.val - 2, by omega⟩ ⟨2048 + q.val, by omega⟩)))
      + W (ix2 1 q) * (if h : 1 + p.val < 2 then 0 else P (ix2 ⟨1 + p.val - 2, by omega⟩ ⟨1024 + q.val, by omega⟩) * P (ix2 ⟨1 + p.val - 2, by omega⟩ ⟨2048 + q.val, by omega⟩)))
      + W (ix2 2 q) * (P (ix2 p ⟨1024 + q.val, by omega⟩) * P (ix2 p ⟨2048 + q.val, by omega⟩))) = P (ix2 p ⟨q.val, by omega⟩) * Conv.y P W q p := by
  unfold Conv.y Conv.lag
  refine congrArg (_ * ·) (congrArg (· + _) (congrArg₂ (· + ·) (congrArg (_ * ·) ?_) (congrArg (_ * ·) ?_)))
  · by_cases h : p.val < 2
    · rw [dif_pos h, dif_neg (by omega)]
    · rw [dif_neg h, dif_pos (by omega)]; rfl
  · by_cases h : p.val < 1
    · rw [dif_pos (by omega), dif_neg (by omega)]
    · rw [dif_neg (by omega), dif_pos (by omega)]
      have e : (⟨1 + p.val - 2, by omega⟩ : Fin 8192) = ⟨p.val - 1, by omega⟩ := Fin.ext (by dsimp only; omega)
      rw [e]
      rfl

/-- The reference's run: the gated convolution, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v22) = Conv.fwd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clear h r
  clean_types
  funext i
  obtain ⟨p, q, rfl⟩ : ∃ (p : Fin 8192) (q : Fin 1024), i = ix2 p q := ⟨i 0, i 1, eq_ix2 i⟩
  pointwise []
  exact fwd_form (m ((c : Thread nD τ).loc main_arg0)) (m ((c : Thread nD τ).loc main_arg1)) p q

end Cert.Reference22Ideal.ConvFwdRef

end
-- ==== Proof.NormRes.lean ====
/-
  A product, its norm added to the residual, and the sum's norm, over the extended reals.
-/
module

public import proofs.«01_k».proof.Proof.NormSpec

@[expose] public section

noncomputable section

open Idealize.ShloMosaic

namespace NormRes

variable (A : (Mat.M 8192 1024).Idx → EReal) (B : (Mat.M 1024 1024).Idx → EReal) (X : (Mat.M 8192 1024).Idx → EReal)
  (G1 : (Mat.M 1 1024).Idx → EReal) (G2 : (Mat.M 1 1024).Idx → EReal)

/-- The residual after the layer: `X` plus the norm of the product, times its gain. -/
def res : (Mat.M 8192 1024).Idx → EReal := fun i =>
  X i + Norm.hat (fun k => Mat.rowCol A B (ix2 (i 0) k)) (i 1) * G1 (ix2 0 (i 1))

/-- The norm of the residual, times its gain. -/
def normed : (Mat.M 8192 1024).Idx → EReal := fun i =>
  Norm.hat (fun k => res A B X G1 (ix2 (i 0) k)) (i 1) * G2 (ix2 0 (i 1))

/-- A row of the arrays from its place in a block of 1024. -/
def row (n : Fin 8) (r : Fin 1024) : Fin 8192 := ⟨1024 * n.val + r.val, by omega⟩

end NormRes

end
-- ==== Proof.NormRes23.lean ====
/-
  The convolution layer's output projection with the two norms after it: the kernel's three result arrays after its run.
-/
module

public import proofs.«01_k».proof.Proof.NormRes
public import proofs.«01_k».proof.Proof.Gen.Kernel23Ideal.Value
public import Idealize.ShloMosaic.Lib.Pointwise
public import Idealize.ShloMosaic.Lib.Pipeline.ReadBack
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.Kernel23Ideal.NormRes

open Cert.Kernel23Ideal Cert.Kernel23Ideal.Gen _root_.NormRes

variable (A : (Mat.M 8192 1024).Idx → EReal) (B : (Mat.M 1024 1024).Idx → EReal) (X : (Mat.M 8192 1024).Idx → EReal)
  (G1 : (Mat.M 1 1024).Idx → EReal) (G2 : (Mat.M 1 1024).Idx → EReal)

/-- The five input blocks at grid row `n` hold the arrays' 1024 rows there, the whole weight, and the two gains. -/
structure Reads (n : Fin 8) (x0 : Vec Ideal S1024x1024 .bf16) (x1 : Vec Ideal S1024x1024 .bf16) (x2 : Vec Ideal S1024x1024 .f32)
    (x3 x4 : Vec Ideal S1x1024 .f32) : Prop where
  a : ∀ (r : Fin 1024) (j : Fin 1024), x0 (ix2 r j) = A (ix2 (row n r) j)
  b : ∀ (r : Fin 1024) (j : Fin 1024), x1 (ix2 r j) = B (ix2 r j)
  x : ∀ (r : Fin 1024) (j : Fin 1024), x2 (ix2 r j) = X (ix2 (row n r) j)
  g1 : ∀ (j : Fin 1024), x3 (ix2 0 j) = G1 (ix2 0 j)
  g2 : ∀ (j : Fin 1024), x4 (ix2 0 j) = G2 (ix2 0 j)

variable {A B X G1 G2}
variable {n : Fin 8} {x0 : Vec Ideal S1024x1024 .bf16} {x1 : Vec Ideal S1024x1024 .bf16} {x2 : Vec Ideal S1024x1024 .f32}
  {x3 x4 : Vec Ideal S1x1024 .f32}

/-- The product on the block, over a zero. -/
theorem prod_row (R : Reads A B X G1 G2 n x0 x1 x2 x3 x4) (r j : Fin 1024) :
    k0_pay2 (k0_pay1 (F := Ideal)) x0 x1 (ix2 r j) = Mat.rowCol A B (ix2 (row n r) j) := by
  pointwise [k0_pay2, k0_pay1, Mat.rowCol]
  simp only [R.a, R.b]

theorem mix_row (R : Reads A B X G1 G2 n x0 x1 x2 x3 x4) (r j : Fin 1024) :
    k0_pay3 (k0_pay2 (k0_pay1 (F := Ideal)) x0 x1) (ix2 r j) = Mat.rowCol A B (ix2 (row n r) j) := by
  pointwise [k0_pay3]
  exact prod_row R r j

theorem res_row (R : Reads A B X G1 G2 n x0 x1 x2 x3 x4) (r j : Fin 1024) :
    k0_pay4 (k0_pay2 (k0_pay1 (F := Ideal)) x0 x1) x2 x3 (ix2 r j) = res A B X G1 (ix2 (row n r) j) := by
  pointwise [k0_pay4]
  simp only [mix_row R, R.x, R.g1]
  rfl

theorem normed_row (R : Reads A B X G1 G2 n x0 x1 x2 x3 x4) (r j : Fin 1024) :
    k0_pay5 (k0_pay2 (k0_pay1 (F := Ideal)) x0 x1) x2 x3 x4 (ix2 r j) = normed A B X G1 G2 (ix2 (row n r) j) := by
  pointwise [k0_pay5]
  simp only [res_row R, R.g2]
  rfl

section
variable (c : Dev nD) (i : grid0.Coords)
    (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)

/-- The block stored for the product. -/
theorem out5 (R : Reads A B X G1 G2 n x0 x1 x2 x3 x4) (hc0 : cond0_0 i) (hc1 : cond0_1 i) (r j : Fin 1024) :
    out0_A_5 c i arg2 harg2 arg3 harg3 arg4 harg4 arg5 harg5 arg6 harg6 arg7 harg7 arg8 harg8 arg9 harg9 arg10 harg10 hc0 hc1 x0 x1 x2 x3 x4 (ix2 r j) = Mat.rowCol A B (ix2 (row n r) j) := by
  frame_out
  exact mix_row R r j

/-- The block stored for the residual. -/
theorem out6 (R : Reads A B X G1 G2 n x0 x1 x2 x3 x4) (hc0 : cond0_0 i) (hc1 : cond0_1 i) (r j : Fin 1024) :
    out0_A_6 c i arg2 harg2 arg3 harg3 arg4 harg4 arg5 harg5 arg6 harg6 arg7 harg7 arg8 harg8 arg9 harg9 arg10 harg10 hc0 hc1 x0 x1 x2 x3 x4 (ix2 r j) = res A B X G1 (ix2 (row n r) j) := by
  frame_out
  exact res_row R r j

/-- The block stored for the residual's norm. -/
theorem out7 (R : Reads A B X G1 G2 n x0 x1 x2 x3 x4) (hc0 : cond0_0 i) (hc1 : cond0_1 i) (r j : Fin 1024) :
    out0_A_7 c i arg2 harg2 arg3 harg3 arg4 harg4 arg5 harg5 arg6 harg6 arg7 harg7 arg8 harg8 arg9 harg9 arg10 harg10 hc0 hc1 x0 x1 x2 x3 x4 (ix2 r j) = normed A B X G1 G2 (ix2 (row n r) j) := by
  frame_out
  exact normed_row R r j

end

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] ∧ win0_3.index t = ![0, 0] ∧
    win0_4.index t = ![0, 0] ∧ win0_5.index t = ![t.val, 0] ∧ win0_6.index t = ![t.val, 0] ∧ win0_7.index t = ![t.val, 0] := by
  decide +kernel

/-- A grid point as a block number. -/
def blkNo (t : Fin cfg0.N) : Fin 8 := ⟨t.val, t.isLt⟩

/-- The five input blocks at a point hold the arguments' rows. -/
theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4))
      (blkNo t) (iblk m c 0 t) (iblk m c 1 t) (iblk m c 2 t) (iblk m c 3 t) (iblk m c 4 t) := by
  have hN : t.val < 8 := t.isLt
  have hb : ∀ r, (row (blkNo t) r).val = 1024 * t.val + r.val := fun _ => rfl
  constructor
  · intro r j; blk_ext [iblk, V, idx t, hb]
  · intro r j; blk_ext [iblk, V, idx t, hb]
  · intro r j; blk_ext [iblk, V, idx t, hb]
  · intro j; blk_ext [iblk, V, idx t, hb]
  · intro j; blk_ext [iblk, V, idx t, hb]

/-- A row of the block a point leaves: the product. -/
theorem point5 (c : Dev nD) (t : Fin cfg0.N) (r j : Fin 1024) :
    (outsAt0 m c t).1 (ix2 r j) = Mat.rowCol (m ((c : Thread nD τ).loc main_arg0)) (m ((c : Thread nD τ).loc main_arg1)) (ix2 (row (blkNo t) r) j) := by
  unfold outsAt0
  dsimp only
  exact out5 c (grid0.coords t) _ _ _ _ _ _ _ _ _ _ _ _ _ _ _ _ _ _ (reads m c t) (hcond0_0 t) (hcond0_1 t) r j

/-- The whole array: the product. -/
theorem arr5 (c : Dev nD) : (dats m 0 c).arrAt 5 cfg0.N = Mat.rowCol (m ((c : Thread nD τ).loc main_arg0)) (m ((c : Thread nD τ).loc main_arg1)) := by
  refine (dats m 0 c).arrAt_eq_of_covers 5 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_5]
  refine (point5 m c t r j).trans (congrArg _ ?_)
  have hb : ∀ r, (row (blkNo t) r).val = 1024 * t.val + r.val := fun _ => rfl
  blk_ext [idx t, hb]

/-- A row of the block a point leaves: the residual. -/
theorem point6 (c : Dev nD) (t : Fin cfg0.N) (r j : Fin 1024) :
    (outsAt0 m c t).2.1 (ix2 r j) = res (m ((c : Thread nD τ).loc main_arg0)) (m ((c : Thread nD τ).loc main_arg1)) (m ((c : Thread nD τ).loc main_arg2)) (m ((c : Thread nD τ).loc main_arg3)) (ix2 (row (blkNo t) r) j) := by
  unfold outsAt0
  dsimp only
  exact out6 c (grid0.coords t) _ _ _ _ _ _ _ _ _ _ _ _ _ _ _ _ _ _ (reads m c t) (hcond0_0 t) (hcond0_1 t) r j

/-- The whole array: the residual. -/
theorem arr6 (c : Dev nD) : (dats m 0 c).arrAt 6 cfg0.N = res (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_6]
  refine (point6 m c t r j).trans (congrArg _ ?_)
  have hb : ∀ r, (row (blkNo t) r).val = 1024 * t.val + r.val := fun _ => rfl
  blk_ext [idx t, hb]

/-- A row of the block a point leaves: the residual's norm. -/
theorem point7 (c : Dev nD) (t : Fin cfg0.N) (r j : Fin 1024) :
    (outsAt0 m c t).2.2 (ix2 r j) = normed (m ((c : Thread nD τ).loc main_arg0)) (m ((c : Thread nD τ).loc main_arg1)) (m ((c : Thread nD τ).loc main_arg2)) (m ((c : Thread nD τ).loc main_arg3)) (m ((c : Thread nD τ).loc main_arg4)) (ix2 (row (blkNo t) r) j) := by
  unfold outsAt0
  dsimp only
  exact out7 c (grid0.coords t) _ _ _ _ _ _ _ _ _ _ _ _ _ _ _ _ _ _ (reads m c t) (hcond0_0 t) (hcond0_1 t) r j

/-- The whole array: the residual's norm. -/
theorem arr7 (c : Dev nD) : (dats m 0 c).arrAt 7 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_7]
  refine (point7 m c t r j).trans (congrArg _ ?_)
  have hb : ∀ r, (row (blkNo t) r).val = 1024 * t.val + r.val := fun _ => rfl
  blk_ext [idx t, hb]

variable (ρ : Dev nD → PrngReg)

/-- The kernel's run: the product, the residual, its norm, and the arguments as they were. -/
theorem run : θ_run defs (onTc (τ := τ) (main (F := Ideal))) ⟨m, fun _ => 0, ρ⟩ fun r => ∀ c : Dev nD,
      r.2.mem ((c : Thread nD τ).loc main_v0_0) = Mat.rowCol (m ((c : Thread nD τ).loc main_arg0)) (m ((c : Thread nD τ).loc main_arg1))
      ∧ r.2.mem ((c : Thread nD τ).loc main_v0_1) = res (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr5 m c), (h c).2.1.trans (arr6 m c), (h c).2.2.1.trans (arr7 m c), (h c).2.2.2⟩)
    (Value.run_blocks m ρ)

end Cert.Kernel23Ideal.NormRes

end
-- ==== Proof.NormResRef23.lean ====
/-
  The convolution layer's output projection with the two norms after it: the reference's value of them.
-/
module

public import proofs.«01_k».proof.Proof.NormRes
public import proofs.«01_k».proof.Proof.Gen.Reference23Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference23Ideal.NormRes

open Cert.Reference23Ideal _root_.NormRes

variable (m : (ℓ : Loc nD τ sig) → Buf (Elt Ideal) ℓ)

/-- The reference's run: the product, the residual, its norm, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v16) = Mat.rowCol (m ((c : Thread nD τ).loc main_arg0)) (m ((c : Thread nD τ).loc main_arg1))
      ∧ r.2.mem ((c : Thread nD τ).loc main_v15) = res (m ((c : Thread nD τ).loc main_arg0)) (m ((c : Thread nD τ).loc main_arg1)) (m ((c : Thread nD τ).loc main_arg2)) (m ((c : Thread nD τ).loc main_arg3))
      ∧ r.2.mem ((c : Thread nD τ).loc main_v29) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2.1.trans ?_, (h c).2.2.1.trans ?_, (h c).2.2.2⟩) (Value.run m ρ)
  · clear h r
    clean_types
    funext i
    obtain ⟨p, q, rfl⟩ : ∃ (p : Fin 8192) (q : Fin 1024), i = ix2 p q := ⟨i 0, i 1, eq_ix2 i⟩
    pointwise [Mat.rowCol]
  · clear h r
    clean_types
    funext i
    obtain ⟨p, q, rfl⟩ : ∃ (p : Fin 8192) (q : Fin 1024), i = ix2 p q := ⟨i 0, i 1, eq_ix2 i⟩
    pointwise [res, Mat.rowCol, Norm.hat, Norm.rstd, Norm.ms, Norm.width, Norm.eps]
  · clear h r
    unfold Value.res_main_v29
    clean_types
    funext i
    obtain ⟨p, q, rfl⟩ : ∃ (p : Fin 8192) (q : Fin 1024), i = ix2 p q := ⟨i 0, i 1, eq_ix2 i⟩
    pointwise [normed, res, Mat.rowCol, Norm.hat, Norm.rstd, Norm.ms, Norm.width, Norm.eps]

end Cert.Reference23Ideal.NormRes

end
-- ==== Proof.NormRes24.lean ====
/-
  The attention layer's output projection with the two norms after it: the kernel's three result arrays after its run.
-/
module

public import proofs.«01_k».proof.Proof.NormRes
public import proofs.«01_k».proof.Proof.Gen.Kernel24Ideal.Value
public import Idealize.ShloMosaic.Lib.Pointwise
public import Idealize.ShloMosaic.Lib.Pipeline.ReadBack
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.Kernel24Ideal.NormRes

open Cert.Kernel24Ideal Cert.Kernel24Ideal.Gen _root_.NormRes

variable (A : (Mat.M 8192 1024).Idx → EReal) (B : (Mat.M 1024 1024).Idx → EReal) (X : (Mat.M 8192 1024).Idx → EReal)
  (G1 : (Mat.M 1 1024).Idx → EReal) (G2 : (Mat.M 1 1024).Idx → EReal)

/-- The five input blocks at grid row `n` hold the arrays' 1024 rows there, the whole weight, and the two gains. -/
structure Reads (n : Fin 8) (x0 : Vec Ideal S1024x1024 .f32) (x1 : Vec Ideal S1024x1024 .bf16) (x2 : Vec Ideal S1024x1024 .f32)
    (x3 x4 : Vec Ideal S1x1024 .f32) : Prop where
  a : ∀ (r : Fin 1024) (j : Fin 1024), x0 (ix2 r j) = A (ix2 (row n r) j)
  b : ∀ (r : Fin 1024) (j : Fin 1024), x1 (ix2 r j) = B (ix2 r j)
  x : ∀ (r : Fin 1024) (j : Fin 1024), x2 (ix2 r j) = X (ix2 (row n r) j)
  g1 : ∀ (j : Fin 1024), x3 (ix2 0 j) = G1 (ix2 0 j)
  g2 : ∀ (j : Fin 1024), x4 (ix2 0 j) = G2 (ix2 0 j)

variable {A B X G1 G2}
variable {n : Fin 8} {x0 : Vec Ideal S1024x1024 .f32} {x1 : Vec Ideal S1024x1024 .bf16} {x2 : Vec Ideal S1024x1024 .f32}
  {x3 x4 : Vec Ideal S1x1024 .f32}

/-- The product on the block, over a zero. -/
theorem prod_row (R : Reads A B X G1 G2 n x0 x1 x2 x3 x4) (r j : Fin 1024) :
    k0_pay2 (k0_pay1 (F := Ideal)) x0 x1 (ix2 r j) = Mat.rowCol A B (ix2 (row n r) j) := by
  pointwise [k0_pay2, k0_pay1, Mat.rowCol]
  simp only [R.a, R.b]

theorem mix_row (R : Reads A B X G1 G2 n x0 x1 x2 x3 x4) (r j : Fin 1024) :
    k0_pay3 (k0_pay2 (k0_pay1 (F := Ideal)) x0 x1) (ix2 r j) = Mat.rowCol A B (ix2 (row n r) j) := by
  pointwise [k0_pay3]
  exact prod_row R r j

theorem res_row (R : Reads A B X G1 G2 n x0 x1 x2 x3 x4) (r j : Fin 1024) :
    k0_pay4 (k0_pay2 (k0_pay1 (F := Ideal)) x0 x1) x2 x3 (ix2 r j) = res A B X G1 (ix2 (row n r) j) := by
  pointwise [k0_pay4]
  simp only [mix_row R, R.x, R.g1]
  rfl

theorem normed_row (R : Reads A B X G1 G2 n x0 x1 x2 x3 x4) (r j : Fin 1024) :
    k0_pay5 (k0_pay2 (k0_pay1 (F := Ideal)) x0 x1) x2 x3 x4 (ix2 r j) = normed A B X G1 G2 (ix2 (row n r) j) := by
  pointwise [k0_pay5]
  simp only [res_row R, R.g2]
  rfl

section
variable (c : Dev nD) (i : grid0.Coords)
    (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)

/-- The block stored for the product. -/
theorem out5 (R : Reads A B X G1 G2 n x0 x1 x2 x3 x4) (hc0 : cond0_0 i) (hc1 : cond0_1 i) (r j : Fin 1024) :
    out0_A_5 c i arg2 harg2 arg3 harg3 arg4 harg4 arg5 harg5 arg6 harg6 arg7 harg7 arg8 harg8 arg9 harg9 arg10 harg10 hc0 hc1 x0 x1 x2 x3 x4 (ix2 r j) = Mat.rowCol A B (ix2 (row n r) j) := by
  frame_out
  exact mix_row R r j

/-- The block stored for the residual. -/
theorem out6 (R : Reads A B X G1 G2 n x0 x1 x2 x3 x4) (hc0 : cond0_0 i) (hc1 : cond0_1 i) (r j : Fin 1024) :
    out0_A_6 c i arg2 harg2 arg3 harg3 arg4 harg4 arg5 harg5 arg6 harg6 arg7 harg7 arg8 harg8 arg9 harg9 arg10 harg10 hc0 hc1 x0 x1 x2 x3 x4 (ix2 r j) = res A B X G1 (ix2 (row n r) j) := by
  frame_out
  exact res_row R r j

/-- The block stored for the residual's norm. -/
theorem out7 (R : Reads A B X G1 G2 n x0 x1 x2 x3 x4) (hc0 : cond0_0 i) (hc1 : cond0_1 i) (r j : Fin 1024) :
    out0_A_7 c i arg2 harg2 arg3 harg3 arg4 harg4 arg5 harg5 arg6 harg6 arg7 harg7 arg8 harg8 arg9 harg9 arg10 harg10 hc0 hc1 x0 x1 x2 x3 x4 (ix2 r j) = normed A B X G1 G2 (ix2 (row n r) j) := by
  frame_out
  exact normed_row R r j

end

variable (m : (ℓ : Loc nD τ sig) → Buf (Elt Ideal) ℓ)

/-- The block of each window at every grid point. -/
theorem idx : ∀ t : Fin cfg0.N,
    win0_0.index t = ![t.val, 0] ∧ win0_1.index t = ![0, 0] ∧ win0_2.index t = ![t.val, 0] ∧ win0_3.index t = ![0, 0] ∧
    win0_4.index t = ![0, 0] ∧ win0_5.index t = ![t.val, 0] ∧ win0_6.index t = ![t.val, 0] ∧ win0_7.index t = ![t.val, 0] := by
  decide +kernel

/-- A grid point as a block number. -/
def blkNo (t : Fin cfg0.N) : Fin 8 := ⟨t.val, t.isLt⟩

/-- The five input blocks at a point hold the arguments' rows. -/
theorem reads (c : Dev nD) (t : Fin cfg0.N) :
    Reads (m ((c : Thread nD τ).loc main_arg0)) (m ((c : Thread nD τ).loc main_arg1)) (m ((c : Thread nD τ).loc main_arg2)) (m ((c : Thread nD τ).loc main_arg3)) (m ((c : Thread nD τ).loc main_arg4))
      (blkNo t) (iblk m c 0 t) (iblk m c 1 t) (iblk m c 2 t) (iblk m c 3 t) (iblk m c 4 t) := by
  have hN : t.val < 8 := t.isLt
  have hb : ∀ r, (row (blkNo t) r).val = 1024 * t.val + r.val := fun _ => rfl
  constructor
  · intro r j; blk_ext [iblk, V, idx t, hb]
  · intro r j; blk_ext [iblk, V, idx t, hb]
  · intro r j; blk_ext [iblk, V, idx t, hb]
  · intro j; blk_ext [iblk, V, idx t, hb]
  · intro j; blk_ext [iblk, V, idx t, hb]

/-- A row of the block a point leaves: the product. -/
theorem point5 (c : Dev nD) (t : Fin cfg0.N) (r j : Fin 1024) :
    (outsAt0 m c t).1 (ix2 r j) = Mat.rowCol (m ((c : Thread nD τ).loc main_arg0)) (m ((c : Thread nD τ).loc main_arg1)) (ix2 (row (blkNo t) r) j) := by
  unfold outsAt0
  dsimp only
  exact out5 c (grid0.coords t) _ _ _ _ _ _ _ _ _ _ _ _ _ _ _ _ _ _ (reads m c t) (hcond0_0 t) (hcond0_1 t) r j

/-- The whole array: the product. -/
theorem arr5 (c : Dev nD) : (dats m 0 c).arrAt 5 cfg0.N = Mat.rowCol (m ((c : Thread nD τ).loc main_arg0)) (m ((c : Thread nD τ).loc main_arg1)) := by
  refine (dats m 0 c).arrAt_eq_of_covers 5 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_5]
  refine (point5 m c t r j).trans (congrArg _ ?_)
  have hb : ∀ r, (row (blkNo t) r).val = 1024 * t.val + r.val := fun _ => rfl
  blk_ext [idx t, hb]

/-- A row of the block a point leaves: the residual. -/
theorem point6 (c : Dev nD) (t : Fin cfg0.N) (r j : Fin 1024) :
    (outsAt0 m c t).2.1 (ix2 r j) = res (m ((c : Thread nD τ).loc main_arg0)) (m ((c : Thread nD τ).loc main_arg1)) (m ((c : Thread nD τ).loc main_arg2)) (m ((c : Thread nD τ).loc main_arg3)) (ix2 (row (blkNo t) r) j) := by
  unfold outsAt0
  dsimp only
  exact out6 c (grid0.coords t) _ _ _ _ _ _ _ _ _ _ _ _ _ _ _ _ _ _ (reads m c t) (hcond0_0 t) (hcond0_1 t) r j

/-- The whole array: the residual. -/
theorem arr6 (c : Dev nD) : (dats m 0 c).arrAt 6 cfg0.N = res (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_6]
  refine (point6 m c t r j).trans (congrArg _ ?_)
  have hb : ∀ r, (row (blkNo t) r).val = 1024 * t.val + r.val := fun _ => rfl
  blk_ext [idx t, hb]

/-- A row of the block a point leaves: the residual's norm. -/
theorem point7 (c : Dev nD) (t : Fin cfg0.N) (r j : Fin 1024) :
    (outsAt0 m c t).2.2 (ix2 r j) = normed (m ((c : Thread nD τ).loc main_arg0)) (m ((c : Thread nD τ).loc main_arg1)) (m ((c : Thread nD τ).loc main_arg2)) (m ((c : Thread nD τ).loc main_arg3)) (m ((c : Thread nD τ).loc main_arg4)) (ix2 (row (blkNo t) r) j) := by
  unfold outsAt0
  dsimp only
  exact out7 c (grid0.coords t) _ _ _ _ _ _ _ _ _ _ _ _ _ _ _ _ _ _ (reads m c t) (hcond0_0 t) (hcond0_1 t) r j

/-- The whole array: the residual's norm. -/
theorem arr7 (c : Dev nD) : (dats m 0 c).arrAt 7 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have hN : t.val < 8 := t.isLt
  obtain ⟨r, j, rfl⟩ : ∃ (r : Fin 1024) (j : Fin 1024), y = ix2 r j := ⟨y 0, y 1, eq_ix2 y⟩
  blk_simp
  rw [after0_7]
  refine (point7 m c t r j).trans (congrArg _ ?_)
  have hb : ∀ r, (row (blkNo t) r).val = 1024 * t.val + r.val := fun _ => rfl
  blk_ext [idx t, hb]

variable (ρ : Dev nD → PrngReg)

/-- The kernel's run: the product, the residual, its norm, and the arguments as they were. -/
theorem run : θ_run defs (onTc (τ := τ) (main (F := Ideal))) ⟨m, fun _ => 0, ρ⟩ fun r => ∀ c : Dev nD,
      r.2.mem ((c : Thread nD τ).loc main_v0_0) = Mat.rowCol (m ((c : Thread nD τ).loc main_arg0)) (m ((c : Thread nD τ).loc main_arg1))
      ∧ r.2.mem ((c : Thread nD τ).loc main_v0_1) = res (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (arr5 m c), (h c).2.1.trans (arr6 m c), (h c).2.2.1.trans (arr7 m c), (h c).2.2.2⟩)
    (Value.run_blocks m ρ)

end Cert.Kernel24Ideal.NormRes

end
-- ==== Proof.NormResRef24.lean ====
/-
  The attention layer's output projection with the two norms after it: the reference's value of them.
-/
module

public import proofs.«01_k».proof.Proof.NormRes
public import proofs.«01_k».proof.Proof.Gen.Reference24Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference24Ideal.NormRes

open Cert.Reference24Ideal _root_.NormRes

variable (m : (ℓ : Loc nD τ sig) → Buf (Elt Ideal) ℓ)

/-- The reference's run: the product, the residual, its norm, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v15) = Mat.rowCol (m ((c : Thread nD τ).loc main_arg0)) (m ((c : Thread nD τ).loc main_arg1))
      ∧ r.2.mem ((c : Thread nD τ).loc main_v14) = res (m ((c : Thread nD τ).loc main_arg0)) (m ((c : Thread nD τ).loc main_arg1)) (m ((c : Thread nD τ).loc main_arg2)) (m ((c : Thread nD τ).loc main_arg3))
      ∧ r.2.mem ((c : Thread nD τ).loc main_v28) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨(h c).1.trans ?_, (h c).2.1.trans ?_, (h c).2.2.1.trans ?_, (h c).2.2.2⟩) (Value.run m ρ)
  · clear h r
    clean_types
    funext i
    obtain ⟨p, q, rfl⟩ : ∃ (p : Fin 8192) (q : Fin 1024), i = ix2 p q := ⟨i 0, i 1, eq_ix2 i⟩
    pointwise [Mat.rowCol]
  · clear h r
    clean_types
    funext i
    obtain ⟨p, q, rfl⟩ : ∃ (p : Fin 8192) (q : Fin 1024), i = ix2 p q := ⟨i 0, i 1, eq_ix2 i⟩
    pointwise [res, Mat.rowCol, Norm.hat, Norm.rstd, Norm.ms, Norm.width, Norm.eps]
  · clear h r
    clean_types
    funext i
    obtain ⟨p, q, rfl⟩ : ∃ (p : Fin 8192) (q : Fin 1024), i = ix2 p q := ⟨i 0, i 1, eq_ix2 i⟩
    pointwise [normed, res, Mat.rowCol, Norm.hat, Norm.rstd, Norm.ms, Norm.width, Norm.eps]

end Cert.Reference24Ideal.NormRes

end
-- ==== Proof.AttnKeep.lean ====
/- Programs that keep what they hold. A kernel body that only loads from and stores to buffers it holds whole
   ends holding the same buffers whole, whatever it computes: this is all the frame of such a kernel needs.
   Here the property, and one rule per shape of program. -/
module

public import Idealize.ShloMosaic.Lib.Scf
public import Idealize.ShloMosaic.Lib.Exec
public import Idealize.ShloMosaic.Lib.Tactic
public import Idealize.ShloMosaic.Lib.Memref

@[expose] public section

noncomputable section

namespace Cert.Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open PCS URA Auth

variable {nD : Nat} {τ : Topo} {sig : RefSig} {Val : EltTy → Type} {U : Type} [URA U] {Λ : Labels}

local notation "𝕄" => MT nD τ sig Unit Val ℕ U ℕ

/-- `R` holds what `m` views, and takes it back at any contents. -/
class Has (d : Dev nD) (R : sProp (MT nD τ sig Unit Val ℕ U ℕ)) {sp : CoreSpace} {s : Shape} {e : EltTy}
    (m : Memref sig .tc sp s e) : Prop where
  borrow : R ⊢ iprop(∃ f : Buf Val (m.view.loc (d : Thread nD τ)),
    (m.view.loc (d : Thread nD τ) ↦[m.view.set]{fullShare} f)
    ∗ (∀ g : Buf Val (m.view.loc (d : Thread nD τ)), (m.view.loc (d : Thread nD τ) ↦[m.view.set]{fullShare} g) -∗ R))

/-- The memref at the head of a chain, held at some contents. -/
theorem Has.head {d : Dev nD} {R : sProp 𝕄} {sp : CoreSpace} {s : Shape} {e : EltTy} (m : Memref sig .tc sp s e) :
    Has d iprop((∃ X : s.Idx → Val e, ownsTc d m fullShare X) ∗ R) m := by
  constructor
  unfold ownsTc owns
  iintro ⟨⟨%X, %f, %_h, H⟩, HR⟩
  iexists f
  isplitl [H]
  · iexact H
  · iintro %g Hg
    isplitl [Hg]
    · iexists m.view.read Val g; iexists g
      isplitr
      · ipureintro; rfl
      · iexact Hg
    · iexact HR

/-- A memref further along the chain. -/
theorem Has.tail {d : Dev nD} {P R : sProp 𝕄} {sp : CoreSpace} {s : Shape} {e : EltTy} {m : Memref sig .tc sp s e}
    (h : Has d R m) : Has d iprop(P ∗ R) m := by
  constructor
  have hb := h.borrow
  iintro ⟨HP, HR⟩
  icases hb $$ HR with ⟨%f, H, Hb⟩
  iexists f
  isplitl [H]
  · iexact H
  · iintro %g Hg
    isplitl [HP]
    · iexact HP
    · iapply Hb; iexact Hg

/-- From `R` the program runs, without fault, to `R`. -/
structure Keeps (defs : Defs nD τ sig Val Λ) (𝒱 : Variants) (d : Dev nD) (R : sProp (MT nD τ sig Unit Val ℕ U ℕ))
    {α : Type} (p : Prog (TpuEff nD τ sig Val Λ .tc) α) : Prop where
  run : R ⊢ wp frame (wpE defs 𝒱 (d : Thread nD τ) none) Set.univ p (fun _ => R)

variable {defs : Defs nD τ sig Val Λ} {𝒱 : Variants} {d : Dev nD} {R : sProp (MT nD τ sig Unit Val ℕ U ℕ)}

/-- A program that does nothing keeps everything. -/
theorem Keeps.pure {α : Type} (a : α) : Keeps defs 𝒱 d R (Pure.pure a) :=
  ⟨le_wp_ret _ _ _ a (fun _ => R)⟩

/-- One program after another. -/
theorem Keeps.bind {α β : Type} {p : Prog (TpuEff nD τ sig Val Λ .tc) α} {f : α → Prog (TpuEff nD τ sig Val Λ .tc) β}
    (hp : Keeps defs 𝒱 d R p) (hf : ∀ a, Keeps defs 𝒱 d R (f a)) : Keeps defs 𝒱 d R (p >>= f) := by
  constructor
  rw [wp_bind]
  exact hp.run.trans (wp_mono _ _ _ fun a => (hf a).run)

/-- A load from a buffer that is held. -/
theorem Keeps.load {sp : CoreSpace} {s : Shape} {e : EltTy} {m : Memref sig .tc sp s e} {r : LoadRect s}
    {hl : m.view.LoadsAt r} [hm : Has d R m] : Keeps defs 𝒱 d R (Prog.lift (.load m r hl)) := by
  constructor
  refine BIBase.Entails.trans hm.borrow ?_
  iintro ⟨%f, H, Hb⟩
  iapply (wp_load 𝒱 (d : Thread nD τ) none Set.univ (m.view.setOn_subset_set _)) $$ H
  iintro H
  rw [wp_ret]; imodintro
  iapply Hb; iexact H

/-- A store to a buffer that is held. -/
theorem Keeps.store {sp : CoreSpace} {s : Shape} {e : EltTy} {m : Memref sig .tc sp s e}
    {r : Rect s} {w : r.shape.Idx → Val e} {Mk : Finset r.shape.Idx} {hx : (m.access r).Stores Mk}
    {hs : Mk = Finset.univ ∨ ∀ a, r.stride a = 1} [hm : Has d R m] :
    Keeps defs 𝒱 d R (Prog.lift (.store m r w Mk hx hs)) := by
  constructor
  refine BIBase.Entails.trans hm.borrow ?_
  iintro ⟨%f, H, Hb⟩
  iapply (wp_store 𝒱 (d : Thread nD τ) none Set.univ (m := m) (r := r) (w := w) (Mk := Mk) (hx := hx) (hm := hs)
    (f := f) (k := Prog.ret) (Q := fun _ => R)
    (S := m.view.set) (((m.access r).setOn_subset_set Mk).trans (m.view.set_slice_subset r))) $$ H
  iintro H
  rw [wp_ret]; imodintro
  iapply Hb; iexact H

/-- A conditional, of two programs that both keep `R`. -/
theorem Keeps.dite {α : Type} {C : Prop} [Decidable C] {p : C → Prog (TpuEff nD τ sig Val Λ .tc) α}
    {q : ¬C → Prog (TpuEff nD τ sig Val Λ .tc) α} (hp : ∀ h, Keeps defs 𝒱 d R (p h))
    (hq : ∀ h, Keeps defs 𝒱 d R (q h)) : Keeps defs 𝒱 d R (if h : C then p h else q h) := by
  split
  · exact hp _
  · exact hq _

/-- A counted loop whose region keeps `R` on every trip. -/
theorem Keeps.loop {w : Nat} {σ : Type} {l : Scf.Loop w} {hok : l.OK} {init : σ}
    {body : Fin l.trips → σ → Prog (TpuEff nD τ sig Val Λ .tc) σ} (hb : ∀ k a, Keeps defs 𝒱 d R (body k a)) :
    Keeps defs 𝒱 d R (Scf.Loop.for l hok init body) := by
  constructor
  have h := Scf.wp_for (frame (Ix := Unit)) (wpE defs 𝒱 (d : Thread nD τ) none) Set.univ l.lb l.ub l.st hok init body
    (fun _ _ => R) (fun k a => (hb k a).run) (Q := fun _ => R)
  refine BIBase.Entails.trans ?_ h
  iintro H
  isplitl [H]
  · iexact H
  · iintro %a Ha; iexact Ha

/-- What a function into programs keeps: each of its values keeps `R`. -/
class Ends (defs : Defs nD τ sig Val Λ) (𝒱 : Variants) (d : Dev nD) (R : sProp (MT nD τ sig Unit Val ℕ U ℕ))
    (β : Type 1) where
  all : β → Prop

instance {α : Type} : Ends defs 𝒱 d R (Prog (TpuEff nD τ sig Val Λ .tc) α) := ⟨Keeps defs 𝒱 d R⟩
instance {α : Type} {β : Type 1} [h : Ends defs 𝒱 d R β] : Ends defs 𝒱 d R (α → β) := ⟨fun f => ∀ a, h.all (f a)⟩

end Cert.Keep

end
-- ==== Proof.AttnParts.lean ====
/- The attention's backward body keeps the buffers it is called on: its parts. -/
module

public import proofs.«01_k».proof.Kernel25Ideal
public import Idealize.ShloMosaic.Lib.Pipeline.Kit
public import proofs.«01_k».proof.Proof.AttnKeep

@[expose] public section

set_option synthInstance.maxSize 1024
set_option synthInstance.maxHeartbeats 400000
set_option maxHeartbeats 1000000

noncomputable section

namespace Cert.Kernel25Ideal.Attn

open Idealize.ShloMosaic Idealize.ShloMosaic.TcCoe
open Idealize.SL Idealize.SL.RA Idealize.SL.BI
open scoped Idealize.SL.BI
open Cert.Keep

variable {F : FTy → Type} [FloatOps F] [Facts]

/-- The buffers a grid point works on, all held by `R`. -/
structure Held (d : Dev nD) (R : sProp (MT nD τ sig Unit (Elt F) ℕ (UR sig nD τ) ℕ)) where
  i : grid0.Coords
  arg2 : Memref sig .tc .vmem S1x8x128 .f32
  whole2 : arg2.IsWhole
  has2 : Has d R arg2
  arg3 : Memref sig .tc .vmem S2048x128 .f32
  whole3 : arg3.IsWhole
  has3 : Has d R arg3
  arg4 : Memref sig .tc .vmem S2048x128 .f32
  whole4 : arg4.IsWhole
  has4 : Has d R arg4
  arg5 : Memref sig .tc .vmem S2048x128 .f32
  whole5 : arg5.IsWhole
  has5 : Has d R arg5
  arg6 : Memref sig .tc .vmem S2048x128 .f32
  whole6 : arg6.IsWhole
  has6 : Has d R arg6
  arg7 : Memref sig .tc .vmem S2048x128 .f32
  whole7 : arg7.IsWhole
  has7 : Has d R arg7
  arg8 : Memref sig .tc .vmem S2048x128 .f32
  whole8 : arg8.IsWhole
  has8 : Has d R arg8
  arg9 : Memref sig .tc .vmem S2048x128 .f32
  whole9 : arg9.IsWhole
  has9 : Has d R arg9
  arg10 : Memref sig .tc .vmem S2048x128 .f32
  whole10 : arg10.IsWhole
  has10 : Has d R arg10
  arg11 : Memref sig .tc .vmem S2048x128 .bf16
  whole11 : arg11.IsWhole
  has11 : Has d R arg11
  arg12 : Memref sig .tc .vmem S2x2048x128 .f32
  whole12 : arg12.IsWhole
  has12 : Has d R arg12
  arg13 : Memref sig .tc .vmem S4096x128 .f32
  whole13 : arg13.IsWhole
  has13 : Has d R arg13
  arg14 : Memref sig .tc .vmem S4096x128 .f32
  whole14 : arg14.IsWhole
  has14 : Has d R arg14
  arg15 : Memref sig .tc .vmem S4096x128 .f32
  whole15 : arg15.IsWhole
  has15 : Has d R arg15
  arg16 : Memref sig .tc .vmem S4096x128 .f32
  whole16 : arg16.IsWhole
  has16 : Has d R arg16
  arg17 : Memref sig .tc .vmem S2048x128 .f32
  whole17 : arg17.IsWhole
  has17 : Has d R arg17
  arg18 : Memref sig .tc .vmem S12x128x256 .f32
  whole18 : arg18.IsWhole
  has18 : Has d R arg18

variable {d : Dev nD} {R : sProp (MT nD τ sig Unit (Elt F) ℕ (UR sig nD τ) ℕ)}

/-- A part of the body, called on these buffers, keeps `R` whatever values it is passed. -/
abbrev Held.Ok (A : Held d R) {β : Type 1} [h : Ends defs₀ Variants.none d R β]
    (f : (i : grid0.Coords) → (arg2 : Memref sig .tc .vmem S1x8x128 .f32) → arg2.IsWhole → (arg3 : Memref sig .tc .vmem S2048x128 .f32) → arg3.IsWhole → (arg4 : Memref sig .tc .vmem S2048x128 .f32) → arg4.IsWhole → (arg5 : Memref sig .tc .vmem S2048x128 .f32) → arg5.IsWhole → (arg6 : Memref sig .tc .vmem S2048x128 .f32) → arg6.IsWhole → (arg7 : Memref sig .tc .vmem S2048x128 .f32) → arg7.IsWhole → (arg8 : Memref sig .tc .vmem S2048x128 .f32) → arg8.IsWhole → (arg9 : Memref sig .tc .vmem S2048x128 .f32) → arg9.IsWhole → (arg10 : Memref sig .tc .vmem S2048x128 .f32) → arg10.IsWhole → (arg11 : Memref sig .tc .vmem S2048x128 .bf16) → arg11.IsWhole → (arg12 : Memref sig .tc .vmem S2x2048x128 .f32) → arg12.IsWhole → (arg13 : Memref sig .tc .vmem S4096x128 .f32) → arg13.IsWhole → (arg14 : Memref sig .tc .vmem S4096x128 .f32) → arg14.IsWhole → (arg15 : Memref sig .tc .vmem S4096x128 .f32) → arg15.IsWhole → (arg16 : Memref sig .tc .vmem S4096x128 .f32) → arg16.IsWhole → (arg17 : Memref sig .tc .vmem S2048x128 .f32) → arg17.IsWhole → (arg18 : Memref sig .tc .vmem S12x128x256 .f32) → arg18.IsWhole → β) : Prop :=
  h.all (f A.i A.arg2 A.whole2 A.arg3 A.whole3 A.arg4 A.whole4 A.arg5 A.whole5 A.arg6 A.whole6 A.arg7 A.whole7 A.arg8 A.whole8 A.arg9 A.whole9 A.arg10 A.whole10 A.arg11 A.whole11 A.arg12 A.whole12 A.arg13 A.whole13 A.arg14 A.whole14 A.arg15 A.whole15 A.arg16 A.whole16 A.arg17 A.whole17 A.arg18 A.whole18)

instance (A : Held d R) : Has d R A.arg2 := A.has2
instance (A : Held d R) : Has d R A.arg3 := A.has3
instance (A : Held d R) : Has d R A.arg4 := A.has4
instance (A : Held d R) : Has d R A.arg5 := A.has5
instance (A : Held d R) : Has d R A.arg6 := A.has6
instance (A : Held d R) : Has d R A.arg7 := A.has7
instance (A : Held d R) : Has d R A.arg8 := A.has8
instance (A : Held d R) : Has d R A.arg9 := A.has9
instance (A : Held d R) : Has d R A.arg10 := A.has10
instance (A : Held d R) : Has d R A.arg11 := A.has11
instance (A : Held d R) : Has d R A.arg12 := A.has12
instance (A : Held d R) : Has d R A.arg13 := A.has13
instance (A : Held d R) : Has d R A.arg14 := A.has14
instance (A : Held d R) : Has d R A.arg15 := A.has15
instance (A : Held d R) : Has d R A.arg16 := A.has16
instance (A : Held d R) : Has d R A.arg17 := A.has17
instance (A : Held d R) : Has d R A.arg18 := A.has18

/-- These parts of the body only load and store. -/
theorem edges (A : Held d R) : A.Ok (k0_part1 (F := F)) ∧ A.Ok (k0_part2 (F := F)) ∧ A.Ok (k0_part3 (F := F)) ∧ A.Ok (k0_part4 (F := F)) ∧ A.Ok (k0_part5 (F := F)) ∧ A.Ok (k0_part6 (F := F)) ∧ A.Ok (k0_part7 (F := F)) ∧ A.Ok (k0_part8 (F := F)) ∧ A.Ok (k0_part9 (F := F)) ∧ A.Ok (k0_part10 (F := F)) ∧ A.Ok (k0_part11 (F := F)) ∧ A.Ok (k0_part12 (F := F)) ∧ A.Ok (k0_part13 (F := F)) ∧ A.Ok (k0_part14 (F := F)) ∧ A.Ok (k0_part15 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem first (A : Held d R) : A.Ok (k0_part16 (F := F)) ∧ A.Ok (k0_part17 (F := F)) ∧ A.Ok (k0_part18 (F := F)) ∧ A.Ok (k0_part19 (F := F)) ∧ A.Ok (k0_part20 (F := F)) ∧ A.Ok (k0_part21 (F := F)) ∧ A.Ok (k0_part22 (F := F)) ∧ A.Ok (k0_part23 (F := F)) ∧ A.Ok (k0_part24 (F := F)) ∧ A.Ok (k0_part25 (F := F)) ∧ A.Ok (k0_part26 (F := F)) ∧ A.Ok (k0_part27 (F := F)) ∧ A.Ok (k0_part28 (F := F)) ∧ A.Ok (k0_part29 (F := F)) ∧ A.Ok (k0_part30 (F := F)) ∧ A.Ok (k0_part31 (F := F)) ∧ A.Ok (k0_part32 (F := F)) ∧ A.Ok (k0_part33 (F := F)) ∧ A.Ok (k0_part34 (F := F)) ∧ A.Ok (k0_part35 (F := F)) ∧ A.Ok (k0_part36 (F := F)) ∧ A.Ok (k0_part37 (F := F)) ∧ A.Ok (k0_part38 (F := F)) ∧ A.Ok (k0_part39 (F := F)) ∧ A.Ok (k0_part40 (F := F)) ∧ A.Ok (k0_part41 (F := F)) ∧ A.Ok (k0_part42 (F := F)) ∧ A.Ok (k0_part43 (F := F)) ∧ A.Ok (k0_part44 (F := F)) ∧ A.Ok (k0_part45 (F := F)) ∧ A.Ok (k0_part46 (F := F)) ∧ A.Ok (k0_part47 (F := F)) ∧ A.Ok (k0_part48 (F := F)) ∧ A.Ok (k0_part49 (F := F)) ∧ A.Ok (k0_part50 (F := F)) ∧ A.Ok (k0_part51 (F := F)) ∧ A.Ok (k0_part52 (F := F)) ∧ A.Ok (k0_part53 (F := F)) ∧ A.Ok (k0_part54 (F := F)) ∧ A.Ok (k0_part55 (F := F)) ∧ A.Ok (k0_part56 (F := F)) ∧ A.Ok (k0_part57 (F := F)) ∧ A.Ok (k0_part58 (F := F)) ∧ A.Ok (k0_part59 (F := F)) ∧ A.Ok (k0_part60 (F := F)) ∧ A.Ok (k0_part61 (F := F)) ∧ A.Ok (k0_part62 (F := F)) ∧ A.Ok (k0_part63 (F := F)) ∧ A.Ok (k0_part64 (F := F)) ∧ A.Ok (k0_part65 (F := F)) ∧ A.Ok (k0_part66 (F := F)) ∧ A.Ok (k0_part67 (F := F)) ∧ A.Ok (k0_part68 (F := F)) ∧ A.Ok (k0_part69 (F := F)) ∧ A.Ok (k0_part70 (F := F)) ∧ A.Ok (k0_part71 (F := F)) ∧ A.Ok (k0_part72 (F := F)) ∧ A.Ok (k0_part73 (F := F)) ∧ A.Ok (k0_part74 (F := F)) ∧ A.Ok (k0_part75 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem second (A : Held d R) : A.Ok (k0_part76 (F := F)) ∧ A.Ok (k0_part77 (F := F)) ∧ A.Ok (k0_part78 (F := F)) ∧ A.Ok (k0_part79 (F := F)) ∧ A.Ok (k0_part80 (F := F)) ∧ A.Ok (k0_part81 (F := F)) ∧ A.Ok (k0_part82 (F := F)) ∧ A.Ok (k0_part83 (F := F)) ∧ A.Ok (k0_part84 (F := F)) ∧ A.Ok (k0_part85 (F := F)) ∧ A.Ok (k0_part86 (F := F)) ∧ A.Ok (k0_part87 (F := F)) ∧ A.Ok (k0_part88 (F := F)) ∧ A.Ok (k0_part89 (F := F)) ∧ A.Ok (k0_part90 (F := F)) ∧ A.Ok (k0_part91 (F := F)) ∧ A.Ok (k0_part92 (F := F)) ∧ A.Ok (k0_part93 (F := F)) ∧ A.Ok (k0_part94 (F := F)) ∧ A.Ok (k0_part95 (F := F)) ∧ A.Ok (k0_part96 (F := F)) ∧ A.Ok (k0_part97 (F := F)) ∧ A.Ok (k0_part98 (F := F)) ∧ A.Ok (k0_part99 (F := F)) ∧ A.Ok (k0_part100 (F := F)) ∧ A.Ok (k0_part101 (F := F)) ∧ A.Ok (k0_part102 (F := F)) ∧ A.Ok (k0_part103 (F := F)) ∧ A.Ok (k0_part104 (F := F)) ∧ A.Ok (k0_part105 (F := F)) ∧ A.Ok (k0_part106 (F := F)) ∧ A.Ok (k0_part107 (F := F)) ∧ A.Ok (k0_part108 (F := F)) ∧ A.Ok (k0_part109 (F := F)) ∧ A.Ok (k0_part110 (F := F)) ∧ A.Ok (k0_part111 (F := F)) ∧ A.Ok (k0_part112 (F := F)) ∧ A.Ok (k0_part113 (F := F)) ∧ A.Ok (k0_part114 (F := F)) ∧ A.Ok (k0_part115 (F := F)) ∧ A.Ok (k0_part116 (F := F)) ∧ A.Ok (k0_part117 (F := F)) ∧ A.Ok (k0_part118 (F := F)) ∧ A.Ok (k0_part119 (F := F)) ∧ A.Ok (k0_part120 (F := F)) ∧ A.Ok (k0_part121 (F := F)) ∧ A.Ok (k0_part122 (F := F)) ∧ A.Ok (k0_part123 (F := F)) ∧ A.Ok (k0_part124 (F := F)) ∧ A.Ok (k0_part125 (F := F)) ∧ A.Ok (k0_part126 (F := F)) ∧ A.Ok (k0_part127 (F := F)) ∧ A.Ok (k0_part128 (F := F)) ∧ A.Ok (k0_part129 (F := F)) ∧ A.Ok (k0_part130 (F := F)) ∧ A.Ok (k0_part131 (F := F)) ∧ A.Ok (k0_part132 (F := F)) ∧ A.Ok (k0_part133 (F := F)) ∧ A.Ok (k0_part134 (F := F)) ∧ A.Ok (k0_part135 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem third (A : Held d R) : A.Ok (k0_part136 (F := F)) ∧ A.Ok (k0_part137 (F := F)) ∧ A.Ok (k0_part138 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem fourth (A : Held d R) : A.Ok (k0_part141 (F := F)) ∧ A.Ok (k0_part142 (F := F)) ∧ A.Ok (k0_part143 (F := F)) ∧ A.Ok (k0_part144 (F := F)) ∧ A.Ok (k0_part145 (F := F)) ∧ A.Ok (k0_part146 (F := F)) ∧ A.Ok (k0_part147 (F := F)) ∧ A.Ok (k0_part148 (F := F)) ∧ A.Ok (k0_part149 (F := F)) ∧ A.Ok (k0_part150 (F := F)) ∧ A.Ok (k0_part151 (F := F)) ∧ A.Ok (k0_part152 (F := F)) ∧ A.Ok (k0_part153 (F := F)) ∧ A.Ok (k0_part154 (F := F)) ∧ A.Ok (k0_part155 (F := F)) ∧ A.Ok (k0_part156 (F := F)) ∧ A.Ok (k0_part157 (F := F)) ∧ A.Ok (k0_part158 (F := F)) ∧ A.Ok (k0_part159 (F := F)) ∧ A.Ok (k0_part160 (F := F)) ∧ A.Ok (k0_part161 (F := F)) ∧ A.Ok (k0_part162 (F := F)) ∧ A.Ok (k0_part163 (F := F)) ∧ A.Ok (k0_part164 (F := F)) ∧ A.Ok (k0_part165 (F := F)) ∧ A.Ok (k0_part166 (F := F)) ∧ A.Ok (k0_part167 (F := F)) ∧ A.Ok (k0_part168 (F := F)) ∧ A.Ok (k0_part169 (F := F)) ∧ A.Ok (k0_part170 (F := F)) ∧ A.Ok (k0_part171 (F := F)) ∧ A.Ok (k0_part172 (F := F)) ∧ A.Ok (k0_part173 (F := F)) ∧ A.Ok (k0_part174 (F := F)) ∧ A.Ok (k0_part175 (F := F)) ∧ A.Ok (k0_part176 (F := F)) ∧ A.Ok (k0_part177 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem fifth (A : Held d R) : A.Ok (k0_part179 (F := F)) ∧ A.Ok (k0_part180 (F := F)) ∧ A.Ok (k0_part181 (F := F)) ∧ A.Ok (k0_part182 (F := F)) ∧ A.Ok (k0_part183 (F := F)) ∧ A.Ok (k0_part184 (F := F)) ∧ A.Ok (k0_part185 (F := F)) ∧ A.Ok (k0_part186 (F := F)) ∧ A.Ok (k0_part187 (F := F)) ∧ A.Ok (k0_part188 (F := F)) ∧ A.Ok (k0_part189 (F := F)) ∧ A.Ok (k0_part190 (F := F)) ∧ A.Ok (k0_part191 (F := F)) ∧ A.Ok (k0_part192 (F := F)) ∧ A.Ok (k0_part193 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

/-- These parts of the body only load and store. -/
theorem sixth (A : Held d R) : A.Ok (k0_part195 (F := F)) ∧ A.Ok (k0_part196 (F := F)) ∧ A.Ok (k0_part197 (F := F)) ∧ A.Ok (k0_part198 (F := F)) ∧ A.Ok (k0_part199 (F := F)) ∧ A.Ok (k0_part200 (F := F)) ∧ A.Ok (k0_part201 (F := F)) ∧ A.Ok (k0_part202 (F := F)) ∧ A.Ok (k0_part203 (F := F)) ∧ A.Ok (k0_part206 (F := F)) ∧ A.Ok (k0_part207 (F := F)) ∧ A.Ok (k0_part208 (F := F)) ∧ A.Ok (k0_part209 (F := F)) := by
  and_intros
  all_goals repeat' (intro _)
  all_goals first | refine Keeps.bind ?_ fun _ => ?_ | exact Keeps.pure _
  all_goals repeat' with_reducible first
    | exact Keeps.pure _
    | exact Keeps.load
    | exact Keeps.store
    | refine Keeps.bind ?_ fun _ => ?_

end Cert.Kernel25Ideal.Attn

end
-- ==== Proof.AttnBody.lean ====
/- The attention's backward body keeps the buffers it is called on: its parts put together. -/
module

public import proofs.«01_k».proof.Proof.AttnParts

@[expose] public section

set_option synthInstance.maxSize 1024
set_option synthInstance.maxHeartbeats 400000
set_option maxHeartbeats 1000000

noncomputable section

namespace Cert.Kernel25Ideal.Attn

open Idealize.ShloMosaic Idealize.ShloMosaic.TcCoe
open Idealize.SL Idealize.SL.RA Idealize.SL.BI
open scoped Idealize.SL.BI
open Cert.Keep

variable {F : FTy → Type} [FloatOps F] [Facts]

variable {d : Dev nD} {R : sProp (MT nD τ sig Unit (Elt F) ℕ (UR sig nD τ) ℕ)}

/-- The first half of a trip of the first loop. -/
theorem firstHalf (A : Held d R) : A.Ok (k0_part139 (F := F)) := by
  obtain ⟨c16, c17, c18, c19, c20, c21, c22, c23, c24, c25, c26, c27, c28, c29, c30, c31, c32, c33, c34, c35, c36, c37, c38, c39, c40, c41, c42, c43, c44, c45, c46, c47, c48, c49, c50, c51, c52, c53, c54, c55, c56, c57, c58, c59, c60, c61, c62, c63, c64, c65, c66, c67, c68, c69, c70, c71, c72, c73, c74, c75⟩ := first A
  simp only [Held.Ok, Ends.all] at c16 c17 c18 c19 c20 c21 c22 c23 c24 c25 c26 c27 c28 c29 c30 c31 c32 c33 c34 c35 c36 c37 c38 c39 c40 c41 c42 c43 c44 c45 c46 c47 c48 c49 c50 c51 c52 c53 c54 c55 c56 c57 c58 c59 c60 c61 c62 c63 c64 c65 c66 c67 c68 c69 c70 c71 c72 c73 c74 c75
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c16 | apply c17 | apply c18 | apply c19 | apply c20 | apply c21 | apply c22 | apply c23 | apply c24 | apply c25 | apply c26 | apply c27 | apply c28 | apply c29 | apply c30 | apply c31 | apply c32 | apply c33 | apply c34 | apply c35 | apply c36 | apply c37 | apply c38 | apply c39 | apply c40 | apply c41 | apply c42 | apply c43 | apply c44 | apply c45 | apply c46 | apply c47 | apply c48 | apply c49 | apply c50 | apply c51 | apply c52 | apply c53 | apply c54 | apply c55 | apply c56 | apply c57 | apply c58 | apply c59 | apply c60 | apply c61 | apply c62 | apply c63 | apply c64 | apply c65 | apply c66 | apply c67 | apply c68 | apply c69 | apply c70 | apply c71 | apply c72 | apply c73 | apply c74 | apply c75
    | refine Keeps.bind ?_ fun _ => ?_

/-- The second half of such a trip. -/
theorem secondHalf (A : Held d R) : A.Ok (k0_part140 (F := F)) := by
  obtain ⟨c76, c77, c78, c79, c80, c81, c82, c83, c84, c85, c86, c87, c88, c89, c90, c91, c92, c93, c94, c95, c96, c97, c98, c99, c100, c101, c102, c103, c104, c105, c106, c107, c108, c109, c110, c111, c112, c113, c114, c115, c116, c117, c118, c119, c120, c121, c122, c123, c124, c125, c126, c127, c128, c129, c130, c131, c132, c133, c134, c135⟩ := second A
  simp only [Held.Ok, Ends.all] at c76 c77 c78 c79 c80 c81 c82 c83 c84 c85 c86 c87 c88 c89 c90 c91 c92 c93 c94 c95 c96 c97 c98 c99 c100 c101 c102 c103 c104 c105 c106 c107 c108 c109 c110 c111 c112 c113 c114 c115 c116 c117 c118 c119 c120 c121 c122 c123 c124 c125 c126 c127 c128 c129 c130 c131 c132 c133 c134 c135
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c76 | apply c77 | apply c78 | apply c79 | apply c80 | apply c81 | apply c82 | apply c83 | apply c84 | apply c85 | apply c86 | apply c87 | apply c88 | apply c89 | apply c90 | apply c91 | apply c92 | apply c93 | apply c94 | apply c95 | apply c96 | apply c97 | apply c98 | apply c99 | apply c100 | apply c101 | apply c102 | apply c103 | apply c104 | apply c105 | apply c106 | apply c107 | apply c108 | apply c109 | apply c110 | apply c111 | apply c112 | apply c113 | apply c114 | apply c115 | apply c116 | apply c117 | apply c118 | apply c119 | apply c120 | apply c121 | apply c122 | apply c123 | apply c124 | apply c125 | apply c126 | apply c127 | apply c128 | apply c129 | apply c130 | apply c131 | apply c132 | apply c133 | apply c134 | apply c135
    | refine Keeps.bind ?_ fun _ => ?_

/-- The trips of the two other loops. -/
theorem shortTrips (A : Held d R) : A.Ok (k0_part178 (F := F)) ∧ A.Ok (k0_part194 (F := F)) := by
  obtain ⟨c141, c142, c143, c144, c145, c146, c147, c148, c149, c150, c151, c152, c153, c154, c155, c156, c157, c158, c159, c160, c161, c162, c163, c164, c165, c166, c167, c168, c169, c170, c171, c172, c173, c174, c175, c176, c177⟩ := fourth A
  obtain ⟨c179, c180, c181, c182, c183, c184, c185, c186, c187, c188, c189, c190, c191, c192, c193⟩ := fifth A
  simp only [Held.Ok, Ends.all] at c141 c142 c143 c144 c145 c146 c147 c148 c149 c150 c151 c152 c153 c154 c155 c156 c157 c158 c159 c160 c161 c162 c163 c164 c165 c166 c167 c168 c169 c170 c171 c172 c173 c174 c175 c176 c177 c179 c180 c181 c182 c183 c184 c185 c186 c187 c188 c189 c190 c191 c192 c193
  and_intros
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c141 | apply c142 | apply c143 | apply c144 | apply c145 | apply c146 | apply c147 | apply c148 | apply c149 | apply c150 | apply c151 | apply c152 | apply c153 | apply c154 | apply c155 | apply c156 | apply c157 | apply c158 | apply c159 | apply c160 | apply c161 | apply c162 | apply c163 | apply c164 | apply c165 | apply c166 | apply c167 | apply c168 | apply c169 | apply c170 | apply c171 | apply c172 | apply c173 | apply c174 | apply c175 | apply c176 | apply c177 | apply c179 | apply c180 | apply c181 | apply c182 | apply c183 | apply c184 | apply c185 | apply c186 | apply c187 | apply c188 | apply c189 | apply c190 | apply c191 | apply c192 | apply c193
    | refine Keeps.bind ?_ fun _ => ?_

/-- What comes before the loops. -/
theorem ends (A : Held d R) : A.Ok (k0_part204 (F := F)) := by
  obtain ⟨c1, c2, c3, c4, c5, c6, c7, c8, c9, c10, c11, c12, c13, c14, c15⟩ := edges A
  simp only [Held.Ok, Ends.all] at c1 c2 c3 c4 c5 c6 c7 c8 c9 c10 c11 c12 c13 c14 c15
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c1 | apply c2 | apply c3 | apply c4 | apply c5 | apply c6 | apply c7 | apply c8 | apply c9 | apply c10 | apply c11 | apply c12 | apply c13 | apply c14 | apply c15
    | refine Keeps.bind ?_ fun _ => ?_

/-- The loops. -/
theorem loops (A : Held d R) : A.Ok (k0_part205 (F := F)) := by
  have c139 := firstHalf A
  have c140 := secondHalf A
  obtain ⟨c136, c137, c138⟩ := third A
  obtain ⟨c178, c194⟩ := shortTrips A
  simp only [Held.Ok, Ends.all] at c139 c140 c136 c137 c138 c178 c194
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c139 | apply c140 | apply c136 | apply c137 | apply c138 | apply c178 | apply c194
    | refine Keeps.bind ?_ fun _ => ?_

/-- The whole body but for its last store. -/
theorem whole (A : Held d R) : A.Ok (k0_part210 (F := F)) := by
  obtain ⟨c195, c196, c197, c198, c199, c200, c201, c202, c203, c206, c207, c208, c209⟩ := sixth A
  have c204 := ends A
  have c205 := loops A
  simp only [Held.Ok, Ends.all] at c195 c196 c197 c198 c199 c200 c201 c202 c203 c206 c207 c208 c209 c204 c205
  all_goals repeat' (intro _)
  all_goals first | refine Keeps.bind ?_ fun _ => ?_ | exact Keeps.pure _
  all_goals repeat' with_reducible first
    | exact Keeps.pure _
    | exact Keeps.load
    | exact Keeps.store
    | refine Keeps.loop fun _ _ => ?_
    | refine Keeps.dite (fun _ => ?_) fun _ => ?_
    | first | apply c195 | apply c196 | apply c197 | apply c198 | apply c199 | apply c200 | apply c201 | apply c202 | apply c203 | apply c206 | apply c207 | apply c208 | apply c209 | apply c204 | apply c205
    | refine Keeps.bind ?_ fun _ => ?_

/-- The whole body: whatever it computes, it ends holding the buffers it was called on. -/
theorem body (A : Held d R) : A.Ok (cc0_attn_bwd (F := F)) := by
  have c := whole A
  simp only [Held.Ok, Ends.all] at c
  refine Keeps.bind c fun _ => ?_
  repeat' with_reducible first
    | exact Keeps.pure _
    | exact Keeps.load
    | exact Keeps.store
    | refine Keeps.bind ?_ fun _ => ?_

end Cert.Kernel25Ideal.Attn

end
-- ==== Proof.AttnFrame.lean ====
/- The frame of the attention's backward call: every run ends, without fault, with the arguments as they were.
   Nothing is said of what the body leaves in a buffer; that it keeps the buffers is `Attn.body`. -/
module

public import proofs.«01_k».proof.Proof.Gen.Kernel25Ideal.Frame
public import proofs.«01_k».proof.Proof.AttnBody

@[expose] public section

set_option maxRecDepth 16384

noncomputable section

namespace Cert.Kernel25Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Keep Cert.Kernel25Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's data: the arrays as the region finds them, and no word on what the body leaves in a buffer. -/
def rdats (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What a grid point holds: its windows' buffers and the scratch, each at some contents, and what it does not touch. -/
abbrev held (c : Dev nD) (t : Fin cfg0.N) : sProp (MT nD τ sig Unit (Elt F) ℕ (UR sig nD τ) ℕ) :=
  iprop((∃ X, ownsTc c (win0_0.stage (cfg0.slots t 0)) fullShare X) ∗ (∃ X, ownsTc c (win0_1.stage (cfg0.slots t 1)) fullShare X) ∗ (∃ X, ownsTc c (win0_2.stage (cfg0.slots t 2)) fullShare X) ∗ (∃ X, ownsTc c (win0_3.stage (cfg0.slots t 3)) fullShare X) ∗ (∃ X, ownsTc c (win0_4.stage (cfg0.slots t 4)) fullShare X) ∗ (∃ X, ownsTc c (win0_5.stage (cfg0.slots t 5)) fullShare X) ∗ (∃ X, ownsTc c (win0_6.stage (cfg0.slots t 6)) fullShare X) ∗ (∃ X, ownsTc c (win0_7.stage (cfg0.slots t 7)) fullShare X) ∗ (∃ X, ownsTc c (win0_8.stage (cfg0.slots t 8)) fullShare X) ∗ (∃ X, ownsTc c (win0_9.stage (cfg0.slots t 9)) fullShare X) ∗ (∃ X, ownsTc c (win0_10.stage (cfg0.slots t 10)) fullShare X) ∗ (∃ X, ownsTc c (Memref.whole cc0_scratch0) fullShare X) ∗ (∃ X, ownsTc c (Memref.whole cc0_scratch1) fullShare X) ∗ (∃ X, ownsTc c (Memref.whole cc0_scratch2) fullShare X) ∗ (∃ X, ownsTc c (Memref.whole cc0_scratch3) fullShare X) ∗ (∃ X, ownsTc c (Memref.whole cc0_scratch4) fullShare X) ∗ (∃ X, ownsTc c (Memref.whole cc0_scratch5) fullShare X) ∗ ((∃ r, prngReg c r) ∗ (rdats m c).owesAt () t.castSucc))

/-- The buffers the body is called on at a point, among what is held. -/
def bufs (c : Dev nD) (t : Fin cfg0.N) : Held (F := F) c (held m c t) where
  i := grid0.coords t
  arg2 := (win0_0.stage (cfg0.slots t 0))
  whole2 := (hstage0_0 ((cfg0.slots t 0).cast nbuf0_0))
  has2 := (Has.head _)
  arg3 := (win0_1.stage (cfg0.slots t 1))
  whole3 := (hstage0_1 ((cfg0.slots t 1).cast nbuf0_1))
  has3 := (.tail (Has.head _))
  arg4 := (win0_2.stage (cfg0.slots t 2))
  whole4 := (hstage0_2 ((cfg0.slots t 2).cast nbuf0_2))
  has4 := (.tail (.tail (Has.head _)))
  arg5 := (win0_3.stage (cfg0.slots t 3))
  whole5 := (hstage0_3 ((cfg0.slots t 3).cast nbuf0_3))
  has5 := (.tail (.tail (.tail (Has.head _))))
  arg6 := (win0_4.stage (cfg0.slots t 4))
  whole6 := (hstage0_4 ((cfg0.slots t 4).cast nbuf0_4))
  has6 := (.tail (.tail (.tail (.tail (Has.head _)))))
  arg7 := (win0_5.stage (cfg0.slots t 5))
  whole7 := (hstage0_5 ((cfg0.slots t 5).cast nbuf0_5))
  has7 := (.tail (.tail (.tail (.tail (.tail (Has.head _))))))
  arg8 := (win0_6.stage (cfg0.slots t 6))
  whole8 := (hstage0_6 ((cfg0.slots t 6).cast nbuf0_6))
  has8 := (.tail (.tail (.tail (.tail (.tail (.tail (Has.head _)))))))
  arg9 := (win0_7.stage (cfg0.slots t 7))
  whole9 := (hstage0_7 ((cfg0.slots t 7).cast nbuf0_7))
  has9 := (.tail (.tail (.tail (.tail (.tail (.tail (.tail (Has.head _))))))))
  arg10 := (win0_8.stage (cfg0.slots t 8))
  whole10 := (hstage0_8 ((cfg0.slots t 8).cast nbuf0_8))
  has10 := (.tail (.tail (.tail (.tail (.tail (.tail (.tail (.tail (Has.head _)))))))))
  arg11 := (win0_9.stage (cfg0.slots t 9))
  whole11 := (hstage0_9 ((cfg0.slots t 9).cast nbuf0_9))
  has11 := (.tail (.tail (.tail (.tail (.tail (.tail (.tail (.tail (.tail (Has.head _))))))))))
  arg12 := (win0_10.stage (cfg0.slots t 10))
  whole12 := (hstage0_10 ((cfg0.slots t 10).cast nbuf0_10))
  has12 := (.tail (.tail (.tail (.tail (.tail (.tail (.tail (.tail (.tail (.tail (Has.head _)))))))))))
  arg13 := (Memref.whole cc0_scratch0)
  whole13 := (Memref.isWhole_whole _)
  has13 := (.tail (.tail (.tail (.tail (.tail (.tail (.tail (.tail (.tail (.tail (.tail (Has.head _))))))))))))
  arg14 := (Memref.whole cc0_scratch1)
  whole14 := (Memref.isWhole_whole _)
  has14 := (.tail (.tail (.tail (.tail (.tail (.tail (.tail (.tail (.tail (.tail (.tail (.tail (Has.head _)))))))))))))
  arg15 := (Memref.whole cc0_scratch2)
  whole15 := (Memref.isWhole_whole _)
  has15 := (.tail (.tail (.tail (.tail (.tail (.tail (.tail (.tail (.tail (.tail (.tail (.tail (.tail (Has.head _))))))))))))))
  arg16 := (Memref.whole cc0_scratch3)
  whole16 := (Memref.isWhole_whole _)
  has16 := (.tail (.tail (.tail (.tail (.tail (.tail (.tail (.tail (.tail (.tail (.tail (.tail (.tail (.tail (Has.head _)))))))))))))))
  arg17 := (Memref.whole cc0_scratch4)
  whole17 := (Memref.isWhole_whole _)
  has17 := (.tail (.tail (.tail (.tail (.tail (.tail (.tail (.tail (.tail (.tail (.tail (.tail (.tail (.tail (.tail (Has.head _))))))))))))))))
  arg18 := (Memref.whole cc0_scratch5)
  whole18 := (Memref.isWhole_whole _)
  has18 := (.tail (.tail (.tail (.tail (.tail (.tail (.tail (.tail (.tail (.tail (.tail (.tail (.tail (.tail (.tail (.tail (Has.head _)))))))))))))))))

theorem defs₀_row (t : Fin cfg0.N) : defs₀ (F := F) .tc cfg0.body (cfg0.bodyArgs t (cfg0.slots t)) = bodyAt0 t := by
  unfold defs₀; rw [Defs.onTc_tc]

/-- What the pipeline hands the body is what the body holds. -/
theorem held_of_pre (c : Dev nD) (t : Fin cfg0.N) (Y : (w : Fin cfg0.W) → (cfg0.win w).block.Idx → Elt F (cfg0.win w).elt) :
    iprop((rdats m c).Φ t.castSucc ∗ (rdats m c).owesAt () t.castSucc
        ∗ bigSep Finset.univ fun w => ownsTc c ((cfg0.win w).stage (cfg0.slots t w)) fullShare (Y w))
      ⊢ held m c t := by
  rw [show (rdats m c).Φ t.castSucc = Pipeline.ΦA spec0 c from rfl]
  unfold Pipeline.ΦA
  rw [bigSep_W0, scopedRest0_eq]
  iintro ⟨⟨⟨⟨%f0, S0⟩, ⟨%f1, S1⟩, ⟨%f2, S2⟩, ⟨%f3, S3⟩, ⟨%f4, S4⟩, ⟨%f5, S5⟩⟩, Hr⟩, Ho, W0, W1, W2, W3, W4, W5, W6, W7, W8, W9, W10⟩
  isplitl [W0]; · iexists Y 0; iexact W0
  isplitl [W1]; · iexists Y 1; iexact W1
  isplitl [W2]; · iexists Y 2; iexact W2
  isplitl [W3]; · iexists Y 3; iexact W3
  isplitl [W4]; · iexists Y 4; iexact W4
  isplitl [W5]; · iexists Y 5; iexact W5
  isplitl [W6]; · iexists Y 6; iexact W6
  isplitl [W7]; · iexists Y 7; iexact W7
  isplitl [W8]; · iexists Y 8; iexact W8
  isplitl [W9]; · iexists Y 9; iexact W9
  isplitl [W10]; · iexists Y 10; iexact W10
  isplitl [S0]; · iexists f0; rw [ownsTc, owns_whole]; iexact S0
  isplitl [S1]; · iexists f1; rw [ownsTc, owns_whole]; iexact S1
  isplitl [S2]; · iexists f2; rw [ownsTc, owns_whole]; iexact S2
  isplitl [S3]; · iexists f3; rw [ownsTc, owns_whole]; iexact S3
  isplitl [S4]; · iexists f4; rw [ownsTc, owns_whole]; iexact S4
  isplitl [S5]; · iexists f5; rw [ownsTc, owns_whole]; iexact S5
  isplitl [Hr]
  · iexact Hr
  · iexact Ho

/-- And what it holds at the end is what the pipeline asks back. -/
theorem post_of_held (c : Dev nD) (t : Fin cfg0.N) (Y : (w : Fin cfg0.W) → (cfg0.win w).block.Idx → Elt F (cfg0.win w).elt) :
    held m c t ⊢ iprop((rdats m c).Φ t.succ ∗ (rdats m c).owesAt () t.succ
        ∗ bigSep Finset.univ fun w => iprop(∃ X, ⌜(rdats m c).after w t (Y w) X⌝
            ∗ ownsTc c ((cfg0.win w).stage (cfg0.slots t w)) fullShare X)) := by
  rw [show (rdats m c).Φ t.succ = Pipeline.ΦA spec0 c from rfl,
    show (rdats m c).owesAt () t.succ = (rdats m c).owesAt () t.castSucc from rfl]
  unfold Pipeline.ΦA
  rw [bigSep_W0, scopedRest0_eq]
  iintro ⟨⟨%X0, W0⟩, ⟨%X1, W1⟩, ⟨%X2, W2⟩, ⟨%X3, W3⟩, ⟨%X4, W4⟩, ⟨%X5, W5⟩, ⟨%X6, W6⟩, ⟨%X7, W7⟩, ⟨%X8, W8⟩, ⟨%X9, W9⟩, ⟨%X10, W10⟩, ⟨%f0, S0⟩, ⟨%f1, S1⟩, ⟨%f2, S2⟩, ⟨%f3, S3⟩, ⟨%f4, S4⟩, ⟨%f5, S5⟩, Hr, Ho⟩
  simp only [ownsTc, owns_whole]
  isplitl [Hr S0 S1 S2 S3 S4 S5]
  · isplitl [S0 S1 S2 S3 S4 S5]
    · isplitl [S0]; · iexists f0; iexact S0
      isplitl [S1]; · iexists f1; iexact S1
      isplitl [S2]; · iexists f2; iexact S2
      isplitl [S3]; · iexists f3; iexact S3
      isplitl [S4]; · iexists f4; iexact S4
      iexists f5; iexact S5
    · iexact Hr
  isplitl [Ho]; · iexact Ho
  isplitl [W0]
  · iexists X0; isplitr
    · ipureintro; trivial
    · iexact W0
  isplitl [W1]
  · iexists X1; isplitr
    · ipureintro; trivial
    · iexact W1
  isplitl [W2]
  · iexists X2; isplitr
    · ipureintro; trivial
    · iexact W2
  isplitl [W3]
  · iexists X3; isplitr
    · ipureintro; trivial
    · iexact W3
  isplitl [W4]
  · iexists X4; isplitr
    · ipureintro; trivial
    · iexact W4
  isplitl [W5]
  · iexists X5; isplitr
    · ipureintro; trivial
    · iexact W5
  isplitl [W6]
  · iexists X6; isplitr
    · ipureintro; trivial
    · iexact W6
  isplitl [W7]
  · iexists X7; isplitr
    · ipureintro; trivial
    · iexact W7
  isplitl [W8]
  · iexists X8; isplitr
    · ipureintro; trivial
    · iexact W8
  isplitl [W9]
  · iexists X9; isplitr
    · ipureintro; trivial
    · iexact W9
  · iexists X10; isplitr
    · ipureintro; trivial
    · iexact W10

/-- The body meets the pipeline's obligation at every point. -/
theorem obligation (c : Dev nD) : (rdats m c).BodyObligation (defs₀ (F := F)) Variants.none () Set.univ := fun t Y _ => by
  rw [defs₀_row]
  have h := body (bufs m c t)
  exact (held_of_pre m c t Y).trans (h.run.trans (wp_mono _ _ _ fun _ => post_of_held m c t Y))

/-- Every run ends, with the arguments as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  RDat.θ_run_frame_track_shared cfgs 0 launch₀0 defs₀ Variants.none (rdats m) m ρ main (obligation m)
    (fun _ _ _ => rfl) (fun _ _ => rfl) (V m) (hmain m Variants.none) (fun _ _ => rfl) (fun _ => .rfl) (fun _ => .rfl) _
    fun r h => ⟨fun c =>
      ⟨(h.1.arr_in c 1 rfl).trans (V_main_arg0 m c), (h.1.arr_in c 8 rfl).trans (V_main_arg1 m c),
        (h.1.arr_in c 3 rfl).trans (V_main_arg2 m c), (h.1.arr_in c 2 rfl).trans (V_main_arg3 m c),
        (h.1.arr_in c 4 rfl).trans (V_main_arg4 m c)⟩, h.2⟩

end Cert.Kernel25Ideal.Attn

end
-- ==== Proof.AttnBoth.lean ====
/- The frame of the attention's backward call over the machine's floats, from the run that `Attn.frame` writes once over any.
   The two programs have one text: each definition of the one is the other's, and so is the run. -/
module

public import proofs.«01_k».proof.Proof.Gen.Kernel25
public import proofs.«01_k».proof.Proof.AttnFrame

@[expose] public section

set_option maxRecDepth 65536
set_option maxHeartbeats 8000000

noncomputable section

namespace Cert.Kernel25Ideal.Attn

open Idealize.ShloMosaic Idealize.SL.Sem

variable {F : FTy → Type} [FloatOps F]

/-- The two programs' bodies are one. -/
theorem defs₀_eq : @Kernel25.defs₀ F _ Kernel25.Gen.facts = @Kernel25Ideal.defs₀ F _ Kernel25Ideal.Gen.facts := by
  unfold Kernel25.defs₀ Kernel25Ideal.defs₀
  refine congrArg Defs.onTc ?_
  funext l a
  match l, a with
  | 0, (t, s) => rfl
  | ⟨_ + 1, h⟩, _ => exact absurd h (Nat.not_lt.2 (Nat.le_add_left _ _))

/-- And so are the bodies with the pipeline's. -/
theorem defs_eq : @Kernel25.defs F _ Kernel25.Gen.facts = @Kernel25Ideal.defs F _ Kernel25Ideal.Gen.facts := by
  unfold Kernel25.defs Kernel25Ideal.defs
  exact congrArg (Pipeline.defs Kernel25Ideal.pcfgs) defs₀_eq

/-- And what calls them. -/
theorem main_eq : @Kernel25.main F _ Kernel25.Gen.facts = @Kernel25Ideal.main F _ Kernel25Ideal.Gen.facts := by
  unfold Kernel25.main Kernel25Ideal.main
  rfl

end Cert.Kernel25Ideal.Attn
end
-- ==== Proof.NormEnds.lean ====
/-
  The norms between the layers and their gradients, over the extended reals, as arrays.
-/
module

public import proofs.«01_k».proof.Proof.NormSpec
public import Idealize.ShloMosaic.Lib.Pipeline.ValueKit

@[expose] public section

noncomputable section

open Idealize.ShloMosaic

namespace Norm

/-- A row of the arrays from its place in a block of 512. -/
def row512 (n : Fin 16) (r : Fin 512) : Fin 8192 := ⟨512 * n.val + r.val, by omega⟩

/-- `x` holds the 512 rows of `A` at block `n`. -/
abbrev Rows (A : (Mat.M 8192 1024).Idx → EReal) (n : Fin 16) (x : (Mat.M 512 1024).Idx → EReal) : Prop :=
  ∀ (r : Fin 512) (j : Fin 1024), x (ix2 r j) = A (ix2 (row512 n r) j)

/-- `x` holds the gain `G`. -/
abbrev Gain (G x : (Mat.M 1 1024).Idx → EReal) : Prop := ∀ j : Fin 1024, x (ix2 0 j) = G (ix2 0 j)

variable (D N K X M : (Mat.M 8192 1024).Idx → EReal) (G H : (Mat.M 1 1024).Idx → EReal)

/-- The norm of every row of `X`, times its gain. -/
def normArr : (Mat.M 8192 1024).Idx → EReal := fun i => hat (fun k => X (ix2 (i 0) k)) (i 1) * G (ix2 0 (i 1))

/-- `X` plus the norm of `M`, times its gain. -/
def addNormArr : (Mat.M 8192 1024).Idx → EReal := fun i => X i + hat (fun k => M (ix2 (i 0) k)) (i 1) * G (ix2 0 (i 1))

/-- The gradient by `M`, where `D` is the gradient by its norm. -/
def backArr : (Mat.M 8192 1024).Idx → EReal := fun i => back (fun k => D (ix2 (i 0) k) * G (ix2 0 k)) (fun k => M (ix2 (i 0) k)) (i 1)

/-- The gradient by `X`: `D` comes past its norms, `N` and `K` through the two of them. -/
def dx2Arr : (Mat.M 8192 1024).Idx → EReal := fun i =>
  dxArr D N G X i + back (fun k => K (ix2 (i 0) k) * H (ix2 0 k)) (fun k => X (ix2 (i 0) k)) (i 1)

/-- What a block of 512 rows adds to a gain's gradient. -/
def gTerm (n : Fin 16) (k : (Mat.M 1 1024).Idx) : EReal :=
  ∑ r : Fin 512, N (ix2 (row512 n r) (k 1)) * hat (fun l => X (ix2 (row512 n r) l)) (k 1)

/-- The blocks' shares of a gain's gradient are all of it. -/
theorem sum_gTerm (k : (Mat.M 1 1024).Idx) : ∑ n : Fin 16, gTerm N X n k = dg2Arr N X k := by
  unfold gTerm dg2Arr dg
  refine Fin.sum_mul_add_congr fun t r hl => ?_
  have e : row512 t r = ⟨t.val * 512 + r.val, hl⟩ :=
    Fin.ext (by show 512 * t.val + r.val = t.val * 512 + r.val; omega)
  rw [e]

end Norm

end
-- ==== Proof.NormLoss.lean ====
/-
  The gradient of a norm alone: the kernel's two result arrays after its run.
-/
module

public import proofs.«01_k».proof.Proof.NormEnds
public import proofs.«01_k».proof.Proof.Gen.Kernel26Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel26Ideal.NormLoss

open Cert.Kernel26Ideal Cert.Kernel26Ideal.Gen _root_.Norm

variable {D M : (Mat.M 8192 1024).Idx → EReal} {G : (Mat.M 1 1024).Idx → EReal}
variable {n : Fin 16} {x0 : Vec Ideal S512x1024 .f32} {x1 : Vec Ideal S512x1024 .bf16} {x2 : Vec Ideal S1x1024 .f32}

theorem hat_m (R : Rows M n x1) (r : Fin 512) (j : Fin 1024) : k0_pay3 x1 (ix2 r j) = hat (fun k => M (ix2 (row512 n r) k)) j := by
  pointwise [k0_pay3, k0_pay2, k0_pay1]
  simp only [R _ _]
  rfl

theorem rstd_m (R : Rows M n x1) (r : Fin 512) (z : Fin 1) : k0_pay2 x1 (ix2 r z) = rstd (fun k => M (ix2 (row512 n r) k)) := by
  pointwise [k0_pay2, k0_pay1]
  simp only [R _ _]
  rfl

theorem dm_row (hd : Rows D n x0) (hm : Rows M n x1) (hg : Gain G x2) (r : Fin 512) (j : Fin 1024) :
    k0_pay4 x0 x1 x2 (ix2 r j) = backArr D M G (ix2 (row512 n r) j) := by
  pointwise [k0_pay4]
  simp only [hat_m hm, rstd_m hm, hd _ _, hg _]
  rfl

theorem dg_row (hd : Rows D n x0) (hm : Rows M n x1) (xo : Vec Ideal S1x1024 .f32) (q : S1x1024.Idx) :
    k0_pay6 x0 x1 xo q = xo q + gTerm D M n q := by
  obtain ⟨z, j, rfl⟩ : ∃ (z : Fin 1) (j : Fin 1024), q = ix2 z j := ⟨q 0, q 1, eq_ix2 q⟩
  obtain rfl : z = 0 := Subsingleton.elim _ _
  pointwise [k0_pay6]
  simp only [hat_m hm, hd _ _]
  rfl

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![0, 0] ∧ win0_3.index t = ![t.val, 0] ∧
    win0_4.index t = ![0, 0] := by
  decide +kernel

/-- The last grid point. -/
def tLast : Fin cfg0.N := ⟨15, by decide⟩

/-- A grid point as a block number. -/
def blkNo (t : Fin cfg0.N) : Fin 16 := ⟨t.val, t.isLt⟩

/-- The three input blocks at a point hold the arguments' rows and the gain. -/
theorem reads (c : Dev nD) (t : Fin cfg0.N) :
    Rows (m ((c : Thread nD τ).loc main_arg0)) (blkNo t) (iblk m c 0 t) ∧ Rows (m ((c : Thread nD τ).loc main_arg1)) (blkNo t) (iblk m c 1 t)
      ∧ Gain (m ((c : Thread nD τ).loc main_arg2)) (iblk m c 2 t) := by
  have hN : t.val < 16 := t.isLt
  have hb : ∀ r, (row512 (blkNo t) r).val = 512 * t.val + r.val := fun _ => rfl
  refine ⟨?_, ?_, ?_⟩
  · intro r j; blk_ext [iblk, V, idx t, hb]
  · intro r j; blk_ext [iblk, V, idx t, hb]
  · intro j; blk_ext [iblk, V, idx t, hb]

/-- A row of the block a point leaves: the gradient by the normed array. -/
theorem point3 (c : Dev nD) (t : Fin cfg0.N) (r : Fin 512) (j : Fin 1024) :
    (outsAt0 m c t.val t.isLt).1 (ix2 r j) = backArr (m ((c : Thread nD τ).loc main_arg0)) (m ((c : Thread nD τ).loc main_arg1)) (m ((c : Thread nD τ).loc main_arg2)) (ix2 (row512 (blkNo t) r) j) := by
  obtain ⟨hd, hm, hg⟩ := reads m c t
  by_cases h : t.val % 16 = 0
  · rw [outsAt0_A m c t h]
    dsimp only
    frame_out
    exact dm_row hd hm hg r j
  · rw [outsAt0_B m c t h]
    dsimp only
    frame_out
    exact dm_row hd hm hg r j

/-- The whole array: the gradient by the normed array. -/
theorem arr3 (c : Dev nD) : (dats m 0 c).arrAt 3 cfg0.N = backArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_3]
  refine (point3 m c t r j).trans (congrArg _ ?_)
  have hb : ∀ r, (row512 (blkNo t) r).val = 512 * t.val + r.val := fun _ => rfl
  blk_ext [idx t, hb]

/-- The whole array: the gain's gradient. -/
theorem arr4 (c : Dev nD) : (dats m 0 c).arrAt 4 cfg0.N = dg2Arr (m ((c : Thread nD τ).loc main_arg0)) (m ((c : Thread nD τ).loc main_arg1)) := by
  refine (dats m 0 c).arrAt_eq_of_after_last 4 tLast (by decide +kernel) _ fun j => ?_
  blk_simp
  rw [after0_4]
  refine (Pipeline.eq_sum_fin_of_reset_step_apply_last (fun n h => (outsAt0 m c n h).2) 16 (fun _ => (0 : EReal))
    (fun t k => gTerm (m ((c : Thread nD τ).loc main_arg0)) (m ((c : Thread nD τ).loc main_arg1)) (blkNo t) k)
    (fun t h k => by
      obtain ⟨hd, hm, hg⟩ := reads m c t
      show (outsAt0 m c t.val t.isLt).2 k = 0 + _
      rw [outsAt0_A m c t h]
      dsimp only
      frame_out
      refine (dg_row hd hm (k0_pay5 (F := Ideal)) k).trans ?_
      congr 1
      pointwise [k0_pay5])
    (fun t h k => by
      obtain ⟨hd, hm, hg⟩ := reads m c t
      show (outsAt0 m c t.val t.isLt).2 k = (outsAt0 m c (t.val - 1) _).2 k + _
      rw [outsAt0_B m c t h]
      dsimp only
      frame_out
      exact dg_row hd hm _ k)
    (by decide) tLast rfl j).trans ?_
  rw [zero_add]
  exact sum_gTerm _ _ j

variable (ρ : Dev nD → PrngReg)

/-- The kernel's run: the two gradients, and the arguments as they were. -/
theorem run : θ_run defs (onTc (τ := τ) (main (F := Ideal))) ⟨m, fun _ => 0, ρ⟩ fun r => ∀ c : Dev nD,
      r.2.mem ((c : Thread nD τ).loc main_v0_0) = backArr (m ((c : Thread nD τ).loc main_arg0)) (m ((c : Thread nD τ).loc main_arg1)) (m ((c : Thread nD τ).loc main_arg2))
      ∧ r.2.mem ((c : Thread nD τ).loc main_v0_1) = dg2Arr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2.1.trans (arr4 m c), (h c).2.2⟩) (Value.run_blocks m ρ)

end Cert.Kernel26Ideal.NormLoss

end
-- ==== Proof.NormLossRef.lean ====
/-
  The gradient of a norm alone: the reference's value of it.
-/
module

public import proofs.«01_k».proof.Proof.NormEnds
public import proofs.«01_k».proof.Proof.Gen.Reference26Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference26Ideal.NormLoss

open Cert.Reference26Ideal _root_.Norm

variable (m : (ℓ : Loc nD τ sig) → Buf (Elt Ideal) ℓ)

/-- The reference's run: the two gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v35) = backArr (m ((c : Thread nD τ).loc main_arg0)) (m ((c : Thread nD τ).loc main_arg1)) (m ((c : Thread nD τ).loc main_arg2))
      ∧ r.2.mem ((c : Thread nD τ).loc main_v18) = dg2Arr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2.1.trans ?_, (h c).2.2⟩) (Value.run m ρ)
  · clear h r
    unfold Value.res_main_v35
    clean_types
    funext i
    obtain ⟨p, q, rfl⟩ : ∃ (p : Fin 8192) (q : Fin 1024), i = ix2 p q := ⟨i 0, i 1, eq_ix2 i⟩
    pointwise [backArr]
    rw [← back_eq, add_assoc, Fin.sum_univ_one]
    rfl
  · clear h r
    clean_types
    funext i
    obtain ⟨p, q, rfl⟩ : ∃ (p : Fin 1) (q : Fin 1024), i = ix2 p q := ⟨i 0, i 1, eq_ix2 i⟩
    pointwise [dg2Arr, dg, hat, rstd, ms, width, eps]
    exact Finset.sum_congr rfl fun k _ => mul_comm _ _

end Cert.Reference26Ideal.NormLoss

end
-- ==== Proof.NormBack.lean ====
/-
  The gradient of one norm of the residual, added to the residual's: the kernel's two result arrays after its run.
-/
module

public import proofs.«01_k».proof.Proof.NormEnds
public import proofs.«01_k».proof.Proof.Gen.Kernel27Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel27Ideal.NormBack

open Cert.Kernel27Ideal Cert.Kernel27Ideal.Gen _root_.Norm

variable {D N X : (Mat.M 8192 1024).Idx → EReal} {G : (Mat.M 1 1024).Idx → EReal}
variable {n : Fin 16} {x0 x1 : Vec Ideal S512x1024 .f32} {x2 : Vec Ideal S512x1024 .bf16} {x3 : Vec Ideal S1x1024 .f32}

theorem hat_x (R : Rows X n x1) (r : Fin 512) (j : Fin 1024) : k0_pay3 x1 (ix2 r j) = hat (fun k => X (ix2 (row512 n r) k)) j := by
  pointwise [k0_pay3, k0_pay1]
  simp only [R _ _]
  rfl

theorem rstd_x (R : Rows X n x1) (r : Fin 512) (z : Fin 1) : k0_pay1 x1 (ix2 r z) = rstd (fun k => X (ix2 (row512 n r) k)) := by
  pointwise [k0_pay1]
  simp only [R _ _]
  rfl

theorem dx_row (hd : Rows D n x0) (hx : Rows X n x1) (hn : Rows N n x2) (hg : Gain G x3) (r : Fin 512) (j : Fin 1024) :
    k0_pay4 x0 x1 x2 x3 (ix2 r j) = dxArr D N G X (ix2 (row512 n r) j) := by
  pointwise [k0_pay4, k0_pay2]
  simp only [hat_x hx, rstd_x hx, hd _ _, hn _ _, hg _]
  rfl

theorem dg_row (hx : Rows X n x1) (hn : Rows N n x2) (xo : Vec Ideal S1x1024 .f32) (q : S1x1024.Idx) :
    k0_pay6 x1 x2 xo q = xo q + gTerm N X n q := by
  obtain ⟨z, j, rfl⟩ : ∃ (z : Fin 1) (j : Fin 1024), q = ix2 z j := ⟨q 0, q 1, eq_ix2 q⟩
  obtain rfl : z = 0 := Subsingleton.elim _ _
  pointwise [k0_pay6, k0_pay2]
  simp only [hat_x hx, hn _ _]
  rfl

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![t.val, 0] ∧ win0_3.index t = ![0, 0] ∧
    win0_4.index t = ![t.val, 0] ∧ win0_5.index t = ![0, 0] := by
  decide +kernel

/-- The last grid point. -/
def tLast : Fin cfg0.N := ⟨15, by decide⟩

/-- A grid point as a block number. -/
def blkNo (t : Fin cfg0.N) : Fin 16 := ⟨t.val, t.isLt⟩

/-- The four input blocks at a point hold the arguments' rows and the gain. -/
theorem reads (c : Dev nD) (t : Fin cfg0.N) :
    Rows (m ((c : Thread nD τ).loc main_arg0)) (blkNo t) (iblk m c 0 t) ∧ Rows (m ((c : Thread nD τ).loc main_arg3)) (blkNo t) (iblk m c 1 t)
      ∧ Rows (m ((c : Thread nD τ).loc main_arg1)) (blkNo t) (iblk m c 2 t) ∧ Gain (m ((c : Thread nD τ).loc main_arg2)) (iblk m c 3 t) := by
  have hN : t.val < 16 := t.isLt
  have hb : ∀ r, (row512 (blkNo t) r).val = 512 * t.val + r.val := fun _ => rfl
  refine ⟨?_, ?_, ?_, ?_⟩
  · intro r j; blk_ext [iblk, V, idx t, hb]
  · intro r j; blk_ext [iblk, V, idx t, hb]
  · intro r j; blk_ext [iblk, V, idx t, hb]
  · intro j; blk_ext [iblk, V, idx t, hb]

/-- A row of the block a point leaves: the gradient by the residual. -/
theorem point4 (c : Dev nD) (t : Fin cfg0.N) (r : Fin 512) (j : Fin 1024) :
    (outsAt0 m c t.val t.isLt).1 (ix2 r j) = dxArr (m ((c : Thread nD τ).loc main_arg0)) (m ((c : Thread nD τ).loc main_arg1)) (m ((c : Thread nD τ).loc main_arg2)) (m ((c : Thread nD τ).loc main_arg3)) (ix2 (row512 (blkNo t) r) j) := by
  obtain ⟨hd, hx, hn, hg⟩ := reads m c t
  by_cases h : t.val % 16 = 0
  · rw [outsAt0_A m c t h]
    dsimp only
    frame_out
    exact dx_row hd hx hn hg r j
  · rw [outsAt0_B m c t h]
    dsimp only
    frame_out
    exact dx_row hd hx hn hg r j

/-- The whole array: the gradient by the residual. -/
theorem arr4 (c : Dev nD) : (dats m 0 c).arrAt 4 cfg0.N = dxArr (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_4]
  refine (point4 m c t r j).trans (congrArg _ ?_)
  have hb : ∀ r, (row512 (blkNo t) r).val = 512 * t.val + r.val := fun _ => rfl
  blk_ext [idx t, hb]

/-- The whole array: the gain's gradient. -/
theorem arr5 (c : Dev nD) : (dats m 0 c).arrAt 5 cfg0.N = dg2Arr (m ((c : Thread nD τ).loc main_arg1)) (m ((c : Thread nD τ).loc main_arg3)) := by
  refine (dats m 0 c).arrAt_eq_of_after_last 5 tLast (by decide +kernel) _ fun j => ?_
  blk_simp
  rw [after0_5]
  refine (Pipeline.eq_sum_fin_of_reset_step_apply_last (fun n h => (outsAt0 m c n h).2) 16 (fun _ => (0 : EReal))
    (fun t k => gTerm (m ((c : Thread nD τ).loc main_arg1)) (m ((c : Thread nD τ).loc main_arg3)) (blkNo t) k)
    (fun t h k => by
      obtain ⟨hd, hx, hn, hg⟩ := reads m c t
      show (outsAt0 m c t.val t.isLt).2 k = 0 + _
      rw [outsAt0_A m c t h]
      dsimp only
      frame_out
      refine (dg_row hx hn (k0_pay5 (F := Ideal)) k).trans ?_
      congr 1
      pointwise [k0_pay5])
    (fun t h k => by
      obtain ⟨hd, hx, hn, hg⟩ := reads m c t
      show (outsAt0 m c t.val t.isLt).2 k = (outsAt0 m c (t.val - 1) _).2 k + _
      rw [outsAt0_B m c t h]
      dsimp only
      frame_out
      exact dg_row hx hn _ k)
    (by decide) tLast rfl j).trans ?_
  rw [zero_add]
  exact sum_gTerm _ _ j

variable (ρ : Dev nD → PrngReg)

/-- The kernel's run: the two gradients, and the arguments as they were. -/
theorem run : θ_run defs (onTc (τ := τ) (main (F := Ideal))) ⟨m, fun _ => 0, ρ⟩ fun r => ∀ c : Dev nD,
      r.2.mem ((c : Thread nD τ).loc main_v0_0) = dxArr (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = dg2Arr (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

end Cert.Kernel27Ideal.NormBack

end
-- ==== Proof.NormBackRef.lean ====
/-
  The gradient of one norm of the residual, added to the residual's: the reference's value of it.
-/
module

public import proofs.«01_k».proof.Proof.NormEnds
public import proofs.«01_k».proof.Proof.Gen.Reference27Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference27Ideal.NormBack

open Cert.Reference27Ideal _root_.Norm

variable (m : (ℓ : Loc nD τ sig) → Buf (Elt Ideal) ℓ)

/-- The reference's run: the two gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v35) = dxArr (m ((c : Thread nD τ).loc main_arg0)) (m ((c : Thread nD τ).loc main_arg1)) (m ((c : Thread nD τ).loc main_arg2)) (m ((c : Thread nD τ).loc main_arg3))
      ∧ r.2.mem ((c : Thread nD τ).loc main_v18) = dg2Arr (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2.1.trans ?_, (h c).2.2⟩) (Value.run m ρ)
  · clear h r
    clean_types
    funext i
    obtain ⟨p, q, rfl⟩ : ∃ (p : Fin 8192) (q : Fin 1024), i = ix2 p q := ⟨i 0, i 1, eq_ix2 i⟩
    pointwise [dxArr, dx]
    rw [← back_eq, add_assoc, Fin.sum_univ_one]
    rfl
  · clear h r
    clean_types
    funext i
    obtain ⟨p, q, rfl⟩ : ∃ (p : Fin 1) (q : Fin 1024), i = ix2 p q := ⟨i 0, i 1, eq_ix2 i⟩
    pointwise [dg2Arr, dg, hat, rstd, ms, width, eps]
    exact Finset.sum_congr rfl fun k _ => mul_comm _ _

end Cert.Reference27Ideal.NormBack

end
-- ==== Proof.NormBack2.lean ====
/-
  The gradient of the two norms of one residual, added to the residual's: the kernel's three result arrays after its run.
-/
module

public import proofs.«01_k».proof.Proof.NormEnds
public import proofs.«01_k».proof.Proof.Gen.Kernel28Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel28Ideal.NormBack2

open Cert.Kernel28Ideal Cert.Kernel28Ideal.Gen _root_.Norm

variable {D N K X : (Mat.M 8192 1024).Idx → EReal} {G H : (Mat.M 1 1024).Idx → EReal}
variable {n : Fin 16} {x0 x1 : Vec Ideal S512x1024 .f32} {x2 x4 : Vec Ideal S512x1024 .bf16} {x3 x5 : Vec Ideal S1x1024 .f32}

theorem rstd_x (R : Rows X n x1) (r : Fin 512) (z : Fin 1) : k0_pay6 x1 (ix2 r z) = rstd (fun k => X (ix2 (row512 n r) k)) := by
  pointwise [k0_pay6]
  simp only [R _ _]
  rfl

theorem hat_x (R : Rows X n x1) (r : Fin 512) (j : Fin 1024) : k0_pay8 x1 (ix2 r j) = hat (fun k => X (ix2 (row512 n r) k)) j := by
  pointwise [k0_pay8]
  simp only [rstd_x R, R _ _]
  rfl

theorem hat_x' (R : Rows X n x1) (r : Fin 512) (j : Fin 1024) : k0_pay2 x1 (k0_pay6 x1) (ix2 r j) = hat (fun k => X (ix2 (row512 n r) k)) j := by
  pointwise [k0_pay2]
  simp only [rstd_x R, R _ _]
  rfl

/-- With the first norm's gradient added. -/
theorem dx_row (hd : Rows D n x0) (hx : Rows X n x1) (hn : Rows N n x2) (hg : Gain G x3) (r : Fin 512) (j : Fin 1024) :
    k0_pay9 x0 x1 x2 x3 (ix2 r j) = dxArr D N G X (ix2 (row512 n r) j) := by
  pointwise [k0_pay9, k0_pay7]
  simp only [hat_x hx, rstd_x hx, hd _ _, hn _ _, hg _]
  rfl

/-- With both norms' gradients added. -/
theorem dx2_row (hd : Rows D n x0) (hx : Rows X n x1) (hn : Rows N n x2) (hg : Gain G x3) (hk : Rows K n x4) (hh : Gain H x5) (r : Fin 512) (j : Fin 1024) :
    k0_pay3 x1 (k0_pay6 x1) (k0_pay9 x0 x1 x2 x3) x4 x5 (ix2 r j) = dx2Arr D N K X G H (ix2 (row512 n r) j) := by
  pointwise [k0_pay3, k0_pay1]
  simp only [hat_x' hx, rstd_x hx, dx_row hd hx hn hg, hk _ _, hh _]
  rfl

theorem dg_row (hx : Rows X n x1) (hn : Rows N n x2) (xo : Vec Ideal S1x1024 .f32) (q : S1x1024.Idx) :
    k0_pay11 x1 x2 xo q = xo q + gTerm N X n q := by
  obtain ⟨z, j, rfl⟩ : ∃ (z : Fin 1) (j : Fin 1024), q = ix2 z j := ⟨q 0, q 1, eq_ix2 q⟩
  obtain rfl : z = 0 := Subsingleton.elim _ _
  pointwise [k0_pay11, k0_pay7]
  simp only [hat_x hx, hn _ _]
  rfl

theorem dgk_row (hx : Rows X n x1) (hk : Rows K n x4) (xo : Vec Ideal S1x1024 .f32) (q : S1x1024.Idx) :
    k0_pay5 x1 (k0_pay6 x1) x4 xo q = xo q + gTerm K X n q := by
  obtain ⟨z, j, rfl⟩ : ∃ (z : Fin 1) (j : Fin 1024), q = ix2 z j := ⟨q 0, q 1, eq_ix2 q⟩
  obtain rfl : z = 0 := Subsingleton.elim _ _
  pointwise [k0_pay5, k0_pay1]
  simp only [hat_x' hx, hk _ _]
  rfl

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![t.val, 0] ∧ win0_3.index t = ![0, 0] ∧
    win0_4.index t = ![t.val, 0] ∧ win0_5.index t = ![0, 0] ∧ win0_6.index t = ![t.val, 0] ∧ win0_7.index t = ![0, 0] ∧
    win0_8.index t = ![0, 0] := by
  decide +kernel

/-- The last grid point. -/
def tLast : Fin cfg0.N := ⟨15, by decide⟩

/-- A grid point as a block number. -/
def blkNo (t : Fin cfg0.N) : Fin 16 := ⟨t.val, t.isLt⟩

/-- The six input blocks at a point hold the arguments' rows and the gains. -/
theorem reads (c : Dev nD) (t : Fin cfg0.N) :
    Rows (m ((c : Thread nD τ).loc main_arg0)) (blkNo t) (iblk m c 0 t) ∧ Rows (m ((c : Thread nD τ).loc main_arg5)) (blkNo t) (iblk m c 1 t)
      ∧ Rows (m ((c : Thread nD τ).loc main_arg1)) (blkNo t) (iblk m c 2 t) ∧ Gain (m ((c : Thread nD τ).loc main_arg2)) (iblk m c 3 t)
      ∧ Rows (m ((c : Thread nD τ).loc main_arg3)) (blkNo t) (iblk m c 4 t) ∧ Gain (m ((c : Thread nD τ).loc main_arg4)) (iblk m c 5 t) := by
  have hN : t.val < 16 := t.isLt
  have hb : ∀ r, (row512 (blkNo t) r).val = 512 * t.val + r.val := fun _ => rfl
  refine ⟨?_, ?_, ?_, ?_, ?_, ?_⟩
  · intro r j; blk_ext [iblk, V, idx t, hb]
  · intro r j; blk_ext [iblk, V, idx t, hb]
  · intro r j; blk_ext [iblk, V, idx t, hb]
  · intro j; blk_ext [iblk, V, idx t, hb]
  · intro r j; blk_ext [iblk, V, idx t, hb]
  · intro j; blk_ext [iblk, V, idx t, hb]

/-- A row of the block a point leaves: the gradient by the residual. -/
theorem point6 (c : Dev nD) (t : Fin cfg0.N) (r : Fin 512) (j : Fin 1024) :
    (outsAt0 m c t.val t.isLt).1 (ix2 r j) = dx2Arr (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4)) (ix2 (row512 (blkNo t) r) j) := by
  obtain ⟨hd, hx, hn, hg, hk, hh⟩ := reads m c t
  by_cases h : t.val % 16 = 0
  · rw [outsAt0_A m c t h h]
    dsimp only
    frame_out
    exact dx2_row hd hx hn hg hk hh r j
  · rw [outsAt0_B m c t h h]
    dsimp only
    frame_out
    exact dx2_row hd hx hn hg hk hh r j

/-- The whole array: the gradient by the residual. -/
theorem arr6 (c : Dev nD) : (dats m 0 c).arrAt 6 cfg0.N = dx2Arr (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4)) := by
  refine (dats m 0 c).arrAt_eq_of_covers 6 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_6]
  refine (point6 m c t r j).trans (congrArg _ ?_)
  have hb : ∀ r, (row512 (blkNo t) r).val = 512 * t.val + r.val := fun _ => rfl
  blk_ext [idx t, hb]

/-- The whole array: the first gain's gradient. -/
theorem arr7 (c : Dev nD) : (dats m 0 c).arrAt 7 cfg0.N = dg2Arr (m ((c : Thread nD τ).loc main_arg1)) (m ((c : Thread nD τ).loc main_arg5)) := by
  refine (dats m 0 c).arrAt_eq_of_after_last 7 tLast (by decide +kernel) _ fun j => ?_
  blk_simp
  rw [after0_7]
  refine (Pipeline.eq_sum_fin_of_reset_step_apply_last (fun n h => (outsAt0 m c n h).2.1) 16 (fun _ => (0 : EReal))
    (fun t k => gTerm (m ((c : Thread nD τ).loc main_arg1)) (m ((c : Thread nD τ).loc main_arg5)) (blkNo t) k)
    (fun t h k => by
      obtain ⟨hd, hx, hn, hg, hk, hh⟩ := reads m c t
      show (outsAt0 m c t.val t.isLt).2.1 k = 0 + _
      rw [outsAt0_A m c t h h]
      dsimp only
      frame_out
      refine (dg_row hx hn (k0_pay10 (F := Ideal)) k).trans ?_
      congr 1
      pointwise [k0_pay10])
    (fun t h k => by
      obtain ⟨hd, hx, hn, hg, hk, hh⟩ := reads m c t
      show (outsAt0 m c t.val t.isLt).2.1 k = (outsAt0 m c (t.val - 1) _).2.1 k + _
      rw [outsAt0_B m c t h h]
      dsimp only
      frame_out
      exact dg_row hx hn _ k)
    (by decide) tLast rfl j).trans ?_
  rw [zero_add]
  exact sum_gTerm _ _ j

/-- The whole array: the second gain's gradient. -/
theorem arr8 (c : Dev nD) : (dats m 0 c).arrAt 8 cfg0.N = dg2Arr (m ((c : Thread nD τ).loc main_arg3)) (m ((c : Thread nD τ).loc main_arg5)) := by
  refine (dats m 0 c).arrAt_eq_of_after_last 8 tLast (by decide +kernel) _ fun j => ?_
  blk_simp
  rw [after0_8]
  refine (Pipeline.eq_sum_fin_of_reset_step_apply_last (fun n h => (outsAt0 m c n h).2.2) 16 (fun _ => (0 : EReal))
    (fun t k => gTerm (m ((c : Thread nD τ).loc main_arg3)) (m ((c : Thread nD τ).loc main_arg5)) (blkNo t) k)
    (fun t h k => by
      obtain ⟨hd, hx, hn, hg, hk, hh⟩ := reads m c t
      show (outsAt0 m c t.val t.isLt).2.2 k = 0 + _
      rw [outsAt0_A m c t h h]
      dsimp only
      frame_out
      refine (dgk_row hx hk (k0_pay4 (F := Ideal)) k).trans ?_
      congr 1
      pointwise [k0_pay4])
    (fun t h k => by
      obtain ⟨hd, hx, hn, hg, hk, hh⟩ := reads m c t
      show (outsAt0 m c t.val t.isLt).2.2 k = (outsAt0 m c (t.val - 1) _).2.2 k + _
      rw [outsAt0_B m c t h h]
      dsimp only
      frame_out
      exact dgk_row hx hk _ k)
    (by decide) tLast rfl j).trans ?_
  rw [zero_add]
  exact sum_gTerm _ _ j

variable (ρ : Dev nD → PrngReg)

/-- The kernel's run: the three gradients, and the arguments as they were. -/
theorem run : θ_run defs (onTc (τ := τ) (main (F := Ideal))) ⟨m, fun _ => 0, ρ⟩ fun r => ∀ c : Dev nD,
      r.2.mem ((c : Thread nD τ).loc main_v0_0) = dx2Arr (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4))
      ∧ r.2.mem ((c : Thread nD τ).loc main_v0_1) = dg2Arr (m ((c : Thread nD τ).loc main_arg1)) (m ((c : Thread nD τ).loc main_arg5))
      ∧ r.2.mem ((c : Thread nD τ).loc main_v0_2) = dg2Arr (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arr6 m c), (h c).2.1.trans (arr7 m c), (h c).2.2.1.trans (arr8 m c), (h c).2.2.2⟩) (Value.run_blocks m ρ)

end Cert.Kernel28Ideal.NormBack2

end
-- ==== Proof.NormBack2Ref.lean ====
/-
  The gradient of the two norms of one residual, added to the residual's: the reference's value of it.
-/
module

public import proofs.«01_k».proof.Proof.NormEnds
public import proofs.«01_k».proof.Proof.Gen.Reference28Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference28Ideal.NormBack2

open Cert.Reference28Ideal _root_.Norm

variable (m : (ℓ : Loc nD τ sig) → Buf (Elt Ideal) ℓ)

/-- The reference's run: the three gradients, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v71) = dx2Arr (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4))
      ∧ r.2.mem ((c : Thread nD τ).loc main_v18) = dg2Arr (m ((c : Thread nD τ).loc main_arg1)) (m ((c : Thread nD τ).loc main_arg5))
      ∧ r.2.mem ((c : Thread nD τ).loc main_v53) = dg2Arr (m ((c : Thread nD τ).loc main_arg3)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2.1.trans ?_, (h c).2.2.1.trans ?_, (h c).2.2.2⟩) (Value.run m ρ)
  · clear h r
    unfold Value.res_main_v71
    clean_types
    funext i
    obtain ⟨p, q, rfl⟩ : ∃ (p : Fin 8192) (q : Fin 1024), i = ix2 p q := ⟨i 0, i 1, eq_ix2 i⟩
    pointwise [dx2Arr, dxArr, dx]
    rw [← back_eq, ← back_eq, Fin.sum_univ_one, Fin.sum_univ_one]
    simp only [add_assoc]
    rfl
  · clear h r
    clean_types
    funext i
    obtain ⟨p, q, rfl⟩ : ∃ (p : Fin 1) (q : Fin 1024), i = ix2 p q := ⟨i 0, i 1, eq_ix2 i⟩
    pointwise [dg2Arr, dg, hat, rstd, ms, width, eps]
    exact Finset.sum_congr rfl fun k _ => mul_comm _ _
  · clear h r
    clean_types
    funext i
    obtain ⟨p, q, rfl⟩ : ∃ (p : Fin 1) (q : Fin 1024), i = ix2 p q := ⟨i 0, i 1, eq_ix2 i⟩
    pointwise [dg2Arr, dg, hat, rstd, ms, width, eps]
    exact Finset.sum_congr rfl fun k _ => mul_comm _ _

end Cert.Reference28Ideal.NormBack2

end
-- ==== Proof.NormAdd.lean ====
/-
  The residual with a norm added, and the norm that follows: the kernel's two result arrays after its run.
-/
module

public import proofs.«01_k».proof.Proof.NormEnds
public import proofs.«01_k».proof.Proof.Gen.Kernel29Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel29Ideal.NormAdd

open Cert.Kernel29Ideal Cert.Kernel29Ideal.Gen _root_.Norm

variable {X M : (Mat.M 8192 1024).Idx → EReal} {G H : (Mat.M 1 1024).Idx → EReal}
variable {n : Fin 16} {x0 : Vec Ideal S512x1024 .f32} {x1 : Vec Ideal S512x1024 .bf16} {x2 x3 : Vec Ideal S1x1024 .f32}

theorem add_row (hx : Rows X n x0) (hm : Rows M n x1) (hg : Gain G x2) (r : Fin 512) (j : Fin 1024) :
    k0_pay1 x0 x1 x2 (ix2 r j) = addNormArr X M G (ix2 (row512 n r) j) := by
  pointwise [k0_pay1]
  simp only [hx _ _, hm _ _, hg _]
  rfl

theorem norm_row (hx : Rows X n x0) (hm : Rows M n x1) (hg : Gain G x2) (hh : Gain H x3) (r : Fin 512) (j : Fin 1024) :
    k0_pay2 x0 x1 x2 x3 (ix2 r j) = normArr (addNormArr X M G) H (ix2 (row512 n r) j) := by
  pointwise [k0_pay2]
  simp only [add_row hx hm hg, hh _]
  rfl

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![0, 0] ∧ win0_3.index t = ![0, 0] ∧
    win0_4.index t = ![t.val, 0] ∧ win0_5.index t = ![t.val, 0] := by
  decide +kernel

/-- A grid point as a block number. -/
def blkNo (t : Fin cfg0.N) : Fin 16 := ⟨t.val, t.isLt⟩

/-- The four input blocks at a point hold the arguments' rows and the gains. -/
theorem reads (c : Dev nD) (t : Fin cfg0.N) :
    Rows (m ((c : Thread nD τ).loc main_arg0)) (blkNo t) (iblk m c 0 t) ∧ Rows (m ((c : Thread nD τ).loc main_arg1)) (blkNo t) (iblk m c 1 t)
      ∧ Gain (m ((c : Thread nD τ).loc main_arg2)) (iblk m c 2 t) ∧ Gain (m ((c : Thread nD τ).loc main_arg3)) (iblk m c 3 t) := by
  have hN : t.val < 16 := t.isLt
  have hb : ∀ r, (row512 (blkNo t) r).val = 512 * t.val + r.val := fun _ => rfl
  refine ⟨?_, ?_, ?_, ?_⟩
  · intro r j; blk_ext [iblk, V, idx t, hb]
  · intro r j; blk_ext [iblk, V, idx t, hb]
  · intro j; blk_ext [iblk, V, idx t, hb]
  · intro j; blk_ext [iblk, V, idx t, hb]

/-- A row of the block stored for the residual. -/
theorem out4 (hx : Rows X n x0) (hm : Rows M n x1) (hg : Gain G x2) (r : Fin 512) (j : Fin 1024) :
    out0_4 x0 x1 x2 x3 (ix2 r j) = addNormArr X M G (ix2 (row512 n r) j) := by
  frame_out
  exact add_row hx hm hg r j

/-- A row of the block stored for its norm. -/
theorem out5 (hx : Rows X n x0) (hm : Rows M n x1) (hg : Gain G x2) (hh : Gain H x3) (r : Fin 512) (j : Fin 1024) :
    out0_5 x0 x1 x2 x3 (ix2 r j) = normArr (addNormArr X M G) H (ix2 (row512 n r) j) := by
  frame_out
  exact norm_row hx hm hg hh r j

/-- The whole array: the residual. -/
theorem arr4 (c : Dev nD) : (dats m 0 c).arrAt 4 cfg0.N = addNormArr (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hm, hg, hh⟩ := reads m c t
  blk_simp
  rw [after0_4]
  refine (out4 hx hm hg r j).trans (congrArg _ ?_)
  have hb : ∀ r, (row512 (blkNo t) r).val = 512 * t.val + r.val := fun _ => rfl
  blk_ext [idx t, hb]

/-- The whole array: its norm. -/
theorem arr5 (c : Dev nD) : (dats m 0 c).arrAt 5 cfg0.N = normArr (addNormArr (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hm, hg, hh⟩ := reads m c t
  blk_simp
  rw [after0_5]
  refine (out5 hx hm hg hh r j).trans (congrArg _ ?_)
  have hb : ∀ r, (row512 (blkNo t) r).val = 512 * t.val + r.val := fun _ => rfl
  blk_ext [idx t, hb]

variable (ρ : Dev nD → PrngReg)

/-- The kernel's run: the residual, its norm, and the arguments as they were. -/
theorem run : θ_run defs (onTc (τ := τ) (main (F := Ideal))) ⟨m, fun _ => 0, ρ⟩ fun r => ∀ c : Dev nD,
      r.2.mem ((c : Thread nD τ).loc main_v0_0) = addNormArr (m ((c : Thread nD τ).loc main_arg0)) (m ((c : Thread nD τ).loc main_arg1)) (m ((c : Thread nD τ).loc main_arg2))
      ∧ r.2.mem ((c : Thread nD τ).loc main_v0_1) = normArr (addNormArr (m ((c : Thread nD τ).loc main_arg0)) (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr4 m c), (h c).2.1.trans (arr5 m c), (h c).2.2⟩) (Value.run_blocks m ρ)

end Cert.Kernel29Ideal.NormAdd

end
-- ==== Proof.NormFirst.lean ====
/-
  The norm of the residual alone: the kernel's result array after its run.
-/
module

public import proofs.«01_k».proof.Proof.NormEnds
public import proofs.«01_k».proof.Proof.Gen.Kernel30Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel30Ideal.NormFirst

open Cert.Kernel30Ideal Cert.Kernel30Ideal.Gen _root_.Norm

variable {X : (Mat.M 8192 1024).Idx → EReal} {G : (Mat.M 1 1024).Idx → EReal}
variable {n : Fin 16} {x0 : Vec Ideal S512x1024 .f32} {x1 : Vec Ideal S1x1024 .f32}

/-- A row of the stored block. -/
theorem out2 (hx : Rows X n x0) (hg : Gain G x1) (r : Fin 512) (j : Fin 1024) :
    out0_2 x0 x1 (ix2 r j) = normArr X G (ix2 (row512 n r) j) := by
  frame_out
  pointwise [k0_pay1]
  simp only [hx _ _, hg _]
  rfl

variable (m : (ℓ : Loc nD τ sig) → Buf (Elt Ideal) ℓ)

/-- The block of each window at every grid point. -/
theorem idx : ∀ t : Fin cfg0.N, win0_0.index t = ![t.val, 0] ∧ win0_1.index t = ![0, 0] ∧ win0_2.index t = ![t.val, 0] := by
  decide +kernel

/-- A grid point as a block number. -/
def blkNo (t : Fin cfg0.N) : Fin 16 := ⟨t.val, t.isLt⟩

/-- The two input blocks at a point hold the argument's rows and the gain. -/
theorem reads (c : Dev nD) (t : Fin cfg0.N) :
    Rows (m ((c : Thread nD τ).loc main_arg0)) (blkNo t) (iblk m c 0 t) ∧ Gain (m ((c : Thread nD τ).loc main_arg1)) (iblk m c 1 t) := by
  have hN : t.val < 16 := t.isLt
  have hb : ∀ r, (row512 (blkNo t) r).val = 512 * t.val + r.val := fun _ => rfl
  refine ⟨?_, ?_⟩
  · intro r j; blk_ext [iblk, V, idx t, hb]
  · intro j; blk_ext [iblk, V, idx t, hb]

/-- The whole array. -/
theorem arr2 (c : Dev nD) : (dats m 0 c).arrAt 2 cfg0.N = normArr (m ((c : Thread nD τ).loc main_arg0)) (m ((c : Thread nD τ).loc main_arg1)) := by
  refine (dats m 0 c).arrAt_eq_of_covers 2 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hg⟩ := reads m c t
  blk_simp
  rw [after0_2]
  refine (out2 hx hg r j).trans (congrArg _ ?_)
  have hb : ∀ r, (row512 (blkNo t) r).val = 512 * t.val + r.val := fun _ => rfl
  blk_ext [idx t, hb]

variable (ρ : Dev nD → PrngReg)

/-- The kernel's run: the norm, and the arguments as they were. -/
theorem run : θ_run defs (onTc (τ := τ) (main (F := Ideal))) ⟨m, fun _ => 0, ρ⟩ fun r => ∀ c : Dev nD,
      r.2.mem ((c : Thread nD τ).loc main_v0) = normArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr2 m c), (h c).2⟩) (Value.run_blocks m ρ)

end Cert.Kernel30Ideal.NormFirst

end
-- ==== Proof.NormTwo.lean ====
/-
  The two norms of one residual: the kernel's two result arrays after its run.
-/
module

public import proofs.«01_k».proof.Proof.NormEnds
public import proofs.«01_k».proof.Proof.Gen.Kernel31Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel31Ideal.NormTwo

open Cert.Kernel31Ideal Cert.Kernel31Ideal.Gen _root_.Norm

variable {X : (Mat.M 8192 1024).Idx → EReal} {G H : (Mat.M 1 1024).Idx → EReal}
variable {n : Fin 16} {x0 : Vec Ideal S512x1024 .f32} {x1 x2 : Vec Ideal S1x1024 .f32}

theorem rstd_x (hx : Rows X n x0) (r : Fin 512) (z : Fin 1) : k0_pay1 x0 (ix2 r z) = rstd (fun k => X (ix2 (row512 n r) k)) := by
  pointwise [k0_pay1]
  simp only [hx _ _]
  rfl

/-- A row of the block stored for the first norm. -/
theorem out3 (hx : Rows X n x0) (hg : Gain G x1) (r : Fin 512) (j : Fin 1024) :
    out0_3 x0 x1 x2 (ix2 r j) = normArr X G (ix2 (row512 n r) j) := by
  frame_out
  pointwise [k0_pay2]
  simp only [rstd_x hx, hx _ _, hg _]
  rfl

/-- A row of the block stored for the second norm. -/
theorem out4 (hx : Rows X n x0) (hh : Gain H x2) (r : Fin 512) (j : Fin 1024) :
    out0_4 x0 x1 x2 (ix2 r j) = normArr X H (ix2 (row512 n r) j) := by
  frame_out
  pointwise [k0_pay3]
  simp only [rstd_x hx, hx _ _, hh _]
  rfl

variable (m : (ℓ : Loc nD τ sig) → Buf (Elt Ideal) ℓ)

/-- The block of each window at every grid point. -/
theorem idx : ∀ t : Fin cfg0.N, win0_0.index t = ![t.val, 0] ∧ win0_1.index t = ![0, 0] ∧ win0_2.index t = ![0, 0] ∧
    win0_3.index t = ![t.val, 0] ∧ win0_4.index t = ![t.val, 0] := by
  decide +kernel

/-- A grid point as a block number. -/
def blkNo (t : Fin cfg0.N) : Fin 16 := ⟨t.val, t.isLt⟩

/-- The three input blocks at a point hold the argument's rows and the gains. -/
theorem reads (c : Dev nD) (t : Fin cfg0.N) :
    Rows (m ((c : Thread nD τ).loc main_arg0)) (blkNo t) (iblk m c 0 t) ∧ Gain (m ((c : Thread nD τ).loc main_arg1)) (iblk m c 1 t)
      ∧ Gain (m ((c : Thread nD τ).loc main_arg2)) (iblk m c 2 t) := by
  have hN : t.val < 16 := t.isLt
  have hb : ∀ r, (row512 (blkNo t) r).val = 512 * t.val + r.val := fun _ => rfl
  refine ⟨?_, ?_, ?_⟩
  · intro r j; blk_ext [iblk, V, idx t, hb]
  · intro j; blk_ext [iblk, V, idx t, hb]
  · intro j; blk_ext [iblk, V, idx t, hb]

/-- The whole array: the first norm. -/
theorem arr3 (c : Dev nD) : (dats m 0 c).arrAt 3 cfg0.N = normArr (m ((c : Thread nD τ).loc main_arg0)) (m ((c : Thread nD τ).loc main_arg1)) := by
  refine (dats m 0 c).arrAt_eq_of_covers 3 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hg, hh⟩ := reads m c t
  blk_simp
  rw [after0_3]
  refine (out3 hx hg r j).trans (congrArg _ ?_)
  have hb : ∀ r, (row512 (blkNo t) r).val = 512 * t.val + r.val := fun _ => rfl
  blk_ext [idx t, hb]

/-- The whole array: the second norm. -/
theorem arr4 (c : Dev nD) : (dats m 0 c).arrAt 4 cfg0.N = normArr (m ((c : Thread nD τ).loc main_arg0)) (m ((c : Thread nD τ).loc main_arg2)) := by
  refine (dats m 0 c).arrAt_eq_of_covers 4 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hg, hh⟩ := reads m c t
  blk_simp
  rw [after0_4]
  refine (out4 hx hh r j).trans (congrArg _ ?_)
  have hb : ∀ r, (row512 (blkNo t) r).val = 512 * t.val + r.val := fun _ => rfl
  blk_ext [idx t, hb]

variable (ρ : Dev nD → PrngReg)

/-- The kernel's run: the two norms, and the arguments as they were. -/
theorem run : θ_run defs (onTc (τ := τ) (main (F := Ideal))) ⟨m, fun _ => 0, ρ⟩ fun r => ∀ c : Dev nD,
      r.2.mem ((c : Thread nD τ).loc main_v0_0) = normArr (m ((c : Thread nD τ).loc main_arg0)) (m ((c : Thread nD τ).loc main_arg1))
      ∧ r.2.mem ((c : Thread nD τ).loc main_v0_1) = normArr (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2.1.trans (arr4 m c), (h c).2.2⟩) (Value.run_blocks m ρ)

end Cert.Kernel31Ideal.NormTwo

end
-- ==== Proof.NormAdd1.lean ====
/-
  The residual with a norm added, and no norm after it: the kernel's result array after its run.
-/
module

public import proofs.«01_k».proof.Proof.NormEnds
public import proofs.«01_k».proof.Proof.Gen.Kernel32Ideal.Value
public import Idealize.ShloMosaic.Lib.Pointwise
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel32Ideal.NormAdd1

open Cert.Kernel32Ideal Cert.Kernel32Ideal.Gen _root_.Norm

variable {X M : (Mat.M 8192 1024).Idx → EReal} {G : (Mat.M 1 1024).Idx → EReal}
variable {n : Fin 16} {x0 : Vec Ideal S512x1024 .f32} {x1 : Vec Ideal S512x1024 .bf16} {x2 : Vec Ideal S1x1024 .f32}

/-- A row of the stored block. -/
theorem out3 (hx : Rows X n x0) (hm : Rows M n x1) (hg : Gain G x2) (r : Fin 512) (j : Fin 1024) :
    out0_3 x0 x1 x2 (ix2 r j) = addNormArr X M G (ix2 (row512 n r) j) := by
  frame_out
  pointwise [k0_pay1]
  simp only [hx _ _, hm _ _, hg _]
  rfl

variable (m : (ℓ : Loc nD τ sig) → Buf (Elt Ideal) ℓ)

/-- The block of each window at every grid point. -/
theorem idx : ∀ t : Fin cfg0.N, win0_0.index t = ![t.val, 0] ∧ win0_1.index t = ![t.val, 0] ∧ win0_2.index t = ![0, 0] ∧
    win0_3.index t = ![t.val, 0] := by
  decide +kernel

/-- A grid point as a block number. -/
def blkNo (t : Fin cfg0.N) : Fin 16 := ⟨t.val, t.isLt⟩

/-- The three input blocks at a point hold the arguments' rows and the gain. -/
theorem reads (c : Dev nD) (t : Fin cfg0.N) :
    Rows (m ((c : Thread nD τ).loc main_arg0)) (blkNo t) (iblk m c 0 t) ∧ Rows (m ((c : Thread nD τ).loc main_arg1)) (blkNo t) (iblk m c 1 t)
      ∧ Gain (m ((c : Thread nD τ).loc main_arg2)) (iblk m c 2 t) := by
  have hN : t.val < 16 := t.isLt
  have hb : ∀ r, (row512 (blkNo t) r).val = 512 * t.val + r.val := fun _ => rfl
  refine ⟨?_, ?_, ?_⟩
  · intro r j; blk_ext [iblk, V, idx t, hb]
  · intro r j; blk_ext [iblk, V, idx t, hb]
  · intro j; blk_ext [iblk, V, idx t, hb]

/-- The whole array. -/
theorem arr3 (c : Dev nD) : (dats m 0 c).arrAt 3 cfg0.N = addNormArr (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := t.isLt
  obtain ⟨r, j, rfl⟩ : ∃ (r : Fin 512) (j : Fin 1024), y = ix2 r j := ⟨y 0, y 1, eq_ix2 y⟩
  obtain ⟨hx, hm, hg⟩ := reads m c t
  blk_simp
  rw [after0_3]
  refine (out3 hx hm hg r j).trans (congrArg _ ?_)
  have hb : ∀ r, (row512 (blkNo t) r).val = 512 * t.val + r.val := fun _ => rfl
  blk_ext [idx t, hb]

variable (ρ : Dev nD → PrngReg)

/-- The kernel's run: the residual, and the arguments as they were. -/
theorem run : θ_run defs (onTc (τ := τ) (main (F := Ideal))) ⟨m, fun _ => 0, ρ⟩ fun r => ∀ c : Dev nD,
      r.2.mem ((c : Thread nD τ).loc main_v0) = addNormArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (arr3 m c), (h c).2⟩) (Value.run_blocks m ρ)

end Cert.Kernel32Ideal.NormAdd1

end
-- ==== Proof.NormFwdRef.lean ====
/-
  The norms that go forward at the ends of the layers: the references' values of them.
-/
module

public import proofs.«01_k».proof.Proof.NormEnds
public import proofs.«01_k».proof.Proof.Gen.Reference29Ideal.Run
public import proofs.«01_k».proof.Proof.Gen.Reference30Ideal.Run
public import proofs.«01_k».proof.Proof.Gen.Reference31Ideal.Run
public import proofs.«01_k».proof.Proof.Gen.Reference32Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference29Ideal.NormFwd

open Cert.Reference29Ideal _root_.Norm

variable (m : (ℓ : Loc nD τ sig) → Buf (Elt Ideal) ℓ)

/-- The reference's run: the residual, its norm, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v13) = addNormArr (m ((c : Thread nD τ).loc main_arg0)) (m ((c : Thread nD τ).loc main_arg1)) (m ((c : Thread nD τ).loc main_arg2))
      ∧ r.2.mem ((c : Thread nD τ).loc main_v26) = normArr (addNormArr (m ((c : Thread nD τ).loc main_arg0)) (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2.1.trans ?_, (h c).2.2⟩) (Value.run m ρ)
  · clear h r
    clean_types
    funext i
    obtain ⟨p, q, rfl⟩ : ∃ (p : Fin 8192) (q : Fin 1024), i = ix2 p q := ⟨i 0, i 1, eq_ix2 i⟩
    pointwise [addNormArr, hat, rstd, ms, width, eps]
  · clear h r
    clean_types
    funext i
    obtain ⟨p, q, rfl⟩ : ∃ (p : Fin 8192) (q : Fin 1024), i = ix2 p q := ⟨i 0, i 1, eq_ix2 i⟩
    pointwise [normArr, addNormArr, hat, rstd, ms, width, eps]

end Cert.Reference29Ideal.NormFwd

namespace Cert.Reference30Ideal.NormFwd

open Cert.Reference30Ideal _root_.Norm

variable (m : (ℓ : Loc nD τ sig) → Buf (Elt Ideal) ℓ)

/-- The reference's run: the norm, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v12) = normArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨(h c).1.trans ?_, (h c).2⟩) (Value.run m ρ)
  clear h r
  clean_types
  funext i
  obtain ⟨p, q, rfl⟩ : ∃ (p : Fin 8192) (q : Fin 1024), i = ix2 p q := ⟨i 0, i 1, eq_ix2 i⟩
  pointwise [normArr, hat, rstd, ms, width, eps]

end Cert.Reference30Ideal.NormFwd

namespace Cert.Reference31Ideal.NormFwd

open Cert.Reference31Ideal _root_.Norm

variable (m : (ℓ : Loc nD τ sig) → Buf (Elt Ideal) ℓ)

/-- The reference's run: the two norms, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v12) = normArr (m ((c : Thread nD τ).loc main_arg0)) (m ((c : Thread nD τ).loc main_arg1))
      ∧ r.2.mem ((c : Thread nD τ).loc main_v25) = normArr (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2.1.trans ?_, (h c).2.2⟩) (Value.run m ρ)
  all_goals
    clear h r
    clean_types
    funext i
    obtain ⟨p, q, rfl⟩ : ∃ (p : Fin 8192) (q : Fin 1024), i = ix2 p q := ⟨i 0, i 1, eq_ix2 i⟩
    pointwise [normArr, hat, rstd, ms, width, eps]

end Cert.Reference31Ideal.NormFwd

namespace Cert.Reference32Ideal.NormFwd

open Cert.Reference32Ideal _root_.Norm

variable (m : (ℓ : Loc nD τ sig) → Buf (Elt Ideal) ℓ)

/-- The reference's run: the residual, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v13) = addNormArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨(h c).1.trans ?_, (h c).2⟩) (Value.run m ρ)
  clear h r
  clean_types
  funext i
  obtain ⟨p, q, rfl⟩ : ∃ (p : Fin 8192) (q : Fin 1024), i = ix2 p q := ⟨i 0, i 1, eq_ix2 i⟩
  pointwise [addNormArr, hat, rstd, ms, width, eps]

end Cert.Reference32Ideal.NormFwd

end
-- ==== Proof.LossEnd.lean ====
/-
  The last residual against the target: the kernel's gradient and its loss after its run.
-/
module

public import proofs.«01_k».proof.Proof.NormEnds
public import proofs.«01_k».proof.Proof.Gen.Kernel33Ideal.Frame
public import Idealize.ShloMosaic.Lib.Pointwise
public import Idealize.ShloMosaic.Lib.Pipeline.Value
public import Idealize.ShloMosaic.Lib.Pipeline.ReadBack
public import Idealize.ShloMosaic.Lib.Pipeline.ValueKit
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Norm

variable (X M T : (Mat.M 8192 1024).Idx → EReal) (G : (Mat.M 1 1024).Idx → EReal)

/-- The last residual less the target. -/
def errArr : (Mat.M 8192 1024).Idx → EReal := fun i => addNormArr X M G i - T i

/-- The loss's gradient by the residual: a 1024th of the error. -/
def gradArr : (Mat.M 8192 1024).Idx → EReal := fun i => errArr X M T G i * Ideal.ofBits FTy.f32 0x3A800000#32

/-- A row's squares, summed. -/
def sqRow (p : Fin 8192) : EReal := ∑ j : Fin 1024, errArr X M T G (ix2 p j) * errArr X M T G (ix2 p j)

/-- The squares of 512 rows, summed. -/
def sqTerm (n : Fin 16) : EReal := ∑ r : Fin 512, sqRow X M T G (row512 n r)

/-- The loss: a 2048th of the sum of the squares. -/
def lossVal : EReal := (∑ p : Fin 8192, sqRow X M T G p) * Ideal.ofBits FTy.f32 0x3A000000#32

/-- The blocks' squares are all of them. -/
theorem sum_sqTerm : ∑ n : Fin 16, sqTerm X M T G n = ∑ p : Fin 8192, sqRow X M T G p := by
  unfold sqTerm
  refine Fin.sum_mul_add_congr fun t r hl => ?_
  have e : row512 t r = ⟨t.val * 512 + r.val, hl⟩ :=
    Fin.ext (by show 512 * t.val + r.val = t.val * 512 + r.val; omega)
  rw [e]

end Norm

namespace Cert.Kernel33Ideal.LossEnd

open Cert.Kernel33Ideal Cert.Kernel33Ideal.Gen _root_.Norm

variable {X M T : (Mat.M 8192 1024).Idx → EReal} {G : (Mat.M 1 1024).Idx → EReal}
variable {n : Fin 16} {x0 x3 : Vec Ideal S512x1024 .f32} {x1 : Vec Ideal S512x1024 .bf16} {x2 : Vec Ideal S1x1024 .f32}

theorem err_row (hx : Rows X n x0) (hm : Rows M n x1) (hg : Gain G x2) (ht : Rows T n x3) (r : Fin 512) (j : Fin 1024) :
    k0_pay1 x1 x0 x2 x3 (ix2 r j) = errArr X M T G (ix2 (row512 n r) j) := by
  pointwise [k0_pay1]
  simp only [hx _ _, hm _ _, hg _, ht _ _]
  rfl

theorem grad_row (hx : Rows X n x0) (hm : Rows M n x1) (hg : Gain G x2) (ht : Rows T n x3) (r : Fin 512) (j : Fin 1024) :
    k0_pay2 x1 x0 x2 x3 (ix2 r j) = gradArr X M T G (ix2 (row512 n r) j) := by
  pointwise [k0_pay2]
  rw [err_row hx hm hg ht]
  rfl

theorem sq_row (hx : Rows X n x0) (hm : Rows M n x1) (hg : Gain G x2) (ht : Rows T n x3) (xo : Vec Ideal S8x128 .f32) (q : S8x128.Idx) :
    k0_pay4 x1 x0 x2 x3 xo q = xo q + sqTerm X M T G n := by
  obtain ⟨z, j, rfl⟩ : ∃ (z : Fin 8) (j : Fin 128), q = ix2 z j := ⟨q 0, q 1, eq_ix2 q⟩
  pointwise [k0_pay4]
  simp only [err_row hx hm hg ht]
  rfl

variable (m : (ℓ : Loc nD τ sig) → Buf (Elt Ideal) ℓ)

/-- The block of each window at every grid point. -/
theorem idx : ∀ t : Fin cfg0.N,
    win0_0.index t = ![t.val, 0] ∧ win0_1.index t = ![t.val, 0] ∧ win0_2.index t = ![0, 0] ∧ win0_3.index t = ![t.val, 0] ∧
    win0_4.index t = ![t.val, 0] ∧ win0_5.index t = ![0, 0] := by
  decide +kernel

/-- The last grid point. -/
def tLast : Fin cfg0.N := ⟨15, by decide⟩

/-- A grid point as a block number. -/
def blkNo (t : Fin cfg0.N) : Fin 16 := ⟨t.val, t.isLt⟩

/-- The four input blocks at a point hold the arguments' rows and the gain. -/
theorem reads (c : Dev nD) (t : Fin cfg0.N) :
    Rows (m ((c : Thread nD τ).loc main_arg0)) (blkNo t) (iblk m c 0 t) ∧ Rows (m ((c : Thread nD τ).loc main_arg1)) (blkNo t) (iblk m c 1 t)
      ∧ Gain (m ((c : Thread nD τ).loc main_arg2)) (iblk m c 2 t) ∧ Rows (m ((c : Thread nD τ).loc main_arg3)) (blkNo t) (iblk m c 3 t) := by
  have hN : t.val < 16 := t.isLt
  have hb : ∀ r, (row512 (blkNo t) r).val = 512 * t.val + r.val := fun _ => rfl
  refine ⟨?_, ?_, ?_, ?_⟩
  · intro r j; blk_ext [iblk, V, idx t, hb]
  · intro r j; blk_ext [iblk, V, idx t, hb]
  · intro j; blk_ext [iblk, V, idx t, hb]
  · intro r j; blk_ext [iblk, V, idx t, hb]

/-- A row of the block a point leaves: the gradient. -/
theorem point4 (c : Dev nD) (t : Fin cfg0.N) (r : Fin 512) (j : Fin 1024) :
    (outsAt0 m c t.val t.isLt).1 (ix2 r j) = gradArr (m ((c : Thread nD τ).loc main_arg0)) (m ((c : Thread nD τ).loc main_arg1)) (m ((c : Thread nD τ).loc main_arg3)) (m ((c : Thread nD τ).loc main_arg2)) (ix2 (row512 (blkNo t) r) j) := by
  obtain ⟨hx, hm, hg, ht⟩ := reads m c t
  by_cases h : t.val % 16 = 0
  · rw [outsAt0_A m c t h]
    dsimp only
    frame_out
    exact grad_row hx hm hg ht r j
  · rw [outsAt0_B m c t h]
    dsimp only
    frame_out
    exact grad_row hx hm hg ht r j

/-- The whole array: the gradient. -/
theorem arr4 (c : Dev nD) : (dats m 0 c).arrAt 4 cfg0.N = gradArr (m ((c : Thread nD τ).loc main_arg0)) (m ((c : Thread nD τ).loc main_arg1)) (m ((c : Thread nD τ).loc main_arg3)) (m ((c : Thread nD τ).loc main_arg2)) := by
  refine (dats m 0 c).arrAt_eq_of_covers 4 _ (by decide +kernel) fun t hf y => ?_
  have hN : t.val < 16 := t.isLt
  obtain ⟨r, j, rfl⟩ : ∃ (r : Fin 512) (j : Fin 1024), y = ix2 r j := ⟨y 0, y 1, eq_ix2 y⟩
  blk_simp
  rw [after0_4]
  refine (point4 m c t r j).trans (congrArg _ ?_)
  have hb : ∀ r, (row512 (blkNo t) r).val = 512 * t.val + r.val := fun _ => rfl
  blk_ext [idx t, hb]

/-- The accumulated block: the sum of the squares at every entry. -/
theorem arr5 (c : Dev nD) : (dats m 0 c).arrAt 5 cfg0.N = fun _ => ∑ p : Fin 8192, sqRow (m ((c : Thread nD τ).loc main_arg0)) (m ((c : Thread nD τ).loc main_arg1)) (m ((c : Thread nD τ).loc main_arg3)) (m ((c : Thread nD τ).loc main_arg2)) p := by
  refine (dats m 0 c).arrAt_eq_of_after_last 5 tLast (by decide +kernel) _ fun j => ?_
  blk_simp
  rw [after0_5]
  refine (Pipeline.eq_sum_fin_of_reset_step_apply_last (fun n h => (outsAt0 m c n h).2) 16 (fun _ => (0 : EReal))
    (fun t _ => sqTerm (m ((c : Thread nD τ).loc main_arg0)) (m ((c : Thread nD τ).loc main_arg1)) (m ((c : Thread nD τ).loc main_arg3)) (m ((c : Thread nD τ).loc main_arg2)) (blkNo t))
    (fun t h k => by
      obtain ⟨hx, hm, hg, ht⟩ := reads m c t
      show (outsAt0 m c t.val t.isLt).2 k = 0 + _
      rw [outsAt0_A m c t h]
      dsimp only
      frame_out
      refine (sq_row hx hm hg ht (k0_pay3 (F := Ideal)) k).trans ?_
      congr 1
      pointwise [k0_pay3])
    (fun t h k => by
      obtain ⟨hx, hm, hg, ht⟩ := reads m c t
      show (outsAt0 m c t.val t.isLt).2 k = (outsAt0 m c (t.val - 1) _).2 k + _
      rw [outsAt0_B m c t h]
      dsimp only
      frame_out
      exact sq_row hx hm hg ht _ k)
    (by decide) tLast rfl j).trans ?_
  rw [zero_add]
  exact sum_sqTerm _ _ _ _

/-- What the host operations after the call leave for the loss: the first entry of the sum, times a 2048th. -/
theorem tail (c : Dev nD) : Pipeline.afterTail₀ cfgs (dats m) 0 (V0 m) [hostOps1] c main_v3 =
    mulf (F := Ideal) (shapeCast S_ (extractStridedSlice S1x1 ![0, 0] ((dats m 0 c).arrAt 5 cfg0.N) slices_S8x128_S1x1_0_0) shapeCasts_S1x1_S_) (constant S_ .f32 0x3A000000#32) := by
  have e : Pipeline.withArrays (cfgs 0).spec c (V0 m c) (fun w => (dats m 0 c).arrAt w (cfgs 0).N) (Proc.tc.devRef main_v0_1) = (dats m 0 c).arrAt 5 cfg0.N :=
    Pipeline.withArrays_arr (cfgs 0).spec (by decide) c (V0 m c) (fun w => (dats m 0 c).arrAt w (cfgs 0).N) 5
  unfold Pipeline.afterTail₀
  show StableHlo.after hostOps1 _ _ = _
  after_results_simp
  rw [e]
  rfl

/-- The loss after the run. -/
theorem loss (c : Dev nD) : Pipeline.afterTail₀ cfgs (dats m) 0 (V0 m) [hostOps1] c main_v3 =
    fun _ => lossVal (m ((c : Thread nD τ).loc main_arg0)) (m ((c : Thread nD τ).loc main_arg1)) (m ((c : Thread nD τ).loc main_arg3)) (m ((c : Thread nD τ).loc main_arg2)) := by
  rw [tail, arr5]
  rfl

variable (ρ : Dev nD → PrngReg)

/-- The kernel's run: the gradient, the loss, and the arguments as they were. -/
theorem run : θ_run defs (onTc (τ := τ) (main (F := Ideal))) ⟨m, fun _ => 0, ρ⟩ fun r => ∀ c : Dev nD,
      r.2.mem ((c : Thread nD τ).loc main_v0_0) = gradArr (m ((c : Thread nD τ).loc main_arg0)) (m ((c : Thread nD τ).loc main_arg1)) (m ((c : Thread nD τ).loc main_arg3)) (m ((c : Thread nD τ).loc main_arg2))
      ∧ r.2.mem ((c : Thread nD τ).loc main_v3) = (fun _ => lossVal (m ((c : Thread nD τ).loc main_arg0)) (m ((c : Thread nD τ).loc main_arg1)) (m ((c : Thread nD τ).loc main_arg3)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.2 c).1 4).trans (arr4 m c), ((h.2 c).2 main_v3 (by decide)).trans (loss m c), h.1 c⟩)
    (θ_run_and (unchanged m ρ) (run_main m ρ))

end Cert.Kernel33Ideal.LossEnd

end
-- ==== Proof.LossEndRef.lean ====
/-
  The last residual against the target: the reference's gradient and its loss.
-/
module

public import proofs.«01_k».proof.Proof.LossEnd
public import proofs.«01_k».proof.Proof.Gen.Reference33Ideal.Run

@[expose] public section

set_option maxRecDepth 16384

noncomputable section

open Idealize.ShloMosaic Idealize.ShloMosaic.TcCoe Idealize.SL.Sem

namespace Norm

theorem two_eq : Ideal.ofBits FTy.f32 0x40000000#32 = ((2 : ℝ) : EReal) := by
  simp [Ideal.ofBits, Ideal.ieee, -EReal.coe_mul]
  norm_num

theorem half_pos_eq : Ideal.ofBits FTy.f32 0x3F000000#32 = ((1 / 2 : ℝ) : EReal) := by
  simp [Ideal.ofBits, Ideal.ieee, -EReal.coe_mul]
  norm_num

theorem thousandth_eq : Ideal.ofBits FTy.f32 0x3A800000#32 = ((1 / 1024 : ℝ) : EReal) := by
  simp [Ideal.ofBits, Ideal.ieee, -EReal.coe_mul]
  norm_num

theorem half_thousandth_eq : Ideal.ofBits FTy.f32 0x3A000000#32 = ((1 / 2048 : ℝ) : EReal) := by
  simp [Ideal.ofBits, Ideal.ieee, -EReal.coe_mul]
  norm_num

/-- Half of a 1024th of twice an error is a 1024th of it. -/
theorem grad_const (e : EReal) :
    Ideal.div (Ideal.ofBits FTy.f32 0x3F000000#32) width * (Ideal.ofBits FTy.f32 0x40000000#32 * e) = e * Ideal.ofBits FTy.f32 0x3A800000#32 := by
  rw [width_eq, Ideal.div_coe (by norm_num), half_pos_eq, two_eq, thousandth_eq, ← mul_assoc, ← EReal.coe_mul, ← EReal.coe_mul, mul_comm]
  norm_num

/-- Half of the sum of the rows' means is a 2048th of the sum of the rows' sums. -/
theorem loss_const (f : Fin 8192 → EReal) :
    Ideal.ofBits FTy.f32 0x3F000000#32 * ∑ p, Ideal.div (f p) width = (∑ p, f p) * Ideal.ofBits FTy.f32 0x3A000000#32 := by
  rw [width_eq]
  simp only [Ideal.div_coe (show (1024 : ℝ) ≠ 0 by norm_num)]
  rw [sum_mul_real f (by norm_num), half_pos_eq, half_thousandth_eq, mul_comm, mul_assoc, ← EReal.coe_mul]
  norm_num

end Norm

namespace Cert.Reference33Ideal.LossEnd

open Cert.Reference33Ideal _root_.Norm

variable (m : (ℓ : Loc nD τ sig) → Buf (Elt Ideal) ℓ)

/-- The reference's run: the gradient, the loss, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v28) = gradArr (m ((c : Thread nD τ).loc main_arg0)) (m ((c : Thread nD τ).loc main_arg1)) (m ((c : Thread nD τ).loc main_arg3)) (m ((c : Thread nD τ).loc main_arg2))
      ∧ r.2.mem ((c : Thread nD τ).loc main_v22) = (fun _ => lossVal (m ((c : Thread nD τ).loc main_arg0)) (m ((c : Thread nD τ).loc main_arg1)) (m ((c : Thread nD τ).loc main_arg3)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2.1.trans ?_, (h c).2.2⟩) (Value.run m ρ)
  · clear h r
    clean_types
    funext i
    obtain ⟨p, q, rfl⟩ : ∃ (p : Fin 8192) (q : Fin 1024), i = ix2 p q := ⟨i 0, i 1, eq_ix2 i⟩
    pointwise [gradArr, errArr, addNormArr, hat, rstd, ms, width, eps]
    exact grad_const _
  · clear h r
    clean_types
    funext i
    pointwise [lossVal, sqRow, errArr, addNormArr, hat, rstd, ms, width, eps]
    exact loss_const _

end Cert.Reference33Ideal.LossEnd

end
-- ==== Proof.AdamSpec.lean ====
/-
  The optimiser's step on one entry, over the extended reals, with its constants as the programs write them.
-/
module

public import proofs.«01_k».proof.Proof.MatSpec
public import Idealize.ShloMosaic.PureOps.Ideal

@[expose] public section

noncomputable section

open Idealize.ShloMosaic

namespace Adam

/-- A number the programs write as a word. -/
abbrev word (b : BitVec 32) : EReal := Ideal.ofBits FTy.f32 b

/-- The new first moment: 0.9 of the old one and 0.1 of the gradient. -/
def moment1 (m g : EReal) : EReal := word 0x3F666666#32 * m + word 0x3DCCCCCD#32 * g

/-- The new second moment: 0.999 of the old one and 0.001 of the gradient's square. -/
def moment2 (v g : EReal) : EReal := word 0x3F7FBE77#32 * v + word 0x3A83126F#32 * (g * g)

/-- The step: the first moment over the root of the second, both over one less a power of their rate, and a share of the weight. -/
def step (w m v g : EReal) : EReal :=
  word 0xBA83126F#32 *
    (Ideal.div (Ideal.div (moment1 m g) (word 0x3F26BD02#32)) (Ideal.sqrt (Ideal.div (moment2 v g) (word 0x3C231ACC#32)) + word 0x322BCC77#32)
      + word 0x3C23D70A#32 * w)

end Adam

end
-- ==== Proof.Adam.lean ====
/-
  The optimiser's step on the gains and the taps: the kernel's four result arrays after its run, and the reference's.
-/
module

public import proofs.«01_k».proof.Proof.AdamSpec
public import proofs.«01_k».proof.Proof.Gen.Kernel34Ideal.Value
public import proofs.«01_k».proof.Proof.Gen.Reference34Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Kernel34Ideal.Adam

open Cert.Kernel34Ideal Cert.Kernel34Ideal.Gen _root_.Adam

variable (m : (ℓ : Loc nD τ sig) → Buf (Elt Ideal) ℓ)

/-- The kernel's run: the gradient, the step, the two moments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = m ((c : Thread nD τ).loc main_arg3)
      ∧ r.2.mem ((c : Thread nD τ).loc main_v0_1) = (fun i => step (m ((c : Thread nD τ).loc main_arg0) i) (m ((c : Thread nD τ).loc main_arg1) i) (m ((c : Thread nD τ).loc main_arg2) i) (m ((c : Thread nD τ).loc main_arg3) i))
      ∧ r.2.mem ((c : Thread nD τ).loc main_v0_2) = (fun i => moment1 (m ((c : Thread nD τ).loc main_arg1) i) (m ((c : Thread nD τ).loc main_arg3) i))
      ∧ r.2.mem ((c : Thread nD τ).loc main_v0_3) = (fun i => moment2 (m ((c : Thread nD τ).loc main_arg2) i) (m ((c : Thread nD τ).loc main_arg3) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1.trans ?_, (h c).2.1.trans ?_, (h c).2.2.1.trans ?_, (h c).2.2.2.1.trans ?_, (h c).2.2.2.2⟩) (Value.run m ρ)
  · rfl
  all_goals
    clear h r
    clean_types
    funext i
    obtain ⟨p, q, rfl⟩ : ∃ (p : Fin 32) (q : Fin 256), i = ix2 p q := ⟨i 0, i 1, eq_ix2 i⟩
    pointwise [Value.G5, Value.G6, Value.G7, k0_pay1, k0_pay2, k0_pay3, step, moment1, moment2]

end Cert.Kernel34Ideal.Adam

namespace Cert.Reference34Ideal.Adam

open Cert.Reference34Ideal _root_.Adam

variable (m : (ℓ : Loc nD τ sig) → Buf (Elt Ideal) ℓ)

/-- The reference's run: the same four arrays of its arguments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_arg3) = m ((c : Thread nD τ).loc main_arg3)
      ∧ r.2.mem ((c : Thread nD τ).loc main_v23) = (fun i => step (m ((c : Thread nD τ).loc main_arg0) i) (m ((c : Thread nD τ).loc main_arg1) i) (m ((c : Thread nD τ).loc main_arg2) i) (m ((c : Thread nD τ).loc main_arg3) i))
      ∧ r.2.mem ((c : Thread nD τ).loc main_v4) = (fun i => moment1 (m ((c : Thread nD τ).loc main_arg1) i) (m ((c : Thread nD τ).loc main_arg3) i))
      ∧ r.2.mem ((c : Thread nD τ).loc main_v10) = (fun i => moment2 (m ((c : Thread nD τ).loc main_arg2) i) (m ((c : Thread nD τ).loc main_arg3) i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1, (h c).2.1.trans ?_, (h c).2.2.1.trans ?_, (h c).2.2.2.1.trans ?_, (h c).2.2.2.2⟩) (Value.run m ρ)
  all_goals
    clear h r
    clean_types
    funext i
    obtain ⟨p, q, rfl⟩ : ∃ (p : Fin 32) (q : Fin 256), i = ix2 p q := ⟨i 0, i 1, eq_ix2 i⟩
    pointwise [step, moment1, moment2]

end Cert.Reference34Ideal.Adam

end
-- ==== Proof.MoveSpec.lean ====
/-
  A reordering of rows in blocks of 2048: the rows are taken at a stride and laid side by side.
-/
module

public import proofs.«01_k».proof.Proof.MatSpec
public import Idealize.ShloMosaic.Lib.Pipeline.Frame
public import Idealize.ShloMosaic.Lib.Pipeline.ValueKit
public import Idealize.ShloMosaic.Lib.Writes
public import Idealize.ShloMosaic.Lib.Pointwise

@[expose] public section

noncomputable section

open Idealize.ShloMosaic

namespace Move

/-- Of 2048 rows, the one that comes to row `q` when each run of `a` rows takes every `n`-th row. -/
def src (a n : ℕ) (q : Fin 2048) : Fin 2048 := ⟨(q.val / a + n * (q.val % a)) % 2048, Nat.mod_lt _ (by decide)⟩

/-- The same reordering of 8192 rows, each 2048 by themselves. -/
def arr (a n : ℕ) (X : (Mat.M 8192 1024).Idx → EReal) : (Mat.M 8192 1024).Idx → EReal := fun i =>
  X (ix2 (⟨2048 * ((i 0).val / 2048) + (src a n ⟨(i 0).val % 2048, Nat.mod_lt _ (by decide)⟩).val, by
    have h : (i 0).val < 8192 := (i 0).isLt
    have h' := (src a n ⟨(i 0).val % 2048, Nat.mod_lt _ (by decide)⟩).isLt
    omega⟩ : Fin 8192) (i 1))

/-- A block of 2048 rows by 128 columns, reordered. -/
def blk (a n : ℕ) (x : (Mat.M 2048 128).Idx → EReal) : (Mat.M 2048 128).Idx → EReal := fun y => x (ix2 (src a n (y 0)) (y 1))

/-- A store of some rows that agrees with the reordered block. -/
def Agrees (a n : ℕ) (x : (Mat.M 2048 128).Idx → EReal) (p : View.Piece (Elt Ideal) (Mat.M 2048 128) .f32) : Prop :=
  ∀ y : p.1.shape.Idx, p.2 y = blk a n x (p.1.emb y)

/-- One run of rows: `a` rows from the block, `n` apart, from row `k`, stored from row `a k` on. -/
theorem piece {sig : RefSig} (a n k o : ℕ) (ho : o = a * k) (hk : k + n * (a - 1) < 2048) (v : Memref sig .tc .vmem (Mat.M 2048 128) .f32)
    (hv : v.IsWhole) (x : (Mat.M 2048 128).Idx → EReal) (hl hs) :
    Agrees a n x ⟨Rect.unit (s := Mat.M 2048 128) ![o, 0] ![a, 128] hs, View.readAt (Elt Ideal) v.view (⟨![k, 0], ![a, 128], ![n, 1], hl⟩ : LoadRect (Mat.M 2048 128)) (hv.unread x)⟩ := by
  intro y
  subst ho
  dsimp only
  rw [View.readAt_apply, hv.read_unread]
  have h0 : (y 0).val < a := (y 0).isLt
  have h1 : (y 1).val < 128 := (y 1).isLt
  unfold blk
  congr 1
  funext d
  refine Fin.ext ?_
  have e0 : ((Rect.unit (s := Mat.M 2048 128) ![a * k, 0] ![a, 128] hs).emb y 0).val = a * k + 1 * (y 0).val := rfl
  have e1 : ((Rect.unit (s := Mat.M 2048 128) ![a * k, 0] ![a, 128] hs).emb y 1).val = 0 + 1 * (y 1).val := rfl
  match d with
  | 0 =>
    show k + n * (y 0).val = (((Rect.unit (s := Mat.M 2048 128) ![a * k, 0] ![a, 128] hs).emb y 0).val / a + n * (((Rect.unit (s := Mat.M 2048 128) ![a * k, 0] ![a, 128] hs).emb y 0).val % a)) % 2048
    have hle : n * (y 0).val ≤ n * (a - 1) := Nat.mul_le_mul_left _ (by omega)
    rw [e0, Nat.one_mul, Nat.mul_add_div (by omega), Nat.mul_add_mod, Nat.div_eq_of_lt h0, Nat.mod_eq_of_lt h0, Nat.add_zero, Nat.mod_eq_of_lt (by omega)]
  | 1 =>
    show 0 + 1 * (y 1).val = ((Rect.unit (s := Mat.M 2048 128) ![a * k, 0] ![a, 128] hs).emb y 1).val
    rw [e1]

end Move

end
-- ==== Proof.MoveRows.lean ====
/-
  The rows every sixteenth side by side: the kernel's array after its run.
-/
module

public import proofs.«01_k».proof.Proof.MoveSpec
public import proofs.«01_k».proof.Proof.Gen.Kernel35Ideal.Value
public import Idealize.ShloMosaic.Lib.Pipeline.Value
public import Idealize.ShloMosaic.Lib.Pipeline.ReadBack
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel35Ideal.Move

open Cert.Kernel35Ideal Cert.Kernel35Ideal.Gen

/-- The block a point leaves: its input block, reordered. -/
theorem out (c : Dev nD) (i : grid0.Coords) (arg2 : Memref sig .tc .vmem S2048x128 .f32) (harg2 : arg2.IsWhole) (arg3 : Memref sig .tc .vmem S2048x128 .f32) (harg3 : arg3.IsWhole)
    (x0 : Vec Ideal S2048x128 .f32) (y : S2048x128.Idx) : out0_A_1 c i arg2 harg2 arg3 harg3 x0 y = _root_.Move.blk 128 16 x0 y := by
  refine View.read_writes_apply_of_pieces _ _ (_root_.Move.blk 128 16 x0) _ ?_ y (cover0_A_1 c i arg2 harg2 arg3 harg3 x0 y)
  show ∀ p ∈ _, _root_.Move.Agrees 128 16 x0 p
  unfold kernelRun0_A
  dsimp only
  repeat refine List.forall_mem_cons.2 ⟨_root_.Move.piece _ _ _ _ (by decide) (by decide) _ _ _ _ _, ?_⟩
  exact List.forall_mem_nil _

variable (m : (ℓ : Loc nD τ sig) → Buf (Elt Ideal) ℓ)

/-- The block of each window at every grid point. -/
theorem idx : ∀ t : Fin cfg0.N, win0_0.index t = ![t.val / 8, t.val % 8] ∧ win0_1.index t = ![t.val / 8, t.val % 8] := by
  decide +kernel

/-- The whole array. -/
theorem arr1 (c : Dev nD) : (dats m 0 c).arrAt 1 cfg0.N = _root_.Move.arr 128 16 (m ((c : Thread nD τ).loc main_arg0)) := by
  refine (dats m 0 c).arrAt_eq_of_covers 1 _ (by decide +kernel) fun t hf y => ?_
  have hN : t.val < 32 := t.isLt
  obtain ⟨r, j, rfl⟩ : ∃ (r : Fin 2048) (j : Fin 128), y = ix2 r j := ⟨y 0, y 1, eq_ix2 y⟩
  blk_simp
  rw [after0_1]
  refine (out c _ _ _ _ _ _ _).trans ?_
  unfold _root_.Move.blk _root_.Move.arr
  have e : (t.val / 8 * 2048 + r.val) / 2048 = t.val / 8 := by omega
  have e' : (t.val / 8 * 2048 + r.val) % 2048 = r.val := by omega
  blk_ext [iblk, V, idx t, _root_.Move.src, e, e']

variable (ρ : Dev nD → PrngReg)

/-- The kernel's run: the reordered rows, and the argument as it was. -/
theorem run : θ_run defs (onTc (τ := τ) (main (F := Ideal))) ⟨m, fun _ => 0, ρ⟩ fun r => ∀ c : Dev nD,
      r.2.mem ((c : Thread nD τ).loc main_v0) = _root_.Move.arr 128 16 (m ((c : Thread nD τ).loc main_arg0))
      ∧ r.2.mem ((c : Thread nD τ).loc main_arg0) = m ((c : Thread nD τ).loc main_arg0) :=
  (θ_run defs _ _).mono (fun r h c => ⟨(h c).1.trans (arr1 m c), (h c).2⟩) (Value.run_blocks m ρ)

end Cert.Kernel35Ideal.Move

end
-- ==== Proof.MoveBack.lean ====
/-
  The reordering backwards: the kernel's array after its run.
-/
module

public import proofs.«01_k».proof.Proof.MoveSpec
public import proofs.«01_k».proof.Proof.Gen.Kernel36Ideal.Value
public import Idealize.ShloMosaic.Lib.Pipeline.Value
public import Idealize.ShloMosaic.Lib.Pipeline.ReadBack
public import Idealize.ShloMosaic.Lib.Tactic
public import Idealize.ShloMosaic.Lib.Tactic.CleanTypes

@[expose] public section

set_option maxRecDepth 16384

noncomputable section

open Idealize.ShloMosaic Idealize.ShloMosaic.TcCoe Idealize.SL.Sem

namespace Cert.Kernel36Ideal.Move

open Cert.Kernel36Ideal Cert.Kernel36Ideal.Gen

/-- The block a point leaves: its input block, reordered. -/
theorem out (c : Dev nD) (i : grid0.Coords) (arg2 : Memref sig .tc .vmem S2048x128 .f32) (harg2 : arg2.IsWhole) (arg3 : Memref sig .tc .vmem S2048x128 .f32) (harg3 : arg3.IsWhole)
    (x0 : Vec Ideal S2048x128 .f32) (y : S2048x128.Idx) : out0_A_1 c i arg2 harg2 arg3 harg3 x0 y = _root_.Move.blk 16 128 x0 y := by
  refine View.read_writes_apply_of_pieces _ _ (_root_.Move.blk 16 128 x0) _ ?_ y (cover0_A_1 c i arg2 harg2 arg3 harg3 x0 y)
  show ∀ p ∈ _, _root_.Move.Agrees 16 128 x0 p
  unfold kernelRun0_A
  dsimp only
  repeat refine List.forall_mem_cons.2 ⟨_root_.Move.piece _ _ _ _ (by decide) (by decide) _ _ _ _ _, ?_⟩
  exact List.forall_mem_nil _

variable (m : (ℓ : Loc nD τ sig) → Buf (Elt Ideal) ℓ)

/-- The block of each window at every grid point. -/
theorem idx : ∀ t : Fin cfg0.N, win0_0.index t = ![t.val / 8, t.val % 8] ∧ win0_1.index t = ![t.val / 8, t.val % 8] := by
  decide +kernel

/-- The whole array. -/
theorem arr1 (c : Dev nD) : (dats m 0 c).arrAt 1 cfg0.N = _root_.Move.arr 16 128 (m ((c : Thread nD τ).loc main_arg0)) := by
  refine (dats m 0 c).arrAt_eq_of_covers 1 _ (by decide +kernel) fun t hf y => ?_
  have hN : t.val < 32 := t.isLt
  obtain ⟨r, j, rfl⟩ : ∃ (r : Fin 2048) (j : Fin 128), y = ix2 r j := ⟨y 0, y 1, eq_ix2 y⟩
  blk_simp
  rw [after0_1]
  refine (out c _ _ _ _ _ _ _).trans ?_
  unfold _root_.Move.blk _root_.Move.arr
  have e : (t.val / 8 * 2048 + r.val) / 2048 = t.val / 8 := by omega
  have e' : (t.val / 8 * 2048 + r.val) % 2048 = r.val := by omega
  blk_ext [iblk, V, idx t, _root_.Move.src, e, e']

variable (ρ : Dev nD → PrngReg)

/-- The kernel's run: the reordered rows, and the argument as it was. -/
theorem run : θ_run defs (onTc (τ := τ) (main (F := Ideal))) ⟨m, fun _ => 0, ρ⟩ fun r => ∀ c : Dev nD,
      r.2.mem ((c : Thread nD τ).loc main_v0) = _root_.Move.arr 16 128 (m ((c : Thread nD τ).loc main_arg0))
      ∧ r.2.mem ((c : Thread nD τ).loc main_arg0) = m ((c : Thread nD τ).loc main_arg0) :=
  (θ_run defs _ _).mono (fun r h c => ⟨(h c).1.trans (arr1 m c), (h c).2⟩) (Value.run_blocks m ρ)

end Cert.Kernel36Ideal.Move

end
-- ==== Proof.MoveRef.lean ====
/-
  The rows every sixteenth side by side, and back: the references' arrays after their runs.
-/
module

public import proofs.«01_k».proof.Proof.MoveSpec
public import proofs.«01_k».proof.Proof.Gen.Reference35Ideal.Run
public import proofs.«01_k».proof.Proof.Gen.Reference36Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference35Ideal.Move

open Cert.Reference35Ideal

variable (m : (ℓ : Loc nD τ sig) → Buf (Elt Ideal) ℓ)

/-- The reference's run: the reordered rows, and the argument as it was. -/
theorem run (ρ : Dev nD → PrngReg) : θ_run defs (onTc (τ := τ) (main (F := Ideal))) ⟨m, fun _ => 0, ρ⟩ fun r => ∀ c : Dev nD,
      r.2.mem ((c : Thread nD τ).loc main_v2) = _root_.Move.arr 128 16 (m ((c : Thread nD τ).loc main_arg0))
      ∧ r.2.mem ((c : Thread nD τ).loc main_arg0) = m ((c : Thread nD τ).loc main_arg0) := by
  refine (θ_run defs _ _).mono (fun r h c => ⟨(h c).1.trans ?_, (h c).2⟩) (Value.run m ρ)
  clear h r
  clean_types
  funext i
  obtain ⟨p, q, rfl⟩ : ∃ (p : Fin 8192) (q : Fin 1024), i = ix2 p q := ⟨i 0, i 1, eq_ix2 i⟩
  pointwise []
  unfold _root_.Move.arr _root_.Move.src
  refine congrArg _ (congrArg (fun z => ix2 z q) (Fin.ext ?_))
  show p.val / 2048 * 2048 + p.val % 128 * 16 + p.val / 128 % 16 =
    2048 * (p.val / 2048) + (p.val % 2048 / 128 + 16 * (p.val % 2048 % 128)) % 2048
  have e : p.val % 2048 / 128 = p.val / 128 % 16 := Nat.mod_mul_right_div_self p.val 128 16
  have e' : p.val % 2048 % 128 = p.val % 128 := Nat.mod_mod_of_dvd _ (by decide)
  have e'' : (p.val / 128 % 16 + 16 * (p.val % 128)) % 2048 = p.val / 128 % 16 + 16 * (p.val % 128) := Nat.mod_eq_of_lt (by omega)
  rw [e, e', e'']
  omega

end Cert.Reference35Ideal.Move

namespace Cert.Reference36Ideal.Move

open Cert.Reference36Ideal

variable (m : (ℓ : Loc nD τ sig) → Buf (Elt Ideal) ℓ)

/-- The reference's run: the rows as they were before the reordering, and the argument as it was. -/
theorem run (ρ : Dev nD → PrngReg) : θ_run defs (onTc (τ := τ) (main (F := Ideal))) ⟨m, fun _ => 0, ρ⟩ fun r => ∀ c : Dev nD,
      r.2.mem ((c : Thread nD τ).loc main_v6) = _root_.Move.arr 16 128 (m ((c : Thread nD τ).loc main_arg0))
      ∧ r.2.mem ((c : Thread nD τ).loc main_arg0) = m ((c : Thread nD τ).loc main_arg0) := by
  refine (θ_run defs _ _).mono (fun r h c => ⟨(h c).1.trans ?_, (h c).2⟩) (Value.run m ρ)
  clear h r
  clean_types
  funext i
  obtain ⟨p, q, rfl⟩ : ∃ (p : Fin 8192) (q : Fin 1024), i = ix2 p q := ⟨i 0, i 1, eq_ix2 i⟩
  pointwise []
  unfold _root_.Move.arr _root_.Move.src
  refine congrArg _ (congrArg (fun z => ix2 z q) (Fin.ext ?_))
  show p.val / 2048 * 2048 + p.val % 16 * 128 + p.val / 16 % 128 =
    2048 * (p.val / 2048) + (p.val % 2048 / 16 + 128 * (p.val % 2048 % 16)) % 2048
  have e : p.val % 2048 / 16 = p.val / 16 % 128 := Nat.mod_mul_right_div_self p.val 16 128
  have e' : p.val % 2048 % 16 = p.val % 16 := Nat.mod_mod_of_dvd _ (by decide)
  have e'' : (p.val / 16 % 128 + 128 * (p.val % 16)) % 2048 = p.val / 16 % 128 + 128 * (p.val % 16) := Nat.mod_eq_of_lt (by omega)
  rw [e, e', e'']
  omega

end Cert.Reference36Ideal.Move

end
-- ==== Proof.PairFrameIdeal.lean ====
/-
  The optimiser's call on the shared keys' and values' matrix: every run ends, without fault, with the arguments as they were.
  The call reads the number of its own block of the gradient from a table; the table holds zero.
-/
module

public import proofs.«01_k».proof.Proof.Gen.Kernel37Ideal.Launch
public import proofs.«01_k».proof.Proof.Gen.Kernel37Ideal.Skeleton
public import proofs.«01_k».proof.Proof.Gen.Kernel37Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel37Ideal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel37Ideal Cert.Kernel37Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents: the block number zero. -/
def tab : pre0.Contents (Elt F) := fun
  | ⟨0, _⟩ => broadcastInDim S1 ![] bcast_S_S1 (constantI S_ 32 0#32)
  | ⟨_ + 1, h⟩ => absurd h (Nat.not_lt.2 (Nat.le_add_left _ _))

/-- The gradient's block at a grid point: the point's rows, the first columns. -/
theorem own_index (i : grid0.Coords) : cc0_transform_3 (F := F) inb_S1_S1_0 numel1_S1 tab i = ![(i 0).val, 0] := by
  have h : ∀ i : grid0.Coords, (Scalar.minsi 7#32 (Scalar.maxsi 0#32 (Scalar.subi (BitVec.ofNat 32 (i 0).val) 0#32))).toNat = (i 0).val := by decide +kernel
  show ![(Scalar.minsi 7#32 (Scalar.maxsi 0#32 (Scalar.subi (BitVec.ofNat 32 (i 0).val) 0#32))).toNat, (0#32).toNat] = _
  rw [h i]; rfl

/-- Those blocks are inside the gradient, and end at whole words. -/
theorem tab_ok : ok0 (F := F) tab := by
  intro i
  have hi : (i 0).val < 8 := (i 0).isLt
  rw [own_index]
  refine ⟨fun a => ?_, ?_⟩
  · match a with
    | ⟨0, _⟩ => show ((i 0).val + 1) * 128 ≤ 1024; omega
    | ⟨1, _⟩ => show (0 + 1) * 512 ≤ 2048; omega
  · exact .inr (Affine.block_words_dvd (of_decide_eq_true rfl) (by decide))

/-- The table as the region admits it. -/
abbrev adm : (pcfg0 (F := F)).Adm := ⟨tab, tab_ok⟩

/-- The call as a pipeline at that table. -/
abbrev C : Pipeline.Cfg sig Λ₀ := cfg0 (F := F) adm

/-! ## The program up to the call -/

/-- The buffers when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the table's two lines, then the call. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The table's lines leave argument 0 alone. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
/-- The table's lines leave argument 1 alone. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
/-- The table's lines leave argument 2 alone. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
/-- The table's lines leave argument 3 alone. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
/-- The table's lines leave argument 4 alone. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))
/-- The table's lines leave argument 5 alone. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, Finset.mem_singleton]
    repeat' apply And.intro
    all_goals exact StableHlo.devRef_ne_of_ne (by decide)))

/-- The table's buffer holds the table. -/
theorem V_v0 (c : Dev nD) : V m c main_v0 = broadcastInDim S1 ![] bcast_S_S1 (constantI S_ 32 0#32) := by
  unfold V hostOps0
  simp only [List.flatten_cons, List.flatten_nil, List.append_nil, List.cons_append, List.nil_append]
  after_results_simp

theorem V_tab (c : Dev nD) : V m c main_v0 = tab (F := F) 0 := V_v0 m c

/-! ## The windows' blocks -/

/-- Window `w`'s block at point `t`, read off its array as the call finds it. -/
def iblk (c : Dev nD) (w : Fin 10) (t : Fin (C (F := F)).N) : (((C (F := F)).win w).xblock ((C (F := F)).grid.coords t)).Idx → Elt F ((C (F := F)).win w).elt :=
  (((C (F := F)).win w).blk t).view.read (Elt F) (V m c (Pipeline.arrRef spec0 w))

/-- Input 0's buffer holds its block at every point. -/
theorem before_0_of {c : Dev nD} (dat : Dat τ (Elt F) Unit ℕ (UR sig nD τ) ℕ (C (F := F)) c) (hA : dat.A 0 = V m c (Pipeline.arrRef spec0 0))
    (hafter : ∀ t, dat.after 0 t = iblk m c 0 t) (t : Fin (C (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point. -/
theorem before_1_of {c : Dev nD} (dat : Dat τ (Elt F) Unit ℕ (UR sig nD τ) ℕ (C (F := F)) c) (hA : dat.A 1 = V m c (Pipeline.arrRef spec0 1))
    (hafter : ∀ t, dat.after 1 t = iblk m c 1 t) (t : Fin (C (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point. -/
theorem before_2_of {c : Dev nD} (dat : Dat τ (Elt F) Unit ℕ (UR sig nD τ) ℕ (C (F := F)) c) (hA : dat.A 2 = V m c (Pipeline.arrRef spec0 2))
    (hafter : ∀ t, dat.after 2 t = iblk m c 2 t) (t : Fin (C (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point. -/
theorem before_3_of {c : Dev nD} (dat : Dat τ (Elt F) Unit ℕ (UR sig nD τ) ℕ (C (F := F)) c) (hA : dat.A 3 = V m c (Pipeline.arrRef spec0 3))
    (hafter : ∀ t, dat.after 3 t = iblk m c 3 t) (t : Fin (C (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point. -/
theorem before_4_of {c : Dev nD} (dat : Dat τ (Elt F) Unit ℕ (UR sig nD τ) ℕ (C (F := F)) c) (hA : dat.A 4 = V m c (Pipeline.arrRef spec0 4))
    (hafter : ∀ t, dat.after 4 t = iblk m c 4 t) (t : Fin (C (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's buffer holds its block at every point. -/
theorem before_5_of {c : Dev nD} (dat : Dat τ (Elt F) Unit ℕ (UR sig nD τ) ℕ (C (F := F)) c) (hA : dat.A 5 = V m c (Pipeline.arrRef spec0 5))
    (hafter : ∀ t, dat.after 5 t = iblk m c 5 t) (t : Fin (C (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The two rows of pieces, and the whole of a block. -/
abbrev r0 : Rect S128x512 := Rect.unit (s := S128x512) ![0, 0] S128x512.size inb_S128x512_S128x512_0_0
abbrev p0 : Rect S3x128x512 := Rect.unit (s := S3x128x512) ![0, 0, 0] S1x128x512.size inb_S3x128x512_S1x128x512_0_0_0
abbrev p1 : Rect S3x128x512 := Rect.unit (s := S3x128x512) ![1, 0, 0] S1x128x512.size inb_S3x128x512_S1x128x512_1_0_0
abbrev p2 : Rect S3x128x512 := Rect.unit (s := S3x128x512) ![2, 0, 0] S1x128x512.size inb_S3x128x512_S1x128x512_2_0_0
abbrev q0 : Rect S4x128x512 := Rect.unit (s := S4x128x512) ![0, 0, 0] S1x128x512.size inb_S4x128x512_S1x128x512_0_0_0
abbrev q1 : Rect S4x128x512 := Rect.unit (s := S4x128x512) ![1, 0, 0] S1x128x512.size inb_S4x128x512_S1x128x512_1_0_0
abbrev q2 : Rect S4x128x512 := Rect.unit (s := S4x128x512) ![2, 0, 0] S1x128x512.size inb_S4x128x512_S1x128x512_2_0_0
abbrev q3 : Rect S4x128x512 := Rect.unit (s := S4x128x512) ![3, 0, 0] S1x128x512.size inb_S4x128x512_S1x128x512_3_0_0

/-- The sum of the device's own piece and the seven others. -/
abbrev total (x3 : Vec F S128x512 .bf16) (x4 : Vec F S3x128x512 .bf16) (x5 : Vec F S4x128x512 .bf16) : FVec F S128x512 .f32 :=
  k0_pay4 (View.ld x3 r0) (View.ld x5 q0) (View.ld x4 p0) (View.ld x5 q1) (View.ld x4 p1) (View.ld x5 q2) (View.ld x4 p2) (View.ld x5 q3)

/-- Output 6's buffer after the body: the summed gradient. -/
def out_6 (x0 : Vec F S128x512 .f32) (x1 : Vec F S128x512 .f32) (x2 : Vec F S128x512 .f32) (x3 : Vec F S128x512 .bf16) (x4 : Vec F S3x128x512 .bf16) (x5 : Vec F S4x128x512 .bf16) : Vec F S128x512 .f32 :=
  View.canon [⟨r0, total x3 x4 x5⟩]
/-- Output 7's buffer after the body: the step. -/
def out_7 (x0 : Vec F S128x512 .f32) (x1 : Vec F S128x512 .f32) (x2 : Vec F S128x512 .f32) (x3 : Vec F S128x512 .bf16) (x4 : Vec F S3x128x512 .bf16) (x5 : Vec F S4x128x512 .bf16) : Vec F S128x512 .f32 :=
  View.canon [⟨r0, k0_pay3 (total x3 x4 x5) (View.ld x0 r0) (View.ld x1 r0) (View.ld x2 r0)⟩]
/-- Output 8's buffer after the body: the first moment. -/
def out_8 (x0 : Vec F S128x512 .f32) (x1 : Vec F S128x512 .f32) (x2 : Vec F S128x512 .f32) (x3 : Vec F S128x512 .bf16) (x4 : Vec F S3x128x512 .bf16) (x5 : Vec F S4x128x512 .bf16) : Vec F S128x512 .f32 :=
  View.canon [⟨r0, k0_pay1 (total x3 x4 x5) (View.ld x1 r0)⟩]
/-- Output 9's buffer after the body: the second moment. -/
def out_9 (x0 : Vec F S128x512 .f32) (x1 : Vec F S128x512 .f32) (x2 : Vec F S128x512 .f32) (x3 : Vec F S128x512 .bf16) (x4 : Vec F S3x128x512 .bf16) (x5 : Vec F S4x128x512 .bf16) : Vec F S128x512 .f32 :=
  View.canon [⟨r0, k0_pay2 (total x3 x4 x5) (View.ld x2 r0)⟩]

/-- A store of the whole of a block covers it. -/
theorem cover (p0 : Vec F S128x512 .f32) (y : S128x512.Idx) :
    ∃ pc ∈ ([⟨r0, p0⟩] : List (View.Piece (Elt F) S128x512 .f32)), y ∈ pc.1.set :=
  View.cover_of_tiled [⟨r0, p0⟩] S128x512.size (by rfl) y

/-- There is one layer, so every grid point is its. -/
theorem cond_true : ∀ i : grid0.Coords, k0_cond1 i = 1#1 := by decide +kernel

set_option maxHeartbeats 1000000 in
/-- The body on whole buffers: the inputs' are kept and each output's is left at its value. -/
theorem sound_kernel (c : Dev nD) (E : Set ℕ) (i : grid0.Coords) (arg1 : Memref sig .tc .smem S1 .i32) (harg1 : arg1.IsWhole) (arg2 : Memref sig .tc .vmem S128x512 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .bf16) (harg5 : arg5.IsWhole) (arg6 : Memref sig .tc .vmem S3x128x512 .bf16) (harg6 : arg6.IsWhole) (arg7 : Memref sig .tc .vmem S4x128x512 .bf16) (harg7 : arg7.IsWhole) (arg8 : Memref sig .tc .vmem S128x512 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S128x512 .f32) (harg11 : arg11.IsWhole)
    (x0 : Vec F S128x512 .f32) (x1 : Vec F S128x512 .f32) (x2 : Vec F S128x512 .f32) (x3 : Vec F S128x512 .bf16) (x4 : Vec F S3x128x512 .bf16) (x5 : Vec F S4x128x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out_6 x0 x1 x2 x3 x4 x5) ∗ owns (c : Thread nD τ) arg9 fullShare (out_7 x0 x1 x2 x3 x4 x5) ∗ owns (c : Thread nD τ) arg10 fullShare (out_8 x0 x1 x2 x3 x4 x5) ∗ owns (c : Thread nD τ) arg11 fullShare (out_9 x0 x1 x2 x3 x4 x5)) -∗ K ⟨⟩))
      ⊢ wp frame (wpE (defs₀ (F := F)) Variants.none c none) E (cc0_adamw_kv i arg1 harg1 arg2 harg2 arg3 harg3 arg4 harg4 arg5 harg5 arg6 harg6 arg7 harg7 arg8 harg8 arg9 harg9 arg10 harg10 arg11 harg11) K := by
  simp only [cc0_adamw_kv_eq_skeleton]; unfold cc0_adamw_kv_skel
  rw [dif_pos (cond_true i)]
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover _)
  isplitl [H7]
  · iexists _; isplitr
    swap; · iexact H7
    ipureintro
    exact View.read_writes_eq_canon _ _ _ (cover _)
  isplitl [H8]
  · iexists _; isplitr
    swap; · iexact H8
    ipureintro
    exact View.read_writes_eq_canon _ _ _ (cover _)
  iexists _; isplitr
  swap; · iexact H9
  ipureintro
  exact View.read_writes_eq_canon _ _ _ (cover _)

/-! ## The pipeline's proof data -/

/-- The arrays as the call finds them; after the body each input's block and each output's value; the table beside them. -/
def dats (_ : Fin 1) (c : Dev nD) : Dat τ (Elt F) Unit ℕ (UR sig nD τ) ℕ (C (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out_6 (iblk m c 0 t) (iblk m c 1 t) (iblk m c 2 t) (iblk m c 3 t) (iblk m c 4 t) (iblk m c 5 t)
    | ⟨7, _⟩ => out_7 (iblk m c 0 t) (iblk m c 1 t) (iblk m c 2 t) (iblk m c 3 t) (iblk m c 4 t) (iblk m c 5 t)
    | ⟨8, _⟩ => out_8 (iblk m c 0 t) (iblk m c 1 t) (iblk m c 2 t) (iblk m c 3 t) (iblk m c 4 t) (iblk m c 5 t)
    | ⟨9, _⟩ => out_9 (iblk m c 0 t) (iblk m c 1 t) (iblk m c 2 t) (iblk m c 3 t) (iblk m c 4 t) (iblk m c 5 t)
  Φ _ := iprop(Pipeline.ΦA spec0 c ∗ Pipeline.ΦT pre0 (tab (F := F)) c)
  q _ := fullShare
  owed _ := 0

theorem A_eq (c : Dev nD) (w : Fin 10) : (dats m 0 c).A w = V m c (Pipeline.arrRef spec0 w) := by
  dsimp only [dats]

theorem after_0 (c : Dev nD) (t : Fin (C (F := F)).N) : (dats m 0 c).after 0 t = iblk m c 0 t := rfl
theorem after_1 (c : Dev nD) (t : Fin (C (F := F)).N) : (dats m 0 c).after 1 t = iblk m c 1 t := rfl
theorem after_2 (c : Dev nD) (t : Fin (C (F := F)).N) : (dats m 0 c).after 2 t = iblk m c 2 t := rfl
theorem after_3 (c : Dev nD) (t : Fin (C (F := F)).N) : (dats m 0 c).after 3 t = iblk m c 3 t := rfl
theorem after_4 (c : Dev nD) (t : Fin (C (F := F)).N) : (dats m 0 c).after 4 t = iblk m c 4 t := rfl
theorem after_5 (c : Dev nD) (t : Fin (C (F := F)).N) : (dats m 0 c).after 5 t = iblk m c 5 t := rfl
theorem after_6 (c : Dev nD) (t : Fin (C (F := F)).N) : (dats m 0 c).after 6 t = out_6 (iblk m c 0 t) (iblk m c 1 t) (iblk m c 2 t) (iblk m c 3 t) (iblk m c 4 t) (iblk m c 5 t) := by
  dsimp only [dats]
  first | done | rfl
theorem after_7 (c : Dev nD) (t : Fin (C (F := F)).N) : (dats m 0 c).after 7 t = out_7 (iblk m c 0 t) (iblk m c 1 t) (iblk m c 2 t) (iblk m c 3 t) (iblk m c 4 t) (iblk m c 5 t) := by
  dsimp only [dats]
  first | done | rfl
theorem after_8 (c : Dev nD) (t : Fin (C (F := F)).N) : (dats m 0 c).after 8 t = out_8 (iblk m c 0 t) (iblk m c 1 t) (iblk m c 2 t) (iblk m c 3 t) (iblk m c 4 t) (iblk m c 5 t) := by
  dsimp only [dats]
  first | done | rfl
theorem after_9 (c : Dev nD) (t : Fin (C (F := F)).N) : (dats m 0 c).after 9 t = out_9 (iblk m c 0 t) (iblk m c 1 t) (iblk m c 2 t) (iblk m c 3 t) (iblk m c 4 t) (iblk m c 5 t) := by
  dsimp only [dats]
  first | done | rfl

theorem before_0 (c : Dev nD) (t : Fin (C (F := F)).N) (d) : (dats m 0 c).before 0 t d = iblk m c 0 t :=
  before_0_of m (dats m 0 c) (A_eq m c 0) (after_0 m c) t d
theorem before_1 (c : Dev nD) (t : Fin (C (F := F)).N) (d) : (dats m 0 c).before 1 t d = iblk m c 1 t :=
  before_1_of m (dats m 0 c) (A_eq m c 1) (after_1 m c) t d
theorem before_2 (c : Dev nD) (t : Fin (C (F := F)).N) (d) : (dats m 0 c).before 2 t d = iblk m c 2 t :=
  before_2_of m (dats m 0 c) (A_eq m c 2) (after_2 m c) t d
theorem before_3 (c : Dev nD) (t : Fin (C (F := F)).N) (d) : (dats m 0 c).before 3 t d = iblk m c 3 t :=
  before_3_of m (dats m 0 c) (A_eq m c 3) (after_3 m c) t d
theorem before_4 (c : Dev nD) (t : Fin (C (F := F)).N) (d) : (dats m 0 c).before 4 t d = iblk m c 4 t :=
  before_4_of m (dats m 0 c) (A_eq m c 4) (after_4 m c) t d
theorem before_5 (c : Dev nD) (t : Fin (C (F := F)).N) (d) : (dats m 0 c).before 5 t d = iblk m c 5 t :=
  before_5_of m (dats m 0 c) (A_eq m c 5) (after_5 m c) t d

/-! ## The body at a point -/

/-- What the body is called with at a point, -/
def bodyPre (c : Dev nD) (t : Fin (C (F := F)).N) : sProp 𝕄 :=
  iprop((dats m 0 c).Φ t.castSucc ∗ (dats m 0 c).owesAt () t.castSucc
    ∗ (∃ d, owns (c : Thread nD τ) (st0_0 adm t) fullShare ((dats m 0 c).before 0 t d))
    ∗ (∃ d, owns (c : Thread nD τ) (st0_1 adm t) fullShare ((dats m 0 c).before 1 t d))
    ∗ (∃ d, owns (c : Thread nD τ) (st0_2 adm t) fullShare ((dats m 0 c).before 2 t d))
    ∗ (∃ d, owns (c : Thread nD τ) (st0_3 adm t) fullShare ((dats m 0 c).before 3 t d))
    ∗ (∃ d, owns (c : Thread nD τ) (st0_4 adm t) fullShare ((dats m 0 c).before 4 t d))
    ∗ (∃ d, owns (c : Thread nD τ) (st0_5 adm t) fullShare ((dats m 0 c).before 5 t d))
    ∗ (∃ d, owns (c : Thread nD τ) (st0_6 adm t) fullShare ((dats m 0 c).before 6 t d))
    ∗ (∃ d, owns (c : Thread nD τ) (st0_7 adm t) fullShare ((dats m 0 c).before 7 t d))
    ∗ (∃ d, owns (c : Thread nD τ) (st0_8 adm t) fullShare ((dats m 0 c).before 8 t d))
    ∗ (∃ d, owns (c : Thread nD τ) (st0_9 adm t) fullShare ((dats m 0 c).before 9 t d)))

/-- and what it returns. -/
def bodyPost (c : Dev nD) (t : Fin (C (F := F)).N) : sProp 𝕄 :=
  iprop((dats m 0 c).Φ t.succ ∗ (dats m 0 c).owesAt () t.succ
    ∗ owns (c : Thread nD τ) (st0_0 adm t) fullShare ((dats m 0 c).after 0 t)
    ∗ owns (c : Thread nD τ) (st0_1 adm t) fullShare ((dats m 0 c).after 1 t)
    ∗ owns (c : Thread nD τ) (st0_2 adm t) fullShare ((dats m 0 c).after 2 t)
    ∗ owns (c : Thread nD τ) (st0_3 adm t) fullShare ((dats m 0 c).after 3 t)
    ∗ owns (c : Thread nD τ) (st0_4 adm t) fullShare ((dats m 0 c).after 4 t)
    ∗ owns (c : Thread nD τ) (st0_5 adm t) fullShare ((dats m 0 c).after 5 t)
    ∗ owns (c : Thread nD τ) (st0_6 adm t) fullShare ((dats m 0 c).after 6 t)
    ∗ owns (c : Thread nD τ) (st0_7 adm t) fullShare ((dats m 0 c).after 7 t)
    ∗ owns (c : Thread nD τ) (st0_8 adm t) fullShare ((dats m 0 c).after 8 t)
    ∗ owns (c : Thread nD τ) (st0_9 adm t) fullShare ((dats m 0 c).after 9 t))

/-- The body at any point. -/
theorem sound_body (c : Dev nD) (t : Fin (C (F := F)).N) :
    bodyPre m c t ⊢ wp frame (wpE (defs₀ (F := F)) Variants.none c none) Set.univ (bodyAt0 adm t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) (Memref.whole main_v0) (Memref.isWhole_whole _) _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at a point is the body there. -/
theorem defs₀_row (t : Fin (C (F := F)).N) :
    defs₀ (F := F) .tc (C (F := F)).body ((C (F := F)).bodyArgs t ((C (F := F)).slots t)) = bodyAt0 adm t := by
  unfold defs₀; rw [Defs.onTc_tc]

/-- No output is left alone at any point. -/
theorem live (w : Fin 10) (i : grid0.Coords) : (C (F := F)).idle w i = false := by
  have h := cond_true i
  show idle0 w i = false
  match w with
  | 0 => rfl
  | 1 => rfl
  | 2 => rfl
  | 3 => rfl
  | 4 => rfl
  | 5 => rfl
  | 6 => show (!(k0_cond1 i == 1#1)) = false; rw [h]; rfl
  | 7 => show (!(k0_cond1 i == 1#1)) = false; rw [h]; rfl
  | 8 => show (!(k0_cond1 i == 1#1)) = false; rw [h]; rfl
  | 9 => show (!(k0_cond1 i == 1#1)) = false; rw [h]; rfl

theorem leaves_6 (c : Dev nD) (t : Fin (C (F := F)).N) : (dats m 0 c).leavesExact 6 t = owns (c : Thread nD τ) (st0_6 adm t) fullShare ((dats m 0 c).after 6 t) := by
  unfold Dat.leavesExact; rw [live (F := F) 6 _]
theorem leaves_7 (c : Dev nD) (t : Fin (C (F := F)).N) : (dats m 0 c).leavesExact 7 t = owns (c : Thread nD τ) (st0_7 adm t) fullShare ((dats m 0 c).after 7 t) := by
  unfold Dat.leavesExact; rw [live (F := F) 7 _]
theorem leaves_8 (c : Dev nD) (t : Fin (C (F := F)).N) : (dats m 0 c).leavesExact 8 t = owns (c : Thread nD τ) (st0_8 adm t) fullShare ((dats m 0 c).after 8 t) := by
  unfold Dat.leavesExact; rw [live (F := F) 8 _]
theorem leaves_9 (c : Dev nD) (t : Fin (C (F := F)).N) : (dats m 0 c).leavesExact 9 t = owns (c : Thread nD τ) (st0_9 adm t) fullShare ((dats m 0 c).after 9 t) := by
  unfold Dat.leavesExact; rw [live (F := F) 9 _]

/-- The obligation at every point. -/
theorem body_obligation (c : Dev nD) : BodyObligation (dats (F := F) m 0 c) (defs₀ (F := F)) Variants.none () Set.univ := fun t => by
  rw [defs₀_row]
  rw [bigSep_W0, bigSep_W0]
  refine triple_restated (sound_body m c t) rfl .rfl fun _ => ?_
  show bodyPost m c t ⊢ iprop((dats m 0 c).Φ t.succ ∗ (dats m 0 c).owesAt () t.succ
    ∗ owns (c : Thread nD τ) (st0_0 adm t) fullShare ((dats m 0 c).after 0 t)
    ∗ owns (c : Thread nD τ) (st0_1 adm t) fullShare ((dats m 0 c).after 1 t)
    ∗ owns (c : Thread nD τ) (st0_2 adm t) fullShare ((dats m 0 c).after 2 t)
    ∗ owns (c : Thread nD τ) (st0_3 adm t) fullShare ((dats m 0 c).after 3 t)
    ∗ owns (c : Thread nD τ) (st0_4 adm t) fullShare ((dats m 0 c).after 4 t)
    ∗ owns (c : Thread nD τ) (st0_5 adm t) fullShare ((dats m 0 c).after 5 t)
    ∗ (dats m 0 c).leavesExact 6 t
    ∗ (dats m 0 c).leavesExact 7 t
    ∗ (dats m 0 c).leavesExact 8 t
    ∗ (dats m 0 c).leavesExact 9 t)
  rw [leaves_6, leaves_7, leaves_8, leaves_9]
  exact (Entails.rfl : bodyPost m c t ⊢ bodyPost m c t)

/-! ## The run -/

set_option backward.isDefEq.respectTransparency.types false in
set_option maxHeartbeats 800000 in
/-- Every run ends with the arrays at what the data say, every other buffer as the call found it, and every counter at zero. -/
theorem run_main_quiescent : θ_run defs (onTc (τ := τ) (main (F := F))) (s₀ m ρ)
    (fun r => (Pipeline.FramePost (Pipeline.pin (pcfgs (F := F)) fun _ => adm) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => match k with
      | ⟨0, _⟩ => V_tab m c
      | ⟨_ + 1, h⟩ => absurd h (Nat.not_lt.2 (Nat.le_add_left _ _)))
    (hΦ := fun _ _ => rfl)

/-- The same without the counters. -/
theorem run_main : θ_run defs (onTc (τ := τ) (main (F := F))) (s₀ m ρ) (Pipeline.FramePost (Pipeline.pin (pcfgs (F := F)) fun _ => adm) (dats m) 0 (V m)) :=
  (θ_run defs _ _).mono (fun _ h => h.1) (run_main_quiescent m ρ)

theorem kept_main_arg0 (r : PUnit × MemSt nD τ sig (Elt F)) (h : Pipeline.FramePost (Pipeline.pin (pcfgs (F := F)) fun _ => adm) (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost (Pipeline.pin (pcfgs (F := F)) fun _ => adm) (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept_main_arg2 (r : PUnit × MemSt nD τ sig (Elt F)) (h : Pipeline.FramePost (Pipeline.pin (pcfgs (F := F)) fun _ => adm) (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt F)) (h : Pipeline.FramePost (Pipeline.pin (pcfgs (F := F)) fun _ => adm) (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept_main_arg4 (r : PUnit × MemSt nD τ sig (Elt F)) (h : Pipeline.FramePost (Pipeline.pin (pcfgs (F := F)) fun _ => adm) (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept_main_arg5 (r : PUnit × MemSt nD τ sig (Elt F)) (h : Pipeline.FramePost (Pipeline.pin (pcfgs (F := F)) fun _ => adm) (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨kept_main_arg0 m r h c, kept_main_arg1 m r h c, kept_main_arg2 m r h c, kept_main_arg3 m r h c, kept_main_arg4 m r h c, kept_main_arg5 m r h c⟩) (run_main m ρ)

/-- The arguments end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel37Ideal.Pair

end
-- ==== Proof.PairSpec.lean ====
/-
  The optimiser's call on the shared keys' and values' matrix, over the extended reals: the gradient summed from the pieces.
-/
module

public import proofs.«01_k».proof.Proof.AdamSpec
public import Idealize.ShloMosaic.Lib.Pointwise

@[expose] public section

noncomputable section

open Idealize.ShloMosaic

namespace Adam

/-- `n` pieces of 1024 rows and 512 columns. -/
abbrev Pieces (n : ℕ) : Shape := ⟨3, ![n, 1024, 512]⟩

/-- The gradient: the first 512 columns of the device's own, and the three and the four pieces the other devices send. -/
def summed (g : (Mat.M 1024 2048).Idx → EReal) (s : (Pieces 3).Idx → EReal) (b : (Pieces 4).Idx → EReal) : (Mat.M 1024 512).Idx → EReal := fun i =>
  g (ix2 (i 0) (⟨(i 1).val, Nat.lt_of_lt_of_le (i 1).isLt (by decide)⟩ : Fin 2048)) + (∑ k : Fin 3, s (ix3 k (i 0) (i 1)))
    + ∑ k : Fin 4, b (ix3 k (i 0) (i 1))

/-- The step on every entry. -/
def steps (w m v g : (Mat.M 1024 512).Idx → EReal) : (Mat.M 1024 512).Idx → EReal := fun i => step (w i) (m i) (v i) (g i)

/-- The first moment of every entry. -/
def moments1 (m g : (Mat.M 1024 512).Idx → EReal) : (Mat.M 1024 512).Idx → EReal := fun i => moment1 (m i) (g i)

/-- The second moment of every entry. -/
def moments2 (v g : (Mat.M 1024 512).Idx → EReal) : (Mat.M 1024 512).Idx → EReal := fun i => moment2 (v i) (g i)

end Adam

end
-- ==== Proof.PairValue.lean ====
/-
  The optimiser's call on the shared keys' and values' matrix: the kernel's four result arrays after its run.
-/
module

public import proofs.«01_k».proof.Proof.PairSpec
public import proofs.«01_k».proof.Proof.PairFrameIdeal
public import Idealize.ShloMosaic.Lib.Pipeline.ValueKit
public import Idealize.ShloMosaic.Lib.Pipeline.Value
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Kernel37Ideal.Pair

open Cert.Kernel37Ideal Cert.Kernel37Ideal.Gen _root_.Adam

/-! ## A point's blocks -/

section Block

variable (x0 x1 x2 : Vec Ideal S128x512 .f32) (x3 : Vec Ideal S128x512 .bf16) (x4 : Vec Ideal S3x128x512 .bf16) (x5 : Vec Ideal S4x128x512 .bf16)

theorem zeros2 : (![0, 0] : Fin 2 → Nat) = fun _ => 0 := funext fun a => by fin_cases a <;> rfl

/-- A load of one piece reads it. -/
theorem ld_p (k : Fin 3) (h) (a : Fin 128) (q : Fin 512) :
    View.ld x4 (Rect.unit (s := S3x128x512) ![k.val, 0, 0] S1x128x512.size h) (ix3 (0 : Fin 1) a q) = x4 (ix3 k a q) := by
  refine congrArg x4 (funext fun d => Fin.ext ?_)
  match d with
  | 0 => show k.val + 1 * 0 = k.val; omega
  | 1 => show 0 + 1 * a.val = a.val; omega
  | 2 => show 0 + 1 * q.val = q.val; omega

theorem ld_q (k : Fin 4) (h) (a : Fin 128) (q : Fin 512) :
    View.ld x5 (Rect.unit (s := S4x128x512) ![k.val, 0, 0] S1x128x512.size h) (ix3 (0 : Fin 1) a q) = x5 (ix3 k a q) := by
  refine congrArg x5 (funext fun d => Fin.ext ?_)
  match d with
  | 0 => show k.val + 1 * 0 = k.val; omega
  | 1 => show 0 + 1 * a.val = a.val; omega
  | 2 => show 0 + 1 * q.val = q.val; omega

/-- The sum at an entry, as the kernel writes it. -/
theorem sum_at (v20 : Vec Ideal S128x512 .bf16) (v22 v25 v29 v33 v37 v41 v45 : Vec Ideal S1x128x512 .bf16) (a : Fin 128) (q : Fin 512) :
    k0_pay4 v20 v22 v25 v29 v33 v37 v41 v45 (ix2 a q) =
      v20 (ix2 a q) + v25 (ix3 0 a q) + v33 (ix3 0 a q) + v41 (ix3 0 a q) + (v22 (ix3 0 a q) + v29 (ix3 0 a q) + v37 (ix3 0 a q) + v45 (ix3 0 a q)) := by
  pointwise [k0_pay4]

/-- The sum of the pieces at an entry. -/
theorem total_at (a : Fin 128) (q : Fin 512) : total x3 x4 x5 (ix2 a q) =
    (x3 (ix2 a q) : EReal) + (∑ k : Fin 3, (x4 (ix3 k a q) : EReal)) + ∑ k : Fin 4, (x5 (ix3 k a q) : EReal) := by
  unfold total
  rw [sum_at, View.ld_unit_zero (S := S128x512) zeros2 _ x3, show View.ld x4 p0 (ix3 0 a q) = x4 (ix3 0 a q) from ld_p x4 0 _ a q, show View.ld x4 p1 (ix3 0 a q) = x4 (ix3 1 a q) from ld_p x4 1 _ a q, show View.ld x4 p2 (ix3 0 a q) = x4 (ix3 2 a q) from ld_p x4 2 _ a q, show View.ld x5 q0 (ix3 0 a q) = x5 (ix3 0 a q) from ld_q x5 0 _ a q, show View.ld x5 q1 (ix3 0 a q) = x5 (ix3 1 a q) from ld_q x5 1 _ a q, show View.ld x5 q2 (ix3 0 a q) = x5 (ix3 2 a q) from ld_q x5 2 _ a q, show View.ld x5 q3 (ix3 0 a q) = x5 (ix3 3 a q) from ld_q x5 3 _ a q,
    Fin.sum_univ_three, Fin.sum_univ_four]
  simp only [add_assoc]

/-- The four blocks a point leaves. -/
theorem block_6 : out_6 x0 x1 x2 x3 x4 x5 = total x3 x4 x5 := by
  unfold out_6
  rw [View.canon_unit_zero zeros2]

theorem block_7 (a : Fin 128) (q : Fin 512) : out_7 x0 x1 x2 x3 x4 x5 (ix2 a q) =
    step (x0 (ix2 a q)) (x1 (ix2 a q)) (x2 (ix2 a q)) (total x3 x4 x5 (ix2 a q)) := by
  unfold out_7
  rw [View.canon_unit_zero zeros2, View.ld_unit_zero (S := S128x512) zeros2 _ x0, View.ld_unit_zero (S := S128x512) zeros2 _ x1, View.ld_unit_zero (S := S128x512) zeros2 _ x2]
  generalize total x3 x4 x5 = g
  pointwise [k0_pay1, k0_pay2, k0_pay3, step, moment1, moment2]

theorem block_8 (a : Fin 128) (q : Fin 512) : out_8 x0 x1 x2 x3 x4 x5 (ix2 a q) = moment1 (x1 (ix2 a q)) (total x3 x4 x5 (ix2 a q)) := by
  unfold out_8
  rw [View.canon_unit_zero zeros2, View.ld_unit_zero (S := S128x512) zeros2 _ x1]
  generalize total x3 x4 x5 = g
  pointwise [k0_pay1, moment1]

theorem block_9 (a : Fin 128) (q : Fin 512) : out_9 x0 x1 x2 x3 x4 x5 (ix2 a q) = moment2 (x2 (ix2 a q)) (total x3 x4 x5 (ix2 a q)) := by
  unfold out_9
  rw [View.canon_unit_zero zeros2, View.ld_unit_zero (S := S128x512) zeros2 _ x2]
  generalize total x3 x4 x5 = g
  pointwise [k0_pay2, moment2]

end Block

/-! ## Where the blocks lie -/

theorem idx2 : ∀ t : Fin grid0.N, cc0_transform_0 (grid0.coords t) = ![t.val, 0] ∧ cc0_transform_1 (grid0.coords t) = ![t.val, 0] ∧
    cc0_transform_2 (grid0.coords t) = ![t.val, 0] ∧ cc0_transform_6 (grid0.coords t) = ![t.val, 0] ∧ cc0_transform_7 (grid0.coords t) = ![t.val, 0] ∧
    cc0_transform_8 (grid0.coords t) = ![t.val, 0] ∧ cc0_transform_9 (grid0.coords t) = ![t.val, 0] := by decide +kernel

theorem idx3 : ∀ t : Fin grid0.N, cc0_transform_4 (grid0.coords t) = ![0, t.val, 0] ∧ cc0_transform_5 (grid0.coords t) = ![0, t.val, 0] := by decide +kernel

theorem coords0 : ∀ t : Fin grid0.N, (grid0.coords t 0).val = t.val := by decide +kernel

theorem idx_own (t : Fin grid0.N) : cc0_transform_3 (F := Ideal) inb_S1_S1_0 numel1_S1 tab (grid0.coords t) = ![t.val, 0] := by
  rw [own_index, coords0]

variable (m : (ℓ : Loc nD τ sig) → Buf (Elt Ideal) ℓ)

/-- A row of a point's block as a row of the whole. -/
abbrev row (t : Fin (C (F := Ideal)).N) (a : Fin 128) : Fin 1024 := ⟨128 * t.val + a.val, by have h : t.val < 8 := t.isLt; omega⟩

/-- Input 0's block holds its argument's rows. -/
theorem read_0 (c : Dev nD) (t : Fin (C (F := Ideal)).N) (a : Fin 128) (q : Fin 512) :
    iblk m c 0 t (ix2 a q) = m ((c : Thread nD τ).loc main_arg0) (ix2 (row t a) q) := by
  have e : cc0_transform_0 (grid0.coords t) = ![t.val, 0] := (idx2 t).1
  refine (congrFun (V_main_arg0 m c) _).trans (congrArg (m ((c : Thread nD τ).loc main_arg0)) (funext fun d => Fin.ext ?_))
  match d with
  | 0 =>
    show cc0_transform_0 (grid0.coords t) 0 * 128 + 1 * a.val = 128 * t.val + a.val
    rw [e]; show t.val * 128 + 1 * a.val = _; omega
  | 1 =>
    show cc0_transform_0 (grid0.coords t) 1 * 512 + 1 * q.val = q.val
    rw [e]; show 0 * 512 + 1 * q.val = _; omega

/-- Input 1's block holds its argument's rows. -/
theorem read_1 (c : Dev nD) (t : Fin (C (F := Ideal)).N) (a : Fin 128) (q : Fin 512) :
    iblk m c 1 t (ix2 a q) = m ((c : Thread nD τ).loc main_arg1) (ix2 (row t a) q) := by
  have e : cc0_transform_1 (grid0.coords t) = ![t.val, 0] := (idx2 t).2.1
  refine (congrFun (V_main_arg1 m c) _).trans (congrArg (m ((c : Thread nD τ).loc main_arg1)) (funext fun d => Fin.ext ?_))
  match d with
  | 0 =>
    show cc0_transform_1 (grid0.coords t) 0 * 128 + 1 * a.val = 128 * t.val + a.val
    rw [e]; show t.val * 128 + 1 * a.val = _; omega
  | 1 =>
    show cc0_transform_1 (grid0.coords t) 1 * 512 + 1 * q.val = q.val
    rw [e]; show 0 * 512 + 1 * q.val = _; omega

/-- Input 2's block holds its argument's rows. -/
theorem read_2 (c : Dev nD) (t : Fin (C (F := Ideal)).N) (a : Fin 128) (q : Fin 512) :
    iblk m c 2 t (ix2 a q) = m ((c : Thread nD τ).loc main_arg2) (ix2 (row t a) q) := by
  have e : cc0_transform_2 (grid0.coords t) = ![t.val, 0] := (idx2 t).2.2.1
  refine (congrFun (V_main_arg2 m c) _).trans (congrArg (m ((c : Thread nD τ).loc main_arg2)) (funext fun d => Fin.ext ?_))
  match d with
  | 0 =>
    show cc0_transform_2 (grid0.coords t) 0 * 128 + 1 * a.val = 128 * t.val + a.val
    rw [e]; show t.val * 128 + 1 * a.val = _; omega
  | 1 =>
    show cc0_transform_2 (grid0.coords t) 1 * 512 + 1 * q.val = q.val
    rw [e]; show 0 * 512 + 1 * q.val = _; omega

/-- Input 3's block holds its argument's rows. -/
theorem read_3 (c : Dev nD) (t : Fin (C (F := Ideal)).N) (a : Fin 128) (q : Fin 512) :
    iblk m c 3 t (ix2 a q) = m ((c : Thread nD τ).loc main_arg3) (ix2 (row t a) (⟨q.val, by omega⟩ : Fin 2048)) := by
  have e : cc0_transform_3 (F := Ideal) inb_S1_S1_0 numel1_S1 tab (grid0.coords t) = ![t.val, 0] := idx_own t
  refine (congrFun (V_main_arg3 m c) _).trans (congrArg (m ((c : Thread nD τ).loc main_arg3)) (funext fun d => Fin.ext ?_))
  match d with
  | 0 =>
    show cc0_transform_3 (F := Ideal) inb_S1_S1_0 numel1_S1 tab (grid0.coords t) 0 * 128 + 1 * a.val = 128 * t.val + a.val
    rw [e]; show t.val * 128 + 1 * a.val = _; omega
  | 1 =>
    show cc0_transform_3 (F := Ideal) inb_S1_S1_0 numel1_S1 tab (grid0.coords t) 1 * 512 + 1 * q.val = q.val
    rw [e]; show 0 * 512 + 1 * q.val = _; omega

/-- Input 4's block holds its argument's rows. -/
theorem read_4 (c : Dev nD) (t : Fin (C (F := Ideal)).N) (k : Fin 3) (a : Fin 128) (q : Fin 512) :
    iblk m c 4 t (ix3 k a q) = m ((c : Thread nD τ).loc main_arg4) (ix3 k (row t a) q) := by
  have e : cc0_transform_4 (grid0.coords t) = ![0, t.val, 0] := (idx3 t).1
  refine (congrFun (V_main_arg4 m c) _).trans (congrArg (m ((c : Thread nD τ).loc main_arg4)) (funext fun d => Fin.ext ?_))
  match d with
  | 0 =>
    show cc0_transform_4 (grid0.coords t) 0 * 3 + 1 * k.val = k.val
    rw [e]; show 0 * 3 + 1 * k.val = _; omega
  | 1 =>
    show cc0_transform_4 (grid0.coords t) 1 * 128 + 1 * a.val = 128 * t.val + a.val
    rw [e]; show t.val * 128 + 1 * a.val = _; omega
  | 2 =>
    show cc0_transform_4 (grid0.coords t) 2 * 512 + 1 * q.val = q.val
    rw [e]; show 0 * 512 + 1 * q.val = _; omega

/-- Input 5's block holds its argument's rows. -/
theorem read_5 (c : Dev nD) (t : Fin (C (F := Ideal)).N) (k : Fin 4) (a : Fin 128) (q : Fin 512) :
    iblk m c 5 t (ix3 k a q) = m ((c : Thread nD τ).loc main_arg5) (ix3 k (row t a) q) := by
  have e : cc0_transform_5 (grid0.coords t) = ![0, t.val, 0] := (idx3 t).2
  refine (congrFun (V_main_arg5 m c) _).trans (congrArg (m ((c : Thread nD τ).loc main_arg5)) (funext fun d => Fin.ext ?_))
  match d with
  | 0 =>
    show cc0_transform_5 (grid0.coords t) 0 * 4 + 1 * k.val = k.val
    rw [e]; show 0 * 4 + 1 * k.val = _; omega
  | 1 =>
    show cc0_transform_5 (grid0.coords t) 1 * 128 + 1 * a.val = 128 * t.val + a.val
    rw [e]; show t.val * 128 + 1 * a.val = _; omega
  | 2 =>
    show cc0_transform_5 (grid0.coords t) 2 * 512 + 1 * q.val = q.val
    rw [e]; show 0 * 512 + 1 * q.val = _; omega

/-- The summed gradient of the arguments. -/
abbrev sum (c : Dev nD) : (Mat.M 1024 512).Idx → EReal :=
  summed (m ((c : Thread nD τ).loc main_arg3)) (m ((c : Thread nD τ).loc main_arg4)) (m ((c : Thread nD τ).loc main_arg5))

/-- A point's sum is the summed gradient's block. -/
theorem total_eq (c : Dev nD) (t : Fin (C (F := Ideal)).N) (a : Fin 128) (q : Fin 512) :
    total (iblk m c 3 t) (iblk m c 4 t) (iblk m c 5 t) (ix2 a q) = sum m c (ix2 (row t a) q) := by
  rw [total_at]
  refine congrArg₂ (· + ·) (congrArg₂ (· + ·) (read_3 m c t a q) ?_) ?_
  · exact Finset.sum_congr rfl fun k _ => read_4 m c t k a q
  · exact Finset.sum_congr rfl fun k _ => read_5 m c t k a q

/-! ## The result arrays -/

/-- An entry of a point's block of output 6 in the whole. -/
theorem emb_6 (t : Fin (C (F := Ideal)).N) (a : Fin 128) (q : Fin 512) :
    (((C (F := Ideal)).win 6).blk t).view.emb (ix2 a q) = (ix2 (row t a) q : S1024x512.Idx) := by
  have e : cc0_transform_6 (grid0.coords t) = ![t.val, 0] := (idx2 t).2.2.2.1
  refine funext fun d => Fin.ext ?_
  match d with
  | 0 =>
    show cc0_transform_6 (grid0.coords t) 0 * 128 + 1 * a.val = 128 * t.val + a.val
    rw [e]; show t.val * 128 + 1 * a.val = _; omega
  | 1 =>
    show cc0_transform_6 (grid0.coords t) 1 * 512 + 1 * q.val = q.val
    rw [e]; show 0 * 512 + 1 * q.val = _; omega

theorem flush_6 : ∀ t : Fin (C (F := Ideal)).N, ((C (F := Ideal)).win 6).flush t = true := fun t =>
  flush0_6 adm t

/-- What a point writes back. -/
theorem flushed_6 (c : Dev nD) (t : Fin (C (F := Ideal)).N) :
    (dats m 0 c).flushed 6 t = ((C (F := Ideal)).win 6).cut (grid0.coords t) (out_6 (iblk m c 0 t) (iblk m c 1 t) (iblk m c 2 t) (iblk m c 3 t) (iblk m c 4 t) (iblk m c 5 t)) := by
  show ((C (F := Ideal)).win 6).cut (grid0.coords t) ((dats m 0 c).after 6 t) = _
  rw [after_6]

theorem cut_6 (t : Fin (C (F := Ideal)).N) (X : Vec Ideal S128x512 .f32) (a : Fin 128) (q : Fin 512) :
    ((C (F := Ideal)).win 6).cut (grid0.coords t) X (ix2 a q) = X (ix2 a q) := rfl

/-- Output 6's array after the run. -/
theorem arr_6 (c : Dev nD) : (dats m 0 c).arrAt 6 (C (F := Ideal)).N = sum m c := by
  refine (dats m 0 c).arrAt_eq_of_cover 6 _ (fun t _ => ?_) fun i => ?_
  · refine funext fun (y : S128x512.Idx) => ?_
    obtain ⟨a, q, rfl⟩ : ∃ (a : Fin 128) (q : Fin 512), y = ix2 a q := ⟨y 0, y 1, eq_ix2 y⟩
    refine Eq.trans ?_ (congrArg (sum m c) (emb_6 t a q).symm)
    refine (congrFun (flushed_6 m c t) _).trans ((cut_6 t _ a q).trans ?_)
    rw [block_6]; exact total_eq m c t a q
  · have hi : (i 0).val < 1024 := (i 0).isLt
    let t : Fin (C (F := Ideal)).N := ⟨(i 0).val / 128, show (i 0).val / 128 < 8 by omega⟩
    refine ⟨t, flush_6 t, ?_⟩
    have h : (((C (F := Ideal)).win 6).blk t).view.emb (ix2 (⟨(i 0).val % 128, by omega⟩ : Fin 128) (i 1)) = i := by
      refine (emb_6 t _ (i 1)).trans ?_
      refine funext fun d => Fin.ext ?_
      match d with
      | 0 => show 128 * ((i 0).val / 128) + (i 0).val % 128 = (i 0).val; omega
      | 1 => rfl
    rw [← h]
    exact View.emb_mem_set _ _

/-- An entry of a point's block of output 7 in the whole. -/
theorem emb_7 (t : Fin (C (F := Ideal)).N) (a : Fin 128) (q : Fin 512) :
    (((C (F := Ideal)).win 7).blk t).view.emb (ix2 a q) = (ix2 (row t a) q : S1024x512.Idx) := by
  have e : cc0_transform_7 (grid0.coords t) = ![t.val, 0] := (idx2 t).2.2.2.2.1
  refine funext fun d => Fin.ext ?_
  match d with
  | 0 =>
    show cc0_transform_7 (grid0.coords t) 0 * 128 + 1 * a.val = 128 * t.val + a.val
    rw [e]; show t.val * 128 + 1 * a.val = _; omega
  | 1 =>
    show cc0_transform_7 (grid0.coords t) 1 * 512 + 1 * q.val = q.val
    rw [e]; show 0 * 512 + 1 * q.val = _; omega

theorem flush_7 : ∀ t : Fin (C (F := Ideal)).N, ((C (F := Ideal)).win 7).flush t = true := fun t =>
  flush0_7 adm t

/-- What a point writes back. -/
theorem flushed_7 (c : Dev nD) (t : Fin (C (F := Ideal)).N) :
    (dats m 0 c).flushed 7 t = ((C (F := Ideal)).win 7).cut (grid0.coords t) (out_7 (iblk m c 0 t) (iblk m c 1 t) (iblk m c 2 t) (iblk m c 3 t) (iblk m c 4 t) (iblk m c 5 t)) := by
  show ((C (F := Ideal)).win 7).cut (grid0.coords t) ((dats m 0 c).after 7 t) = _
  rw [after_7]

theorem cut_7 (t : Fin (C (F := Ideal)).N) (X : Vec Ideal S128x512 .f32) (a : Fin 128) (q : Fin 512) :
    ((C (F := Ideal)).win 7).cut (grid0.coords t) X (ix2 a q) = X (ix2 a q) := rfl

/-- Output 7's array after the run. -/
theorem arr_7 (c : Dev nD) : (dats m 0 c).arrAt 7 (C (F := Ideal)).N = steps (m ((c : Thread nD τ).loc main_arg0)) (m ((c : Thread nD τ).loc main_arg1)) (m ((c : Thread nD τ).loc main_arg2)) (sum m c) := by
  refine (dats m 0 c).arrAt_eq_of_cover 7 _ (fun t _ => ?_) fun i => ?_
  · refine funext fun (y : S128x512.Idx) => ?_
    obtain ⟨a, q, rfl⟩ : ∃ (a : Fin 128) (q : Fin 512), y = ix2 a q := ⟨y 0, y 1, eq_ix2 y⟩
    refine Eq.trans ?_ (congrArg (steps (m ((c : Thread nD τ).loc main_arg0)) (m ((c : Thread nD τ).loc main_arg1)) (m ((c : Thread nD τ).loc main_arg2)) (sum m c)) (emb_7 t a q).symm)
    refine (congrFun (flushed_7 m c t) _).trans ((cut_7 t _ a q).trans ?_)
    rw [block_7, total_eq, read_0, read_1, read_2]; rfl
  · have hi : (i 0).val < 1024 := (i 0).isLt
    let t : Fin (C (F := Ideal)).N := ⟨(i 0).val / 128, show (i 0).val / 128 < 8 by omega⟩
    refine ⟨t, flush_7 t, ?_⟩
    have h : (((C (F := Ideal)).win 7).blk t).view.emb (ix2 (⟨(i 0).val % 128, by omega⟩ : Fin 128) (i 1)) = i := by
      refine (emb_7 t _ (i 1)).trans ?_
      refine funext fun d => Fin.ext ?_
      match d with
      | 0 => show 128 * ((i 0).val / 128) + (i 0).val % 128 = (i 0).val; omega
      | 1 => rfl
    rw [← h]
    exact View.emb_mem_set _ _

/-- An entry of a point's block of output 8 in the whole. -/
theorem emb_8 (t : Fin (C (F := Ideal)).N) (a : Fin 128) (q : Fin 512) :
    (((C (F := Ideal)).win 8).blk t).view.emb (ix2 a q) = (ix2 (row t a) q : S1024x512.Idx) := by
  have e : cc0_transform_8 (grid0.coords t) = ![t.val, 0] := (idx2 t).2.2.2.2.2.1
  refine funext fun d => Fin.ext ?_
  match d with
  | 0 =>
    show cc0_transform_8 (grid0.coords t) 0 * 128 + 1 * a.val = 128 * t.val + a.val
    rw [e]; show t.val * 128 + 1 * a.val = _; omega
  | 1 =>
    show cc0_transform_8 (grid0.coords t) 1 * 512 + 1 * q.val = q.val
    rw [e]; show 0 * 512 + 1 * q.val = _; omega

theorem flush_8 : ∀ t : Fin (C (F := Ideal)).N, ((C (F := Ideal)).win 8).flush t = true := fun t =>
  flush0_8 adm t

/-- What a point writes back. -/
theorem flushed_8 (c : Dev nD) (t : Fin (C (F := Ideal)).N) :
    (dats m 0 c).flushed 8 t = ((C (F := Ideal)).win 8).cut (grid0.coords t) (out_8 (iblk m c 0 t) (iblk m c 1 t) (iblk m c 2 t) (iblk m c 3 t) (iblk m c 4 t) (iblk m c 5 t)) := by
  show ((C (F := Ideal)).win 8).cut (grid0.coords t) ((dats m 0 c).after 8 t) = _
  rw [after_8]

theorem cut_8 (t : Fin (C (F := Ideal)).N) (X : Vec Ideal S128x512 .f32) (a : Fin 128) (q : Fin 512) :
    ((C (F := Ideal)).win 8).cut (grid0.coords t) X (ix2 a q) = X (ix2 a q) := rfl

/-- Output 8's array after the run. -/
theorem arr_8 (c : Dev nD) : (dats m 0 c).arrAt 8 (C (F := Ideal)).N = moments1 (m ((c : Thread nD τ).loc main_arg1)) (sum m c) := by
  refine (dats m 0 c).arrAt_eq_of_cover 8 _ (fun t _ => ?_) fun i => ?_
  · refine funext fun (y : S128x512.Idx) => ?_
    obtain ⟨a, q, rfl⟩ : ∃ (a : Fin 128) (q : Fin 512), y = ix2 a q := ⟨y 0, y 1, eq_ix2 y⟩
    refine Eq.trans ?_ (congrArg (moments1 (m ((c : Thread nD τ).loc main_arg1)) (sum m c)) (emb_8 t a q).symm)
    refine (congrFun (flushed_8 m c t) _).trans ((cut_8 t _ a q).trans ?_)
    rw [block_8, total_eq, read_1]; rfl
  · have hi : (i 0).val < 1024 := (i 0).isLt
    let t : Fin (C (F := Ideal)).N := ⟨(i 0).val / 128, show (i 0).val / 128 < 8 by omega⟩
    refine ⟨t, flush_8 t, ?_⟩
    have h : (((C (F := Ideal)).win 8).blk t).view.emb (ix2 (⟨(i 0).val % 128, by omega⟩ : Fin 128) (i 1)) = i := by
      refine (emb_8 t _ (i 1)).trans ?_
      refine funext fun d => Fin.ext ?_
      match d with
      | 0 => show 128 * ((i 0).val / 128) + (i 0).val % 128 = (i 0).val; omega
      | 1 => rfl
    rw [← h]
    exact View.emb_mem_set _ _

/-- An entry of a point's block of output 9 in the whole. -/
theorem emb_9 (t : Fin (C (F := Ideal)).N) (a : Fin 128) (q : Fin 512) :
    (((C (F := Ideal)).win 9).blk t).view.emb (ix2 a q) = (ix2 (row t a) q : S1024x512.Idx) := by
  have e : cc0_transform_9 (grid0.coords t) = ![t.val, 0] := (idx2 t).2.2.2.2.2.2
  refine funext fun d => Fin.ext ?_
  match d with
  | 0 =>
    show cc0_transform_9 (grid0.coords t) 0 * 128 + 1 * a.val = 128 * t.val + a.val
    rw [e]; show t.val * 128 + 1 * a.val = _; omega
  | 1 =>
    show cc0_transform_9 (grid0.coords t) 1 * 512 + 1 * q.val = q.val
    rw [e]; show 0 * 512 + 1 * q.val = _; omega

theorem flush_9 : ∀ t : Fin (C (F := Ideal)).N, ((C (F := Ideal)).win 9).flush t = true := fun t =>
  flush0_9 adm t

/-- What a point writes back. -/
theorem flushed_9 (c : Dev nD) (t : Fin (C (F := Ideal)).N) :
    (dats m 0 c).flushed 9 t = ((C (F := Ideal)).win 9).cut (grid0.coords t) (out_9 (iblk m c 0 t) (iblk m c 1 t) (iblk m c 2 t) (iblk m c 3 t) (iblk m c 4 t) (iblk m c 5 t)) := by
  show ((C (F := Ideal)).win 9).cut (grid0.coords t) ((dats m 0 c).after 9 t) = _
  rw [after_9]

theorem cut_9 (t : Fin (C (F := Ideal)).N) (X : Vec Ideal S128x512 .f32) (a : Fin 128) (q : Fin 512) :
    ((C (F := Ideal)).win 9).cut (grid0.coords t) X (ix2 a q) = X (ix2 a q) := rfl

/-- Output 9's array after the run. -/
theorem arr_9 (c : Dev nD) : (dats m 0 c).arrAt 9 (C (F := Ideal)).N = moments2 (m ((c : Thread nD τ).loc main_arg2)) (sum m c) := by
  refine (dats m 0 c).arrAt_eq_of_cover 9 _ (fun t _ => ?_) fun i => ?_
  · refine funext fun (y : S128x512.Idx) => ?_
    obtain ⟨a, q, rfl⟩ : ∃ (a : Fin 128) (q : Fin 512), y = ix2 a q := ⟨y 0, y 1, eq_ix2 y⟩
    refine Eq.trans ?_ (congrArg (moments2 (m ((c : Thread nD τ).loc main_arg2)) (sum m c)) (emb_9 t a q).symm)
    refine (congrFun (flushed_9 m c t) _).trans ((cut_9 t _ a q).trans ?_)
    rw [block_9, total_eq, read_2]; rfl
  · have hi : (i 0).val < 1024 := (i 0).isLt
    let t : Fin (C (F := Ideal)).N := ⟨(i 0).val / 128, show (i 0).val / 128 < 8 by omega⟩
    refine ⟨t, flush_9 t, ?_⟩
    have h : (((C (F := Ideal)).win 9).blk t).view.emb (ix2 (⟨(i 0).val % 128, by omega⟩ : Fin 128) (i 1)) = i := by
      refine (emb_9 t _ (i 1)).trans ?_
      refine funext fun d => Fin.ext ?_
      match d with
      | 0 => show 128 * ((i 0).val / 128) + (i 0).val % 128 = (i 0).val; omega
      | 1 => rfl
    rw [← h]
    exact View.emb_mem_set _ _

variable (ρ : Dev nD → PrngReg)

/-- The kernel's run: the gradient, the step, the two moments, and the arguments as they were. -/
theorem run : θ_run defs (onTc (τ := τ) (main (F := Ideal))) ⟨m, fun _ => 0, ρ⟩ fun r => ∀ c : Dev nD,
      r.2.mem ((c : Thread nD τ).loc main_v1_0) = sum m c
      ∧ r.2.mem ((c : Thread nD τ).loc main_v1_1) = steps (m ((c : Thread nD τ).loc main_arg0)) (m ((c : Thread nD τ).loc main_arg1)) (m ((c : Thread nD τ).loc main_arg2)) (sum m c)
      ∧ r.2.mem ((c : Thread nD τ).loc main_v1_2) = moments1 (m ((c : Thread nD τ).loc main_arg1)) (sum m c)
      ∧ r.2.mem ((c : Thread nD τ).loc main_v1_3) = moments2 (m ((c : Thread nD τ).loc main_arg2)) (sum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (arr_6 m c), ((h c).1 7).trans (arr_7 m c), ((h c).1 8).trans (arr_8 m c), ((h c).1 9).trans (arr_9 m c),
    kept_main_arg0 m r h c, kept_main_arg1 m r h c, kept_main_arg2 m r h c, kept_main_arg3 m r h c, kept_main_arg4 m r h c, kept_main_arg5 m r h c⟩) (run_main m ρ)

end Cert.Kernel37Ideal.Pair

end
-- ==== Proof.PairRef.lean ====
/-
  The optimiser's call on the shared keys' and values' matrix: the reference's four result arrays after its run.
-/
module

public import proofs.«01_k».proof.Proof.PairSpec
public import proofs.«01_k».proof.Proof.Gen.Reference37Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference37Ideal.Pair

open Cert.Reference37Ideal _root_.Adam

variable (m : (ℓ : Loc nD τ sig) → Buf (Elt Ideal) ℓ)

/-- The summed gradient of the arguments. -/
abbrev sum (c : Dev nD) : (Mat.M 1024 512).Idx → EReal :=
  summed (m ((c : Thread nD τ).loc main_arg3)) (m ((c : Thread nD τ).loc main_arg4)) (m ((c : Thread nD τ).loc main_arg5))

/-- The reference's run: the gradient, the step, the two moments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v7) = sum m c
      ∧ r.2.mem ((c : Thread nD τ).loc main_v31) = steps (m ((c : Thread nD τ).loc main_arg0)) (m ((c : Thread nD τ).loc main_arg1)) (m ((c : Thread nD τ).loc main_arg2)) (sum m c)
      ∧ r.2.mem ((c : Thread nD τ).loc main_v12) = moments1 (m ((c : Thread nD τ).loc main_arg1)) (sum m c)
      ∧ r.2.mem ((c : Thread nD τ).loc main_v18) = moments2 (m ((c : Thread nD τ).loc main_arg2)) (sum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1.trans ?_, (h c).2.1.trans ?_, (h c).2.2.1.trans ?_, (h c).2.2.2.1.trans ?_, (h c).2.2.2.2⟩) (Value.run m ρ)
  all_goals
    clear h r
    clean_types
    funext i
    obtain ⟨p, q, rfl⟩ : ∃ (p : Fin 1024) (q : Fin 512), i = ix2 p q := ⟨i 0, i 1, eq_ix2 i⟩
    pointwise [sum, summed, steps, moments1, moments2, step, moment1, moment2]

end Cert.Reference37Ideal.Pair

end
-- ==== Proof.LayersFrameIdeal.lean ====
/-
  The optimiser's call on a matrix of both layers: every run ends, without fault, with the arguments as they were.
  The call reads the number of its own block of the gradient from a table; the table holds zero.
-/
module

public import proofs.«01_k».proof.Proof.Gen.Kernel38Ideal.Launch
public import proofs.«01_k».proof.Proof.Gen.Kernel38Ideal.Skeleton
public import proofs.«01_k».proof.Proof.Gen.Kernel38Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel38Ideal.Pair

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel38Ideal Cert.Kernel38Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's contents: the block number zero. -/
def tab : pre0.Contents (Elt F) := fun
  | ⟨0, _⟩ => broadcastInDim S1 ![] bcast_S_S1 (constantI S_ 32 0#32)
  | ⟨_ + 1, h⟩ => absurd h (Nat.not_lt.2 (Nat.le_add_left _ _))

/-- Each layer's gradient's block at a grid point. -/
theorem own_index (i : grid0.Coords) : cc0_transform_3 (F := F) inb_S1_S1_0 numel1_S1 tab i = ![min (i 0).val 1, 0] := by
  have h : ∀ i : grid0.Coords, (Scalar.addi (Scalar.muli 0#32 2#32) (Scalar.minsi 1#32 (Scalar.maxsi 0#32 (Scalar.subi (BitVec.ofNat 32 (i 0).val) 0#32)))).toNat = min (i 0).val 1 := by decide +kernel
  show ![(Scalar.addi (Scalar.muli 0#32 2#32) (Scalar.minsi 1#32 (Scalar.maxsi 0#32 (Scalar.subi (BitVec.ofNat 32 (i 0).val) 0#32)))).toNat, (0#32).toNat] = _
  rw [h i]; rfl

theorem own_index' (i : grid0.Coords) : cc0_transform_6 (F := F) inb_S1_S1_0 numel1_S1 tab i = ![(i 0).val - 2, 0] := by
  have h : ∀ i : grid0.Coords, (Scalar.addi (Scalar.muli 0#32 2#32) (Scalar.minsi 1#32 (Scalar.maxsi 0#32 (Scalar.subi (BitVec.ofNat 32 (i 0).val) 2#32)))).toNat = (i 0).val - 2 := by decide +kernel
  show ![(Scalar.addi (Scalar.muli 0#32 2#32) (Scalar.minsi 1#32 (Scalar.maxsi 0#32 (Scalar.subi (BitVec.ofNat 32 (i 0).val) 2#32)))).toNat, (0#32).toNat] = _
  rw [h i]; rfl

/-- Those blocks are inside the gradients, and end at whole words. -/
theorem tab_ok : ok0 (F := F) tab := by
  refine ⟨fun i => ?_, fun i => ?_⟩
  · have hi : (i 0).val < 4 := (i 0).isLt
    rw [own_index]
    refine ⟨fun a => ?_, ?_⟩
    · match a with
      | ⟨0, _⟩ => show (min (i 0).val 1 + 1) * 128 ≤ 1024; omega
      | ⟨1, _⟩ => show (0 + 1) * 1024 ≤ 1024; omega
    · exact .inr (Affine.block_words_dvd (of_decide_eq_true rfl) (by decide))
  · have hi : (i 0).val < 4 := (i 0).isLt
    rw [own_index']
    refine ⟨fun a => ?_, ?_⟩
    · match a with
      | ⟨0, _⟩ => show ((i 0).val - 2 + 1) * 128 ≤ 1024; omega
      | ⟨1, _⟩ => show (0 + 1) * 1024 ≤ 1024; omega
    · exact .inr (Affine.block_words_dvd (of_decide_eq_true rfl) (by decide))

/-- The table as the region admits it. -/
abbrev adm : (pcfg0 (F := F)).Adm := ⟨tab, tab_ok⟩

/-- The call as a pipeline at that table. -/
abbrev C : Pipeline.Cfg sig Λ₀ := cfg0 (F := F) adm

/-! ## The program up to the call -/

/-- The buffers when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the table's two lines, then the call. -/
theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix pcfgs 0 defs₀ 𝒱₀ m main hostOps0 hostOps0_sub hostOps0_fresh main_chain

/-- The table's lines leave the arguments alone. -/
theorem V_arg (c : Dev nD) (b : Ref sig .tc) (h0 : b ≠ main_c) (h1 : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, Finset.mem_singleton]
    exact ⟨StableHlo.devRef_ne_of_ne h0, StableHlo.devRef_ne_of_ne h1⟩))

/-- The table's buffer holds the table. -/
theorem V_v0 (c : Dev nD) : V m c main_v0 = broadcastInDim S1 ![] bcast_S_S1 (constantI S_ 32 0#32) := by
  unfold V hostOps0
  simp only [List.flatten_cons, List.flatten_nil, List.append_nil, List.cons_append, List.nil_append]
  after_results_simp

theorem V_tab (c : Dev nD) : V m c main_v0 = tab (F := F) 0 := V_v0 m c

/-! ## The windows' blocks -/

/-- Window `w`'s block at point `t`, read off its array as the call finds it. -/
def iblk (c : Dev nD) (w : Fin 13) (t : Fin (C (F := F)).N) : (((C (F := F)).win w).xblock ((C (F := F)).grid.coords t)).Idx → Elt F ((C (F := F)).win w).elt :=
  (((C (F := F)).win w).blk t).view.read (Elt F) (V m c (Pipeline.arrRef spec0 w))

theorem before_0_of {c : Dev nD} (dat : Dat τ (Elt F) Unit ℕ (UR sig nD τ) ℕ (C (F := F)) c) (hA : dat.A 0 = V m c (Pipeline.arrRef spec0 0))
    (hafter : ∀ t, dat.after 0 t = iblk m c 0 t) (t : Fin (C (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (C (F := F)) c) (hA : dat.A 1 = V m c (Pipeline.arrRef spec0 1))
    (hafter : ∀ t, dat.after 1 t = iblk m c 1 t) (t : Fin (C (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (C (F := F)) c) (hA : dat.A 2 = V m c (Pipeline.arrRef spec0 2))
    (hafter : ∀ t, dat.after 2 t = iblk m c 2 t) (t : Fin (C (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (C (F := F)) c) (hA : dat.A 3 = V m c (Pipeline.arrRef spec0 3))
    (hafter : ∀ t, dat.after 3 t = iblk m c 3 t) (t : Fin (C (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ (C (F := F)) c) (hA : dat.A 4 = V m c (Pipeline.arrRef spec0 4))
    (hafter : ∀ t, dat.after 4 t = iblk m c 4 t) (t : Fin (C (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ (C (F := F)) c) (hA : dat.A 5 = V m c (Pipeline.arrRef spec0 5))
    (hafter : ∀ t, dat.after 5 t = iblk m c 5 t) (t : Fin (C (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ (C (F := F)) c) (hA : dat.A 6 = V m c (Pipeline.arrRef spec0 6))
    (hafter : ∀ t, dat.after 6 t = iblk m c 6 t) (t : Fin (C (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ (C (F := F)) c) (hA : dat.A 7 = V m c (Pipeline.arrRef spec0 7))
    (hafter : ∀ t, dat.after 7 t = iblk m c 7 t) (t : Fin (C (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ (C (F := F)) c) (hA : dat.A 8 = V m c (Pipeline.arrRef spec0 8))
    (hafter : ∀ t, dat.after 8 t = iblk m c 8 t) (t : Fin (C (F := F)).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The two rows of pieces, and the whole of a block. -/
abbrev r0 : Rect S128x1024 := Rect.unit (s := S128x1024) ![0, 0] S128x1024.size inb_S128x1024_S128x1024_0_0
abbrev p0 : Rect S3x128x1024 := Rect.unit (s := S3x128x1024) ![0, 0, 0] S1x128x1024.size inb_S3x128x1024_S1x128x1024_0_0_0
abbrev p1 : Rect S3x128x1024 := Rect.unit (s := S3x128x1024) ![1, 0, 0] S1x128x1024.size inb_S3x128x1024_S1x128x1024_1_0_0
abbrev p2 : Rect S3x128x1024 := Rect.unit (s := S3x128x1024) ![2, 0, 0] S1x128x1024.size inb_S3x128x1024_S1x128x1024_2_0_0
abbrev q0 : Rect S4x128x1024 := Rect.unit (s := S4x128x1024) ![0, 0, 0] S1x128x1024.size inb_S4x128x1024_S1x128x1024_0_0_0
abbrev q1 : Rect S4x128x1024 := Rect.unit (s := S4x128x1024) ![1, 0, 0] S1x128x1024.size inb_S4x128x1024_S1x128x1024_1_0_0
abbrev q2 : Rect S4x128x1024 := Rect.unit (s := S4x128x1024) ![2, 0, 0] S1x128x1024.size inb_S4x128x1024_S1x128x1024_2_0_0
abbrev q3 : Rect S4x128x1024 := Rect.unit (s := S4x128x1024) ![3, 0, 0] S1x128x1024.size inb_S4x128x1024_S1x128x1024_3_0_0

/-- The sum of the device's own piece and the seven others. -/
abbrev total (x3 : Vec F S128x1024 .bf16) (x4 : Vec F S3x128x1024 .bf16) (x5 : Vec F S4x128x1024 .bf16) : FVec F S128x1024 .f32 :=
  k0_pay7 (View.ld x3 r0) (View.ld x5 q0) (View.ld x4 p0) (View.ld x5 q1) (View.ld x4 p1) (View.ld x5 q2) (View.ld x4 p2) (View.ld x5 q3)

/-- The sum of the point's layer. -/
def part (i : grid0.Coords) (x3 : Vec F S128x1024 .bf16) (x4 : Vec F S3x128x1024 .bf16) (x5 : Vec F S4x128x1024 .bf16)
    (x6 : Vec F S128x1024 .bf16) (x7 : Vec F S3x128x1024 .bf16) (x8 : Vec F S4x128x1024 .bf16) : FVec F S128x1024 .f32 :=
  if k0_cond1 i = 1#1 then total x3 x4 x5 else total x6 x7 x8

/-- Output 9's buffer after the body: the summed gradient. -/
def out_9 (i : grid0.Coords) (x0 : Vec F S128x1024 .f32) (x1 : Vec F S128x1024 .f32) (x2 : Vec F S128x1024 .f32) (x3 : Vec F S128x1024 .bf16) (x4 : Vec F S3x128x1024 .bf16) (x5 : Vec F S4x128x1024 .bf16) (x6 : Vec F S128x1024 .bf16) (x7 : Vec F S3x128x1024 .bf16) (x8 : Vec F S4x128x1024 .bf16) : Vec F S128x1024 .f32 :=
  View.canon [⟨r0, part i x3 x4 x5 x6 x7 x8⟩]
/-- Output 10's buffer after the body: the step. -/
def out_10 (i : grid0.Coords) (x0 : Vec F S128x1024 .f32) (x1 : Vec F S128x1024 .f32) (x2 : Vec F S128x1024 .f32) (x3 : Vec F S128x1024 .bf16) (x4 : Vec F S3x128x1024 .bf16) (x5 : Vec F S4x128x1024 .bf16) (x6 : Vec F S128x1024 .bf16) (x7 : Vec F S3x128x1024 .bf16) (x8 : Vec F S4x128x1024 .bf16) : Vec F S128x1024 .f32 :=
  View.canon [⟨r0, k0_pay3 (part i x3 x4 x5 x6 x7 x8) (View.ld x0 r0) (View.ld x1 r0) (View.ld x2 r0)⟩]
/-- Output 11's buffer after the body: the first moment. -/
def out_11 (i : grid0.Coords) (x0 : Vec F S128x1024 .f32) (x1 : Vec F S128x1024 .f32) (x2 : Vec F S128x1024 .f32) (x3 : Vec F S128x1024 .bf16) (x4 : Vec F S3x128x1024 .bf16) (x5 : Vec F S4x128x1024 .bf16) (x6 : Vec F S128x1024 .bf16) (x7 : Vec F S3x128x1024 .bf16) (x8 : Vec F S4x128x1024 .bf16) : Vec F S128x1024 .f32 :=
  View.canon [⟨r0, k0_pay1 (part i x3 x4 x5 x6 x7 x8) (View.ld x1 r0)⟩]
/-- Output 12's buffer after the body: the second moment. -/
def out_12 (i : grid0.Coords) (x0 : Vec F S128x1024 .f32) (x1 : Vec F S128x1024 .f32) (x2 : Vec F S128x1024 .f32) (x3 : Vec F S128x1024 .bf16) (x4 : Vec F S3x128x1024 .bf16) (x5 : Vec F S4x128x1024 .bf16) (x6 : Vec F S128x1024 .bf16) (x7 : Vec F S3x128x1024 .bf16) (x8 : Vec F S4x128x1024 .bf16) : Vec F S128x1024 .f32 :=
  View.canon [⟨r0, k0_pay2 (part i x3 x4 x5 x6 x7 x8) (View.ld x2 r0)⟩]

/-- A store of the whole of a block covers it. -/
theorem cover (p0 : Vec F S128x1024 .f32) (y : S128x1024.Idx) :
    ∃ pc ∈ ([⟨r0, p0⟩] : List (View.Piece (Elt F) S128x1024 .f32)), y ∈ pc.1.set :=
  View.cover_of_tiled [⟨r0, p0⟩] S128x1024.size (by rfl) y

/-- Every grid point is of one of the two layers. -/
theorem cond_or : ∀ i : grid0.Coords, (k0_cond1 i = 1#1 ∧ ¬ k0_cond2 i = 1#1) ∨ (¬ k0_cond1 i = 1#1 ∧ k0_cond2 i = 1#1) := by decide +kernel

theorem e4 : @k0_pay4 F _ = k0_pay1 := rfl
theorem e5 : @k0_pay5 F _ = k0_pay2 := rfl
theorem e6 : @k0_pay6 F _ = k0_pay3 := rfl
theorem e8 : @k0_pay8 F _ = k0_pay7 := rfl

set_option maxHeartbeats 1000000 in
/-- The body on whole buffers: the inputs' are kept and each output's is left at its value. -/
theorem sound_kernel (c : Dev nD) (E : Set ℕ) (i : grid0.Coords) (arg1 : Memref sig .tc .smem S1 .i32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .bf16) (harg5 : arg5.IsWhole) (arg6 : Memref sig .tc .vmem S3x128x1024 .bf16) (harg6 : arg6.IsWhole) (arg7 : Memref sig .tc .vmem S4x128x1024 .bf16) (harg7 : arg7.IsWhole) (arg8 : Memref sig .tc .vmem S128x1024 .bf16) (harg8 : arg8.IsWhole) (arg9 : Memref sig .tc .vmem S3x128x1024 .bf16) (harg9 : arg9.IsWhole) (arg10 : Memref sig .tc .vmem S4x128x1024 .bf16) (harg10 : arg10.IsWhole) (arg11 : Memref sig .tc .vmem S128x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)
    (x0 : Vec F S128x1024 .f32) (x1 : Vec F S128x1024 .f32) (x2 : Vec F S128x1024 .f32) (x3 : Vec F S128x1024 .bf16) (x4 : Vec F S3x128x1024 .bf16) (x5 : Vec F S4x128x1024 .bf16) (x6 : Vec F S128x1024 .bf16) (x7 : Vec F S3x128x1024 .bf16) (x8 : Vec F S4x128x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out_9 i x0 x1 x2 x3 x4 x5 x6 x7 x8) ∗ owns (c : Thread nD τ) arg12 fullShare (out_10 i x0 x1 x2 x3 x4 x5 x6 x7 x8) ∗ owns (c : Thread nD τ) arg13 fullShare (out_11 i x0 x1 x2 x3 x4 x5 x6 x7 x8) ∗ owns (c : Thread nD τ) arg14 fullShare (out_12 i x0 x1 x2 x3 x4 x5 x6 x7 x8)) -∗ K ⟨⟩))
      ⊢ wp frame (wpE (defs₀ (F := F)) Variants.none c none) E (cc0_adamw_conv_out i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_adamw_conv_out_eq_skeleton]; unfold cc0_adamw_conv_out_skel
  simp only [k0_part1_eq_skeleton, k0_part2_eq_skeleton]
  unfold out_9 out_10 out_11 out_12 part owns
  rcases cond_or i with ⟨h1, h2⟩ | ⟨h1, h2⟩
  · rw [dif_pos h1, dif_neg h2]
    simp only [if_pos h1]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    subst hf0 hf1 hf2 hf3 hf4 hf5 hf6 hf7 hf8
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro; exact View.read_writes_eq_canon _ _ _ (cover _)
    isplitl [H10]
    · iexists _; isplitr
      swap; · iexact H10
      ipureintro; exact View.read_writes_eq_canon _ _ _ (cover _)
    isplitl [H11]
    · iexists _; isplitr
      swap; · iexact H11
      ipureintro; exact View.read_writes_eq_canon _ _ _ (cover _)
    iexists _; isplitr
    swap; · iexact H12
    ipureintro; exact View.read_writes_eq_canon _ _ _ (cover _)
  · rw [dif_neg h1, dif_pos h2]
    simp only [if_neg h1, e4, e5, e6, e8]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    subst hf0 hf1 hf2 hf3 hf4 hf5 hf6 hf7 hf8
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists _; isplitr
      swap; · iexact H9
      ipureintro; exact View.read_writes_eq_canon _ _ _ (cover _)
    isplitl [H10]
    · iexists _; isplitr
      swap; · iexact H10
      ipureintro; exact View.read_writes_eq_canon _ _ _ (cover _)
    isplitl [H11]
    · iexists _; isplitr
      swap; · iexact H11
      ipureintro; exact View.read_writes_eq_canon _ _ _ (cover _)
    iexists _; isplitr
    swap; · iexact H12
    ipureintro; exact View.read_writes_eq_canon _ _ _ (cover _)

/-! ## The pipeline's proof data -/

/-- The arrays as the call finds them; after the body each input's block and each output's value; the table beside them. -/
def dats (_ : Fin 1) (c : Dev nD) : Dat τ (Elt F) Unit ℕ (UR sig nD τ) ℕ (C (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out_9 (grid0.coords t) (iblk m c 0 t) (iblk m c 1 t) (iblk m c 2 t) (iblk m c 3 t) (iblk m c 4 t) (iblk m c 5 t) (iblk m c 6 t) (iblk m c 7 t) (iblk m c 8 t)
    | ⟨10, _⟩ => out_10 (grid0.coords t) (iblk m c 0 t) (iblk m c 1 t) (iblk m c 2 t) (iblk m c 3 t) (iblk m c 4 t) (iblk m c 5 t) (iblk m c 6 t) (iblk m c 7 t) (iblk m c 8 t)
    | ⟨11, _⟩ => out_11 (grid0.coords t) (iblk m c 0 t) (iblk m c 1 t) (iblk m c 2 t) (iblk m c 3 t) (iblk m c 4 t) (iblk m c 5 t) (iblk m c 6 t) (iblk m c 7 t) (iblk m c 8 t)
    | ⟨12, _⟩ => out_12 (grid0.coords t) (iblk m c 0 t) (iblk m c 1 t) (iblk m c 2 t) (iblk m c 3 t) (iblk m c 4 t) (iblk m c 5 t) (iblk m c 6 t) (iblk m c 7 t) (iblk m c 8 t)
  Φ _ := iprop(Pipeline.ΦA spec0 c ∗ Pipeline.ΦT pre0 (tab (F := F)) c)
  q _ := fullShare
  owed _ := 0

theorem A_eq (c : Dev nD) (w : Fin 13) : (dats m 0 c).A w = V m c (Pipeline.arrRef spec0 w) := by
  dsimp only [dats]

theorem after_0 (c : Dev nD) (t : Fin (C (F := F)).N) : (dats m 0 c).after 0 t = iblk m c 0 t := rfl
theorem after_1 (c : Dev nD) (t : Fin (C (F := F)).N) : (dats m 0 c).after 1 t = iblk m c 1 t := rfl
theorem after_2 (c : Dev nD) (t : Fin (C (F := F)).N) : (dats m 0 c).after 2 t = iblk m c 2 t := rfl
theorem after_3 (c : Dev nD) (t : Fin (C (F := F)).N) : (dats m 0 c).after 3 t = iblk m c 3 t := rfl
theorem after_4 (c : Dev nD) (t : Fin (C (F := F)).N) : (dats m 0 c).after 4 t = iblk m c 4 t := rfl
theorem after_5 (c : Dev nD) (t : Fin (C (F := F)).N) : (dats m 0 c).after 5 t = iblk m c 5 t := rfl
theorem after_6 (c : Dev nD) (t : Fin (C (F := F)).N) : (dats m 0 c).after 6 t = iblk m c 6 t := rfl
theorem after_7 (c : Dev nD) (t : Fin (C (F := F)).N) : (dats m 0 c).after 7 t = iblk m c 7 t := rfl
theorem after_8 (c : Dev nD) (t : Fin (C (F := F)).N) : (dats m 0 c).after 8 t = iblk m c 8 t := rfl
theorem after_9 (c : Dev nD) (t : Fin (C (F := F)).N) : (dats m 0 c).after 9 t = out_9 (grid0.coords t) (iblk m c 0 t) (iblk m c 1 t) (iblk m c 2 t) (iblk m c 3 t) (iblk m c 4 t) (iblk m c 5 t) (iblk m c 6 t) (iblk m c 7 t) (iblk m c 8 t) := by
  dsimp only [dats]
  first | done | rfl
theorem after_10 (c : Dev nD) (t : Fin (C (F := F)).N) : (dats m 0 c).after 10 t = out_10 (grid0.coords t) (iblk m c 0 t) (iblk m c 1 t) (iblk m c 2 t) (iblk m c 3 t) (iblk m c 4 t) (iblk m c 5 t) (iblk m c 6 t) (iblk m c 7 t) (iblk m c 8 t) := by
  dsimp only [dats]
  first | done | rfl
theorem after_11 (c : Dev nD) (t : Fin (C (F := F)).N) : (dats m 0 c).after 11 t = out_11 (grid0.coords t) (iblk m c 0 t) (iblk m c 1 t) (iblk m c 2 t) (iblk m c 3 t) (iblk m c 4 t) (iblk m c 5 t) (iblk m c 6 t) (iblk m c 7 t) (iblk m c 8 t) := by
  dsimp only [dats]
  first | done | rfl
theorem after_12 (c : Dev nD) (t : Fin (C (F := F)).N) : (dats m 0 c).after 12 t = out_12 (grid0.coords t) (iblk m c 0 t) (iblk m c 1 t) (iblk m c 2 t) (iblk m c 3 t) (iblk m c 4 t) (iblk m c 5 t) (iblk m c 6 t) (iblk m c 7 t) (iblk m c 8 t) := by
  dsimp only [dats]
  first | done | rfl

theorem before_0 (c : Dev nD) (t : Fin (C (F := F)).N) (d) : (dats m 0 c).before 0 t d = iblk m c 0 t :=
  before_0_of m (dats m 0 c) (A_eq m c 0) (after_0 m c) t d
theorem before_1 (c : Dev nD) (t : Fin (C (F := F)).N) (d) : (dats m 0 c).before 1 t d = iblk m c 1 t :=
  before_1_of m (dats m 0 c) (A_eq m c 1) (after_1 m c) t d
theorem before_2 (c : Dev nD) (t : Fin (C (F := F)).N) (d) : (dats m 0 c).before 2 t d = iblk m c 2 t :=
  before_2_of m (dats m 0 c) (A_eq m c 2) (after_2 m c) t d
theorem before_3 (c : Dev nD) (t : Fin (C (F := F)).N) (d) : (dats m 0 c).before 3 t d = iblk m c 3 t :=
  before_3_of m (dats m 0 c) (A_eq m c 3) (after_3 m c) t d
theorem before_4 (c : Dev nD) (t : Fin (C (F := F)).N) (d) : (dats m 0 c).before 4 t d = iblk m c 4 t :=
  before_4_of m (dats m 0 c) (A_eq m c 4) (after_4 m c) t d
theorem before_5 (c : Dev nD) (t : Fin (C (F := F)).N) (d) : (dats m 0 c).before 5 t d = iblk m c 5 t :=
  before_5_of m (dats m 0 c) (A_eq m c 5) (after_5 m c) t d
theorem before_6 (c : Dev nD) (t : Fin (C (F := F)).N) (d) : (dats m 0 c).before 6 t d = iblk m c 6 t :=
  before_6_of m (dats m 0 c) (A_eq m c 6) (after_6 m c) t d
theorem before_7 (c : Dev nD) (t : Fin (C (F := F)).N) (d) : (dats m 0 c).before 7 t d = iblk m c 7 t :=
  before_7_of m (dats m 0 c) (A_eq m c 7) (after_7 m c) t d
theorem before_8 (c : Dev nD) (t : Fin (C (F := F)).N) (d) : (dats m 0 c).before 8 t d = iblk m c 8 t :=
  before_8_of m (dats m 0 c) (A_eq m c 8) (after_8 m c) t d

/-! ## The body at a point -/

/-- What the body is called with at a point, -/
def bodyPre (c : Dev nD) (t : Fin (C (F := F)).N) : sProp 𝕄 :=
  iprop((dats m 0 c).Φ t.castSucc ∗ (dats m 0 c).owesAt () t.castSucc
    ∗ (∃ d, owns (c : Thread nD τ) (st0_0 adm t) fullShare ((dats m 0 c).before 0 t d))
    ∗ (∃ d, owns (c : Thread nD τ) (st0_1 adm t) fullShare ((dats m 0 c).before 1 t d))
    ∗ (∃ d, owns (c : Thread nD τ) (st0_2 adm t) fullShare ((dats m 0 c).before 2 t d))
    ∗ (∃ d, owns (c : Thread nD τ) (st0_3 adm t) fullShare ((dats m 0 c).before 3 t d))
    ∗ (∃ d, owns (c : Thread nD τ) (st0_4 adm t) fullShare ((dats m 0 c).before 4 t d))
    ∗ (∃ d, owns (c : Thread nD τ) (st0_5 adm t) fullShare ((dats m 0 c).before 5 t d))
    ∗ (∃ d, owns (c : Thread nD τ) (st0_6 adm t) fullShare ((dats m 0 c).before 6 t d))
    ∗ (∃ d, owns (c : Thread nD τ) (st0_7 adm t) fullShare ((dats m 0 c).before 7 t d))
    ∗ (∃ d, owns (c : Thread nD τ) (st0_8 adm t) fullShare ((dats m 0 c).before 8 t d))
    ∗ (∃ d, owns (c : Thread nD τ) (st0_9 adm t) fullShare ((dats m 0 c).before 9 t d))
    ∗ (∃ d, owns (c : Thread nD τ) (st0_10 adm t) fullShare ((dats m 0 c).before 10 t d))
    ∗ (∃ d, owns (c : Thread nD τ) (st0_11 adm t) fullShare ((dats m 0 c).before 11 t d))
    ∗ (∃ d, owns (c : Thread nD τ) (st0_12 adm t) fullShare ((dats m 0 c).before 12 t d)))

/-- and what it returns. -/
def bodyPost (c : Dev nD) (t : Fin (C (F := F)).N) : sProp 𝕄 :=
  iprop((dats m 0 c).Φ t.succ ∗ (dats m 0 c).owesAt () t.succ
    ∗ owns (c : Thread nD τ) (st0_0 adm t) fullShare ((dats m 0 c).after 0 t)
    ∗ owns (c : Thread nD τ) (st0_1 adm t) fullShare ((dats m 0 c).after 1 t)
    ∗ owns (c : Thread nD τ) (st0_2 adm t) fullShare ((dats m 0 c).after 2 t)
    ∗ owns (c : Thread nD τ) (st0_3 adm t) fullShare ((dats m 0 c).after 3 t)
    ∗ owns (c : Thread nD τ) (st0_4 adm t) fullShare ((dats m 0 c).after 4 t)
    ∗ owns (c : Thread nD τ) (st0_5 adm t) fullShare ((dats m 0 c).after 5 t)
    ∗ owns (c : Thread nD τ) (st0_6 adm t) fullShare ((dats m 0 c).after 6 t)
    ∗ owns (c : Thread nD τ) (st0_7 adm t) fullShare ((dats m 0 c).after 7 t)
    ∗ owns (c : Thread nD τ) (st0_8 adm t) fullShare ((dats m 0 c).after 8 t)
    ∗ owns (c : Thread nD τ) (st0_9 adm t) fullShare ((dats m 0 c).after 9 t)
    ∗ owns (c : Thread nD τ) (st0_10 adm t) fullShare ((dats m 0 c).after 10 t)
    ∗ owns (c : Thread nD τ) (st0_11 adm t) fullShare ((dats m 0 c).after 11 t)
    ∗ owns (c : Thread nD τ) (st0_12 adm t) fullShare ((dats m 0 c).after 12 t))

/-- The body at any point. -/
theorem sound_body (c : Dev nD) (t : Fin (C (F := F)).N) :
    bodyPre m c t ⊢ wp frame (wpE (defs₀ (F := F)) Variants.none c none) Set.univ (bodyAt0 adm t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) (Memref.whole main_v0) (Memref.isWhole_whole _) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at a point is the body there. -/
theorem defs₀_row (t : Fin (C (F := F)).N) :
    defs₀ (F := F) .tc (C (F := F)).body ((C (F := F)).bodyArgs t ((C (F := F)).slots t)) = bodyAt0 adm t := by
  unfold defs₀; rw [Defs.onTc_tc]

/-- No output is left alone at any point. -/
theorem live (w : Fin 13) (i : grid0.Coords) : (C (F := F)).idle w i = false := by
  have h : (!(k0_cond1 i == 1#1) && !(k0_cond2 i == 1#1)) = false := by
    rcases cond_or i with ⟨h, -⟩ | ⟨-, h⟩ <;> simp [h]
  show idle0 w i = false
  fin_cases w
  all_goals first | rfl | exact h

theorem leaves_9 (c : Dev nD) (t : Fin (C (F := F)).N) : (dats m 0 c).leavesExact 9 t = owns (c : Thread nD τ) (st0_9 adm t) fullShare ((dats m 0 c).after 9 t) := by
  unfold Dat.leavesExact; rw [live (F := F) 9 _]
theorem leaves_10 (c : Dev nD) (t : Fin (C (F := F)).N) : (dats m 0 c).leavesExact 10 t = owns (c : Thread nD τ) (st0_10 adm t) fullShare ((dats m 0 c).after 10 t) := by
  unfold Dat.leavesExact; rw [live (F := F) 10 _]
theorem leaves_11 (c : Dev nD) (t : Fin (C (F := F)).N) : (dats m 0 c).leavesExact 11 t = owns (c : Thread nD τ) (st0_11 adm t) fullShare ((dats m 0 c).after 11 t) := by
  unfold Dat.leavesExact; rw [live (F := F) 11 _]
theorem leaves_12 (c : Dev nD) (t : Fin (C (F := F)).N) : (dats m 0 c).leavesExact 12 t = owns (c : Thread nD τ) (st0_12 adm t) fullShare ((dats m 0 c).after 12 t) := by
  unfold Dat.leavesExact; rw [live (F := F) 12 _]

/-- The obligation at every point. -/
theorem body_obligation (c : Dev nD) : BodyObligation (dats (F := F) m 0 c) (defs₀ (F := F)) Variants.none () Set.univ := fun t => by
  rw [defs₀_row]
  rw [bigSep_W0, bigSep_W0]
  refine triple_restated (sound_body m c t) rfl .rfl fun _ => ?_
  show bodyPost m c t ⊢ iprop((dats m 0 c).Φ t.succ ∗ (dats m 0 c).owesAt () t.succ
    ∗ owns (c : Thread nD τ) (st0_0 adm t) fullShare ((dats m 0 c).after 0 t)
    ∗ owns (c : Thread nD τ) (st0_1 adm t) fullShare ((dats m 0 c).after 1 t)
    ∗ owns (c : Thread nD τ) (st0_2 adm t) fullShare ((dats m 0 c).after 2 t)
    ∗ owns (c : Thread nD τ) (st0_3 adm t) fullShare ((dats m 0 c).after 3 t)
    ∗ owns (c : Thread nD τ) (st0_4 adm t) fullShare ((dats m 0 c).after 4 t)
    ∗ owns (c : Thread nD τ) (st0_5 adm t) fullShare ((dats m 0 c).after 5 t)
    ∗ owns (c : Thread nD τ) (st0_6 adm t) fullShare ((dats m 0 c).after 6 t)
    ∗ owns (c : Thread nD τ) (st0_7 adm t) fullShare ((dats m 0 c).after 7 t)
    ∗ owns (c : Thread nD τ) (st0_8 adm t) fullShare ((dats m 0 c).after 8 t)
    ∗ (dats m 0 c).leavesExact 9 t
    ∗ (dats m 0 c).leavesExact 10 t
    ∗ (dats m 0 c).leavesExact 11 t
    ∗ (dats m 0 c).leavesExact 12 t)
  rw [leaves_9, leaves_10, leaves_11, leaves_12]
  exact (Entails.rfl : bodyPost m c t ⊢ bodyPost m c t)

/-! ## The run -/

set_option backward.isDefEq.respectTransparency.types false in
set_option maxHeartbeats 800000 in
/-- Every run ends with the arrays at what the data say, every other buffer as the call found it, and every counter at zero. -/
theorem run_main_quiescent : θ_run defs (onTc (τ := τ) (main (F := F))) (s₀ m ρ)
    (fun r => (Pipeline.FramePost (Pipeline.pin (pcfgs (F := F)) fun _ => adm) (dats m) 0 (V m)) r ∧ r.2.sem = fun _ => 0) :=
  Pipeline.θ_run_frameP (Q' := _) (pcfgs (F := F)) (fun _ => adm) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hpf := fun c k => match k with
      | ⟨0, _⟩ => V_tab m c
      | ⟨_ + 1, h⟩ => absurd h (Nat.not_lt.2 (Nat.le_add_left _ _)))
    (hΦ := fun _ _ => rfl)

/-- The same without the counters. -/
theorem run_main : θ_run defs (onTc (τ := τ) (main (F := F))) (s₀ m ρ) (Pipeline.FramePost (Pipeline.pin (pcfgs (F := F)) fun _ => adm) (dats m) 0 (V m)) :=
  (θ_run defs _ _).mono (fun _ h => h.1) (run_main_quiescent m ρ)

theorem kept_main_arg0 (r : PUnit × MemSt nD τ sig (Elt F)) (h : Pipeline.FramePost (Pipeline.pin (pcfgs (F := F)) fun _ => adm) (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_arg m c main_arg0 (by decide) (by decide))))
theorem kept_main_arg1 (r : PUnit × MemSt nD τ sig (Elt F)) (h : Pipeline.FramePost (Pipeline.pin (pcfgs (F := F)) fun _ => adm) (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_arg m c main_arg1 (by decide) (by decide))))
theorem kept_main_arg2 (r : PUnit × MemSt nD τ sig (Elt F)) (h : Pipeline.FramePost (Pipeline.pin (pcfgs (F := F)) fun _ => adm) (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_arg m c main_arg2 (by decide) (by decide))))
theorem kept_main_arg3 (r : PUnit × MemSt nD τ sig (Elt F)) (h : Pipeline.FramePost (Pipeline.pin (pcfgs (F := F)) fun _ => adm) (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_arg m c main_arg3 (by decide) (by decide))))
theorem kept_main_arg4 (r : PUnit × MemSt nD τ sig (Elt F)) (h : Pipeline.FramePost (Pipeline.pin (pcfgs (F := F)) fun _ => adm) (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_arg m c main_arg4 (by decide) (by decide))))
theorem kept_main_arg5 (r : PUnit × MemSt nD τ sig (Elt F)) (h : Pipeline.FramePost (Pipeline.pin (pcfgs (F := F)) fun _ => adm) (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_arg m c main_arg5 (by decide) (by decide))))
theorem kept_main_arg6 (r : PUnit × MemSt nD τ sig (Elt F)) (h : Pipeline.FramePost (Pipeline.pin (pcfgs (F := F)) fun _ => adm) (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_arg m c main_arg6 (by decide) (by decide))))
theorem kept_main_arg7 (r : PUnit × MemSt nD τ sig (Elt F)) (h : Pipeline.FramePost (Pipeline.pin (pcfgs (F := F)) fun _ => adm) (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_arg m c main_arg7 (by decide) (by decide))))
theorem kept_main_arg8 (r : PUnit × MemSt nD τ sig (Elt F)) (h : Pipeline.FramePost (Pipeline.pin (pcfgs (F := F)) fun _ => adm) (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_arg m c main_arg8 (by decide) (by decide))))

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c⟩) (run_main m ρ)

/-- The arguments end as they were, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel38Ideal.Pair

end
-- ==== Proof.LayersSame.lean ====
/-
  The optimiser's call on a matrix of both layers: the kernel over the words is the same program as the one over the extended reals,
  so its runs end as that one's do, which were followed over any numbers.
-/
module

public import proofs.«01_k».proof.Defs
public import proofs.«01_k».proof.Proof.Gen.Kernel38.Launch
public import proofs.«01_k».proof.Proof.LayersFrameIdeal

@[expose] public section

set_option maxRecDepth 16384

noncomputable section

open Idealize.ShloMosaic Idealize.ShloMosaic.TcCoe Idealize.SL.Sem

namespace Cert.Kernel38.Pair

variable {F : FTy → Type} [FloatOps F]

/-- The two bodies are the same, -/
theorem body_eq : @Cert.Kernel38.cc0_adamw_conv_out F _ _ = @Cert.Kernel38Ideal.cc0_adamw_conv_out F _ _ := rfl

set_option maxHeartbeats 1000000 in
/-- their tables, -/
theorem defs0_eq : @Cert.Kernel38.defs₀ F _ _ = @Cert.Kernel38Ideal.defs₀ F _ _ := by
  unfold Cert.Kernel38.defs₀ Cert.Kernel38Ideal.defs₀
  refine congrArg Defs.onTc (funext fun f => funext fun a => ?_)
  match f, a with
  | 0, (t, s) => first | rfl | (dsimp only; rw [body_eq]; rfl)
  | ⟨_ + 1, h⟩, _ => exact absurd h (Nat.not_lt.2 (Nat.le_add_left _ _))

/-- the tables with the call in them, -/
theorem defs_eq : @Cert.Kernel38.defs F _ _ = @Cert.Kernel38Ideal.defs F _ _ :=
  congrArg (Pipeline.defs (Cert.Kernel38Ideal.pcfgs (F := F))) defs0_eq

/-- and the programs. -/
theorem main_eq : @Cert.Kernel38.main F _ _ = @Cert.Kernel38Ideal.main F _ _ := rfl

/-- What every run of the one ends with, every run of the other does. -/
theorem frame_eq (m : (ℓ : Loc Cert.Kernel38.nD Cert.Kernel38.τ Cert.Kernel38.sig) → Buf (Elt F) ℓ) (ρ : Dev Cert.Kernel38.nD → PrngReg) (Q) :
    θ_run (Cert.Kernel38Ideal.defs (F := F)) (onTc (τ := Cert.Kernel38Ideal.τ) (Cert.Kernel38Ideal.main (F := F))) ⟨m, fun _ => 0, ρ⟩ Q →
    θ_run (Cert.Kernel38.defs (F := F)) (onTc (τ := Cert.Kernel38.τ) (Cert.Kernel38.main (F := F))) ⟨m, fun _ => 0, ρ⟩ Q := by
  intro h
  rw [defs_eq, main_eq]
  exact h

end Cert.Kernel38.Pair

end
-- ==== Proof.LayersSpec.lean ====
/-
  The optimiser's call on a matrix of both layers, over the extended reals: each layer's gradient summed from the pieces.
-/
module

public import proofs.«01_k».proof.Proof.AdamSpec
public import Idealize.ShloMosaic.Lib.Pointwise

@[expose] public section

noncomputable section

open Idealize.ShloMosaic

namespace Adam.Layers

/-- `n` pieces of 256 rows and 1024 columns. -/
abbrev Pieces (n : ℕ) : Shape := ⟨3, ![n, 256, 1024]⟩

/-- One layer's gradient: the first 256 rows of the device's own, and the three and the four pieces the other devices send. -/
def layerSum (g : (Mat.M 1024 1024).Idx → EReal) (s : (Pieces 3).Idx → EReal) (b : (Pieces 4).Idx → EReal) (r : ℕ) (hr : r < 256) (q : Fin 1024) : EReal :=
  g (ix2 (⟨r, Nat.lt_trans hr (by decide)⟩ : Fin 1024) q) + (∑ k : Fin 3, s (ix3 k (⟨r, hr⟩ : Fin 256) q)) + ∑ k : Fin 4, b (ix3 k (⟨r, hr⟩ : Fin 256) q)

/-- Both layers' gradients, the first layer's rows above the second's. -/
def summed (g0 : (Mat.M 1024 1024).Idx → EReal) (s0 : (Pieces 3).Idx → EReal) (b0 : (Pieces 4).Idx → EReal)
    (g1 : (Mat.M 1024 1024).Idx → EReal) (s1 : (Pieces 3).Idx → EReal) (b1 : (Pieces 4).Idx → EReal) : (Mat.M 512 1024).Idx → EReal := fun i =>
  if h : (i 0).val < 256 then layerSum g0 s0 b0 (i 0).val h (i 1)
  else layerSum g1 s1 b1 ((i 0).val - 256) (by have : (i 0).val < 512 := (i 0).isLt; omega) (i 1)

/-- The step on every entry. -/
def steps (w m v g : (Mat.M 512 1024).Idx → EReal) : (Mat.M 512 1024).Idx → EReal := fun i => step (w i) (m i) (v i) (g i)

/-- The first moment of every entry. -/
def moments1 (m g : (Mat.M 512 1024).Idx → EReal) : (Mat.M 512 1024).Idx → EReal := fun i => moment1 (m i) (g i)

/-- The second moment of every entry. -/
def moments2 (v g : (Mat.M 512 1024).Idx → EReal) : (Mat.M 512 1024).Idx → EReal := fun i => moment2 (v i) (g i)

end Adam.Layers

end
-- ==== Proof.LayersValue.lean ====
/-
  The optimiser's call on a matrix of both layers: the kernel's four result arrays after its run.
-/
module

public import proofs.«01_k».proof.Proof.LayersSpec
public import proofs.«01_k».proof.Proof.LayersFrameIdeal
public import Idealize.ShloMosaic.Lib.Pipeline.ValueKit
public import Idealize.ShloMosaic.Lib.Pipeline.Value
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Kernel38Ideal.Pair

open Cert.Kernel38Ideal Cert.Kernel38Ideal.Gen _root_.Adam _root_.Adam.Layers

/-! ## A point's blocks -/

section Block

variable (i : grid0.Coords) (x0 x1 x2 : Vec Ideal S128x1024 .f32) (x3 : Vec Ideal S128x1024 .bf16) (x4 : Vec Ideal S3x128x1024 .bf16) (x5 : Vec Ideal S4x128x1024 .bf16)
  (x6 : Vec Ideal S128x1024 .bf16) (x7 : Vec Ideal S3x128x1024 .bf16) (x8 : Vec Ideal S4x128x1024 .bf16)

theorem zeros2 : (![0, 0] : Fin 2 → Nat) = fun _ => 0 := funext fun a => by fin_cases a <;> rfl

/-- A load of one piece reads it. -/
theorem ld_p (k : Fin 3) (h) (a : Fin 128) (q : Fin 1024) :
    View.ld x4 (Rect.unit (s := S3x128x1024) ![k.val, 0, 0] S1x128x1024.size h) (ix3 (0 : Fin 1) a q) = x4 (ix3 k a q) := by
  refine congrArg x4 (funext fun d => Fin.ext ?_)
  match d with
  | 0 => show k.val + 1 * 0 = k.val; omega
  | 1 => show 0 + 1 * a.val = a.val; omega
  | 2 => show 0 + 1 * q.val = q.val; omega

theorem ld_q (k : Fin 4) (h) (a : Fin 128) (q : Fin 1024) :
    View.ld x5 (Rect.unit (s := S4x128x1024) ![k.val, 0, 0] S1x128x1024.size h) (ix3 (0 : Fin 1) a q) = x5 (ix3 k a q) := by
  refine congrArg x5 (funext fun d => Fin.ext ?_)
  match d with
  | 0 => show k.val + 1 * 0 = k.val; omega
  | 1 => show 0 + 1 * a.val = a.val; omega
  | 2 => show 0 + 1 * q.val = q.val; omega

/-- The sum at an entry, as the kernel writes it. -/
theorem sum_at (v20 : Vec Ideal S128x1024 .bf16) (v22 v25 v29 v33 v37 v41 v45 : Vec Ideal S1x128x1024 .bf16) (a : Fin 128) (q : Fin 1024) :
    k0_pay7 v20 v22 v25 v29 v33 v37 v41 v45 (ix2 a q) =
      v20 (ix2 a q) + v25 (ix3 0 a q) + v33 (ix3 0 a q) + v41 (ix3 0 a q) + (v22 (ix3 0 a q) + v29 (ix3 0 a q) + v37 (ix3 0 a q) + v45 (ix3 0 a q)) := by
  pointwise [k0_pay7]

/-- The sum of the pieces at an entry. -/
theorem total_at (a : Fin 128) (q : Fin 1024) : total x3 x4 x5 (ix2 a q) =
    (x3 (ix2 a q) : EReal) + (∑ k : Fin 3, (x4 (ix3 k a q) : EReal)) + ∑ k : Fin 4, (x5 (ix3 k a q) : EReal) := by
  unfold total
  rw [sum_at, View.ld_unit_zero (S := S128x1024) zeros2 _ x3, show View.ld x4 p0 (ix3 0 a q) = x4 (ix3 0 a q) from ld_p x4 0 _ a q, show View.ld x4 p1 (ix3 0 a q) = x4 (ix3 1 a q) from ld_p x4 1 _ a q, show View.ld x4 p2 (ix3 0 a q) = x4 (ix3 2 a q) from ld_p x4 2 _ a q, show View.ld x5 q0 (ix3 0 a q) = x5 (ix3 0 a q) from ld_q x5 0 _ a q, show View.ld x5 q1 (ix3 0 a q) = x5 (ix3 1 a q) from ld_q x5 1 _ a q, show View.ld x5 q2 (ix3 0 a q) = x5 (ix3 2 a q) from ld_q x5 2 _ a q, show View.ld x5 q3 (ix3 0 a q) = x5 (ix3 3 a q) from ld_q x5 3 _ a q,
    Fin.sum_univ_three, Fin.sum_univ_four]
  simp only [add_assoc]

/-- The four blocks a point leaves. -/
theorem block_9 : out_9 i x0 x1 x2 x3 x4 x5 x6 x7 x8 = part i x3 x4 x5 x6 x7 x8 := by
  unfold out_9
  rw [View.canon_unit_zero zeros2]

theorem block_10 (a : Fin 128) (q : Fin 1024) : out_10 i x0 x1 x2 x3 x4 x5 x6 x7 x8 (ix2 a q) =
    step (x0 (ix2 a q)) (x1 (ix2 a q)) (x2 (ix2 a q)) (part i x3 x4 x5 x6 x7 x8 (ix2 a q)) := by
  unfold out_10
  rw [View.canon_unit_zero zeros2, View.ld_unit_zero (S := S128x1024) zeros2 _ x0, View.ld_unit_zero (S := S128x1024) zeros2 _ x1, View.ld_unit_zero (S := S128x1024) zeros2 _ x2]
  generalize part i x3 x4 x5 x6 x7 x8 = g
  pointwise [k0_pay1, k0_pay2, k0_pay3, step, moment1, moment2]

theorem block_11 (a : Fin 128) (q : Fin 1024) : out_11 i x0 x1 x2 x3 x4 x5 x6 x7 x8 (ix2 a q) = moment1 (x1 (ix2 a q)) (part i x3 x4 x5 x6 x7 x8 (ix2 a q)) := by
  unfold out_11
  rw [View.canon_unit_zero zeros2, View.ld_unit_zero (S := S128x1024) zeros2 _ x1]
  generalize part i x3 x4 x5 x6 x7 x8 = g
  pointwise [k0_pay1, moment1]

theorem block_12 (a : Fin 128) (q : Fin 1024) : out_12 i x0 x1 x2 x3 x4 x5 x6 x7 x8 (ix2 a q) = moment2 (x2 (ix2 a q)) (part i x3 x4 x5 x6 x7 x8 (ix2 a q)) := by
  unfold out_12
  rw [View.canon_unit_zero zeros2, View.ld_unit_zero (S := S128x1024) zeros2 _ x2]
  generalize part i x3 x4 x5 x6 x7 x8 = g
  pointwise [k0_pay2, moment2]

end Block

/-! ## Where the blocks lie -/

theorem idx2 : ∀ t : Fin grid0.N, cc0_transform_0 (grid0.coords t) = ![t.val, 0] ∧ cc0_transform_1 (grid0.coords t) = ![t.val, 0] ∧
    cc0_transform_2 (grid0.coords t) = ![t.val, 0] ∧ cc0_transform_9 (grid0.coords t) = ![t.val, 0] ∧ cc0_transform_10 (grid0.coords t) = ![t.val, 0] ∧
    cc0_transform_11 (grid0.coords t) = ![t.val, 0] ∧ cc0_transform_12 (grid0.coords t) = ![t.val, 0] := by decide +kernel

theorem idx3 : ∀ t : Fin grid0.N, cc0_transform_4 (grid0.coords t) = ![0, min t.val 1, 0] ∧ cc0_transform_5 (grid0.coords t) = ![0, min t.val 1, 0] ∧
    cc0_transform_7 (grid0.coords t) = ![0, t.val - 2, 0] ∧ cc0_transform_8 (grid0.coords t) = ![0, t.val - 2, 0] := by decide +kernel

theorem coords0 : ∀ t : Fin grid0.N, (grid0.coords t 0).val = t.val := by decide +kernel

theorem cond_iff : ∀ t : Fin grid0.N, k0_cond1 (grid0.coords t) = 1#1 ↔ t.val < 2 := by decide +kernel

theorem idx_3 (t : Fin grid0.N) : cc0_transform_3 (F := Ideal) inb_S1_S1_0 numel1_S1 tab (grid0.coords t) = ![min t.val 1, 0] := by
  rw [own_index, coords0]

theorem idx_6 (t : Fin grid0.N) : cc0_transform_6 (F := Ideal) inb_S1_S1_0 numel1_S1 tab (grid0.coords t) = ![t.val - 2, 0] := by
  rw [own_index', coords0]

variable (m : (ℓ : Loc nD τ sig) → Buf (Elt Ideal) ℓ)

/-- A row of a point's block as a row of the whole. -/
abbrev row (t : Fin (C (F := Ideal)).N) (a : Fin 128) : Fin 512 := ⟨128 * t.val + a.val, by have h : t.val < 4 := t.isLt; omega⟩

/-- Two entries are one when their rows and their columns are. -/
theorem ext2 {r n : ℕ} (e f : (⟨2, ![r, n]⟩ : Shape).Idx) (h0 : (e 0).val = (f 0).val) (h1 : (e 1).val = (f 1).val) : e = f :=
  funext fun d => Fin.ext (match d with | 0 => h0 | 1 => h1)

theorem ext3 {k r n : ℕ} (e f : (⟨3, ![k, r, n]⟩ : Shape).Idx) (h0 : (e 0).val = (f 0).val) (h1 : (e 1).val = (f 1).val) (h2 : (e 2).val = (f 2).val) : e = f :=
  funext fun d => Fin.ext (match d with | 0 => h0 | 1 => h1 | 2 => h2)

/-- Input 0's block holds its argument's rows. -/
theorem read_0 (c : Dev nD) (t : Fin (C (F := Ideal)).N) (a : Fin 128) (q : Fin 1024) (r : Fin 512) (hr : r.val = t.val * 128 + a.val) :
    iblk m c 0 t (ix2 a q) = m ((c : Thread nD τ).loc main_arg0) (ix2 r q) := by
  have e : cc0_transform_0 (grid0.coords t) = ![t.val, 0] := (idx2 t).1
  refine (congrFun (V_arg m c main_arg0 (by decide) (by decide)) _).trans (congrArg (m ((c : Thread nD τ).loc main_arg0)) (ext2 _ _ ?_ ?_))
  · show cc0_transform_0 (grid0.coords t) 0 * 128 + 1 * a.val = r.val
    rw [e, hr]; show t.val * 128 + 1 * a.val = _; omega
  · show cc0_transform_0 (grid0.coords t) 1 * 1024 + 1 * q.val = q.val
    rw [e]; show 0 * 1024 + 1 * q.val = _; omega

/-- Input 1's block holds its argument's rows. -/
theorem read_1 (c : Dev nD) (t : Fin (C (F := Ideal)).N) (a : Fin 128) (q : Fin 1024) (r : Fin 512) (hr : r.val = t.val * 128 + a.val) :
    iblk m c 1 t (ix2 a q) = m ((c : Thread nD τ).loc main_arg1) (ix2 r q) := by
  have e : cc0_transform_1 (grid0.coords t) = ![t.val, 0] := (idx2 t).2.1
  refine (congrFun (V_arg m c main_arg1 (by decide) (by decide)) _).trans (congrArg (m ((c : Thread nD τ).loc main_arg1)) (ext2 _ _ ?_ ?_))
  · show cc0_transform_1 (grid0.coords t) 0 * 128 + 1 * a.val = r.val
    rw [e, hr]; show t.val * 128 + 1 * a.val = _; omega
  · show cc0_transform_1 (grid0.coords t) 1 * 1024 + 1 * q.val = q.val
    rw [e]; show 0 * 1024 + 1 * q.val = _; omega

/-- Input 2's block holds its argument's rows. -/
theorem read_2 (c : Dev nD) (t : Fin (C (F := Ideal)).N) (a : Fin 128) (q : Fin 1024) (r : Fin 512) (hr : r.val = t.val * 128 + a.val) :
    iblk m c 2 t (ix2 a q) = m ((c : Thread nD τ).loc main_arg2) (ix2 r q) := by
  have e : cc0_transform_2 (grid0.coords t) = ![t.val, 0] := (idx2 t).2.2.1
  refine (congrFun (V_arg m c main_arg2 (by decide) (by decide)) _).trans (congrArg (m ((c : Thread nD τ).loc main_arg2)) (ext2 _ _ ?_ ?_))
  · show cc0_transform_2 (grid0.coords t) 0 * 128 + 1 * a.val = r.val
    rw [e, hr]; show t.val * 128 + 1 * a.val = _; omega
  · show cc0_transform_2 (grid0.coords t) 1 * 1024 + 1 * q.val = q.val
    rw [e]; show 0 * 1024 + 1 * q.val = _; omega

/-- Input 3's block holds its argument's rows. -/
theorem read_3 (c : Dev nD) (t : Fin (C (F := Ideal)).N) (a : Fin 128) (q : Fin 1024) (r : Fin 1024) (hr : r.val = (min t.val 1) * 128 + a.val) :
    iblk m c 3 t (ix2 a q) = m ((c : Thread nD τ).loc main_arg3) (ix2 r q) := by
  have e : cc0_transform_3 (F := Ideal) inb_S1_S1_0 numel1_S1 tab (grid0.coords t) = ![(min t.val 1), 0] := idx_3 t
  refine (congrFun (V_arg m c main_arg3 (by decide) (by decide)) _).trans (congrArg (m ((c : Thread nD τ).loc main_arg3)) (ext2 _ _ ?_ ?_))
  · show cc0_transform_3 (F := Ideal) inb_S1_S1_0 numel1_S1 tab (grid0.coords t) 0 * 128 + 1 * a.val = r.val
    rw [e, hr]; show (min t.val 1) * 128 + 1 * a.val = _; omega
  · show cc0_transform_3 (F := Ideal) inb_S1_S1_0 numel1_S1 tab (grid0.coords t) 1 * 1024 + 1 * q.val = q.val
    rw [e]; show 0 * 1024 + 1 * q.val = _; omega

/-- Input 6's block holds its argument's rows. -/
theorem read_6 (c : Dev nD) (t : Fin (C (F := Ideal)).N) (a : Fin 128) (q : Fin 1024) (r : Fin 1024) (hr : r.val = (t.val - 2) * 128 + a.val) :
    iblk m c 6 t (ix2 a q) = m ((c : Thread nD τ).loc main_arg6) (ix2 r q) := by
  have e : cc0_transform_6 (F := Ideal) inb_S1_S1_0 numel1_S1 tab (grid0.coords t) = ![(t.val - 2), 0] := idx_6 t
  refine (congrFun (V_arg m c main_arg6 (by decide) (by decide)) _).trans (congrArg (m ((c : Thread nD τ).loc main_arg6)) (ext2 _ _ ?_ ?_))
  · show cc0_transform_6 (F := Ideal) inb_S1_S1_0 numel1_S1 tab (grid0.coords t) 0 * 128 + 1 * a.val = r.val
    rw [e, hr]; show (t.val - 2) * 128 + 1 * a.val = _; omega
  · show cc0_transform_6 (F := Ideal) inb_S1_S1_0 numel1_S1 tab (grid0.coords t) 1 * 1024 + 1 * q.val = q.val
    rw [e]; show 0 * 1024 + 1 * q.val = _; omega

/-- Input 4's block holds its argument's rows. -/
theorem read_4 (c : Dev nD) (t : Fin (C (F := Ideal)).N) (k : Fin 3) (a : Fin 128) (q : Fin 1024) (r : Fin 256) (hr : r.val = (min t.val 1) * 128 + a.val) :
    iblk m c 4 t (ix3 k a q) = m ((c : Thread nD τ).loc main_arg4) (ix3 k r q) := by
  have e : cc0_transform_4 (grid0.coords t) = ![0, (min t.val 1), 0] := (idx3 t).1
  refine (congrFun (V_arg m c main_arg4 (by decide) (by decide)) _).trans (congrArg (m ((c : Thread nD τ).loc main_arg4)) (ext3 _ _ ?_ ?_ ?_))
  · show cc0_transform_4 (grid0.coords t) 0 * 3 + 1 * k.val = k.val
    rw [e]; show 0 * 3 + 1 * k.val = _; omega
  · show cc0_transform_4 (grid0.coords t) 1 * 128 + 1 * a.val = r.val
    rw [e, hr]; show (min t.val 1) * 128 + 1 * a.val = _; omega
  · show cc0_transform_4 (grid0.coords t) 2 * 1024 + 1 * q.val = q.val
    rw [e]; show 0 * 1024 + 1 * q.val = _; omega

/-- Input 5's block holds its argument's rows. -/
theorem read_5 (c : Dev nD) (t : Fin (C (F := Ideal)).N) (k : Fin 4) (a : Fin 128) (q : Fin 1024) (r : Fin 256) (hr : r.val = (min t.val 1) * 128 + a.val) :
    iblk m c 5 t (ix3 k a q) = m ((c : Thread nD τ).loc main_arg5) (ix3 k r q) := by
  have e : cc0_transform_5 (grid0.coords t) = ![0, (min t.val 1), 0] := (idx3 t).2.1
  refine (congrFun (V_arg m c main_arg5 (by decide) (by decide)) _).trans (congrArg (m ((c : Thread nD τ).loc main_arg5)) (ext3 _ _ ?_ ?_ ?_))
  · show cc0_transform_5 (grid0.coords t) 0 * 4 + 1 * k.val = k.val
    rw [e]; show 0 * 4 + 1 * k.val = _; omega
  · show cc0_transform_5 (grid0.coords t) 1 * 128 + 1 * a.val = r.val
    rw [e, hr]; show (min t.val 1) * 128 + 1 * a.val = _; omega
  · show cc0_transform_5 (grid0.coords t) 2 * 1024 + 1 * q.val = q.val
    rw [e]; show 0 * 1024 + 1 * q.val = _; omega

/-- Input 7's block holds its argument's rows. -/
theorem read_7 (c : Dev nD) (t : Fin (C (F := Ideal)).N) (k : Fin 3) (a : Fin 128) (q : Fin 1024) (r : Fin 256) (hr : r.val = (t.val - 2) * 128 + a.val) :
    iblk m c 7 t (ix3 k a q) = m ((c : Thread nD τ).loc main_arg7) (ix3 k r q) := by
  have e : cc0_transform_7 (grid0.coords t) = ![0, (t.val - 2), 0] := (idx3 t).2.2.1
  refine (congrFun (V_arg m c main_arg7 (by decide) (by decide)) _).trans (congrArg (m ((c : Thread nD τ).loc main_arg7)) (ext3 _ _ ?_ ?_ ?_))
  · show cc0_transform_7 (grid0.coords t) 0 * 3 + 1 * k.val = k.val
    rw [e]; show 0 * 3 + 1 * k.val = _; omega
  · show cc0_transform_7 (grid0.coords t) 1 * 128 + 1 * a.val = r.val
    rw [e, hr]; show (t.val - 2) * 128 + 1 * a.val = _; omega
  · show cc0_transform_7 (grid0.coords t) 2 * 1024 + 1 * q.val = q.val
    rw [e]; show 0 * 1024 + 1 * q.val = _; omega

/-- Input 8's block holds its argument's rows. -/
theorem read_8 (c : Dev nD) (t : Fin (C (F := Ideal)).N) (k : Fin 4) (a : Fin 128) (q : Fin 1024) (r : Fin 256) (hr : r.val = (t.val - 2) * 128 + a.val) :
    iblk m c 8 t (ix3 k a q) = m ((c : Thread nD τ).loc main_arg8) (ix3 k r q) := by
  have e : cc0_transform_8 (grid0.coords t) = ![0, (t.val - 2), 0] := (idx3 t).2.2.2
  refine (congrFun (V_arg m c main_arg8 (by decide) (by decide)) _).trans (congrArg (m ((c : Thread nD τ).loc main_arg8)) (ext3 _ _ ?_ ?_ ?_))
  · show cc0_transform_8 (grid0.coords t) 0 * 4 + 1 * k.val = k.val
    rw [e]; show 0 * 4 + 1 * k.val = _; omega
  · show cc0_transform_8 (grid0.coords t) 1 * 128 + 1 * a.val = r.val
    rw [e, hr]; show (t.val - 2) * 128 + 1 * a.val = _; omega
  · show cc0_transform_8 (grid0.coords t) 2 * 1024 + 1 * q.val = q.val
    rw [e]; show 0 * 1024 + 1 * q.val = _; omega

/-- The summed gradient of the arguments. -/
abbrev sum (c : Dev nD) : (Mat.M 512 1024).Idx → EReal :=
  summed (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- A point's sum is the summed gradient's block. -/
theorem part_eq (c : Dev nD) (t : Fin (C (F := Ideal)).N) (a : Fin 128) (q : Fin 1024) :
    part (grid0.coords t) (iblk m c 3 t) (iblk m c 4 t) (iblk m c 5 t) (iblk m c 6 t) (iblk m c 7 t) (iblk m c 8 t) (ix2 a q) = sum m c (ix2 (row t a) q) := by
  have ht : t.val < 4 := t.isLt
  unfold part
  by_cases h : t.val < 2
  · have hr : 128 * t.val + a.val < 256 := by omega
    rw [if_pos ((cond_iff t).2 h), total_at]
    refine Eq.trans ?_ (dif_pos (show ((ix2 (row t a) q : (Mat.M 512 1024).Idx) 0).val < 256 from hr)).symm
    refine congrArg₂ (· + ·) (congrArg₂ (· + ·) (read_3 m c t a q _ (show 128 * t.val + a.val = _ by rw [Nat.min_eq_left (by omega)]; omega)) ?_) ?_
    · exact Finset.sum_congr rfl fun k _ => read_4 m c t k a q _ (show 128 * t.val + a.val = _ by rw [Nat.min_eq_left (by omega)]; omega)
    · exact Finset.sum_congr rfl fun k _ => read_5 m c t k a q _ (show 128 * t.val + a.val = _ by rw [Nat.min_eq_left (by omega)]; omega)
  · have hr : ¬ 128 * t.val + a.val < 256 := by omega
    rw [if_neg (mt (cond_iff t).1 h), total_at]
    refine Eq.trans ?_ (dif_neg (show ¬ ((ix2 (row t a) q : (Mat.M 512 1024).Idx) 0).val < 256 from hr)).symm
    refine congrArg₂ (· + ·) (congrArg₂ (· + ·) (read_6 m c t a q _ (show 128 * t.val + a.val - 256 = _ by omega)) ?_) ?_
    · exact Finset.sum_congr rfl fun k _ => read_7 m c t k a q _ (show 128 * t.val + a.val - 256 = _ by omega)
    · exact Finset.sum_congr rfl fun k _ => read_8 m c t k a q _ (show 128 * t.val + a.val - 256 = _ by omega)

/-! ## The result arrays -/

/-- An entry of a point's block of output 9 in the whole. -/
theorem emb_9 (t : Fin (C (F := Ideal)).N) (a : Fin 128) (q : Fin 1024) :
    (((C (F := Ideal)).win 9).blk t).view.emb (ix2 a q) = (ix2 (row t a) q : S512x1024.Idx) := by
  have e : cc0_transform_9 (grid0.coords t) = ![t.val, 0] := (idx2 t).2.2.2.1
  refine ext2 _ _ ?_ ?_
  · show cc0_transform_9 (grid0.coords t) 0 * 128 + 1 * a.val = 128 * t.val + a.val
    rw [e]; show t.val * 128 + 1 * a.val = _; omega
  · show cc0_transform_9 (grid0.coords t) 1 * 1024 + 1 * q.val = q.val
    rw [e]; show 0 * 1024 + 1 * q.val = _; omega

/-- What a point writes back. -/
theorem flushed_9 (c : Dev nD) (t : Fin (C (F := Ideal)).N) :
    (dats m 0 c).flushed 9 t = ((C (F := Ideal)).win 9).cut (grid0.coords t) (out_9 (grid0.coords t) (iblk m c 0 t) (iblk m c 1 t) (iblk m c 2 t) (iblk m c 3 t) (iblk m c 4 t) (iblk m c 5 t) (iblk m c 6 t) (iblk m c 7 t) (iblk m c 8 t)) := by
  show ((C (F := Ideal)).win 9).cut (grid0.coords t) ((dats m 0 c).after 9 t) = _
  rw [after_9]

theorem cut_9 (t : Fin (C (F := Ideal)).N) (X : Vec Ideal S128x1024 .f32) (a : Fin 128) (q : Fin 1024) :
    ((C (F := Ideal)).win 9).cut (grid0.coords t) X (ix2 a q) = X (ix2 a q) := rfl

/-- Output 9's array after the run. -/
theorem arr_9 (c : Dev nD) : (dats m 0 c).arrAt 9 (C (F := Ideal)).N = sum m c := by
  refine (dats m 0 c).arrAt_eq_of_cover 9 _ (fun t _ => ?_) fun i => ?_
  · refine funext fun (y : S128x1024.Idx) => ?_
    obtain ⟨a, q, rfl⟩ : ∃ (a : Fin 128) (q : Fin 1024), y = ix2 a q := ⟨y 0, y 1, eq_ix2 y⟩
    refine Eq.trans ?_ (congrArg (sum m c) (emb_9 t a q).symm)
    refine (congrFun (flushed_9 m c t) _).trans ((cut_9 t _ a q).trans ?_)
    rw [block_9]; exact part_eq m c t a q
  · have hi : (i 0).val < 512 := (i 0).isLt
    let t : Fin (C (F := Ideal)).N := ⟨(i 0).val / 128, show (i 0).val / 128 < 4 by omega⟩
    refine ⟨t, flush0_9 adm t, ?_⟩
    have h : (((C (F := Ideal)).win 9).blk t).view.emb (ix2 (⟨(i 0).val % 128, by omega⟩ : Fin 128) (i 1)) = i := by
      refine (emb_9 t _ (i 1)).trans (ext2 _ _ ?_ rfl)
      show 128 * ((i 0).val / 128) + (i 0).val % 128 = (i 0).val; omega
    rw [← h]
    exact View.emb_mem_set _ _

/-- An entry of a point's block of output 10 in the whole. -/
theorem emb_10 (t : Fin (C (F := Ideal)).N) (a : Fin 128) (q : Fin 1024) :
    (((C (F := Ideal)).win 10).blk t).view.emb (ix2 a q) = (ix2 (row t a) q : S512x1024.Idx) := by
  have e : cc0_transform_10 (grid0.coords t) = ![t.val, 0] := (idx2 t).2.2.2.2.1
  refine ext2 _ _ ?_ ?_
  · show cc0_transform_10 (grid0.coords t) 0 * 128 + 1 * a.val = 128 * t.val + a.val
    rw [e]; show t.val * 128 + 1 * a.val = _; omega
  · show cc0_transform_10 (grid0.coords t) 1 * 1024 + 1 * q.val = q.val
    rw [e]; show 0 * 1024 + 1 * q.val = _; omega

/-- What a point writes back. -/
theorem flushed_10 (c : Dev nD) (t : Fin (C (F := Ideal)).N) :
    (dats m 0 c).flushed 10 t = ((C (F := Ideal)).win 10).cut (grid0.coords t) (out_10 (grid0.coords t) (iblk m c 0 t) (iblk m c 1 t) (iblk m c 2 t) (iblk m c 3 t) (iblk m c 4 t) (iblk m c 5 t) (iblk m c 6 t) (iblk m c 7 t) (iblk m c 8 t)) := by
  show ((C (F := Ideal)).win 10).cut (grid0.coords t) ((dats m 0 c).after 10 t) = _
  rw [after_10]

theorem cut_10 (t : Fin (C (F := Ideal)).N) (X : Vec Ideal S128x1024 .f32) (a : Fin 128) (q : Fin 1024) :
    ((C (F := Ideal)).win 10).cut (grid0.coords t) X (ix2 a q) = X (ix2 a q) := rfl

/-- Output 10's array after the run. -/
theorem arr_10 (c : Dev nD) : (dats m 0 c).arrAt 10 (C (F := Ideal)).N = steps (m ((c : Thread nD τ).loc main_arg0)) (m ((c : Thread nD τ).loc main_arg1)) (m ((c : Thread nD τ).loc main_arg2)) (sum m c) := by
  refine (dats m 0 c).arrAt_eq_of_cover 10 _ (fun t _ => ?_) fun i => ?_
  · refine funext fun (y : S128x1024.Idx) => ?_
    obtain ⟨a, q, rfl⟩ : ∃ (a : Fin 128) (q : Fin 1024), y = ix2 a q := ⟨y 0, y 1, eq_ix2 y⟩
    refine Eq.trans ?_ (congrArg (steps (m ((c : Thread nD τ).loc main_arg0)) (m ((c : Thread nD τ).loc main_arg1)) (m ((c : Thread nD τ).loc main_arg2)) (sum m c)) (emb_10 t a q).symm)
    refine (congrFun (flushed_10 m c t) _).trans ((cut_10 t _ a q).trans ?_)
    rw [block_10, part_eq, read_0 m c t a q (row t a) (Nat.mul_comm 128 t.val ▸ rfl), read_1 m c t a q (row t a) (Nat.mul_comm 128 t.val ▸ rfl), read_2 m c t a q (row t a) (Nat.mul_comm 128 t.val ▸ rfl)]; rfl
  · have hi : (i 0).val < 512 := (i 0).isLt
    let t : Fin (C (F := Ideal)).N := ⟨(i 0).val / 128, show (i 0).val / 128 < 4 by omega⟩
    refine ⟨t, flush0_10 adm t, ?_⟩
    have h : (((C (F := Ideal)).win 10).blk t).view.emb (ix2 (⟨(i 0).val % 128, by omega⟩ : Fin 128) (i 1)) = i := by
      refine (emb_10 t _ (i 1)).trans (ext2 _ _ ?_ rfl)
      show 128 * ((i 0).val / 128) + (i 0).val % 128 = (i 0).val; omega
    rw [← h]
    exact View.emb_mem_set _ _

/-- An entry of a point's block of output 11 in the whole. -/
theorem emb_11 (t : Fin (C (F := Ideal)).N) (a : Fin 128) (q : Fin 1024) :
    (((C (F := Ideal)).win 11).blk t).view.emb (ix2 a q) = (ix2 (row t a) q : S512x1024.Idx) := by
  have e : cc0_transform_11 (grid0.coords t) = ![t.val, 0] := (idx2 t).2.2.2.2.2.1
  refine ext2 _ _ ?_ ?_
  · show cc0_transform_11 (grid0.coords t) 0 * 128 + 1 * a.val = 128 * t.val + a.val
    rw [e]; show t.val * 128 + 1 * a.val = _; omega
  · show cc0_transform_11 (grid0.coords t) 1 * 1024 + 1 * q.val = q.val
    rw [e]; show 0 * 1024 + 1 * q.val = _; omega

/-- What a point writes back. -/
theorem flushed_11 (c : Dev nD) (t : Fin (C (F := Ideal)).N) :
    (dats m 0 c).flushed 11 t = ((C (F := Ideal)).win 11).cut (grid0.coords t) (out_11 (grid0.coords t) (iblk m c 0 t) (iblk m c 1 t) (iblk m c 2 t) (iblk m c 3 t) (iblk m c 4 t) (iblk m c 5 t) (iblk m c 6 t) (iblk m c 7 t) (iblk m c 8 t)) := by
  show ((C (F := Ideal)).win 11).cut (grid0.coords t) ((dats m 0 c).after 11 t) = _
  rw [after_11]

theorem cut_11 (t : Fin (C (F := Ideal)).N) (X : Vec Ideal S128x1024 .f32) (a : Fin 128) (q : Fin 1024) :
    ((C (F := Ideal)).win 11).cut (grid0.coords t) X (ix2 a q) = X (ix2 a q) := rfl

/-- Output 11's array after the run. -/
theorem arr_11 (c : Dev nD) : (dats m 0 c).arrAt 11 (C (F := Ideal)).N = moments1 (m ((c : Thread nD τ).loc main_arg1)) (sum m c) := by
  refine (dats m 0 c).arrAt_eq_of_cover 11 _ (fun t _ => ?_) fun i => ?_
  · refine funext fun (y : S128x1024.Idx) => ?_
    obtain ⟨a, q, rfl⟩ : ∃ (a : Fin 128) (q : Fin 1024), y = ix2 a q := ⟨y 0, y 1, eq_ix2 y⟩
    refine Eq.trans ?_ (congrArg (moments1 (m ((c : Thread nD τ).loc main_arg1)) (sum m c)) (emb_11 t a q).symm)
    refine (congrFun (flushed_11 m c t) _).trans ((cut_11 t _ a q).trans ?_)
    rw [block_11, part_eq, read_1 m c t a q (row t a) (Nat.mul_comm 128 t.val ▸ rfl)]; rfl
  · have hi : (i 0).val < 512 := (i 0).isLt
    let t : Fin (C (F := Ideal)).N := ⟨(i 0).val / 128, show (i 0).val / 128 < 4 by omega⟩
    refine ⟨t, flush0_11 adm t, ?_⟩
    have h : (((C (F := Ideal)).win 11).blk t).view.emb (ix2 (⟨(i 0).val % 128, by omega⟩ : Fin 128) (i 1)) = i := by
      refine (emb_11 t _ (i 1)).trans (ext2 _ _ ?_ rfl)
      show 128 * ((i 0).val / 128) + (i 0).val % 128 = (i 0).val; omega
    rw [← h]
    exact View.emb_mem_set _ _

/-- An entry of a point's block of output 12 in the whole. -/
theorem emb_12 (t : Fin (C (F := Ideal)).N) (a : Fin 128) (q : Fin 1024) :
    (((C (F := Ideal)).win 12).blk t).view.emb (ix2 a q) = (ix2 (row t a) q : S512x1024.Idx) := by
  have e : cc0_transform_12 (grid0.coords t) = ![t.val, 0] := (idx2 t).2.2.2.2.2.2
  refine ext2 _ _ ?_ ?_
  · show cc0_transform_12 (grid0.coords t) 0 * 128 + 1 * a.val = 128 * t.val + a.val
    rw [e]; show t.val * 128 + 1 * a.val = _; omega
  · show cc0_transform_12 (grid0.coords t) 1 * 1024 + 1 * q.val = q.val
    rw [e]; show 0 * 1024 + 1 * q.val = _; omega

/-- What a point writes back. -/
theorem flushed_12 (c : Dev nD) (t : Fin (C (F := Ideal)).N) :
    (dats m 0 c).flushed 12 t = ((C (F := Ideal)).win 12).cut (grid0.coords t) (out_12 (grid0.coords t) (iblk m c 0 t) (iblk m c 1 t) (iblk m c 2 t) (iblk m c 3 t) (iblk m c 4 t) (iblk m c 5 t) (iblk m c 6 t) (iblk m c 7 t) (iblk m c 8 t)) := by
  show ((C (F := Ideal)).win 12).cut (grid0.coords t) ((dats m 0 c).after 12 t) = _
  rw [after_12]

theorem cut_12 (t : Fin (C (F := Ideal)).N) (X : Vec Ideal S128x1024 .f32) (a : Fin 128) (q : Fin 1024) :
    ((C (F := Ideal)).win 12).cut (grid0.coords t) X (ix2 a q) = X (ix2 a q) := rfl

/-- Output 12's array after the run. -/
theorem arr_12 (c : Dev nD) : (dats m 0 c).arrAt 12 (C (F := Ideal)).N = moments2 (m ((c : Thread nD τ).loc main_arg2)) (sum m c) := by
  refine (dats m 0 c).arrAt_eq_of_cover 12 _ (fun t _ => ?_) fun i => ?_
  · refine funext fun (y : S128x1024.Idx) => ?_
    obtain ⟨a, q, rfl⟩ : ∃ (a : Fin 128) (q : Fin 1024), y = ix2 a q := ⟨y 0, y 1, eq_ix2 y⟩
    refine Eq.trans ?_ (congrArg (moments2 (m ((c : Thread nD τ).loc main_arg2)) (sum m c)) (emb_12 t a q).symm)
    refine (congrFun (flushed_12 m c t) _).trans ((cut_12 t _ a q).trans ?_)
    rw [block_12, part_eq, read_2 m c t a q (row t a) (Nat.mul_comm 128 t.val ▸ rfl)]; rfl
  · have hi : (i 0).val < 512 := (i 0).isLt
    let t : Fin (C (F := Ideal)).N := ⟨(i 0).val / 128, show (i 0).val / 128 < 4 by omega⟩
    refine ⟨t, flush0_12 adm t, ?_⟩
    have h : (((C (F := Ideal)).win 12).blk t).view.emb (ix2 (⟨(i 0).val % 128, by omega⟩ : Fin 128) (i 1)) = i := by
      refine (emb_12 t _ (i 1)).trans (ext2 _ _ ?_ rfl)
      show 128 * ((i 0).val / 128) + (i 0).val % 128 = (i 0).val; omega
    rw [← h]
    exact View.emb_mem_set _ _

variable (ρ : Dev nD → PrngReg)

/-- The kernel's run: the gradient, the step, the two moments, and the arguments as they were. -/
theorem run : θ_run defs (onTc (τ := τ) (main (F := Ideal))) ⟨m, fun _ => 0, ρ⟩ fun r => ∀ c : Dev nD,
      r.2.mem ((c : Thread nD τ).loc main_v1_0) = sum m c
      ∧ r.2.mem ((c : Thread nD τ).loc main_v1_1) = steps (m ((c : Thread nD τ).loc main_arg0)) (m ((c : Thread nD τ).loc main_arg1)) (m ((c : Thread nD τ).loc main_arg2)) (sum m c)
      ∧ r.2.mem ((c : Thread nD τ).loc main_v1_2) = moments1 (m ((c : Thread nD τ).loc main_arg1)) (sum m c)
      ∧ r.2.mem ((c : Thread nD τ).loc main_v1_3) = moments2 (m ((c : Thread nD τ).loc main_arg2)) (sum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (arr_9 m c), ((h c).1 10).trans (arr_10 m c), ((h c).1 11).trans (arr_11 m c), ((h c).1 12).trans (arr_12 m c),
    kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c⟩) (run_main m ρ)

end Cert.Kernel38Ideal.Pair

end
-- ==== Proof.LayersRef.lean ====
/-
  The optimiser's call on a matrix of both layers: the reference's four result arrays after its run.
-/
module

public import proofs.«01_k».proof.Proof.LayersSpec
public import proofs.«01_k».proof.Proof.Gen.Reference38Ideal.Run
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Reference38Ideal.Pair

open Cert.Reference38Ideal _root_.Adam _root_.Adam.Layers

variable (m : (ℓ : Loc nD τ sig) → Buf (Elt Ideal) ℓ)

/-- The summed gradient of the arguments. -/
abbrev sum (c : Dev nD) : (Mat.M 512 1024).Idx → EReal :=
  summed (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The reference's run: the gradient, the step, the two moments, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v16) = sum m c
      ∧ r.2.mem ((c : Thread nD τ).loc main_v40) = steps (m ((c : Thread nD τ).loc main_arg0)) (m ((c : Thread nD τ).loc main_arg1)) (m ((c : Thread nD τ).loc main_arg2)) (sum m c)
      ∧ r.2.mem ((c : Thread nD τ).loc main_v21) = moments1 (m ((c : Thread nD τ).loc main_arg1)) (sum m c)
      ∧ r.2.mem ((c : Thread nD τ).loc main_v27) = moments2 (m ((c : Thread nD τ).loc main_arg2)) (sum m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  refine (θ_run defs _ _).mono (fun r h c => ⟨(h c).1.trans ?_, (h c).2.1.trans ?_, (h c).2.2.1.trans ?_, (h c).2.2.2.1.trans ?_, (h c).2.2.2.2⟩) (Value.run m ρ)
  all_goals
    clear h r
    clean_types
    funext i
    obtain ⟨p, q, rfl⟩ : ∃ (p : Fin 512) (q : Fin 1024), i = ix2 p q := ⟨i 0, i 1, eq_ix2 i⟩
    by_cases hp : p.val < 256
    · have e : sum m c (ix2 p q) = _ := dif_pos (show ((ix2 p q : (Mat.M 512 1024).Idx) 0).val < 256 from hp)
      pointwise [layerSum, hp, e, Value.res_main_v40, steps, moments1, moments2, step, moment1, moment2]
    · have e : sum m c (ix2 p q) = _ := dif_neg (show ¬ ((ix2 p q : (Mat.M 512 1024).Idx) 0).val < 256 from hp)
      pointwise [layerSum, hp, e, Value.res_main_v40, steps, moments1, moments2, step, moment1, moment2]

end Cert.Reference38Ideal.Pair

end
-- ==== Proof.lean ====
/-
  The claims: each kernel and each reference runs to its end and leaves its arguments and semaphores as they were, and the
  two leave the same results over the extended reals. Of the attention's gradient only that it runs so.
-/
module

public import proofs.«01_k».proof.Defs
public import proofs.«01_k».proof.Proof.Gen.Kernel.Frame
public import proofs.«01_k».proof.Proof.ConvValue
public import proofs.«01_k».proof.Proof.ConvRef
public import proofs.«01_k».proof.Proof.Gen.Kernel2.Frame
public import proofs.«01_k».proof.Proof.Product2
public import proofs.«01_k».proof.Proof.ProductRef2
public import proofs.«01_k».proof.Proof.Gen.Kernel3.Frame
public import proofs.«01_k».proof.Proof.Product3
public import proofs.«01_k».proof.Proof.ProductRef3
public import proofs.«01_k».proof.Proof.Gen.Kernel4.Frame
public import proofs.«01_k».proof.Proof.Product4
public import proofs.«01_k».proof.Proof.ProductRef4
public import proofs.«01_k».proof.Proof.Gen.Kernel5.Frame
public import proofs.«01_k».proof.Proof.Product5
public import proofs.«01_k».proof.Proof.ProductRef5
public import proofs.«01_k».proof.Proof.Gen.Kernel6.Frame
public import proofs.«01_k».proof.Proof.Product6
public import proofs.«01_k».proof.Proof.ProductRef6
public import proofs.«01_k».proof.Proof.Gen.Kernel7.Frame
public import proofs.«01_k».proof.Proof.Product7
public import proofs.«01_k».proof.Proof.ProductRef7
public import proofs.«01_k».proof.Proof.Gen.Kernel8.Frame
public import proofs.«01_k».proof.Proof.Product8
public import proofs.«01_k».proof.Proof.ProductRef8
public import proofs.«01_k».proof.Proof.Gen.Kernel9.Frame
public import proofs.«01_k».proof.Proof.Product9
public import proofs.«01_k».proof.Proof.ProductRef9
public import proofs.«01_k».proof.Proof.Gen.Kernel10.Frame
public import proofs.«01_k».proof.Proof.Product10
public import proofs.«01_k».proof.Proof.ProductRef10
public import proofs.«01_k».proof.Proof.Gen.Kernel11.Frame
public import proofs.«01_k».proof.Proof.GateValue
public import proofs.«01_k».proof.Proof.GateRef
public import proofs.«01_k».proof.Proof.Gen.Kernel12.Frame
public import proofs.«01_k».proof.Proof.GateGradValue
public import proofs.«01_k».proof.Proof.GateGradRef
public import proofs.«01_k».proof.Proof.GateGradPre
public import proofs.«01_k».proof.Proof.Gen.Pre_finite12
public import proofs.«01_k».proof.Proof.Gen.Kernel13.Frame
public import proofs.«01_k».proof.Proof.Product13
public import proofs.«01_k».proof.Proof.ProductRef13
public import proofs.«01_k».proof.Proof.Gen.Kernel14.Frame
public import proofs.«01_k».proof.Proof.Product14
public import proofs.«01_k».proof.Proof.ProductRef14
public import proofs.«01_k».proof.Proof.Gen.Kernel15.Frame
public import proofs.«01_k».proof.Proof.Product15
public import proofs.«01_k».proof.Proof.ProductRef15
public import proofs.«01_k».proof.Proof.Gen.Kernel16.Frame
public import proofs.«01_k».proof.Proof.Product16
public import proofs.«01_k».proof.Proof.ProductRef16
public import proofs.«01_k».proof.Proof.Gen.Kernel17.Frame
public import proofs.«01_k».proof.Proof.Product17
public import proofs.«01_k».proof.Proof.ProductRef17
public import proofs.«01_k».proof.Proof.Gen.Kernel18.Frame
public import proofs.«01_k».proof.Proof.Product18
public import proofs.«01_k».proof.Proof.ProductRef18
public import proofs.«01_k».proof.Proof.Gen.Kernel19.Frame
public import proofs.«01_k».proof.Proof.Product19
public import proofs.«01_k».proof.Proof.ProductRef19
public import proofs.«01_k».proof.Proof.Gen.Kernel20.Frame
public import proofs.«01_k».proof.Proof.Product20
public import proofs.«01_k».proof.Proof.ProductRef20
public import proofs.«01_k».proof.Proof.Gen.Kernel21.Frame
public import proofs.«01_k».proof.Proof.NormValue
public import proofs.«01_k».proof.Proof.NormRef
public import proofs.«01_k».proof.Proof.Gen.Kernel22.Frame
public import proofs.«01_k».proof.Proof.ConvFwd
public import proofs.«01_k».proof.Proof.ConvFwdRef
public import proofs.«01_k».proof.Proof.Gen.Kernel23.Frame
public import proofs.«01_k».proof.Proof.NormRes23
public import proofs.«01_k».proof.Proof.NormResRef23
public import proofs.«01_k».proof.Proof.Gen.Kernel24.Frame
public import proofs.«01_k».proof.Proof.NormRes24
public import proofs.«01_k».proof.Proof.NormResRef24
public import proofs.«01_k».proof.Proof.AttnBoth
public import proofs.«01_k».proof.Proof.Gen.Kernel26.Frame
public import proofs.«01_k».proof.Proof.NormLoss
public import proofs.«01_k».proof.Proof.NormLossRef
public import proofs.«01_k».proof.Proof.Gen.Kernel27.Frame
public import proofs.«01_k».proof.Proof.NormBack
public import proofs.«01_k».proof.Proof.NormBackRef
public import proofs.«01_k».proof.Proof.Gen.Kernel28.Frame
public import proofs.«01_k».proof.Proof.NormBack2
public import proofs.«01_k».proof.Proof.NormBack2Ref
public import proofs.«01_k».proof.Proof.Gen.Kernel29.Frame
public import proofs.«01_k».proof.Proof.NormAdd
public import proofs.«01_k».proof.Proof.Gen.Kernel30.Frame
public import proofs.«01_k».proof.Proof.NormFirst
public import proofs.«01_k».proof.Proof.Gen.Kernel31.Frame
public import proofs.«01_k».proof.Proof.NormTwo
public import proofs.«01_k».proof.Proof.Gen.Kernel32.Frame
public import proofs.«01_k».proof.Proof.NormAdd1
public import proofs.«01_k».proof.Proof.NormFwdRef
public import proofs.«01_k».proof.Proof.Gen.Kernel33.Frame
public import proofs.«01_k».proof.Proof.LossEnd
public import proofs.«01_k».proof.Proof.LossEndRef
public import proofs.«01_k».proof.Proof.Gen.Kernel34.Frame
public import proofs.«01_k».proof.Proof.Adam
public import proofs.«01_k».proof.Proof.Gen.Kernel35.Frame
public import proofs.«01_k».proof.Proof.MoveRows
public import proofs.«01_k».proof.Proof.Gen.Kernel36.Frame
public import proofs.«01_k».proof.Proof.MoveBack
public import proofs.«01_k».proof.Proof.MoveRef
public import proofs.«01_k».proof.Proof.PairFrame
public import proofs.«01_k».proof.Proof.PairFrameIdeal
public import proofs.«01_k».proof.Proof.PairValue
public import proofs.«01_k».proof.Proof.PairRef
public import proofs.«01_k».proof.Proof.LayersFrameIdeal
public import proofs.«01_k».proof.Proof.LayersSame
public import proofs.«01_k».proof.Proof.LayersValue
public import proofs.«01_k».proof.Proof.LayersRef
public import Idealize.ShloMosaic.Adequacy
public import Idealize.ShloMosaic.Init

@[expose] public section

noncomputable section

namespace Cert.Proof

open Idealize.ShloMosaic Idealize.ShloMosaic.TcCoe Idealize.SL.Sem

/-- The gradient of the gated convolution: the kernel over the words runs to its end, and leaves its arguments and its semaphores as they were. -/
theorem frame_Kernel : Cert.quiescent_Kernel := fun m ρ _ => Cert.Kernel.Gen.frame m ρ

/-- The gradient of the gated convolution: the same of the kernel over the extended reals. -/
theorem frame_KernelIdeal : Cert.quiescent_KernelIdeal := fun m ρ _ => Cert.KernelIdeal.Gen.frame m ρ

/-- The gradient of the gated convolution: the same of the reference over the extended reals. -/
theorem frame_ReferenceIdeal : Cert.quiescent_ReferenceIdeal := fun m ρ _ =>
  (θ_run _ _ _).mono (fun r h => ⟨fun c => (h c).2.2, sem_eq_zero_of_no_sems (by decide) r.2⟩) (Cert.ReferenceIdeal.Value.run (F := Ideal) m ρ)

/-- The gradient of the gated convolution: kernel and reference leave the same results. -/
theorem value_KernelIdeal : Cert.algebraic_KernelIdeal_ReferenceIdeal := by
  intro m g m' g' _ hagree
  refine ⟨_, _, Cert.KernelIdeal.ConvValue.run m g,
    (θ_run _ _ _).mono (fun r h c => ⟨(h c).1.trans ?_, (h c).2.1.trans ?_, (h c).2.2⟩) (Cert.ReferenceIdeal.ConvRef.run m' g')⟩
  · rw [(hagree c).1, (hagree c).2.1, (hagree c).2.2]
  · rw [(hagree c).1, (hagree c).2.1]

/-- The gradient of the feed-forward input projection by its input: the kernel over the words runs to its end, and leaves its arguments and its semaphores as they were. -/
theorem frame_Kernel2 : Cert.quiescent_Kernel2 := fun m ρ _ => Cert.Kernel2.Gen.frame m ρ

/-- The gradient of the feed-forward input projection by its input: the same of the kernel over the extended reals. -/
theorem frame_Kernel2Ideal : Cert.quiescent_Kernel2Ideal := fun m ρ _ => Cert.Kernel2Ideal.Gen.frame m ρ

/-- The gradient of the feed-forward input projection by its input: the same of the reference over the extended reals. -/
theorem frame_Reference2Ideal : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The gradient of the feed-forward input projection by its input: kernel and reference leave the same results. -/
theorem value_Kernel2Ideal : Cert.algebraic_Kernel2Ideal_Reference2Ideal := by
  intro m g m' g' _ hagree
  refine ⟨_, Cert.Kernel2Ideal.Product.run m g, (θ_run _ _ _).mono (fun r h c => ⟨(h c).1.trans ?_, (h c).2⟩) (Cert.Reference2Ideal.Product.run m' g')⟩
  exact congrArg₂ Mat.twoRow (hagree c).1 (hagree c).2

/-- The gradient of the feed-forward input projection by its weight: the kernel over the words runs to its end, and leaves its arguments and its semaphores as they were. -/
theorem frame_Kernel3 : Cert.quiescent_Kernel3 := fun m ρ _ => Cert.Kernel3.Gen.frame m ρ

/-- The gradient of the feed-forward input projection by its weight: the same of the kernel over the extended reals. -/
theorem frame_Kernel3Ideal : Cert.quiescent_Kernel3Ideal := fun m ρ _ => Cert.Kernel3Ideal.Gen.frame m ρ

/-- The gradient of the feed-forward input projection by its weight: the same of the reference over the extended reals. -/
theorem frame_Reference3Ideal : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The gradient of the feed-forward input projection by its weight: kernel and reference leave the same results. -/
theorem value_Kernel3Ideal : Cert.algebraic_Kernel3Ideal_Reference3Ideal := by
  intro m g m' g' _ hagree
  refine ⟨_, Cert.Kernel3Ideal.Product.run m g, (θ_run _ _ _).mono (fun r h c => ⟨(h c).1.trans ?_, (h c).2⟩) (Cert.Reference3Ideal.Product.run m' g')⟩
  exact congrArg₂ Mat.colTwo (hagree c).1 (hagree c).2

/-- The gradient of the feed-forward output projection by its weight: the kernel over the words runs to its end, and leaves its arguments and its semaphores as they were. -/
theorem frame_Kernel4 : Cert.quiescent_Kernel4 := fun m ρ _ => Cert.Kernel4.Gen.frame m ρ

/-- The gradient of the feed-forward output projection by its weight: the same of the kernel over the extended reals. -/
theorem frame_Kernel4Ideal : Cert.quiescent_Kernel4Ideal := fun m ρ _ => Cert.Kernel4Ideal.Gen.frame m ρ

/-- The gradient of the feed-forward output projection by its weight: the same of the reference over the extended reals. -/
theorem frame_Reference4Ideal : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The gradient of the feed-forward output projection by its weight: kernel and reference leave the same results. -/
theorem value_Kernel4Ideal : Cert.algebraic_Kernel4Ideal_Reference4Ideal := by
  intro m g m' g' _ hagree
  refine ⟨_, Cert.Kernel4Ideal.Product.run m g, (θ_run _ _ _).mono (fun r h c => ⟨(h c).1.trans ?_, (h c).2⟩) (Cert.Reference4Ideal.Product.run m' g')⟩
  exact congrArg₂ Mat.colCol (hagree c).1 (hagree c).2

/-- The feed-forward output projection: the kernel over the words runs to its end, and leaves its arguments and its semaphores as they were. -/
theorem frame_Kernel5 : Cert.quiescent_Kernel5 := fun m ρ _ => Cert.Kernel5.Gen.frame m ρ

/-- The feed-forward output projection: the same of the kernel over the extended reals. -/
theorem frame_Kernel5Ideal : Cert.quiescent_Kernel5Ideal := fun m ρ _ => Cert.Kernel5Ideal.Gen.frame m ρ

/-- The feed-forward output projection: the same of the reference over the extended reals. -/
theorem frame_Reference5Ideal : Cert.quiescent_Reference5Ideal := fun m ρ _ =>
  (θ_run _ _ _).mono (fun r h => ⟨fun c => (h c).2, sem_eq_zero_of_no_sems (by decide) r.2⟩) (Cert.Reference5Ideal.Value.run (F := Ideal) m ρ)

/-- The feed-forward output projection: kernel and reference leave the same results. -/
theorem value_Kernel5Ideal : Cert.algebraic_Kernel5Ideal_Reference5Ideal := by
  intro m g m' g' _ hagree
  refine ⟨_, Cert.Kernel5Ideal.Product.run m g, (θ_run _ _ _).mono (fun r h c => ⟨(h c).1.trans ?_, (h c).2⟩) (Cert.Reference5Ideal.Product.run m' g')⟩
  exact congrArg₂ Mat.rowCol (hagree c).1 (hagree c).2

/-- The gradient of the convolution's input projection by its input: the kernel over the words runs to its end, and leaves its arguments and its semaphores as they were. -/
theorem frame_Kernel6 : Cert.quiescent_Kernel6 := fun m ρ _ => Cert.Kernel6.Gen.frame m ρ

/-- The gradient of the convolution's input projection by its input: the same of the kernel over the extended reals. -/
theorem frame_Kernel6Ideal : Cert.quiescent_Kernel6Ideal := fun m ρ _ => Cert.Kernel6Ideal.Gen.frame m ρ

/-- The gradient of the convolution's input projection by its input: the same of the reference over the extended reals. -/
theorem frame_Reference6Ideal : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The gradient of the convolution's input projection by its input: kernel and reference leave the same results. -/
theorem value_Kernel6Ideal : Cert.algebraic_Kernel6Ideal_Reference6Ideal := by
  intro m g m' g' _ hagree
  refine ⟨_, Cert.Kernel6Ideal.Product.run m g, (θ_run _ _ _).mono (fun r h c => ⟨(h c).1.trans ?_, (h c).2⟩) (Cert.Reference6Ideal.Product.run m' g')⟩
  exact congrArg₂ Mat.rowRow (hagree c).1 (hagree c).2

/-- The gradient of the convolution's input projection by its weight: the kernel over the words runs to its end, and leaves its arguments and its semaphores as they were. -/
theorem frame_Kernel7 : Cert.quiescent_Kernel7 := fun m ρ _ => Cert.Kernel7.Gen.frame m ρ

/-- The gradient of the convolution's input projection by its weight: the same of the kernel over the extended reals. -/
theorem frame_Kernel7Ideal : Cert.quiescent_Kernel7Ideal := fun m ρ _ => Cert.Kernel7Ideal.Gen.frame m ρ

/-- The gradient of the convolution's input projection by its weight: the same of the reference over the extended reals. -/
theorem frame_Reference7Ideal : Cert.quiescent_Reference7Ideal := fun m ρ _ =>
  (θ_run _ _ _).mono (fun r h => ⟨fun c => (h c).2, sem_eq_zero_of_no_sems (by decide) r.2⟩) (Cert.Reference7Ideal.Value.run (F := Ideal) m ρ)

/-- The gradient of the convolution's input projection by its weight: kernel and reference leave the same results. -/
theorem value_Kernel7Ideal : Cert.algebraic_Kernel7Ideal_Reference7Ideal := by
  intro m g m' g' _ hagree
  refine ⟨_, Cert.Kernel7Ideal.Product.run m g, (θ_run _ _ _).mono (fun r h c => ⟨(h c).1.trans ?_, (h c).2⟩) (Cert.Reference7Ideal.Product.run m' g')⟩
  exact congrArg₂ Mat.colCol (hagree c).1 (hagree c).2

/-- The convolution's input projection: the kernel over the words runs to its end, and leaves its arguments and its semaphores as they were. -/
theorem frame_Kernel8 : Cert.quiescent_Kernel8 := fun m ρ _ => Cert.Kernel8.Gen.frame m ρ

/-- The convolution's input projection: the same of the kernel over the extended reals. -/
theorem frame_Kernel8Ideal : Cert.quiescent_Kernel8Ideal := fun m ρ _ => Cert.Kernel8Ideal.Gen.frame m ρ

/-- The convolution's input projection: the same of the reference over the extended reals. -/
theorem frame_Reference8Ideal : Cert.quiescent_Reference8Ideal := fun m ρ _ =>
  (θ_run _ _ _).mono (fun r h => ⟨fun c => (h c).2, sem_eq_zero_of_no_sems (by decide) r.2⟩) (Cert.Reference8Ideal.Value.run (F := Ideal) m ρ)

/-- The convolution's input projection: kernel and reference leave the same results. -/
theorem value_Kernel8Ideal : Cert.algebraic_Kernel8Ideal_Reference8Ideal := by
  intro m g m' g' _ hagree
  refine ⟨_, Cert.Kernel8Ideal.Product.run m g, (θ_run _ _ _).mono (fun r h c => ⟨(h c).1.trans ?_, (h c).2⟩) (Cert.Reference8Ideal.Product.run m' g')⟩
  exact congrArg₂ Mat.rowCol (hagree c).1 (hagree c).2

/-- The gradient of the convolution's output projection by its input: the kernel over the words runs to its end, and leaves its arguments and its semaphores as they were. -/
theorem frame_Kernel9 : Cert.quiescent_Kernel9 := fun m ρ _ => Cert.Kernel9.Gen.frame m ρ

/-- The gradient of the convolution's output projection by its input: the same of the kernel over the extended reals. -/
theorem frame_Kernel9Ideal : Cert.quiescent_Kernel9Ideal := fun m ρ _ => Cert.Kernel9Ideal.Gen.frame m ρ

/-- The gradient of the convolution's output projection by its input: the same of the reference over the extended reals. -/
theorem frame_Reference9Ideal : Cert.quiescent_Reference9Ideal := fun m ρ _ =>
  (θ_run _ _ _).mono (fun r h => ⟨fun c => (h c).2, sem_eq_zero_of_no_sems (by decide) r.2⟩) (Cert.Reference9Ideal.Value.run (F := Ideal) m ρ)

/-- The gradient of the convolution's output projection by its input: kernel and reference leave the same results. -/
theorem value_Kernel9Ideal : Cert.algebraic_Kernel9Ideal_Reference9Ideal := by
  intro m g m' g' _ hagree
  refine ⟨_, Cert.Kernel9Ideal.Product.run m g, (θ_run _ _ _).mono (fun r h c => ⟨(h c).1.trans ?_, (h c).2⟩) (Cert.Reference9Ideal.Product.run m' g')⟩
  exact congrArg₂ Mat.rowRow (hagree c).1 (hagree c).2

/-- The gradient of the convolution's output projection by its weight: the kernel over the words runs to its end, and leaves its arguments and its semaphores as they were. -/
theorem frame_Kernel10 : Cert.quiescent_Kernel10 := fun m ρ _ => Cert.Kernel10.Gen.frame m ρ

/-- The gradient of the convolution's output projection by its weight: the same of the kernel over the extended reals. -/
theorem frame_Kernel10Ideal : Cert.quiescent_Kernel10Ideal := fun m ρ _ => Cert.Kernel10Ideal.Gen.frame m ρ

/-- The gradient of the convolution's output projection by its weight: the same of the reference over the extended reals. -/
theorem frame_Reference10Ideal : Cert.quiescent_Reference10Ideal := fun m ρ _ =>
  (θ_run _ _ _).mono (fun r h => ⟨fun c => (h c).2, sem_eq_zero_of_no_sems (by decide) r.2⟩) (Cert.Reference10Ideal.Value.run (F := Ideal) m ρ)

/-- The gradient of the convolution's output projection by its weight: kernel and reference leave the same results. -/
theorem value_Kernel10Ideal : Cert.algebraic_Kernel10Ideal_Reference10Ideal := by
  intro m g m' g' _ hagree
  refine ⟨_, Cert.Kernel10Ideal.Product.run m g, (θ_run _ _ _).mono (fun r h c => ⟨(h c).1.trans ?_, (h c).2⟩) (Cert.Reference10Ideal.Product.run m' g')⟩
  exact congrArg₂ Mat.colCol (hagree c).1 (hagree c).2

/-- The gated feed-forward input projection: the kernel over the words runs to its end, and leaves its arguments and its semaphores as they were. -/
theorem frame_Kernel11 : Cert.quiescent_Kernel11 := fun m ρ _ => Cert.Kernel11.Gen.frame m ρ

/-- The gated feed-forward input projection: the same of the kernel over the extended reals. -/
theorem frame_Kernel11Ideal : Cert.quiescent_Kernel11Ideal := fun m ρ _ => Cert.Kernel11Ideal.Gen.frame m ρ

/-- The gated feed-forward input projection: the same of the reference over the extended reals. -/
theorem frame_Reference11Ideal : Cert.quiescent_Reference11Ideal := fun m ρ _ =>
  (θ_run _ _ _).mono (fun r h => ⟨fun c => (h c).2.2, sem_eq_zero_of_no_sems (by decide) r.2⟩) (Cert.Reference11Ideal.Value.run (F := Ideal) m ρ)

/-- The gated feed-forward input projection: kernel and reference leave the same results. -/
theorem value_Kernel11Ideal : Cert.algebraic_Kernel11Ideal_Reference11Ideal := by
  intro m g m' g' _ hagree
  refine ⟨_, _, Cert.Kernel11Ideal.GateValue.run m g,
    (θ_run _ _ _).mono (fun r h c => ⟨(h c).1.trans ?_, (h c).2.1.trans ?_, (h c).2.2⟩) (Cert.Reference11Ideal.GateRef.run m' g')⟩
  · exact congrArg₂ Gate.planes (hagree c).1 (hagree c).2
  · exact congrArg₂ Gate.gated (hagree c).1 (hagree c).2

/-- The gradient of the gated feed-forward value: the kernel over the words runs to its end, and leaves its arguments and its semaphores as they were. -/
theorem frame_Kernel12 : Cert.quiescent_Kernel12 := fun m ρ _ => Cert.Kernel12.Gen.frame m ρ

/-- The gradient of the gated feed-forward value: the same of the kernel over the extended reals. -/
theorem frame_Kernel12Ideal : Cert.quiescent_Kernel12Ideal := fun m ρ _ => Cert.Kernel12Ideal.Gen.frame m ρ

/-- The gradient of the gated feed-forward value: the same of the reference over the extended reals. -/
theorem frame_Reference12Ideal : Cert.quiescent_Reference12Ideal := fun m ρ _ =>
  (θ_run _ _ _).mono (fun r h => ⟨fun c => (h c).2, sem_eq_zero_of_no_sems (by decide) r.2⟩) (Cert.Reference12Ideal.Value.run (F := Ideal) m ρ)

/-- The gradient of the gated feed-forward value: kernel and reference leave the same results. -/
theorem value_Kernel12Ideal : Cert.algebraic_Kernel12Ideal_Reference12Ideal_pre_finite12 := by
  intro m g m' g' hpre hagree
  have fin := fun c => Cert.Pre_finite12.Read.read _ _ _ (hpre c)
  have run := Cert.Reference12Ideal.GateGradRef.run m'
    (fun c i => by rw [(hagree c).1]; exact (fin c).1 i)
    (fun c i => by rw [(hagree c).2.1]; exact (fin c).2.1 i)
    (fun c r j => by rw [(hagree c).2.2]; exact (fin c).2.2 r j) g'
  refine ⟨_, Cert.Kernel12Ideal.GateGradValue.run m g, (θ_run _ _ _).mono (fun r h c => ⟨(h c).1.trans ?_, (h c).2⟩) run⟩
  rw [(hagree c).1, (hagree c).2.1, (hagree c).2.2]

/-- The attention's queries: the kernel over the words runs to its end, and leaves its arguments and its semaphores as they were. -/
theorem frame_Kernel13 : Cert.quiescent_Kernel13 := fun m ρ _ => Cert.Kernel13.Gen.frame m ρ

/-- The attention's queries: the same of the kernel over the extended reals. -/
theorem frame_Kernel13Ideal : Cert.quiescent_Kernel13Ideal := fun m ρ _ => Cert.Kernel13Ideal.Gen.frame m ρ

/-- The attention's queries: the same of the reference over the extended reals. -/
theorem frame_Reference13Ideal : Cert.quiescent_Reference13Ideal := fun m ρ _ =>
  (θ_run _ _ _).mono (fun r h => ⟨fun c => (h c).2, sem_eq_zero_of_no_sems (by decide) r.2⟩) (Cert.Reference13Ideal.Value.run (F := Ideal) m ρ)

/-- The attention's queries: kernel and reference leave the same results. -/
theorem value_Kernel13Ideal : Cert.algebraic_Kernel13Ideal_Reference13Ideal := by
  intro m g m' g' _ hagree
  refine ⟨_, Cert.Kernel13Ideal.Product.run m g, (θ_run _ _ _).mono (fun r h c => ⟨(h c).1.trans ?_, (h c).2⟩) (Cert.Reference13Ideal.Product.run m' g')⟩
  exact congrArg₂ (fun A B => Mat.scaled (Mat.rowCol A B)) (hagree c).1 (hagree c).2

/-- The gradient of the attention's queries by the projection's input: the kernel over the words runs to its end, and leaves its arguments and its semaphores as they were. -/
theorem frame_Kernel14 : Cert.quiescent_Kernel14 := fun m ρ _ => Cert.Kernel14.Gen.frame m ρ

/-- The gradient of the attention's queries by the projection's input: the same of the kernel over the extended reals. -/
theorem frame_Kernel14Ideal : Cert.quiescent_Kernel14Ideal := fun m ρ _ => Cert.Kernel14Ideal.Gen.frame m ρ

/-- The gradient of the attention's queries by the projection's input: the same of the reference over the extended reals. -/
theorem frame_Reference14Ideal : Cert.quiescent_Reference14Ideal := fun m ρ _ =>
  (θ_run _ _ _).mono (fun r h => ⟨fun c => (h c).2, sem_eq_zero_of_no_sems (by decide) r.2⟩) (Cert.Reference14Ideal.Value.run (F := Ideal) m ρ)

/-- The gradient of the attention's queries by the projection's input: kernel and reference leave the same results. -/
theorem value_Kernel14Ideal : Cert.algebraic_Kernel14Ideal_Reference14Ideal := by
  intro m g m' g' _ hagree
  refine ⟨_, Cert.Kernel14Ideal.Product.run m g, (θ_run _ _ _).mono (fun r h c => ⟨(h c).1.trans ?_, (h c).2⟩) (Cert.Reference14Ideal.Product.run m' g')⟩
  exact congrArg₂ (fun A B => Mat.scaled (Mat.rowRow A B)) (hagree c).1 (hagree c).2

/-- The gradient of the attention's queries by the projection's weight: the kernel over the words runs to its end, and leaves its arguments and its semaphores as they were. -/
theorem frame_Kernel15 : Cert.quiescent_Kernel15 := fun m ρ _ => Cert.Kernel15.Gen.frame m ρ

/-- The gradient of the attention's queries by the projection's weight: the same of the kernel over the extended reals. -/
theorem frame_Kernel15Ideal : Cert.quiescent_Kernel15Ideal := fun m ρ _ => Cert.Kernel15Ideal.Gen.frame m ρ

/-- The gradient of the attention's queries by the projection's weight: the same of the reference over the extended reals. -/
theorem frame_Reference15Ideal : Cert.quiescent_Reference15Ideal := fun m ρ _ =>
  (θ_run _ _ _).mono (fun r h => ⟨fun c => (h c).2, sem_eq_zero_of_no_sems (by decide) r.2⟩) (Cert.Reference15Ideal.Value.run (F := Ideal) m ρ)

/-- The gradient of the attention's queries by the projection's weight: kernel and reference leave the same results. -/
theorem value_Kernel15Ideal : Cert.algebraic_Kernel15Ideal_Reference15Ideal := by
  intro m g m' g' _ hagree
  refine ⟨_, Cert.Kernel15Ideal.Product.run m g, (θ_run _ _ _).mono (fun r h c => ⟨(h c).1.trans ?_, (h c).2⟩) (Cert.Reference15Ideal.Product.run m' g')⟩
  exact congrArg₂ (fun A B => Mat.scaled (Mat.colCol A B)) (hagree c).1 (hagree c).2

/-- The gradient of the attention's output projection by its input: the kernel over the words runs to its end, and leaves its arguments and its semaphores as they were. -/
theorem frame_Kernel16 : Cert.quiescent_Kernel16 := fun m ρ _ => Cert.Kernel16.Gen.frame m ρ

/-- The gradient of the attention's output projection by its input: the same of the kernel over the extended reals. -/
theorem frame_Kernel16Ideal : Cert.quiescent_Kernel16Ideal := fun m ρ _ => Cert.Kernel16Ideal.Gen.frame m ρ

/-- The gradient of the attention's output projection by its input: the same of the reference over the extended reals. -/
theorem frame_Reference16Ideal : Cert.quiescent_Reference16Ideal := fun m ρ _ =>
  (θ_run _ _ _).mono (fun r h => ⟨fun c => (h c).2, sem_eq_zero_of_no_sems (by decide) r.2⟩) (Cert.Reference16Ideal.Value.run (F := Ideal) m ρ)

/-- The gradient of the attention's output projection by its input: kernel and reference leave the same results. -/
theorem value_Kernel16Ideal : Cert.algebraic_Kernel16Ideal_Reference16Ideal := by
  intro m g m' g' _ hagree
  refine ⟨_, Cert.Kernel16Ideal.Product.run m g, (θ_run _ _ _).mono (fun r h c => ⟨(h c).1.trans ?_, (h c).2⟩) (Cert.Reference16Ideal.Product.run m' g')⟩
  exact congrArg₂ (Mat.rowRow) (hagree c).1 (hagree c).2

/-- The gradient of the attention's output projection by its weight: the kernel over the words runs to its end, and leaves its arguments and its semaphores as they were. -/
theorem frame_Kernel17 : Cert.quiescent_Kernel17 := fun m ρ _ => Cert.Kernel17.Gen.frame m ρ

/-- The gradient of the attention's output projection by its weight: the same of the kernel over the extended reals. -/
theorem frame_Kernel17Ideal : Cert.quiescent_Kernel17Ideal := fun m ρ _ => Cert.Kernel17Ideal.Gen.frame m ρ

/-- The gradient of the attention's output projection by its weight: the same of the reference over the extended reals. -/
theorem frame_Reference17Ideal : Cert.quiescent_Reference17Ideal := fun m ρ _ =>
  (θ_run _ _ _).mono (fun r h => ⟨fun c => (h c).2, sem_eq_zero_of_no_sems (by decide) r.2⟩) (Cert.Reference17Ideal.Value.run (F := Ideal) m ρ)

/-- The gradient of the attention's output projection by its weight: kernel and reference leave the same results. -/
theorem value_Kernel17Ideal : Cert.algebraic_Kernel17Ideal_Reference17Ideal := by
  intro m g m' g' _ hagree
  refine ⟨_, Cert.Kernel17Ideal.Product.run m g, (θ_run _ _ _).mono (fun r h c => ⟨(h c).1.trans ?_, (h c).2⟩) (Cert.Reference17Ideal.Product.run m' g')⟩
  exact congrArg₂ (Mat.colCol) (hagree c).1 (hagree c).2

/-- The attention's keys and values: the kernel over the words runs to its end, and leaves its arguments and its semaphores as they were. -/
theorem frame_Kernel18 : Cert.quiescent_Kernel18 := fun m ρ _ => Cert.Kernel18.Gen.frame m ρ

/-- The attention's keys and values: the same of the kernel over the extended reals. -/
theorem frame_Kernel18Ideal : Cert.quiescent_Kernel18Ideal := fun m ρ _ => Cert.Kernel18Ideal.Gen.frame m ρ

/-- The attention's keys and values: the same of the reference over the extended reals. -/
theorem frame_Reference18Ideal : Cert.quiescent_Reference18Ideal := fun m ρ _ =>
  (θ_run _ _ _).mono (fun r h => ⟨fun c => (h c).2, sem_eq_zero_of_no_sems (by decide) r.2⟩) (Cert.Reference18Ideal.Value.run (F := Ideal) m ρ)

/-- The attention's keys and values: kernel and reference leave the same results. -/
theorem value_Kernel18Ideal : Cert.algebraic_Kernel18Ideal_Reference18Ideal := by
  intro m g m' g' _ hagree
  refine ⟨_, Cert.Kernel18Ideal.Product.run m g, (θ_run _ _ _).mono (fun r h c => ⟨(h c).1.trans ?_, (h c).2⟩) (Cert.Reference18Ideal.Product.run m' g')⟩
  exact congrArg₂ (Mat.rowCol) (hagree c).1 (hagree c).2

/-- The gradient of the attention's keys and values by the projection's input: the kernel over the words runs to its end, and leaves its arguments and its semaphores as they were. -/
theorem frame_Kernel19 : Cert.quiescent_Kernel19 := fun m ρ _ => Cert.Kernel19.Gen.frame m ρ

/-- The gradient of the attention's keys and values by the projection's input: the same of the kernel over the extended reals. -/
theorem frame_Kernel19Ideal : Cert.quiescent_Kernel19Ideal := fun m ρ _ => Cert.Kernel19Ideal.Gen.frame m ρ

/-- The gradient of the attention's keys and values by the projection's input: the same of the reference over the extended reals. -/
theorem frame_Reference19Ideal : Cert.quiescent_Reference19Ideal := fun m ρ _ =>
  (θ_run _ _ _).mono (fun r h => ⟨fun c => (h c).2, sem_eq_zero_of_no_sems (by decide) r.2⟩) (Cert.Reference19Ideal.Value.run (F := Ideal) m ρ)

/-- The gradient of the attention's keys and values by the projection's input: kernel and reference leave the same results. -/
theorem value_Kernel19Ideal : Cert.algebraic_Kernel19Ideal_Reference19Ideal := by
  intro m g m' g' _ hagree
  refine ⟨_, Cert.Kernel19Ideal.Product.run m g, (θ_run _ _ _).mono (fun r h c => ⟨(h c).1.trans ?_, (h c).2⟩) (Cert.Reference19Ideal.Product.run m' g')⟩
  exact congrArg₂ (Mat.twoRowKv) (hagree c).1 (hagree c).2

/-- The gradient of the attention's keys and values by the projection's weight: the kernel over the words runs to its end, and leaves its arguments and its semaphores as they were. -/
theorem frame_Kernel20 : Cert.quiescent_Kernel20 := fun m ρ _ => Cert.Kernel20.Gen.frame m ρ

/-- The gradient of the attention's keys and values by the projection's weight: the same of the kernel over the extended reals. -/
theorem frame_Kernel20Ideal : Cert.quiescent_Kernel20Ideal := fun m ρ _ => Cert.Kernel20Ideal.Gen.frame m ρ

/-- The gradient of the attention's keys and values by the projection's weight: the same of the reference over the extended reals. -/
theorem frame_Reference20Ideal : Cert.quiescent_Reference20Ideal := fun m ρ _ =>
  (θ_run _ _ _).mono (fun r h => ⟨fun c => (h c).2, sem_eq_zero_of_no_sems (by decide) r.2⟩) (Cert.Reference20Ideal.Value.run (F := Ideal) m ρ)

/-- The gradient of the attention's keys and values by the projection's weight: kernel and reference leave the same results. -/
theorem value_Kernel20Ideal : Cert.algebraic_Kernel20Ideal_Reference20Ideal := by
  intro m g m' g' _ hagree
  refine ⟨_, Cert.Kernel20Ideal.Product.run m g, (θ_run _ _ _).mono (fun r h c => ⟨(h c).1.trans ?_, (h c).2⟩) (Cert.Reference20Ideal.Product.run m' g')⟩
  exact congrArg₂ (Mat.colTwoKv) (hagree c).1 (hagree c).2

/-- The gradient of the two norms around a residual: the kernel over the words runs to its end, and leaves its arguments and its semaphores as they were. -/
theorem frame_Kernel21 : Cert.quiescent_Kernel21 := fun m ρ _ => Cert.Kernel21.Gen.frame m ρ

/-- The gradient of the two norms around a residual: the same of the kernel over the extended reals. -/
theorem frame_Kernel21Ideal : Cert.quiescent_Kernel21Ideal := fun m ρ _ => Cert.Kernel21Ideal.Gen.frame m ρ

/-- The gradient of the two norms around a residual: the same of the reference over the extended reals. -/
theorem frame_Reference21Ideal : Cert.quiescent_Reference21Ideal := fun m ρ _ =>
  (θ_run _ _ _).mono (fun r h => ⟨fun c => (h c).2.2.2.2, sem_eq_zero_of_no_sems (by decide) r.2⟩) (Cert.Reference21Ideal.Value.run (F := Ideal) m ρ)

/-- The gradient of the two norms around a residual: kernel and reference leave the same results. -/
theorem value_Kernel21Ideal : Cert.algebraic_Kernel21Ideal_Reference21Ideal := by
  intro m g m' g' _ hagree
  refine ⟨_, _, _, _, Cert.Kernel21Ideal.NormValue.run m g,
    (θ_run _ _ _).mono (fun r h c => ⟨(h c).1.trans ?_, (h c).2.1.trans ?_, (h c).2.2.1.trans ?_, (h c).2.2.2.1.trans ?_, (h c).2.2.2.2⟩) (Cert.Reference21Ideal.NormRef.run m' g')⟩
  all_goals obtain ⟨h0, h1, h2, h3, h4, h5⟩ := hagree c
  · rw [h0, h1, h2, h3]
  · rw [h1, h3]
  · rw [h0, h1, h2, h3, h4, h5]
  · rw [h0, h1, h2, h3, h4]

/-- The gated convolution: the kernel over the words runs to its end, and leaves its arguments and its semaphores as they were. -/
theorem frame_Kernel22 : Cert.quiescent_Kernel22 := fun m ρ _ => Cert.Kernel22.Gen.frame m ρ

/-- The gated convolution: the same of the kernel over the extended reals. -/
theorem frame_Kernel22Ideal : Cert.quiescent_Kernel22Ideal := fun m ρ _ => Cert.Kernel22Ideal.Gen.frame m ρ

/-- The gated convolution: the same of the reference over the extended reals. -/
theorem frame_Reference22Ideal : Cert.quiescent_Reference22Ideal := fun m ρ _ =>
  (θ_run _ _ _).mono (fun r h => ⟨fun c => (h c).2, sem_eq_zero_of_no_sems (by decide) r.2⟩) (Cert.Reference22Ideal.Value.run (F := Ideal) m ρ)

/-- The gated convolution: kernel and reference leave the same results. -/
theorem value_Kernel22Ideal : Cert.algebraic_Kernel22Ideal_Reference22Ideal := by
  intro m g m' g' _ hagree
  refine ⟨_, Cert.Kernel22Ideal.ConvFwd.run m g, (θ_run _ _ _).mono (fun r h c => ⟨(h c).1.trans ?_, (h c).2⟩) (Cert.Reference22Ideal.ConvFwdRef.run m' g')⟩
  exact congrArg₂ Conv.fwd (hagree c).1 (hagree c).2

/-- The convolution layer's output projection with its norms: the kernel over the words runs to its end, and leaves its arguments and its semaphores as they were. -/
theorem frame_Kernel23 : Cert.quiescent_Kernel23 := fun m ρ _ => Cert.Kernel23.Gen.frame m ρ

/-- The convolution layer's output projection with its norms: the same of the kernel over the extended reals. -/
theorem frame_Kernel23Ideal : Cert.quiescent_Kernel23Ideal := fun m ρ _ => Cert.Kernel23Ideal.Gen.frame m ρ

/-- The convolution layer's output projection with its norms: the same of the reference over the extended reals. -/
theorem frame_Reference23Ideal : Cert.quiescent_Reference23Ideal := fun m ρ _ =>
  (θ_run _ _ _).mono (fun r h => ⟨fun c => (h c).2.2.2, sem_eq_zero_of_no_sems (by decide) r.2⟩) (Cert.Reference23Ideal.Value.run (F := Ideal) m ρ)

/-- The convolution layer's output projection with its norms: kernel and reference leave the same results. -/
theorem value_Kernel23Ideal : Cert.algebraic_Kernel23Ideal_Reference23Ideal := by
  intro m g m' g' _ hagree
  refine ⟨_, _, _, Cert.Kernel23Ideal.NormRes.run m g,
    (θ_run _ _ _).mono (fun r h c => ⟨(h c).1.trans ?_, (h c).2.1.trans ?_, (h c).2.2.1.trans ?_, (h c).2.2.2⟩) (Cert.Reference23Ideal.NormRes.run m' g')⟩
  all_goals obtain ⟨h0, h1, h2, h3, h4⟩ := hagree c
  · rw [h0, h1]
  · rw [h0, h1, h2, h3]
  · rw [h0, h1, h2, h3, h4]

/-- The attention layer's output projection with its norms: the kernel over the words runs to its end, and leaves its arguments and its semaphores as they were. -/
theorem frame_Kernel24 : Cert.quiescent_Kernel24 := fun m ρ _ => Cert.Kernel24.Gen.frame m ρ

/-- The attention layer's output projection with its norms: the same of the kernel over the extended reals. -/
theorem frame_Kernel24Ideal : Cert.quiescent_Kernel24Ideal := fun m ρ _ => Cert.Kernel24Ideal.Gen.frame m ρ

/-- The attention layer's output projection with its norms: the same of the reference over the extended reals. -/
theorem frame_Reference24Ideal : Cert.quiescent_Reference24Ideal := fun m ρ _ =>
  (θ_run _ _ _).mono (fun r h => ⟨fun c => (h c).2.2.2, sem_eq_zero_of_no_sems (by decide) r.2⟩) (Cert.Reference24Ideal.Value.run (F := Ideal) m ρ)

/-- The attention layer's output projection with its norms: kernel and reference leave the same results. -/
theorem value_Kernel24Ideal : Cert.algebraic_Kernel24Ideal_Reference24Ideal := by
  intro m g m' g' _ hagree
  refine ⟨_, _, _, Cert.Kernel24Ideal.NormRes.run m g,
    (θ_run _ _ _).mono (fun r h c => ⟨(h c).1.trans ?_, (h c).2.1.trans ?_, (h c).2.2.1.trans ?_, (h c).2.2.2⟩) (Cert.Reference24Ideal.NormRes.run m' g')⟩
  all_goals obtain ⟨h0, h1, h2, h3, h4⟩ := hagree c
  · rw [h0, h1]
  · rw [h0, h1, h2, h3]
  · rw [h0, h1, h2, h3, h4]

/-- The gradient of the attention: the same of the kernel over the extended reals. -/
theorem frame_Kernel25Ideal : Cert.quiescent_Kernel25Ideal := fun m ρ _ => Cert.Kernel25Ideal.Attn.frame (F := Ideal) m ρ

set_option maxRecDepth 65536 in
set_option maxHeartbeats 8000000 in
/-- The gradient of the attention: the kernel over the words runs to its end, and leaves its arguments and its semaphores as they were.
    Its text is the other's, and so is its run. -/
theorem frame_Kernel25 : Cert.quiescent_Kernel25 := fun m ρ _ => by
  rw [Cert.Kernel25Ideal.Attn.defs_eq, Cert.Kernel25Ideal.Attn.main_eq]
  exact Cert.Kernel25Ideal.Attn.frame (F := Bits) m ρ

/-- The gradient of a norm alone: the kernel over the words runs to its end, and leaves its arguments and its semaphores as they were. -/
theorem frame_Kernel26 : Cert.quiescent_Kernel26 := fun m ρ _ => Cert.Kernel26.Gen.frame m ρ

/-- The gradient of a norm alone: the same of the kernel over the extended reals. -/
theorem frame_Kernel26Ideal : Cert.quiescent_Kernel26Ideal := fun m ρ _ => Cert.Kernel26Ideal.Gen.frame m ρ

/-- The gradient of a norm alone: the same of the reference over the extended reals. -/
theorem frame_Reference26Ideal : Cert.quiescent_Reference26Ideal := fun m ρ _ =>
  (θ_run _ _ _).mono (fun r h => ⟨fun c => (h c).2.2, sem_eq_zero_of_no_sems (by decide) r.2⟩) (Cert.Reference26Ideal.Value.run (F := Ideal) m ρ)

/-- The gradient of a norm alone: kernel and reference leave the same results. -/
theorem value_Kernel26Ideal : Cert.algebraic_Kernel26Ideal_Reference26Ideal := by
  intro m g m' g' _ hagree
  refine ⟨_, _, Cert.Kernel26Ideal.NormLoss.run m g,
    (θ_run _ _ _).mono (fun r h c => ⟨(h c).1.trans ?_, (h c).2.1.trans ?_, (h c).2.2⟩) (Cert.Reference26Ideal.NormLoss.run m' g')⟩
  all_goals obtain ⟨h0, h1, h2⟩ := hagree c
  · rw [h0, h1, h2]
  · rw [h0, h1]

/-- The gradient of the first layer's norm: the kernel over the words runs to its end, and leaves its arguments and its semaphores as they were. -/
theorem frame_Kernel27 : Cert.quiescent_Kernel27 := fun m ρ _ => Cert.Kernel27.Gen.frame m ρ

/-- The gradient of the first layer's norm: the same of the kernel over the extended reals. -/
theorem frame_Kernel27Ideal : Cert.quiescent_Kernel27Ideal := fun m ρ _ => Cert.Kernel27Ideal.Gen.frame m ρ

/-- The gradient of the first layer's norm: the same of the reference over the extended reals. -/
theorem frame_Reference27Ideal : Cert.quiescent_Reference27Ideal := fun m ρ _ =>
  (θ_run _ _ _).mono (fun r h => ⟨fun c => (h c).2.2, sem_eq_zero_of_no_sems (by decide) r.2⟩) (Cert.Reference27Ideal.Value.run (F := Ideal) m ρ)

/-- The gradient of the first layer's norm: kernel and reference leave the same results. -/
theorem value_Kernel27Ideal : Cert.algebraic_Kernel27Ideal_Reference27Ideal := by
  intro m g m' g' _ hagree
  refine ⟨_, _, Cert.Kernel27Ideal.NormBack.run m g,
    (θ_run _ _ _).mono (fun r h c => ⟨(h c).1.trans ?_, (h c).2.1.trans ?_, (h c).2.2⟩) (Cert.Reference27Ideal.NormBack.run m' g')⟩
  all_goals obtain ⟨h0, h1, h2, h3⟩ := hagree c
  · rw [h0, h1, h2, h3]
  · rw [h1, h3]

/-- The gradient of one residual's two norms: the kernel over the words runs to its end, and leaves its arguments and its semaphores as they were. -/
theorem frame_Kernel28 : Cert.quiescent_Kernel28 := fun m ρ _ => Cert.Kernel28.Gen.frame m ρ

/-- The gradient of one residual's two norms: the same of the kernel over the extended reals. -/
theorem frame_Kernel28Ideal : Cert.quiescent_Kernel28Ideal := fun m ρ _ => Cert.Kernel28Ideal.Gen.frame m ρ

/-- The gradient of one residual's two norms: the same of the reference over the extended reals. -/
theorem frame_Reference28Ideal : Cert.quiescent_Reference28Ideal := fun m ρ _ =>
  (θ_run _ _ _).mono (fun r h => ⟨fun c => (h c).2.2.2, sem_eq_zero_of_no_sems (by decide) r.2⟩) (Cert.Reference28Ideal.Value.run (F := Ideal) m ρ)

/-- The gradient of one residual's two norms: kernel and reference leave the same results. -/
theorem value_Kernel28Ideal : Cert.algebraic_Kernel28Ideal_Reference28Ideal := by
  intro m g m' g' _ hagree
  refine ⟨_, _, _, Cert.Kernel28Ideal.NormBack2.run m g,
    (θ_run _ _ _).mono (fun r h c => ⟨(h c).1.trans ?_, (h c).2.1.trans ?_, (h c).2.2.1.trans ?_, (h c).2.2.2⟩) (Cert.Reference28Ideal.NormBack2.run m' g')⟩
  all_goals obtain ⟨h0, h1, h2, h3, h4, h5⟩ := hagree c
  · rw [h0, h1, h2, h3, h4, h5]
  · rw [h1, h5]
  · rw [h3, h5]

/-- The residual with a norm added, and its norm: the kernel over the words runs to its end, and leaves its arguments and its semaphores as they were. -/
theorem frame_Kernel29 : Cert.quiescent_Kernel29 := fun m ρ _ => Cert.Kernel29.Gen.frame m ρ

/-- The residual with a norm added, and its norm: the same of the kernel over the extended reals. -/
theorem frame_Kernel29Ideal : Cert.quiescent_Kernel29Ideal := fun m ρ _ => Cert.Kernel29Ideal.Gen.frame m ρ

/-- The residual with a norm added, and its norm: the same of the reference over the extended reals. -/
theorem frame_Reference29Ideal : Cert.quiescent_Reference29Ideal := fun m ρ _ =>
  (θ_run _ _ _).mono (fun r h => ⟨fun c => (h c).2.2, sem_eq_zero_of_no_sems (by decide) r.2⟩) (Cert.Reference29Ideal.Value.run (F := Ideal) m ρ)

/-- The residual with a norm added, and its norm: kernel and reference leave the same results. -/
theorem value_Kernel29Ideal : Cert.algebraic_Kernel29Ideal_Reference29Ideal := by
  intro m g m' g' _ hagree
  refine ⟨_, _, Cert.Kernel29Ideal.NormAdd.run m g,
    (θ_run _ _ _).mono (fun r h c => ⟨(h c).1.trans ?_, (h c).2.1.trans ?_, (h c).2.2⟩) (Cert.Reference29Ideal.NormFwd.run m' g')⟩
  all_goals obtain ⟨h0, h1, h2, h3⟩ := hagree c
  · rw [h0, h1, h2]
  · rw [h0, h1, h2, h3]

/-- The step's first norm: the kernel over the words runs to its end, and leaves its arguments and its semaphores as they were. -/
theorem frame_Kernel30 : Cert.quiescent_Kernel30 := fun m ρ _ => Cert.Kernel30.Gen.frame m ρ

/-- The step's first norm: the same of the kernel over the extended reals. -/
theorem frame_Kernel30Ideal : Cert.quiescent_Kernel30Ideal := fun m ρ _ => Cert.Kernel30Ideal.Gen.frame m ρ

/-- The step's first norm: the same of the reference over the extended reals. -/
theorem frame_Reference30Ideal : Cert.quiescent_Reference30Ideal := fun m ρ _ =>
  (θ_run _ _ _).mono (fun r h => ⟨fun c => (h c).2, sem_eq_zero_of_no_sems (by decide) r.2⟩) (Cert.Reference30Ideal.Value.run (F := Ideal) m ρ)

/-- The step's first norm: kernel and reference leave the same result. -/
theorem value_Kernel30Ideal : Cert.algebraic_Kernel30Ideal_Reference30Ideal := by
  intro m g m' g' _ hagree
  refine ⟨_, Cert.Kernel30Ideal.NormFirst.run m g,
    (θ_run _ _ _).mono (fun r h c => ⟨(h c).1.trans ?_, (h c).2⟩) (Cert.Reference30Ideal.NormFwd.run m' g')⟩
  obtain ⟨h0, h1⟩ := hagree c
  rw [h0, h1]

/-- One residual's two norms: the kernel over the words runs to its end, and leaves its arguments and its semaphores as they were. -/
theorem frame_Kernel31 : Cert.quiescent_Kernel31 := fun m ρ _ => Cert.Kernel31.Gen.frame m ρ

/-- One residual's two norms: the same of the kernel over the extended reals. -/
theorem frame_Kernel31Ideal : Cert.quiescent_Kernel31Ideal := fun m ρ _ => Cert.Kernel31Ideal.Gen.frame m ρ

/-- One residual's two norms: the same of the reference over the extended reals. -/
theorem frame_Reference31Ideal : Cert.quiescent_Reference31Ideal := fun m ρ _ =>
  (θ_run _ _ _).mono (fun r h => ⟨fun c => (h c).2.2, sem_eq_zero_of_no_sems (by decide) r.2⟩) (Cert.Reference31Ideal.Value.run (F := Ideal) m ρ)

/-- One residual's two norms: kernel and reference leave the same results. -/
theorem value_Kernel31Ideal : Cert.algebraic_Kernel31Ideal_Reference31Ideal := by
  intro m g m' g' _ hagree
  refine ⟨_, _, Cert.Kernel31Ideal.NormTwo.run m g,
    (θ_run _ _ _).mono (fun r h c => ⟨(h c).1.trans ?_, (h c).2.1.trans ?_, (h c).2.2⟩) (Cert.Reference31Ideal.NormFwd.run m' g')⟩
  all_goals obtain ⟨h0, h1, h2⟩ := hagree c
  · rw [h0, h1]
  · rw [h0, h2]

/-- The residual with a norm added: the kernel over the words runs to its end, and leaves its arguments and its semaphores as they were. -/
theorem frame_Kernel32 : Cert.quiescent_Kernel32 := fun m ρ _ => Cert.Kernel32.Gen.frame m ρ

/-- The residual with a norm added: the same of the kernel over the extended reals. -/
theorem frame_Kernel32Ideal : Cert.quiescent_Kernel32Ideal := fun m ρ _ => Cert.Kernel32Ideal.Gen.frame m ρ

/-- The residual with a norm added: the same of the reference over the extended reals. -/
theorem frame_Reference32Ideal : Cert.quiescent_Reference32Ideal := fun m ρ _ =>
  (θ_run _ _ _).mono (fun r h => ⟨fun c => (h c).2, sem_eq_zero_of_no_sems (by decide) r.2⟩) (Cert.Reference32Ideal.Value.run (F := Ideal) m ρ)

/-- The residual with a norm added: kernel and reference leave the same result. -/
theorem value_Kernel32Ideal : Cert.algebraic_Kernel32Ideal_Reference32Ideal := by
  intro m g m' g' _ hagree
  refine ⟨_, Cert.Kernel32Ideal.NormAdd1.run m g,
    (θ_run _ _ _).mono (fun r h c => ⟨(h c).1.trans ?_, (h c).2⟩) (Cert.Reference32Ideal.NormFwd.run m' g')⟩
  obtain ⟨h0, h1, h2⟩ := hagree c
  rw [h0, h1, h2]

/-- The loss and its gradient: the kernel over the words runs to its end, and leaves its arguments and its semaphores as they were. -/
theorem frame_Kernel33 : Cert.quiescent_Kernel33 := fun m ρ _ => Cert.Kernel33.Gen.frame m ρ

/-- The loss and its gradient: the same of the kernel over the extended reals. -/
theorem frame_Kernel33Ideal : Cert.quiescent_Kernel33Ideal := fun m ρ _ => Cert.Kernel33Ideal.Gen.frame m ρ

/-- The loss and its gradient: the same of the reference over the extended reals. -/
theorem frame_Reference33Ideal : Cert.quiescent_Reference33Ideal := fun m ρ _ =>
  (θ_run _ _ _).mono (fun r h => ⟨fun c => (h c).2.2, sem_eq_zero_of_no_sems (by decide) r.2⟩) (Cert.Reference33Ideal.Value.run (F := Ideal) m ρ)

/-- The loss and its gradient: kernel and reference leave the same results. -/
theorem value_Kernel33Ideal : Cert.algebraic_Kernel33Ideal_Reference33Ideal := by
  intro m g m' g' _ hagree
  refine ⟨_, _, Cert.Kernel33Ideal.LossEnd.run m g,
    (θ_run _ _ _).mono (fun r h c => ⟨(h c).1.trans ?_, (h c).2.1.trans ?_, (h c).2.2⟩) (Cert.Reference33Ideal.LossEnd.run m' g')⟩
  all_goals obtain ⟨h0, h1, h2, h3⟩ := hagree c
  · rw [h0, h1, h2, h3]
  · rw [h0, h1, h2, h3]
    rfl

/-- The optimiser's step: the kernel over the words runs to its end, and leaves its arguments and its semaphores as they were. -/
theorem frame_Kernel34 : Cert.quiescent_Kernel34 := fun m ρ _ => Cert.Kernel34.Gen.frame m ρ

/-- The optimiser's step: the same of the kernel over the extended reals. -/
theorem frame_Kernel34Ideal : Cert.quiescent_Kernel34Ideal := fun m ρ _ => Cert.Kernel34Ideal.Gen.frame m ρ

/-- The optimiser's step: the same of the reference over the extended reals. -/
theorem frame_Reference34Ideal : Cert.quiescent_Reference34Ideal := fun m ρ _ =>
  (θ_run _ _ _).mono (fun r h => ⟨fun c => (h c).2.2.2.2, sem_eq_zero_of_no_sems (by decide) r.2⟩) (Cert.Reference34Ideal.Value.run (F := Ideal) m ρ)

/-- The optimiser's step: kernel and reference leave the same results. -/
theorem value_Kernel34Ideal : Cert.algebraic_Kernel34Ideal_Reference34Ideal := by
  intro m g m' g' _ hagree
  refine ⟨_, _, _, _, Cert.Kernel34Ideal.Adam.run m g,
    (θ_run _ _ _).mono (fun r h c => ⟨(h c).1.trans ?_, (h c).2.1.trans ?_, (h c).2.2.1.trans ?_, (h c).2.2.2.1.trans ?_, (h c).2.2.2.2⟩) (Cert.Reference34Ideal.Adam.run m' g')⟩
  all_goals obtain ⟨h0, h1, h2, h3⟩ := hagree c
  · exact h3
  · rw [h0, h1, h2, h3]
    rfl
  · rw [h1, h3]
    rfl
  · rw [h2, h3]
    rfl

/-- The reordering of the rows: the kernel over the words runs to its end, and leaves its argument and its semaphores as they were. -/
theorem frame_Kernel35 : Cert.quiescent_Kernel35 := fun m ρ _ => Cert.Kernel35.Gen.frame m ρ

/-- The reordering of the rows: the same of the kernel over the extended reals. -/
theorem frame_Kernel35Ideal : Cert.quiescent_Kernel35Ideal := fun m ρ _ => Cert.Kernel35Ideal.Gen.frame m ρ

/-- The reordering of the rows: the same of the reference over the extended reals. -/
theorem frame_Reference35Ideal : Cert.quiescent_Reference35Ideal := fun m ρ _ =>
  (θ_run _ _ _).mono (fun r h => ⟨fun c => (h c).2, sem_eq_zero_of_no_sems (by decide) r.2⟩) (Cert.Reference35Ideal.Value.run (F := Ideal) m ρ)

/-- The reordering of the rows: kernel and reference leave the same result. -/
theorem value_Kernel35Ideal : Cert.algebraic_Kernel35Ideal_Reference35Ideal := by
  intro m g m' g' _ hagree
  refine ⟨_, Cert.Kernel35Ideal.Move.run m g,
    (θ_run _ _ _).mono (fun r h c => ⟨(h c).1.trans ?_, (h c).2⟩) (Cert.Reference35Ideal.Move.run m' g')⟩
  rw [hagree c]

/-- The reordering backwards: the kernel over the words runs to its end, and leaves its argument and its semaphores as they were. -/
theorem frame_Kernel36 : Cert.quiescent_Kernel36 := fun m ρ _ => Cert.Kernel36.Gen.frame m ρ

/-- The reordering backwards: the same of the kernel over the extended reals. -/
theorem frame_Kernel36Ideal : Cert.quiescent_Kernel36Ideal := fun m ρ _ => Cert.Kernel36Ideal.Gen.frame m ρ

/-- The reordering backwards: the same of the reference over the extended reals. -/
theorem frame_Reference36Ideal : Cert.quiescent_Reference36Ideal := fun m ρ _ =>
  (θ_run _ _ _).mono (fun r h => ⟨fun c => (h c).2, sem_eq_zero_of_no_sems (by decide) r.2⟩) (Cert.Reference36Ideal.Value.run (F := Ideal) m ρ)

/-- The reordering backwards: kernel and reference leave the same result. -/
theorem value_Kernel36Ideal : Cert.algebraic_Kernel36Ideal_Reference36Ideal := by
  intro m g m' g' _ hagree
  refine ⟨_, Cert.Kernel36Ideal.Move.run m g,
    (θ_run _ _ _).mono (fun r h c => ⟨(h c).1.trans ?_, (h c).2⟩) (Cert.Reference36Ideal.Move.run m' g')⟩
  rw [hagree c]

/-- The optimiser's call on the shared keys' and values' matrix: the kernel over the words runs to its end, and leaves its arguments and its semaphores as they were. -/
theorem frame_Kernel37 : Cert.quiescent_Kernel37 := fun m ρ _ => Cert.Kernel37.Pair.frame_run m ρ

/-- The same of the kernel over the extended reals. -/
theorem frame_Kernel37Ideal : Cert.quiescent_Kernel37Ideal := fun m ρ _ => Cert.Kernel37Ideal.Pair.frame_run m ρ

/-- The same of the reference over the extended reals. -/
theorem frame_Reference37Ideal : Cert.quiescent_Reference37Ideal := fun m ρ _ =>
  (θ_run _ _ _).mono (fun r h => ⟨fun c => (h c).2.2.2.2, sem_eq_zero_of_no_sems (by decide) r.2⟩) (Cert.Reference37Ideal.Value.run (F := Ideal) m ρ)

/-- Kernel and reference leave the same gradient, step and moments. -/
theorem value_Kernel37Ideal : Cert.algebraic_Kernel37Ideal_Reference37Ideal := by
  intro m g m' g' _ hagree
  refine ⟨_, _, _, _, Cert.Kernel37Ideal.Pair.run m g,
    (θ_run _ _ _).mono (fun r h c => ?_) (Cert.Reference37Ideal.Pair.run m' g')⟩
  obtain ⟨h0, h1, h2, h3, h4, h5⟩ := hagree c
  have hs : Cert.Reference37Ideal.Pair.sum m' c = Cert.Kernel37Ideal.Pair.sum m c := by
    unfold Cert.Reference37Ideal.Pair.sum Cert.Kernel37Ideal.Pair.sum
    rw [h3, h4, h5]
  refine ⟨(h c).1.trans hs, (h c).2.1.trans ?_, (h c).2.2.1.trans ?_, (h c).2.2.2.1.trans ?_, (h c).2.2.2.2⟩
  · rw [hs, h0, h1, h2]
  · rw [hs, h1]
  · rw [hs, h2]

/-- The optimiser's call on a matrix of both layers: the kernel over the words runs to its end, and leaves its arguments and its semaphores as they were. -/
theorem frame_Kernel38 : Cert.quiescent_Kernel38 := fun m ρ _ => Cert.Kernel38.Pair.frame_eq m ρ _ (Cert.Kernel38Ideal.Pair.frame_run m ρ)

/-- The same of the kernel over the extended reals. -/
theorem frame_Kernel38Ideal : Cert.quiescent_Kernel38Ideal := fun m ρ _ => Cert.Kernel38Ideal.Pair.frame_run m ρ

/-- The same of the reference over the extended reals. -/
theorem frame_Reference38Ideal : Cert.quiescent_Reference38Ideal := fun m ρ _ =>
  (θ_run _ _ _).mono (fun r h => ⟨fun c => (h c).2.2.2.2, sem_eq_zero_of_no_sems (by decide) r.2⟩) (Cert.Reference38Ideal.Value.run (F := Ideal) m ρ)

/-- Kernel and reference leave the same gradient, step and moments. -/
theorem value_Kernel38Ideal : Cert.algebraic_Kernel38Ideal_Reference38Ideal := by
  intro m g m' g' _ hagree
  refine ⟨_, _, _, _, Cert.Kernel38Ideal.Pair.run m g,
    (θ_run _ _ _).mono (fun r h c => ?_) (Cert.Reference38Ideal.Pair.run m' g')⟩
  obtain ⟨h0, h1, h2, h3, h4, h5, h6, h7, h8⟩ := hagree c
  have hs : Cert.Reference38Ideal.Pair.sum m' c = Cert.Kernel38Ideal.Pair.sum m c := by
    unfold Cert.Reference38Ideal.Pair.sum Cert.Kernel38Ideal.Pair.sum
    rw [h3, h4, h5, h6, h7, h8]
  refine ⟨(h c).1.trans hs, (h c).2.1.trans ?_, (h c).2.2.1.trans ?_, (h c).2.2.2.1.trans ?_, (h c).2.2.2.2⟩
  · rw [hs, h0, h1, h2]
  · rw [hs, h1]
  · rw [hs, h2]

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts, Cert.Reference12Ideal.Gen.facts,
  Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts,
  Cert.Kernel17.Gen.facts, Cert.Kernel17Ideal.Gen.facts, Cert.Reference17Ideal.Gen.facts, Cert.Kernel18.Gen.facts,
  Cert.Kernel18Ideal.Gen.facts, Cert.Reference18Ideal.Gen.facts, Cert.Kernel19.Gen.facts, Cert.Kernel19Ideal.Gen.facts,
  Cert.Reference19Ideal.Gen.facts, Cert.Kernel20.Gen.facts, Cert.Kernel20Ideal.Gen.facts, Cert.Reference20Ideal.Gen.facts,
  Cert.Kernel21.Gen.facts, Cert.Kernel21Ideal.Gen.facts, Cert.Reference21Ideal.Gen.facts, Cert.Kernel22.Gen.facts,
  Cert.Kernel22Ideal.Gen.facts, Cert.Reference22Ideal.Gen.facts, Cert.Kernel23.Gen.facts, Cert.Kernel23Ideal.Gen.facts,
  Cert.Reference23Ideal.Gen.facts, Cert.Kernel24.Gen.facts, Cert.Kernel24Ideal.Gen.facts, Cert.Reference24Ideal.Gen.facts,
  Cert.Kernel25.Gen.facts, Cert.Kernel25Ideal.Gen.facts,
  Cert.Kernel26.Gen.facts, Cert.Kernel26Ideal.Gen.facts, Cert.Reference26Ideal.Gen.facts, Cert.Kernel27.Gen.facts,
  Cert.Kernel27Ideal.Gen.facts, Cert.Reference27Ideal.Gen.facts, Cert.Kernel28.Gen.facts, Cert.Kernel28Ideal.Gen.facts,
  Cert.Reference28Ideal.Gen.facts, Cert.Kernel29.Gen.facts, Cert.Kernel29Ideal.Gen.facts, Cert.Reference29Ideal.Gen.facts,
  Cert.Kernel30.Gen.facts, Cert.Kernel30Ideal.Gen.facts, Cert.Reference30Ideal.Gen.facts, Cert.Kernel31.Gen.facts,
  Cert.Kernel31Ideal.Gen.facts, Cert.Reference31Ideal.Gen.facts, Cert.Kernel32.Gen.facts, Cert.Kernel32Ideal.Gen.facts,
  Cert.Reference32Ideal.Gen.facts,
  Cert.Kernel33.Gen.facts, Cert.Kernel33Ideal.Gen.facts, Cert.Reference33Ideal.Gen.facts, Cert.Kernel34.Gen.facts,
  Cert.Kernel34Ideal.Gen.facts, Cert.Reference34Ideal.Gen.facts,
  Cert.Kernel35.Gen.facts, Cert.Kernel35Ideal.Gen.facts, Cert.Reference35Ideal.Gen.facts, Cert.Kernel36.Gen.facts,
  Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Pre_finite12.Gen.facts, frame_Kernel, frame_KernelIdeal, frame_ReferenceIdeal,
  frame_Kernel2, frame_Kernel2Ideal, frame_Reference2Ideal, frame_Kernel3,
  frame_Kernel3Ideal, frame_Reference3Ideal, frame_Kernel4, frame_Kernel4Ideal,
  frame_Reference4Ideal, frame_Kernel5, frame_Kernel5Ideal, frame_Reference5Ideal,
  frame_Kernel6, frame_Kernel6Ideal, frame_Reference6Ideal, frame_Kernel7,
  frame_Kernel7Ideal, frame_Reference7Ideal, frame_Kernel8, frame_Kernel8Ideal,
  frame_Reference8Ideal, frame_Kernel9, frame_Kernel9Ideal, frame_Reference9Ideal,
  frame_Kernel10, frame_Kernel10Ideal, frame_Reference10Ideal, frame_Kernel11,
  frame_Kernel11Ideal, frame_Reference11Ideal, frame_Kernel12, frame_Kernel12Ideal,
  fun m ρ _ => frame_Kernel12Ideal m ρ trivial, frame_Reference12Ideal, fun m ρ _ => frame_Reference12Ideal m ρ trivial, frame_Kernel13,
  frame_Kernel13Ideal, frame_Reference13Ideal, frame_Kernel14, frame_Kernel14Ideal,
  frame_Reference14Ideal, frame_Kernel15, frame_Kernel15Ideal, frame_Reference15Ideal,
  frame_Kernel16, frame_Kernel16Ideal, frame_Reference16Ideal, frame_Kernel17,
  frame_Kernel17Ideal, frame_Reference17Ideal, frame_Kernel18, frame_Kernel18Ideal,
  frame_Reference18Ideal, frame_Kernel19, frame_Kernel19Ideal, frame_Reference19Ideal,
  frame_Kernel20, frame_Kernel20Ideal, frame_Reference20Ideal, frame_Kernel21,
  frame_Kernel21Ideal, frame_Reference21Ideal, frame_Kernel22, frame_Kernel22Ideal,
  frame_Reference22Ideal, frame_Kernel23, frame_Kernel23Ideal, frame_Reference23Ideal,
  frame_Kernel24, frame_Kernel24Ideal, frame_Reference24Ideal, frame_Kernel25, frame_Kernel25Ideal,
  frame_Kernel26, frame_Kernel26Ideal, frame_Reference26Ideal, frame_Kernel27, frame_Kernel27Ideal, frame_Reference27Ideal,
  frame_Kernel28, frame_Kernel28Ideal, frame_Reference28Ideal, frame_Kernel29, frame_Kernel29Ideal, frame_Reference29Ideal,
  frame_Kernel30, frame_Kernel30Ideal, frame_Reference30Ideal, frame_Kernel31, frame_Kernel31Ideal, frame_Reference31Ideal,
  frame_Kernel32, frame_Kernel32Ideal, frame_Reference32Ideal,
  frame_Kernel33, frame_Kernel33Ideal, frame_Reference33Ideal, frame_Kernel34, frame_Kernel34Ideal, frame_Reference34Ideal,
  frame_Kernel35, frame_Kernel35Ideal, frame_Reference35Ideal, frame_Kernel36, frame_Kernel36Ideal, frame_Reference36Ideal,
  frame_Kernel37, frame_Kernel37Ideal, frame_Reference37Ideal,
  frame_Kernel38, frame_Kernel38Ideal, frame_Reference38Ideal,
  trivial,
  value_KernelIdeal, trivial, value_Kernel2Ideal, trivial,
  value_Kernel3Ideal, trivial, value_Kernel4Ideal, trivial,
  value_Kernel5Ideal, trivial, value_Kernel6Ideal, trivial,
  value_Kernel7Ideal, trivial, value_Kernel8Ideal, trivial,
  value_Kernel9Ideal, trivial, value_Kernel10Ideal, trivial,
  value_Kernel11Ideal, trivial, value_Kernel12Ideal, trivial,
  value_Kernel13Ideal, trivial, value_Kernel14Ideal, trivial,
  value_Kernel15Ideal, trivial, value_Kernel16Ideal, trivial,
  value_Kernel17Ideal, trivial, value_Kernel18Ideal, trivial,
  value_Kernel19Ideal, trivial, value_Kernel20Ideal, trivial,
  value_Kernel21Ideal, trivial, value_Kernel22Ideal, trivial,
  value_Kernel23Ideal, trivial, value_Kernel24Ideal, trivial,
  trivial, value_Kernel26Ideal, trivial, value_Kernel27Ideal, trivial, value_Kernel28Ideal, trivial, value_Kernel29Ideal,
  trivial, value_Kernel30Ideal, trivial, value_Kernel31Ideal, trivial, value_Kernel32Ideal,
  trivial, value_Kernel33Ideal, trivial, value_Kernel34Ideal,
  trivial, value_Kernel35Ideal, trivial, value_Kernel36Ideal,
  trivial, value_Kernel37Ideal,
  trivial, value_Kernel38Ideal⟩

end Cert.Proof

end
